-- ==== Defs.lean ====
def Pre_Kernel [hPre_slots_distinct : Cert.Pre_slots_distinct.Facts] (m : (ℓ : Loc Cert.Kernel.nD Cert.Kernel.τ Cert.Kernel.sig) → Buf (Elt Bits) ℓ) : Prop :=
  ∀ c : Dev Cert.Kernel.nD,
    (Cert.Pre_slots_distinct.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_slots_distinct : Cert.Pre_slots_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_slots_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_distinct [hPre_slots_distinct : Cert.Pre_slots_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_slots_distinct : Cert.Pre_slots_distinct.Facts] (m : (ℓ : Loc Cert.Reference.nD Cert.Reference.τ Cert.Reference.sig) → Buf (Elt Bits) ℓ) : Prop :=
  ∀ c : Dev Cert.Reference.nD,
    (Cert.Pre_slots_distinct.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts_named : Cert.Pre_experts_named.Facts] (m : (ℓ : Loc Cert.Kernel4.nD Cert.Kernel4.τ Cert.Kernel4.sig) → Buf (Elt Bits) ℓ) : Prop :=
  ∀ c : Dev Cert.Kernel4.nD,
    (Cert.Pre_experts_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_experts_named : Cert.Pre_experts_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts_named [hPre_experts_named : Cert.Pre_experts_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 [hPre_rows_named : Cert.Pre_rows_named.Facts] (m : (ℓ : Loc Cert.Kernel5.nD Cert.Kernel5.τ Cert.Kernel5.sig) → Buf (Elt Bits) ℓ) : Prop :=
  ∀ c : Dev Cert.Kernel5.nD,
    (Cert.Pre_rows_named.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))) = (fun _ => 1#1)

def Pre_Kernel5Ideal [hPre_rows_named : Cert.Pre_rows_named.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_rows_named.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_rows_named [hPre_rows_named : Cert.Pre_rows_named.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_rows_named.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 [hPre_sample_rows_named : Cert.Pre_sample_rows_named.Facts] (m : (ℓ : Loc Cert.Kernel6.nD Cert.Kernel6.τ Cert.Kernel6.sig) → Buf (Elt Bits) ℓ) : Prop :=
  ∀ c : Dev Cert.Kernel6.nD,
    (Cert.Pre_sample_rows_named.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6))) = (fun _ => 1#1)

def Pre_Kernel6Ideal [hPre_sample_rows_named : Cert.Pre_sample_rows_named.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_sample_rows_named.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_sample_rows_named [hPre_sample_rows_named : Cert.Pre_sample_rows_named.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_sample_rows_named.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_slots_distinct : Cert.Pre_slots_distinct.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_slots_distinct : Cert.Pre_slots_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_slots_distinct [hReferenceIdeal : Cert.ReferenceIdeal.Facts] [hPre_slots_distinct : Cert.Pre_slots_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_slots_distinct : Cert.Pre_slots_distinct.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] [hPre_experts_named : Cert.Pre_experts_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_experts_named [hReference4Ideal : Cert.Reference4Ideal.Facts] [hPre_experts_named : Cert.Pre_experts_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts_named m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] [hPre_rows_named : Cert.Pre_rows_named.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_rows_named : Cert.Pre_rows_named.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_rows_named [hReference5Ideal : Cert.Reference5Ideal.Facts] [hPre_rows_named : Cert.Pre_rows_named.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_rows_named m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] [hPre_sample_rows_named : Cert.Pre_sample_rows_named.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] [hPre_sample_rows_named : Cert.Pre_sample_rows_named.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_sample_rows_named [hReference6Ideal : Cert.Reference6Ideal.Facts] [hPre_sample_rows_named : Cert.Pre_sample_rows_named.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_sample_rows_named m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_distinct : Cert.Pre_slots_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_slots_distinct : Cert.Pre_slots_distinct.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v30) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v11)) (v1 : (c : Dev Cert.Kernel2Ideal.nD) → Buf (Elt Ideal) ((c.tc : Thread Cert.Kernel2Ideal.nD Cert.Kernel2Ideal.τ).loc Cert.Kernel2Ideal.main_v12)) (v2 : (c : Dev Cert.Kernel2Ideal.nD) → Buf (Elt Ideal) ((c.tc : Thread Cert.Kernel2Ideal.nD Cert.Kernel2Ideal.τ).loc Cert.Kernel2Ideal.main_v13)) (v3 : (c : Dev Cert.Kernel2Ideal.nD) → Buf (Elt Ideal) ((c.tc : Thread Cert.Kernel2Ideal.nD Cert.Kernel2Ideal.τ).loc Cert.Kernel2Ideal.main_v10_3)) (v4 : (c : Dev Cert.Kernel2Ideal.nD) → Buf (Elt Ideal) ((c.tc : Thread Cert.Kernel2Ideal.nD Cert.Kernel2Ideal.τ).loc Cert.Kernel2Ideal.main_v10_4)) (v5 : (c : Dev Cert.Kernel2Ideal.nD) → Buf (Elt Ideal) ((c.tc : Thread Cert.Kernel2Ideal.nD Cert.Kernel2Ideal.τ).loc Cert.Kernel2Ideal.main_v10_5)) (v6 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_v12) = v1 c
          ∧ r.2.mem ((c.tc : Thread Cert.Kernel2Ideal.nD Cert.Kernel2Ideal.τ).loc Cert.Kernel2Ideal.main_v13) = v2 c
          ∧ r.2.mem ((c.tc : Thread Cert.Kernel2Ideal.nD Cert.Kernel2Ideal.τ).loc Cert.Kernel2Ideal.main_v10_3) = v3 c
          ∧ r.2.mem ((c.tc : Thread Cert.Kernel2Ideal.nD Cert.Kernel2Ideal.τ).loc Cert.Kernel2Ideal.main_v10_4) = v4 c
          ∧ r.2.mem ((c.tc : Thread Cert.Kernel2Ideal.nD Cert.Kernel2Ideal.τ).loc Cert.Kernel2Ideal.main_v10_5) = v5 c
          ∧ r.2.mem ((c.tc : Thread Cert.Kernel2Ideal.nD Cert.Kernel2Ideal.τ).loc Cert.Kernel2Ideal.main_v14) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_v47) = v3 c
          ∧ r.2.mem ((c.tc : Thread Cert.Reference2Ideal.nD Cert.Reference2Ideal.τ).loc Cert.Reference2Ideal.main_v49) = v4 c
          ∧ r.2.mem ((c.tc : Thread Cert.Reference2Ideal.nD Cert.Reference2Ideal.τ).loc Cert.Reference2Ideal.main_v51) = v5 c
          ∧ r.2.mem ((c.tc : Thread Cert.Reference2Ideal.nD Cert.Reference2Ideal.τ).loc Cert.Reference2Ideal.main_v53) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v46)) (v1 : (c : Dev Cert.Kernel3Ideal.nD) → Buf (Elt Ideal) ((c.tc : Thread Cert.Kernel3Ideal.nD Cert.Kernel3Ideal.τ).loc Cert.Kernel3Ideal.main_v47)) (v2 : (c : Dev Cert.Kernel3Ideal.nD) → Buf (Elt Ideal) ((c.tc : Thread Cert.Kernel3Ideal.nD Cert.Kernel3Ideal.τ).loc Cert.Kernel3Ideal.main_v45)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v46) = v0 c
          ∧ r.2.mem ((c.tc : Thread Cert.Kernel3Ideal.nD Cert.Kernel3Ideal.τ).loc Cert.Kernel3Ideal.main_v47) = v1 c
          ∧ r.2.mem ((c.tc : Thread Cert.Kernel3Ideal.nD Cert.Kernel3Ideal.τ).loc Cert.Kernel3Ideal.main_v45) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v49) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] [hPre_rows_named : Cert.Pre_rows_named.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] [hPre_sample_rows_named : Cert.Pre_sample_rows_named.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)) →
    ∃ (v0 : (c : Dev Cert.Kernel7Ideal.nD) → Buf (Elt Ideal) ((c.tc : Thread Cert.Kernel7Ideal.nD Cert.Kernel7Ideal.τ).loc Cert.Kernel7Ideal.main_v21_0)) (v1 : (c : Dev Cert.Kernel7Ideal.nD) → Buf (Elt Ideal) ((c.tc : Thread Cert.Kernel7Ideal.nD Cert.Kernel7Ideal.τ).loc Cert.Kernel7Ideal.main_v21_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21_0) = v0 c
          ∧ r.2.mem ((c.tc : Thread Cert.Kernel7Ideal.nD Cert.Kernel7Ideal.τ).loc Cert.Kernel7Ideal.main_v21_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_v66) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_slots_distinct : Cert.Pre_slots_distinct.Facts) (hPre_experts_named : Cert.Pre_experts_named.Facts) (hPre_rows_named : Cert.Pre_rows_named.Facts) (hPre_sample_rows_named : Cert.Pre_sample_rows_named.Facts),
    quiescent_Kernel (hKernel := hKernel) (hPre_slots_distinct := hPre_slots_distinct)
    ∧ quiescent_KernelIdeal (hKernelIdeal := hKernelIdeal) (hPre_slots_distinct := hPre_slots_distinct)
    ∧ quiescent_ReferenceIdeal (hReferenceIdeal := hReferenceIdeal)
    ∧ quiescent_ReferenceIdeal_pre_slots_distinct (hReferenceIdeal := hReferenceIdeal) (hPre_slots_distinct := hPre_slots_distinct)
    ∧ quiescent_Reference (hReference := hReference) (hPre_slots_distinct := hPre_slots_distinct)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts_named := hPre_experts_named)
    ∧ quiescent_Kernel4Ideal (hKernel4Ideal := hKernel4Ideal) (hPre_experts_named := hPre_experts_named)
    ∧ quiescent_Reference4Ideal (hReference4Ideal := hReference4Ideal)
    ∧ quiescent_Reference4Ideal_pre_experts_named (hReference4Ideal := hReference4Ideal) (hPre_experts_named := hPre_experts_named)
    ∧ quiescent_Kernel5 (hKernel5 := hKernel5) (hPre_rows_named := hPre_rows_named)
    ∧ quiescent_Kernel5Ideal (hKernel5Ideal := hKernel5Ideal) (hPre_rows_named := hPre_rows_named)
    ∧ quiescent_Reference5Ideal (hReference5Ideal := hReference5Ideal)
    ∧ quiescent_Reference5Ideal_pre_rows_named (hReference5Ideal := hReference5Ideal) (hPre_rows_named := hPre_rows_named)
    ∧ quiescent_Kernel6 (hKernel6 := hKernel6) (hPre_sample_rows_named := hPre_sample_rows_named)
    ∧ quiescent_Kernel6Ideal (hKernel6Ideal := hKernel6Ideal) (hPre_sample_rows_named := hPre_sample_rows_named)
    ∧ quiescent_Reference6Ideal (hReference6Ideal := hReference6Ideal)
    ∧ quiescent_Reference6Ideal_pre_sample_rows_named (hReference6Ideal := hReference6Ideal) (hPre_sample_rows_named := hPre_sample_rows_named)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_slots_distinct := hPre_slots_distinct)
    ∧ bitexact_Kernel_Reference (hKernel := hKernel) (hReference := hReference) (hPre_slots_distinct := hPre_slots_distinct)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts_named := hPre_experts_named)
    ∧ preserves_Kernel5_Kernel5Ideal
    ∧ algebraic_Kernel5Ideal_Reference5Ideal (hKernel5Ideal := hKernel5Ideal) (hReference5Ideal := hReference5Ideal) (hPre_rows_named := hPre_rows_named)
    ∧ preserves_Kernel6_Kernel6Ideal
    ∧ algebraic_Kernel6Ideal_Reference6Ideal (hKernel6Ideal := hKernel6Ideal) (hReference6Ideal := hReference6Ideal) (hPre_sample_rows_named := hPre_sample_rows_named)
    ∧ preserves_Kernel7_Kernel7Ideal
    ∧ algebraic_Kernel7Ideal_Reference7Ideal (hKernel7Ideal := hKernel7Ideal) (hReference7Ideal := hReference7Ideal)
-- ==== Pre_experts_named.lean ====
abbrev S73728x1024 : Shape := ⟨2, ![73728, 1024]⟩
abbrev S288 : Shape := ⟨1, ![288]⟩
abbrev S1 : Shape := ⟨1, ![1]⟩
abbrev S32x1024x512 : Shape := ⟨3, ![32, 1024, 512]⟩
abbrev S32x512x1024 : Shape := ⟨3, ![32, 512, 1024]⟩
abbrev S_ : Shape := ⟨0, ![]⟩
abbrev S288x1x1 : Shape := ⟨3, ![288, 1, 1]⟩
abbrev S288x256x1024 : Shape := ⟨3, ![288, 256, 1024]⟩

class Facts : Prop where
  bcast_S_S288 : S_.BroadcastsInDim S288 (![] : Fin 0 → Fin S288.rank)
  bcast_S1_S288_0 : S1.BroadcastsInDim S288 (![0] : Fin 1 → Fin S288.rank)
  bcast_S288_S288x1x1_0 : S288.BroadcastsInDim S288x1x1 (![0] : Fin 1 → Fin S288x1x1.rank)
  shapeCasts_S73728x1024_S288x256x1024 : S73728x1024.ShapeCasts S288x256x1024
  bcast_S_S288x256x1024 : S_.BroadcastsInDim S288x256x1024 (![] : Fin 0 → Fin S288x256x1024.rank)
  bcast_S288x1x1_S288x256x1024_0_1_2 : S288x1x1.BroadcastsInDim S288x256x1024 (![0, 1, 2] : Fin 3 → Fin S288x256x1024.rank)

variable [Facts]

def fn {F : FTy → Type} [FloatOps F] (main_arg0 : FVec F S73728x1024 .f32) (main_arg1 : IVec S288 32) (main_arg2 : IVec S1 32) (main_arg3 : FVec F S32x1024x512 .f32) (main_arg4 : FVec F S32x1024x512 .f32) (main_arg5 : FVec F S32x512x1024 .f32) : IVec S288x256x1024 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  let main_v5 : IVec S288 32 := iotaInDim S288 32 0
  let main_v6 : IVec S288 32 := broadcastInDim S288 ![0] bcast_S1_S288_0 main_arg2
  let main_v7 : IVec S288 1 := cmpi .slt main_v5 main_v6
  let main_v8 : IVec S288x1x1 1 := broadcastInDim S288x1x1 ![0] bcast_S288_S288x1x1_0 main_v4
  let main_v9 : IVec S288x1x1 1 := broadcastInDim S288x1x1 ![0] bcast_S288_S288x1x1_0 main_v7
  let main_v10 : FVec F S288x256x1024 .f32 := shapeCast S288x256x1024 main_arg0 shapeCasts_S73728x1024_S288x256x1024
  let main_cst : FVec F S_ .f32 := constant S_ .f32 0x00000000#32
  let main_v11 : FVec F S288x256x1024 .f32 := broadcastInDim S288x256x1024 ![] bcast_S_S288x256x1024 main_cst
  let main_v12 : IVec S288x256x1024 1 := cmpf .oeq main_v10 main_v11
  let main_v13 : IVec S288x256x1024 1 := broadcastInDim S288x256x1024 ![0, 1, 2] bcast_S288x1x1_S288x256x1024_0_1_2 main_v9
  let main_v14 : IVec S288x256x1024 1 := ori main_v13 main_v12
  let main_v15 : IVec S288x256x1024 1 := broadcastInDim S288x256x1024 ![0, 1, 2] bcast_S288x1x1_S288x256x1024_0_1_2 main_v8
  let main_v16 : IVec S288x256x1024 1 := andi main_v15 main_v14
  main_v16
-- ==== Pre_rows_named.lean ====
abbrev S73728x1024 : Shape := ⟨2, ![73728, 1024]⟩
abbrev S32768x4 : Shape := ⟨2, ![32768, 4]⟩
abbrev S32 : Shape := ⟨1, ![32]⟩
abbrev S4x8192x1024 : Shape := ⟨3, ![4, 8192, 1024]⟩
abbrev S4x1x1024 : Shape := ⟨3, ![4, 1, 1024]⟩
abbrev S4x8192x128 : Shape := ⟨3, ![4, 8192, 128]⟩
abbrev S1024 : Shape := ⟨1, ![1024]⟩
abbrev S32768x2 : Shape := ⟨2, ![32768, 2]⟩
abbrev S_ : Shape := ⟨0, ![]⟩
abbrev S32768x2x1 : Shape := ⟨3, ![32768, 2, 1]⟩

class Facts : Prop where
  slices_S32768x4_S32768x2_0_0 : S32768x4.Slices ![0, 0] S32768x2
  bcast_S_S32768x2 : S_.BroadcastsInDim S32768x2 (![] : Fin 0 → Fin S32768x2.rank)
  bcast_S32768x2_S32768x2x1_0_1 : S32768x2.BroadcastsInDim S32768x2x1 (![0, 1] : Fin 2 → Fin S32768x2x1.rank)
  slices_S32768x4_S32768x2_0_2 : S32768x4.Slices ![0, 2] S32768x2
  gather_S32_S32768x2x1_S32768x2_n_0_n_n_0_2_1_wf : GatherDims.WF S32 S32768x2x1 S32768x2 [] [0] [] [0] [] 2 ![1]

variable [Facts]

def gather_S32_S32768x2x1_S32768x2_n_0_n_n_0_2_1 : GatherDims S32 S32768x2x1 S32768x2 where
  offsetDims := []
  collapsedSliceDims := [0]
  operandBatchingDims := []
  startIndicesBatchingDims := []
  startIndexMap := [0]
  indexVectorDim := 2
  sliceSizes := ![1]
  wf := gather_S32_S32768x2x1_S32768x2_n_0_n_n_0_2_1_wf
def fn_part1 {F : FTy → Type} [FloatOps F] (main_v9 : IVec S32768x2 32) (main_v17 : IVec S32768x2 1) (main_c_4 : IVec S_ 32) : IVec S32768x2 1 :=
  let main_v18 : IVec S32768x2 32 := broadcastInDim S32768x2 ![] bcast_S_S32768x2 main_c_4
  let main_v19 : IVec S32768x2 1 := cmpi .slt main_v9 main_v18
  let main_v20 : IVec S32768x2 1 := andi main_v17 main_v19
  main_v20

def fn {F : FTy → Type} [FloatOps F] (main_arg0 : FVec F S73728x1024 .f32) (main_arg1 : IVec S32768x4 32) (main_arg2 : IVec S32 32) (main_arg3 : FVec F S4x8192x1024 .f32) (main_arg4 : FVec F S4x1x1024 .f32) (main_arg5 : FVec F S4x8192x128 .f32) (main_arg6 : FVec F S1024 .f32) : IVec S32768x2 1 :=
  let main_v0 : IVec S32768x2 32 := (extractStridedSlice S32768x2 ![0, 0] · slices_S32768x4_S32768x2_0_0) main_arg1
  let main_c : IVec S_ 32 := constantI S_ 32 0#32
  let main_v1 : IVec S32768x2 32 := broadcastInDim S32768x2 ![] bcast_S_S32768x2 main_c
  let main_v2 : IVec S32768x2 1 := cmpi .slt main_v0 main_v1
  let main_c_0 : IVec S_ 32 := constantI S_ 32 32#32
  let main_v3 : IVec S32768x2 32 := broadcastInDim S32768x2 ![] bcast_S_S32768x2 main_c_0
  let main_v4 : IVec S32768x2 32 := addi main_v0 main_v3
  let main_v5 : IVec S32768x2 32 := select main_v2 main_v4 main_v0
  let main_v6 : IVec S32768x2x1 32 := broadcastInDim S32768x2x1 ![0, 1] bcast_S32768x2_S32768x2x1_0_1 main_v5
  let main_v7 : IVec S32768x2 32 := (fun x i => Host.gather gather_S32_S32768x2x1_S32768x2_n_0_n_n_0_2_1 x i) main_arg2 main_v6
  let main_v8 : IVec S32768x2 32 := (extractStridedSlice S32768x2 ![0, 2] · slices_S32768x4_S32768x2_0_2) main_arg1
  let main_v9 : IVec S32768x2 32 := addi main_v7 main_v8
  let main_c_1 : IVec S_ 32 := constantI S_ 32 0#32
  let main_v10 : IVec S32768x2 32 := broadcastInDim S32768x2 ![] bcast_S_S32768x2 main_c_1
  let main_v11 : IVec S32768x2 1 := cmpi .sge main_v0 main_v10
  let main_c_2 : IVec S_ 32 := constantI S_ 32 32#32
  let main_v12 : IVec S32768x2 32 := broadcastInDim S32768x2 ![] bcast_S_S32768x2 main_c_2
  let main_v13 : IVec S32768x2 1 := cmpi .slt main_v0 main_v12
  let main_v14 : IVec S32768x2 1 := andi main_v11 main_v13
  let main_c_3 : IVec S_ 32 := constantI S_ 32 0#32
  let main_v15 : IVec S32768x2 32 := broadcastInDim S32768x2 ![] bcast_S_S32768x2 main_c_3
  let main_v16 : IVec S32768x2 1 := cmpi .sge main_v9 main_v15
  let main_v17 : IVec S32768x2 1 := andi main_v14 main_v16
  let main_c_4 : IVec S_ 32 := constantI S_ 32 73728#32
  fn_part1 (F := F) main_v9 main_v17 main_c_4
-- ==== Pre_sample_rows_named.lean ====
abbrev S8448x1024 : Shape := ⟨2, ![8448, 1024]⟩
abbrev S128x4 : Shape := ⟨2, ![128, 4]⟩
abbrev S32 : Shape := ⟨1, ![32]⟩
abbrev S1x128x1024 : Shape := ⟨3, ![1, 128, 1024]⟩
abbrev S1x128x128 : Shape := ⟨3, ![1, 128, 128]⟩
abbrev S1024 : Shape := ⟨1, ![1024]⟩
abbrev S128x2 : Shape := ⟨2, ![128, 2]⟩
abbrev S_ : Shape := ⟨0, ![]⟩
abbrev S128x2x1 : Shape := ⟨3, ![128, 2, 1]⟩

class Facts : Prop where
  slices_S128x4_S128x2_0_0 : S128x4.Slices ![0, 0] S128x2
  bcast_S_S128x2 : S_.BroadcastsInDim S128x2 (![] : Fin 0 → Fin S128x2.rank)
  bcast_S128x2_S128x2x1_0_1 : S128x2.BroadcastsInDim S128x2x1 (![0, 1] : Fin 2 → Fin S128x2x1.rank)
  slices_S128x4_S128x2_0_2 : S128x4.Slices ![0, 2] S128x2
  gather_S32_S128x2x1_S128x2_n_0_n_n_0_2_1_wf : GatherDims.WF S32 S128x2x1 S128x2 [] [0] [] [0] [] 2 ![1]

variable [Facts]

def gather_S32_S128x2x1_S128x2_n_0_n_n_0_2_1 : GatherDims S32 S128x2x1 S128x2 where
  offsetDims := []
  collapsedSliceDims := [0]
  operandBatchingDims := []
  startIndicesBatchingDims := []
  startIndexMap := [0]
  indexVectorDim := 2
  sliceSizes := ![1]
  wf := gather_S32_S128x2x1_S128x2_n_0_n_n_0_2_1_wf
def fn_part1 {F : FTy → Type} [FloatOps F] (main_v9 : IVec S128x2 32) (main_v17 : IVec S128x2 1) (main_c_4 : IVec S_ 32) : IVec S128x2 1 :=
  let main_v18 : IVec S128x2 32 := broadcastInDim S128x2 ![] bcast_S_S128x2 main_c_4
  let main_v19 : IVec S128x2 1 := cmpi .slt main_v9 main_v18
  let main_v20 : IVec S128x2 1 := andi main_v17 main_v19
  main_v20

def fn {F : FTy → Type} [FloatOps F] (main_arg0 : FVec F S8448x1024 .f32) (main_arg1 : IVec S128x4 32) (main_arg2 : IVec S32 32) (main_arg3 : FVec F S1x128x1024 .f32) (main_arg4 : FVec F S1x128x1024 .f32) (main_arg5 : FVec F S1x128x128 .f32) (main_arg6 : FVec F S1024 .f32) : IVec S128x2 1 :=
  let main_v0 : IVec S128x2 32 := (extractStridedSlice S128x2 ![0, 0] · slices_S128x4_S128x2_0_0) main_arg1
  let main_c : IVec S_ 32 := constantI S_ 32 0#32
  let main_v1 : IVec S128x2 32 := broadcastInDim S128x2 ![] bcast_S_S128x2 main_c
  let main_v2 : IVec S128x2 1 := cmpi .slt main_v0 main_v1
  let main_c_0 : IVec S_ 32 := constantI S_ 32 32#32
  let main_v3 : IVec S128x2 32 := broadcastInDim S128x2 ![] bcast_S_S128x2 main_c_0
  let main_v4 : IVec S128x2 32 := addi main_v0 main_v3
  let main_v5 : IVec S128x2 32 := select main_v2 main_v4 main_v0
  let main_v6 : IVec S128x2x1 32 := broadcastInDim S128x2x1 ![0, 1] bcast_S128x2_S128x2x1_0_1 main_v5
  let main_v7 : IVec S128x2 32 := (fun x i => Host.gather gather_S32_S128x2x1_S128x2_n_0_n_n_0_2_1 x i) main_arg2 main_v6
  let main_v8 : IVec S128x2 32 := (extractStridedSlice S128x2 ![0, 2] · slices_S128x4_S128x2_0_2) main_arg1
  let main_v9 : IVec S128x2 32 := addi main_v7 main_v8
  let main_c_1 : IVec S_ 32 := constantI S_ 32 0#32
  let main_v10 : IVec S128x2 32 := broadcastInDim S128x2 ![] bcast_S_S128x2 main_c_1
  let main_v11 : IVec S128x2 1 := cmpi .sge main_v0 main_v10
  let main_c_2 : IVec S_ 32 := constantI S_ 32 32#32
  let main_v12 : IVec S128x2 32 := broadcastInDim S128x2 ![] bcast_S_S128x2 main_c_2
  let main_v13 : IVec S128x2 1 := cmpi .slt main_v0 main_v12
  let main_v14 : IVec S128x2 1 := andi main_v11 main_v13
  let main_c_3 : IVec S_ 32 := constantI S_ 32 0#32
  let main_v15 : IVec S128x2 32 := broadcastInDim S128x2 ![] bcast_S_S128x2 main_c_3
  let main_v16 : IVec S128x2 1 := cmpi .sge main_v9 main_v15
  let main_v17 : IVec S128x2 1 := andi main_v14 main_v16
  let main_c_4 : IVec S_ 32 := constantI S_ 32 8448#32
  fn_part1 (F := F) main_v9 main_v17 main_c_4
-- ==== Pre_slots_distinct.lean ====
abbrev S32768x1024 : Shape := ⟨2, ![32768, 1024]⟩
abbrev S32768x4 : Shape := ⟨2, ![32768, 4]⟩
abbrev S32 : Shape := ⟨1, ![32]⟩
abbrev S32768x2 : Shape := ⟨2, ![32768, 2]⟩
abbrev S65536 : Shape := ⟨1, ![65536]⟩
abbrev S_ : Shape := ⟨0, ![]⟩
abbrev S32768x2x1 : Shape := ⟨3, ![32768, 2, 1]⟩
abbrev S73728 : Shape := ⟨1, ![73728]⟩
abbrev S65536x1 : Shape := ⟨2, ![65536, 1]⟩

class Facts : Prop where
  slices_S32768x4_S32768x2_0_0 : S32768x4.Slices ![0, 0] S32768x2
  shapeCasts_S32768x2_S65536 : S32768x2.ShapeCasts S65536
  bcast_S_S32768x2 : S_.BroadcastsInDim S32768x2 (![] : Fin 0 → Fin S32768x2.rank)
  bcast_S32768x2_S32768x2x1_0_1 : S32768x2.BroadcastsInDim S32768x2x1 (![0, 1] : Fin 2 → Fin S32768x2x1.rank)
  slices_S32768x4_S32768x2_0_2 : S32768x4.Slices ![0, 2] S32768x2
  bcast_S_S73728 : S_.BroadcastsInDim S73728 (![] : Fin 0 → Fin S73728.rank)
  bcast_S_S65536 : S_.BroadcastsInDim S65536 (![] : Fin 0 → Fin S65536.rank)
  bcast_S65536_S65536x1_0 : S65536.BroadcastsInDim S65536x1 (![0] : Fin 1 → Fin S65536x1.rank)
  gather_S32_S32768x2x1_S32768x2_n_0_n_n_0_2_1_wf : GatherDims.WF S32 S32768x2x1 S32768x2 [] [0] [] [0] [] 2 ![1]
  scatter_S73728_S65536x1_S65536_n_0_0_1_wf : ScatterDims.WF S73728 S65536x1 S65536 [] [0] [0] 1
  gather_S73728_S65536x1_S65536_n_0_n_n_0_1_1_wf : GatherDims.WF S73728 S65536x1 S65536 [] [0] [] [0] [] 1 ![1]

variable [Facts]

def gather_S32_S32768x2x1_S32768x2_n_0_n_n_0_2_1 : GatherDims S32 S32768x2x1 S32768x2 where
  offsetDims := []
  collapsedSliceDims := [0]
  operandBatchingDims := []
  startIndicesBatchingDims := []
  startIndexMap := [0]
  indexVectorDim := 2
  sliceSizes := ![1]
  wf := gather_S32_S32768x2x1_S32768x2_n_0_n_n_0_2_1_wf
def scatter_S73728_S65536x1_S65536_n_0_0_1 : ScatterDims S73728 S65536x1 S65536 where
  updateWindowDims := []
  insertedWindowDims := [0]
  scatterDimsToOperandDims := [0]
  indexVectorDim := 1
  wf := scatter_S73728_S65536x1_S65536_n_0_0_1_wf
def gather_S73728_S65536x1_S65536_n_0_n_n_0_1_1 : GatherDims S73728 S65536x1 S65536 where
  offsetDims := []
  collapsedSliceDims := [0]
  operandBatchingDims := []
  startIndicesBatchingDims := []
  startIndexMap := [0]
  indexVectorDim := 1
  sliceSizes := ![1]
  wf := gather_S73728_S65536x1_S65536_n_0_n_n_0_1_1_wf
def fn_part2 {F : FTy → Type} [FloatOps F] (main_v12 : IVec S65536 32) (main_v13 : IVec S65536 32) (main_v21 : IVec S73728 32) (main_v32 : IVec S65536 1) (main_v34 : IVec S65536 1) (main_v36 : IVec S65536 32) : IVec S65536 1 :=
  let main_v37 : IVec S65536 32 := select main_v34 main_v36 main_v12
  let main_v38 : IVec S65536x1 32 := broadcastInDim S65536x1 ![0] bcast_S65536_S65536x1_0 main_v37
  let main_v39 : IVec S65536 32 := (fun x i => Host.gather gather_S73728_S65536x1_S65536_n_0_n_n_0_1_1 x i) main_v21 main_v38
  let main_v40 : IVec S65536 1 := cmpi .eq main_v39 main_v13
  let main_v41 : IVec S65536 1 := andi main_v32 main_v40
  main_v41

def fn_part1 {F : FTy → Type} [FloatOps F] (main_v1 : IVec S65536 32) (main_v12 : IVec S65536 32) (main_v13 : IVec S65536 32) (main_v14 : IVec S73728 32) (main_v16 : IVec S65536 1) (main_v18 : IVec S65536 32) : IVec S65536 1 :=
  let main_v19 : IVec S65536 32 := select main_v16 main_v18 main_v12
  let main_v20 : IVec S65536x1 32 := broadcastInDim S65536x1 ![0] bcast_S65536_S65536x1_0 main_v19
  let main_v21 : IVec S73728 32 := (fun x i u => Host.scatter scatter_S73728_S65536x1_S65536_n_0_0_1 (fun _ b => b) x i u) main_v14 main_v20 main_v13
  let main_c_4 : IVec S_ 32 := constantI S_ 32 0#32
  let main_v22 : IVec S65536 32 := broadcastInDim S65536 ![] bcast_S_S65536 main_c_4
  let main_v23 : IVec S65536 1 := cmpi .sge main_v1 main_v22
  let main_c_5 : IVec S_ 32 := constantI S_ 32 32#32
  let main_v24 : IVec S65536 32 := broadcastInDim S65536 ![] bcast_S_S65536 main_c_5
  let main_v25 : IVec S65536 1 := cmpi .slt main_v1 main_v24
  let main_v26 : IVec S65536 1 := andi main_v23 main_v25
  let main_c_6 : IVec S_ 32 := constantI S_ 32 0#32
  let main_v27 : IVec S65536 32 := broadcastInDim S65536 ![] bcast_S_S65536 main_c_6
  let main_v28 : IVec S65536 1 := cmpi .sge main_v12 main_v27
  let main_v29 : IVec S65536 1 := andi main_v26 main_v28
  let main_c_7 : IVec S_ 32 := constantI S_ 32 73728#32
  let main_v30 : IVec S65536 32 := broadcastInDim S65536 ![] bcast_S_S65536 main_c_7
  let main_v31 : IVec S65536 1 := cmpi .slt main_v12 main_v30
  let main_v32 : IVec S65536 1 := andi main_v29 main_v31
  let main_c_8 : IVec S_ 32 := constantI S_ 32 0#32
  let main_v33 : IVec S65536 32 := broadcastInDim S65536 ![] bcast_S_S65536 main_c_8
  let main_v34 : IVec S65536 1 := cmpi .slt main_v12 main_v33
  let main_c_9 : IVec S_ 32 := constantI S_ 32 73728#32
  let main_v35 : IVec S65536 32 := broadcastInDim S65536 ![] bcast_S_S65536 main_c_9
  let main_v36 : IVec S65536 32 := addi main_v12 main_v35
  fn_part2 (F := F) main_v12 main_v13 main_v21 main_v32 main_v34 main_v36

def fn {F : FTy → Type} [FloatOps F] (main_arg0 : FVec F S32768x1024 .f32) (main_arg1 : IVec S32768x4 32) (main_arg2 : IVec S32 32) : IVec S65536 1 :=
  let main_v0 : IVec S32768x2 32 := (extractStridedSlice S32768x2 ![0, 0] · slices_S32768x4_S32768x2_0_0) main_arg1
  let main_v1 : IVec S65536 32 := shapeCast S65536 main_v0 shapeCasts_S32768x2_S65536
  let main_v2 : IVec S32768x2 32 := (extractStridedSlice S32768x2 ![0, 0] · slices_S32768x4_S32768x2_0_0) main_arg1
  let main_c : IVec S_ 32 := constantI S_ 32 0#32
  let main_v3 : IVec S32768x2 32 := broadcastInDim S32768x2 ![] bcast_S_S32768x2 main_c
  let main_v4 : IVec S32768x2 1 := cmpi .slt main_v2 main_v3
  let main_c_0 : IVec S_ 32 := constantI S_ 32 32#32
  let main_v5 : IVec S32768x2 32 := broadcastInDim S32768x2 ![] bcast_S_S32768x2 main_c_0
  let main_v6 : IVec S32768x2 32 := addi main_v2 main_v5
  let main_v7 : IVec S32768x2 32 := select main_v4 main_v6 main_v2
  let main_v8 : IVec S32768x2x1 32 := broadcastInDim S32768x2x1 ![0, 1] bcast_S32768x2_S32768x2x1_0_1 main_v7
  let main_v9 : IVec S32768x2 32 := (fun x i => Host.gather gather_S32_S32768x2x1_S32768x2_n_0_n_n_0_2_1 x i) main_arg2 main_v8
  let main_v10 : IVec S32768x2 32 := (extractStridedSlice S32768x2 ![0, 2] · slices_S32768x4_S32768x2_0_2) main_arg1
  let main_v11 : IVec S32768x2 32 := addi main_v9 main_v10
  let main_v12 : IVec S65536 32 := shapeCast S65536 main_v11 shapeCasts_S32768x2_S65536
  let main_v13 : IVec S65536 32 := iotaInDim S65536 32 0
  let main_c_1 : IVec S_ 32 := constantI S_ 32 0#32
  let main_v14 : IVec S73728 32 := broadcastInDim S73728 ![] bcast_S_S73728 main_c_1
  let main_c_2 : IVec S_ 32 := constantI S_ 32 0#32
  let main_v15 : IVec S65536 32 := broadcastInDim S65536 ![] bcast_S_S65536 main_c_2
  let main_v16 : IVec S65536 1 := cmpi .slt main_v12 main_v15
  let main_c_3 : IVec S_ 32 := constantI S_ 32 73728#32
  let main_v17 : IVec S65536 32 := broadcastInDim S65536 ![] bcast_S_S65536 main_c_3
  let main_v18 : IVec S65536 32 := addi main_v12 main_v17
  fn_part1 (F := F) main_v1 main_v12 main_v13 main_v14 main_v16 main_v18
-- ==== Kernel.lean ====
abbrev S32768x1024 : Shape := ⟨2, ![32768, 1024]⟩
abbrev S32768x4 : Shape := ⟨2, ![32768, 4]⟩
abbrev S32 : Shape := ⟨1, ![32]⟩
abbrev S_ : Shape := ⟨0, ![]⟩
abbrev S73728x1024 : Shape := ⟨2, ![73728, 1024]⟩
abbrev S128x1x1024 : Shape := ⟨3, ![128, 1, 1024]⟩
abbrev S1x1x1024 : Shape := ⟨3, ![1, 1, 1024]⟩
abbrev S1x1x1 : Shape := ⟨3, ![1, 1, 1]⟩
abbrev S1 : Shape := ⟨1, ![1]⟩
abbrev S1x1024 : Shape := ⟨2, ![1, 1024]⟩

abbrev nBuf : Space → Nat
  | .hbm => 5
  | .vmem => 0
  | .smem => 3
  | _ => 0

abbrev bufTy : (tb : Table) → Fin (tcTables nBuf tb) → BufTy
  | .hbm, ⟨0, _⟩ => ⟨S32768x1024, .f32⟩
  | .hbm, ⟨1, _⟩ => ⟨S32768x4, .i32⟩
  | .hbm, ⟨2, _⟩ => ⟨S_, .f32⟩
  | .hbm, ⟨3, _⟩ => ⟨S73728x1024, .f32⟩
  | .hbm, ⟨4, _⟩ => ⟨S128x1x1024, .i32⟩
  | .local _ .smem, ⟨0, _⟩ => ⟨S32, .i32⟩
  | .local _ .smem, ⟨1, _⟩ => ⟨S1x1x1024, .i32⟩
  | .local _ .smem, ⟨2, _⟩ => ⟨S1x1x1024, .i32⟩
  | _, _ => ⟨S32768x1024, .f32⟩

abbrev bufScoped : (cs : CoreSpace) → Fin (nBuf (.core cs)) → Bool
  | .smem, ⟨1, _⟩ => true
  | .smem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_arg2 : Ref sig .tc := ⟨.smem, 0, rfl⟩
abbrev cc0_stg0_0 : Ref sig .tc := ⟨.smem, 1, rfl⟩
abbrev cc0_stg0_1 : Ref sig .tc := ⟨.smem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32_0 : BitVec 32 := 256#32
  let v1 : BitVec 32 := Scalar.addi c0_i32 c256_i32_0
  let c1_i32 : BitVec 32 := 1#32
  ⟨c0_i32, v1, c1_i32⟩
def k0_off1 (k0_t1 : Fin k0_t1_loop.trips) : Fin 3 → Nat :=
  let c0 : Index := 0#32
  let c0_7 : Index := 0#32
  let c4_i32 : BitVec 32 := 4#32
  let c0_i32 : BitVec 32 := 0#32
  let c1_i32 : BitVec 32 := 1#32
  let arg7 : BitVec 32 := Scf.iv c0_i32 c1_i32 k0_t1
  let v4 : BitVec 32 := Scalar.muli c4_i32 arg7
  let c0_i32_6 : BitVec 32 := 0#32
  let v5 : BitVec 32 := Scalar.addi v4 c0_i32_6
  let v6 : Index := Scalar.indexCast v5
  ![0, 0, v6.toNat]
def k0_off2 (v7 : BitVec 32) : Fin 1 → Nat :=
  let v8 : Index := Scalar.indexCast v7
  ![v8.toNat]

def k0_chk1 (v7 : BitVec 32) : Prop :=
  (∀ a, (k0_off2 v7) a + S1.size a ≤ S32.size a)
theorem k0_off2_inb : ∀ (v7 : BitVec 32) (k0_hw1 : k0_chk1 v7), ∀ a, (k0_off2 v7) a + S1.size a ≤ S32.size a := fun v7 k0_hw1 => k0_hw1

def k0_off3 (k0_t1 : Fin k0_t1_loop.trips) : Fin 3 → Nat :=
  let c0_10 : Index := 0#32
  let c0_11 : Index := 0#32
  let c4_i32_8 : BitVec 32 := 4#32
  let c0_i32 : BitVec 32 := 0#32
  let c1_i32 : BitVec 32 := 1#32
  let arg7 : BitVec 32 := Scf.iv c0_i32 c1_i32 k0_t1
  let v10 : BitVec 32 := Scalar.muli c4_i32_8 arg7
  let c2_i32 : BitVec 32 := 2#32
  let v11 : BitVec 32 := Scalar.addi v10 c2_i32
  let c0_i32_9 : BitVec 32 := 0#32
  let v12 : BitVec 32 := Scalar.addi v11 c0_i32_9
  let v13 : Index := Scalar.indexCast v12
  ![0, 0, v13.toNat]
def k0_off4 (k0_t1 : Fin k0_t1_loop.trips) : Fin 3 → Nat :=
  let c0_14 : Index := 0#32
  let c0_15 : Index := 0#32
  let c4_i32_12 : BitVec 32 := 4#32
  let c0_i32 : BitVec 32 := 0#32
  let c1_i32 : BitVec 32 := 1#32
  let arg7 : BitVec 32 := Scf.iv c0_i32 c1_i32 k0_t1
  let v16 : BitVec 32 := Scalar.muli c4_i32_12 arg7
  let c1_i32_13 : BitVec 32 := 1#32
  let v17 : BitVec 32 := Scalar.addi v16 c1_i32_13
  let v18 : Index := Scalar.indexCast v17
  ![0, 0, v18.toNat]
def k0_off5 (v19 : BitVec 32) : Fin 1 → Nat :=
  let v20 : Index := Scalar.indexCast v19
  ![v20.toNat]

def k0_chk2 (v19 : BitVec 32) : Prop :=
  (∀ a, (k0_off5 v19) a + S1.size a ≤ S32.size a)
theorem k0_off5_inb : ∀ (v19 : BitVec 32) (k0_hw2 : k0_chk2 v19), ∀ a, (k0_off5 v19) a + S1.size a ≤ S32.size a := fun v19 k0_hw2 => k0_hw2

def k0_off6 (k0_t1 : Fin k0_t1_loop.trips) : Fin 3 → Nat :=
  let c0_19 : Index := 0#32
  let c0_20 : Index := 0#32
  let c4_i32_16 : BitVec 32 := 4#32
  let c0_i32 : BitVec 32 := 0#32
  let c1_i32 : BitVec 32 := 1#32
  let arg7 : BitVec 32 := Scf.iv c0_i32 c1_i32 k0_t1
  let v22 : BitVec 32 := Scalar.muli c4_i32_16 arg7
  let c2_i32_17 : BitVec 32 := 2#32
  let v23 : BitVec 32 := Scalar.addi v22 c2_i32_17
  let c1_i32_18 : BitVec 32 := 1#32
  let v24 : BitVec 32 := Scalar.addi v23 c1_i32_18
  let v25 : Index := Scalar.indexCast v24
  ![0, 0, v25.toNat]
def k0_off7 (v9 : BitVec 32) (v14 : BitVec 32) : Fin 2 → Nat :=
  let v15 : BitVec 32 := Scalar.addi v9 v14
  let c0_i32_21 : BitVec 32 := 0#32
  ![v15.toNat, 0]

def k0_chk3 (v9 : BitVec 32) (v14 : BitVec 32) : Prop :=
  (∀ a, (k0_off7 v9 v14) a + S1x1024.size a ≤ S73728x1024.size a)
theorem k0_off7_inb : ∀ (v9 : BitVec 32) (v14 : BitVec 32) (k0_hw3 : k0_chk3 v9 v14), ∀ a, (k0_off7 v9 v14) a + S1x1024.size a ≤ S73728x1024.size a := fun v9 v14 k0_hw3 => k0_hw3

def k0_off8 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg7 : BitVec 32 := Scf.iv c0_i32 c1_i32 k0_t1
  let v3 : BitVec 32 := Scalar.addi v0 arg7
  let c0_i32_22 : BitVec 32 := 0#32
  ![v3.toNat, 0]
def k0_off9 (v21 : BitVec 32) (v26 : BitVec 32) : Fin 2 → Nat :=
  let v27 : BitVec 32 := Scalar.addi v21 v26
  let c0_i32_23 : BitVec 32 := 0#32
  ![v27.toNat, 0]

def k0_chk4 (v21 : BitVec 32) (v26 : BitVec 32) : Prop :=
  (∀ a, (k0_off9 v21 v26) a + S1x1024.size a ≤ S73728x1024.size a)
theorem k0_off9_inb : ∀ (v21 : BitVec 32) (v26 : BitVec 32) (k0_hw4 : k0_chk4 v21 v26), ∀ a, (k0_off9 v21 v26) a + S1x1024.size a ≤ S73728x1024.size a := fun v21 v26 k0_hw4 => k0_hw4

def k0_off10 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32 : BitVec 32 := 0#32
  let c1_i32 : BitVec 32 := 1#32
  let arg7 : BitVec 32 := Scf.iv c0_i32 c1_i32 k0_t1
  let v3 : BitVec 32 := Scalar.addi v0 arg7
  let c0_i32_24 : BitVec 32 := 0#32
  ![v3.toNat, 0]
@[reducible] def k0_t2_loop : Scf.Loop 32 :=
  let c0_i32_2 : BitVec 32 := 0#32
  let c256_i32_3 : BitVec 32 := 256#32
  let v2 : BitVec 32 := Scalar.addi c0_i32_2 c256_i32_3
  let c1_i32_4 : BitVec 32 := 1#32
  ⟨c0_i32_2, v2, c1_i32_4⟩
def k0_off11 (k0_t2 : Fin k0_t2_loop.trips) : Fin 3 → Nat :=
  let c0 : Index := 0#32
  let c0_7 : Index := 0#32
  let c4_i32 : BitVec 32 := 4#32
  let c0_i32_2 : BitVec 32 := 0#32
  let c1_i32_4 : BitVec 32 := 1#32
  let arg7 : BitVec 32 := Scf.iv c0_i32_2 c1_i32_4 k0_t2
  let v4 : BitVec 32 := Scalar.muli c4_i32 arg7
  let c0_i32_6 : BitVec 32 := 0#32
  let v5 : BitVec 32 := Scalar.addi v4 c0_i32_6
  let v6 : Index := Scalar.indexCast v5
  ![0, 0, v6.toNat]
def k0_off12 (v7 : BitVec 32) : Fin 1 → Nat :=
  let v8 : Index := Scalar.indexCast v7
  ![v8.toNat]

def k0_chk5 (v7 : BitVec 32) : Prop :=
  (∀ a, (k0_off12 v7) a + S1.size a ≤ S32.size a)
theorem k0_off12_inb : ∀ (v7 : BitVec 32) (k0_hw5 : k0_chk5 v7), ∀ a, (k0_off12 v7) a + S1.size a ≤ S32.size a := fun v7 k0_hw5 => k0_hw5

def k0_off13 (k0_t2 : Fin k0_t2_loop.trips) : Fin 3 → Nat :=
  let c0_10 : Index := 0#32
  let c0_11 : Index := 0#32
  let c4_i32_8 : BitVec 32 := 4#32
  let c0_i32_2 : BitVec 32 := 0#32
  let c1_i32_4 : BitVec 32 := 1#32
  let arg7 : BitVec 32 := Scf.iv c0_i32_2 c1_i32_4 k0_t2
  let v10 : BitVec 32 := Scalar.muli c4_i32_8 arg7
  let c2_i32 : BitVec 32 := 2#32
  let v11 : BitVec 32 := Scalar.addi v10 c2_i32
  let c0_i32_9 : BitVec 32 := 0#32
  let v12 : BitVec 32 := Scalar.addi v11 c0_i32_9
  let v13 : Index := Scalar.indexCast v12
  ![0, 0, v13.toNat]
def k0_off14 (k0_t2 : Fin k0_t2_loop.trips) : Fin 3 → Nat :=
  let c0_14 : Index := 0#32
  let c0_15 : Index := 0#32
  let c4_i32_12 : BitVec 32 := 4#32
  let c0_i32_2 : BitVec 32 := 0#32
  let c1_i32_4 : BitVec 32 := 1#32
  let arg7 : BitVec 32 := Scf.iv c0_i32_2 c1_i32_4 k0_t2
  let v16 : BitVec 32 := Scalar.muli c4_i32_12 arg7
  let c1_i32_13 : BitVec 32 := 1#32
  let v17 : BitVec 32 := Scalar.addi v16 c1_i32_13
  let v18 : Index := Scalar.indexCast v17
  ![0, 0, v18.toNat]
def k0_off15 (v19 : BitVec 32) : Fin 1 → Nat :=
  let v20 : Index := Scalar.indexCast v19
  ![v20.toNat]

def k0_chk6 (v19 : BitVec 32) : Prop :=
  (∀ a, (k0_off15 v19) a + S1.size a ≤ S32.size a)
theorem k0_off15_inb : ∀ (v19 : BitVec 32) (k0_hw6 : k0_chk6 v19), ∀ a, (k0_off15 v19) a + S1.size a ≤ S32.size a := fun v19 k0_hw6 => k0_hw6

def k0_off16 (k0_t2 : Fin k0_t2_loop.trips) : Fin 3 → Nat :=
  let c0_19 : Index := 0#32
  let c0_20 : Index := 0#32
  let c4_i32_16 : BitVec 32 := 4#32
  let c0_i32_2 : BitVec 32 := 0#32
  let c1_i32_4 : BitVec 32 := 1#32
  let arg7 : BitVec 32 := Scf.iv c0_i32_2 c1_i32_4 k0_t2
  let v22 : BitVec 32 := Scalar.muli c4_i32_16 arg7
  let c2_i32_17 : BitVec 32 := 2#32
  let v23 : BitVec 32 := Scalar.addi v22 c2_i32_17
  let c1_i32_18 : BitVec 32 := 1#32
  let v24 : BitVec 32 := Scalar.addi v23 c1_i32_18
  let v25 : Index := Scalar.indexCast v24
  ![0, 0, v25.toNat]
def k0_off17 (v9 : BitVec 32) (v14 : BitVec 32) : Fin 2 → Nat :=
  let v15 : BitVec 32 := Scalar.addi v9 v14
  let c0_i32_21 : BitVec 32 := 0#32
  ![v15.toNat, 0]

def k0_chk7 (v9 : BitVec 32) (v14 : BitVec 32) : Prop :=
  (∀ a, (k0_off17 v9 v14) a + S1x1024.size a ≤ S73728x1024.size a)
theorem k0_off17_inb : ∀ (v9 : BitVec 32) (v14 : BitVec 32) (k0_hw7 : k0_chk7 v9 v14), ∀ a, (k0_off17 v9 v14) a + S1x1024.size a ≤ S73728x1024.size a := fun v9 v14 k0_hw7 => k0_hw7

def k0_off18 (i : grid0.Coords) (k0_t2 : Fin k0_t2_loop.trips) : Fin 2 → Nat :=
  let arg0 : BitVec 32 := BitVec.ofNat 32 (i 0).val
  let c256_i32 : BitVec 32 := 256#32
  let v0 : BitVec 32 := Scalar.muli arg0 c256_i32
  let c0_i32_2 : BitVec 32 := 0#32
  let c1_i32_4 : BitVec 32 := 1#32
  let arg7 : BitVec 32 := Scf.iv c0_i32_2 c1_i32_4 k0_t2
  let v3 : BitVec 32 := Scalar.addi v0 arg7
  let c0_i32_22 : BitVec 32 := 0#32
  ![v3.toNat, 0]
def k0_off19 (v21 : BitVec 32) (v26 : BitVec 32) : Fin 2 → Nat :=
  let v27 : BitVec 32 := Scalar.addi v21 v26
  let c0_i32_23 : BitVec 32 := 0#32
  ![v27.toNat, 0]

def k0_chk8 (v21 : BitVec 32) (v26 : BitVec 32) : Prop :=
  (∀ a, (k0_off19 v21 v26) a + S1x1024.size a ≤ S73728x1024.size a)
theorem k0_off19_inb : ∀ (v21 : BitVec 32) (v26 : BitVec 32) (k0_hw8 : k0_chk8 v21 v26), ∀ a, (k0_off19 v21 v26) a + S1x1024.size a ≤ S73728x1024.size a := fun v21 v26 k0_hw8 => k0_hw8

def k0_off20 (i : grid0.Coords) (k0_t2 : Fin k0_t2_loop.trips) : Fin 2 → Nat :=
  let arg0 : BitVec 32 := BitVec.ofNat 32 (i 0).val
  let c256_i32 : BitVec 32 := 256#32
  let v0 : BitVec 32 := Scalar.muli arg0 c256_i32
  let c0_i32_2 : BitVec 32 := 0#32
  let c1_i32_4 : BitVec 32 := 1#32
  let arg7 : BitVec 32 := Scf.iv c0_i32_2 c1_i32_4 k0_t2
  let v3 : BitVec 32 := Scalar.addi v0 arg7
  let c0_i32_24 : BitVec 32 := 0#32
  ![v3.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S32768x1024 : Shape := ⟨2, ![32768, 1024]⟩
abbrev S32768x4 : Shape := ⟨2, ![32768, 4]⟩
abbrev S32 : Shape := ⟨1, ![32]⟩
abbrev S32768 : Shape := ⟨1, ![32768]⟩
abbrev S32768x2 : Shape := ⟨2, ![32768, 2]⟩
abbrev S65536 : Shape := ⟨1, ![65536]⟩
abbrev S_ : Shape := ⟨0, ![]⟩
abbrev S32768x2x1 : Shape := ⟨3, ![32768, 2, 1]⟩
abbrev S73728 : Shape := ⟨1, ![73728]⟩
abbrev S65536x1 : Shape := ⟨2, ![65536, 1]⟩
abbrev S1x1024 : Shape := ⟨2, ![1, 1024]⟩
abbrev S32769x1024 : Shape := ⟨2, ![32769, 1024]⟩
abbrev S73728x1 : Shape := ⟨2, ![73728, 1]⟩
abbrev S73728x1024 : Shape := ⟨2, ![73728, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x4, .i32⟩
  | .hbm, ⟨2, _⟩ => ⟨S32, .i32⟩
  | .hbm, ⟨3, _⟩ => ⟨S32768, .i32⟩
  | .hbm, ⟨4, _⟩ => ⟨S32768x2, .i32⟩
  | .hbm, ⟨5, _⟩ => ⟨S65536, .i32⟩
  | .hbm, ⟨6, _⟩ => ⟨S32768x2, .i32⟩
  | .hbm, ⟨7, _⟩ => ⟨S_, .i32⟩
  | .hbm, ⟨8, _⟩ => ⟨S32768x2, .i32⟩
  | .hbm, ⟨9, _⟩ => ⟨S32768x2, .i1⟩
  | .hbm, ⟨10, _⟩ => ⟨S_, .i32⟩
  | .hbm, ⟨11, _⟩ => ⟨S32768x2, .i32⟩
  | .hbm, ⟨12, _⟩ => ⟨S32768x2, .i32⟩
  | .hbm, ⟨13, _⟩ => ⟨S32768x2, .i32⟩
  | .hbm, ⟨14, _⟩ => ⟨S32768x2x1, .i32⟩
  | .hbm, ⟨15, _⟩ => ⟨S32768x2, .i32⟩
  | .hbm, ⟨16, _⟩ => ⟨S32768x2, .i32⟩
  | .hbm, ⟨17, _⟩ => ⟨S32768x2, .i32⟩
  | .hbm, ⟨18, _⟩ => ⟨S65536, .i32⟩
  | .hbm, ⟨19, _⟩ => ⟨S_, .i32⟩
  | .hbm, ⟨20, _⟩ => ⟨S73728, .i32⟩
  | .hbm, ⟨21, _⟩ => ⟨S_, .i32⟩
  | .hbm, ⟨22, _⟩ => ⟨S65536, .i32⟩
  | .hbm, ⟨23, _⟩ => ⟨S65536, .i1⟩
  | .hbm, ⟨24, _⟩ => ⟨S_, .i32⟩
  | .hbm, ⟨25, _⟩ => ⟨S65536, .i32⟩
  | .hbm, ⟨26, _⟩ => ⟨S65536, .i32⟩
  | .hbm, ⟨27, _⟩ => ⟨S65536, .i32⟩
  | .hbm, ⟨28, _⟩ => ⟨S65536x1, .i32⟩
  | .hbm, ⟨29, _⟩ => ⟨S73728, .i32⟩
  | .hbm, ⟨30, _⟩ => ⟨S_, .f32⟩
  | .hbm, ⟨31, _⟩ => ⟨S1x1024, .f32⟩
  | .hbm, ⟨32, _⟩ => ⟨S32769x1024, .f32⟩
  | .hbm, ⟨33, _⟩ => ⟨S_, .i32⟩
  | .hbm, ⟨34, _⟩ => ⟨S73728, .i32⟩
  | .hbm, ⟨35, _⟩ => ⟨S73728, .i1⟩
  | .hbm, ⟨36, _⟩ => ⟨S_, .i32⟩
  | .hbm, ⟨37, _⟩ => ⟨S73728, .i32⟩
  | .hbm, ⟨38, _⟩ => ⟨S73728, .i32⟩
  | .hbm, ⟨39, _⟩ => ⟨S73728, .i32⟩
  | .hbm, ⟨40, _⟩ => ⟨S73728x1, .i32⟩
  | .hbm, ⟨41, _⟩ => ⟨S73728x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1024 : Shape := ⟨2, ![4, 1024]⟩
abbrev S128x1024 : Shape := ⟨2, ![128, 1024]⟩
abbrev S1024x6144 : Shape := ⟨2, ![1024, 6144]⟩
abbrev S6144 : Shape := ⟨1, ![6144]⟩
abbrev S1024 : Shape := ⟨1, ![1024]⟩
abbrev S1024x2560 : Shape := ⟨2, ![1024, 2560]⟩
abbrev S132x1024 : Shape := ⟨2, ![132, 1024]⟩
abbrev S_ : Shape := ⟨0, ![]⟩
abbrev S136x1024 : Shape := ⟨2, ![136, 1024]⟩
abbrev S1x6144 : Shape := ⟨2, ![1, 6144]⟩
abbrev S136x6144 : Shape := ⟨2, ![136, 6144]⟩
abbrev S1024x1024 : Shape := ⟨2, ![1024, 1024]⟩
abbrev S1x1024 : Shape := ⟨2, ![1, 1024]⟩
abbrev S4x1x1024 : Shape := ⟨3, ![4, 1, 1024]⟩
abbrev S4x8192x512 : Shape := ⟨3, ![4, 8192, 512]⟩
abbrev S4x2048x512 : Shape := ⟨3, ![4, 2048, 512]⟩
abbrev S1x512x1024 : Shape := ⟨3, ![1, 512, 1024]⟩
abbrev S1x1x1024 : Shape := ⟨3, ![1, 1, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S4x30x512 : Shape := ⟨3, ![4, 30, 512]⟩

abbrev nBuf : Space → Nat
  | .hbm => 29
  | .vmem => 27
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S128x1024, .f32⟩
  | .hbm, ⟨3, _⟩ => ⟨S1024x6144, .f32⟩
  | .hbm, ⟨4, _⟩ => ⟨S6144, .f32⟩
  | .hbm, ⟨5, _⟩ => ⟨S1024, .f32⟩
  | .hbm, ⟨6, _⟩ => ⟨S1024x2560, .f32⟩
  | .hbm, ⟨7, _⟩ => ⟨S1024x2560, .bf16⟩
  | .hbm, ⟨8, _⟩ => ⟨S132x1024, .f32⟩
  | .hbm, ⟨9, _⟩ => ⟨S_, .i32⟩
  | .hbm, ⟨10, _⟩ => ⟨S_, .f32⟩
  | .hbm, ⟨11, _⟩ => ⟨S136x1024, .f32⟩
  | .hbm, ⟨12, _⟩ => ⟨S1x6144, .f32⟩
  | .hbm, ⟨13, _⟩ => ⟨S136x6144, .f32⟩
  | .hbm, ⟨14, _⟩ => ⟨S4x1024, .f32⟩
  | .hbm, ⟨15, _⟩ => ⟨S4x1x1024, .f32⟩
  | .hbm, ⟨16, _⟩ => ⟨S4x1024, .f32⟩
  | .hbm, ⟨17, _⟩ => ⟨S4x1x1024, .f32⟩
  | .hbm, ⟨18, _⟩ => ⟨S1x1024, .f32⟩
  | .hbm, ⟨19, _⟩ => ⟨S4x8192x512, .bf16⟩
  | .hbm, ⟨20, _⟩ => ⟨S4x8192x512, .bf16⟩
  | .hbm, ⟨21, _⟩ => ⟨S4x8192x512, .bf16⟩
  | .hbm, ⟨22, _⟩ => ⟨S4x8192x512, .f32⟩
  | .hbm, ⟨23, _⟩ => ⟨S4x2048x512, .f32⟩
  | .hbm, ⟨24, _⟩ => ⟨S4x2048x512, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S4x30x512, .f32⟩
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1024x2560, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc1_transform_10 (i : grid1.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x2560 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== Reference2Ideal.lean ====
abbrev S4x8192x1024 : Shape := ⟨3, ![4, 8192, 1024]⟩
abbrev S4x1024 : Shape := ⟨2, ![4, 1024]⟩
abbrev S128x1024 : Shape := ⟨2, ![128, 1024]⟩
abbrev S1024x6144 : Shape := ⟨2, ![1024, 6144]⟩
abbrev S6144 : Shape := ⟨1, ![6144]⟩
abbrev S1024 : Shape := ⟨1, ![1024]⟩
abbrev S1024x2560 : Shape := ⟨2, ![1024, 2560]⟩
abbrev S_ : Shape := ⟨0, ![]⟩
abbrev S4x2048x512 : Shape := ⟨3, ![4, 2048, 512]⟩
abbrev S4x30x512 : Shape := ⟨3, ![4, 30, 512]⟩
abbrev S4x6144 : Shape := ⟨2, ![4, 6144]⟩
abbrev S1x6144 : Shape := ⟨2, ![1, 6144]⟩
abbrev S4x1x6144 : Shape := ⟨3, ![4, 1, 6144]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2560 : Shape := ⟨3, ![4, 8192, 2560]⟩
abbrev S4x8192x512 : Shape := ⟨3, ![4, 8192, 512]⟩
abbrev S4x10240x512 : Shape := ⟨3, ![4, 10240, 512]⟩
abbrev S4x8222x512 : Shape := ⟨3, ![4, 8222, 512]⟩

abbrev nBuf : Space → Nat
  | .hbm => 78
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S128x1024, .f32⟩
  | .hbm, ⟨3, _⟩ => ⟨S1024x6144, .f32⟩
  | .hbm, ⟨4, _⟩ => ⟨S6144, .f32⟩
  | .hbm, ⟨5, _⟩ => ⟨S1024, .f32⟩
  | .hbm, ⟨6, _⟩ => ⟨S1024x2560, .f32⟩
  | .hbm, ⟨7, _⟩ => ⟨S_, .f32⟩
  | .hbm, ⟨8, _⟩ => ⟨S4x2048x512, .f32⟩
  | .hbm, ⟨9, _⟩ => ⟨S_, .f32⟩
  | .hbm, ⟨10, _⟩ => ⟨S4x30x512, .f32⟩
  | .hbm, ⟨11, _⟩ => ⟨S4x1024, .f32⟩
  | .hbm, ⟨12, _⟩ => ⟨S4x1024, .f32⟩
  | .hbm, ⟨13, _⟩ => ⟨S_, .f32⟩
  | .hbm, ⟨14, _⟩ => ⟨S4x1024, .f32⟩
  | .hbm, ⟨15, _⟩ => ⟨S4x1024, .f32⟩
  | .hbm, ⟨16, _⟩ => ⟨S_, .f32⟩
  | .hbm, ⟨17, _⟩ => ⟨S4x1024, .f32⟩
  | .hbm, ⟨18, _⟩ => ⟨S4x1024, .f32⟩
  | .hbm, ⟨19, _⟩ => ⟨S4x1024, .f32⟩
  | .hbm, ⟨20, _⟩ => ⟨S4x6144, .f32⟩
  | .hbm, ⟨21, _⟩ => ⟨S1x6144, .f32⟩
  | .hbm, ⟨22, _⟩ => ⟨S4x6144, .f32⟩
  | .hbm, ⟨23, _⟩ => ⟨S4x6144, .f32⟩
  | .hbm, ⟨24, _⟩ => ⟨S4x1x6144, .f32⟩
  | .hbm, ⟨25, _⟩ => ⟨S4x1x1024, .f32⟩
  | .hbm, ⟨26, _⟩ => ⟨S4x1x1024, .f32⟩
  | .hbm, ⟨27, _⟩ => ⟨S4x1x1024, .f32⟩
  | .hbm, ⟨28, _⟩ => ⟨S4x1x1024, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S4x8192x1024, .f32⟩
  | .hbm, ⟨43, _⟩ => ⟨S4x8192x1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S_, .f32⟩
  | .hbm, ⟨48, _⟩ => ⟨S4x1x1024, .f32⟩
  | .hbm, ⟨49, _⟩ => ⟨S4x1x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x2560, .f32⟩
  | .hbm, ⟨55, _⟩ => ⟨S4x8192x512, .f32⟩
  | .hbm, ⟨56, _⟩ => ⟨S4x8192x512, .f32⟩
  | .hbm, ⟨57, _⟩ => ⟨S4x8192x512, .f32⟩
  | .hbm, ⟨58, _⟩ => ⟨S4x8192x512, .f32⟩
  | .hbm, ⟨59, _⟩ => ⟨S4x8192x512, .f32⟩
  | .hbm, ⟨60, _⟩ => ⟨S_, .f32⟩
  | .hbm, ⟨61, _⟩ => ⟨S4x8192x512, .f32⟩
  | .hbm, ⟨62, _⟩ => ⟨S4x8192x512, .f32⟩
  | .hbm, ⟨63, _⟩ => ⟨S4x8192x512, .f32⟩
  | .hbm, ⟨64, _⟩ => ⟨S4x8192x512, .f32⟩
  | .hbm, ⟨65, _⟩ => ⟨S_, .f32⟩
  | .hbm, ⟨66, _⟩ => ⟨S4x8192x512, .f32⟩
  | .hbm, ⟨67, _⟩ => ⟨S4x8192x512, .f32⟩
  | .hbm, ⟨68, _⟩ => ⟨S_, .f32⟩
  | .hbm, ⟨69, _⟩ => ⟨S4x8192x512, .f32⟩
  | .hbm, ⟨70, _⟩ => ⟨S4x8192x512, .f32⟩
  | .hbm, ⟨71, _⟩ => ⟨S4x8192x512, .f32⟩
  | .hbm, ⟨72, _⟩ => ⟨S4x10240x512, .f32⟩
  | .hbm, ⟨73, _⟩ => ⟨S4x2048x512, .f32⟩
  | .hbm, ⟨74, _⟩ => ⟨S4x10240x512, .f32⟩
  | .hbm, ⟨75, _⟩ => ⟨S4x2048x512, .f32⟩
  | .hbm, ⟨76, _⟩ => ⟨S4x8222x512, .f32⟩
  | .hbm, ⟨77, _⟩ => ⟨S4x30x512, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_cst_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== Kernel3.lean ====
abbrev S128x1x1024 : Shape := ⟨3, ![128, 1, 1024]⟩
abbrev S128x2048x8x64 : Shape := ⟨4, ![128, 2048, 8, 64]⟩
abbrev S128x30x512 : Shape := ⟨3, ![128, 30, 512]⟩
abbrev S4x1024 : Shape := ⟨2, ![4, 1024]⟩
abbrev S128x1024 : Shape := ⟨2, ![128, 1024]⟩
abbrev S32x8 : Shape := ⟨2, ![32, 8]⟩
abbrev S1024x6144 : Shape := ⟨2, ![1024, 6144]⟩
abbrev S6144 : Shape := ⟨1, ![6144]⟩
abbrev S1024 : Shape := ⟨1, ![1024]⟩
abbrev S1024x2560 : Shape := ⟨2, ![1024, 2560]⟩
abbrev S31x512 : Shape := ⟨2, ![31, 512]⟩
abbrev S512 : Shape := ⟨1, ![512]⟩
abbrev S2048 : Shape := ⟨1, ![2048]⟩
abbrev S_ : Shape := ⟨0, ![]⟩
abbrev S2048x1 : Shape := ⟨2, ![2048, 1]⟩
abbrev S2048x8 : Shape := ⟨2, ![2048, 8]⟩
abbrev S8x2048 : Shape := ⟨2, ![8, 2048]⟩
abbrev S1x2048 : Shape := ⟨2, ![1, 2048]⟩
abbrev S8x128 : Shape := ⟨2, ![8, 128]⟩
abbrev S1x8 : Shape := ⟨2, ![1, 8]⟩
abbrev S8 : Shape := ⟨1, ![8]⟩
abbrev S1 : Shape := ⟨1, ![1]⟩
abbrev S1x128x1024 : Shape := ⟨3, ![1, 128, 1024]⟩
abbrev S132x1024 : Shape := ⟨2, ![132, 1024]⟩
abbrev S136x1024 : Shape := ⟨2, ![136, 1024]⟩
abbrev S1x6144 : Shape := ⟨2, ![1, 6144]⟩
abbrev S136x6144 : Shape := ⟨2, ![136, 6144]⟩
abbrev S1024x1024 : Shape := ⟨2, ![1024, 1024]⟩
abbrev S1x1024 : Shape := ⟨2, ![1, 1024]⟩
abbrev S1x128x512 : Shape := ⟨3, ![1, 128, 512]⟩
abbrev S128 : Shape := ⟨1, ![128]⟩
abbrev S128x1 : Shape := ⟨2, ![128, 1]⟩
abbrev S1024x512 : Shape := ⟨2, ![1024, 512]⟩
abbrev S128x512 : Shape := ⟨2, ![128, 512]⟩
abbrev S128x1x512 : Shape := ⟨3, ![128, 1, 512]⟩
abbrev S128x2048x512 : Shape := ⟨3, ![128, 2048, 512]⟩
abbrev S1x1x512 : Shape := ⟨3, ![1, 1, 512]⟩
abbrev S1x2048x512 : Shape := ⟨3, ![1, 2048, 512]⟩
abbrev S1x512 : Shape := ⟨2, ![1, 512]⟩
abbrev S8x512 : Shape := ⟨2, ![8, 512]⟩
abbrev S2048x512 : Shape := ⟨2, ![2048, 512]⟩
abbrev S8x1 : Shape := ⟨2, ![8, 1]⟩
abbrev S1x2047x512 : Shape := ⟨3, ![1, 2047, 512]⟩
abbrev S2047x512 : Shape := ⟨2, ![2047, 512]⟩
abbrev S128x15360 : Shape := ⟨2, ![128, 15360]⟩
abbrev S128x14848 : Shape := ⟨2, ![128, 14848]⟩

abbrev nBuf : Space → Nat
  | .hbm => 94
  | .vmem => 45
  | .smem => 0
  | _ => 0

abbrev bufTy : (tb : Table) → Fin (tcTables nBuf tb) → BufTy
  | .hbm, ⟨0, _⟩ => ⟨S128x1x1024, .f32⟩
  | .hbm, ⟨1, _⟩ => ⟨S128x2048x8x64, .f32⟩
  | .hbm, ⟨2, _⟩ => ⟨S128x2048x8x64, .f32⟩
  | .hbm, ⟨3, _⟩ => ⟨S128x30x512, .f32⟩
  | .hbm, ⟨4, _⟩ => ⟨S4x1024, .f32⟩
  | .hbm, ⟨5, _⟩ => ⟨S128x1024, .f32⟩
  | .hbm, ⟨6, _⟩ => ⟨S32x8, .f32⟩
  | .hbm, ⟨7, _⟩ => ⟨S1024x6144, .f32⟩
  | .hbm, ⟨8, _⟩ => ⟨S6144, .f32⟩
  | .hbm, ⟨9, _⟩ => ⟨S1024, .f32⟩
  | .hbm, ⟨10, _⟩ => ⟨S1024x2560, .f32⟩
  | .hbm, ⟨11, _⟩ => ⟨S31x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S2048, .f32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048x1, .i32⟩
  | .hbm, ⟨24, _⟩ => ⟨S2048x8, .f32⟩
  | .hbm, ⟨25, _⟩ => ⟨S8x2048, .f32⟩
  | .hbm, ⟨26, _⟩ => ⟨S1x2048, .i1⟩
  | .hbm, ⟨27, _⟩ => ⟨S_, .f32⟩
  | .hbm, ⟨28, _⟩ => ⟨S_, .f32⟩
  | .hbm, ⟨29, _⟩ => ⟨S8x2048, .i1⟩
  | .hbm, ⟨30, _⟩ => ⟨S8x2048, .f32⟩
  | .hbm, ⟨31, _⟩ => ⟨S8x2048, .f32⟩
  | .hbm, ⟨32, _⟩ => ⟨S_, .f32⟩
  | .hbm, ⟨33, _⟩ => ⟨S8x128, .f32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x8, .f32⟩
  | .hbm, ⟨51, _⟩ => ⟨S8, .f32⟩
  | .hbm, ⟨52, _⟩ => ⟨S_, .i32⟩
  | .hbm, ⟨53, _⟩ => ⟨S1, .i32⟩
  | .hbm, ⟨54, _⟩ => ⟨S8x128, .f32⟩
  | .hbm, ⟨55, _⟩ => ⟨S1x2048, .f32⟩
  | .hbm, ⟨56, _⟩ => ⟨S1x128x1024, .f32⟩
  | .hbm, ⟨57, _⟩ => ⟨S1024x2560, .bf16⟩
  | .hbm, ⟨58, _⟩ => ⟨S132x1024, .f32⟩
  | .hbm, ⟨59, _⟩ => ⟨S_, .i32⟩
  | .hbm, ⟨60, _⟩ => ⟨S_, .f32⟩
  | .hbm, ⟨61, _⟩ => ⟨S136x1024, .f32⟩
  | .hbm, ⟨62, _⟩ => ⟨S1x6144, .f32⟩
  | .hbm, ⟨63, _⟩ => ⟨S136x6144, .f32⟩
  | .hbm, ⟨64, _⟩ => ⟨S128x1024, .f32⟩
  | .hbm, ⟨65, _⟩ => ⟨S1x128x1024, .f32⟩
  | .hbm, ⟨66, _⟩ => ⟨S128x1024, .f32⟩
  | .hbm, ⟨67, _⟩ => ⟨S1x128x1024, .f32⟩
  | .hbm, ⟨68, _⟩ => ⟨S1x1024, .f32⟩
  | .hbm, ⟨69, _⟩ => ⟨S1x128x512, .bf16⟩
  | .hbm, ⟨70, _⟩ => ⟨S1x128x512, .bf16⟩
  | .hbm, ⟨71, _⟩ => ⟨S1x128x512, .bf16⟩
  | .hbm, ⟨72, _⟩ => ⟨S1x128x512, .f32⟩
  | .hbm, ⟨73, _⟩ => ⟨S1x128x512, .f32⟩
  | .hbm, ⟨74, _⟩ => ⟨S1x128x512, .f32⟩
  | .hbm, ⟨75, _⟩ => ⟨S1x128x512, .f32⟩
  | .hbm, ⟨76, _⟩ => ⟨S128x1x512, .f32⟩
  | .hbm, ⟨77, _⟩ => ⟨S128x1x512, .f32⟩
  | .hbm, ⟨78, _⟩ => ⟨S128x1x512, .f32⟩
  | .hbm, ⟨79, _⟩ => ⟨S128x2048x512, .f32⟩
  | .hbm, ⟨80, _⟩ => ⟨S128x2048x512, .f32⟩
  | .hbm, ⟨81, _⟩ => ⟨S128x1x512, .f32⟩
  | .hbm, ⟨82, _⟩ => ⟨S128x2048x512, .f32⟩
  | .hbm, ⟨83, _⟩ => ⟨S128x2048x512, .f32⟩
  | .hbm, ⟨84, _⟩ => ⟨S128x512, .f32⟩
  | .hbm, ⟨85, _⟩ => ⟨S128x15360, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S128x512, .bf16⟩
  | .hbm, ⟨90, _⟩ => ⟨S128x15360, .f32⟩
  | .hbm, ⟨91, _⟩ => ⟨S128x30x512, .f32⟩
  | .hbm, ⟨92, _⟩ => ⟨S128x2048x8x64, .f32⟩
  | .hbm, ⟨93, _⟩ => ⟨S128x2048x8x64, .f32⟩
  | .local _ .vmem, ⟨0, _⟩ => ⟨S136x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S136x1024, .f32⟩
  | .local _ .vmem, ⟨6, _⟩ => ⟨S136x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x1024, .f32⟩
  | .local _ .vmem, ⟨11, _⟩ => ⟨S1024x2560, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S1x2048x512, .f32⟩
  | .local _ .vmem, ⟨25, _⟩ => ⟨S1x2048x512, .f32⟩
  | .local _ .vmem, ⟨26, _⟩ => ⟨S1x2048x512, .f32⟩
  | .local _ .vmem, ⟨27, _⟩ => ⟨S1x2048x512, .f32⟩
  | .local _ .vmem, ⟨28, _⟩ => ⟨S8x2048, .f32⟩
  | .local _ .vmem, ⟨29, _⟩ => ⟨S1x2048, .f32⟩
  | .local _ .vmem, ⟨30, _⟩ => ⟨S8x128, .f32⟩
  | .local _ .vmem, ⟨31, _⟩ => ⟨S1x1x512, .f32⟩
  | .local _ .vmem, ⟨32, _⟩ => ⟨S1x1x512, .f32⟩
  | .local _ .vmem, ⟨33, _⟩ => ⟨S1x2048x512, .f32⟩
  | .local _ .vmem, ⟨34, _⟩ => ⟨S1x2048x512, .f32⟩
  | .local _ .vmem, ⟨35, _⟩ => ⟨S1x2048x512, .f32⟩
  | .local _ .vmem, ⟨36, _⟩ => ⟨S1x2048x512, .f32⟩
  | .local _ .vmem, ⟨37, _⟩ => ⟨S128x15360, .f32⟩
  | .local _ .vmem, ⟨38, _⟩ => ⟨S128x512, .f32⟩
  | .local _ .vmem, ⟨39, _⟩ => ⟨S31x512, .f32⟩
  | .local _ .vmem, ⟨40, _⟩ => ⟨S1x512, .f32⟩
  | .local _ .vmem, ⟨41, _⟩ => ⟨S1x512, .f32⟩
  | .local _ .vmem, ⟨42, _⟩ => ⟨S1x512, .f32⟩
  | .local _ .vmem, ⟨43, _⟩ => ⟨S128x512, .bf16⟩
  | .local _ .vmem, ⟨44, _⟩ => ⟨S128x15360, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_c_1 : Ref sig .tc := ⟨.hbm, 17, rfl⟩
abbrev main_cst : Ref sig .tc := ⟨.hbm, 18, rfl⟩
abbrev main_c_2 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v7 : Ref sig .tc := ⟨.hbm, 31, rfl⟩
abbrev main_cst_4 : Ref sig .tc := ⟨.hbm, 32, rfl⟩
abbrev main_v8 : Ref sig .tc := ⟨.hbm, 33, rfl⟩
abbrev main_c_5 : Ref sig .tc := ⟨.hbm, 34, rfl⟩
abbrev main_c_6 : Ref sig .tc := ⟨.hbm, 35, rfl⟩
abbrev main_v9 : Ref sig .tc := ⟨.hbm, 36, rfl⟩
abbrev main_c_7 : Ref sig .tc := ⟨.hbm, 37, rfl⟩
abbrev main_c_8 : Ref sig .tc := ⟨.hbm, 38, rfl⟩
abbrev main_v10 : Ref sig .tc := ⟨.hbm, 39, rfl⟩
abbrev main_c_9 : Ref sig .tc := ⟨.hbm, 40, rfl⟩
abbrev main_v11 : Ref sig .tc := ⟨.hbm, 41, rfl⟩
abbrev main_c_10 : Ref sig .tc := ⟨.hbm, 42, rfl⟩
abbrev main_c_11 : Ref sig .tc := ⟨.hbm, 43, rfl⟩
abbrev main_v12 : Ref sig .tc := ⟨.hbm, 44, rfl⟩
abbrev main_c_12 : Ref sig .tc := ⟨.hbm, 45, rfl⟩
abbrev main_c_13 : Ref sig .tc := ⟨.hbm, 46, rfl⟩
abbrev main_v13 : Ref sig .tc := ⟨.hbm, 47, rfl⟩
abbrev main_c_14 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_c_15 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_c_16 : Ref sig .tc := ⟨.hbm, 59, rfl⟩
abbrev main_call1_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31_0 : Ref sig .tc := ⟨.hbm, 69, rfl⟩
abbrev main_v31_1 : Ref sig .tc := ⟨.hbm, 70, rfl⟩
abbrev main_v31_2 : Ref sig .tc := ⟨.hbm, 71, rfl⟩
abbrev main_v31_3 : Ref sig .tc := ⟨.hbm, 72, rfl⟩
abbrev main_v31_4 : Ref sig .tc := ⟨.hbm, 73, rfl⟩
abbrev main_v31_5 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38_0 : Ref sig .tc := ⟨.hbm, 81, rfl⟩
abbrev main_v38_1 : Ref sig .tc := ⟨.hbm, 82, rfl⟩
abbrev main_v38_2 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44_0 : Ref sig .tc := ⟨.hbm, 89, rfl⟩
abbrev main_v44_1 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg8_1 : Ref sig .tc := ⟨.vmem, 32, rfl⟩
abbrev cc2_stg9_0 : Ref sig .tc := ⟨.vmem, 33, rfl⟩
abbrev cc2_stg9_1 : Ref sig .tc := ⟨.vmem, 34, rfl⟩
abbrev cc2_stg10_0 : Ref sig .tc := ⟨.vmem, 35, rfl⟩
abbrev cc2_stg10_1 : Ref sig .tc := ⟨.vmem, 36, rfl⟩
abbrev cc3_stg0_0 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem8_1 : DmaSem sig := 32
abbrev cc2_sem9_0 : DmaSem sig := 33
abbrev cc2_sem9_1 : DmaSem sig := 34
abbrev cc2_sem10_0 : DmaSem sig := 35
abbrev cc2_sem10_1 : DmaSem sig := 36
abbrev cc3_sem0_0 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

abbrev stage1_0 : Fin 1 → Memref sig .tc .vmem S1x128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x2560 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true, true]

abbrev stage1_6 : Fin 1 → Memref sig .tc .vmem S1x128x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev stage1_7 : Fin 1 → Memref sig .tc .vmem S1x128x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, true]

abbrev stage1_8 : Fin 1 → Memref sig .tc .vmem S1x128x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![true, true]

abbrev stage1_9 : Fin 1 → Memref sig .tc .vmem S1x128x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![true, true]

abbrev stage1_10 : Fin 1 → Memref sig .tc .vmem S1x128x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![true, true]

abbrev grid2 : Pipeline.Grid := ⟨1, ![128], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x2048x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S8x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S8x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1x1x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x2048x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x2048x512 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := .none

abbrev stage3_0 : Fin 1 → Memref sig .tc .vmem S128x15360 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S31x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S128x512 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S128x15360 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
-- ==== Reference3Ideal.lean ====
abbrev S128x1x1024 : Shape := ⟨3, ![128, 1, 1024]⟩
abbrev S128x2048x8x64 : Shape := ⟨4, ![128, 2048, 8, 64]⟩
abbrev S128x30x512 : Shape := ⟨3, ![128, 30, 512]⟩
abbrev S4x1024 : Shape := ⟨2, ![4, 1024]⟩
abbrev S128x1024 : Shape := ⟨2, ![128, 1024]⟩
abbrev S32x8 : Shape := ⟨2, ![32, 8]⟩
abbrev S1024x6144 : Shape := ⟨2, ![1024, 6144]⟩
abbrev S6144 : Shape := ⟨1, ![6144]⟩
abbrev S1024 : Shape := ⟨1, ![1024]⟩
abbrev S1024x2560 : Shape := ⟨2, ![1024, 2560]⟩
abbrev S31x512 : Shape := ⟨2, ![31, 512]⟩
abbrev S512 : Shape := ⟨1, ![512]⟩
abbrev S_ : Shape := ⟨0, ![]⟩
abbrev S128x6144 : Shape := ⟨2, ![128, 6144]⟩
abbrev S1x6144 : Shape := ⟨2, ![1, 6144]⟩
abbrev S128x1x6144 : Shape := ⟨3, ![128, 1, 6144]⟩
abbrev S128x1 : Shape := ⟨2, ![128, 1]⟩
abbrev S128x1x1 : Shape := ⟨3, ![128, 1, 1]⟩
abbrev S1x1x1024 : Shape := ⟨3, ![1, 1, 1024]⟩
abbrev S128x1x2560 : Shape := ⟨3, ![128, 1, 2560]⟩
abbrev S128x1x512 : Shape := ⟨3, ![128, 1, 512]⟩
abbrev S128x1x8x64 : Shape := ⟨4, ![128, 1, 8, 64]⟩
abbrev S128x2049x8x64 : Shape := ⟨4, ![128, 2049, 8, 64]⟩
abbrev S128x31x512 : Shape := ⟨3, ![128, 31, 512]⟩

abbrev nBuf : Space → Nat
  | .hbm => 79
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x2048x8x64, .f32⟩
  | .hbm, ⟨2, _⟩ => ⟨S128x2048x8x64, .f32⟩
  | .hbm, ⟨3, _⟩ => ⟨S128x30x512, .f32⟩
  | .hbm, ⟨4, _⟩ => ⟨S4x1024, .f32⟩
  | .hbm, ⟨5, _⟩ => ⟨S128x1024, .f32⟩
  | .hbm, ⟨6, _⟩ => ⟨S32x8, .f32⟩
  | .hbm, ⟨7, _⟩ => ⟨S1024x6144, .f32⟩
  | .hbm, ⟨8, _⟩ => ⟨S6144, .f32⟩
  | .hbm, ⟨9, _⟩ => ⟨S1024, .f32⟩
  | .hbm, ⟨10, _⟩ => ⟨S1024x2560, .f32⟩
  | .hbm, ⟨11, _⟩ => ⟨S31x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x6144, .f32⟩
  | .hbm, ⟨25, _⟩ => ⟨S1x6144, .f32⟩
  | .hbm, ⟨26, _⟩ => ⟨S128x6144, .f32⟩
  | .hbm, ⟨27, _⟩ => ⟨S128x6144, .f32⟩
  | .hbm, ⟨28, _⟩ => ⟨S128x1x6144, .f32⟩
  | .hbm, ⟨29, _⟩ => ⟨S128x1x1024, .f32⟩
  | .hbm, ⟨30, _⟩ => ⟨S128x1x1024, .f32⟩
  | .hbm, ⟨31, _⟩ => ⟨S128x1x1024, .f32⟩
  | .hbm, ⟨32, _⟩ => ⟨S128x1x1024, .f32⟩
  | .hbm, ⟨33, _⟩ => ⟨S128x1x1024, .f32⟩
  | .hbm, ⟨34, _⟩ => ⟨S128x1x1024, .f32⟩
  | .hbm, ⟨35, _⟩ => ⟨S128x1x1024, .f32⟩
  | .hbm, ⟨36, _⟩ => ⟨S_, .f32⟩
  | .hbm, ⟨37, _⟩ => ⟨S128x1, .f32⟩
  | .hbm, ⟨38, _⟩ => ⟨S128x1x1, .f32⟩
  | .hbm, ⟨39, _⟩ => ⟨S_, .f32⟩
  | .hbm, ⟨40, _⟩ => ⟨S128x1x1, .f32⟩
  | .hbm, ⟨41, _⟩ => ⟨S128x1x1, .f32⟩
  | .hbm, ⟨42, _⟩ => ⟨S_, .f32⟩
  | .hbm, ⟨43, _⟩ => ⟨S128x1x1, .f32⟩
  | .hbm, ⟨44, _⟩ => ⟨S128x1x1, .f32⟩
  | .hbm, ⟨45, _⟩ => ⟨S128x1x1, .f32⟩
  | .hbm, ⟨46, _⟩ => ⟨S128x1x1024, .f32⟩
  | .hbm, ⟨47, _⟩ => ⟨S128x1x1024, .f32⟩
  | .hbm, ⟨48, _⟩ => ⟨S1x1x1024, .f32⟩
  | .hbm, ⟨49, _⟩ => ⟨S128x1x1024, .f32⟩
  | .hbm, ⟨50, _⟩ => ⟨S128x1x1024, .f32⟩
  | .hbm, ⟨51, _⟩ => ⟨S_, .f32⟩
  | .hbm, ⟨52, _⟩ => ⟨S128x1x1024, .f32⟩
  | .hbm, ⟨53, _⟩ => ⟨S128x1x1024, .f32⟩
  | .hbm, ⟨54, _⟩ => ⟨S128x1x1024, .f32⟩
  | .hbm, ⟨55, _⟩ => ⟨S128x1x1024, .f32⟩
  | .hbm, ⟨56, _⟩ => ⟨S128x1x2560, .f32⟩
  | .hbm, ⟨57, _⟩ => ⟨S128x1x512, .f32⟩
  | .hbm, ⟨58, _⟩ => ⟨S128x1x512, .f32⟩
  | .hbm, ⟨59, _⟩ => ⟨S128x1x512, .f32⟩
  | .hbm, ⟨60, _⟩ => ⟨S128x1x512, .f32⟩
  | .hbm, ⟨61, _⟩ => ⟨S128x1x512, .f32⟩
  | .hbm, ⟨62, _⟩ => ⟨S128x1x8x64, .f32⟩
  | .hbm, ⟨63, _⟩ => ⟨S128x1x8x64, .f32⟩
  | .hbm, ⟨64, _⟩ => ⟨S128x2049x8x64, .f32⟩
  | .hbm, ⟨65, _⟩ => ⟨S128x2048x8x64, .f32⟩
  | .hbm, ⟨66, _⟩ => ⟨S128x2049x8x64, .f32⟩
  | .hbm, ⟨67, _⟩ => ⟨S128x2048x8x64, .f32⟩
  | .hbm, ⟨68, _⟩ => ⟨S128x1x512, .f32⟩
  | .hbm, ⟨69, _⟩ => ⟨S128x1x512, .f32⟩
  | .hbm, ⟨70, _⟩ => ⟨S_, .f32⟩
  | .hbm, ⟨71, _⟩ => ⟨S128x1x512, .f32⟩
  | .hbm, ⟨72, _⟩ => ⟨S128x1x512, .f32⟩
  | .hbm, ⟨73, _⟩ => ⟨S_, .f32⟩
  | .hbm, ⟨74, _⟩ => ⟨S128x1x512, .f32⟩
  | .hbm, ⟨75, _⟩ => ⟨S128x1x512, .f32⟩
  | .hbm, ⟨76, _⟩ => ⟨S128x1x512, .f32⟩
  | .hbm, ⟨77, _⟩ => ⟨S128x31x512, .f32⟩
  | .hbm, ⟨78, _⟩ => ⟨S128x30x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_cst_0 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_3 : Ref sig .tc := ⟨.hbm, 70, rfl⟩
abbrev main_v43 : Ref sig .tc := ⟨.hbm, 71, rfl⟩
abbrev main_v44 : Ref sig .tc := ⟨.hbm, 72, rfl⟩
abbrev main_cst_4 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩

abbrev nD : Nat := 1
abbrev τ : Topo := Topo.v7x

variable {F : FTy → Type} [FloatOps F]
-- ==== Kernel4.lean ====
abbrev S73728x1024 : Shape := ⟨2, ![73728, 1024]⟩
abbrev S288 : Shape := ⟨1, ![288]⟩
abbrev S1 : Shape := ⟨1, ![1]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S73728x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S73728x1024 : Shape := ⟨2, ![73728, 1024]⟩
abbrev S288 : Shape := ⟨1, ![288]⟩
abbrev S1 : Shape := ⟨1, ![1]⟩
abbrev S32x1024x512 : Shape := ⟨3, ![32, 1024, 512]⟩
abbrev S32x512x1024 : Shape := ⟨3, ![32, 512, 1024]⟩
abbrev S288x256x1024 : Shape := ⟨3, ![288, 256, 1024]⟩
abbrev S_ : Shape := ⟨0, ![]⟩
abbrev S288x1 : Shape := ⟨2, ![288, 1]⟩
abbrev S288x1024x512 : Shape := ⟨3, ![288, 1024, 512]⟩
abbrev S288x512x1024 : Shape := ⟨3, ![288, 512, 1024]⟩
abbrev S288x256x512 : Shape := ⟨3, ![288, 256, 512]⟩

abbrev nBuf : Space → Nat
  | .hbm => 48
  | .vmem => 0
  | .smem => 0
  | _ => 0

abbrev bufTy : (tb : Table) → Fin (tcTables nBuf tb) → BufTy
  | .hbm, ⟨0, _⟩ => ⟨S73728x1024, .f32⟩
  | .hbm, ⟨1, _⟩ => ⟨S288, .i32⟩
  | .hbm, ⟨2, _⟩ => ⟨S1, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S288x256x1024, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S288x1, .i32⟩
  | .hbm, ⟨15, _⟩ => ⟨S288x1024x512, .f32⟩
  | .hbm, ⟨16, _⟩ => ⟨S_, .i32⟩
  | .hbm, ⟨17, _⟩ => ⟨S288, .i32⟩
  | .hbm, ⟨18, _⟩ => ⟨S288, .i1⟩
  | .hbm, ⟨19, _⟩ => ⟨S_, .i32⟩
  | .hbm, ⟨20, _⟩ => ⟨S288, .i32⟩
  | .hbm, ⟨21, _⟩ => ⟨S288, .i32⟩
  | .hbm, ⟨22, _⟩ => ⟨S288, .i32⟩
  | .hbm, ⟨23, _⟩ => ⟨S288x1, .i32⟩
  | .hbm, ⟨24, _⟩ => ⟨S288x1024x512, .f32⟩
  | .hbm, ⟨25, _⟩ => ⟨S_, .i32⟩
  | .hbm, ⟨26, _⟩ => ⟨S288, .i32⟩
  | .hbm, ⟨27, _⟩ => ⟨S288, .i1⟩
  | .hbm, ⟨28, _⟩ => ⟨S_, .i32⟩
  | .hbm, ⟨29, _⟩ => ⟨S288, .i32⟩
  | .hbm, ⟨30, _⟩ => ⟨S288, .i32⟩
  | .hbm, ⟨31, _⟩ => ⟨S288, .i32⟩
  | .hbm, ⟨32, _⟩ => ⟨S288x1, .i32⟩
  | .hbm, ⟨33, _⟩ => ⟨S288x512x1024, .f32⟩
  | .hbm, ⟨34, _⟩ => ⟨S288x256x512, .f32⟩
  | .hbm, ⟨35, _⟩ => ⟨S288x256x512, .f32⟩
  | .hbm, ⟨36, _⟩ => ⟨S288x256x512, .f32⟩
  | .hbm, ⟨37, _⟩ => ⟨S_, .f32⟩
  | .hbm, ⟨38, _⟩ => ⟨S288x256x512, .f32⟩
  | .hbm, ⟨39, _⟩ => ⟨S288x256x512, .f32⟩
  | .hbm, ⟨40, _⟩ => ⟨S_, .f32⟩
  | .hbm, ⟨41, _⟩ => ⟨S288x256x512, .f32⟩
  | .hbm, ⟨42, _⟩ => ⟨S288x256x512, .f32⟩
  | .hbm, ⟨43, _⟩ => ⟨S288x256x512, .f32⟩
  | .hbm, ⟨44, _⟩ => ⟨S288x256x512, .f32⟩
  | .hbm, ⟨45, _⟩ => ⟨S288x256x512, .f32⟩
  | .hbm, ⟨46, _⟩ => ⟨S288x256x1024, .f32⟩
  | .hbm, ⟨47, _⟩ => ⟨S73728x1024, .f32⟩
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel5.lean ====
abbrev S73728x1024 : Shape := ⟨2, ![73728, 1024]⟩
abbrev S32768x4 : Shape := ⟨2, ![32768, 4]⟩
abbrev S32 : Shape := ⟨1, ![32]⟩
abbrev S4x8192x1024 : Shape := ⟨3, ![4, 8192, 1024]⟩
abbrev S4x1x1024 : Shape := ⟨3, ![4, 1, 1024]⟩
abbrev S4x8192x128 : Shape := ⟨3, ![4, 8192, 128]⟩
abbrev S1024 : Shape := ⟨1, ![1024]⟩
abbrev S128x1x1024 : Shape := ⟨3, ![128, 1, 1024]⟩
abbrev S1x1024 : Shape := ⟨2, ![1, 1024]⟩
abbrev S1x1x1024 : Shape := ⟨3, ![1, 1, 1024]⟩
abbrev S1x256x1024 : Shape := ⟨3, ![1, 256, 1024]⟩
abbrev S1x256x128 : Shape := ⟨3, ![1, 256, 128]⟩
abbrev S2x256x1024 : Shape := ⟨3, ![2, 256, 1024]⟩
abbrev S_ : Shape := ⟨0, ![]⟩
abbrev S1x1x1 : Shape := ⟨3, ![1, 1, 1]⟩
abbrev S1 : Shape := ⟨1, ![1]⟩
abbrev S256x128 : Shape := ⟨2, ![256, 128]⟩
abbrev S256x1 : Shape := ⟨2, ![256, 1]⟩
abbrev S256x1024 : Shape := ⟨2, ![256, 1024]⟩
abbrev S256 : Shape := ⟨1, ![256]⟩

abbrev nBuf : Space → Nat
  | .hbm => 9
  | .vmem => 10
  | .smem => 3
  | _ => 0

abbrev bufTy : (tb : Table) → Fin (tcTables nBuf tb) → BufTy
  | .hbm, ⟨0, _⟩ => ⟨S73728x1024, .f32⟩
  | .hbm, ⟨1, _⟩ => ⟨S32768x4, .i32⟩
  | .hbm, ⟨2, _⟩ => ⟨S4x8192x1024, .f32⟩
  | .hbm, ⟨3, _⟩ => ⟨S4x1x1024, .f32⟩
  | .hbm, ⟨4, _⟩ => ⟨S4x8192x128, .f32⟩
  | .hbm, ⟨5, _⟩ => ⟨S1024, .f32⟩
  | .hbm, ⟨6, _⟩ => ⟨S128x1x1024, .i32⟩
  | .hbm, ⟨7, _⟩ => ⟨S1x1024, .f32⟩
  | .hbm, ⟨8, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x256x128, .f32⟩
  | .local _ .vmem, ⟨5, _⟩ => ⟨S1x256x128, .f32⟩
  | .local _ .vmem, ⟨6, _⟩ => ⟨S1x1024, .f32⟩
  | .local _ .vmem, ⟨7, _⟩ => ⟨S1x256x1024, .f32⟩
  | .local _ .vmem, ⟨8, _⟩ => ⟨S1x256x1024, .f32⟩
  | .local _ .vmem, ⟨9, _⟩ => ⟨S2x256x1024, .f32⟩
  | .local _ .smem, ⟨0, _⟩ => ⟨S32, .i32⟩
  | .local _ .smem, ⟨1, _⟩ => ⟨S1x1x1024, .i32⟩
  | .local _ .smem, ⟨2, _⟩ => ⟨S1x1x1024, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg2 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 1, rfl⟩
abbrev cc0_stg0_1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 3 → Nat :=
  let c0_26 : Index := 0#32
  let c0_27 : Index := 0#32
  let c4_i32 : BitVec 32 := 4#32
  let c0_i32 : BitVec 32 := 0#32
  let c1_i32 : BitVec 32 := 1#32
  let arg12 : BitVec 32 := Scf.iv c0_i32 c1_i32 k0_t1
  let v39 : BitVec 32 := Scalar.muli c4_i32 arg12
  let c0_i32_25 : BitVec 32 := 0#32
  let v40 : BitVec 32 := Scalar.addi v39 c0_i32_25
  let v41 : Index := Scalar.indexCast v40
  ![0, 0, v41.toNat]
def k0_off2 (v42 : BitVec 32) : Fin 1 → Nat :=
  let v43 : Index := Scalar.indexCast v42
  ![v43.toNat]

def k0_chk1 (v42 : BitVec 32) : Prop :=
  (∀ a, (k0_off2 v42) a + S1.size a ≤ S32.size a)
theorem k0_off2_inb : ∀ (v42 : BitVec 32) (k0_hw1 : k0_chk1 v42), ∀ a, (k0_off2 v42) a + S1.size a ≤ S32.size a := fun v42 k0_hw1 => k0_hw1

def k0_off3 (k0_t1 : Fin k0_t1_loop.trips) : Fin 3 → Nat :=
  let c0_30 : Index := 0#32
  let c0_31 : Index := 0#32
  let c4_i32_28 : BitVec 32 := 4#32
  let c0_i32 : BitVec 32 := 0#32
  let c1_i32 : BitVec 32 := 1#32
  let arg12 : BitVec 32 := Scf.iv c0_i32 c1_i32 k0_t1
  let v45 : BitVec 32 := Scalar.muli c4_i32_28 arg12
  let c2_i32 : BitVec 32 := 2#32
  let v46 : BitVec 32 := Scalar.addi v45 c2_i32
  let c0_i32_29 : BitVec 32 := 0#32
  let v47 : BitVec 32 := Scalar.addi v46 c0_i32_29
  let v48 : Index := Scalar.indexCast v47
  ![0, 0, v48.toNat]
def k0_off4 (k0_t1 : Fin k0_t1_loop.trips) : Fin 3 → Nat :=
  let c0_34 : Index := 0#32
  let c0_35 : Index := 0#32
  let c4_i32_32 : BitVec 32 := 4#32
  let c0_i32 : BitVec 32 := 0#32
  let c1_i32 : BitVec 32 := 1#32
  let arg12 : BitVec 32 := Scf.iv c0_i32 c1_i32 k0_t1
  let v51 : BitVec 32 := Scalar.muli c4_i32_32 arg12
  let c1_i32_33 : BitVec 32 := 1#32
  let v52 : BitVec 32 := Scalar.addi v51 c1_i32_33
  let v53 : Index := Scalar.indexCast v52
  ![0, 0, v53.toNat]
def k0_off5 (v54 : BitVec 32) : Fin 1 → Nat :=
  let v55 : Index := Scalar.indexCast v54
  ![v55.toNat]

def k0_chk2 (v54 : BitVec 32) : Prop :=
  (∀ a, (k0_off5 v54) a + S1.size a ≤ S32.size a)
theorem k0_off5_inb : ∀ (v54 : BitVec 32) (k0_hw2 : k0_chk2 v54), ∀ a, (k0_off5 v54) a + S1.size a ≤ S32.size a := fun v54 k0_hw2 => k0_hw2

def k0_off6 (k0_t1 : Fin k0_t1_loop.trips) : Fin 3 → Nat :=
  let c0_39 : Index := 0#32
  let c0_40 : Index := 0#32
  let c4_i32_36 : BitVec 32 := 4#32
  let c0_i32 : BitVec 32 := 0#32
  let c1_i32 : BitVec 32 := 1#32
  let arg12 : BitVec 32 := Scf.iv c0_i32 c1_i32 k0_t1
  let v57 : BitVec 32 := Scalar.muli c4_i32_36 arg12
  let c2_i32_37 : BitVec 32 := 2#32
  let v58 : BitVec 32 := Scalar.addi v57 c2_i32_37
  let c1_i32_38 : BitVec 32 := 1#32
  let v59 : BitVec 32 := Scalar.addi v58 c1_i32_38
  let v60 : Index := Scalar.indexCast v59
  ![0, 0, v60.toNat]
def k0_off7 (k0_t1 : Fin k0_t1_loop.trips) : Fin 3 → Nat :=
  let c0_i32_41 : BitVec 32 := 0#32
  let c0_i32 : BitVec 32 := 0#32
  let c1_i32 : BitVec 32 := 1#32
  let arg12 : BitVec 32 := Scf.iv c0_i32 c1_i32 k0_t1
  let c0_i32_42 : BitVec 32 := 0#32
  ![0, arg12.toNat, 0]
def k0_off8 (v44 : BitVec 32) (v49 : BitVec 32) : Fin 2 → Nat :=
  let v50 : BitVec 32 := Scalar.addi v44 v49
  let c0_i32_43 : BitVec 32 := 0#32
  ![v50.toNat, 0]

def k0_chk3 (v44 : BitVec 32) (v49 : BitVec 32) : Prop :=
  (∀ a, (k0_off8 v44 v49) a + S1x1024.size a ≤ S73728x1024.size a)
theorem k0_off8_inb : ∀ (v44 : BitVec 32) (v49 : BitVec 32) (k0_hw3 : k0_chk3 v44 v49), ∀ a, (k0_off8 v44 v49) a + S1x1024.size a ≤ S73728x1024.size a := fun v44 v49 k0_hw3 => k0_hw3

def k0_off9 (k0_t1 : Fin k0_t1_loop.trips) : Fin 3 → Nat :=
  let c1_i32_44 : BitVec 32 := 1#32
  let c0_i32 : BitVec 32 := 0#32
  let c1_i32 : BitVec 32 := 1#32
  let arg12 : BitVec 32 := Scf.iv c0_i32 c1_i32 k0_t1
  let c0_i32_45 : BitVec 32 := 0#32
  ![1, arg12.toNat, 0]
def k0_off10 (v56 : BitVec 32) (v61 : BitVec 32) : Fin 2 → Nat :=
  let v62 : BitVec 32 := Scalar.addi v56 v61
  let c0_i32_46 : BitVec 32 := 0#32
  ![v62.toNat, 0]

def k0_chk4 (v56 : BitVec 32) (v61 : BitVec 32) : Prop :=
  (∀ a, (k0_off10 v56 v61) a + S1x1024.size a ≤ S73728x1024.size a)
theorem k0_off10_inb : ∀ (v56 : BitVec 32) (v61 : BitVec 32) (k0_hw4 : k0_chk4 v56 v61), ∀ a, (k0_off10 v56 v61) a + S1x1024.size a ≤ S73728x1024.size a := fun v56 v61 k0_hw4 => k0_hw4

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off11 (k0_t2 : Fin k0_t2_loop.trips) : Fin 3 → Nat :=
  let c0_26 : Index := 0#32
  let c0_27 : Index := 0#32
  let c4_i32 : BitVec 32 := 4#32
  let c0_i32_1 : BitVec 32 := 0#32
  let c1_i32_3 : BitVec 32 := 1#32
  let arg12 : BitVec 32 := Scf.iv c0_i32_1 c1_i32_3 k0_t2
  let v39 : BitVec 32 := Scalar.muli c4_i32 arg12
  let c0_i32_25 : BitVec 32 := 0#32
  let v40 : BitVec 32 := Scalar.addi v39 c0_i32_25
  let v41 : Index := Scalar.indexCast v40
  ![0, 0, v41.toNat]
def k0_off12 (v42 : BitVec 32) : Fin 1 → Nat :=
  let v43 : Index := Scalar.indexCast v42
  ![v43.toNat]

def k0_chk5 (v42 : BitVec 32) : Prop :=
  (∀ a, (k0_off12 v42) a + S1.size a ≤ S32.size a)
theorem k0_off12_inb : ∀ (v42 : BitVec 32) (k0_hw5 : k0_chk5 v42), ∀ a, (k0_off12 v42) a + S1.size a ≤ S32.size a := fun v42 k0_hw5 => k0_hw5

def k0_off13 (k0_t2 : Fin k0_t2_loop.trips) : Fin 3 → Nat :=
  let c0_30 : Index := 0#32
  let c0_31 : Index := 0#32
  let c4_i32_28 : BitVec 32 := 4#32
  let c0_i32_1 : BitVec 32 := 0#32
  let c1_i32_3 : BitVec 32 := 1#32
  let arg12 : BitVec 32 := Scf.iv c0_i32_1 c1_i32_3 k0_t2
  let v45 : BitVec 32 := Scalar.muli c4_i32_28 arg12
  let c2_i32 : BitVec 32 := 2#32
  let v46 : BitVec 32 := Scalar.addi v45 c2_i32
  let c0_i32_29 : BitVec 32 := 0#32
  let v47 : BitVec 32 := Scalar.addi v46 c0_i32_29
  let v48 : Index := Scalar.indexCast v47
  ![0, 0, v48.toNat]
def k0_off14 (k0_t2 : Fin k0_t2_loop.trips) : Fin 3 → Nat :=
  let c0_34 : Index := 0#32
  let c0_35 : Index := 0#32
  let c4_i32_32 : BitVec 32 := 4#32
  let c0_i32_1 : BitVec 32 := 0#32
  let c1_i32_3 : BitVec 32 := 1#32
  let arg12 : BitVec 32 := Scf.iv c0_i32_1 c1_i32_3 k0_t2
  let v51 : BitVec 32 := Scalar.muli c4_i32_32 arg12
  let c1_i32_33 : BitVec 32 := 1#32
  let v52 : BitVec 32 := Scalar.addi v51 c1_i32_33
  let v53 : Index := Scalar.indexCast v52
  ![0, 0, v53.toNat]
def k0_off15 (v54 : BitVec 32) : Fin 1 → Nat :=
  let v55 : Index := Scalar.indexCast v54
  ![v55.toNat]

def k0_chk6 (v54 : BitVec 32) : Prop :=
  (∀ a, (k0_off15 v54) a + S1.size a ≤ S32.size a)
theorem k0_off15_inb : ∀ (v54 : BitVec 32) (k0_hw6 : k0_chk6 v54), ∀ a, (k0_off15 v54) a + S1.size a ≤ S32.size a := fun v54 k0_hw6 => k0_hw6

def k0_off16 (k0_t2 : Fin k0_t2_loop.trips) : Fin 3 → Nat :=
  let c0_39 : Index := 0#32
  let c0_40 : Index := 0#32
  let c4_i32_36 : BitVec 32 := 4#32
  let c0_i32_1 : BitVec 32 := 0#32
  let c1_i32_3 : BitVec 32 := 1#32
  let arg12 : BitVec 32 := Scf.iv c0_i32_1 c1_i32_3 k0_t2
  let v57 : BitVec 32 := Scalar.muli c4_i32_36 arg12
  let c2_i32_37 : BitVec 32 := 2#32
  let v58 : BitVec 32 := Scalar.addi v57 c2_i32_37
  let c1_i32_38 : BitVec 32 := 1#32
  let v59 : BitVec 32 := Scalar.addi v58 c1_i32_38
  let v60 : Index := Scalar.indexCast v59
  ![0, 0, v60.toNat]
def k0_off17 (k0_t2 : Fin k0_t2_loop.trips) : Fin 3 → Nat :=
  let c0_i32_41 : BitVec 32 := 0#32
  let c0_i32_1 : BitVec 32 := 0#32
  let c1_i32_3 : BitVec 32 := 1#32
  let arg12 : BitVec 32 := Scf.iv c0_i32_1 c1_i32_3 k0_t2
  let c0_i32_42 : BitVec 32 := 0#32
  ![0, arg12.toNat, 0]
def k0_off18 (v44 : BitVec 32) (v49 : BitVec 32) : Fin 2 → Nat :=
  let v50 : BitVec 32 := Scalar.addi v44 v49
  let c0_i32_43 : BitVec 32 := 0#32
  ![v50.toNat, 0]

def k0_chk7 (v44 : BitVec 32) (v49 : BitVec 32) : Prop :=
  (∀ a, (k0_off18 v44 v49) a + S1x1024.size a ≤ S73728x1024.size a)
theorem k0_off18_inb : ∀ (v44 : BitVec 32) (v49 : BitVec 32) (k0_hw7 : k0_chk7 v44 v49), ∀ a, (k0_off18 v44 v49) a + S1x1024.size a ≤ S73728x1024.size a := fun v44 v49 k0_hw7 => k0_hw7

def k0_off19 (k0_t2 : Fin k0_t2_loop.trips) : Fin 3 → Nat :=
  let c1_i32_44 : BitVec 32 := 1#32
  let c0_i32_1 : BitVec 32 := 0#32
  let c1_i32_3 : BitVec 32 := 1#32
  let arg12 : BitVec 32 := Scf.iv c0_i32_1 c1_i32_3 k0_t2
  let c0_i32_45 : BitVec 32 := 0#32
  ![1, arg12.toNat, 0]
def k0_off20 (v56 : BitVec 32) (v61 : BitVec 32) : Fin 2 → Nat :=
  let v62 : BitVec 32 := Scalar.addi v56 v61
  let c0_i32_46 : BitVec 32 := 0#32
  ![v62.toNat, 0]

def k0_chk8 (v56 : BitVec 32) (v61 : BitVec 32) : Prop :=
  (∀ a, (k0_off20 v56 v61) a + S1x1024.size a ≤ S73728x1024.size a)
theorem k0_off20_inb : ∀ (v56 : BitVec 32) (v61 : BitVec 32) (k0_hw8 : k0_chk8 v56 v61), ∀ a, (k0_off20 v56 v61) a + S1x1024.size a ≤ S73728x1024.size a := fun v56 v61 k0_hw8 => k0_hw8

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .smem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S73728x1024 : Shape := ⟨2, ![73728, 1024]⟩
abbrev S32768x4 : Shape := ⟨2, ![32768, 4]⟩
abbrev S32 : Shape := ⟨1, ![32]⟩
abbrev S4x8192x1024 : Shape := ⟨3, ![4, 8192, 1024]⟩
abbrev S4x1x1024 : Shape := ⟨3, ![4, 1, 1024]⟩
abbrev S4x8192x128 : Shape := ⟨3, ![4, 8192, 128]⟩
abbrev S1024 : Shape := ⟨1, ![1024]⟩
abbrev S32768x2 : Shape := ⟨2, ![32768, 2]⟩
abbrev S_ : Shape := ⟨0, ![]⟩
abbrev S32768x2x1 : Shape := ⟨3, ![32768, 2, 1]⟩
abbrev S65536 : Shape := ⟨1, ![65536]⟩
abbrev S32768 : Shape := ⟨1, ![32768]⟩
abbrev S4x8192x2 : Shape := ⟨3, ![4, 8192, 2]⟩
abbrev S65536x1 : Shape := ⟨2, ![65536, 1]⟩
abbrev S65536x1024 : Shape := ⟨2, ![65536, 1024]⟩
abbrev S32768x1024 : Shape := ⟨2, ![32768, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S73728x1024, .f32⟩
  | .hbm, ⟨1, _⟩ => ⟨S32768x4, .i32⟩
  | .hbm, ⟨2, _⟩ => ⟨S32, .i32⟩
  | .hbm, ⟨3, _⟩ => ⟨S4x8192x1024, .f32⟩
  | .hbm, ⟨4, _⟩ => ⟨S4x1x1024, .f32⟩
  | .hbm, ⟨5, _⟩ => ⟨S4x8192x128, .f32⟩
  | .hbm, ⟨6, _⟩ => ⟨S1024, .f32⟩
  | .hbm, ⟨7, _⟩ => ⟨S32768x2, .i32⟩
  | .hbm, ⟨8, _⟩ => ⟨S_, .i32⟩
  | .hbm, ⟨9, _⟩ => ⟨S32768x2, .i32⟩
  | .hbm, ⟨10, _⟩ => ⟨S32768x2, .i1⟩
  | .hbm, ⟨11, _⟩ => ⟨S_, .i32⟩
  | .hbm, ⟨12, _⟩ => ⟨S32768x2, .i32⟩
  | .hbm, ⟨13, _⟩ => ⟨S32768x2, .i32⟩
  | .hbm, ⟨14, _⟩ => ⟨S32768x2, .i32⟩
  | .hbm, ⟨15, _⟩ => ⟨S32768x2x1, .i32⟩
  | .hbm, ⟨16, _⟩ => ⟨S32768x2, .i32⟩
  | .hbm, ⟨17, _⟩ => ⟨S32768x2, .i32⟩
  | .hbm, ⟨18, _⟩ => ⟨S32768x2, .i32⟩
  | .hbm, ⟨19, _⟩ => ⟨S65536, .i32⟩
  | .hbm, ⟨20, _⟩ => ⟨S32768, .i32⟩
  | .hbm, ⟨21, _⟩ => ⟨S32768x2, .i32⟩
  | .hbm, ⟨22, _⟩ => ⟨S65536, .i32⟩
  | .hbm, ⟨23, _⟩ => ⟨S4x8192x2, .f32⟩
  | .hbm, ⟨24, _⟩ => ⟨S65536, .f32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S65536x1, .i32⟩
  | .hbm, ⟨33, _⟩ => ⟨S65536x1024, .f32⟩
  | .hbm, ⟨34, _⟩ => ⟨S_, .f32⟩
  | .hbm, ⟨35, _⟩ => ⟨S32768x1024, .f32⟩
  | .hbm, ⟨36, _⟩ => ⟨S65536x1, .f32⟩
  | .hbm, ⟨37, _⟩ => ⟨S65536x1024, .f32⟩
  | .hbm, ⟨38, _⟩ => ⟨S65536x1024, .f32⟩
  | .hbm, ⟨39, _⟩ => ⟨S_, .i32⟩
  | .hbm, ⟨40, _⟩ => ⟨S65536, .i32⟩
  | .hbm, ⟨41, _⟩ => ⟨S65536, .i1⟩
  | .hbm, ⟨42, _⟩ => ⟨S_, .i32⟩
  | .hbm, ⟨43, _⟩ => ⟨S65536, .i32⟩
  | .hbm, ⟨44, _⟩ => ⟨S65536, .i32⟩
  | .hbm, ⟨45, _⟩ => ⟨S65536, .i32⟩
  | .hbm, ⟨46, _⟩ => ⟨S65536x1, .i32⟩
  | .hbm, ⟨47, _⟩ => ⟨S32768x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S_, .f32⟩
  | .hbm, ⟨54, _⟩ => ⟨S4x8192, .f32⟩
  | .hbm, ⟨55, _⟩ => ⟨S4x8192x1, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S_, .f32⟩
  | .hbm, ⟨60, _⟩ => ⟨S4x8192x1, .f32⟩
  | .hbm, ⟨61, _⟩ => ⟨S4x8192x1, .f32⟩
  | .hbm, ⟨62, _⟩ => ⟨S4x8192x1, .f32⟩
  | .hbm, ⟨63, _⟩ => ⟨S4x8192x1024, .f32⟩
  | .hbm, ⟨64, _⟩ => ⟨S4x8192x1024, .f32⟩
  | .hbm, ⟨65, _⟩ => ⟨S1x1x1024, .f32⟩
  | .hbm, ⟨66, _⟩ => ⟨S4x8192x1024, .f32⟩
  | .hbm, ⟨67, _⟩ => ⟨S4x8192x1024, .f32⟩
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Kernel6.lean ====
abbrev S8448x1024 : Shape := ⟨2, ![8448, 1024]⟩
abbrev S128x4 : Shape := ⟨2, ![128, 4]⟩
abbrev S32 : Shape := ⟨1, ![32]⟩
abbrev S1x128x1024 : Shape := ⟨3, ![1, 128, 1024]⟩
abbrev S1x128x128 : Shape := ⟨3, ![1, 128, 128]⟩
abbrev S1024 : Shape := ⟨1, ![1024]⟩
abbrev S1x1x512 : Shape := ⟨3, ![1, 1, 512]⟩
abbrev S1x1024 : Shape := ⟨2, ![1, 1024]⟩
abbrev S2x128x1024 : Shape := ⟨3, ![2, 128, 1024]⟩
abbrev S_ : Shape := ⟨0, ![]⟩
abbrev S1x1x1 : Shape := ⟨3, ![1, 1, 1]⟩
abbrev S1 : Shape := ⟨1, ![1]⟩
abbrev S1x1x1024 : Shape := ⟨3, ![1, 1, 1024]⟩
abbrev S128x128 : Shape := ⟨2, ![128, 128]⟩
abbrev S128x1 : Shape := ⟨2, ![128, 1]⟩
abbrev S128x1024 : Shape := ⟨2, ![128, 1024]⟩
abbrev S128 : Shape := ⟨1, ![128]⟩

abbrev nBuf : Space → Nat
  | .hbm => 9
  | .vmem => 6
  | .smem => 2
  | _ => 0

abbrev bufTy : (tb : Table) → Fin (tcTables nBuf tb) → BufTy
  | .hbm, ⟨0, _⟩ => ⟨S8448x1024, .f32⟩
  | .hbm, ⟨1, _⟩ => ⟨S128x4, .i32⟩
  | .hbm, ⟨2, _⟩ => ⟨S1x128x1024, .f32⟩
  | .hbm, ⟨3, _⟩ => ⟨S1x128x1024, .f32⟩
  | .hbm, ⟨4, _⟩ => ⟨S1x128x128, .f32⟩
  | .hbm, ⟨5, _⟩ => ⟨S1024, .f32⟩
  | .hbm, ⟨6, _⟩ => ⟨S1x1x512, .i32⟩
  | .hbm, ⟨7, _⟩ => ⟨S1x1024, .f32⟩
  | .hbm, ⟨8, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x128, .f32⟩
  | .local _ .vmem, ⟨3, _⟩ => ⟨S1x1024, .f32⟩
  | .local _ .vmem, ⟨4, _⟩ => ⟨S1x128x1024, .f32⟩
  | .local _ .vmem, ⟨5, _⟩ => ⟨S2x128x1024, .f32⟩
  | .local _ .smem, ⟨0, _⟩ => ⟨S32, .i32⟩
  | .local _ .smem, ⟨1, _⟩ => ⟨S1x1x512, .i32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg2 : Ref sig .tc := ⟨.smem, 0, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_stg0_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c128_i32 : BitVec 32 := 128#32
  let v0 : BitVec 32 := Scalar.addi c0_i32 c128_i32
  let c1_i32 : BitVec 32 := 1#32
  ⟨c0_i32, v0, c1_i32⟩
def k0_off1 (k0_t1 : Fin k0_t1_loop.trips) : Fin 3 → Nat :=
  let c0_26 : Index := 0#32
  let c0_27 : Index := 0#32
  let c4_i32 : BitVec 32 := 4#32
  let c0_i32 : BitVec 32 := 0#32
  let c1_i32 : BitVec 32 := 1#32
  let arg12 : BitVec 32 := Scf.iv c0_i32 c1_i32 k0_t1
  let v38 : BitVec 32 := Scalar.muli c4_i32 arg12
  let c0_i32_25 : BitVec 32 := 0#32
  let v39 : BitVec 32 := Scalar.addi v38 c0_i32_25
  let v40 : Index := Scalar.indexCast v39
  ![0, 0, v40.toNat]
def k0_off2 (v41 : BitVec 32) : Fin 1 → Nat :=
  let v42 : Index := Scalar.indexCast v41
  ![v42.toNat]

def k0_chk1 (v41 : BitVec 32) : Prop :=
  (∀ a, (k0_off2 v41) a + S1.size a ≤ S32.size a)
theorem k0_off2_inb : ∀ (v41 : BitVec 32) (k0_hw1 : k0_chk1 v41), ∀ a, (k0_off2 v41) a + S1.size a ≤ S32.size a := fun v41 k0_hw1 => k0_hw1

def k0_off3 (k0_t1 : Fin k0_t1_loop.trips) : Fin 3 → Nat :=
  let c0_30 : Index := 0#32
  let c0_31 : Index := 0#32
  let c4_i32_28 : BitVec 32 := 4#32
  let c0_i32 : BitVec 32 := 0#32
  let c1_i32 : BitVec 32 := 1#32
  let arg12 : BitVec 32 := Scf.iv c0_i32 c1_i32 k0_t1
  let v44 : BitVec 32 := Scalar.muli c4_i32_28 arg12
  let c2_i32 : BitVec 32 := 2#32
  let v45 : BitVec 32 := Scalar.addi v44 c2_i32
  let c0_i32_29 : BitVec 32 := 0#32
  let v46 : BitVec 32 := Scalar.addi v45 c0_i32_29
  let v47 : Index := Scalar.indexCast v46
  ![0, 0, v47.toNat]
def k0_off4 (k0_t1 : Fin k0_t1_loop.trips) : Fin 3 → Nat :=
  let c0_34 : Index := 0#32
  let c0_35 : Index := 0#32
  let c4_i32_32 : BitVec 32 := 4#32
  let c0_i32 : BitVec 32 := 0#32
  let c1_i32 : BitVec 32 := 1#32
  let arg12 : BitVec 32 := Scf.iv c0_i32 c1_i32 k0_t1
  let v50 : BitVec 32 := Scalar.muli c4_i32_32 arg12
  let c1_i32_33 : BitVec 32 := 1#32
  let v51 : BitVec 32 := Scalar.addi v50 c1_i32_33
  let v52 : Index := Scalar.indexCast v51
  ![0, 0, v52.toNat]
def k0_off5 (v53 : BitVec 32) : Fin 1 → Nat :=
  let v54 : Index := Scalar.indexCast v53
  ![v54.toNat]

def k0_chk2 (v53 : BitVec 32) : Prop :=
  (∀ a, (k0_off5 v53) a + S1.size a ≤ S32.size a)
theorem k0_off5_inb : ∀ (v53 : BitVec 32) (k0_hw2 : k0_chk2 v53), ∀ a, (k0_off5 v53) a + S1.size a ≤ S32.size a := fun v53 k0_hw2 => k0_hw2

def k0_off6 (k0_t1 : Fin k0_t1_loop.trips) : Fin 3 → Nat :=
  let c0_39 : Index := 0#32
  let c0_40 : Index := 0#32
  let c4_i32_36 : BitVec 32 := 4#32
  let c0_i32 : BitVec 32 := 0#32
  let c1_i32 : BitVec 32 := 1#32
  let arg12 : BitVec 32 := Scf.iv c0_i32 c1_i32 k0_t1
  let v56 : BitVec 32 := Scalar.muli c4_i32_36 arg12
  let c2_i32_37 : BitVec 32 := 2#32
  let v57 : BitVec 32 := Scalar.addi v56 c2_i32_37
  let c1_i32_38 : BitVec 32 := 1#32
  let v58 : BitVec 32 := Scalar.addi v57 c1_i32_38
  let v59 : Index := Scalar.indexCast v58
  ![0, 0, v59.toNat]
def k0_off7 (k0_t1 : Fin k0_t1_loop.trips) : Fin 3 → Nat :=
  let c0_i32_41 : BitVec 32 := 0#32
  let c0_i32 : BitVec 32 := 0#32
  let c1_i32 : BitVec 32 := 1#32
  let arg12 : BitVec 32 := Scf.iv c0_i32 c1_i32 k0_t1
  let c0_i32_42 : BitVec 32 := 0#32
  ![0, arg12.toNat, 0]
def k0_off8 (v43 : BitVec 32) (v48 : BitVec 32) : Fin 2 → Nat :=
  let v49 : BitVec 32 := Scalar.addi v43 v48
  let c0_i32_43 : BitVec 32 := 0#32
  ![v49.toNat, 0]

def k0_chk3 (v43 : BitVec 32) (v48 : BitVec 32) : Prop :=
  (∀ a, (k0_off8 v43 v48) a + S1x1024.size a ≤ S8448x1024.size a)
theorem k0_off8_inb : ∀ (v43 : BitVec 32) (v48 : BitVec 32) (k0_hw3 : k0_chk3 v43 v48), ∀ a, (k0_off8 v43 v48) a + S1x1024.size a ≤ S8448x1024.size a := fun v43 v48 k0_hw3 => k0_hw3

def k0_off9 (k0_t1 : Fin k0_t1_loop.trips) : Fin 3 → Nat :=
  let c1_i32_44 : BitVec 32 := 1#32
  let c0_i32 : BitVec 32 := 0#32
  let c1_i32 : BitVec 32 := 1#32
  let arg12 : BitVec 32 := Scf.iv c0_i32 c1_i32 k0_t1
  let c0_i32_45 : BitVec 32 := 0#32
  ![1, arg12.toNat, 0]
def k0_off10 (v55 : BitVec 32) (v60 : BitVec 32) : Fin 2 → Nat :=
  let v61 : BitVec 32 := Scalar.addi v55 v60
  let c0_i32_46 : BitVec 32 := 0#32
  ![v61.toNat, 0]

def k0_chk4 (v55 : BitVec 32) (v60 : BitVec 32) : Prop :=
  (∀ a, (k0_off10 v55 v60) a + S1x1024.size a ≤ S8448x1024.size a)
theorem k0_off10_inb : ∀ (v55 : BitVec 32) (v60 : BitVec 32) (k0_hw4 : k0_chk4 v55 v60), ∀ a, (k0_off10 v55 v60) a + S1x1024.size a ≤ S8448x1024.size a := fun v55 v60 k0_hw4 => k0_hw4

@[reducible] def k0_t2_loop : Scf.Loop 32 :=
  let c0_i32_1 : BitVec 32 := 0#32
  let c128_i32_2 : BitVec 32 := 128#32
  let v1 : BitVec 32 := Scalar.addi c0_i32_1 c128_i32_2
  let c1_i32_3 : BitVec 32 := 1#32
  ⟨c0_i32_1, v1, c1_i32_3⟩
def k0_off11 (k0_t2 : Fin k0_t2_loop.trips) : Fin 3 → Nat :=
  let c0_26 : Index := 0#32
  let c0_27 : Index := 0#32
  let c4_i32 : BitVec 32 := 4#32
  let c0_i32_1 : BitVec 32 := 0#32
  let c1_i32_3 : BitVec 32 := 1#32
  let arg12 : BitVec 32 := Scf.iv c0_i32_1 c1_i32_3 k0_t2
  let v38 : BitVec 32 := Scalar.muli c4_i32 arg12
  let c0_i32_25 : BitVec 32 := 0#32
  let v39 : BitVec 32 := Scalar.addi v38 c0_i32_25
  let v40 : Index := Scalar.indexCast v39
  ![0, 0, v40.toNat]
def k0_off12 (v41 : BitVec 32) : Fin 1 → Nat :=
  let v42 : Index := Scalar.indexCast v41
  ![v42.toNat]

def k0_chk5 (v41 : BitVec 32) : Prop :=
  (∀ a, (k0_off12 v41) a + S1.size a ≤ S32.size a)
theorem k0_off12_inb : ∀ (v41 : BitVec 32) (k0_hw5 : k0_chk5 v41), ∀ a, (k0_off12 v41) a + S1.size a ≤ S32.size a := fun v41 k0_hw5 => k0_hw5

def k0_off13 (k0_t2 : Fin k0_t2_loop.trips) : Fin 3 → Nat :=
  let c0_30 : Index := 0#32
  let c0_31 : Index := 0#32
  let c4_i32_28 : BitVec 32 := 4#32
  let c0_i32_1 : BitVec 32 := 0#32
  let c1_i32_3 : BitVec 32 := 1#32
  let arg12 : BitVec 32 := Scf.iv c0_i32_1 c1_i32_3 k0_t2
  let v44 : BitVec 32 := Scalar.muli c4_i32_28 arg12
  let c2_i32 : BitVec 32 := 2#32
  let v45 : BitVec 32 := Scalar.addi v44 c2_i32
  let c0_i32_29 : BitVec 32 := 0#32
  let v46 : BitVec 32 := Scalar.addi v45 c0_i32_29
  let v47 : Index := Scalar.indexCast v46
  ![0, 0, v47.toNat]
def k0_off14 (k0_t2 : Fin k0_t2_loop.trips) : Fin 3 → Nat :=
  let c0_34 : Index := 0#32
  let c0_35 : Index := 0#32
  let c4_i32_32 : BitVec 32 := 4#32
  let c0_i32_1 : BitVec 32 := 0#32
  let c1_i32_3 : BitVec 32 := 1#32
  let arg12 : BitVec 32 := Scf.iv c0_i32_1 c1_i32_3 k0_t2
  let v50 : BitVec 32 := Scalar.muli c4_i32_32 arg12
  let c1_i32_33 : BitVec 32 := 1#32
  let v51 : BitVec 32 := Scalar.addi v50 c1_i32_33
  let v52 : Index := Scalar.indexCast v51
  ![0, 0, v52.toNat]
def k0_off15 (v53 : BitVec 32) : Fin 1 → Nat :=
  let v54 : Index := Scalar.indexCast v53
  ![v54.toNat]

def k0_chk6 (v53 : BitVec 32) : Prop :=
  (∀ a, (k0_off15 v53) a + S1.size a ≤ S32.size a)
theorem k0_off15_inb : ∀ (v53 : BitVec 32) (k0_hw6 : k0_chk6 v53), ∀ a, (k0_off15 v53) a + S1.size a ≤ S32.size a := fun v53 k0_hw6 => k0_hw6

def k0_off16 (k0_t2 : Fin k0_t2_loop.trips) : Fin 3 → Nat :=
  let c0_39 : Index := 0#32
  let c0_40 : Index := 0#32
  let c4_i32_36 : BitVec 32 := 4#32
  let c0_i32_1 : BitVec 32 := 0#32
  let c1_i32_3 : BitVec 32 := 1#32
  let arg12 : BitVec 32 := Scf.iv c0_i32_1 c1_i32_3 k0_t2
  let v56 : BitVec 32 := Scalar.muli c4_i32_36 arg12
  let c2_i32_37 : BitVec 32 := 2#32
  let v57 : BitVec 32 := Scalar.addi v56 c2_i32_37
  let c1_i32_38 : BitVec 32 := 1#32
  let v58 : BitVec 32 := Scalar.addi v57 c1_i32_38
  let v59 : Index := Scalar.indexCast v58
  ![0, 0, v59.toNat]
def k0_off17 (k0_t2 : Fin k0_t2_loop.trips) : Fin 3 → Nat :=
  let c0_i32_41 : BitVec 32 := 0#32
  let c0_i32_1 : BitVec 32 := 0#32
  let c1_i32_3 : BitVec 32 := 1#32
  let arg12 : BitVec 32 := Scf.iv c0_i32_1 c1_i32_3 k0_t2
  let c0_i32_42 : BitVec 32 := 0#32
  ![0, arg12.toNat, 0]
def k0_off18 (v43 : BitVec 32) (v48 : BitVec 32) : Fin 2 → Nat :=
  let v49 : BitVec 32 := Scalar.addi v43 v48
  let c0_i32_43 : BitVec 32 := 0#32
  ![v49.toNat, 0]

def k0_chk7 (v43 : BitVec 32) (v48 : BitVec 32) : Prop :=
  (∀ a, (k0_off18 v43 v48) a + S1x1024.size a ≤ S8448x1024.size a)
theorem k0_off18_inb : ∀ (v43 : BitVec 32) (v48 : BitVec 32) (k0_hw7 : k0_chk7 v43 v48), ∀ a, (k0_off18 v43 v48) a + S1x1024.size a ≤ S8448x1024.size a := fun v43 v48 k0_hw7 => k0_hw7

def k0_off19 (k0_t2 : Fin k0_t2_loop.trips) : Fin 3 → Nat :=
  let c1_i32_44 : BitVec 32 := 1#32
  let c0_i32_1 : BitVec 32 := 0#32
  let c1_i32_3 : BitVec 32 := 1#32
  let arg12 : BitVec 32 := Scf.iv c0_i32_1 c1_i32_3 k0_t2
  let c0_i32_45 : BitVec 32 := 0#32
  ![1, arg12.toNat, 0]
def k0_off20 (v55 : BitVec 32) (v60 : BitVec 32) : Fin 2 → Nat :=
  let v61 : BitVec 32 := Scalar.addi v55 v60
  let c0_i32_46 : BitVec 32 := 0#32
  ![v61.toNat, 0]

def k0_chk8 (v55 : BitVec 32) (v60 : BitVec 32) : Prop :=
  (∀ a, (k0_off20 v55 v60) a + S1x1024.size a ≤ S8448x1024.size a)
theorem k0_off20_inb : ∀ (v55 : BitVec 32) (v60 : BitVec 32) (k0_hw8 : k0_chk8 v55 v60), ∀ a, (k0_off20 v55 v60) a + S1x1024.size a ≤ S8448x1024.size a := fun v55 v60 k0_hw8 => k0_hw8

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1x1x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== Reference6Ideal.lean ====
abbrev S8448x1024 : Shape := ⟨2, ![8448, 1024]⟩
abbrev S128x4 : Shape := ⟨2, ![128, 4]⟩
abbrev S32 : Shape := ⟨1, ![32]⟩
abbrev S1x128x1024 : Shape := ⟨3, ![1, 128, 1024]⟩
abbrev S1x128x128 : Shape := ⟨3, ![1, 128, 128]⟩
abbrev S1024 : Shape := ⟨1, ![1024]⟩
abbrev S128x2 : Shape := ⟨2, ![128, 2]⟩
abbrev S_ : Shape := ⟨0, ![]⟩
abbrev S128x2x1 : Shape := ⟨3, ![128, 2, 1]⟩
abbrev S256 : Shape := ⟨1, ![256]⟩
abbrev S128 : Shape := ⟨1, ![128]⟩
abbrev S1x128x2 : Shape := ⟨3, ![1, 128, 2]⟩
abbrev S256x1 : Shape := ⟨2, ![256, 1]⟩
abbrev S256x1024 : Shape := ⟨2, ![256, 1024]⟩
abbrev S128x1024 : Shape := ⟨2, ![128, 1024]⟩
abbrev S1x128 : Shape := ⟨2, ![1, 128]⟩
abbrev S1x128x1 : Shape := ⟨3, ![1, 128, 1]⟩
abbrev S1x1x1024 : Shape := ⟨3, ![1, 1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S128x4, .i32⟩
  | .hbm, ⟨2, _⟩ => ⟨S32, .i32⟩
  | .hbm, ⟨3, _⟩ => ⟨S1x128x1024, .f32⟩
  | .hbm, ⟨4, _⟩ => ⟨S1x128x1024, .f32⟩
  | .hbm, ⟨5, _⟩ => ⟨S1x128x128, .f32⟩
  | .hbm, ⟨6, _⟩ => ⟨S1024, .f32⟩
  | .hbm, ⟨7, _⟩ => ⟨S128x2, .i32⟩
  | .hbm, ⟨8, _⟩ => ⟨S_, .i32⟩
  | .hbm, ⟨9, _⟩ => ⟨S128x2, .i32⟩
  | .hbm, ⟨10, _⟩ => ⟨S128x2, .i1⟩
  | .hbm, ⟨11, _⟩ => ⟨S_, .i32⟩
  | .hbm, ⟨12, _⟩ => ⟨S128x2, .i32⟩
  | .hbm, ⟨13, _⟩ => ⟨S128x2, .i32⟩
  | .hbm, ⟨14, _⟩ => ⟨S128x2, .i32⟩
  | .hbm, ⟨15, _⟩ => ⟨S128x2x1, .i32⟩
  | .hbm, ⟨16, _⟩ => ⟨S128x2, .i32⟩
  | .hbm, ⟨17, _⟩ => ⟨S128x2, .i32⟩
  | .hbm, ⟨18, _⟩ => ⟨S128x2, .i32⟩
  | .hbm, ⟨19, _⟩ => ⟨S256, .i32⟩
  | .hbm, ⟨20, _⟩ => ⟨S128, .i32⟩
  | .hbm, ⟨21, _⟩ => ⟨S128x2, .i32⟩
  | .hbm, ⟨22, _⟩ => ⟨S256, .i32⟩
  | .hbm, ⟨23, _⟩ => ⟨S1x128x2, .f32⟩
  | .hbm, ⟨24, _⟩ => ⟨S256, .f32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S256, .i32⟩
  | .hbm, ⟨30, _⟩ => ⟨S256, .i32⟩
  | .hbm, ⟨31, _⟩ => ⟨S256, .i32⟩
  | .hbm, ⟨32, _⟩ => ⟨S256x1, .i32⟩
  | .hbm, ⟨33, _⟩ => ⟨S256x1024, .f32⟩
  | .hbm, ⟨34, _⟩ => ⟨S_, .f32⟩
  | .hbm, ⟨35, _⟩ => ⟨S128x1024, .f32⟩
  | .hbm, ⟨36, _⟩ => ⟨S256x1, .f32⟩
  | .hbm, ⟨37, _⟩ => ⟨S256x1024, .f32⟩
  | .hbm, ⟨38, _⟩ => ⟨S256x1024, .f32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S_, .i32⟩
  | .hbm, ⟨43, _⟩ => ⟨S256, .i32⟩
  | .hbm, ⟨44, _⟩ => ⟨S256, .i32⟩
  | .hbm, ⟨45, _⟩ => ⟨S256, .i32⟩
  | .hbm, ⟨46, _⟩ => ⟨S256x1, .i32⟩
  | .hbm, ⟨47, _⟩ => ⟨S128x1024, .f32⟩
  | .hbm, ⟨48, _⟩ => ⟨S1x128x1024, .f32⟩
  | .hbm, ⟨49, _⟩ => ⟨S1x128x1024, .f32⟩
  | .hbm, ⟨50, _⟩ => ⟨S1x128x1024, .f32⟩
  | .hbm, ⟨51, _⟩ => ⟨S1x128x1024, .f32⟩
  | .hbm, ⟨52, _⟩ => ⟨S_, .f32⟩
  | .hbm, ⟨53, _⟩ => ⟨S1x128, .f32⟩
  | .hbm, ⟨54, _⟩ => ⟨S1x128x1, .f32⟩
  | .hbm, ⟨55, _⟩ => ⟨S_, .f32⟩
  | .hbm, ⟨56, _⟩ => ⟨S1x128x1, .f32⟩
  | .hbm, ⟨57, _⟩ => ⟨S1x128x1, .f32⟩
  | .hbm, ⟨58, _⟩ => ⟨S_, .f32⟩
  | .hbm, ⟨59, _⟩ => ⟨S1x128x1, .f32⟩
  | .hbm, ⟨60, _⟩ => ⟨S1x128x1, .f32⟩
  | .hbm, ⟨61, _⟩ => ⟨S1x128x1, .f32⟩
  | .hbm, ⟨62, _⟩ => ⟨S1x128x1024, .f32⟩
  | .hbm, ⟨63, _⟩ => ⟨S1x128x1024, .f32⟩
  | .hbm, ⟨64, _⟩ => ⟨S1x1x1024, .f32⟩
  | .hbm, ⟨65, _⟩ => ⟨S1x128x1024, .f32⟩
  | .hbm, ⟨66, _⟩ => ⟨S1x128x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel7.lean ====
abbrev S4x8192x512 : Shape := ⟨3, ![4, 8192, 512]⟩
abbrev S4x8192x128 : Shape := ⟨3, ![4, 8192, 128]⟩
abbrev S4x8192x1024 : Shape := ⟨3, ![4, 8192, 1024]⟩
abbrev S4x1x1024 : Shape := ⟨3, ![4, 1, 1024]⟩
abbrev S1024x1024 : Shape := ⟨2, ![1024, 1024]⟩
abbrev S1024 : Shape := ⟨1, ![1024]⟩
abbrev S1024x128 : Shape := ⟨2, ![1024, 128]⟩
abbrev S1x128 : Shape := ⟨2, ![1, 128]⟩
abbrev S8x16x8x64 : Shape := ⟨4, ![8, 16, 8, 64]⟩
abbrev S_ : Shape := ⟨0, ![]⟩
abbrev S128x512 : Shape := ⟨2, ![128, 512]⟩
abbrev S512x512 : Shape := ⟨2, ![512, 512]⟩
abbrev S1x1024 : Shape := ⟨2, ![1, 1024]⟩
abbrev S1x512x512 : Shape := ⟨3, ![1, 512, 512]⟩
abbrev S1x512x128 : Shape := ⟨3, ![1, 512, 128]⟩
abbrev S1x512x1024 : Shape := ⟨3, ![1, 512, 1024]⟩
abbrev S1x1x1024 : Shape := ⟨3, ![1, 1, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S128 : Shape := ⟨1, ![128]⟩

abbrev nBuf : Space → Nat
  | .hbm => 49
  | .vmem => 37
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x128, .f32⟩
  | .hbm, ⟨4, _⟩ => ⟨S4x8192x128, .f32⟩
  | .hbm, ⟨5, _⟩ => ⟨S4x8192x128, .f32⟩
  | .hbm, ⟨6, _⟩ => ⟨S4x8192x512, .bf16⟩
  | .hbm, ⟨7, _⟩ => ⟨S4x8192x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S1024x1024, .f32⟩
  | .hbm, ⟨12, _⟩ => ⟨S1024, .f32⟩
  | .hbm, ⟨13, _⟩ => ⟨S1024x128, .f32⟩
  | .hbm, ⟨14, _⟩ => ⟨S1x128, .f32⟩
  | .hbm, ⟨15, _⟩ => ⟨S1024x1024, .bf16⟩
  | .hbm, ⟨16, _⟩ => ⟨S8x16x8x64, .i32⟩
  | .hbm, ⟨17, _⟩ => ⟨S8x16x8x64, .i32⟩
  | .hbm, ⟨18, _⟩ => ⟨S8x16x8x64, .i1⟩
  | .hbm, ⟨19, _⟩ => ⟨S8x16x8x64, .i32⟩
  | .hbm, ⟨20, _⟩ => ⟨S_, .i32⟩
  | .hbm, ⟨21, _⟩ => ⟨S8x16x8x64, .i32⟩
  | .hbm, ⟨22, _⟩ => ⟨S8x16x8x64, .i1⟩
  | .hbm, ⟨23, _⟩ => ⟨S8x16x8x64, .i1⟩
  | .hbm, ⟨24, _⟩ => ⟨S_, .f32⟩
  | .hbm, ⟨25, _⟩ => ⟨S_, .f32⟩
  | .hbm, ⟨26, _⟩ => ⟨S8x16x8x64, .f32⟩
  | .hbm, ⟨27, _⟩ => ⟨S8x16x8x64, .f32⟩
  | .hbm, ⟨28, _⟩ => ⟨S8x16x8x64, .f32⟩
  | .hbm, ⟨29, _⟩ => ⟨S128x512, .f32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S_, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S1024x128, .bf16⟩
  | .hbm, ⟨39, _⟩ => ⟨S1024x128, .f32⟩
  | .hbm, ⟨40, _⟩ => ⟨S1024x128, .f32⟩
  | .hbm, ⟨41, _⟩ => ⟨S1024x128, .bf16⟩
  | .hbm, ⟨42, _⟩ => ⟨S1x1024, .f32⟩
  | .hbm, ⟨43, _⟩ => ⟨S128x512, .bf16⟩
  | .hbm, ⟨44, _⟩ => ⟨S512x512, .bf16⟩
  | .hbm, ⟨45, _⟩ => ⟨S4x8192x1024, .f32⟩
  | .hbm, ⟨46, _⟩ => ⟨S4x8192x1024, .f32⟩
  | .hbm, ⟨47, _⟩ => ⟨S4x8192x128, .f32⟩
  | .hbm, ⟨48, _⟩ => ⟨S1x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x512, .bf16⟩
  | .local _ .vmem, ⟨13, _⟩ => ⟨S1x512x512, .bf16⟩
  | .local _ .vmem, ⟨14, _⟩ => ⟨S1x512x1024, .f32⟩
  | .local _ .vmem, ⟨15, _⟩ => ⟨S1x512x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1024x1024, .bf16⟩
  | .local _ .vmem, ⟨23, _⟩ => ⟨S1x1024, .f32⟩
  | .local _ .vmem, ⟨24, _⟩ => ⟨S128x512, .bf16⟩
  | .local _ .vmem, ⟨25, _⟩ => ⟨S1024x128, .bf16⟩
  | .local _ .vmem, ⟨26, _⟩ => ⟨S1024x128, .bf16⟩
  | .local _ .vmem, ⟨27, _⟩ => ⟨S1x128, .f32⟩
  | .local _ .vmem, ⟨28, _⟩ => ⟨S512x512, .bf16⟩
  | .local _ .vmem, ⟨29, _⟩ => ⟨S1x512x1024, .f32⟩
  | .local _ .vmem, ⟨30, _⟩ => ⟨S1x512x1024, .f32⟩
  | .local _ .vmem, ⟨31, _⟩ => ⟨S1x512x1024, .f32⟩
  | .local _ .vmem, ⟨32, _⟩ => ⟨S1x512x1024, .f32⟩
  | .local _ .vmem, ⟨33, _⟩ => ⟨S1x512x128, .f32⟩
  | .local _ .vmem, ⟨34, _⟩ => ⟨S1x512x128, .f32⟩
  | .local _ .vmem, ⟨35, _⟩ => ⟨S1x128, .f32⟩
  | .local _ .vmem, ⟨36, _⟩ => ⟨S1x128, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_cst_2 : Ref sig .tc := ⟨.hbm, 34, rfl⟩
abbrev main_call1_v0 : Ref sig .tc := ⟨.hbm, 35, rfl⟩
abbrev main_call1_v1 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21_0 : Ref sig .tc := ⟨.hbm, 45, rfl⟩
abbrev main_v21_1 : Ref sig .tc := ⟨.hbm, 46, rfl⟩
abbrev main_v21_2 : Ref sig .tc := ⟨.hbm, 47, rfl⟩
abbrev main_v21_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]
-- ==== Reference7Ideal.lean ====
abbrev S4x8192x512 : Shape := ⟨3, ![4, 8192, 512]⟩
abbrev S4x8192x128 : Shape := ⟨3, ![4, 8192, 128]⟩
abbrev S4x8192x1024 : Shape := ⟨3, ![4, 8192, 1024]⟩
abbrev S4x1x1024 : Shape := ⟨3, ![4, 1, 1024]⟩
abbrev S1024x1024 : Shape := ⟨2, ![1024, 1024]⟩
abbrev S1024 : Shape := ⟨1, ![1024]⟩
abbrev S1024x128 : Shape := ⟨2, ![1024, 128]⟩
abbrev S1x128 : Shape := ⟨2, ![1, 128]⟩
abbrev S4x8192x8x16 : Shape := ⟨4, ![4, 8192, 8, 16]⟩
abbrev S4x8192x8x1 : Shape := ⟨4, ![4, 8192, 8, 1]⟩
abbrev S4x8192x8 : Shape := ⟨3, ![4, 8192, 8]⟩
abbrev S4x8192x8x64 : Shape := ⟨4, ![4, 8192, 8, 64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x512, .bf16⟩
  | .hbm, ⟨3, _⟩ => ⟨S4x8192x128, .f32⟩
  | .hbm, ⟨4, _⟩ => ⟨S4x8192x128, .f32⟩
  | .hbm, ⟨5, _⟩ => ⟨S4x8192x128, .f32⟩
  | .hbm, ⟨6, _⟩ => ⟨S4x8192x512, .bf16⟩
  | .hbm, ⟨7, _⟩ => ⟨S4x8192x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S1024x1024, .f32⟩
  | .hbm, ⟨12, _⟩ => ⟨S1024, .f32⟩
  | .hbm, ⟨13, _⟩ => ⟨S1024x128, .f32⟩
  | .hbm, ⟨14, _⟩ => ⟨S1x128, .f32⟩
  | .hbm, ⟨15, _⟩ => ⟨S4x8192x8x16, .f32⟩
  | .hbm, ⟨16, _⟩ => ⟨S4x8192x8x1, .f32⟩
  | .hbm, ⟨17, _⟩ => ⟨S4x8192x8, .f32⟩
  | .hbm, ⟨18, _⟩ => ⟨S4x8192x8x16, .f32⟩
  | .hbm, ⟨19, _⟩ => ⟨S4x8192x8x1, .f32⟩
  | .hbm, ⟨20, _⟩ => ⟨S4x8192x8, .f32⟩
  | .hbm, ⟨21, _⟩ => ⟨S4x8192x8x16, .f32⟩
  | .hbm, ⟨22, _⟩ => ⟨S4x8192x8x1, .f32⟩
  | .hbm, ⟨23, _⟩ => ⟨S4x8192x8, .f32⟩
  | .hbm, ⟨24, _⟩ => ⟨S4x8192x8, .f32⟩
  | .hbm, ⟨25, _⟩ => ⟨S4x8192x8, .f32⟩
  | .hbm, ⟨26, _⟩ => ⟨S4x8192x8, .f32⟩
  | .hbm, ⟨27, _⟩ => ⟨S4x8192x8, .f32⟩
  | .hbm, ⟨28, _⟩ => ⟨S4x8192x8, .f32⟩
  | .hbm, ⟨29, _⟩ => ⟨S4x8192x8, .f32⟩
  | .hbm, ⟨30, _⟩ => ⟨S4x8192x8, .f32⟩
  | .hbm, ⟨31, _⟩ => ⟨S4x8192x8, .f32⟩
  | .hbm, ⟨32, _⟩ => ⟨S4x8192x8, .f32⟩
  | .hbm, ⟨33, _⟩ => ⟨S4x8192x8, .f32⟩
  | .hbm, ⟨34, _⟩ => ⟨S4x8192x8, .f32⟩
  | .hbm, ⟨35, _⟩ => ⟨S4x8192x8x1, .f32⟩
  | .hbm, ⟨36, _⟩ => ⟨S4x8192x512, .f32⟩
  | .hbm, ⟨37, _⟩ => ⟨S4x8192x8x64, .f32⟩
  | .hbm, ⟨38, _⟩ => ⟨S4x8192x8x64, .f32⟩
  | .hbm, ⟨39, _⟩ => ⟨S4x8192x8x64, .f32⟩
  | .hbm, ⟨40, _⟩ => ⟨S_, .f32⟩
  | .hbm, ⟨41, _⟩ => ⟨S4x8192x8x64, .f32⟩
  | .hbm, ⟨42, _⟩ => ⟨S4x8192x8x64, .f32⟩
  | .hbm, ⟨43, _⟩ => ⟨S4x8192x8, .f32⟩
  | .hbm, ⟨44, _⟩ => ⟨S4x8192x8x1, .f32⟩
  | .hbm, ⟨45, _⟩ => ⟨S4x8192x512, .f32⟩
  | .hbm, ⟨46, _⟩ => ⟨S4x8192x8x64, .f32⟩
  | .hbm, ⟨47, _⟩ => ⟨S4x8192x8x64, .f32⟩
  | .hbm, ⟨48, _⟩ => ⟨S4x8192x8x64, .f32⟩
  | .hbm, ⟨49, _⟩ => ⟨S4x8192x8x64, .f32⟩
  | .hbm, ⟨50, _⟩ => ⟨S4x8192x8, .f32⟩
  | .hbm, ⟨51, _⟩ => ⟨S4x8192x8x1, .f32⟩
  | .hbm, ⟨52, _⟩ => ⟨S4x8192x512, .f32⟩
  | .hbm, ⟨53, _⟩ => ⟨S4x8192x8x64, .f32⟩
  | .hbm, ⟨54, _⟩ => ⟨S4x8192x8x64, .f32⟩
  | .hbm, ⟨55, _⟩ => ⟨S4x8192x8x64, .f32⟩
  | .hbm, ⟨56, _⟩ => ⟨S4x8192x8x64, .f32⟩
  | .hbm, ⟨57, _⟩ => ⟨S4x8192x512, .f32⟩
  | .hbm, ⟨58, _⟩ => ⟨S4x8192x512, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x8192, .f32⟩
  | .hbm, ⟨67, _⟩ => ⟨S4x8192x1, .f32⟩
  | .hbm, ⟨68, _⟩ => ⟨S_, .f32⟩
  | .hbm, ⟨69, _⟩ => ⟨S4x8192x1, .f32⟩
  | .hbm, ⟨70, _⟩ => ⟨S4x8192x1, .f32⟩
  | .hbm, ⟨71, _⟩ => ⟨S_, .f32⟩
  | .hbm, ⟨72, _⟩ => ⟨S4x8192x1, .f32⟩
  | .hbm, ⟨73, _⟩ => ⟨S4x8192x1, .f32⟩
  | .hbm, ⟨74, _⟩ => ⟨S4x8192x1, .f32⟩
  | .hbm, ⟨75, _⟩ => ⟨S4x8192x1024, .f32⟩
  | .hbm, ⟨76, _⟩ => ⟨S4x8192x1024, .f32⟩
  | .hbm, ⟨77, _⟩ => ⟨S1x1x1024, .f32⟩
  | .hbm, ⟨78, _⟩ => ⟨S4x8192x1024, .f32⟩
  | .hbm, ⟨79, _⟩ => ⟨S4x8192x1024, .f32⟩
  | .hbm, ⟨80, _⟩ => ⟨S_, .f32⟩
  | .hbm, ⟨81, _⟩ => ⟨S4x1x1024, .f32⟩
  | .hbm, ⟨82, _⟩ => ⟨S4x1x1024, .f32⟩
  | .hbm, ⟨83, _⟩ => ⟨S4x8192x1024, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_0 : Ref sig .tc := ⟨.hbm, 65, rfl⟩
abbrev main_v49 : Ref sig .tc := ⟨.hbm, 66, rfl⟩
abbrev main_v50 : Ref sig .tc := ⟨.hbm, 67, rfl⟩
abbrev main_cst_1 : Ref sig .tc := ⟨.hbm, 68, rfl⟩
abbrev main_v51 : Ref sig .tc := ⟨.hbm, 69, rfl⟩
abbrev main_v52 : Ref sig .tc := ⟨.hbm, 70, rfl⟩
abbrev main_cst_2 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_3 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== Proof.Rows.lean ====
/-
  The dispatch kernel's rows: the words a grid point reads from its tables, the rows of the two HBM arrays they name,
  and what a transfer of one row does to the row it is sent to. Pure facts; no program is run here.
-/
module

public import proofs.«01_k».proof.Proof.Gen.KernelIdeal.Skeleton
public import proofs.«01_k».proof.Proof.Gen.KernelIdeal.Launch
public import Idealize.ShloMosaic.Lib.Batch
public import Idealize.ShloMosaic.Lib.Ring
public import Idealize.ShloMosaic.Lib.Tactic

@[expose] public section

noncomputable section

namespace Cert.Dispatch

open Cert.KernelIdeal Cert.KernelIdeal.Gen
open Idealize.ShloMosaic Idealize.ShloMosaic.TcCoe
open Idealize.SL Idealize.SL.Sem

variable {F : FTy → Type} [FloatOps F]

/-! ### Words -/

/-- Word `j` of a grid point's block of the routing table. -/
def ix (j : ℕ) : S1x1x1024.Idx := fun a => match a with
  | ⟨0, _⟩ => (⟨0, by decide⟩ : Fin 1)
  | ⟨1, _⟩ => (⟨0, by decide⟩ : Fin 1)
  | ⟨2, _⟩ => (⟨j % 1024, Nat.mod_lt _ (by decide)⟩ : Fin 1024)
  | ⟨_ + 3, h⟩ => absurd h (by intro h; exact absurd h (by simp))

/-- Word `j` of the table of the experts' first rows. -/
def ixp (j : ℕ) : S32.Idx := fun a => match a with
  | ⟨0, _⟩ => (⟨j % 32, Nat.mod_lt _ (by decide)⟩ : Fin 32)
  | ⟨_ + 1, h⟩ => absurd h (by intro h; exact absurd h (by simp))

/-- The row the first, and the row the second, of token `t`'s two experts receives it at: the expert's first row plus
    the token's rank with that expert. `X` is the block of the routing table (four words a token: two experts, two
    ranks), `P` the table of the experts' first rows. -/
def d0 (P : S32.Idx → BitVec 32) (X : S1x1x1024.Idx → BitVec 32) (t : ℕ) : BitVec 32 :=
  P (ixp (X (ix (4 * t))).toNat) + X (ix (4 * t + 2))
def d1 (P : S32.Idx → BitVec 32) (X : S1x1x1024.Idx → BitVec 32) (t : ℕ) : BitVec 32 :=
  P (ixp (X (ix (4 * t + 1))).toNat) + X (ix (4 * t + 3))

/-- What a grid point needs of its tables: the experts named are 0 .. 31, and every row named is a row of the
    destination. -/
structure InRange (P : S32.Idx → BitVec 32) (X : S1x1x1024.Idx → BitVec 32) : Prop where
  e0 : ∀ t < 256, (X (ix (4 * t))).toNat < 32
  e1 : ∀ t < 256, (X (ix (4 * t + 1))).toNat < 32
  r0 : ∀ t < 256, (d0 P X t).toNat < 73728
  r1 : ∀ t < 256, (d1 P X t).toNat < 73728

/-! ### Offsets -/

theorem trips1 : k0_t1_loop.trips = 256 := by decide
theorem trips2 : k0_t2_loop.trips = 256 := by decide

theorem off1_eq (t : Fin k0_t1_loop.trips) : k0_off1 t = ![0, 0, 4 * t.val] := by
  revert t; decide +kernel
theorem off3_eq (t : Fin k0_t1_loop.trips) : k0_off3 t = ![0, 0, 4 * t.val + 2] := by
  revert t; decide +kernel
theorem off4_eq (t : Fin k0_t1_loop.trips) : k0_off4 t = ![0, 0, 4 * t.val + 1] := by
  revert t; decide +kernel
theorem off6_eq (t : Fin k0_t1_loop.trips) : k0_off6 t = ![0, 0, 4 * t.val + 3] := by
  revert t; decide +kernel
theorem off11_eq (t : Fin k0_t2_loop.trips) : k0_off11 t = ![0, 0, 4 * t.val] := by
  revert t; decide +kernel
theorem off13_eq (t : Fin k0_t2_loop.trips) : k0_off13 t = ![0, 0, 4 * t.val + 2] := by
  revert t; decide +kernel
theorem off14_eq (t : Fin k0_t2_loop.trips) : k0_off14 t = ![0, 0, 4 * t.val + 1] := by
  revert t; decide +kernel
theorem off16_eq (t : Fin k0_t2_loop.trips) : k0_off16 t = ![0, 0, 4 * t.val + 3] := by
  revert t; decide +kernel

theorem off8_eq (i : grid0.Coords) (t : Fin k0_t1_loop.trips) : k0_off8 i t = ![(i 0).val * 256 + t.val, 0] := by
  have hi : (i 0).val < 128 := (i 0).isLt
  have ht : t.val < 256 := trips1 ▸ t.isLt
  have h : ∀ a < 128, (Scalar.muli (BitVec.ofNat 32 a) 256#32).toNat = a * 256 := by decide +kernel
  have h' : ∀ t : Fin k0_t1_loop.trips, (Scf.iv k0_t1_loop.lb k0_t1_loop.st t.val).toNat = t.val := by decide +kernel
  unfold k0_off8
  have e : (Scalar.addi (Scalar.muli (BitVec.ofNat 32 (i 0).val) 256#32) (Scf.iv k0_t1_loop.lb k0_t1_loop.st t.val)).toNat = (i 0).val * 256 + t.val := by
    show ((Scalar.muli (BitVec.ofNat 32 (i 0).val) 256#32) + (Scf.iv k0_t1_loop.lb k0_t1_loop.st t.val)).toNat = _
    rw [BitVec.toNat_add, h _ hi, h' t]; omega
  exact congrArg (fun n : ℕ => (![n, 0] : Fin 2 → ℕ)) e

theorem off10_eq (i : grid0.Coords) (t : Fin k0_t1_loop.trips) : k0_off10 i t = ![(i 0).val * 256 + t.val, 0] := off8_eq i t
theorem off18_eq (i : grid0.Coords) (t : Fin k0_t2_loop.trips) : k0_off18 i t = ![(i 0).val * 256 + t.val, 0] := off8_eq i t
theorem off20_eq (i : grid0.Coords) (t : Fin k0_t2_loop.trips) : k0_off20 i t = ![(i 0).val * 256 + t.val, 0] := off8_eq i t

/-- A word of scalar memory read through a buffer's view: the block's word at the offset. -/
theorem read_word {κ : Kind} (m : Memref sig κ .smem S1x1x1024 .i32) (blk : m.view.ty.Contents (Elt F)) (X : S1x1x1024.Idx → BitVec 32)
    (hX : m.view.read (Elt F) blk = X) (off : Fin 3 → ℕ) (inb : ∀ a, off a + S1x1x1.size a ≤ S1x1x1024.size a) (j : ℕ) (hj : j < 1024)
    (h : off = ![0, 0, j]) (x : (Rect.unit (s := S1x1x1024) off S1x1x1.size inb).shape.Idx) :
    (m.access (Rect.unit (s := S1x1x1024) off S1x1x1.size inb)).read (Elt F) blk x = X (ix j) := by
  subst h; subst hX
  have hx : (Rect.unit (s := S1x1x1024) ![0, 0, j] S1x1x1.size inb).emb x = ix j := by
    funext b; fin_cases b
    · have h0 : (x 0).val < 1 := (x 0).isLt
      exact Fin.ext (show 0 + 1 * (x 0).val = 0 by omega)
    · have h0 : (x 1).val < 1 := (x 1).isLt
      exact Fin.ext (show 0 + 1 * (x 1).val = 0 by omega)
    · have h0 : (x 2).val < 1 := (x 2).isLt
      exact Fin.ext (show j + 1 * (x 2).val = j % 1024 by rw [Nat.mod_eq_of_lt hj]; omega)
  rw [← hx]; rfl

/-- A word of the table of first rows. -/
theorem read_first (P : S32.Idx → BitVec 32) (off : Fin 1 → ℕ) (inb : ∀ a, off a + S1.size a ≤ S32.size a) (j : ℕ) (hj : j < 32)
    (h : off = ![j]) (x : (Rect.unit (s := S32) off S1.size inb).shape.Idx) :
    ((Memref.whole main_arg2 : Memref sig .tc .smem S32 .i32).access (Rect.unit (s := S32) off S1.size inb)).read (Elt F) P x = P (ixp j) := by
  subst h
  have hx : (Rect.unit (s := S32) ![j] S1.size inb).emb x = ixp j := by
    funext b; fin_cases b
    have h0 : (x 0).val < 1 := (x 0).isLt
    exact Fin.ext (show j + 1 * (x 0).val = j % 32 by rw [Nat.mod_eq_of_lt hj]; omega)
  rw [← hx]; rfl

theorem chk_e (v : BitVec 32) (h : v.toNat < 32) : ∀ a, (![v.toNat] : Fin 1 → ℕ) a + S1.size a ≤ S32.size a := by
  intro a; fin_cases a; show v.toNat + 1 ≤ 32; omega
theorem chk_r (n : ℕ) (h : n < 73728) : ∀ a, (![n, 0] : Fin 2 → ℕ) a + S1x1024.size a ≤ S73728x1024.size a := by
  intro a; fin_cases a
  · show n + 1 ≤ 73728; omega
  · show 0 + 1024 ≤ 1024; omega

/-! ### Rows -/

/-- Row `r` of the destination. -/
def rowD (r : ℕ) : Finset S73728x1024.Idx := Finset.univ.filter fun y => (y 0).val = r
/-- Row `r` of the source. -/
def rowS (r : ℕ) : Finset S32768x1024.Idx := Finset.univ.filter fun y => (y 0).val = r

theorem mem_rowD (r : ℕ) (y : S73728x1024.Idx) : y ∈ rowD r ↔ (y 0).val = r := by simp [rowD]
theorem mem_rowS (r : ℕ) (y : S32768x1024.Idx) : y ∈ rowS r ↔ (y 0).val = r := by simp [rowS]

theorem unit_row {n : ℕ} (off : Fin 2 → ℕ) (inb : ∀ a, off a + S1x1024.size a ≤ (⟨2, ![n, 1024]⟩ : Shape).size a)
    (r : ℕ) (h : off = ![r, 0]) (y : (⟨2, ![n, 1024]⟩ : Shape).Idx) :
    y ∈ (Rect.unit (s := (⟨2, ![n, 1024]⟩ : Shape)) off S1x1024.size inb).set ↔ (y 0).val = r := by
  subst h
  rw [Rect.mem_set_unit]
  have h1 : (y 1).val < 1024 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 1024; omega

/-- One row of the destination, and one of the source, as the kernel slices them. -/
abbrev dstRow (off : Fin 2 → ℕ) (inb : ∀ a, off a + S1x1024.size a ≤ S73728x1024.size a) : Memref sig .tc .hbm S1x1024 .f32 :=
  (Memref.whole main_v0 : Memref sig .tc .hbm S73728x1024 .f32).slice (Rect.unit (s := S73728x1024) off S1x1024.size inb) (fun _ => rfl)
abbrev srcRow (off : Fin 2 → ℕ) (inb : ∀ a, off a + S1x1024.size a ≤ S32768x1024.size a) : Memref sig .tc .hbm S1x1024 .f32 :=
  (Memref.whole main_arg0 : Memref sig .tc .hbm S32768x1024 .f32).slice (Rect.unit (s := S32768x1024) off S1x1024.size inb) (fun _ => rfl)

theorem dstRow_set (off : Fin 2 → ℕ) (inb) (r : ℕ) (h : off = ![r, 0]) : (dstRow off inb).view.set = rowD r := by
  refine (View.set_slice_whole _ _).trans ?_
  ext y
  exact (unit_row off inb r h y).trans (mem_rowD r y).symm
theorem srcRow_set (off : Fin 2 → ℕ) (inb) (r : ℕ) (h : off = ![r, 0]) : (srcRow off inb).view.set = rowS r := by
  refine (View.set_slice_whole _ _).trans ?_
  ext y
  exact (unit_row off inb r h y).trans (mem_rowS r y).symm

/-- A transfer of row `a` of the source to row `r` of the destination leaves, in row `r`, the source's row. -/
theorem write_row (off off' : Fin 2 → ℕ) (inb inb') (r a : ℕ) (h : off = ![r, 0]) (h' : off' = ![a, 0])
    (fd : S73728x1024.Idx → Elt F .f32) (fs : S32768x1024.Idx → Elt F .f32) (g : S73728x1024.Idx → Elt F .f32)
    (hg : ∀ y ∈ rowD r, ∀ z : S32768x1024.Idx, (z 0).val = a → (z 1).val = (y 1).val → g y = fs z)
    (y : S73728x1024.Idx) (hy : y ∈ rowD r) :
    (dstRow off inb).view.write (Elt F) fd ((srcRow off' inb').view.read (Elt F) fs) Finset.univ y = g y := by
  subst h; subst h'
  have hy0 := (mem_rowD r y).mp hy
  let x : S1x1024.Idx := fun a => match a with
    | ⟨0, _⟩ => (⟨0, by decide⟩ : Fin 1)
    | ⟨1, _⟩ => (⟨(y 1).val, (y 1).isLt⟩ : Fin 1024)
    | ⟨_ + 2, h⟩ => absurd h (by intro h; exact absurd h (by simp))
  have hx : (dstRow ![r, 0] inb).view.emb x = y := by
    funext b; fin_cases b
    · exact Fin.ext (show r + 1 * 0 = (y 0).val by omega)
    · exact Fin.ext (show 0 + 1 * (y 1).val = (y 1).val by omega)
  have hw := View.write_emb_of_mem (v := (dstRow ![r, 0] inb).view) (Val := Elt F) fd
    ((srcRow ![a, 0] inb').view.read (Elt F) fs) (Finset.mem_univ x)
  rw [hx] at hw
  refine hw.trans ?_
  symm
  refine hg y hy _ ?_ ?_
  · show a + 1 * 0 = a; omega
  · show 0 + 1 * (y 1).val = (y 1).val; omega

/-- The amount one row's transfer credits. -/
def N : ℕ := (Memref.whole main_v0 : Memref sig .tc .hbm S73728x1024 .f32).view.ref.dmaCredit S1x1024 .f32

theorem N_pos : 0 < N := sig.dmaCredit_pos _ _ _ S1x1024 .f32 (by decide)

theorem dstRow_credit (off : Fin 2 → ℕ) (inb) : (dstRow off inb).view.dmaCredit = N := rfl

end Cert.Dispatch

end
-- ==== Proof.Trip.lean ====
/-
  The dispatch kernel's two loops, trip by trip: a trip of the first sends a token's row to its two destination rows,
  a trip of the second waits for two of the 512 transfers.
-/
module

public import proofs.«01_k».proof.Proof.Rows
public import Idealize.ShloMosaic.Lib.Pipeline.FrameValue
public import Idealize.ShloMosaic.Lib.Pipeline.FrameBody
public import Idealize.SL.BI.BigOpNat

@[expose] public section

noncomputable section

namespace Cert.Dispatch

open Cert.KernelIdeal Cert.KernelIdeal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

/-- The resources: the pipeline's algebra with the counters a batch of transfers on one semaphore is shared by. -/
local notation "𝕄" => MT nD τ sig Unit (Elt F) ℕ (Pipeline.UD sig nD τ) ℕ

variable (c : Dev nD)

/-! ### What a point holds -/

/-- Row `r` of the destination at contents `f`, row `r` of the source at a share. -/
abbrev heldD (f : S73728x1024.Idx → Elt F .f32) (r : ℕ) : sProp 𝕄 :=
  (Memref.whole main_v0 : Memref sig .tc .hbm S73728x1024 .f32).view.loc (c : Thread nD τ) ↦[rowD r]{fullShare} f
abbrev heldS (q : PosShare TreeShare) (f : S32768x1024.Idx → Elt F .f32) (r : ℕ) : sProp 𝕄 :=
  (Memref.whole main_arg0 : Memref sig .tc .hbm S32768x1024 .f32).view.loc (c : Thread nD τ) ↦[rowS r]{q} f

/-- What the two transfers of trip `t` deliver: the destination row at its new contents, the source's row at half. -/
abbrev out0 (g : S73728x1024.Idx → Elt F .f32) (fh : S32768x1024.Idx → Elt F .f32) (D : ℕ → BitVec 32) (b : ℕ) (t : ℕ) : sProp 𝕄 :=
  iprop(heldD c g (D t).toNat ∗ heldS c fullShare.left fh (b + t))
abbrev out1 (g : S73728x1024.Idx → Elt F .f32) (fh : S32768x1024.Idx → Elt F .f32) (D : ℕ → BitVec 32) (b : ℕ) (t : ℕ) : sProp 𝕄 :=
  iprop(heldD c g (D t).toNat ∗ heldS c fullShare.right fh (b + t))

abbrev deliv (g : S73728x1024.Idx → Elt F .f32) (fh : S32768x1024.Idx → Elt F .f32) (D0 D1 : ℕ → BitVec 32) (b : ℕ) : Fin (2 * 256) → sProp 𝕄 :=
  Ring.interleaved 256 (out0 c g fh D0 b) (out1 c g fh D1 b)

abbrev batch (g : S73728x1024.Idx → Elt F .f32) (fh : S32768x1024.Idx → Elt F .f32) (D0 D1 : ℕ → BitVec 32) (b : ℕ) (j u : ℕ) : sProp 𝕄 :=
  Transfers.Batch (countersEmb) (c : Thread nD τ) (.dma cc0_scratch0.sem) () N (deliv c g fh D0 D1 b) j u

/-- The rows a trip of the first loop sends from and to, before it. -/
abbrev pack (f : S73728x1024.Idx → Elt F .f32) (fh : S32768x1024.Idx → Elt F .f32) (D0 D1 : ℕ → BitVec 32) (b : ℕ) (t : ℕ) : sProp 𝕄 :=
  iprop((heldD c f (D0 t).toNat ∗ heldS c fullShare.left fh (b + t)) ∗ (heldD c f (D1 t).toNat ∗ heldS c fullShare.right fh (b + t)))

/-- The two tables, as the loops read them. -/
abbrev tabs (qp qx : PosShare TreeShare) (P : S32.Idx → BitVec 32) (arg2 : Memref sig .tc .smem S1x1x1024 .i32)
    (blk : arg2.view.ty.Contents (Elt F)) : sProp 𝕄 :=
  iprop(((Memref.whole main_arg2 : Memref sig .tc .smem S32 .i32).view.loc (c : Thread nD τ) ↦{qp} P)
    ∗ (arg2.view.loc (c : Thread nD τ) ↦{qx} blk))

variable (i : grid0.Coords) (arg2 : Memref sig .tc .smem S1x1x1024 .i32) (harg2 : arg2.IsWhole) (qp qx : PosShare TreeShare)
variable (P : S32.Idx → BitVec 32) (X : S1x1x1024.Idx → BitVec 32) (blk : arg2.view.ty.Contents (Elt F))
variable (f g : S73728x1024.Idx → Elt F .f32) (fh : S32768x1024.Idx → Elt F .f32)

/-- The contents the destination is to have at the rows of trip `t`: the token's row. -/
def Lands (b : ℕ) : Prop := ∀ t < 256, ∀ r, (r = (d0 P X t).toNat ∨ r = (d1 P X t).toNat) →
  ∀ y ∈ rowD r, ∀ z : S32768x1024.Idx, (z 0).val = b + t → (z 1).val = (y 1).val → g y = fh z

/-- Before trip `k` of the first loop. -/
def issueAt (k : ℕ) (_ : Unit) : sProp 𝕄 :=
  iprop(tabs c qp qx P arg2 blk ∗ batch c g fh (d0 P X) (d1 P X) ((i 0).val * 256) (2 * k) 0
    ∗ bigSep (Finset.Ico k 256) (pack c f fh (d0 P X) (d1 P X) ((i 0).val * 256)))

omit [FloatOps F] in
/-- A source row as the transfer's source view spells it. -/
theorem heldS_view (q : PosShare TreeShare) (off : Fin 2 → ℕ) (inb) (r : ℕ) (h : off = ![r, 0]) :
    heldS c q fh r ⊢ ((srcRow off inb).view.loc (c : Thread nD τ) ↦[(srcRow off inb).view.set]{q} fh : sProp 𝕄) := by
  rw [srcRow_set off inb r h]

/-- A row's transfer done: the destination row at its new contents, the source's row back. -/
theorem landed (q : PosShare TreeShare) (off off' : Fin 2 → ℕ) (inb inb') (r a : ℕ) (h : off = ![r, 0]) (h' : off' = ![a, 0])
    (hg : ∀ y ∈ rowD r, ∀ z : S32768x1024.Idx, (z 0).val = a → (z 1).val = (y 1).val → g y = fh z) :
    iprop(((dstRow off inb).view.loc (c : Thread nD τ) ↦[rowD r]{fullShare}
        ((dstRow off inb).view.write (Elt F) f ((srcRow off' inb').view.read (Elt F) fh) Finset.univ))
      ∗ ((srcRow off' inb').view.loc (c : Thread nD τ) ↦[(srcRow off' inb').view.set]{q} fh)) ⊢ iprop(heldD c g r ∗ heldS c q fh a) := by
  rw [srcRow_set off' inb' a h', pointsTo_congr (fun y hy => write_row off off' inb inb' r a h h' f fh g hg y hy)]

/-- A row sent: the source's row at a share and the destination's row whole go into the batch, whose next delivery is
    the two of them back, the destination's at `g`. -/
theorem wp_send (q : PosShare TreeShare) (off off' : Fin 2 → ℕ) (inb inb') (r a : ℕ) (h : off = ![r, 0]) (h' : off' = ![a, 0])
    (hg : ∀ y ∈ rowD r, ∀ z : S32768x1024.Idx, (z 0).val = a → (z 1).val = (y 1).val → g y = fh z)
    (D : Fin (2 * 256) → sProp 𝕄) (j : ℕ) (hj : j < 2 * 256) (hD : D ⟨j, hj⟩ = iprop(heldD c g r ∗ heldS c q fh a))
    (hsrc) (hdst) (hsem) (K : PUnit → Prog (TpuEff nD τ sig (Elt F) Λ₀ .tc) PUnit) (Q : PUnit → sProp 𝕄) :
    iprop(heldS c q fh a ∗ heldD c f r ∗ Transfers.Batch (countersEmb) (c : Thread nD τ) (.dma cc0_scratch0.sem) () N D j 0)
      ⊢ iprop((Transfers.Batch (countersEmb) (c : Thread nD τ) (.dma cc0_scratch0.sem) () N D (j + 1) 0
            -∗ wp frame (wpE (defs₀ (F := F)) Variants.none (c : Thread nD τ) none) Set.univ (K ⟨⟩) Q)
          -∗ wp frame (wpE (defs₀ (F := F)) Variants.none (c : Thread nD τ) none) Set.univ
            (.op (.enqueueDma (srcRow off' inb') (.here (dstRow off inb)) (.dma cc0_scratch0.sem) hsrc hdst hsem) K) Q) := by
  have hL := (landed c f g fh q off off' inb inb' r a h h' hg).trans (Entails.of_eq hD.symm)
  have := Transfers.wp_dmaBatch (countersEmb (U := Pipeline.UD sig nD τ)) (defs := defs₀ (F := F)) (Q := Q) Variants.none (c : Thread nD τ) none
    (src := srcRow off' inb') (dst := dstRow off inb) (via := .same) (sm := .dma cc0_scratch0.sem) (hsrc := hsrc) (hdst := hdst) (hsem := hsem) (k := K)
    (q := q) (fs := fh) (fd := f) (Sd := rowD r) (D := D) (u := 0) () N (dstRow_credit off inb) (Finset.subset_of_eq (dstRow_set _ _ _ h)) hj (Nat.zero_le _) hL
  iintro ⟨HS, HD, HB⟩
  ihave HS := (heldS_view c fh q off' inb' _ h') $$ HS
  iapply this
  isplitl [HS]; · iexact HS
  isplitl [HD]; · iexact HD
  iexact HB

theorem issue_step (hX : arg2.view.read (Elt F) blk = X) (hr : InRange P X) (hl : Lands P X g fh ((i 0).val * 256))
    (k : Fin k0_t1_loop.trips) (acc : Unit) :
    issueAt c i arg2 qp qx P X blk f g fh k.val acc
      ⊢ wp frame (wpE (defs₀ (F := F)) Variants.none (c : Thread nD τ) none) Set.univ
          (k0_t1_body (F := F) i (Memref.whole main_arg2) (Memref.isWhole_whole _) arg2 harg2 (Memref.whole main_arg0) (Memref.isWhole_whole _)
            (Memref.whole main_v0) (Memref.isWhole_whole _) (Memref.whole main_v0) (Memref.isWhole_whole _) cc0_scratch0 k acc)
          (issueAt c i arg2 qp qx P X blk f g fh (k.val + 1)) := by
  have hk : k.val < 256 := trips1 ▸ k.isLt
  unfold issueAt
  rw [BI.bigSep_Ico_succ_bot hk]
  dsimp only [tabs, pack]
  unfold k0_t1_body
  simp only [smemLoad, Prog.lift, Prog.bind_op, Prog.bind_ret, Prog.pure_eq_ret, smemLoadElt_bind]
  iintro ⟨⟨HP, HX⟩, HB, ⟨⟨HD0, HS0⟩, ⟨HD1, HS1⟩⟩, Hrest⟩
  named_smem HX (X (ix (4 * k.val))) ((read_word arg2 blk X hX _ _ _ (by omega) (off1_eq k) _).symm)
  have hc1 : k0_chk1 (X (ix (4 * k.val))) := chk_e _ (hr.e0 _ hk)
  iapply (wp_assume _ _ _ _ hc1)
  named_smem HP (P (ixp (X (ix (4 * k.val))).toNat)) ((read_first (F := F) P _ _ _ (hr.e0 _ hk) rfl _).symm)
  named_smem HX (X (ix (4 * k.val + 2))) ((read_word arg2 blk X hX _ _ _ (by omega) (off3_eq k) _).symm)
  have hc3 : k0_chk3 (P (ixp (X (ix (4 * k.val))).toNat)) (X (ix (4 * k.val + 2))) := chk_r _ (hr.r0 _ hk)
  iapply (wp_assume _ _ _ _ hc3)
  named_smem HX (X (ix (4 * k.val + 1))) ((read_word arg2 blk X hX _ _ _ (by omega) (off4_eq k) _).symm)
  have hc2 : k0_chk2 (X (ix (4 * k.val + 1))) := chk_e _ (hr.e1 _ hk)
  iapply (wp_assume _ _ _ _ hc2)
  named_smem HP (P (ixp (X (ix (4 * k.val + 1))).toNat)) ((read_first (F := F) P _ _ _ (hr.e1 _ hk) rfl _).symm)
  named_smem HX (X (ix (4 * k.val + 3))) ((read_word arg2 blk X hX _ _ _ (by omega) (off6_eq k) _).symm)
  have hc4 : k0_chk4 (P (ixp (X (ix (4 * k.val + 1))).toNat)) (X (ix (4 * k.val + 3))) := chk_r _ (hr.r1 _ hk)
  iapply (wp_assume _ _ _ _ hc4)
  iapply (wp_send c f g fh fullShare.left _ _ _ (k0_off8_inb i k) (d0 P X k.val).toNat ((i 0).val * 256 + k.val) rfl (off8_eq i k) (hl _ hk _ (.inl rfl))
    (deliv c g fh (d0 P X) (d1 P X) ((i 0).val * 256)) (2 * k.val) (by omega) (Ring.interleaved_even 256 _ _ k.val (by omega))) $$ [HD0 HS0 HB]
  · isplitl [HS0]; · iexact HS0
    isplitl [HD0]; · iexact HD0
    iexact HB
  iintro HB
  iapply (wp_send c f g fh fullShare.right _ _ _ (k0_off10_inb i k) (d1 P X k.val).toNat ((i 0).val * 256 + k.val) rfl (off10_eq i k) (hl _ hk _ (.inr rfl))
    (deliv c g fh (d0 P X) (d1 P X) ((i 0).val * 256)) (2 * k.val + 1) (by omega) (Ring.interleaved_odd 256 _ _ k.val (by omega))) $$ [HD1 HS1 HB]
  · isplitl [HS1]; · iexact HS1
    isplitl [HD1]; · iexact HD1
    iexact HB
  iintro HB
  rw [wp_ret]
  imodintro
  isplitl [HP HX]
  · isplitl [HP] <;> iassumption
  isplitl [HB]; · iexact HB
  iexact Hrest

/-! ### The second loop -/

/-- The semaphore after `u` waits: the batch with `u` transfers waited for, or — all waited for — the semaphore at
    zero and every delivery. -/
def waited (D : Fin (2 * 256) → sProp 𝕄) (u : ℕ) : sProp 𝕄 :=
  if u < 2 * 256 then Transfers.Batch (countersEmb) (c : Thread nD τ) (.dma cc0_scratch0.sem) () N D (2 * 256) (u * N)
  else iprop(bigSep Finset.univ D ∗ semVal ((c : Thread nD τ), SemLoc.dma cc0_scratch0.sem) 0)

/-- What the core owes while it waits. -/
abbrev owing : sProp 𝕄 := iprop(∃ W, owes (c : Thread nD τ) 0 W)

/-- One wait. -/
theorem wp_await (D : Fin (2 * 256) → sProp 𝕄) [∀ t, BI.Storable (upEmb : UEmb _ 𝕄) (D t)] (off off' : Fin 2 → ℕ) (inb inb') (u : ℕ) (hu : u < 2 * 256)
    (hsrc) (hdst) (K : PUnit → Prog (TpuEff nD τ sig (Elt F) Λ₀ .tc) PUnit) (Q : PUnit → sProp 𝕄) :
    iprop(waited c D u ∗ owing c)
      ⊢ iprop((iprop(waited c D (u + 1) ∗ owing c)
            -∗ wp frame (wpE (defs₀ (F := F)) Variants.none (c : Thread nD τ) none) Set.univ (K ⟨⟩) Q)
          -∗ wp frame (wpE (defs₀ (F := F)) Variants.none (c : Thread nD τ) none) Set.univ
            (.op (.waitDma2 cc0_scratch0.sem (srcRow off' inb') (dstRow off inb) hsrc hdst) K) Q) := by
  unfold waited owing
  rw [if_pos hu]
  by_cases h : u + 1 < 2 * 256
  · rw [if_pos h]
    have hlt : u * N + N < N * (2 * 256) := by
      have := Nat.mul_lt_mul_of_pos_right h N_pos
      rw [Nat.mul_comm N]; rwa [Nat.succ_mul] at this
    iintro ⟨HB, ⟨%W, HO⟩⟩ HK
    have hw := fun W => Transfers.wp_waitBatch (countersEmb (U := Pipeline.UD sig nD τ)) (defs := defs₀ (F := F)) (Q := Q) Variants.none (c : Thread nD τ) none
      (sem := cc0_scratch0.sem) (srcw := srcRow off' inb') (dstw := dstRow off inb) (hsrc := hsrc) (hdst := hdst) (k := K) () (dstRow_credit off inb)
      (D := D) hlt (W := W)
    iapply (hw W) $$ [HB HO]
    · isplitl [HB] <;> iassumption
    iintro ⟨HB, HO⟩
    iapply HK
    rw [show (u + 1) * N = u * N + N from Nat.succ_mul u N]
    isplitl [HB]; · iexact HB
    iexists _; iexact HO
  · rw [if_neg h]
    have heq : u * N + N = N * (2 * 256) := by
      have : u + 1 = 2 * 256 := by omega
      rw [Nat.mul_comm N, ← this, Nat.succ_mul]
    iintro ⟨HB, ⟨%W, HO⟩⟩ HK
    have hw := fun W => Transfers.wp_waitBatchLast (countersEmb (U := Pipeline.UD sig nD τ)) (defs := defs₀ (F := F)) (Q := Q) Variants.none (c : Thread nD τ) none
      (sem := cc0_scratch0.sem) (srcw := srcRow off' inb') (dstw := dstRow off inb) (hsrc := hsrc) (hdst := hdst) (k := K) () (dstRow_credit off inb)
      (D := D) N_pos heq (W := W)
    iapply (hw W) $$ [HB HO]
    · isplitl [HB] <;> iassumption
    iintro ⟨HD, HC, HO⟩
    iapply HK
    isplitl [HD HC]
    · isplitl [HD] <;> iassumption
    iexists _; iexact HO

/-- Before trip `k` of the second loop. -/
def drainAt (k : ℕ) (_ : Unit) : sProp 𝕄 :=
  iprop(tabs c qp qx P arg2 blk ∗ waited c (deliv c g fh (d0 P X) (d1 P X) ((i 0).val * 256)) (2 * k) ∗ owing c)

theorem drain_step (hX : arg2.view.read (Elt F) blk = X) (hr : InRange P X)
    (k : Fin k0_t2_loop.trips) (acc : Unit) :
    drainAt c i arg2 qp qx P X blk g fh k.val acc
      ⊢ wp frame (wpE (defs₀ (F := F)) Variants.none (c : Thread nD τ) none) Set.univ
          (k0_t2_body (F := F) i (Memref.whole main_arg2) (Memref.isWhole_whole _) arg2 harg2 (Memref.whole main_arg0) (Memref.isWhole_whole _)
            (Memref.whole main_v0) (Memref.isWhole_whole _) (Memref.whole main_v0) (Memref.isWhole_whole _) cc0_scratch0 k acc)
          (drainAt c i arg2 qp qx P X blk g fh (k.val + 1)) := by
  have hk : k.val < 256 := trips2 ▸ k.isLt
  unfold drainAt
  unfold k0_t2_body
  simp only [smemLoad, Prog.lift, Prog.bind_op, Prog.bind_ret, Prog.pure_eq_ret, smemLoadElt_bind]
  iintro ⟨⟨HP, HX⟩, HB, HO⟩
  named_smem HX (X (ix (4 * k.val))) ((read_word arg2 blk X hX _ _ _ (by omega) (off11_eq k) _).symm)
  have hc1 : k0_chk5 (X (ix (4 * k.val))) := chk_e _ (hr.e0 _ hk)
  iapply (wp_assume _ _ _ _ hc1)
  named_smem HP (P (ixp (X (ix (4 * k.val))).toNat)) ((read_first (F := F) P _ _ _ (hr.e0 _ hk) rfl _).symm)
  named_smem HX (X (ix (4 * k.val + 2))) ((read_word arg2 blk X hX _ _ _ (by omega) (off13_eq k) _).symm)
  have hc3 : k0_chk7 (P (ixp (X (ix (4 * k.val))).toNat)) (X (ix (4 * k.val + 2))) := chk_r _ (hr.r0 _ hk)
  iapply (wp_assume _ _ _ _ hc3)
  named_smem HX (X (ix (4 * k.val + 1))) ((read_word arg2 blk X hX _ _ _ (by omega) (off14_eq k) _).symm)
  have hc2 : k0_chk6 (X (ix (4 * k.val + 1))) := chk_e _ (hr.e1 _ hk)
  iapply (wp_assume _ _ _ _ hc2)
  named_smem HP (P (ixp (X (ix (4 * k.val + 1))).toNat)) ((read_first (F := F) P _ _ _ (hr.e1 _ hk) rfl _).symm)
  named_smem HX (X (ix (4 * k.val + 3))) ((read_word arg2 blk X hX _ _ _ (by omega) (off16_eq k) _).symm)
  have hc4 : k0_chk8 (P (ixp (X (ix (4 * k.val + 1))).toNat)) (X (ix (4 * k.val + 3))) := chk_r _ (hr.r1 _ hk)
  iapply (wp_assume _ _ _ _ hc4)
  iapply (wp_await c (deliv c g fh (d0 P X) (d1 P X) ((i 0).val * 256)) _ _ _ (k0_off18_inb i k) (2 * k.val) (by omega)) $$ [HB HO]
  · isplitl [HB] <;> iassumption
  iintro ⟨HB, HO⟩
  iapply (wp_await c (deliv c g fh (d0 P X) (d1 P X) ((i 0).val * 256)) _ _ _ (k0_off20_inb i k) (2 * k.val + 1) (by omega)) $$ [HB HO]
  · isplitl [HB] <;> iassumption
  iintro ⟨HB, HO⟩
  rw [wp_ret]
  imodintro
  isplitl [HP HX]
  · isplitl [HP] <;> iassumption
  isplitl [HB]; · iexact HB
  iexact HO

end Cert.Dispatch

end
-- ==== Proof.Point.lean ====
/-
  The dispatch kernel at one grid point: its 512 rows taken out of the destination, sent, waited for and put back.
-/
module

public import proofs.«01_k».proof.Proof.Trip

@[expose] public section

noncomputable section

namespace Cert.Dispatch

open Cert.KernelIdeal Cert.KernelIdeal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

/-- The resources: the pipeline's algebra with the counters a batch of transfers on one semaphore is shared by. -/
local notation "𝕄" => MT nD τ sig Unit (Elt F) ℕ (Pipeline.UD sig nD τ) ℕ

variable (c : Dev nD)

/-- The whole destination, and the whole source. -/
abbrev wholeD (f : S73728x1024.Idx → Elt F .f32) : sProp 𝕄 :=
  (Memref.whole main_v0 : Memref sig .tc .hbm S73728x1024 .f32).view.loc (c : Thread nD τ) ↦{fullShare} f
abbrev wholeS (f : S32768x1024.Idx → Elt F .f32) : sProp 𝕄 :=
  (Memref.whole main_arg0 : Memref sig .tc .hbm S32768x1024 .f32).view.loc (c : Thread nD τ) ↦{fullShare} f

/-- A point's 512 rows are 512 different rows. -/
structure Apart (P : S32.Idx → BitVec 32) (X : S1x1x1024.Idx → BitVec 32) : Prop where
  same0 : ∀ t < 256, ∀ t' < 256, (d0 P X t).toNat = (d0 P X t').toNat → t = t'
  same1 : ∀ t < 256, ∀ t' < 256, (d1 P X t).toNat = (d1 P X t').toNat → t = t'
  cross : ∀ t < 256, ∀ t' < 256, (d0 P X t).toNat ≠ (d1 P X t').toNat

theorem rowD_disjoint {r r' : ℕ} (h : r ≠ r') : Disjoint (rowD r) (rowD r') := by
  rw [Finset.disjoint_left]; intro y hy hy'; rw [mem_rowD] at hy hy'; exact h (hy.symm.trans hy')
theorem rowS_disjoint {r r' : ℕ} (h : r ≠ r') : Disjoint (rowS r) (rowS r') := by
  rw [Finset.disjoint_left]; intro y hy hy'; rw [mem_rowS] at hy hy'; exact h (hy.symm.trans hy')

/-- The elements of the destination in the rows of one of the two families. -/
abbrev famD (D : ℕ → BitVec 32) : Finset S73728x1024.Idx := (Finset.range 256).biUnion fun t => rowD (D t).toNat
/-- The elements of the source in a point's 256 rows. -/
abbrev famS (b : ℕ) : Finset S32768x1024.Idx := (Finset.range 256).biUnion fun t => rowS (b + t)

omit [FloatOps F] in
theorem famD_rows (D : ℕ → BitVec 32) (h : ∀ t < 256, ∀ t' < 256, (D t).toNat = (D t').toNat → t = t') (f : S73728x1024.Idx → Elt F .f32) :
    ((Memref.whole main_v0 : Memref sig .tc .hbm S73728x1024 .f32).view.loc (c : Thread nD τ) ↦[famD D]{fullShare} f : sProp 𝕄)
      = bigSep (Finset.range 256) fun t => heldD c f (D t).toNat :=
  pointsTo_biUnion _ _ fun t ht t' ht' hne => rowD_disjoint fun he =>
    hne (h t (Finset.mem_range.mp ht) t' (Finset.mem_range.mp ht') he)

omit [FloatOps F] in
theorem famS_rows (q : PosShare TreeShare) (b : ℕ) (f : S32768x1024.Idx → Elt F .f32) :
    ((Memref.whole main_arg0 : Memref sig .tc .hbm S32768x1024 .f32).view.loc (c : Thread nD τ) ↦[famS b]{q} f : sProp 𝕄)
      = bigSep (Finset.range 256) fun t => heldS c q f (b + t) :=
  pointsTo_biUnion _ _ fun t ht t' ht' hne => rowS_disjoint fun he => hne (by omega)

theorem halves : fullShare ∈ PCS.op fullShare.left fullShare.right := by
  rw [PosShare.left_op_right]; exact Part.mem_some _

omit [FloatOps F] in
/-- The source is a point's rows at one half, the same rows at the other, and its other rows. -/
theorem source_split (b : ℕ) (fh : S32768x1024.Idx → Elt F .f32) :
    (wholeS c fh : sProp 𝕄) ⊣⊢ iprop(((bigSep (Finset.range 256) fun t => heldS c fullShare.left fh (b + t))
        ∗ (bigSep (Finset.range 256) fun t => heldS c fullShare.right fh (b + t)))
      ∗ ((Memref.whole main_arg0 : Memref sig .tc .hbm S32768x1024 .f32).view.loc (c : Thread nD τ) ↦[Finset.univ \ famS b]{fullShare} fh)) := by
  rw [← famS_rows, ← famS_rows]
  refine (pointsTo_split_subset (Finset.subset_univ (famS b))).trans ?_
  have h := pointsTo_share (ℓ := (Memref.whole main_arg0 : Memref sig .tc .hbm S32768x1024 .f32).view.loc (c : Thread nD τ)) (I := famS b) (f := fh)
    (Ix := Unit) (Name := ℕ) (U := Pipeline.UD sig nD τ) (Lvl := ℕ) halves
  exact ⟨BI.sep_mono_l h.1, BI.sep_mono_l h.2⟩

omit [FloatOps F] in
/-- The destination is the rows of the two families and its other rows. -/
theorem dest_split (D0 D1 : ℕ → BitVec 32) (h0 : ∀ t < 256, ∀ t' < 256, (D0 t).toNat = (D0 t').toNat → t = t')
    (h1 : ∀ t < 256, ∀ t' < 256, (D1 t).toNat = (D1 t').toNat → t = t') (h01 : ∀ t < 256, ∀ t' < 256, (D0 t).toNat ≠ (D1 t').toNat)
    (f : S73728x1024.Idx → Elt F .f32) :
    (wholeD c f : sProp 𝕄) ⊣⊢ iprop((bigSep (Finset.range 256) fun t => heldD c f (D0 t).toNat)
        ∗ (bigSep (Finset.range 256) fun t => heldD c f (D1 t).toNat)
      ∗ ((Memref.whole main_v0 : Memref sig .tc .hbm S73728x1024 .f32).view.loc (c : Thread nD τ)
          ↦[(Finset.univ \ famD D0) \ famD D1]{fullShare} f)) := by
  rw [← famD_rows c D0 h0, ← famD_rows c D1 h1]
  have hs : famD D1 ⊆ Finset.univ \ famD D0 := by
    intro y hy
    rw [Finset.mem_sdiff]
    refine ⟨Finset.mem_univ _, fun hy' => ?_⟩
    obtain ⟨t, ht, hyt⟩ := Finset.mem_biUnion.mp hy
    obtain ⟨t', ht', hyt'⟩ := Finset.mem_biUnion.mp hy'
    exact h01 t' (Finset.mem_range.mp ht') t (Finset.mem_range.mp ht)
      (((mem_rowD _ y).mp hyt').symm.trans ((mem_rowD _ y).mp hyt))
  refine (pointsTo_split_subset (Finset.subset_univ (famD D0))).trans ?_
  have h := pointsTo_split_subset (ℓ := (Memref.whole main_v0 : Memref sig .tc .hbm S73728x1024 .f32).view.loc (c : Thread nD τ)) (f := f) (q := fullShare)
    (Ix := Unit) (Name := ℕ) (U := Pipeline.UD sig nD τ) (Lvl := ℕ) hs
  exact ⟨BI.sep_mono_r h.1, BI.sep_mono_r h.2⟩

variable (i : grid0.Coords) (arg2 : Memref sig .tc .smem S1x1x1024 .i32) (harg2 : arg2.IsWhole) (qp qx : PosShare TreeShare)
variable (P : S32.Idx → BitVec 32) (X : S1x1x1024.Idx → BitVec 32) (blk : arg2.view.ty.Contents (Elt F))
variable (f g : S73728x1024.Idx → Elt F .f32) (fh : S32768x1024.Idx → Elt F .f32)

/-- The destination keeps what it held off the point's rows. -/
def Keeps : Prop := ∀ y : S73728x1024.Idx, (∀ t < 256, (y 0).val ≠ (d0 P X t).toNat ∧ (y 0).val ≠ (d1 P X t).toNat) → g y = f y

omit [FloatOps F] in
/-- The rows of the destination off the point's are the same at either contents. -/
theorem rest_keeps (hk : Keeps P X f g) :
    ((Memref.whole main_v0 : Memref sig .tc .hbm S73728x1024 .f32).view.loc (c : Thread nD τ)
        ↦[(Finset.univ \ famD (d0 P X)) \ famD (d1 P X)]{fullShare} f : sProp 𝕄)
      = ((Memref.whole main_v0 : Memref sig .tc .hbm S73728x1024 .f32).view.loc (c : Thread nD τ)
        ↦[(Finset.univ \ famD (d0 P X)) \ famD (d1 P X)]{fullShare} g) := by
  refine pointsTo_congr fun y hy => ?_
  rw [Finset.mem_sdiff, Finset.mem_sdiff] at hy
  exact (hk y fun t ht => ⟨fun h => hy.1.2 (Finset.mem_biUnion.mpr ⟨t, Finset.mem_range.mpr ht, (mem_rowD _ y).mpr h⟩),
    fun h => hy.2 (Finset.mem_biUnion.mpr ⟨t, Finset.mem_range.mpr ht, (mem_rowD _ y).mpr h⟩)⟩).symm

/-- A point's state between its two loops and around them: the tables, what the core owes, the semaphore at zero, the
    two arrays. -/
abbrev pointAt (f : S73728x1024.Idx → Elt F .f32) : sProp 𝕄 :=
  iprop(tabs c qp qx P arg2 blk ∗ owing c ∗ semVal ((c : Thread nD τ), SemLoc.dma cc0_scratch0.sem) 0 ∗ wholeD c f ∗ wholeS c fh)

/-- One grid point of the kernel: the destination goes from `f` to `g`, where `g` holds the point's tokens' rows at
    their destinations and is `f` elsewhere. -/
theorem point (hX : arg2.view.read (Elt F) blk = X) (hr : InRange P X) (ha : Apart P X)
    (hl : Lands P X g fh ((i 0).val * 256)) (hk : Keeps P X f g) :
    pointAt c arg2 qp qx P blk fh f
      ⊢ wp frame (wpE (defs₀ (F := F)) Variants.none (c : Thread nD τ) none) Set.univ
          (cc0_expert_dispatch_skel (F := F) i (Memref.whole main_arg2) (Memref.isWhole_whole _) arg2 harg2 (Memref.whole main_arg0) (Memref.isWhole_whole _)
            (Memref.whole main_v0) (Memref.isWhole_whole _) (Memref.whole main_v0) (Memref.isWhole_whole _) cc0_scratch0)
          (fun _ => pointAt c arg2 qp qx P blk fh g) := by
  unfold cc0_expert_dispatch_skel pointAt
  iintro ⟨HT, HO, HC, HD, HS⟩
  ihave HS := (source_split c ((i 0).val * 256) fh).1 $$ HS
  ihave HD := (dest_split c (d0 P X) (d1 P X) ha.same0 ha.same1 ha.cross f).1 $$ HD
  icases HS with ⟨⟨HS0, HS1⟩, HSr⟩
  icases HD with ⟨HD0, HD1, HDr⟩
  imod (Transfers.batch_alloc' (Lvl := ℕ) (countersEmb (U := Pipeline.UD sig nD τ)) (c : Thread nD τ) () N
    (deliv c g fh (d0 P X) (d1 P X) ((i 0).val * 256)) (sm := .dma cc0_scratch0.sem) (E := Set.univ)) $$ HC with HB
  ihave Hp := (show iprop(((bigSep (Finset.range 256) fun t => heldD c f (d0 P X t).toNat) ∗ (bigSep (Finset.range 256) fun t => heldS c fullShare.left fh ((i 0).val * 256 + t)))
      ∗ ((bigSep (Finset.range 256) fun t => heldD c f (d1 P X t).toNat) ∗ (bigSep (Finset.range 256) fun t => heldS c fullShare.right fh ((i 0).val * 256 + t))))
      ⊢ (bigSep (Finset.Ico 0 256) (pack c f fh (d0 P X) (d1 P X) ((i 0).val * 256)) : sProp 𝕄) from by
        rw [← Finset.range_eq_Ico]; unfold pack
        exact Entails.of_eq ((congrArg₂ BI.sep (BI.bigSep_sep _ _ _).symm (BI.bigSep_sep _ _ _).symm).trans (BI.bigSep_sep _ _ _).symm)) $$ [HD0 HS0 HD1 HS1]
  · isplitl [HD0 HS0]
    · isplitl [HD0] <;> iassumption
    · isplitl [HD1] <;> iassumption
  iapply (Scf.wp_for_bind frame (wpE (defs₀ (F := F)) Variants.none (c : Thread nD τ) none) Set.univ k0_t1_loop.lb k0_t1_loop.ub k0_t1_loop.st k0_t1_ok _ _
    (issueAt c i arg2 qp qx P X blk f g fh) (issue_step c i arg2 harg2 qp qx P X blk f g fh hX hr hl)) $$ [HT HB Hp]
  · unfold issueAt
    isplitl [HT]; · iexact HT
    isplitl [HB]; · iexact HB
    iexact Hp
  iintro %acc HI
  unfold issueAt
  icases HI with ⟨HT, HB, -⟩
  iapply (Scf.wp_for_bind frame (wpE (defs₀ (F := F)) Variants.none (c : Thread nD τ) none) Set.univ k0_t2_loop.lb k0_t2_loop.ub k0_t2_loop.st k0_t2_ok _ _
    (drainAt c i arg2 qp qx P X blk g fh) (drain_step c i arg2 harg2 qp qx P X blk g fh hX hr)) $$ [HT HB HO]
  · unfold drainAt waited
    rw [if_pos (by decide), show Scf.trips k0_t1_loop.lb k0_t1_loop.ub k0_t1_loop.st = 256 from trips1, Nat.mul_zero, Nat.zero_mul]
    isplitl [HT]; · iexact HT
    isplitl [HB]; · iexact HB
    iexact HO
  iintro %acc' HI
  rw [show Scf.trips k0_t2_loop.lb k0_t2_loop.ub k0_t2_loop.st = 256 from trips2]
  unfold drainAt waited
  rw [if_neg (by decide)]
  icases HI with ⟨HT, ⟨HDel, HC⟩, HO⟩
  ihave Hp := (show (bigSep Finset.univ (deliv c g fh (d0 P X) (d1 P X) ((i 0).val * 256)) : sProp 𝕄)
      ⊢ iprop(((bigSep (Finset.range 256) fun t => heldD c g (d0 P X t).toNat) ∗ (bigSep (Finset.range 256) fun t => heldS c fullShare.left fh ((i 0).val * 256 + t)))
      ∗ ((bigSep (Finset.range 256) fun t => heldD c g (d1 P X t).toNat) ∗ (bigSep (Finset.range 256) fun t => heldS c fullShare.right fh ((i 0).val * 256 + t)))) from by
        refine (Entails.of_eq (Ring.bigSep_interleaved 256 _ _)).trans (Entails.of_eq ?_)
        exact (congrArg₂ BI.sep (BI.bigSep_sep _ _ _) (BI.bigSep_sep _ _ _))) $$ HDel
  icases Hp with ⟨⟨HD0, HS0⟩, ⟨HD1, HS1⟩⟩
  rw [Prog.pure_eq_ret, wp_ret]
  imodintro
  isplitl [HT]; · iexact HT
  isplitl [HO]; · iexact HO
  isplitl [HC]; · iexact HC
  isplitl [HD0 HD1 HDr]
  · iapply (dest_split c (d0 P X) (d1 P X) ha.same0 ha.same1 ha.cross g).2
    isplitl [HD0]; · iexact HD0
    isplitl [HD1]; · iexact HD1
    iapply (Entails.of_eq (rest_keeps c P X f g hk)) $$ HDr
  · iapply (source_split c ((i 0).val * 256) fh).2
    isplitl [HS0 HS1]
    · isplitl [HS0] <;> iassumption
    iexact HSr

end Cert.Dispatch

end
-- ==== Proof.Routes.lean ====
/-
  The routing as a whole: the destination rows of every token, read off the routing table; what the destination holds
  after the first grid points; and a grid point's block of the table as a part of the whole. Pure facts.
-/
module

public import proofs.«01_k».proof.Proof.Point

@[expose] public section

noncomputable section

namespace Cert.Dispatch

open Cert.KernelIdeal Cert.KernelIdeal.Gen
open Idealize.ShloMosaic Idealize.ShloMosaic.TcCoe

variable {F : FTy → Type} [FloatOps F]

/-- Entry `j` of token `n`'s row of the routing table; element `k` of its row of activations. -/
def ixi (n j : ℕ) : S32768x4.Idx := fun a => match a with
  | ⟨0, _⟩ => (⟨n % 32768, Nat.mod_lt _ (by decide)⟩ : Fin 32768)
  | ⟨1, _⟩ => (⟨j % 4, Nat.mod_lt _ (by decide)⟩ : Fin 4)
  | ⟨_ + 2, h⟩ => absurd h (by intro h; exact absurd h (by simp))
def ixh (n : ℕ) (k : Fin 1024) : S32768x1024.Idx := fun a => match a with
  | ⟨0, _⟩ => (⟨n % 32768, Nat.mod_lt _ (by decide)⟩ : Fin 32768)
  | ⟨1, _⟩ => (k : Fin 1024)
  | ⟨_ + 2, h⟩ => absurd h (by intro h; exact absurd h (by simp))

/-- The row at which token `n`'s first, and its second, expert receives it. -/
def D0 (P : S32.Idx → BitVec 32) (I : S32768x4.Idx → BitVec 32) (n : ℕ) : BitVec 32 := P (ixp (I (ixi n 0)).toNat) + I (ixi n 2)
def D1 (P : S32.Idx → BitVec 32) (I : S32768x4.Idx → BitVec 32) (n : ℕ) : BitVec 32 := P (ixp (I (ixi n 1)).toNat) + I (ixi n 3)

/-- A routing that can be dispatched: the experts are 0 .. 31, the rows are rows of the destination, and no two of the
    65536 rows are the same. -/
structure Routes (P : S32.Idx → BitVec 32) (I : S32768x4.Idx → BitVec 32) : Prop where
  e0 : ∀ n < 32768, (I (ixi n 0)).toNat < 32
  e1 : ∀ n < 32768, (I (ixi n 1)).toNat < 32
  r0 : ∀ n < 32768, (D0 P I n).toNat < 73728
  r1 : ∀ n < 32768, (D1 P I n).toNat < 73728
  same0 : ∀ n < 32768, ∀ n' < 32768, (D0 P I n).toNat = (D0 P I n').toNat → n = n'
  same1 : ∀ n < 32768, ∀ n' < 32768, (D1 P I n).toNat = (D1 P I n').toNat → n = n'
  cross : ∀ n < 32768, ∀ n' < 32768, (D0 P I n).toNat ≠ (D1 P I n').toNat

/-- Row `r` of the destination is one of token `n`'s. -/
def Takes (P : S32.Idx → BitVec 32) (I : S32768x4.Idx → BitVec 32) (r n : ℕ) : Prop :=
  r = (D0 P I n).toNat ∨ r = (D1 P I n).toNat

theorem Routes.takes_unique {P I} (h : Routes P I) {r n n' : ℕ} (hn : n < 32768) (hn' : n' < 32768)
    (t : Takes P I r n) (t' : Takes P I r n') : n = n' := by
  rcases t with t | t <;> rcases t' with t' | t'
  · exact h.same0 n hn n' hn' (t.symm.trans t')
  · exact absurd (t.symm.trans t') (h.cross n hn n' hn')
  · exact absurd (t'.symm.trans t) (h.cross n' hn' n hn)
  · exact h.same1 n hn n' hn' (t.symm.trans t')

open Classical in
/-- The destination after the first `p` grid points: the rows their tokens take hold those tokens' activations, the
    others what they held at first. -/
def filled (P : S32.Idx → BitVec 32) (I : S32768x4.Idx → BitVec 32) (fh : S32768x1024.Idx → Elt F .f32) (z : S73728x1024.Idx → Elt F .f32)
    (p : ℕ) : S73728x1024.Idx → Elt F .f32 :=
  fun y => if h : ∃ n, n < 256 * p ∧ Takes P I (y 0).val n then fh (ixh h.choose (y 1)) else z y

theorem filled_zero (P : S32.Idx → BitVec 32) (I : S32768x4.Idx → BitVec 32) (fh : S32768x1024.Idx → Elt F .f32) (z : S73728x1024.Idx → Elt F .f32) :
    filled P I fh z 0 = z := by
  funext y; unfold filled; rw [dif_neg]; rintro ⟨n, hn, -⟩; omega

theorem filled_hit {P I} (h : Routes P I) (fh : S32768x1024.Idx → Elt F .f32) (z : S73728x1024.Idx → Elt F .f32) (p : ℕ) (hp : p ≤ 128)
    (y : S73728x1024.Idx) (n : ℕ) (hn : n < 256 * p) (ht : Takes P I (y 0).val n) : filled P I fh z p y = fh (ixh n (y 1)) := by
  have he : ∃ n, n < 256 * p ∧ Takes P I (y 0).val n := ⟨n, hn, ht⟩
  unfold filled; rw [dif_pos he, h.takes_unique (by have := he.choose_spec.1; omega) (by omega) he.choose_spec.2 ht]

theorem filled_miss (P : S32.Idx → BitVec 32) (I : S32768x4.Idx → BitVec 32) (fh : S32768x1024.Idx → Elt F .f32) (z : S73728x1024.Idx → Elt F .f32)
    (p : ℕ) (y : S73728x1024.Idx) (hn : ∀ n < 256 * p, ¬ Takes P I (y 0).val n) : filled P I fh z p y = z y := by
  unfold filled; rw [dif_neg]; rintro ⟨n, h, t⟩; exact hn n h t

/-! ### A grid point's block -/

/-- Block `q` of the routing table: word `j` is the table's entry number `1024 q + j`. -/
def IsBlock (I : S32768x4.Idx → BitVec 32) (X : S1x1x1024.Idx → BitVec 32) (q : ℕ) : Prop :=
  ∀ t < 256, ∀ j < 4, X (ix (4 * t + j)) = I (ixi (256 * q + t) j)

variable {P : S32.Idx → BitVec 32} {I : S32768x4.Idx → BitVec 32} {X : S1x1x1024.Idx → BitVec 32} {q : ℕ}

theorem IsBlock.d0 (h : IsBlock I X q) {t : ℕ} (ht : t < 256) : Dispatch.d0 P X t = D0 P I (256 * q + t) := by
  unfold Dispatch.d0 D0; rw [← h t ht 0 (by decide), ← h t ht 2 (by decide)]; rfl
theorem IsBlock.d1 (h : IsBlock I X q) {t : ℕ} (ht : t < 256) : Dispatch.d1 P X t = D1 P I (256 * q + t) := by
  unfold Dispatch.d1 D1; rw [← h t ht 1 (by decide), ← h t ht 3 (by decide)]

/-- A block of a dispatchable routing names experts and rows that exist, and names no row twice. -/
theorem IsBlock.inRange (h : IsBlock I X q) (hR : Routes P I) (hq : q < 128) : InRange P X where
  e0 t ht := by have := h t ht 0 (by decide); rw [Nat.add_zero] at this; rw [this]; exact hR.e0 _ (by omega)
  e1 t ht := by rw [h t ht 1 (by decide)]; exact hR.e1 _ (by omega)
  r0 t ht := by rw [h.d0 ht]; exact hR.r0 _ (by omega)
  r1 t ht := by rw [h.d1 ht]; exact hR.r1 _ (by omega)

theorem IsBlock.apart (h : IsBlock I X q) (hR : Routes P I) (hq : q < 128) : Apart P X where
  same0 t ht t' ht' he := by rw [h.d0 ht, h.d0 ht'] at he; have := hR.same0 _ (by omega) _ (by omega) he; omega
  same1 t ht t' ht' he := by rw [h.d1 ht, h.d1 ht'] at he; have := hR.same1 _ (by omega) _ (by omega) he; omega
  cross t ht t' ht' he := by rw [h.d0 ht, h.d1 ht'] at he; exact hR.cross _ (by omega) _ (by omega) he

/-- After the point its rows hold its tokens' activations. -/
theorem IsBlock.lands (h : IsBlock I X q) (hR : Routes P I) (hq : q < 128) (fh : S32768x1024.Idx → Elt F .f32) (z : S73728x1024.Idx → Elt F .f32) :
    Lands P X (filled P I fh z (q + 1)) fh (q * 256) := by
  intro t ht r hr y hy w hw0 hw1
  rw [h.d0 ht, h.d1 ht] at hr
  have hy0 := (mem_rowD _ y).mp hy
  rw [filled_hit hR fh z (q + 1) (by omega) y (256 * q + t) (by omega) (by unfold Takes; rw [hy0]; exact hr)]
  congr 1
  funext a; fin_cases a
  · exact Fin.ext (by show (256 * q + t) % 32768 = (w 0).val; rw [hw0]; omega)
  · exact Fin.ext hw1.symm

/-- The point changes no other row. -/
theorem IsBlock.keeps (h : IsBlock I X q) (hR : Routes P I) (hq : q < 128) (fh : S32768x1024.Idx → Elt F .f32) (z : S73728x1024.Idx → Elt F .f32) :
    Keeps P X (filled P I fh z q) (filled P I fh z (q + 1)) := by
  intro y hy
  have hno : ∀ t < 256, ¬ Takes P I (y 0).val (256 * q + t) := by
    intro t ht hT
    have := hy t ht
    rw [h.d0 ht, h.d1 ht] at this
    rcases hT with hT | hT
    · exact this.1 hT
    · exact this.2 hT
  by_cases he : ∃ n, n < 256 * q ∧ Takes P I (y 0).val n
  · obtain ⟨n, hn, hT⟩ := he
    rw [filled_hit hR fh z q (by omega) y n hn hT, filled_hit hR fh z (q + 1) (by omega) y n (by omega) hT]
  · rw [filled_miss P I fh z q y fun n hn hT => he ⟨n, hn, hT⟩, filled_miss P I fh z (q + 1) y fun n hn hT => ?_]
    by_cases hlt : n < 256 * q
    · exact he ⟨n, hlt, hT⟩
    · exact hno (n - 256 * q) (by omega) (by rwa [show 256 * q + (n - 256 * q) = n by omega])

end Cert.Dispatch

end
-- ==== Proof.Run.lean ====
/-
  The dispatch kernel's run: the launch, its 128 grid points, and what the memory holds at the end.
-/
module

public import proofs.«01_k».proof.Proof.Routes
public import Idealize.ShloMosaic.Lib.Claim

@[expose] public section

noncomputable section

namespace Cert.Dispatch

open Cert.KernelIdeal Cert.KernelIdeal.Gen
open Idealize.ShloMosaic Idealize.ShloMosaic.TcCoe Idealize.ShloMosaic.Tactic Idealize.ShloMosaic.Pipeline
open Idealize.SL Idealize.SL.RA
open Idealize.SL.BI (sProp bigSep bigSep_insert bigSep_empty bigSep_singleton)
open scoped Idealize.SL.BI
open Idealize.SL.BI.BIBase Idealize.SL.BI.Laws Idealize.SL.ProofMode Idealize.SL.Sem

variable {F : FTy → Type} [FloatOps F]

/-- The resources: the pipeline's algebra with the counters a batch of transfers on one semaphore is shared by. -/
local notation "𝕄" => MT nD τ sig Unit (Elt F) ℕ (Pipeline.UD sig nD τ) ℕ

/-! ### Up to the kernel's call -/

variable (m : (ℓ : Loc nD τ sig) → Buf (Elt F) ℓ)

theorem hostOps0_fresh : (hostOps0 : List (HloOp τ sig (Elt F))).Forall fun op => op.fresh = ∅ := by
  simp only [List.Forall]; repeat' constructor

/-- A core's buffers when the kernel's call is reached. -/
abbrev entry0 (c : Dev nD) (b : Ref sig .tc) : Buf (Elt F) ((c : Thread nD τ).loc b) := StableHlo.after hostOps0 (fun b => m (c, b)) b

theorem hmain0 : Pipeline.HMainP (Ix := Unit) (Name := ℕ) (U := Pipeline.UD sig nD τ) (Lvl := ℕ) pcfgs 0 defs₀ Variants.none m (main (F := F)) (entry0 m) :=
  Pipeline.hmainP_prefix pcfgs 0 defs₀ Variants.none m main hostOps0 hostOps0_sub hostOps0_fresh main_chain

/-- The arguments as launched. -/
abbrev acts (c : Dev nD) : S32768x1024.Idx → Elt F .f32 := m ((c : Thread nD τ).loc main_arg0)
abbrev routing (c : Dev nD) : S32768x4.Idx → BitVec 32 := m ((c : Thread nD τ).loc main_arg1)
abbrev firsts (c : Dev nD) : S32.Idx → BitVec 32 := m ((c : Thread nD τ).loc main_arg2)
/-- The destination's initial contents: zeros. -/
abbrev zeros : S73728x1024.Idx → Elt F .f32 := fun _ => FloatOps.ofBits .f32 0x00000000#32

theorem entry_arg0 (c : Dev nD) : entry0 m c main_arg0 = acts m c := by
  unfold entry0; entry_read; rfl
theorem entry_arg1 (c : Dev nD) : entry0 m c main_arg1 = routing m c := by
  unfold entry0; entry_read; rfl
theorem entry_arg2 (c : Dev nD) : entry0 m c main_arg2 = firsts m c := by
  unfold entry0; entry_read; rfl
theorem entry_v0 (c : Dev nD) : entry0 m c main_v0 = (zeros : S73728x1024.Idx → Elt F .f32) := by
  unfold entry0; entry_read; rfl
theorem entry_v1 (c : Dev nD) : entry0 m c main_v1 = shapeCast S128x1x1024 (routing m c) shapeCasts_S32768x4_S128x1x1024 := by
  unfold entry0; entry_read; rfl

/-- The prefetched table's contents, as the call takes them. -/
abbrev adm : (p : Fin 1) → (pcfgs (F := F) p).Adm := fun _ => ⟨fun j => entry0 m 0 (pre0.ref j), trivial⟩
abbrev cfgM : Pipeline.Cfg sig Λ₀ := cfg0 (adm m 0)

theorem entry_pre (c : Dev nD) (j : Fin 1) : entry0 m c (pre0.ref j) = (adm m 0).1 j := by
  obtain rfl : c = 0 := Subsingleton.elim _ _; rfl

/-- The grid's one coordinate is the point's number. -/
theorem coords0 (t : Fin grid0.N) : (grid0.coords t 0).val = t.val := by
  have ht : t.val < 128 := t.isLt
  rw [Pipeline.Grid.coords_val t 0 (S := 1) (B := 128) (by decide) (by decide)]; omega

/-- The block of the routing table point `t` works on. -/
def block (c : Dev nD) (t : Fin (cfgM m).N) : S1x1x1024.Idx → BitVec 32 :=
  (((cfgM m).win 0).blk t).view.read (Elt F) (entry0 m c main_v1)

theorem isBlock (c : Dev nD) (t : Fin (cfgM m).N) : IsBlock (routing m c) (block m c t) t.val := by
  intro k hk j hj
  have ht : t.val < 128 := t.isLt
  unfold block
  rw [entry_v1]
  show shapeCast S128x1x1024 (routing m c) shapeCasts_S32768x4_S128x1x1024 _ = _
  refine congrArg (routing m c) (Shape.reshapeEquiv_eq_of_rowMajor _ ?_)
  have hj4 : (4 * k + j) % 1024 = 4 * k + j := Nat.mod_eq_of_lt (by omega)
  have he : ∀ a, ((((cfgM m).win 0).blk t).view.emb (ix (4 * k + j)) a).val = ![t.val, 0, 4 * k + j] a := by
    intro a
    fin_cases a
    · show ((BitVec.ofNat 32 (grid0.coords t 0).val).toNat) * 1 + 1 * 0 = t.val
      rw [coords0, BitVec.toNat_ofNat]; omega
    · rfl
    · show 0 * 1024 + 1 * ((4 * k + j) % 1024) = 4 * k + j
      omega
  revert he
  generalize (((cfgM m).win 0).blk t).view.emb (ix (4 * k + j)) = E
  change S128x1x1024.Idx at E
  intro he
  refine (Shape.rowMajor_val_two (d := ![32768, 4]) (ixi (256 * t.val + k) j)).trans (Eq.trans ?_ (Shape.rowMajor_val_three (d := ![128, 1, 1024]) E).symm)
  rw [show (E 0).val = t.val from he (0 : Fin 3), show (E 1).val = 0 from he (1 : Fin 3), show (E 2).val = 4 * k + j from he (2 : Fin 3)]
  show (256 * t.val + k) % 32768 * 4 + j % 4 = (t.val * 1 + 0) * 1024 + (4 * k + j)
  omega

/-! ### The grid -/

/-- What is held after `p` points: the activations, the destination with the first `p` points' rows filled, the
    kernel's semaphore at zero, the generator's state, the table. -/
def held (c : Dev nD) (p : ℕ) : sProp 𝕄 :=
  iprop(wholeS c (acts m c) ∗ wholeD c (filled (firsts m c) (routing m c) (acts m c) zeros p)
    ∗ semVal ((c : Thread nD τ), SemLoc.dma cc0_scratch0.sem) 0 ∗ (∃ r, prngReg c r)
    ∗ ((Memref.whole main_arg2 : Memref sig .tc .smem S32 .i32).view.loc (c : Thread nD τ) ↦{fullShare.right} firsts m c))

def dats (_ : Fin 1) (c : Dev nD) : Dat τ (Elt F) Unit ℕ (Pipeline.UD sig nD τ) ℕ (cfgM m) c where
  A := fun w => entry0 m c (arrRef spec0 w)
  after := fun | 0, t => block m c t | ⟨_ + 1, h⟩, _ => absurd h (Nat.not_lt.2 (Nat.le_add_left _ _))
  Φ := fun t => held m c t.val
  q := fun _ => fullShare
  owed := fun _ => 0

theorem before0 (c : Dev nD) (t : Fin (cfgM m).N) (d) : (dats m 0 c).before 0 t d = block m c t := by
  refine ((dats m 0 c).before_in_eq_fetched 0 rfl (fun _ => rfl) (fun _ _ _ => rfl) (fun t => rfl) t d).trans ?_
  rfl

theorem phi_before (c : Dev nD) (t : Fin (cfgM m).N) : (dats m 0 c).Φ t.castSucc = held m c t.val := by
  dsimp only [dats]; rfl
theorem phi_after (c : Dev nD) (t : Fin (cfgM m).N) : (dats m 0 c).Φ t.succ = held m c (t.val + 1) := by
  dsimp only [dats]; rfl
theorem found (c : Dev nD) (t : Fin (cfgM m).N) (d) :
    (owns (Ix := Unit) (Name := ℕ) (U := Pipeline.UD sig nD τ) (Lvl := ℕ) (c : Thread nD τ) (((cfgM m).win 0).stage ((cfgM m).slots t 0)) fullShare
        ((dats m 0 c).before 0 t d) : sProp 𝕄)
      = owns (c : Thread nD τ) (((cfgM m).win 0).stage ((cfgM m).slots t 0)) fullShare (block m c t) := by
  rw [before0]

/-- A grid point in the form the pipeline asks it: the tables' block found in the staging buffer and left there. -/
theorem body_held (hR : ∀ c, Routes (firsts m c) (routing m c)) (c : Dev nD) (t : Fin (cfgM m).N)
    (arg2 : Memref sig .tc .smem S1x1x1024 .i32) (harg2 : arg2.IsWhole) :
    iprop(held m c t.val ∗ owing c ∗ owns (Ix := Unit) (Name := ℕ) (U := Pipeline.UD sig nD τ) (Lvl := ℕ) (c : Thread nD τ) arg2 fullShare (block m c t))
      ⊢ wp frame (wpE (defs₀ (F := F)) Variants.none (c : Thread nD τ) none) Set.univ
          (cc0_expert_dispatch (F := F) (grid0.coords t) (Memref.whole main_arg2) (Memref.isWhole_whole _) arg2 harg2 (Memref.whole main_arg0) (Memref.isWhole_whole _)
            (Memref.whole main_v0) (Memref.isWhole_whole _) (Memref.whole main_v0) (Memref.isWhole_whole _) cc0_scratch0)
          (fun _ => iprop(held m c (t.val + 1) ∗ owing c ∗ owns (c : Thread nD τ) arg2 fullShare (block m c t))) := by
  have ht : t.val < 128 := t.isLt
  have hB := isBlock m c t
  have hi : (grid0.coords t 0).val = t.val := coords0 t
  rw [cc0_expert_dispatch_eq_skeleton]
  unfold held owns
  rw [harg2.set_eq_univ]
  iintro ⟨⟨HS, HD, HC, HG, HP⟩, HO, ⟨%blk, %hblk, HX⟩⟩
  have h := point c (grid0.coords t) arg2 harg2 fullShare.right fullShare (firsts m c) (block m c t) blk
    (filled (firsts m c) (routing m c) (acts m c) zeros t.val) (filled (firsts m c) (routing m c) (acts m c) zeros (t.val + 1)) (acts m c)
    hblk (hB.inRange (hR c) ht) (hB.apart (hR c) ht) (by rw [hi]; exact hB.lands (hR c) ht _ _) (hB.keeps (hR c) ht _ _)
  iapply (wp_wand _ _ _) $$ [HP HX HO HC HD HS]
  · iapply h
    unfold pointAt tabs
    isplitl [HP HX]
    · isplitl [HP] <;> iassumption
    isplitl [HO]; · iexact HO
    isplitl [HC]; · iexact HC
    isplitl [HD] <;> iassumption
  iintro %a HQ
  unfold pointAt tabs
  icases HQ with ⟨⟨HP, HX⟩, HO, HC, HD, HS⟩
  isplitl [HS HD HC HG HP]
  · isplitl [HS]; · iexact HS
    isplitl [HD]; · iexact HD
    isplitl [HC]; · iexact HC
    isplitl [HG] <;> iassumption
  isplitl [HO]; · iexact HO
  iexists blk
  isplitr
  · ipureintro; exact hblk
  iexact HX

theorem body0 (hR : ∀ c, Routes (firsts m c) (routing m c)) (c : Dev nD) :
    BodyObligationLoose (dats m 0 c) (defs₀ (F := F)) Variants.none () Set.univ := by
  intro t
  refine triple_restated (body_held m hR c t (((cfgM m).win 0).stage ((cfgM m).slots t 0)) (hstage0_0 (((cfgM m).slots t 0).cast nbuf0_0))) ?_ ?_ ?_
  · rfl
  · rw [bigSep_W0]
    unfold Dat.owesAt Pipeline.owesWithin
    iintro ⟨HH, ⟨%W, -, HO⟩, ⟨%d, HX⟩⟩
    isplitl [HH]; · iapply (Entails.of_eq (phi_before m c t)) $$ HH
    isplitl [HO]; · iexists W; iexact HO
    ihave HY := (Entails.of_eq (found m c t d)) $$ [HX]
    · iexact HX
    iexact HY
  · intro a
    rw [bigSep_W0]
    unfold Dat.owesAt Pipeline.owesWithin
    iintro ⟨HH, ⟨%W, HO⟩, HX⟩
    isplitl [HH]; · iapply (Entails.of_eq (phi_after m c t).symm) $$ HH
    isplitl [HO]
    · iexists W
      isplitr
      · ipureintro; exact fun _ _ => Or.inl trivial
      iexact HO
    iexact HX

/-! ### The launch -/

/-- The kernel's own semaphore. -/
abbrev own : Unit → SemLoc sig := fun _ => .dma cc0_scratch0.sem
theorem ownFacts : Pipeline.OwnSemFacts spec0 own := by decide

/-- What the kernel's call leaves: the destination with every token's rows filled, the rest as it found it. -/
abbrev left (c : Dev nD) (b : Ref sig .tc) : Buf (Elt F) ((c : Thread nD τ).loc b) :=
  Function.update (entry0 m c) main_v0 (filled (firsts m c) (routing m c) (acts m c) zeros 128) b

theorem table_eq (c : Dev nD) : (Pipeline.ΦT pre0 (adm m 0).1 c : sProp 𝕄)
    = ((Memref.whole main_arg2 : Memref sig .tc .smem S32 .i32).view.loc (c : Thread nD τ) ↦{fullShare.right} firsts m c) := by
  obtain rfl : c = 0 := Subsingleton.elim _ _
  unfold Pipeline.ΦT Pipeline.prefHeld
  rw [show (Finset.univ : Finset (Fin 1)) = {(0 : Fin 1)} from by decide, bigSep_singleton]
  rw [← entry_arg2 m 0]
  rfl

theorem begins (c : Dev nD) :
    iprop(ΦDRG own spec0 {main_arg0} {main_v0} (entry0 m) (entry0 m) c ∗ ΦT pre0 (adm m 0).1 c) ⊢ held m c 0 := by
  rw [ΦDRG_eq, table_eq]
  unfold held Pipeline.routed Pipeline.ownSems0
  rw [bigSep_singleton, bigSep_singleton, filled_zero, show (Finset.univ : Finset Unit) = {()} from rfl, bigSep_singleton, entry_arg0, entry_v0]
  iintro ⟨⟨-, HG, HC, HS, HD⟩, HT⟩
  isplitl [HS]; · iexact HS
  isplitl [HD]; · iexact HD
  isplitl [HC]; · iexact HC
  isplitl [HG] <;> iassumption

theorem ends (c : Dev nD) : held m c 128 ⊢ ΦDRG own spec0 {main_arg0} {main_v0} (entry0 m) (left m) c := by
  rw [ΦDRG_eq, scopedRest0_eq]
  unfold held Pipeline.routed Pipeline.ownSems0
  rw [bigSep_singleton, bigSep_singleton, show (Finset.univ : Finset Unit) = {()} from rfl, bigSep_singleton, entry_arg0]
  simp only [left, Function.update_self]
  iintro ⟨HS, HD, HC, HG, -⟩
  isplitr; · iempintro
  isplitl [HG]; · iexact HG
  isplitl [HC]; · iexact HC
  isplitl [HS] <;> iassumption

theorem hbm_rest : ({main_arg0} : Finset (Ref sig .tc)) ⊆ restRefsP sig pre0 spec0 := by decide
theorem hbm_written : ({main_v0} : Finset (Ref sig .tc)) ⊆ restRefsP sig pre0 spec0 \ {main_arg0} := by decide
theorem share_full (c : Dev nD) (w) : (dats m 0 c).share w = fullShare := by
  unfold Dat.share; split <;> rfl

/-- The run: it ends, the arguments as they were, the result the routed rows on zeros, every semaphore at zero. -/
theorem run_main (ρ : Dev nD → PrngReg) (hR : ∀ c, Routes (firsts m c) (routing m c)) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_v0) = filled (firsts m c) (routing m c) (acts m c) zeros 128)
      ∧ r.2.sem = fun _ => 0) := by
  refine (θ_run (defs (F := F)) _ _).mono (fun r h => ?_)
    (Pipeline.θ_run_frameP_dmaRG (Q' := fun r => Pipeline.FramePostRG (pin pcfgs (adm m)) (dats m) 0 {main_v0} (entry0 m) (left m) r
        ∧ r.2.sem = fun _ => 0) pcfgs (adm m) (dats m) 0 launch0 own defs₀ Variants.none ownFacts {main_arg0} {main_v0}
      hbm_rest hbm_written m ρ main (body0 m hR) (share_full m) (fun _ _ => rfl) (entry0 m) (hmain0 m) (fun _ _ => rfl)
      (entry_pre m) (left m) (begins m) (ends m))
  obtain ⟨h, hs⟩ := h
  refine ⟨fun c => ⟨?_, ?_, ?_, ?_⟩, hs⟩
  · exact ((h.toR c).2 main_arg0 (show main_arg0 ∈ restRefs sig spec0 \ {main_v0} from by decide)).trans (entry_arg0 m c)
  · exact ((h.toR c).2 main_arg1 (show main_arg1 ∈ restRefs sig spec0 \ {main_v0} from by decide)).trans (entry_arg1 m c)
  · exact ((h.toR c).2 main_arg2 (show main_arg2 ∈ restRefs sig spec0 \ {main_v0} from by decide)).trans (entry_arg2 m c)
  · refine (h.written c (b := main_v0) (by decide)).trans ?_
    simp only [left, Function.update_self]

end Cert.Dispatch

end
-- ==== Proof.Table.lean ====
/-
  The host operations by which the reference and the precondition read and invert a routing table, at one element:
  the wrap-around of a negative index, the look-up of an expert's first row, and the scatter that sets entries of a
  vector. Pure facts.
-/
module

public import Idealize.ShloMosaic.Lib.Routing.OpsSet
public import proofs.«01_k».proof.Proof.Routes

@[expose] public section

noncomputable section

namespace Cert.Dispatch

open Idealize.ShloMosaic Idealize.ShloMosaic.ValueIdx Idealize.ShloMosaic.Routing

/-- A word read signed as not negative is not wrapped around. -/
theorem wrap_id (x k : BitVec 32) (h : x.toNat < 2 ^ 31) :
    Scalar.select (IntOp.cmpi .slt x 0#32) (IntOp.addi x k) x = x := by
  have h2 : (IntOp.cmpi .slt x 0#32) ≠ 1 := by
    simp only [IntOp.cmpi]
    have : x.slt 0#32 = false := by
      rw [BitVec.slt, StableHlo.Predicate.toInt_eq_toNat_of_lt h]; simp
    rw [this]; decide
  unfold Scalar.select
  rw [if_neg h2]

/-- A word between 0 and `k`, read signed, is below `k` read unsigned. -/
theorem between (x k : BitVec 32) (hk : k.toNat < 2 ^ 31) (h0 : IntOp.cmpi .sge x 0#32 = 1#1) (h1 : IntOp.cmpi .slt x k = 1#1) :
    x.toNat < k.toNat := by
  simp only [IntOp.cmpi, StableHlo.Predicate.ofBool_eq_one_iff, BitVec.sle, BitVec.slt, decide_eq_true_eq] at h0 h1
  rw [StableHlo.Predicate.toInt_eq_toNat_of_lt hk] at h1
  have h := x.isLt
  simp only [BitVec.toInt_zero] at h0
  rw [BitVec.toInt_eq_toNat_cond] at h0 h1
  split at h0 <;> split at h1 <;> omega

/-- A conjunction of two truth words is true exactly when both are. -/
theorem both (a b : BitVec 1) (h : IntOp.andi a b = 1#1) : a = 1#1 ∧ b = 1#1 := by
  revert a b; decide

/-- Update `i` of a scatter of `N` scalars into a vector of `M`, one index each, lands at `x` exactly when its index,
    read signed, is `x`. -/
theorem set_lands {M N : ℕ} (d : ScatterDims ⟨1, ![M]⟩ ⟨2, ![N, 1]⟩ ⟨1, ![N]⟩) (hiw : d.insertedWindowDims = [0])
    (hsd : d.scatterDimsToOperandDims = [0]) (hivd : d.indexVectorDim = 1) (idx : IVec ⟨2, ![N, 1]⟩ 32) (i : Fin N) (x : Fin M) :
    d.resultIdx? (ix1 i) idx = some (ix1 x) ↔ (idx (ix2 i (0 : Fin 1))).toInt = (x.val : Int) := by
  have hm : (0 : Fin 1) ∈ d.scatterDimsToOperandDims := by simp [hsd]
  have hw : d.window (ix1 i) 0 = 0 := by
    unfold ScatterDims.window
    refine dif_neg fun h => ?_
    have h2 := (List.mem_filter.1 h).2
    simp [hiw] at h2
  have hi : d.siIdx (ix1 i) ⟨d.scatterDimsToOperandDims.idxOf 0, List.idxOf_lt_length_iff.2 hm⟩ = ix2 i (0 : Fin 1) := by
    funext b
    refine Fin.ext ?_
    match b with
    | ⟨0, _⟩ =>
      unfold ScatterDims.siIdx ScatterDims.siCoord
      rw [dif_neg (by rw [hivd]; exact Nat.zero_ne_one)]
      have e : ∀ X : Fin 1, (ix1 i X).val = i.val := fun X => by rw [Subsingleton.elim X 0]
      exact e _
    | ⟨1, _⟩ =>
      unfold ScatterDims.siIdx
      rw [dif_pos (by rw [hivd])]
      show List.idxOf (0 : Fin 1) d.scatterDimsToOperandDims = 0
      simp [hsd]
  have hs : d.start (ix1 i) idx 0 = (idx (ix2 i (0 : Fin 1))).toInt := by
    unfold ScatterDims.start
    rw [dif_pos hm, hi]
  have hx := x.isLt
  unfold ScatterDims.resultIdx?
  split
  · next h =>
    have h0 : 0 ≤ d.start (ix1 i) idx 0 + (d.window (ix1 i) 0 : Int) ∧ d.start (ix1 i) idx 0 + (d.window (ix1 i) 0 : Int) < (M : Int) := h 0
    rw [hs, hw] at h0
    have hval : ∀ a : Fin 1, a = 0 := fun a => Subsingleton.elim _ _
    constructor
    · intro e
      have e0 : (d.start (ix1 i) idx 0 + (d.window (ix1 i) 0 : Int)).toNat = x.val := congrArg Fin.val (congrFun (Option.some.inj e) 0)
      rw [hs, hw] at e0; omega
    · intro e
      refine congrArg some (funext fun a => Fin.ext ?_)
      match a with
      | ⟨0, _⟩ =>
        show (d.start (ix1 i) idx 0 + (d.window (ix1 i) 0 : Int)).toNat = x.val
        rw [hs, hw]; omega
  · next h =>
    refine ⟨fun e => (nomatch e), fun e => (h fun a => ?_).elim⟩
    match a with
    | ⟨0, _⟩ =>
      show 0 ≤ d.start (ix1 i) idx 0 + (d.window (ix1 i) 0 : Int) ∧ d.start (ix1 i) idx 0 + (d.window (ix1 i) 0 : Int) < (M : Int)
      rw [hs, hw]; omega

/-- The look-up of the experts' first rows at a table of expert numbers wrapped around at 32: where the number is one
    of 0 .. 31, that expert's first row. -/
theorem first_row (wf) (P : (⟨1, ![32]⟩ : Shape).Idx → BitVec 32) (hb : (⟨2, ![32768, 2]⟩ : Shape).BroadcastsInDim ⟨3, ![32768, 2, 1]⟩ ![0, 1])
    (E : (⟨2, ![32768, 2]⟩ : Shape).Idx → BitVec 32) (y : (⟨2, ![32768, 2]⟩ : Shape).Idx) (hE : (E y).toNat < 32) :
    Host.gather (takeDims 32 32768 2 wf) P (broadcastInDim ⟨3, ![32768, 2, 1]⟩ ![0, 1] hb E) y = P (ixp (E y).toNat) := by
  rw [gather_take_apply (by decide)]
  refine congrArg P (funext fun a => Fin.ext ?_)
  have e : broadcastInDim ⟨3, ![32768, 2, 1]⟩ ![0, 1] hb E (takeIdx y) = E y := by
    unfold broadcastInDim
    refine congrArg E (funext fun a => Fin.ext ?_)
    match a with
    | ⟨0, _⟩ => rfl
    | ⟨1, _⟩ => rfl
  match a with
  | ⟨0, _⟩ =>
    show min (broadcastInDim _ _ hb E (takeIdx y)).toInt.toNat (32 - 1) = (E y).toNat % 32
    rw [e, StableHlo.Predicate.toInt_eq_toNat_of_lt (by omega)]
    omega

/-- Assignment `j` of token `n`, as one of the 65536. -/
abbrev slotOf (n : Fin 32768) (j : Fin 2) : Fin 65536 := ⟨n.val * 2 + j.val, by omega⟩

/-- The row of assignment `j` of token `n`. -/
abbrev destOf (P : (⟨1, ![32]⟩ : Shape).Idx → BitVec 32) (I : (⟨2, ![32768, 4]⟩ : Shape).Idx → BitVec 32) (n j : ℕ) : BitVec 32 :=
  P (ixp (I (ixi n j)).toNat) + I (ixi n (j + 2))

/-- The first two columns, and the last two, of the routing table. -/
theorem left_half {α : Type} (I : (⟨2, ![32768, 4]⟩ : Shape).Idx → α) (h) (n : Fin 32768) (j : Fin 2) :
    extractStridedSlice ⟨2, ![32768, 2]⟩ ![0, 0] I h (ix2 n j) = I (ixi n j) := by
  unfold extractStridedSlice
  refine congrArg I (funext fun a => Fin.ext ?_)
  match a with
  | ⟨0, _⟩ => show 0 + n.val = n.val % 32768; omega
  | ⟨1, _⟩ => show 0 + j.val = j.val % 4; omega
theorem right_half {α : Type} (I : (⟨2, ![32768, 4]⟩ : Shape).Idx → α) (h) (n : Fin 32768) (j : Fin 2) :
    extractStridedSlice ⟨2, ![32768, 2]⟩ ![0, 2] I h (ix2 n j) = I (ixi n (j + 2)) := by
  unfold extractStridedSlice
  refine congrArg I (funext fun a => Fin.ext ?_)
  match a with
  | ⟨0, _⟩ => show 0 + n.val = n.val % 32768; omega
  | ⟨1, _⟩ => show 2 + j.val = (j.val + 2) % 4; omega

/-- The row of every assignment, as the reference and the precondition compute it. -/
theorem row_at (wf) (P : (⟨1, ![32]⟩ : Shape).Idx → BitVec 32) (I : (⟨2, ![32768, 4]⟩ : Shape).Idx → BitVec 32) (h0) (h2)
    (hb : (⟨2, ![32768, 2]⟩ : Shape).BroadcastsInDim ⟨3, ![32768, 2, 1]⟩ ![0, 1])
    (hz : (⟨0, ![]⟩ : Shape).BroadcastsInDim ⟨2, ![32768, 2]⟩ ![]) (n : Fin 32768) (j : Fin 2) (hE : (I (ixi n j)).toNat < 32) :
    addi (Host.gather (takeDims 32 32768 2 wf) P (broadcastInDim ⟨3, ![32768, 2, 1]⟩ ![0, 1] hb
        (select (cmpi .slt (extractStridedSlice ⟨2, ![32768, 2]⟩ ![0, 0] I h0) (broadcastInDim ⟨2, ![32768, 2]⟩ ![] hz (constantI ⟨0, ![]⟩ 32 0#32)))
          (addi (extractStridedSlice ⟨2, ![32768, 2]⟩ ![0, 0] I h0) (broadcastInDim ⟨2, ![32768, 2]⟩ ![] hz (constantI ⟨0, ![]⟩ 32 32#32)))
          (extractStridedSlice ⟨2, ![32768, 2]⟩ ![0, 0] I h0))))
      (extractStridedSlice ⟨2, ![32768, 2]⟩ ![0, 2] I h2) (ix2 n j) = destOf P I n j := by
  have hx : select (cmpi .slt (extractStridedSlice ⟨2, ![32768, 2]⟩ ![0, 0] I h0) (broadcastInDim ⟨2, ![32768, 2]⟩ ![] hz (constantI ⟨0, ![]⟩ 32 0#32)))
      (addi (extractStridedSlice ⟨2, ![32768, 2]⟩ ![0, 0] I h0) (broadcastInDim ⟨2, ![32768, 2]⟩ ![] hz (constantI ⟨0, ![]⟩ 32 32#32)))
      (extractStridedSlice ⟨2, ![32768, 2]⟩ ![0, 0] I h0) (ix2 n j) = I (ixi n j) := by
    rw [← left_half I h0 n j]
    refine wrap_id _ _ ?_
    rw [left_half I h0 n j]; omega
  revert hx
  generalize select _ _ (extractStridedSlice ⟨2, ![32768, 2]⟩ ![0, 0] I h0) = X
  intro hx
  have hg := first_row wf P hb X (ix2 n j) (by rw [hx]; exact hE)
  rw [hx] at hg
  show _ + _ = _
  rw [hg, right_half]

end Cert.Dispatch

end
-- ==== Proof.Pre.lean ====
/-
  The precondition says of a routing what the kernel's run needs of it.
-/
module

public import proofs.«01_k».proof.Proof.Table
public import proofs.«01_k».proof.Proof.Gen.Pre_slots_distinct

@[expose] public section

noncomputable section

namespace Cert.Dispatch

open Cert.Pre_slots_distinct
open Idealize.ShloMosaic Idealize.ShloMosaic.ValueIdx Idealize.ShloMosaic.Routing

variable {F : FTy → Type} [FloatOps F]

/-- The second half of the precondition, at assignment `p`: its expert `e p` is one of 0 .. 31, its row `d p` one of
    the 73728, and a vector holds at that row the assignment's own number. -/
theorem part1_at (e d : S65536.Idx → BitVec 32) (num : S65536.Idx → BitVec 32) (z : S73728.Idx → BitVec 32) :
    ∃ owner : ℕ → BitVec 32, ∀ p : Fin 65536,
      Cert.Pre_slots_distinct.fn_part1 (F := F) e d num z (cmpi .slt d (broadcastInDim S65536 ![] Cert.Pre_slots_distinct.Gen.bcast_S_S65536 (constantI S_ 32 0#32)))
          (addi d (broadcastInDim S65536 ![] Cert.Pre_slots_distinct.Gen.bcast_S_S65536 (constantI S_ 32 73728#32))) (ix1 p) = 1#1 →
        (e (ix1 p)).toNat < 32 ∧ (d (ix1 p)).toNat < 73728 ∧ owner (d (ix1 p)).toNat = num (ix1 p) := by
  dsimp only [Cert.Pre_slots_distinct.fn_part1, Cert.Pre_slots_distinct.fn_part2]
  generalize Host.scatter _ _ _ _ _ = w
  refine ⟨fun r => w (ix1 ⟨r % 73728, Nat.mod_lt _ (by decide)⟩), fun p h => ?_⟩
  obtain ⟨h, hg⟩ := both _ _ h
  obtain ⟨h, hd1⟩ := both _ _ h
  obtain ⟨h, hd0⟩ := both _ _ h
  obtain ⟨he0, he1⟩ := both _ _ h
  have hE := between (e (ix1 p)) 32#32 (by decide) he0 he1
  have hD := between (d (ix1 p)) 73728#32 (by decide) hd0 hd1
  have hE : (e (ix1 p)).toNat < 32 := hE
  have hD : (d (ix1 p)).toNat < 73728 := hD
  refine ⟨hE, hD, ?_⟩
  have hg := StableHlo.Predicate.cmpi_eq_iff.mp hg
  refine Eq.trans ?_ hg
  refine Eq.trans ?_ (gather_take1 gather_S73728_S65536x1_S65536_n_0_n_n_0_1_1 rfl rfl rfl rfl w _ p ⟨(d (ix1 p)).toNat, hD⟩ ?_ (by decide)).symm
  · exact congrArg w (by congr 1; exact Fin.ext (Nat.mod_eq_of_lt hD))
  · show Scalar.select (IntOp.cmpi .slt (d _) 0#32) (IntOp.addi (d _) 73728#32) (d _) = _
    rw [wrap_id _ _ (by have : ∀ q, q = ix1 p → (d q).toNat < 2 ^ 31 := fun q hq => by rw [hq]; omega
                        exact this _ (by funext a; match a with | ⟨0, _⟩ => rfl))]
    have : ∀ q, q = ix1 p → d q = BitVec.ofNat 32 (d (ix1 p)).toNat := fun q hq => by rw [hq]; simp
    exact this _ (by funext a; match a with | ⟨0, _⟩ => rfl)

/-- The precondition, assignment by assignment. -/
theorem slots (x : S32768x1024.Idx → Elt F .f32) (I : S32768x4.Idx → BitVec 32) (P : S32.Idx → BitVec 32)
    (h : Cert.Pre_slots_distinct.fn (F := F) x I P = fun _ => 1#1) :
    ∃ owner : ℕ → BitVec 32, ∀ (n : Fin 32768) (j : Fin 2), (I (ixi n j)).toNat < 32 ∧ (destOf P I n j).toNat < 73728 ∧
      owner (destOf P I n j).toNat = BitVec.ofNat 32 (n.val * 2 + j.val) := by
  dsimp only [Cert.Pre_slots_distinct.fn] at h
  obtain ⟨owner, ho⟩ := part1_at (F := F) _ _ _ _
  refine ⟨owner, fun n j => ?_⟩
  have hp := ho (slotOf n j) (congrFun h _)
  rw [cast21 _ _ n j _ rfl, cast21 _ _ n j _ rfl, left_half] at hp
  obtain ⟨hE, hD, hO⟩ := hp
  have hr := row_at Gen.gather_S32_S32768x2x1_S32768x2_n_0_n_n_0_2_1_wf P I Gen.slices_S32768x4_S32768x2_0_0
    Gen.slices_S32768x4_S32768x2_0_2 Gen.bcast_S32768x2_S32768x2x1_0_1 Gen.bcast_S_S32768x2 n j hE
  exact ⟨hE, (congrArg BitVec.toNat hr) ▸ hD, (congrArg BitVec.toNat hr) ▸ hO⟩

/-- A routing of which the precondition holds can be dispatched. -/
theorem routes_of (x : S32768x1024.Idx → Elt F .f32) (I : S32768x4.Idx → BitVec 32) (P : S32.Idx → BitVec 32)
    (h : Cert.Pre_slots_distinct.fn (F := F) x I P = fun _ => 1#1) : Routes P I := by
  obtain ⟨owner, ho⟩ := slots x I P h
  have key : ∀ (n n' : Fin 32768) (j j' : Fin 2), (destOf P I n j).toNat = (destOf P I n' j').toNat → n.val * 2 + j.val = n'.val * 2 + j'.val := by
    intro n n' j j' he
    have h1 := (ho n j).2.2
    rw [he, (ho n' j').2.2] at h1
    have h2 := congrArg BitVec.toNat h1
    simp only [BitVec.toNat_ofNat] at h2
    omega
  exact {
    e0 := fun n hn => (ho ⟨n, hn⟩ 0).1
    e1 := fun n hn => (ho ⟨n, hn⟩ 1).1
    r0 := fun n hn => (ho ⟨n, hn⟩ 0).2.1
    r1 := fun n hn => (ho ⟨n, hn⟩ 1).2.1
    same0 := fun n hn n' hn' he => by have : n * 2 + 0 = n' * 2 + 0 := key ⟨n, hn⟩ ⟨n', hn'⟩ 0 0 he
                                      omega
    same1 := fun n hn n' hn' he => by have : n * 2 + 1 = n' * 2 + 1 := key ⟨n, hn⟩ ⟨n', hn'⟩ 1 1 he
                                      omega
    cross := fun n hn n' hn' he => by have : n * 2 + 0 = n' * 2 + 1 := key ⟨n, hn⟩ ⟨n', hn'⟩ 0 1 he
                                      omega }

end Cert.Dispatch

end
-- ==== Proof.Ref.lean ====
/-
  What the reference computes: row by row, the activations of the token whose row it is, and zeros in a row of no
  token's. Stated over any floats.
-/
module

public import proofs.«01_k».proof.Proof.Table
public import proofs.«01_k».proof.Proof.Gen.ReferenceIdeal.Run

@[expose] public section

noncomputable section

namespace Cert.Dispatch

open Cert.ReferenceIdeal Cert.ReferenceIdeal.Gen
open Idealize.ShloMosaic Idealize.ShloMosaic.TcCoe Idealize.ShloMosaic.ValueIdx Idealize.ShloMosaic.Routing

variable {F : FTy → Type} [FloatOps F]

/-- Every one of the 65536 assignments is one of the two of a token. -/
theorem slot_cases (k : S65536.Idx) : ∃ (n : Fin 32768) (j : Fin 2), k = ix1 (slotOf n j) := by
  have hk : (k 0).val < 65536 := (k 0).isLt
  refine ⟨⟨(k 0).val / 2, by omega⟩, ⟨(k 0).val % 2, by omega⟩, ?_⟩
  funext a
  match a with
  | ⟨0, _⟩ => exact Fin.ext (show (k 0).val = (k 0).val / 2 * 2 + (k 0).val % 2 by omega)

section Slots
variable (P : S32.Idx → BitVec 32) (I : S32768x4.Idx → BitVec 32)

/-- A row is a token's when it is the row of one of its two assignments. -/
theorem takes_iff (r : ℕ) (n : Fin 32768) : Takes P I r n ↔ ∃ j : Fin 2, r = (destOf P I n j).toNat := by
  constructor
  · rintro (h | h)
    · exact ⟨0, h⟩
    · exact ⟨1, h⟩
  · rintro ⟨j, h⟩
    match j with
    | ⟨0, _⟩ => exact .inl h
    | ⟨1, _⟩ => exact .inr h

theorem dest_lt {P I} (h : Routes P I) (n : Fin 32768) (j : Fin 2) : (destOf P I n j).toNat < 73728 := by
  match j with
  | ⟨0, _⟩ => exact h.r0 n n.isLt
  | ⟨1, _⟩ => exact h.r1 n n.isLt

/-- Where a wrapped-around vector of rows is laid out as a column of indices, update `(n, j)` lands at its row. -/
theorem lands_at {P I} (h : Routes P I) (hb) (hz) (dv : S65536.Idx → BitVec 32) (hd : ∀ n j, dv (ix1 (slotOf n j)) = destOf P I n j)
    (n : Fin 32768) (j : Fin 2) (r : Fin 73728) :
    scatter_S73728_S65536x1_S65536_n_0_0_1.resultIdx? (ix1 (slotOf n j))
        (broadcastInDim S65536x1 ![0] hb (select (cmpi .slt dv (broadcastInDim S65536 ![] hz (constantI S_ 32 0#32)))
          (addi dv (broadcastInDim S65536 ![] hz (constantI S_ 32 73728#32))) dv)) = some (ix1 r)
      ↔ r.val = (destOf P I n j).toNat := by
  rw [set_lands _ rfl rfl rfl]
  have hl := dest_lt h n j
  have hx : ∀ q, q = ix1 (slotOf n j) → Scalar.select (IntOp.cmpi .slt (dv q) 0#32) (IntOp.addi (dv q) 73728#32) (dv q) = destOf P I n j := by
    intro q hq
    rw [wrap_id _ _ (by rw [hq, hd]; omega), hq, hd]
  have he : broadcastInDim S65536x1 ![0] hb (select (cmpi .slt dv (broadcastInDim S65536 ![] hz (constantI S_ 32 0#32)))
      (addi dv (broadcastInDim S65536 ![] hz (constantI S_ 32 73728#32))) dv) (ix2 (slotOf n j) (0 : Fin 1)) = destOf P I n j :=
    hx _ (by funext a; match a with | ⟨0, _⟩ => rfl)
  rw [he, StableHlo.Predicate.toInt_eq_toNat_of_lt (by omega)]
  omega

/-- The token of each row: the one whose row it is, 32768 in a row of no token's. -/
theorem token_at {P I} (h : Routes P I) (hb) (hz) (dv tv : S65536.Idx → BitVec 32) (hd : ∀ n j, dv (ix1 (slotOf n j)) = destOf P I n j)
    (ht : ∀ n j, tv (ix1 (slotOf n j)) = BitVec.ofNat 32 n.val) (x0 : S73728.Idx → BitVec 32) (r : Fin 73728) :
    (∀ n : Fin 32768, Takes P I r n →
      Host.scatter scatter_S73728_S65536x1_S65536_n_0_0_1 (fun _ b => b) x0
        (broadcastInDim S65536x1 ![0] hb (select (cmpi .slt dv (broadcastInDim S65536 ![] hz (constantI S_ 32 0#32)))
          (addi dv (broadcastInDim S65536 ![] hz (constantI S_ 32 73728#32))) dv)) tv (ix1 r) = BitVec.ofNat 32 n.val)
    ∧ ((∀ n : Fin 32768, ¬ Takes P I r n) →
      Host.scatter scatter_S73728_S65536x1_S65536_n_0_0_1 (fun _ b => b) x0
        (broadcastInDim S65536x1 ![0] hb (select (cmpi .slt dv (broadcastInDim S65536 ![] hz (constantI S_ 32 0#32)))
          (addi dv (broadcastInDim S65536 ![] hz (constantI S_ 32 73728#32))) dv)) tv (ix1 r) = x0 (ix1 r)) := by
  constructor
  · intro n hn
    obtain ⟨j, hj⟩ := (takes_iff P I r n).mp hn
    refine scatter_set_hit _ _ _ _ _ _ (fun k hk => ?_) (ix1 (slotOf n j)) ((lands_at h hb hz dv hd n j r).mpr hj)
    obtain ⟨n', j', rfl⟩ := slot_cases k
    have := (lands_at h hb hz dv hd n' j' r).mp hk
    rw [ht, Fin.ext (h.takes_unique n'.isLt n.isLt ((takes_iff P I r n').mpr ⟨j', this⟩) hn)]
  · intro hn
    refine scatter_set_miss _ _ _ _ _ (fun k hk => ?_)
    obtain ⟨n', j', rfl⟩ := slot_cases k
    exact hn n' ((takes_iff P I r n').mpr ⟨j', (lands_at h hb hz dv hd n' j' r).mp hk⟩)

end Slots

/-- The activations followed by one row of zeros: at row `b` of the tokens the activations, at row 32768 zeros. -/
theorem padded_row {α : Type} (x : S32768x1024.Idx → α) (z : S1x1024.Idx → α) (h) (b : Fin 32769) (k : Fin 1024) :
    concatenate S32769x1024 0 [⟨S32768x1024, x⟩, ⟨S1x1024, z⟩] h (ix2 b k)
      = if hb : b.val < 32768 then x (ix2 ⟨b.val, hb⟩ k) else z (ix2 0 k) := by
  split
  · next hb =>
    refine concatenate_pair_apply_left _ x z h _ rfl _ fun a => ?_
    match a with
    | ⟨0, _⟩ => rfl
    | ⟨1, _⟩ => rfl
  · next hb =>
    have hbl := b.isLt
    refine concatenate_pair_apply_right _ x z h _ rfl rfl _ (fun a ha => ?_) ?_
    · match a with
      | ⟨0, _⟩ => exact absurd rfl ha
      | ⟨1, _⟩ => rfl
    · show 0 + 32768 = b.val
      omega

/-- The reference's result: the routed rows, on zeros. -/
theorem ref_value (m : (ℓ : Loc nD τ sig) → Buf (Elt F) ℓ) (c : Dev nD) (P : S32.Idx → BitVec 32) (I : S32768x4.Idx → BitVec 32)
    (A : S32768x1024.Idx → Elt F .f32) (hA : m ((c.tc : Thread nD τ).loc main_arg0) = A) (hI : m ((c.tc : Thread nD τ).loc main_arg1) = I)
    (hP : m ((c.tc : Thread nD τ).loc main_arg2) = P) (h : Routes P I) :
    Value.res_main_v30 m c = filled P I A (fun _ => FloatOps.ofBits .f32 0x00000000#32) 128 := by
  unfold Value.res_main_v30
  rw [hA, hI, hP]
  have hE : ∀ (n : Fin 32768) (j : Fin 2), (I (ixi n j)).toNat < 32 := by
    intro n j
    match j with
    | ⟨0, _⟩ => exact h.e0 n n.isLt
    | ⟨1, _⟩ => exact h.e1 n n.isLt
  obtain ⟨dv, hdv⟩ : ∃ dv : S65536.Idx → BitVec 32, dv = shapeCast S65536 (addi (Host.gather gather_S32_S32768x2x1_S32768x2_n_0_n_n_0_2_1 P
      (broadcastInDim S32768x2x1 ![0, 1] bcast_S32768x2_S32768x2x1_0_1
        (select (cmpi .slt (extractStridedSlice S32768x2 ![0, 0] I slices_S32768x4_S32768x2_0_0) (broadcastInDim S32768x2 ![] bcast_S_S32768x2 (constantI S_ 32 0#32)))
          (addi (extractStridedSlice S32768x2 ![0, 0] I slices_S32768x4_S32768x2_0_0) (broadcastInDim S32768x2 ![] bcast_S_S32768x2 (constantI S_ 32 32#32)))
          (extractStridedSlice S32768x2 ![0, 0] I slices_S32768x4_S32768x2_0_0))))
      (extractStridedSlice S32768x2 ![0, 2] I slices_S32768x4_S32768x2_0_2)) shapeCasts_S32768x2_S65536 := ⟨_, rfl⟩
  have hd : ∀ n j, dv (ix1 (slotOf n j)) = destOf P I n j := fun n j => by
    rw [hdv, cast21 _ _ n j _ rfl]
    exact row_at gather_S32_S32768x2x1_S32768x2_n_0_n_n_0_2_1_wf P I slices_S32768x4_S32768x2_0_0 slices_S32768x4_S32768x2_0_2
      bcast_S32768x2_S32768x2x1_0_1 bcast_S_S32768x2 n j (hE n j)
  rw [← hdv]
  obtain ⟨tv, htv⟩ : ∃ tv : S65536.Idx → BitVec 32, tv = shapeCast S65536 (broadcastInDim S32768x2 ![0] bcast_S32768_S32768x2_0 (iotaInDim S32768 32 0))
    shapeCasts_S32768x2_S65536 := ⟨_, rfl⟩
  have ht : ∀ n j, tv (ix1 (slotOf n j)) = BitVec.ofNat 32 n.val := fun n j => by
    rw [htv, cast21 _ _ n j _ rfl]; rfl
  rw [← htv]
  funext y
  obtain ⟨r, k, rfl⟩ : ∃ (r : Fin 73728) (k : Fin 1024), y = ix2 r k := ⟨y 0, y 1, eq_ix2 y⟩
  obtain ⟨hit, miss⟩ := token_at h bcast_S65536_S65536x1_0 bcast_S_S65536 dv tv hd ht (broadcastInDim S73728 ![] bcast_S_S73728 (constantI S_ 32 32768#32)) r
  revert hit miss
  generalize Host.scatter _ _ _ _ _ = sv
  intro hit miss
  have row : ∀ b : Fin 32769, sv (ix1 r) = BitVec.ofNat 32 b.val →
      broadcastInDim S73728x1 ![0] bcast_S73728_S73728x1_0 (select (cmpi .slt sv (broadcastInDim S73728 ![] bcast_S_S73728 (constantI S_ 32 0#32)))
        (addi sv (broadcastInDim S73728 ![] bcast_S_S73728 (constantI S_ 32 32769#32))) sv) (ix2 r (0 : Fin 1)) = BitVec.ofNat 32 b.val := by
    intro b hb
    have hx : ∀ q, q = ix1 r → Scalar.select (IntOp.cmpi .slt (sv q) 0#32) (IntOp.addi (sv q) 32769#32) (sv q) = BitVec.ofNat 32 b.val := by
      intro q hq
      have hbl := b.isLt
      rw [wrap_id _ _ (by rw [hq, hb, BitVec.toNat_ofNat]; omega), hq, hb]
    exact hx _ (by funext a; match a with | ⟨0, _⟩ => rfl)
  by_cases hn : ∃ n : Fin 32768, Takes P I r n
  · obtain ⟨n, hn⟩ := hn
    rw [gather_row _ rfl rfl rfl rfl rfl _ _ r k ⟨n.val, by omega⟩ (row _ (hit n hn)) (by decide), padded_row, dif_pos n.isLt]
    refine Eq.trans ?_ (filled_hit h A _ 128 (by decide) (ix2 r k) n.val n.isLt hn).symm
    refine congrArg A (funext fun a => Fin.ext ?_)
    match a with
    | ⟨0, _⟩ => exact (Nat.mod_eq_of_lt n.isLt).symm
    | ⟨1, _⟩ => rfl
  · have hn' : ∀ n : Fin 32768, ¬ Takes P I r n := fun n q => hn ⟨n, q⟩
    rw [gather_row _ rfl rfl rfl rfl rfl _ _ r k ⟨32768, by omega⟩ (row _ (miss hn')) (by decide), padded_row, dif_neg (by decide)]
    exact (filled_miss P I A (fun _ => FloatOps.ofBits .f32 0x00000000#32) 128 (ix2 r k) (fun n hn q => hn' ⟨n, hn⟩ q)).symm

end Cert.Dispatch

end
-- ==== Proof.PromptRun.lean ====
/-
  The run of the layer's first half: the launches one after another, from any memory to the buffers' last contents.
-/
module

public import proofs.«01_k».proof.Proof.Gen.Kernel2Ideal.Frame

@[expose] public section

noncomputable section

namespace Cert.Layer

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer that outlives the launches at its last contents, and no semaphore counting. -/
theorem run_main : θ_run defs (onTc (τ := τ) (main (F := F))) ⟨m, fun _ => 0, ρ⟩ (fun r =>
    (∀ c : Dev nD, ∀ b ∈ Pipeline.ucRefs τ sig, r.2.mem ((c : Thread nD τ).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Cert.Layer
-- ==== Proof.LayerMath.lean ====
/-
  The first half of the layer in scalars: the modulation read off the condition, the normed and modulated activations,
  one element of a projection, the gate. Each is written once here and met by the kernel and by the reference.
-/
module

public import Idealize.ShloMosaic.Lib.Pointwise

@[expose] public section

noncomputable section

namespace Cert.Layer

open Idealize.ShloMosaic

/-- The logistic function. -/
def logi (z : EReal) : EReal := Ideal.div 1 (1 + Ideal.exp (-z))

/-- One element of `silu(c) · w + b`: `c` a row of conditions, `w` a column of weights. -/
def modE (c w : Fin 1024 → EReal) (b : EReal) : EReal := (∑ k, c k * logi (c k) * w k) + b

/-- One element of a row `x` divided by its root mean square, scaled by `g` and then by `1 + sc`, and moved by `sh`. -/
def normE (x g sc sh : Fin 1024 → EReal) (k : Fin 1024) : EReal :=
  x k * Ideal.rsqrt (Ideal.div (∑ l, x l * x l) (Ideal.ofBits FTy.f32 1149239296#32) + Ideal.ofBits FTy.f32 897988541#32)
    * g k * (1 + sc k) + sh k

/-- One element of a product: a row by a column. -/
def dotE (h w : Fin 1024 → EReal) : EReal := ∑ k, h k * w k

/-- The scale of the queries, the word of 1/8. -/
def qScale : EReal := Ideal.ofBits FTy.f32 1040187392#32

theorem modE_congr {c c' w w' : Fin 1024 → EReal} {b b' : EReal} (hc : ∀ k, c k = c' k) (hw : ∀ k, w k = w' k) (hb : b = b') :
    modE c w b = modE c' w' b' := by
  rw [funext hc, funext hw, hb]

theorem normE_congr {x x' g g' sc sc' sh sh' : Fin 1024 → EReal} (hx : ∀ k, x k = x' k) (hg : ∀ k, g k = g' k)
    (hsc : ∀ k, sc k = sc' k) (hsh : ∀ k, sh k = sh' k) : normE x g sc sh = normE x' g' sc' sh' := by
  rw [funext hx, funext hg, funext hsc, funext hsh]

theorem dotE_congr {h h' w w' : Fin 1024 → EReal} (hh : ∀ k, h k = h' k) (hw : ∀ k, w k = w' k) : dotE h w = dotE h' w' := by
  rw [funext hh, funext hw]

/-! ## The prompt's arrays, by elements, of the arrays the layer is given -/

section Prompt

variable (X : (⟨3, ![4, 8192, 1024]⟩ : Shape).Idx → EReal) (C : (⟨2, ![4, 1024]⟩ : Shape).Idx → EReal)
  (A : (⟨2, ![1024, 6144]⟩ : Shape).Idx → EReal) (B : (⟨1, ![6144]⟩ : Shape).Idx → EReal)
  (G : (⟨1, ![1024]⟩ : Shape).Idx → EReal) (W : (⟨2, ![1024, 2560]⟩ : Shape).Idx → EReal)

/-- Feature `f` of the modulation of batch `i`. -/
def modP (i : Fin 4) (f : Fin 6144) : EReal := modE (fun k => C (ix2 i k)) (fun k => A (ix2 k f)) (B (ix1 f))

/-- The normed and modulated activations of batch `i`, position `r`: features 0 to 1023 of the modulation are the shift,
    features 1024 to 2047 the scale. -/
def hP (i : Fin 4) (r : Fin 8192) : Fin 1024 → EReal :=
  normE (fun k => X (ix3 i r k)) (fun k => G (ix1 k))
    (fun k => modP C A B i ⟨1024 + k.val, by have := k.isLt; omega⟩) (fun k => modP C A B i ⟨k.val, by have := k.isLt; omega⟩)

/-- The projection of one position by the columns of the weights that begin at `o`. -/
def projP (o : ℕ) (h : o ≤ 2048) (i : Fin 4) (r : Fin 8192) (j : Fin 512) : EReal :=
  dotE (hP X C A B G i r) (fun k => W (ix2 k ⟨o + j.val, by have := j.isLt; omega⟩))

/-- The queries, scaled. -/
def qP : (⟨3, ![4, 8192, 512]⟩ : Shape).Idx → EReal := fun i => projP X C A B G W 0 (by omega) (i 0) (i 1) (i 2) * qScale

/-- The keys. -/
def kP : (⟨3, ![4, 8192, 512]⟩ : Shape).Idx → EReal := fun i => projP X C A B G W 512 (by omega) (i 0) (i 1) (i 2)

/-- The values. -/
def vP : (⟨3, ![4, 8192, 512]⟩ : Shape).Idx → EReal := fun i => projP X C A B G W 1024 (by omega) (i 0) (i 1) (i 2)

/-- The convolution's gated input at one position. -/
def gluE (i : Fin 4) (r : Fin 8192) (j : Fin 512) : EReal :=
  projP X C A B G W 1536 (by omega) i r j * logi (projP X C A B G W 2048 (by omega) i r j)

/-- The convolution's gated input. -/
def gluP : (⟨3, ![4, 8192, 512]⟩ : Shape).Idx → EReal := fun i => gluE X C A B G W (i 0) (i 1) (i 2)

/-- The last 2048 positions' keys. -/
def kKeepP : (⟨3, ![4, 2048, 512]⟩ : Shape).Idx → EReal := fun i =>
  projP X C A B G W 512 (by omega) (i 0) ⟨6144 + (i 1).val, by have := (i 1).isLt; change _ < 2048 at this; omega⟩ (i 2)

/-- The last 2048 positions' values. -/
def vKeepP : (⟨3, ![4, 2048, 512]⟩ : Shape).Idx → EReal := fun i =>
  projP X C A B G W 1024 (by omega) (i 0) ⟨6144 + (i 1).val, by have := (i 1).isLt; change _ < 2048 at this; omega⟩ (i 2)

/-- The convolution's state after the prompt: its last 30 inputs. -/
def convP : (⟨3, ![4, 30, 512]⟩ : Shape).Idx → EReal := fun i =>
  gluE X C A B G W (i 0) ⟨8162 + (i 1).val, by have := (i 1).isLt; change _ < 30 at this; omega⟩ (i 2)

end Prompt

/-! ## The sample's arrays, by elements, of the arrays the layer is given -/

section Sample

variable (X : (⟨3, ![128, 1, 1024]⟩ : Shape).Idx → EReal) (C : (⟨2, ![128, 1024]⟩ : Shape).Idx → EReal)
  (A : (⟨2, ![1024, 6144]⟩ : Shape).Idx → EReal) (B : (⟨1, ![6144]⟩ : Shape).Idx → EReal)
  (G : (⟨1, ![1024]⟩ : Shape).Idx → EReal) (W : (⟨2, ![1024, 2560]⟩ : Shape).Idx → EReal)
  (K : (⟨4, ![128, 2048, 8, 64]⟩ : Shape).Idx → EReal) (S : (⟨3, ![128, 30, 512]⟩ : Shape).Idx → EReal)

/-- Feature `f` of the modulation of sequence `i`. -/
def modS (i : Fin 128) (f : Fin 6144) : EReal := modE (fun k => C (ix2 i k)) (fun k => A (ix2 k f)) (B (ix1 f))

/-- The normed and modulated activations of sequence `i`'s new position. -/
def hS (i : Fin 128) : Fin 1024 → EReal :=
  normE (fun k => X (ix3 i 0 k)) (fun k => G (ix1 k))
    (fun k => modS C A B i ⟨1024 + k.val, by have := k.isLt; omega⟩) (fun k => modS C A B i ⟨k.val, by have := k.isLt; omega⟩)

/-- The projection of one new position by the columns of the weights that begin at `o`. -/
def projS (o : ℕ) (h : o ≤ 2048) (i : Fin 128) (j : Fin 512) : EReal :=
  dotE (hS X C A B G i) (fun k => W (ix2 k ⟨o + j.val, by have := j.isLt; omega⟩))

/-- The convolution's gated input at one new position. -/
def gluS (i : Fin 128) (j : Fin 512) : EReal :=
  projS X C A B G W 1536 (by omega) i j * logi (projS X C A B G W 2048 (by omega) i j)

/-- The window `K` of kept rows moved by one, its last row the projection by the columns that begin at `o`. -/
def newRowE (o : ℕ) (h : o ≤ 2048) (i : Fin 128) (r : Fin 2048) (e : Fin 8) (d : Fin 64) : EReal :=
  if hr : r.val < 2047 then K (ix4 i ⟨r.val + 1, by omega⟩ e d)
  else projS X C A B G W o h i ⟨e.val * 64 + d.val, by have := e.isLt; have := d.isLt; omega⟩

/-- The window of keys, or of values, after the step. -/
def newRowS (o : ℕ) (h : o ≤ 2048) : (⟨4, ![128, 2048, 8, 64]⟩ : Shape).Idx → EReal := fun i =>
  newRowE X C A B G W K o h (i 0) (i 1) (i 2) (i 3)

/-- The convolution's state moved by one, its last row the new gated input. -/
def newConvE (i : Fin 128) (r : Fin 30) (j : Fin 512) : EReal :=
  if hr : r.val < 29 then S (ix3 i ⟨r.val + 1, by omega⟩ j) else gluS X C A B G W i j

/-- The convolution's state after the step. -/
def newConvS : (⟨3, ![128, 30, 512]⟩ : Shape).Idx → EReal := fun i => newConvE X C A B G W S (i 0) (i 1) (i 2)

end Sample

end Cert.Layer
-- ==== Proof.Inproj.lean ====
/-
  What the two launches of the layer's first half leave: the modulation, one array over the conditions of prompt and
  sample together, and from it the projections of every prompt position. Each array is stated by elements, at any
  contents `V` of the buffers the launch begins with.
-/
module

public import proofs.«01_k».proof.Proof.Gen.Kernel2Ideal.Frame
public import proofs.«01_k».proof.Proof.LayerMath
public import Idealize.ShloMosaic.Lib.Pipeline.ValueKit

@[expose] public section

set_option maxRecDepth 16384

noncomputable section

namespace Cert.Layer

open Cert.Kernel2Ideal Cert.Kernel2Ideal.Gen
open Idealize.ShloMosaic Idealize.ShloMosaic.TcCoe Idealize.ShloMosaic.Pipeline

/-! ## Which block a window is on -/

theorem idx0_0 : ∀ t : Fin cfg0.N, win0_0.index t = ![0, 0] := (by decide +kernel : ∀ t : Fin grid0.N, _)
theorem idx0_1 : ∀ t : Fin cfg0.N, win0_1.index t = ![0, t.val] := (by decide +kernel : ∀ t : Fin grid0.N, _)
theorem idx0_2 : ∀ t : Fin cfg0.N, win0_2.index t = ![0, t.val] := (by decide +kernel : ∀ t : Fin grid0.N, _)
theorem idx0_3 : ∀ t : Fin cfg0.N, win0_3.index t = ![0, t.val] := (by decide +kernel : ∀ t : Fin grid0.N, _)
theorem idx1_0 : ∀ t : Fin cfg1.N, win1_0.index t = ![t.val / 16, t.val % 16, 0] := (by decide +kernel : ∀ t : Fin grid1.N, _)
theorem idx1_1 : ∀ t : Fin cfg1.N, win1_1.index t = ![t.val / 16, 0, 0] := (by decide +kernel : ∀ t : Fin grid1.N, _)
theorem idx1_2 : ∀ t : Fin cfg1.N, win1_2.index t = ![t.val / 16, 0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![t.val / 16, t.val % 16, 0] := (by decide +kernel : ∀ t : Fin grid1.N, _)
theorem idx1_6 : ∀ t : Fin cfg1.N, win1_6.index t = ![t.val / 16, t.val % 16, 0] := (by decide +kernel : ∀ t : Fin grid1.N, _)
theorem idx1_7 : ∀ t : Fin cfg1.N, win1_7.index t = ![t.val / 16, t.val % 16, 0] := (by decide +kernel : ∀ t : Fin grid1.N, _)
theorem idx1_8 : ∀ t : Fin cfg1.N, win1_8.index t = ![t.val / 16, t.val % 16, 0] := (by decide +kernel : ∀ t : Fin grid1.N, _)

/-- The kept keys are written back at the last four tiles of each batch only, tile 12 the first of the kept rows. -/
theorem idx1_9 : ∀ t : Fin cfg1.N, (win1 9).flush t = true → win1_9.index t = ![t.val / 16, t.val % 16 - 12, 0] ∧ 12 ≤ t.val % 16 :=
  (by decide +kernel : ∀ t : Fin grid1.N, _)

/-- The kept values likewise. -/
theorem idx1_10 : ∀ t : Fin cfg1.N, (win1 10).flush t = true → win1_10.index t = ![t.val / 16, t.val % 16 - 12, 0] ∧ 12 ≤ t.val % 16 :=
  (by decide +kernel : ∀ t : Fin grid1.N, _)

/-- The batch of a grid point. -/
abbrev bat (t : Fin cfg1.N) : Fin 4 := ⟨t.val / 16, by have := t.isLt; change _ < 64 at this; omega⟩

/-- The position of a row of a grid point's tile. -/
abbrev pos (t : Fin cfg1.N) (a : Fin 512) : Fin 8192 := ⟨t.val % 16 * 512 + a.val, by have := a.isLt; omega⟩

/-- A column of a projection's own block of the weights. -/
abbrev col (o : ℕ) (j : Fin 512) (h : o ≤ 2048) : Fin 2560 := ⟨o + j.val, by have := j.isLt; omega⟩

variable (V : (c : Dev nD) → (b : Ref sig .tc) → Buf (Elt Ideal) ((c : Thread nD τ).loc b)) (c : Dev nD)

/-! ## The arrays -/

/-- The modulation of row `i 0` at feature `i 1`. -/
def modArr : S136x6144.Idx → EReal := fun i =>
  modE (fun k => V c main_v2 (ix2 (i 0) k : S136x1024.Idx)) (fun k => V c main_arg3 (ix2 k (i 1) : S1024x6144.Idx))
    (V c main_v3 (ix2 0 (i 1) : S1x6144.Idx))

/-- The normed and modulated activations of batch `i`, position `r`. -/
def hAt (i : Fin 4) (r : Fin 8192) : Fin 1024 → EReal :=
  normE (fun k => V c main_arg0 (ix3 i r k : S4x8192x1024.Idx)) (fun k => V c main_v9 (ix2 0 k : S1x1024.Idx))
    (fun k => V c main_v8 (ix3 i 0 k : S4x1x1024.Idx)) (fun k => V c main_v6 (ix3 i 0 k : S4x1x1024.Idx))

/-- A column of the projections' weights. -/
def wAt (j : Fin 2560) : Fin 1024 → EReal := fun k => V c main_v0 (ix2 k j : S1024x2560.Idx)

/-- The projection of one position whose block of the weights begins at column `o`. -/
def projAt (o : ℕ) (h : o ≤ 2048) (i : Fin 4) (r : Fin 8192) (j : Fin 512) : EReal :=
  dotE (hAt V c i r) (wAt V c (col o j h))

/-- The queries, scaled. -/
def qArr : S4x8192x512.Idx → EReal := fun i => projAt V c 0 (by omega) (i 0) (i 1) (i 2) * qScale

/-- The keys. -/
def kArr : S4x8192x512.Idx → EReal := fun i => projAt V c 512 (by omega) (i 0) (i 1) (i 2)

/-- The values. -/
def vArr : S4x8192x512.Idx → EReal := fun i => projAt V c 1024 (by omega) (i 0) (i 1) (i 2)

/-- The convolution's gated input. -/
def gluArr : S4x8192x512.Idx → EReal := fun i =>
  projAt V c 1536 (by omega) (i 0) (i 1) (i 2) * logi (projAt V c 2048 (by omega) (i 0) (i 1) (i 2))

/-- The position of a kept row: the last 2048 of each batch. -/
abbrev kept (r : Fin 2048) : Fin 8192 := ⟨6144 + r.val, by have := r.isLt; omega⟩

/-- The kept keys. -/
def kKeepArr : S4x2048x512.Idx → EReal := fun i => projAt V c 512 (by omega) (i 0) (kept (i 1)) (i 2)

/-- The kept values. -/
def vKeepArr : S4x2048x512.Idx → EReal := fun i => projAt V c 1024 (by omega) (i 0) (kept (i 1)) (i 2)

/-! ## The modulation -/

theorem c_read (t : Fin cfg0.N) (a : Fin 136) (k : Fin 1024) :
    iblk0 V c 0 t (ix2 a k : S136x1024.Idx) = V c main_v2 (ix2 a k : S136x1024.Idx) := by
  blk_ext! [iblk0, idx0_0 t]

/-- The feature of a column of a grid point's tile. -/
abbrev feat (t : Fin cfg0.N) (a : Fin 1024) : Fin 6144 :=
  ⟨t.val * 1024 + a.val, by have := a.isLt; have := t.isLt; change _ < 6 at this; omega⟩

theorem wada_read (t : Fin cfg0.N) (k j : Fin 1024) :
    iblk0 V c 1 t (ix2 k j : S1024x1024.Idx) = V c main_arg3 (ix2 k (feat t j) : S1024x6144.Idx) := by
  blk_ext! [iblk0, idx0_1 t]

theorem bada_read (t : Fin cfg0.N) (j : Fin 1024) :
    iblk0 V c 2 t (ix2 0 j : S1x1024.Idx) = V c main_v3 (ix2 0 (feat t j) : S1x6144.Idx) := by
  blk_ext! [iblk0, idx0_2 t]

/-- The modulation's launch leaves `modArr`. -/
theorem mod_arr : (dat0 V c).arrAt 3 cfg0.N = modArr V c := by
  refine (dat0 V c).arrAt_eq_of_covers 3 _ (by decide +kernel) fun t hf y => ?_
  blk_simp
  rw [after0_3]
  frame_out
  idx_vars y
  have he : ((View.whole main_v4).slice (win0_3.rect t)).emb (ix2 y0 y1 : S136x1024.Idx) = (ix2 y0 (feat t y1) : S136x6144.Idx) := by
    blk_ext [idx0_3 t]
  rw [he]
  pointwise [k0_pay1]
  simp only [zero_sub, c_read, wada_read, bada_read]
  rfl

/-! ## The projections -/

theorem x_read (t : Fin cfg1.N) (a : Fin 512) (k : Fin 1024) :
    iblk1 V c 0 t (ix3 0 a k : S1x512x1024.Idx) = V c main_arg0 (ix3 (bat t) (pos t a) k : S4x8192x1024.Idx) := by
  blk_ext! [iblk1, idx1_0 t]

theorem sh_read (t : Fin cfg1.N) (k : Fin 1024) :
    iblk1 V c 1 t (ix3 0 0 k : S1x1x1024.Idx) = V c main_v6 (ix3 (bat t) 0 k : S4x1x1024.Idx) := by
  blk_ext! [iblk1, idx1_1 t]

theorem sc_read (t : Fin cfg1.N) (k : Fin 1024) :
    iblk1 V c 2 t (ix3 0 0 k : S1x1x1024.Idx) = V c main_v8 (ix3 (bat t) 0 k : S4x1x1024.Idx) := by
  blk_ext! [iblk1, idx1_2 t]

theorem g_read (t : Fin cfg1.N) (k : Fin 1024) :
    iblk1 V c 3 t (ix2 0 k : S1x1024.Idx) = V c main_v9 (ix2 0 k : S1x1024.Idx) := by
  blk_ext! [iblk1, idx1_3 t]

theorem w_read (t : Fin cfg1.N) (k : Fin 1024) (j : Fin 2560) :
    iblk1 V c 4 t (ix2 k j : S1024x2560.Idx) = V c main_v0 (ix2 k j : S1024x2560.Idx) := by
  blk_ext! [iblk1, idx1_4 t]

/-- The norm and modulation of one row of a tile. -/
theorem pay2_apply (v0 : Vec Ideal S1x512x1024 .f32) (v12 : Vec Ideal S1x1024 .f32) (v16 v22 : Vec Ideal S1x1x1024 .f32)
    (a : Fin 512) (b : Fin 1024) :
    k1_pay2 v0 v12 v16 v22 (ix2 a b)
      = normE (fun k => v0 (ix3 0 a k)) (fun k => v12 (ix2 0 k)) (fun k => v16 (ix3 0 0 k)) (fun k => v22 (ix3 0 0 k)) b := by
  pointwise [k1_pay2]
  rfl

/-- The rows the projections read, at a grid point. -/
theorem h_row (t : Fin cfg1.N) (a : Fin 512) (k : Fin 1024) :
    k1_pay12 (iblk1 V c 0 t) (iblk1 V c 1 t) (iblk1 V c 2 t) (iblk1 V c 3 t) (iblk1 V c 4 t) (ix2 a k)
      = hAt V c (bat t) (pos t a) k := by
  unfold k1_pay12
  rw [pay2_apply]
  pointwise
  unfold hAt
  simp only [x_read, sh_read, sc_read, g_read]

/-- The queries' payload reads the same rows. -/
theorem h_row' (t : Fin cfg1.N) (a : Fin 512) (k : Fin 1024) :
    k1_pay2 (iblk1 V c 0 t) (iblk1 V c 3 t) (iblk1 V c 2 t) (iblk1 V c 1 t) (ix2 a k) = hAt V c (bat t) (pos t a) k := by
  rw [pay2_apply]
  unfold hAt
  simp only [x_read, sh_read, sc_read, g_read]

/-- One element of the queries' payload. -/
theorem pay3_apply (v0 : Vec Ideal S1x512x1024 .f32) (v12 : Vec Ideal S1x1024 .f32) (v16 v22 : Vec Ideal S1x1x1024 .f32)
    (w : Vec Ideal S1024x512 .bf16) (a b : Fin 512) :
    k1_pay3 v0 v12 v16 v22 w (ix3 0 a b) = dotE (fun k => k1_pay2 v0 v12 v16 v22 (ix2 a k)) (fun k => w (ix2 k b)) * qScale := by
  unfold k1_pay3
  generalize k1_pay2 v0 v12 v16 v22 = h
  pointwise
  rfl

/-- The queries' columns of the weights. -/
theorem wq_read (t : Fin cfg1.N) (k : Fin 1024) (j : Fin 512) :
    View.ld (iblk1 V c 4 t) r1_3 (ix2 k j : S1024x512.Idx) = wAt V c (col 0 j (by omega)) k := by
  have h : (⟨0 + j.val, by have := j.isLt; omega⟩ : Fin 2560) = ⟨j.val, by have := j.isLt; omega⟩ := Fin.ext (Nat.zero_add _)
  unfold wAt col
  rw [h]
  pointwise
  exact w_read V c t k _

/-- The launch leaves the queries. -/
theorem q_arr : (dat1 V c).arrAt 5 cfg1.N = qArr V c := by
  refine (dat1 V c).arrAt_eq_of_covers 5 _ (by decide +kernel) fun t hf y => ?_
  blk_simp
  rw [after1_5]
  frame_out
  idx_vars y
  have he : ((View.whole main_v10_0).slice (win1_5.rect t)).emb (ix3 y0 y1 y2 : S1x512x512.Idx)
      = (ix3 (bat t) (pos t y1) y2 : S4x8192x512.Idx) := by
    blk_ext [idx1_5 t]
  rw [he]
  obtain rfl : y0 = 0 := Subsingleton.elim _ _
  rw [pay3_apply]
  have e : dotE _ _ = projAt V c 0 (by omega) (bat t) (pos t y1) y2 :=
    congrArg₂ dotE (funext fun k => h_row' V c t y1 k) (funext fun k => wq_read V c t k y2)
  rw [e]
  unfold qArr
  rfl

/-- The launch leaves the keys. -/
theorem k_arr : (dat1 V c).arrAt 6 cfg1.N = kArr V c := by
  refine (dat1 V c).arrAt_eq_of_covers 6 _ (by decide +kernel) fun t hf y => ?_
  blk_simp
  rw [after1_6]
  frame_out
  idx_vars y
  have he : ((View.whole main_v10_1).slice (win1_6.rect t)).emb (ix3 y0 y1 y2 : S1x512x512.Idx)
      = (ix3 (bat t) (pos t y1) y2 : S4x8192x512.Idx) := by
    blk_ext [idx1_6 t]
  rw [he]
  pointwise [k1_pay5, k1_pay4]
  simp only [w_read, h_row]
  rfl

/-- The launch leaves the values. -/
theorem v_arr : (dat1 V c).arrAt 7 cfg1.N = vArr V c := by
  refine (dat1 V c).arrAt_eq_of_covers 7 _ (by decide +kernel) fun t hf y => ?_
  blk_simp
  rw [after1_7]
  frame_out
  idx_vars y
  have he : ((View.whole main_v10_2).slice (win1_7.rect t)).emb (ix3 y0 y1 y2 : S1x512x512.Idx)
      = (ix3 (bat t) (pos t y1) y2 : S4x8192x512.Idx) := by
    blk_ext [idx1_7 t]
  rw [he]
  pointwise [k1_pay8, k1_pay7]
  simp only [w_read, h_row]
  rfl

/-- The launch leaves the convolution's gated input. -/
theorem glu_arr : (dat1 V c).arrAt 8 cfg1.N = gluArr V c := by
  refine (dat1 V c).arrAt_eq_of_covers 8 _ (by decide +kernel) fun t hf y => ?_
  blk_simp
  rw [after1_8]
  frame_out
  idx_vars y
  have he : ((View.whole main_v10_3).slice (win1_8.rect t)).emb (ix3 y0 y1 y2 : S1x512x512.Idx)
      = (ix3 (bat t) (pos t y1) y2 : S4x8192x512.Idx) := by
    blk_ext [idx1_8 t]
  rw [he]
  pointwise [k1_pay1, k1_pay10, k1_pay11]
  simp only [zero_sub, w_read, h_row]
  rfl

/-- The launch leaves the kept keys. -/
theorem kKeep_arr : (dat1 V c).arrAt 9 cfg1.N = kKeepArr V c := by
  refine (dat1 V c).arrAt_eq_of_covers 9 _ (by decide +kernel) fun t hf y => ?_
  have hk := idx1_9 t hf
  blk_simp
  rw [after1_9]
  frame_out
  idx_vars y
  have he : ((View.whole main_v10_4).slice (win1_9.rect t)).emb (ix3 y0 y1 y2 : S1x512x512.Idx)
      = (ix3 (bat t) ⟨(t.val % 16 - 12) * 512 + y1.val, by have := y1.isLt; omega⟩ y2 : S4x2048x512.Idx) := by
    blk_ext [hk.1]
  rw [he]
  pointwise [k1_pay6, k1_pay4]
  simp only [w_read, h_row]
  have hp : kept ⟨(t.val % 16 - 12) * 512 + y1.val, by have := y1.isLt; omega⟩ = pos t y1 := Fin.ext (by have := hk.2; change 6144 + ((t.val % 16 - 12) * 512 + y1.val) = t.val % 16 * 512 + y1.val; omega)
  change _ = projAt V c _ _ (bat t) (kept ⟨(t.val % 16 - 12) * 512 + y1.val, by have := y1.isLt; omega⟩) y2
  rw [hp]
  rfl

/-- The launch leaves the kept values. -/
theorem vKeep_arr : (dat1 V c).arrAt 10 cfg1.N = vKeepArr V c := by
  refine (dat1 V c).arrAt_eq_of_covers 10 _ (by decide +kernel) fun t hf y => ?_
  have hk := idx1_10 t hf
  blk_simp
  rw [after1_10]
  frame_out
  idx_vars y
  have he : ((View.whole main_v10_5).slice (win1_10.rect t)).emb (ix3 y0 y1 y2 : S1x512x512.Idx)
      = (ix3 (bat t) ⟨(t.val % 16 - 12) * 512 + y1.val, by have := y1.isLt; omega⟩ y2 : S4x2048x512.Idx) := by
    blk_ext [hk.1]
  rw [he]
  pointwise [k1_pay9, k1_pay7]
  simp only [w_read, h_row]
  have hp : kept ⟨(t.val % 16 - 12) * 512 + y1.val, by have := y1.isLt; omega⟩ = pos t y1 := Fin.ext (by have := hk.2; change 6144 + ((t.val % 16 - 12) * 512 + y1.val) = t.val % 16 * 512 + y1.val; omega)
  change _ = projAt V c _ _ (bat t) (kept ⟨(t.val % 16 - 12) * 512 + y1.val, by have := y1.isLt; omega⟩) y2
  rw [hp]
  rfl

end Cert.Layer
-- ==== Proof.Prompt.lean ====
/-
  The layer's first half as the kernel computes it: each returned buffer at the end of the run, by elements, of the arrays
  the kernel is given; and the run itself, with every buffer at its last contents.
-/
module

public import proofs.«01_k».proof.Proof.Inproj
public import Idealize.ShloMosaic.Lib.StableHlo.ReadAt

@[expose] public section

set_option maxRecDepth 16384

noncomputable section

namespace Cert.Layer

open Cert.Kernel2Ideal Cert.Kernel2Ideal.Gen
open Idealize.ShloMosaic Idealize.ShloMosaic.TcCoe Idealize.ShloMosaic.Pipeline

variable (m : (ℓ : Loc nD τ sig) → Buf (Elt Ideal) ℓ) (ρ : Dev nD → PrngReg) (c : Dev nD)

/-! ## What the modulation's launch reads -/

theorem c3_read (a : Fin 4) (k : Fin 1024) :
    V3 m ρ c main_v2 (ix2 (⟨a.val, by omega⟩ : Fin 136) k : S136x1024.Idx) = m (c.tc.loc main_arg1) (ix2 a k : S4x1024.Idx) := by
  unfold V3 W3 W2 W1
  after_reads_at
  rw [dif_pos (show a.val < 132 by omega)]
  rfl

theorem a3_read (k : Fin 1024) (j : Fin 6144) :
    V3 m ρ c main_arg3 (ix2 k j : S1024x6144.Idx) = m (c.tc.loc main_arg3) (ix2 k j : S1024x6144.Idx) :=
  congrFun (W3_args m ρ c main_arg3 (by decide)) _

theorem b3_read (j : Fin 6144) : V3 m ρ c main_v3 (ix2 0 j : S1x6144.Idx) = m (c.tc.loc main_arg4) (ix1 j : S6144.Idx) := by
  unfold V3 W3 W2 W1
  after_reads_at

/-- The modulation the first launch leaves, at a prompt's row. -/
theorem mod_read (a : Fin 4) (j : Fin 6144) :
    W4 m ρ c (Proc.devRef .tc main_v4) (ix2 (⟨a.val, by omega⟩ : Fin 136) j : S136x6144.Idx)
      = modP (m (c.tc.loc main_arg1)) (m (c.tc.loc main_arg3)) (m (c.tc.loc main_arg4)) a j := by
  have e : W4 m ρ c (Proc.devRef .tc main_v4) = modArr (V3 m ρ) c := (W4_arr m ρ c 3).trans (mod_arr (V3 m ρ) c)
  refine (congrFun e _).trans ?_
  exact modE_congr (fun k => c3_read m ρ c a k) (fun k => a3_read m ρ c k j) (b3_read m ρ c j)

/-! ## What the projections' launch reads -/

theorem sc5_read (a : Fin 4) (k : Fin 1024) :
    V5 m ρ c main_v8 (ix3 a 0 k : S4x1x1024.Idx) = modP (m (c.tc.loc main_arg1)) (m (c.tc.loc main_arg3)) (m (c.tc.loc main_arg4)) a ⟨1024 + k.val, by omega⟩ := by
  unfold V5 W5
  after_reads_at
  exact mod_read m ρ c a _

theorem sh5_read (a : Fin 4) (k : Fin 1024) :
    V5 m ρ c main_v6 (ix3 a 0 k : S4x1x1024.Idx) = modP (m (c.tc.loc main_arg1)) (m (c.tc.loc main_arg3)) (m (c.tc.loc main_arg4)) a ⟨k.val, by omega⟩ := by
  unfold V5 W5
  after_reads_at
  exact mod_read m ρ c a _

theorem g5_read (k : Fin 1024) : V5 m ρ c main_v9 (ix2 0 k : S1x1024.Idx) = m (c.tc.loc main_arg5) (ix1 k : S1024.Idx) := by
  unfold V5 W5
  after_reads_at
  exact congrFun (W4_args m ρ c main_arg5 (by decide)) _

theorem x5_read (i : S4x8192x1024.Idx) : V5 m ρ c main_arg0 i = m (c.tc.loc main_arg0) i :=
  congrFun (W5_args m ρ c main_arg0 (by decide)) _

theorem w5_read (i : S1024x2560.Idx) : V5 m ρ c main_v0 i = m (c.tc.loc main_arg6) i := by
  unfold V5
  rw [W5_of m ρ c main_v0 (by decide), W4_of m ρ c main_v0 (by decide)]
  idx_vars i
  unfold W3 W2 W1
  after_reads_at

/-- The rows the projections read. -/
theorem h5_read (i : Fin 4) (r : Fin 8192) : hAt (V5 m ρ) c i r = hP (m (c.tc.loc main_arg0)) (m (c.tc.loc main_arg1)) (m (c.tc.loc main_arg3)) (m (c.tc.loc main_arg4)) (m (c.tc.loc main_arg5)) i r :=
  normE_congr (fun k => x5_read m ρ c _) (fun k => g5_read m ρ c k) (fun k => sc5_read m ρ c i k) (fun k => sh5_read m ρ c i k)

/-- One element of a projection. -/
theorem proj5_read (o : ℕ) (h : o ≤ 2048) (i : Fin 4) (r : Fin 8192) (j : Fin 512) :
    projAt (V5 m ρ) c o h i r j = projP (m (c.tc.loc main_arg0)) (m (c.tc.loc main_arg1)) (m (c.tc.loc main_arg3)) (m (c.tc.loc main_arg4)) (m (c.tc.loc main_arg5)) (m (c.tc.loc main_arg6)) o h i r j := by
  unfold projAt projP
  rw [h5_read]
  exact dotE_congr (fun _ => rfl) (fun k => w5_read m ρ c _)

/-! ## The results -/

/-- One element of the convolution's gated input. -/
theorem glu5_read (i : Fin 4) (r : Fin 8192) (j : Fin 512) :
    gluArr (V5 m ρ) c (ix3 i r j : S4x8192x512.Idx) = gluE (m (c.tc.loc main_arg0)) (m (c.tc.loc main_arg1)) (m (c.tc.loc main_arg3)) (m (c.tc.loc main_arg4)) (m (c.tc.loc main_arg5)) (m (c.tc.loc main_arg6)) i r j := by
  change projAt (V5 m ρ) c 1536 _ i r j * logi (projAt (V5 m ρ) c 2048 _ i r j) = _
  rw [proj5_read, proj5_read]
  rfl

/-- The queries returned. -/
theorem q_final : W7 m ρ c (Proc.devRef .tc main_v11) = qP (m (c.tc.loc main_arg0)) (m (c.tc.loc main_arg1)) (m (c.tc.loc main_arg3)) (m (c.tc.loc main_arg4)) (m (c.tc.loc main_arg5)) (m (c.tc.loc main_arg6)) := by
  have e : W6 m ρ c (Proc.devRef .tc main_v10_0) = qArr (V5 m ρ) c := (W6_arr m ρ c 5).trans (q_arr (V5 m ρ) c)
  funext i
  idx_vars i
  unfold W7
  after_reads_at
  refine (congrFun e _).trans ?_
  exact congrArg (fun z : EReal => z * qScale) (proj5_read m ρ c 0 (by omega) i0 i1 i2)

/-- The keys returned. -/
theorem k_final : W7 m ρ c (Proc.devRef .tc main_v12) = kP (m (c.tc.loc main_arg0)) (m (c.tc.loc main_arg1)) (m (c.tc.loc main_arg3)) (m (c.tc.loc main_arg4)) (m (c.tc.loc main_arg5)) (m (c.tc.loc main_arg6)) := by
  have e : W6 m ρ c (Proc.devRef .tc main_v10_1) = kArr (V5 m ρ) c := (W6_arr m ρ c 6).trans (k_arr (V5 m ρ) c)
  funext i
  idx_vars i
  unfold W7
  after_reads_at
  refine (congrFun e _).trans ?_
  exact proj5_read m ρ c 512 (by omega) i0 i1 i2

/-- The values returned. -/
theorem v_final : W7 m ρ c (Proc.devRef .tc main_v13) = vP (m (c.tc.loc main_arg0)) (m (c.tc.loc main_arg1)) (m (c.tc.loc main_arg3)) (m (c.tc.loc main_arg4)) (m (c.tc.loc main_arg5)) (m (c.tc.loc main_arg6)) := by
  have e : W6 m ρ c (Proc.devRef .tc main_v10_2) = vArr (V5 m ρ) c := (W6_arr m ρ c 7).trans (v_arr (V5 m ρ) c)
  funext i
  idx_vars i
  unfold W7
  after_reads_at
  refine (congrFun e _).trans ?_
  exact proj5_read m ρ c 1024 (by omega) i0 i1 i2

/-- The convolution's gated input returned. -/
theorem glu_final : W7 m ρ c (Proc.devRef .tc main_v10_3) = gluP (m (c.tc.loc main_arg0)) (m (c.tc.loc main_arg1)) (m (c.tc.loc main_arg3)) (m (c.tc.loc main_arg4)) (m (c.tc.loc main_arg5)) (m (c.tc.loc main_arg6)) := by
  have e : W6 m ρ c (Proc.devRef .tc main_v10_3) = gluArr (V5 m ρ) c := (W6_arr m ρ c 8).trans (glu_arr (V5 m ρ) c)
  refine (W7_of m ρ c main_v10_3 (by decide)).trans (e.trans ?_)
  funext i
  idx_vars i
  exact glu5_read m ρ c i0 i1 i2

/-- The kept keys returned. -/
theorem kKeep_final : W7 m ρ c (Proc.devRef .tc main_v10_4) = kKeepP (m (c.tc.loc main_arg0)) (m (c.tc.loc main_arg1)) (m (c.tc.loc main_arg3)) (m (c.tc.loc main_arg4)) (m (c.tc.loc main_arg5)) (m (c.tc.loc main_arg6)) := by
  have e : W6 m ρ c (Proc.devRef .tc main_v10_4) = kKeepArr (V5 m ρ) c := (W6_arr m ρ c 9).trans (kKeep_arr (V5 m ρ) c)
  refine (W7_of m ρ c main_v10_4 (by decide)).trans (e.trans ?_)
  funext i
  idx_vars i
  exact proj5_read m ρ c 512 (by omega) i0 (kept i1) i2

/-- The kept values returned. -/
theorem vKeep_final : W7 m ρ c (Proc.devRef .tc main_v10_5) = vKeepP (m (c.tc.loc main_arg0)) (m (c.tc.loc main_arg1)) (m (c.tc.loc main_arg3)) (m (c.tc.loc main_arg4)) (m (c.tc.loc main_arg5)) (m (c.tc.loc main_arg6)) := by
  have e : W6 m ρ c (Proc.devRef .tc main_v10_5) = vKeepArr (V5 m ρ) c := (W6_arr m ρ c 10).trans (vKeep_arr (V5 m ρ) c)
  refine (W7_of m ρ c main_v10_5 (by decide)).trans (e.trans ?_)
  funext i
  idx_vars i
  exact proj5_read m ρ c 1024 (by omega) i0 (kept i1) i2

/-- The convolution's state returned. -/
theorem conv_final : W7 m ρ c (Proc.devRef .tc main_v14) = convP (m (c.tc.loc main_arg0)) (m (c.tc.loc main_arg1)) (m (c.tc.loc main_arg3)) (m (c.tc.loc main_arg4)) (m (c.tc.loc main_arg5)) (m (c.tc.loc main_arg6)) := by
  have e : W6 m ρ c (Proc.devRef .tc main_v10_3) = gluArr (V5 m ρ) c := (W6_arr m ρ c 8).trans (glu_arr (V5 m ρ) c)
  funext i
  idx_vars i
  unfold W7
  after_reads_at
  refine (congrFun e _).trans ?_
  exact glu5_read m ρ c i0 _ i2

end Cert.Layer
-- ==== Proof.PromptRef.lean ====
/-
  The layer's first half as the reference computes it, by elements: the same scalars as the kernel's.
-/
module

public import proofs.«01_k».proof.Proof.LayerMath
public import proofs.«01_k».proof.Proof.Gen.Reference2Ideal.Run

@[expose] public section

set_option maxRecDepth 16384

noncomputable section

namespace Cert.Layer.Ref

open Cert.Reference2Ideal Cert.Reference2Ideal.Gen Cert.Reference2Ideal.Value
open Idealize.ShloMosaic Idealize.ShloMosaic.TcCoe

variable (m : (ℓ : Loc nD τ sig) → Buf (Elt Ideal) ℓ) (ρ : Dev nD → PrngReg)

/-- The reference's run: its seven results are the prompt's arrays, and its arguments are unchanged. -/
theorem run : θ_run (defs (F := Ideal)) (onTc (τ := τ) (main (F := Ideal))) ⟨m, fun _ => 0, ρ⟩ fun r => ∀ c : Dev nD,
      r.2.mem ((c.tc : Thread nD τ).loc main_v40) = qP (m (c.tc.loc main_arg0)) (m (c.tc.loc main_arg1)) (m (c.tc.loc main_arg3)) (m (c.tc.loc main_arg4)) (m (c.tc.loc main_arg5)) (m (c.tc.loc main_arg6))
      ∧ r.2.mem ((c.tc : Thread nD τ).loc main_v35) = kP (m (c.tc.loc main_arg0)) (m (c.tc.loc main_arg1)) (m (c.tc.loc main_arg3)) (m (c.tc.loc main_arg4)) (m (c.tc.loc main_arg5)) (m (c.tc.loc main_arg6))
      ∧ r.2.mem ((c.tc : Thread nD τ).loc main_v36) = vP (m (c.tc.loc main_arg0)) (m (c.tc.loc main_arg1)) (m (c.tc.loc main_arg3)) (m (c.tc.loc main_arg4)) (m (c.tc.loc main_arg5)) (m (c.tc.loc main_arg6))
      ∧ r.2.mem ((c.tc : Thread nD τ).loc main_v47) = gluP (m (c.tc.loc main_arg0)) (m (c.tc.loc main_arg1)) (m (c.tc.loc main_arg3)) (m (c.tc.loc main_arg4)) (m (c.tc.loc main_arg5)) (m (c.tc.loc main_arg6))
      ∧ r.2.mem ((c.tc : Thread nD τ).loc main_v49) = kKeepP (m (c.tc.loc main_arg0)) (m (c.tc.loc main_arg1)) (m (c.tc.loc main_arg3)) (m (c.tc.loc main_arg4)) (m (c.tc.loc main_arg5)) (m (c.tc.loc main_arg6))
      ∧ r.2.mem ((c.tc : Thread nD τ).loc main_v51) = vKeepP (m (c.tc.loc main_arg0)) (m (c.tc.loc main_arg1)) (m (c.tc.loc main_arg3)) (m (c.tc.loc main_arg4)) (m (c.tc.loc main_arg5)) (m (c.tc.loc main_arg6))
      ∧ r.2.mem ((c.tc : Thread nD τ).loc main_v53) = convP (m (c.tc.loc main_arg0)) (m (c.tc.loc main_arg1)) (m (c.tc.loc main_arg3)) (m (c.tc.loc main_arg4)) (m (c.tc.loc main_arg5)) (m (c.tc.loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (Value.run (F := Ideal) m ρ).mono fun r h c => ?_
  obtain ⟨h0, h1, h2, h3, h4, h5, h6, ha⟩ := h c
  refine ⟨h0.trans ?_, h1.trans ?_, h2.trans ?_, h3.trans ?_, h4.trans ?_, h5.trans ?_, h6.trans ?_, ?_⟩
  · funext i
    idx_vars i
    pointwise
    have hz : (⟨0 + i2.val, by omega⟩ : Fin 2560) = ⟨i2.val, by omega⟩ := Fin.ext (Nat.zero_add _)
    refine Eq.trans ?_ (show dotE (hP (m (c.tc.loc main_arg0)) (m (c.tc.loc main_arg1)) (m (c.tc.loc main_arg3)) (m (c.tc.loc main_arg4)) (m (c.tc.loc main_arg5)) i0 i1) (fun k => m (c.tc.loc main_arg6) (ix2 k ⟨0 + i2.val, by omega⟩ : S1024x2560.Idx)) * qScale = qP (m (c.tc.loc main_arg0)) (m (c.tc.loc main_arg1)) (m (c.tc.loc main_arg3)) (m (c.tc.loc main_arg4)) (m (c.tc.loc main_arg5)) (m (c.tc.loc main_arg6)) (ix3 i0 i1 i2) from rfl)
    rw [hz]
    rfl
  · funext i
    idx_vars i
    pointwise
    rfl
  · funext i
    idx_vars i
    pointwise
    rfl
  · funext i
    idx_vars i
    unfold res_main_v47
    pointwise
    rfl
  · funext i
    idx_vars i
    pointwise
    rw [dif_neg (show ¬ 8192 + i1.val < 2048 by omega)]
    have hk : (⟨8192 + i1.val - 2048, by omega⟩ : Fin 8192) = ⟨6144 + i1.val, by omega⟩ := Fin.ext (by change 8192 + i1.val - 2048 = 6144 + i1.val; omega)
    refine Eq.trans (b := projP (m (c.tc.loc main_arg0)) (m (c.tc.loc main_arg1)) (m (c.tc.loc main_arg3)) (m (c.tc.loc main_arg4)) (m (c.tc.loc main_arg5)) (m (c.tc.loc main_arg6)) 512 (by omega) i0 ⟨8192 + i1.val - 2048, by omega⟩ i2) rfl ?_
    rw [hk]
    rfl
  · funext i
    idx_vars i
    pointwise
    rw [dif_neg (show ¬ 8192 + i1.val < 2048 by omega)]
    have hk : (⟨8192 + i1.val - 2048, by omega⟩ : Fin 8192) = ⟨6144 + i1.val, by omega⟩ := Fin.ext (by change 8192 + i1.val - 2048 = 6144 + i1.val; omega)
    refine Eq.trans (b := projP (m (c.tc.loc main_arg0)) (m (c.tc.loc main_arg1)) (m (c.tc.loc main_arg3)) (m (c.tc.loc main_arg4)) (m (c.tc.loc main_arg5)) (m (c.tc.loc main_arg6)) 1024 (by omega) i0 ⟨8192 + i1.val - 2048, by omega⟩ i2) rfl ?_
    rw [hk]
    rfl
  · funext i
    idx_vars i
    unfold res_main_v53
    pointwise
    rw [dif_neg (show ¬ 8192 + i1.val < 30 by omega)]
    have hk : (⟨8192 + i1.val - 30, by omega⟩ : Fin 8192) = ⟨8162 + i1.val, by omega⟩ := Fin.ext (by change 8192 + i1.val - 30 = 8162 + i1.val; omega)
    refine Eq.trans (b := gluE (m (c.tc.loc main_arg0)) (m (c.tc.loc main_arg1)) (m (c.tc.loc main_arg3)) (m (c.tc.loc main_arg4)) (m (c.tc.loc main_arg5)) (m (c.tc.loc main_arg6)) i0 ⟨8192 + i1.val - 30, by omega⟩ i2) rfl ?_
    rw [hk]
    rfl
  · exact ha

end Cert.Layer.Ref
-- ==== Proof.StepRun.lean ====
/-
  The run of the decoding step: the launches one after another, from any memory to the buffers' last contents.
-/
module

public import proofs.«01_k».proof.Proof.Gen.Kernel3Ideal.Frame

@[expose] public section

noncomputable section

namespace Cert.Sample

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer that outlives the launches at its last contents, and no semaphore counting. -/
theorem run_main : θ_run defs (onTc (τ := τ) (main (F := F))) ⟨m, fun _ => 0, ρ⟩ (fun r =>
    (∀ c : Dev nD, ∀ b ∈ Pipeline.ucRefs τ sig, r.2.mem ((c : Thread nD τ).1, b) = W13 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => ⟨h, funext fun g => hz g (.inr (no_unscoped g.2))⟩)

end Cert.Sample
-- ==== Proof.StepArrays.lean ====
/-
  What the four launches of the decoding step leave in the arrays its results are cut from: the modulation, the new
  position's projections, the windows of keys and values moved by one, and the convolution's state moved by one. Each array
  is stated by elements, at any contents `V` of the buffers the launch begins with.
-/
module

public import proofs.«01_k».proof.Proof.Gen.Kernel3Ideal.Frame
public import proofs.«01_k».proof.Proof.LayerMath
public import Idealize.ShloMosaic.Lib.Pipeline.ValueKit
public import Idealize.ShloMosaic.Lib.Pipeline.ReadBack

@[expose] public section

set_option maxRecDepth 16384

noncomputable section

namespace Cert.Sample

open Cert.Kernel3Ideal Cert.Kernel3Ideal.Gen Cert.Layer
open Idealize.ShloMosaic Idealize.ShloMosaic.TcCoe Idealize.ShloMosaic.Pipeline

/-! ## Which block a window is on -/

theorem idx0_0 : ∀ t : Fin cfg0.N, win0_0.index t = ![0, 0] := (by decide +kernel : ∀ t : Fin grid0.N, _)
theorem idx0_1 : ∀ t : Fin cfg0.N, win0_1.index t = ![0, t.val] := (by decide +kernel : ∀ t : Fin grid0.N, _)
theorem idx0_2 : ∀ t : Fin cfg0.N, win0_2.index t = ![0, t.val] := (by decide +kernel : ∀ t : Fin grid0.N, _)
theorem idx0_3 : ∀ t : Fin cfg0.N, win0_3.index t = ![0, t.val] := (by decide +kernel : ∀ t : Fin grid0.N, _)
theorem idx1_0 : ∀ t : Fin cfg1.N, win1_0.index t = ![0, 0, 0] := (by decide +kernel : ∀ t : Fin grid1.N, _)
theorem idx1_1 : ∀ t : Fin cfg1.N, win1_1.index t = ![0, 0, 0] := (by decide +kernel : ∀ t : Fin grid1.N, _)
theorem idx1_2 : ∀ t : Fin cfg1.N, win1_2.index t = ![0, 0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_8 : ∀ t : Fin cfg1.N, win1_8.index t = ![0, 0, 0] := (by decide +kernel : ∀ t : Fin grid1.N, _)
theorem idx1_9 : ∀ t : Fin cfg1.N, win1_9.index t = ![0, 0, 0] := (by decide +kernel : ∀ t : Fin grid1.N, _)
theorem idx1_10 : ∀ t : Fin cfg1.N, win1_10.index t = ![0, 0, 0] := (by decide +kernel : ∀ t : Fin grid1.N, _)
theorem idx2_1 : ∀ t : Fin cfg2.N, win2_1.index t = ![t.val, 0, 0] := (by decide +kernel : ∀ t : Fin grid2.N, _)
theorem idx2_2 : ∀ t : Fin cfg2.N, win2_2.index t = ![t.val, 0, 0] := (by decide +kernel : ∀ t : Fin grid2.N, _)
theorem idx2_3 : ∀ t : Fin cfg2.N, win2_3.index t = ![t.val, 0, 0] := (by decide +kernel : ∀ t : Fin grid2.N, _)
theorem idx2_4 : ∀ t : Fin cfg2.N, win2_4.index t = ![t.val, 0, 0] := (by decide +kernel : ∀ t : Fin grid2.N, _)
theorem idx2_9 : ∀ t : Fin cfg2.N, win2_9.index t = ![t.val, 0, 0] := (by decide +kernel : ∀ t : Fin grid2.N, _)
theorem idx2_10 : ∀ t : Fin cfg2.N, win2_10.index t = ![t.val, 0, 0] := (by decide +kernel : ∀ t : Fin grid2.N, _)
theorem idx3_0 : ∀ t : Fin cfg3.N, win3_0.index t = ![0, 0] := (by decide +kernel : ∀ t : Fin grid3.N, _)
theorem idx3_1 : ∀ t : Fin cfg3.N, win3_1.index t = ![0, 0] := (by decide +kernel : ∀ t : Fin grid3.N, _)
theorem idx3_7 : ∀ t : Fin cfg3.N, win3_7.index t = ![0, 0] := (by decide +kernel : ∀ t : Fin grid3.N, _)

/-- A column of a projection's own block of the weights. -/
abbrev col (o : ℕ) (j : Fin 512) (h : o ≤ 2048) : Fin 2560 := ⟨o + j.val, by have := j.isLt; omega⟩

variable (V : (c : Dev nD) → (b : Ref sig .tc) → Buf (Elt Ideal) ((c : Thread nD τ).loc b)) (c : Dev nD)

/-! ## The arrays -/

/-- The modulation of row `i 0` at feature `i 1`. -/
def modArr : S136x6144.Idx → EReal := fun i =>
  modE (fun k => V c main_v23 (ix2 (i 0) k : S136x1024.Idx)) (fun k => V c main_arg7 (ix2 k (i 1) : S1024x6144.Idx))
    (V c main_v24 (ix2 0 (i 1) : S1x6144.Idx))

/-- The normed and modulated activations of sequence `i`. -/
def hAt (i : Fin 128) : Fin 1024 → EReal :=
  normE (fun k => V c main_v20 (ix3 0 i k : S1x128x1024.Idx)) (fun k => V c main_v30 (ix2 0 k : S1x1024.Idx))
    (fun k => V c main_v29 (ix3 0 i k : S1x128x1024.Idx)) (fun k => V c main_v27 (ix3 0 i k : S1x128x1024.Idx))

/-- The projection of one sequence whose block of the weights begins at column `o`. -/
def projAt (o : ℕ) (h : o ≤ 2048) (i : Fin 128) (j : Fin 512) : EReal :=
  dotE (hAt V c i) (fun k => V c main_v21 (ix2 k (col o j h) : S1024x2560.Idx))

/-- The new keys. -/
def kArr : S1x128x512.Idx → EReal := fun i => projAt V c 512 (by omega) (i 1) (i 2)

/-- The new values. -/
def vArr : S1x128x512.Idx → EReal := fun i => projAt V c 1024 (by omega) (i 1) (i 2)

/-- The convolution's gated input. -/
def gluArr : S1x128x512.Idx → EReal := fun i =>
  projAt V c 1536 (by omega) (i 1) (i 2) * logi (projAt V c 2048 (by omega) (i 1) (i 2))

/-- One element of a window `K` moved by one row, with the new row `N` at its end. -/
def shiftE (K : S128x2048x512.Idx → EReal) (N : S128x1x512.Idx → EReal) (a : Fin 128) (r : Fin 2048) (j : Fin 512) : EReal :=
  if h : r.val < 2047 then K (ix3 a ⟨r.val + 1, by omega⟩ j) else N (ix3 a 0 j)

/-- The window of keys after the step. -/
def nkArr : S128x2048x512.Idx → EReal := fun i => shiftE (V c main_v36) (V c main_v34) (i 0) (i 1) (i 2)

/-- The window of values after the step. -/
def nvArr : S128x2048x512.Idx → EReal := fun i => shiftE (V c main_v37) (V c main_v35) (i 0) (i 1) (i 2)

/-- One element of the convolution's state after the step, its rows side by side. -/
def nsE (a : Fin 128) (j : Fin 15360) : EReal :=
  if h : j.val < 14848 then V c main_v40 (ix2 a ⟨j.val + 512, by omega⟩ : S128x15360.Idx)
  else V c main_v39 (ix2 a ⟨j.val - 14848, by have := j.isLt; omega⟩ : S128x512.Idx)

/-- The convolution's state after the step. -/
def nsArr : S128x15360.Idx → EReal := fun i => nsE V c (i 0) (i 1)

/-! ## The modulation -/

theorem c_read (t : Fin cfg0.N) (a : Fin 136) (k : Fin 1024) :
    iblk0 V c 0 t (ix2 a k : S136x1024.Idx) = V c main_v23 (ix2 a k : S136x1024.Idx) := by
  blk_ext! [iblk0, idx0_0 t]

/-- The feature of a column of a grid point's tile. -/
abbrev feat (t : Fin cfg0.N) (a : Fin 1024) : Fin 6144 :=
  ⟨t.val * 1024 + a.val, by have := a.isLt; have := t.isLt; change _ < 6 at this; omega⟩

theorem wada_read (t : Fin cfg0.N) (k j : Fin 1024) :
    iblk0 V c 1 t (ix2 k j : S1024x1024.Idx) = V c main_arg7 (ix2 k (feat t j) : S1024x6144.Idx) := by
  blk_ext! [iblk0, idx0_1 t]

theorem bada_read (t : Fin cfg0.N) (j : Fin 1024) :
    iblk0 V c 2 t (ix2 0 j : S1x1024.Idx) = V c main_v24 (ix2 0 (feat t j) : S1x6144.Idx) := by
  blk_ext! [iblk0, idx0_2 t]

/-- The modulation's launch leaves `modArr`. -/
theorem mod_arr : (dat0 V c).arrAt 3 cfg0.N = modArr V c := by
  refine (dat0 V c).arrAt_eq_of_covers 3 _ (by decide +kernel) fun t hf y => ?_
  blk_simp
  rw [after0_3]
  frame_out
  idx_vars y
  have he : ((View.whole main_v25).slice (win0_3.rect t)).emb (ix2 y0 y1 : S136x1024.Idx) = (ix2 y0 (feat t y1) : S136x6144.Idx) := by
    blk_ext [idx0_3 t]
  rw [he]
  pointwise [k0_pay1]
  simp only [zero_sub, c_read, wada_read, bada_read]
  rfl

/-! ## The projections -/

theorem x_read (t : Fin cfg1.N) (a : Fin 128) (k : Fin 1024) :
    iblk1 V c 0 t (ix3 0 a k : S1x128x1024.Idx) = V c main_v20 (ix3 0 a k : S1x128x1024.Idx) := by
  blk_ext! [iblk1, idx1_0 t]

theorem sh_read (t : Fin cfg1.N) (a : Fin 128) (k : Fin 1024) :
    iblk1 V c 1 t (ix3 0 a k : S1x128x1024.Idx) = V c main_v27 (ix3 0 a k : S1x128x1024.Idx) := by
  blk_ext! [iblk1, idx1_1 t]

theorem sc_read (t : Fin cfg1.N) (a : Fin 128) (k : Fin 1024) :
    iblk1 V c 2 t (ix3 0 a k : S1x128x1024.Idx) = V c main_v29 (ix3 0 a k : S1x128x1024.Idx) := by
  blk_ext! [iblk1, idx1_2 t]

theorem g_read (t : Fin cfg1.N) (k : Fin 1024) :
    iblk1 V c 3 t (ix2 0 k : S1x1024.Idx) = V c main_v30 (ix2 0 k : S1x1024.Idx) := by
  blk_ext! [iblk1, idx1_3 t]

theorem w_read (t : Fin cfg1.N) (k : Fin 1024) (j : Fin 2560) :
    iblk1 V c 4 t (ix2 k j : S1024x2560.Idx) = V c main_v21 (ix2 k j : S1024x2560.Idx) := by
  blk_ext! [iblk1, idx1_4 t]

/-- The norm and modulation of one row. -/
theorem pay2_apply (v0 : Vec Ideal S1x128x1024 .f32) (v12 : Vec Ideal S1x1024 .f32) (v16 v22 : Vec Ideal S1x128x1024 .f32)
    (a : Fin 128) (b : Fin 1024) :
    k1_pay2 v0 v12 v16 v22 (ix2 a b)
      = normE (fun k => v0 (ix3 0 a k)) (fun k => v12 (ix2 0 k)) (fun k => v16 (ix3 0 a k)) (fun k => v22 (ix3 0 a k)) b := by
  pointwise [k1_pay2]
  rfl

/-- The rows the projections read. -/
theorem h_row (t : Fin cfg1.N) (a : Fin 128) (k : Fin 1024) :
    k1_pay12 (iblk1 V c 0 t) (iblk1 V c 1 t) (iblk1 V c 2 t) (iblk1 V c 3 t) (iblk1 V c 4 t) (ix2 a k) = hAt V c a k := by
  unfold k1_pay12
  rw [pay2_apply]
  pointwise
  unfold hAt
  simp only [x_read, sh_read, sc_read, g_read]

/-- The launch leaves the convolution's gated input. -/
theorem glu_arr : (dat1 V c).arrAt 8 cfg1.N = gluArr V c := by
  refine (dat1 V c).arrAt_eq_of_covers 8 _ (by decide +kernel) fun t hf y => ?_
  blk_simp
  rw [after1_8]
  frame_out
  idx_vars y
  have he : ((View.whole main_v31_3).slice (win1_8.rect t)).emb (ix3 y0 y1 y2 : S1x128x512.Idx) = (ix3 y0 y1 y2 : S1x128x512.Idx) := by
    blk_ext [idx1_8 t]
  rw [he]
  pointwise [k1_pay1, k1_pay10, k1_pay11]
  simp only [zero_sub, w_read, h_row]
  rfl

/-- The launch leaves the new keys. -/
theorem k_arr : (dat1 V c).arrAt 9 cfg1.N = kArr V c := by
  refine (dat1 V c).arrAt_eq_of_covers 9 _ (by decide +kernel) fun t hf y => ?_
  blk_simp
  rw [after1_9]
  frame_out
  idx_vars y
  have he : ((View.whole main_v31_4).slice (win1_9.rect t)).emb (ix3 y0 y1 y2 : S1x128x512.Idx) = (ix3 y0 y1 y2 : S1x128x512.Idx) := by
    blk_ext [idx1_9 t]
  rw [he]
  pointwise [k1_pay6, k1_pay4]
  simp only [w_read, h_row]
  rfl

/-- The launch leaves the new values. -/
theorem v_arr : (dat1 V c).arrAt 10 cfg1.N = vArr V c := by
  refine (dat1 V c).arrAt_eq_of_covers 10 _ (by decide +kernel) fun t hf y => ?_
  blk_simp
  rw [after1_10]
  frame_out
  idx_vars y
  have he : ((View.whole main_v31_5).slice (win1_10.rect t)).emb (ix3 y0 y1 y2 : S1x128x512.Idx) = (ix3 y0 y1 y2 : S1x128x512.Idx) := by
    blk_ext [idx1_10 t]
  rw [he]
  pointwise [k1_pay9, k1_pay7]
  simp only [w_read, h_row]
  rfl

/-! ## The windows of keys and values -/

/-- The sequence of a grid point. -/
abbrev sq (t : Fin cfg2.N) : Fin 128 := ⟨t.val, by have := t.isLt; change _ < 128 at this; omega⟩

theorem kn_read (t : Fin cfg2.N) (k : Fin 512) :
    iblk2 V c 1 t (ix3 0 0 k : S1x1x512.Idx) = V c main_v34 (ix3 (sq t) 0 k : S128x1x512.Idx) := by
  blk_ext! [iblk2, idx2_1 t]

theorem vn_read (t : Fin cfg2.N) (k : Fin 512) :
    iblk2 V c 2 t (ix3 0 0 k : S1x1x512.Idx) = V c main_v35 (ix3 (sq t) 0 k : S128x1x512.Idx) := by
  blk_ext! [iblk2, idx2_2 t]

theorem ck_read (t : Fin cfg2.N) (r : Fin 2048) (k : Fin 512) :
    iblk2 V c 3 t (ix3 0 r k : S1x2048x512.Idx) = V c main_v36 (ix3 (sq t) r k : S128x2048x512.Idx) := by
  blk_ext! [iblk2, idx2_3 t]

theorem cv_read (t : Fin cfg2.N) (r : Fin 2048) (k : Fin 512) :
    iblk2 V c 4 t (ix3 0 r k : S1x2048x512.Idx) = V c main_v37 (ix3 (sq t) r k : S128x2048x512.Idx) := by
  blk_ext! [iblk2, idx2_4 t]

theorem shiftE_lt (K : S128x2048x512.Idx → EReal) (N : S128x1x512.Idx → EReal) (a : Fin 128) (r s : Fin 2048) (j k : Fin 512)
    (h : r.val < 2047) (hs : s.val = 1 + r.val) (hj : j.val = k.val) : K (ix3 a s k) = shiftE K N a r j := by
  obtain rfl : j = k := Fin.ext hj
  have e : s = ⟨r.val + 1, by omega⟩ := Fin.ext (hs.trans (Nat.add_comm _ _))
  rw [e]
  unfold shiftE; rw [dif_pos h]

theorem shiftE_last (K : S128x2048x512.Idx → EReal) (N : S128x1x512.Idx → EReal) (a : Fin 128) (r : Fin 2048) (j k : Fin 512)
    (h : 2047 ≤ r.val) (hj : j.val = k.val) : N (ix3 a 0 k) = shiftE K N a r j := by
  obtain rfl : j = k := Fin.ext hj
  have hn : ¬ r.val < 2047 := Nat.not_lt.mpr h
  unfold shiftE; rw [dif_neg hn]

theorem nsE_lt (a b : Fin 128) (j k : Fin 15360) (h : j.val < 14848) (hk : k.val = 512 + j.val) (hb : a.val = b.val) :
    V c main_v40 (ix2 b k : S128x15360.Idx) = nsE V c a j := by
  obtain rfl : a = b := Fin.ext hb
  have e : k = ⟨j.val + 512, by omega⟩ := Fin.ext (hk.trans (Nat.add_comm _ _))
  rw [e]
  unfold nsE; rw [dif_pos h]

theorem nsE_ge (a b : Fin 128) (j : Fin 15360) (k : Fin 512) (h : j.val = 14848 + k.val) (hb : a.val = b.val) :
    V c main_v39 (ix2 b k : S128x512.Idx) = nsE V c a j := by
  obtain rfl : a = b := Fin.ext hb
  have e : k = ⟨j.val - 14848, by have := j.isLt; omega⟩ := Fin.ext (by show k.val = j.val - 14848; omega)
  rw [e]
  have hn : ¬ j.val < 14848 := by omega
  unfold nsE; rw [dif_neg hn]

/-- The launch leaves the window of keys moved by one. -/
theorem nk_arr : (dat2 V c).arrAt 9 cfg2.N = nkArr V c := by
  refine (dat2 V c).arrAt_eq_of_covers 9 _ (by decide +kernel) fun t hf y => ?_
  blk_simp
  rw [after2_9]
  unfold outsAt2
  frame_out
  idx_vars y
  have he : ((View.whole main_v38_1).slice (win2_9.rect t)).emb (ix3 y0 y1 y2 : S1x2048x512.Idx) = (ix3 (sq t) y1 y2 : S128x2048x512.Idx) := by
    blk_ext [idx2_9 t]
  rw [he]
  canon_tiles x h using View.cover_of_tiledBy _ ![1, 1, 512] (by sl_kernel_rfl) _
  · idx_vars x
    obtain rfl : x0 = 0 := Subsingleton.elim _ _
    obtain rfl : x1 = 0 := Subsingleton.elim _ _
    pointwise [k2_pay3, k2_pay6]
    exact (kn_read V c t x2).trans (shiftE_last _ _ (sq t) y1 y2 x2 (by change y1.val = 2047 + 0 at h1; omega) h2)
  · idx_vars x
    obtain rfl : x0 = 0 := Subsingleton.elim _ _
    pointwise [k2_pay2]
    exact (ck_read V c t _ x2).trans
        (shiftE_lt _ _ (sq t) y1 _ y2 x2 (by change y1.val = x1.val at h1; omega) (by change y1.val = x1.val at h1; change 1 + x1.val = 1 + y1.val; omega) h2)

/-- The launch leaves the window of values moved by one. -/
theorem nv_arr : (dat2 V c).arrAt 10 cfg2.N = nvArr V c := by
  refine (dat2 V c).arrAt_eq_of_covers 10 _ (by decide +kernel) fun t hf y => ?_
  blk_simp
  rw [after2_10]
  unfold outsAt2
  frame_out
  idx_vars y
  have he : ((View.whole main_v38_2).slice (win2_10.rect t)).emb (ix3 y0 y1 y2 : S1x2048x512.Idx) = (ix3 (sq t) y1 y2 : S128x2048x512.Idx) := by
    blk_ext [idx2_10 t]
  rw [he]
  canon_tiles x h using View.cover_of_tiledBy _ ![1, 1, 512] (by sl_kernel_rfl) _
  · idx_vars x
    obtain rfl : x0 = 0 := Subsingleton.elim _ _
    obtain rfl : x1 = 0 := Subsingleton.elim _ _
    pointwise [k2_pay5, k2_pay7]
    exact (vn_read V c t x2).trans (shiftE_last _ _ (sq t) y1 y2 x2 (by change y1.val = 2047 + 0 at h1; omega) h2)
  · idx_vars x
    obtain rfl : x0 = 0 := Subsingleton.elim _ _
    pointwise [k2_pay4]
    exact (cv_read V c t _ x2).trans
        (shiftE_lt _ _ (sq t) y1 _ y2 x2 (by change y1.val = x1.val at h1; omega) (by change y1.val = x1.val at h1; change 1 + x1.val = 1 + y1.val; omega) h2)

/-! ## The convolution's state -/

theorem st_read (t : Fin cfg3.N) : iblk3 V c 0 t = V c main_v40 := by
  funext y
  idx_vars y
  blk_ext! [iblk3, idx3_0 t]

theorem gl_read (t : Fin cfg3.N) : iblk3 V c 1 t = V c main_v39 := by
  funext y
  idx_vars y
  blk_ext! [iblk3, idx3_1 t]

/-- The launch leaves the convolution's state moved by one. -/
theorem ns_arr : (dat3 V c).arrAt 7 cfg3.N = nsArr V c := by
  refine (dat3 V c).arrAt_eq_of_covers 7 _ (by decide +kernel) fun t hf y => ?_
  blk_simp
  rw [after3_7]
  unfold outsAt3
  dsimp only
  frame_out
  idx_vars y
  have he : ((View.whole main_v44_1).slice (win3_7.rect t)).emb (ix2 y0 y1 : S128x15360.Idx) = (ix2 y0 y1 : S128x15360.Idx) := by
    blk_ext [idx3_7 t]
  rw [he, read_unread_whole, read_unread_whole, st_read, gl_read]
  canon_tiles x h using View.cover_of_tiledBy _ ![128, 512] (by sl_kernel_rfl) _
  · idx_vars x
    pointwise [k3_pay2]
    exact nsE_ge V c y0 x0 y1 x1 h1 h0
  · idx_vars x
    pointwise [k3_pay1]
    exact nsE_lt V c y0 x0 y1 _ (by change y1.val = x1.val at h1; omega) (by change y1.val = x1.val at h1; change 512 + x1.val = 512 + y1.val; omega) h0

end Cert.Sample
-- ==== Proof.Step.lean ====
/-
  The decoding step as the kernel computes it: each returned buffer at the end of the run, by elements, of the arrays the
  kernel is given.
-/
module

public import proofs.«01_k».proof.Proof.StepArrays
public import Idealize.ShloMosaic.Lib.StableHlo.ReadAt

@[expose] public section

set_option maxRecDepth 16384

noncomputable section

namespace Cert.Sample

open Cert.Kernel3Ideal Cert.Kernel3Ideal.Gen Cert.Layer
open Idealize.ShloMosaic Idealize.ShloMosaic.TcCoe Idealize.ShloMosaic.Pipeline

variable (m : (ℓ : Loc nD τ sig) → Buf (Elt Ideal) ℓ) (ρ : Dev nD → PrngReg) (c : Dev nD)

/-! ## What the modulation's launch reads -/

/-- The row of the modulation that belongs to sequence `a`: the prompts' rows come first. -/
abbrev row (a : Fin 128) : Fin 136 := ⟨4 + a.val, by have := a.isLt; omega⟩

theorem c5_read (a : Fin 128) (k : Fin 1024) :
    V5 m ρ c main_v23 (ix2 (row a) k : S136x1024.Idx) = m (c.tc.loc main_arg5) (ix2 a k : S128x1024.Idx) := by
  unfold V5 W5 W4 W3 W2 W1
  after_reads_at
  rw [dif_pos (show 4 + a.val < 132 by omega)]
  rfl

theorem a5_read (k : Fin 1024) (j : Fin 6144) :
    V5 m ρ c main_arg7 (ix2 k j : S1024x6144.Idx) = m (c.tc.loc main_arg7) (ix2 k j : S1024x6144.Idx) :=
  congrFun (W5_args m ρ c main_arg7 (by decide)) _

theorem b5_read (j : Fin 6144) : V5 m ρ c main_v24 (ix2 0 j : S1x6144.Idx) = m (c.tc.loc main_arg8) (ix1 j : S6144.Idx) := by
  unfold V5 W5 W4 W3 W2 W1
  after_reads_at

/-- The modulation the first launch leaves, at a sequence's row. -/
theorem mod_read (a : Fin 128) (j : Fin 6144) :
    W6 m ρ c (Proc.devRef .tc main_v25) (ix2 (row a) j : S136x6144.Idx) = modS (m (c.tc.loc main_arg5)) (m (c.tc.loc main_arg7)) (m (c.tc.loc main_arg8)) a j := by
  have e : W6 m ρ c (Proc.devRef .tc main_v25) = modArr (V5 m ρ) c := (W6_arr m ρ c 3).trans (mod_arr (V5 m ρ) c)
  refine (congrFun e _).trans ?_
  exact modE_congr (fun k => c5_read m ρ c a k) (fun k => a5_read m ρ c k j) (b5_read m ρ c j)

/-! ## What the projections' launch reads -/

theorem sc7_read (a : Fin 128) (k : Fin 1024) :
    V7 m ρ c main_v29 (ix3 0 a k : S1x128x1024.Idx) = modS (m (c.tc.loc main_arg5)) (m (c.tc.loc main_arg7)) (m (c.tc.loc main_arg8)) a ⟨1024 + k.val, by omega⟩ := by
  unfold V7 W7
  after_reads_at
  exact mod_read m ρ c a _

theorem sh7_read (a : Fin 128) (k : Fin 1024) :
    V7 m ρ c main_v27 (ix3 0 a k : S1x128x1024.Idx) = modS (m (c.tc.loc main_arg5)) (m (c.tc.loc main_arg7)) (m (c.tc.loc main_arg8)) a ⟨k.val, by omega⟩ := by
  unfold V7 W7
  after_reads_at
  exact mod_read m ρ c a _

theorem g7_read (k : Fin 1024) : V7 m ρ c main_v30 (ix2 0 k : S1x1024.Idx) = m (c.tc.loc main_arg9) (ix1 k : S1024.Idx) := by
  unfold V7 W7
  after_reads_at
  exact congrFun (W6_args m ρ c main_arg9 (by decide)) _

theorem x7_read (a : Fin 128) (k : Fin 1024) :
    V7 m ρ c main_v20 (ix3 0 a k : S1x128x1024.Idx) = m (c.tc.loc main_arg0) (ix3 a 0 k : S128x1x1024.Idx) := by
  unfold V7
  rw [W7_of m ρ c main_v20 (by decide), W6_of m ρ c main_v20 (by decide)]
  unfold W5 W4 W3 W2 W1
  after_reads_at

theorem w7_read (k : Fin 1024) (j : Fin 2560) :
    V7 m ρ c main_v21 (ix2 k j : S1024x2560.Idx) = m (c.tc.loc main_arg10) (ix2 k j : S1024x2560.Idx) := by
  unfold V7
  rw [W7_of m ρ c main_v21 (by decide), W6_of m ρ c main_v21 (by decide)]
  unfold W5 W4 W3 W2 W1
  after_reads_at

/-- The rows the projections read. -/
theorem h7_read (i : Fin 128) : hAt (V7 m ρ) c i = hS (m (c.tc.loc main_arg0)) (m (c.tc.loc main_arg5)) (m (c.tc.loc main_arg7)) (m (c.tc.loc main_arg8)) (m (c.tc.loc main_arg9)) i := by
  exact normE_congr (fun k => x7_read m ρ c i k) (fun k => g7_read m ρ c k) (fun k => sc7_read m ρ c i k) (fun k => sh7_read m ρ c i k)

/-- One element of a projection. -/
theorem proj7_read (o : ℕ) (h : o ≤ 2048) (i : Fin 128) (j : Fin 512) :
    projAt (V7 m ρ) c o h i j = projS (m (c.tc.loc main_arg0)) (m (c.tc.loc main_arg5)) (m (c.tc.loc main_arg7)) (m (c.tc.loc main_arg8)) (m (c.tc.loc main_arg9)) (m (c.tc.loc main_arg10)) o h i j := by
  unfold projAt projS
  rw [h7_read]
  exact dotE_congr (fun _ => rfl) (fun k => w7_read m ρ c k _)

/-! ## What the launches that move the windows read -/

theorem kn_new (i : Fin 128) (j : Fin 512) :
    V9 m ρ c main_v34 (ix3 i 0 j : S128x1x512.Idx) = projS (m (c.tc.loc main_arg0)) (m (c.tc.loc main_arg5)) (m (c.tc.loc main_arg7)) (m (c.tc.loc main_arg8)) (m (c.tc.loc main_arg9)) (m (c.tc.loc main_arg10)) 512 (by omega) i j := by
  have e : W8 m ρ c (Proc.devRef .tc main_v31_4) = kArr (V7 m ρ) c := (W8_arr m ρ c 9).trans (k_arr (V7 m ρ) c)
  unfold V9 W9
  after_reads_at
  refine (congrFun e _).trans ?_
  exact proj7_read m ρ c 512 (by omega) i j

theorem vn_new (i : Fin 128) (j : Fin 512) :
    V9 m ρ c main_v35 (ix3 i 0 j : S128x1x512.Idx) = projS (m (c.tc.loc main_arg0)) (m (c.tc.loc main_arg5)) (m (c.tc.loc main_arg7)) (m (c.tc.loc main_arg8)) (m (c.tc.loc main_arg9)) (m (c.tc.loc main_arg10)) 1024 (by omega) i j := by
  have e : W8 m ρ c (Proc.devRef .tc main_v31_5) = vArr (V7 m ρ) c := (W8_arr m ρ c 10).trans (v_arr (V7 m ρ) c)
  unfold V9 W9
  after_reads_at
  refine (congrFun e _).trans ?_
  exact proj7_read m ρ c 1024 (by omega) i j

/-- The column of head `e`, feature `d`. -/
abbrev hd (e : Fin 8) (d : Fin 64) : Fin 512 := ⟨e.val * 64 + d.val, by have := e.isLt; have := d.isLt; omega⟩

theorem ck_old (i : Fin 128) (r : Fin 2048) (e : Fin 8) (d : Fin 64) :
    V9 m ρ c main_v36 (ix3 i r (hd e d) : S128x2048x512.Idx) = m (c.tc.loc main_arg1) (ix4 i r e d : S128x2048x8x64.Idx) := by
  unfold V9 W9
  after_reads_at
  have e1 : (⟨(e.val * 64 + d.val) / 64, by omega⟩ : Fin 8) = e := Fin.ext (by show (e.val * 64 + d.val) / 64 = e.val; omega)
  have e2 : (⟨(e.val * 64 + d.val) % 64, by omega⟩ : Fin 64) = d := Fin.ext (by show (e.val * 64 + d.val) % 64 = d.val; omega)
  rw [e1, e2]
  exact congrFun (W8_args m ρ c main_arg1 (by decide)) _

theorem cv_old (i : Fin 128) (r : Fin 2048) (e : Fin 8) (d : Fin 64) :
    V9 m ρ c main_v37 (ix3 i r (hd e d) : S128x2048x512.Idx) = m (c.tc.loc main_arg2) (ix4 i r e d : S128x2048x8x64.Idx) := by
  unfold V9 W9
  after_reads_at
  have e1 : (⟨(e.val * 64 + d.val) / 64, by omega⟩ : Fin 8) = e := Fin.ext (by show (e.val * 64 + d.val) / 64 = e.val; omega)
  have e2 : (⟨(e.val * 64 + d.val) % 64, by omega⟩ : Fin 64) = d := Fin.ext (by show (e.val * 64 + d.val) % 64 = d.val; omega)
  rw [e1, e2]
  exact congrFun (W8_args m ρ c main_arg2 (by decide)) _

/-- A column of the state of row `r` of the convolution's window. -/
abbrev sc (r : Fin 30) (j : Fin 512) : Fin 15360 := ⟨r.val * 512 + j.val, by have := r.isLt; have := j.isLt; omega⟩

theorem st_old (i : Fin 128) (r : Fin 30) (j : Fin 512) :
    V11 m ρ c main_v40 (ix2 i (sc r j) : S128x15360.Idx) = m (c.tc.loc main_arg3) (ix3 i r j : S128x30x512.Idx) := by
  unfold V11 W11
  after_reads_at
  have e1 : (⟨(r.val * 512 + j.val) / 512, by omega⟩ : Fin 30) = r := Fin.ext (by show (r.val * 512 + j.val) / 512 = r.val; omega)
  have e2 : (⟨(r.val * 512 + j.val) % 512, by omega⟩ : Fin 512) = j := Fin.ext (by show (r.val * 512 + j.val) % 512 = j.val; omega)
  rw [e1, e2]
  exact congrFun (W10_args m ρ c main_arg3 (by decide)) _

theorem glu_new (i : Fin 128) (j : Fin 512) :
    V11 m ρ c main_v39 (ix2 i j : S128x512.Idx) = gluS (m (c.tc.loc main_arg0)) (m (c.tc.loc main_arg5)) (m (c.tc.loc main_arg7)) (m (c.tc.loc main_arg8)) (m (c.tc.loc main_arg9)) (m (c.tc.loc main_arg10)) i j := by
  have e : W10 m ρ c (Proc.devRef .tc main_v31_3) = gluArr (V7 m ρ) c :=
    (W10_of m ρ c main_v31_3 (by decide)).trans ((W9_of m ρ c main_v31_3 (by decide)).trans ((W8_arr m ρ c 8).trans (glu_arr (V7 m ρ) c)))
  unfold V11 W11
  after_reads_at
  refine (congrFun e _).trans ?_
  change projAt (V7 m ρ) c 1536 _ i j * logi (projAt (V7 m ρ) c 2048 _ i j) = _
  rw [proj7_read, proj7_read]
  rfl

/-! ## The results -/

/-- The window of keys returned. -/
theorem nk_final : W13 m ρ c (Proc.devRef .tc main_v46) = newRowS (m (c.tc.loc main_arg0)) (m (c.tc.loc main_arg5)) (m (c.tc.loc main_arg7)) (m (c.tc.loc main_arg8)) (m (c.tc.loc main_arg9)) (m (c.tc.loc main_arg10)) (m (c.tc.loc main_arg1)) 512 (by omega) := by
  have e : W12 m ρ c (Proc.devRef .tc main_v38_1) = nkArr (V9 m ρ) c :=
    (W12_of m ρ c main_v38_1 (by decide)).trans ((W11_of m ρ c main_v38_1 (by decide)).trans ((W10_arr m ρ c 9).trans (nk_arr (V9 m ρ) c)))
  funext i
  idx_vars i
  unfold W13
  after_reads_at
  refine (congrFun e _).trans ?_
  change shiftE _ _ i0 i1 (hd i2 i3) = newRowE (m (c.tc.loc main_arg0)) (m (c.tc.loc main_arg5)) (m (c.tc.loc main_arg7)) (m (c.tc.loc main_arg8)) (m (c.tc.loc main_arg9)) (m (c.tc.loc main_arg10)) (m (c.tc.loc main_arg1)) 512 _ i0 i1 i2 i3
  unfold shiftE newRowE
  split
  · exact ck_old m ρ c i0 _ i2 i3
  · exact kn_new m ρ c i0 (hd i2 i3)

/-- The window of values returned. -/
theorem nv_final : W13 m ρ c (Proc.devRef .tc main_v47) = newRowS (m (c.tc.loc main_arg0)) (m (c.tc.loc main_arg5)) (m (c.tc.loc main_arg7)) (m (c.tc.loc main_arg8)) (m (c.tc.loc main_arg9)) (m (c.tc.loc main_arg10)) (m (c.tc.loc main_arg2)) 1024 (by omega) := by
  have e : W12 m ρ c (Proc.devRef .tc main_v38_2) = nvArr (V9 m ρ) c :=
    (W12_of m ρ c main_v38_2 (by decide)).trans ((W11_of m ρ c main_v38_2 (by decide)).trans ((W10_arr m ρ c 10).trans (nv_arr (V9 m ρ) c)))
  funext i
  idx_vars i
  unfold W13
  after_reads_at
  refine (congrFun e _).trans ?_
  change shiftE _ _ i0 i1 (hd i2 i3) = newRowE (m (c.tc.loc main_arg0)) (m (c.tc.loc main_arg5)) (m (c.tc.loc main_arg7)) (m (c.tc.loc main_arg8)) (m (c.tc.loc main_arg9)) (m (c.tc.loc main_arg10)) (m (c.tc.loc main_arg2)) 1024 _ i0 i1 i2 i3
  unfold shiftE newRowE
  split
  · exact cv_old m ρ c i0 _ i2 i3
  · exact vn_new m ρ c i0 (hd i2 i3)

/-- The convolution's state returned. -/
theorem ns_final : W13 m ρ c (Proc.devRef .tc main_v45) = newConvS (m (c.tc.loc main_arg0)) (m (c.tc.loc main_arg5)) (m (c.tc.loc main_arg7)) (m (c.tc.loc main_arg8)) (m (c.tc.loc main_arg9)) (m (c.tc.loc main_arg10)) (m (c.tc.loc main_arg3)) := by
  have e : W12 m ρ c (Proc.devRef .tc main_v44_1) = nsArr (V11 m ρ) c := (W12_arr m ρ c 7).trans (ns_arr (V11 m ρ) c)
  funext i
  idx_vars i
  unfold W13
  after_reads_at
  refine (congrFun e _).trans ?_
  change nsE (V11 m ρ) c i0 (sc i1 i2) = newConvE (m (c.tc.loc main_arg0)) (m (c.tc.loc main_arg5)) (m (c.tc.loc main_arg7)) (m (c.tc.loc main_arg8)) (m (c.tc.loc main_arg9)) (m (c.tc.loc main_arg10)) (m (c.tc.loc main_arg3)) i0 i1 i2
  unfold newConvE
  split
  · next h =>
    exact (nsE_lt (V11 m ρ) c i0 i0 (sc i1 i2) (sc ⟨i1.val + 1, by omega⟩ i2) (by show i1.val * 512 + i2.val < 14848; omega)
      (by show (i1.val + 1) * 512 + i2.val = 512 + (i1.val * 512 + i2.val); omega) rfl).symm.trans (st_old m ρ c i0 _ i2)
  · next h =>
    exact (nsE_ge (V11 m ρ) c i0 i0 (sc i1 i2) i2 (by show i1.val * 512 + i2.val = 14848 + i2.val; omega) rfl).symm.trans (glu_new m ρ c i0 i2)

end Cert.Sample
-- ==== Proof.StepRef.lean ====
/-
  The decoding step as the reference computes it, by elements: the same scalars as the kernel's.
-/
module

public import proofs.«01_k».proof.Proof.LayerMath
public import proofs.«01_k».proof.Proof.Gen.Reference3Ideal.Run

@[expose] public section

set_option maxRecDepth 16384

noncomputable section

namespace Cert.Sample.Ref

open Cert.Reference3Ideal Cert.Reference3Ideal.Gen Cert.Reference3Ideal.Value
open Cert.Layer
open Idealize.ShloMosaic Idealize.ShloMosaic.TcCoe

variable (m : (ℓ : Loc nD τ sig) → Buf (Elt Ideal) ℓ) (ρ : Dev nD → PrngReg)

set_option maxHeartbeats 1000000 in
/-- The reference's run: its three results are the decoding step's arrays, and its arguments are unchanged. -/
theorem run : θ_run (defs (F := Ideal)) (onTc (τ := τ) (main (F := Ideal))) ⟨m, fun _ => 0, ρ⟩ fun r => ∀ c : Dev nD,
      r.2.mem ((c.tc : Thread nD τ).loc main_v38) = newRowS (m (c.tc.loc main_arg0)) (m (c.tc.loc main_arg5)) (m (c.tc.loc main_arg7)) (m (c.tc.loc main_arg8)) (m (c.tc.loc main_arg9)) (m (c.tc.loc main_arg10)) (m (c.tc.loc main_arg1)) 512 (by omega)
      ∧ r.2.mem ((c.tc : Thread nD τ).loc main_v40) = newRowS (m (c.tc.loc main_arg0)) (m (c.tc.loc main_arg5)) (m (c.tc.loc main_arg7)) (m (c.tc.loc main_arg8)) (m (c.tc.loc main_arg9)) (m (c.tc.loc main_arg10)) (m (c.tc.loc main_arg2)) 1024 (by omega)
      ∧ r.2.mem ((c.tc : Thread nD τ).loc main_v49) = newConvS (m (c.tc.loc main_arg0)) (m (c.tc.loc main_arg5)) (m (c.tc.loc main_arg7)) (m (c.tc.loc main_arg8)) (m (c.tc.loc main_arg9)) (m (c.tc.loc main_arg10)) (m (c.tc.loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (Value.run (F := Ideal) m ρ).mono fun r h c => ?_
  obtain ⟨h0, h1, h2, ha⟩ := h c
  refine ⟨h0.trans ?_, h1.trans ?_, h2.trans ?_, ha⟩
  · clear h h0 h1 h2 ha
    funext i
    idx_vars i
    pointwise
    change _ = newRowE (m (c.tc.loc main_arg0)) (m (c.tc.loc main_arg5)) (m (c.tc.loc main_arg7)) (m (c.tc.loc main_arg8)) (m (c.tc.loc main_arg9)) (m (c.tc.loc main_arg10)) (m (c.tc.loc main_arg1)) 512 _ i0 i1 i2 i3
    unfold newRowE
    by_cases hr : i1.val < 2047
    · rw [dif_pos hr, dif_pos (show 1 + i1.val < 2048 by omega)]
      exact congrArg (fun z => m (c.tc.loc main_arg1) (ix4 i0 z i2 i3 : S128x2048x8x64.Idx)) (Fin.ext (Nat.add_comm _ _))
    · rw [dif_neg hr, dif_neg (show ¬ 1 + i1.val < 2048 by omega)]
      rfl
  · clear h h0 h1 h2 ha
    funext i
    idx_vars i
    pointwise
    change _ = newRowE (m (c.tc.loc main_arg0)) (m (c.tc.loc main_arg5)) (m (c.tc.loc main_arg7)) (m (c.tc.loc main_arg8)) (m (c.tc.loc main_arg9)) (m (c.tc.loc main_arg10)) (m (c.tc.loc main_arg2)) 1024 _ i0 i1 i2 i3
    unfold newRowE
    by_cases hr : i1.val < 2047
    · rw [dif_pos hr, dif_pos (show 1 + i1.val < 2048 by omega)]
      exact congrArg (fun z => m (c.tc.loc main_arg2) (ix4 i0 z i2 i3 : S128x2048x8x64.Idx)) (Fin.ext (Nat.add_comm _ _))
    · rw [dif_neg hr, dif_neg (show ¬ 1 + i1.val < 2048 by omega)]
      rfl
  · clear h h0 h1 h2 ha
    funext i
    idx_vars i
    unfold res_main_v49
    pointwise
    change _ = newConvE (m (c.tc.loc main_arg0)) (m (c.tc.loc main_arg5)) (m (c.tc.loc main_arg7)) (m (c.tc.loc main_arg8)) (m (c.tc.loc main_arg9)) (m (c.tc.loc main_arg10)) (m (c.tc.loc main_arg3)) i0 i1 i2
    unfold newConvE
    by_cases hr : i1.val < 29
    · rw [dif_pos hr]
      refine (dif_pos (show 1 + i1.val < 30 by omega)).trans ?_
      exact congrArg (fun z => m (c.tc.loc main_arg3) (ix3 i0 z i2 : S128x30x512.Idx)) (Fin.ext (Nat.add_comm _ _))
    · have e : i1 = (29 : Fin 30) := Fin.ext (by have := i1.isLt; change i1.val = 29; omega)
      subst e
      rw [dif_neg hr]
      refine (dif_neg (show ¬ 1 + (29 : Fin 30).val < 30 by decide)).trans ?_
      have hz : ∀ h : 1 + (29 : Fin 30).val - 30 < 1, (⟨1 + (29 : Fin 30).val - 30, h⟩ : Fin 1) = 0 := fun _ => rfl
      simp only [hz]
      rfl

end Cert.Sample.Ref
-- ==== Proof.ExpertsPoint.lean ====
/-
  One block of 256 rows in the experts' kernel: its expert's weights are cast where the block before named another
  expert, and the block's rows go through the gated unit, or are zeros where the block is not in use.
-/
module

public import proofs.«01_k».proof.Proof.Gen.Kernel4Ideal
public import proofs.«01_k».proof.Proof.Gen.Kernel4Ideal.Skeleton
public import proofs.«01_k».proof.Proof.Gen.Kernel4Ideal.Launch
public import Idealize.ShloMosaic.Lib.Claim
public import Idealize.ShloMosaic.Lib.VecWindow

@[expose] public section

noncomputable section

namespace Cert.Experts

open Cert.Kernel4Ideal Cert.Kernel4Ideal.Gen
open Idealize.ShloMosaic Idealize.ShloMosaic.TcCoe Idealize.ShloMosaic.Tactic Idealize.ShloMosaic.Pipeline
open Idealize.SL Idealize.SL.RA
open Idealize.SL.BI (sProp bigSep bigSep_insert bigSep_empty bigSep_singleton)
open scoped Idealize.SL.BI
open Idealize.SL.BI.BIBase Idealize.SL.BI.Laws Idealize.SL.ProofMode Idealize.SL.Sem

variable {F : FTy → Type} [FloatOps F]

/-- The resources: the pipeline's algebra. -/
local notation "𝕄" => MT nD τ sig Unit (Elt F) ℕ (UR sig nD τ) ℕ

/-- The expert block `i` names, and the one the block before it names (block 0 is its own predecessor). -/
def named (be : S288.Idx → BitVec 32) (i : grid0.Coords) : BitVec 32 := be ((Rect.unit (s := S288) (k0_off1 i) S1.size (k0_off1_inb i)).point numel1_S1)
def namedBefore (be : S288.Idx → BitVec 32) (i : grid0.Coords) : BitVec 32 := be ((Rect.unit (s := S288) (k0_off2 i) S1.size (k0_off2_inb i)).point numel1_S1)
/-- How many blocks are in use. -/
def usedCount (nu : S1.Idx → BitVec 32) : BitVec 32 := nu ((Rect.unit (s := S1) ![0] S1.size inb_S1_S1_0).point numel1_S1)

/-- Whether the weights are cast anew at block `i`. -/
def refreshes (be : S288.Idx → BitVec 32) (i : grid0.Coords) : BitVec 1 :=
  Scalar.cmpi .ne (Scalar.extui (Scalar.ori (Scalar.cmpi .eq (BitVec.ofNat 32 (i 0).val) 0#32) (Scalar.cmpi .ne (named be i) (namedBefore be i)))) 0#32

/-- What a block's rows become. -/
def result (nu : S1.Idx → BitVec 32) (i : grid0.Coords) (x : Vec F S256x1024 .f32) (w1 w3 : Vec F S1x1024x512 .f32) (w2 : Vec F S1x512x1024 .f32) : Vec F S256x1024 .f32 :=
  if k0_cond2 i (usedCount nu) = 1#1 then k0_pay4 x (k0_pay1 w1) (k0_pay2 w3) (k0_pay3 w2) else k0_pay5

/-- The two tables, at a share. -/
def tables (c : Dev nD) (q : PosShare TreeShare) (be : S288.Idx → BitVec 32) (nu : S1.Idx → BitVec 32) : sProp 𝕄 :=
  iprop(((Memref.whole main_arg1 : Memref sig .tc .smem S288 .i32).view.loc (c : Thread nD τ) ↦{q} be)
    ∗ ((Memref.whole main_arg2 : Memref sig .tc .smem S1 .i32).view.loc (c : Thread nD τ) ↦{q} nu))

/-- The three cast weights. -/
def casts (c : Dev nD) (b1 b3 : S1024x512.Idx → Elt F .bf16) (b2 : S512x1024.Idx → Elt F .bf16) : sProp 𝕄 :=
  iprop(owns (c : Thread nD τ) (Memref.whole cc0_scratch0 : Memref sig .tc .vmem S1024x512 .bf16) fullShare b1
    ∗ owns (c : Thread nD τ) (Memref.whole cc0_scratch1 : Memref sig .tc .vmem S1024x512 .bf16) fullShare b3
    ∗ owns (c : Thread nD τ) (Memref.whole cc0_scratch2 : Memref sig .tc .vmem S512x1024 .bf16) fullShare b2)

/-- A block is in use or it is not. -/
theorem cond_cases (i : grid0.Coords) (n : BitVec 32) : (k0_cond2 i n = 1#1 ∧ ¬ k0_cond3 i n = 1#1) ∨ (¬ k0_cond2 i n = 1#1 ∧ k0_cond3 i n = 1#1) := by
  unfold k0_cond2 k0_cond3
  dsimp only
  generalize BitVec.ofNat 32 (i 0).val = a
  have h : Scalar.cmpi .sge a n = ~~~ Scalar.cmpi .slt a n := by
    have e : (BitVec.sle n a) = !(BitVec.slt a n) := by
      rw [Bool.eq_iff_iff, Bool.not_eq_true', Bool.eq_false_iff]
      simp only [ne_eq, BitVec.sle_iff_toInt_le, BitVec.slt_iff_toInt_lt, not_lt]
    show BitVec.ofBool (BitVec.sle n a) = ~~~ BitVec.ofBool (BitVec.slt a n)
    rw [e]
    cases BitVec.slt a n <;> rfl
  rw [h]
  generalize Scalar.cmpi .slt a n = b
  revert b
  decide

theorem pay4_congr (x : Vec F S256x1024 .f32) {a a' b b' : Vec F S1024x512 .bf16} {d d' : Vec F S512x1024 .bf16} (ha : a = a') (hb : b = b') (hd : d = d') :
    k0_pay4 x a b d = k0_pay4 x a' b' d' := by subst ha hb hd; rfl

set_option maxHeartbeats 1000000 in
/-- One grid point: from the tables, the cast weights of the block before (or, where they are cast anew, anything), the
    block's rows and its expert's weights, to the block's result, the cast weights now those of the block's expert. -/
theorem point (c : Dev nD) (i : grid0.Coords) (arg3 : Memref sig .tc .vmem S256x1024 .f32) (harg3 : arg3.IsWhole) (arg4 : Memref sig .tc .vmem S1x1024x512 .f32) (harg4 : arg4.IsWhole)
    (arg5 : Memref sig .tc .vmem S1x1024x512 .f32) (harg5 : arg5.IsWhole) (arg6 : Memref sig .tc .vmem S1x512x1024 .f32) (harg6 : arg6.IsWhole)
    (arg7 : Memref sig .tc .vmem S256x1024 .f32) (harg7 : arg7.IsWhole) (q : PosShare TreeShare)
    (be : S288.Idx → BitVec 32) (nu : S1.Idx → BitVec 32) (b1 b3 : S1024x512.Idx → Elt F .bf16) (b2 : S512x1024.Idx → Elt F .bf16)
    (x : Vec F S256x1024 .f32) (w1 w3 : Vec F S1x1024x512 .f32) (w2 : Vec F S1x512x1024 .f32)
    (hkeep : refreshes be i ≠ 1#1 → b1 = k0_pay1 w1 ∧ b3 = k0_pay2 w3 ∧ b2 = k0_pay3 w2) :
    iprop(tables c q be nu ∗ casts c b1 b3 b2 ∗ owns (Ix := Unit) (Name := ℕ) (U := UR sig nD τ) (Lvl := ℕ) (c : Thread nD τ) arg3 fullShare x
        ∗ owns (c : Thread nD τ) arg4 fullShare w1 ∗ owns (c : Thread nD τ) arg5 fullShare w3 ∗ owns (c : Thread nD τ) arg6 fullShare w2 ∗ (∃ d, owns (c : Thread nD τ) arg7 fullShare d))
      ⊢ wp frame (wpE (defs₀ (F := F)) Variants.none (c : Thread nD τ) none) Set.univ
          (cc0_expert_mlp (F := F) i (Memref.whole main_arg1) (Memref.isWhole_whole _) (Memref.whole main_arg2) (Memref.isWhole_whole _) arg3 harg3 arg4 harg4 arg5 harg5 arg6 harg6 arg7 harg7
            (Memref.whole cc0_scratch0) (Memref.isWhole_whole _) (Memref.whole cc0_scratch1) (Memref.isWhole_whole _) (Memref.whole cc0_scratch2) (Memref.isWhole_whole _))
          (fun _ => iprop(tables c q be nu ∗ casts c (k0_pay1 w1) (k0_pay2 w3) (k0_pay3 w2) ∗ owns (c : Thread nD τ) arg3 fullShare x
            ∗ owns (c : Thread nD τ) arg4 fullShare w1 ∗ owns (c : Thread nD τ) arg5 fullShare w3 ∗ owns (c : Thread nD τ) arg6 fullShare w2 ∗ owns (c : Thread nD τ) arg7 fullShare (result nu i x w1 w3 w2))) := by
  simp only [cc0_expert_mlp_eq_skeleton]; unfold cc0_expert_mlp_skel
  unfold tables casts owns
  iintro ⟨⟨HT, HN⟩, ⟨⟨%f8, %hf8, H8⟩, ⟨%f9, %hf9, H9⟩, ⟨%f10, %hf10, H10⟩⟩, ⟨%f3, %hf3, H3⟩, ⟨%f4, %hf4, H4⟩, ⟨%f5, %hf5, H5⟩, ⟨%f6, %hf6, H6⟩, ⟨%d7, %f7, -, H7⟩⟩
  obtain rfl := harg3.eq_unread hf3; obtain rfl := harg4.eq_unread hf4; obtain rfl := harg5.eq_unread hf5; obtain rfl := harg6.eq_unread hf6
  rcases cond_cases i (usedCount nu) with ⟨h2, h3⟩ | ⟨h2, h3⟩ <;> by_cases h1 : refreshes be i = 1#1
  on_goal 2 => obtain ⟨rfl, rfl, rfl⟩ := hkeep h1
  on_goal 4 => obtain ⟨rfl, rfl, rfl⟩ := hkeep h1
  all_goals
    sl_exec
    sl_step
    isplitl [HT HN]
    · isplitl [HT] <;> iassumption
    isplitl [H8 H9 H10]
    · isplitl [H8]
      · iexists _
        isplitr
        swap
        · iexact H8
        ipureintro
        first | exact (View.read_writes_full (s := S1024x512) (e := .bf16) _ _ _ _ _).trans (by rw [View.readAt_full, hf4]) | exact hf8
      isplitl [H9]
      · iexists _
        isplitr
        swap
        · iexact H9
        ipureintro
        first | exact (View.read_writes_full (s := S1024x512) (e := .bf16) _ _ _ _ _).trans (by rw [View.readAt_full, hf5]) | exact hf9
      iexists _
      isplitr
      swap
      · iexact H10
      ipureintro
      first | exact (View.read_writes_full (s := S512x1024) (e := .bf16) _ _ _ _ _).trans (by rw [View.readAt_full, hf6]) | exact hf10
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    iexists _; isplitr; swap; · iexact H7
    ipureintro
    unfold result
    first
      | (rw [if_neg h2]; exact View.read_writes_full _ _ _ _ _)
      | (rw [if_pos h2]
         refine (View.read_writes_full _ _ _ _ _).trans ?_
         rw [View.readAt_full, hf3]
         first
           | rw [show View.readAt (Elt F) (Memref.whole cc0_scratch0).view (Rect.unit ![0, 0] S1024x512.size inb_S1024x512_S1024x512_0_0).toLoadRect f8 = k0_pay1 w1 from
                (View.readAt_full (s := S1024x512) (e := .bf16) _ _ _).trans hf8,
              show View.readAt (Elt F) (Memref.whole cc0_scratch1).view (Rect.unit ![0, 0] S1024x512.size inb_S1024x512_S1024x512_0_0).toLoadRect f9 = k0_pay2 w3 from
                (View.readAt_full (s := S1024x512) (e := .bf16) _ _ _).trans hf9,
              show View.readAt (Elt F) (Memref.whole cc0_scratch2).view (Rect.unit ![0, 0] S512x1024.size inb_S512x1024_S512x1024_0_0).toLoadRect f10 = k0_pay3 w2 from
                (View.readAt_full (s := S512x1024) (e := .bf16) _ _ _).trans hf10]
           | (sl_unfold_words
              exact pay4_congr x
                ((View.readCov_full (s := S1024x512) (e := .bf16) _ _ _ _ _).trans (by rw [View.readAt_full, hf4]))
                ((View.readCov_full (s := S1024x512) (e := .bf16) _ _ _ _ _).trans (by rw [View.readAt_full, hf5]))
                ((View.readCov_full (s := S512x1024) (e := .bf16) _ _ _ _ _).trans (by rw [View.readAt_full, hf6]))))

end Cert.Experts

end
-- ==== Proof.Experts.lean ====
/-
  The experts' kernel: the launch, its 288 blocks of rows, and what the memory holds at the end.
-/
module

public import proofs.«01_k».proof.Proof.ExpertsPoint
public import Idealize.ShloMosaic.Lib.Pipeline.ReadBack
public import Idealize.ShloMosaic.Lib.Pipeline.ValueKit.Geometry

@[expose] public section

noncomputable section

namespace Cert.Experts

open Cert.Kernel4Ideal Cert.Kernel4Ideal.Gen
open Idealize.ShloMosaic Idealize.ShloMosaic.TcCoe Idealize.ShloMosaic.Tactic Idealize.ShloMosaic.Pipeline
open Idealize.SL Idealize.SL.RA
open Idealize.SL.BI (sProp bigSep bigSep_insert bigSep_empty bigSep_singleton)
open scoped Idealize.SL.BI
open Idealize.SL.BI.BIBase Idealize.SL.BI.Laws Idealize.SL.ProofMode Idealize.SL.Sem

variable {F : FTy → Type} [FloatOps F]

/-- The resources: the pipeline's algebra. -/
local notation "𝕄" => MT nD τ sig Unit (Elt F) ℕ (UR sig nD τ) ℕ

variable (m : (ℓ : Loc nD τ sig) → Buf (Elt F) ℓ)

/-- The arguments as launched: rows, the expert each block names, the count of blocks in use, the experts' weights. -/
abbrev rows (c : Dev nD) : S73728x1024.Idx → Elt F .f32 := m ((c : Thread nD τ).loc main_arg0)
abbrev experts (c : Dev nD) : S288.Idx → BitVec 32 := m ((c : Thread nD τ).loc main_arg1)
abbrev inUse (c : Dev nD) : S1.Idx → BitVec 32 := m ((c : Thread nD τ).loc main_arg2)
abbrev up (c : Dev nD) : S32x1024x512.Idx → Elt F .f32 := m ((c : Thread nD τ).loc main_arg3)
abbrev gate (c : Dev nD) : S32x1024x512.Idx → Elt F .f32 := m ((c : Thread nD τ).loc main_arg4)
abbrev down (c : Dev nD) : S32x512x1024.Idx → Elt F .f32 := m ((c : Thread nD τ).loc main_arg5)

/-- Every block names one of the 32 experts. -/
def Named (be : S288.Idx → BitVec 32) : Prop := ∀ k, (be k).toNat < 32

/-- The grid's one coordinate is the point's number. -/
theorem coords0 (t : Fin grid0.N) : (grid0.coords t 0).val = t.val := by
  have ht : t.val < 288 := t.isLt
  rw [Pipeline.Grid.coords_val t 0 (S := 1) (B := 288) (by decide) (by decide)]; omega

theorem coord_lt (i : grid0.Coords) : (i 0).val < 288 := (i 0).isLt

/-- The tables' contents are admissible: every block's expert lies inside the arrays of weights. -/
theorem admissible (hN : Named (experts m 0)) : ok0 (F := F) (fun j => m (((0 : Dev nD) : Thread nD τ).loc (pre0.ref j))) := by
  refine ⟨fun i => ⟨fun a => ?_, .inl rfl⟩, fun i => ⟨fun a => ?_, .inl rfl⟩, fun i => ⟨fun a => ?_, .inl rfl⟩⟩ <;>
  · have h := hN ((Rect.unit (s := S288) (k0_off1 i) S1.size (k0_off1_inb i)).point numel1_S1)
    match a with
    | ⟨0, _⟩ => exact (show ((experts m 0 ((Rect.unit (s := S288) (k0_off1 i) S1.size (k0_off1_inb i)).point numel1_S1)).toNat + 1) * 1 ≤ 32 by omega)
    | ⟨1, _⟩ => exact Nat.le_of_eq rfl
    | ⟨2, _⟩ => exact Nat.le_of_eq rfl

/-- The two tables' contents, as the call takes them. -/
abbrev adm (hN : Named (experts m 0)) : (p : Fin 1) → (pcfgs (F := F) p).Adm := fun _ => ⟨fun j => m (((0 : Dev nD) : Thread nD τ).loc (pre0.ref j)), admissible m hN⟩
abbrev cfgM (hN : Named (experts m 0)) : Pipeline.Cfg sig Λ₀ := cfg0 (adm m hN 0)

variable (hN : Named (experts m 0))

/-- The blocks point `t` works on. -/
def rowsAt (c : Dev nD) (t : Fin (cfgM m hN).N) : Vec F S256x1024 .f32 := (((cfgM m hN).win 0).blk t).view.read (Elt F) (rows m c)
def upAt (c : Dev nD) (t : Fin (cfgM m hN).N) : Vec F S1x1024x512 .f32 := (((cfgM m hN).win 1).blk t).view.read (Elt F) (up m c)
def gateAt (c : Dev nD) (t : Fin (cfgM m hN).N) : Vec F S1x1024x512 .f32 := (((cfgM m hN).win 2).blk t).view.read (Elt F) (gate m c)
def downAt (c : Dev nD) (t : Fin (cfgM m hN).N) : Vec F S1x512x1024 .f32 := (((cfgM m hN).win 3).blk t).view.read (Elt F) (down m c)
/-- What it leaves. -/
def leftAt (c : Dev nD) (t : Fin (cfgM m hN).N) : Vec F S256x1024 .f32 :=
  result (inUse m c) (grid0.coords t) (rowsAt m hN c t) (upAt m hN c t) (gateAt m hN c t) (downAt m hN c t)

theorem named_lt {be : S288.Idx → BitVec 32} (h : Named be) (i : grid0.Coords) : (named be i).toNat < 32 := h _

theorem one_core (c : Dev nD) : c = 0 := Subsingleton.elim _ _

/-- The first block of weights at a point is that of the expert the point's block names. -/
theorem upAt_eq (c : Dev nD) (t : Fin (cfgM m hN).N) :
    upAt m hN c t = fun y => up m c (fun | ⟨0, _⟩ => ⟨(named (experts m 0) (grid0.coords t)).toNat, named_lt hN _⟩ | ⟨1, _⟩ => y 1 | ⟨2, _⟩ => y 2) := by
  funext y
  unfold upAt
  refine congrArg (up m c) (funext fun a => Fin.ext ?_)
  match a with
  | ⟨0, _⟩ =>
    show (named (experts m 0) (grid0.coords t)).toNat * 1 + 1 * (y 0).val = (named (experts m 0) (grid0.coords t)).toNat
    have : (y 0).val < 1 := (y 0).isLt
    omega
  | ⟨1, _⟩ => show 0 * 1024 + 1 * (y 1).val = (y 1).val; omega
  | ⟨2, _⟩ => show 0 * 512 + 1 * (y 2).val = (y 2).val; omega

/-- So is the second. -/
theorem gateAt_eq (c : Dev nD) (t : Fin (cfgM m hN).N) :
    gateAt m hN c t = fun y => gate m c (fun | ⟨0, _⟩ => ⟨(named (experts m 0) (grid0.coords t)).toNat, named_lt hN _⟩ | ⟨1, _⟩ => y 1 | ⟨2, _⟩ => y 2) := by
  funext y
  unfold gateAt
  refine congrArg (gate m c) (funext fun a => Fin.ext ?_)
  match a with
  | ⟨0, _⟩ =>
    show (named (experts m 0) (grid0.coords t)).toNat * 1 + 1 * (y 0).val = (named (experts m 0) (grid0.coords t)).toNat
    have : (y 0).val < 1 := (y 0).isLt
    omega
  | ⟨1, _⟩ => show 0 * 1024 + 1 * (y 1).val = (y 1).val; omega
  | ⟨2, _⟩ => show 0 * 512 + 1 * (y 2).val = (y 2).val; omega

/-- And the third. -/
theorem downAt_eq (c : Dev nD) (t : Fin (cfgM m hN).N) :
    downAt m hN c t = fun y => down m c (fun | ⟨0, _⟩ => ⟨(named (experts m 0) (grid0.coords t)).toNat, named_lt hN _⟩ | ⟨1, _⟩ => y 1 | ⟨2, _⟩ => y 2) := by
  funext y
  unfold downAt
  refine congrArg (down m c) (funext fun a => Fin.ext ?_)
  match a with
  | ⟨0, _⟩ =>
    show (named (experts m 0) (grid0.coords t)).toNat * 1 + 1 * (y 0).val = (named (experts m 0) (grid0.coords t)).toNat
    have : (y 0).val < 1 := (y 0).isLt
    omega
  | ⟨1, _⟩ => show 0 * 512 + 1 * (y 1).val = (y 1).val; omega
  | ⟨2, _⟩ => show 0 * 1024 + 1 * (y 2).val = (y 2).val; omega

/-- The rows at a point are the point's 256. -/
theorem rowsAt_eq (c : Dev nD) (t : Fin (cfgM m hN).N) :
    rowsAt m hN c t = fun y => rows m c (fun | ⟨0, _⟩ => ⟨t.val * 256 + (y 0).val, by have : t.val < 288 := t.isLt; have : (y 0).val < 256 := (y 0).isLt; show _ < 73728; omega⟩ | ⟨1, _⟩ => y 1) := by
  funext y
  unfold rowsAt
  refine congrArg (rows m c) (funext fun a => Fin.ext ?_)
  have ht : t.val < 288 := t.isLt
  match a with
  | ⟨0, _⟩ =>
    show ((BitVec.ofNat 32 (grid0.coords t 0).val).toNat) * 256 + 1 * (y 0).val = t.val * 256 + (y 0).val
    rw [coords0, BitVec.toNat_ofNat]; omega
  | ⟨1, _⟩ => show 0 * 1024 + 1 * (y 1).val = (y 1).val; omega

/-- Block `n`'s place in the table. -/
def at288 (n : ℕ) (h : n < 288) : S288.Idx := fun | ⟨0, _⟩ => ⟨n, h⟩

theorem named_at (be : S288.Idx → BitVec 32) (t : Fin grid0.N) (h : t.val < 288) : named be (grid0.coords t) = be (at288 t.val h) := by
  unfold named
  refine congrArg be (funext fun a => Fin.ext ?_)
  match a with
  | ⟨0, _⟩ =>
    show ((BitVec.ofNat 32 (grid0.coords t 0).val).toNat) + 1 * 0 = t.val
    rw [coords0, BitVec.toNat_ofNat]; omega

theorem namedBefore_at (be : S288.Idx → BitVec 32) (t : Fin grid0.N) (h0 : t.val ≠ 0) (h : t.val - 1 < 288) :
    namedBefore be (grid0.coords t) = be (at288 (t.val - 1) h) := by
  have ht : t.val < 288 := t.isLt
  unfold namedBefore
  refine congrArg be (funext fun a => Fin.ext ?_)
  match a with
  | ⟨0, _⟩ =>
    show ((Scalar.maxsi (Scalar.subi (BitVec.ofNat 32 (grid0.coords t 0).val) 1#32) 0#32).toNat) + 1 * 0 = t.val - 1
    rw [coords0]
    have e : Scalar.subi (BitVec.ofNat 32 t.val) 1#32 = BitVec.ofNat 32 (t.val - 1) := by
      show BitVec.ofNat 32 t.val - 1#32 = _
      refine BitVec.eq_of_toNat_eq ?_
      rw [BitVec.toNat_sub, BitVec.toNat_ofNat, BitVec.toNat_ofNat, BitVec.toNat_ofNat]
      omega
    rw [e]
    generalize t.val - 1 = k at h
    show (if BitVec.slt 0#32 (BitVec.ofNat 32 k) then BitVec.ofNat 32 k else 0#32).toNat + 1 * 0 = k
    split
    · rw [BitVec.toNat_ofNat]; omega
    · rename_i hk
      have hz : (0#32).toInt = 0 := rfl
      rw [BitVec.slt_iff_toInt_lt, hz, show (BitVec.ofNat 32 k).toInt = (k : ℤ) from (BitVec.toInt_eq_toNat_of_lt (by rw [BitVec.toNat_ofNat]; omega)).trans (by rw [BitVec.toNat_ofNat]; omega)] at hk
      show 0 + 1 * 0 = k
      omega

/-- Where the weights are not cast anew, the point before worked with the same expert. -/
theorem keeps (be : S288.Idx → BitVec 32) (t : Fin grid0.N) (h : refreshes be (grid0.coords t) ≠ 1#1) :
    t.val ≠ 0 ∧ named be (grid0.coords t) = namedBefore be (grid0.coords t) := by
  unfold refreshes at h
  rw [coords0] at h
  have ht : t.val < 288 := t.isLt
  generalize named be (grid0.coords t) = a at h ⊢
  generalize namedBefore be (grid0.coords t) = b at h ⊢
  refine ⟨fun h0 => h ?_, Decidable.by_contra fun hab => h ?_⟩
  · rw [h0]
    have : ∀ x : BitVec 1, Scalar.cmpi .ne (Scalar.extui (Scalar.ori (Scalar.cmpi .eq (BitVec.ofNat 32 0) 0#32) x)) 0#32 = 1#1 := by decide
    exact this _
  · have e : Scalar.cmpi .ne a b = 1#1 := by
      show BitVec.ofBool (a != b) = 1#1
      rw [bne_iff_ne.mpr hab]; rfl
    rw [e]
    have : ∀ x : BitVec 1, Scalar.cmpi .ne (Scalar.extui (Scalar.ori x 1#1)) 0#32 = 1#1 := by decide
    exact this _

/-! ### The grid -/

/-- What the casts hold once `p` points have run: the last of them's weights. -/
def Cast (c : Dev nD) (p : ℕ) (b1 b3 : S1024x512.Idx → Elt F .bf16) (b2 : S512x1024.Idx → Elt F .bf16) : Prop :=
  ∀ t : Fin (cfgM m hN).N, t.val + 1 = p → b1 = k0_pay1 (upAt m hN c t) ∧ b3 = k0_pay2 (gateAt m hN c t) ∧ b2 = k0_pay3 (downAt m hN c t)

/-- What is held after `p` points: the tables, the casts of the last point's weights, the generator's state. -/
def held (c : Dev nD) (p : ℕ) : sProp 𝕄 :=
  iprop(tables c fullShare.right (experts m c) (inUse m c)
    ∗ (∃ b1 b3 b2, ⌜Cast m hN c p b1 b3 b2⌝ ∗ casts c b1 b3 b2) ∗ ∃ r, prngReg c r)

def dats (_ : Fin 1) (c : Dev nD) : Dat τ (Elt F) Unit ℕ (UR sig nD τ) ℕ (cfgM m hN) c where
  A := fun w => m ((c : Thread nD τ).loc (arrRef spec0 w))
  after := fun | 0, t => rowsAt m hN c t | 1, t => upAt m hN c t | 2, t => gateAt m hN c t | 3, t => downAt m hN c t | 4, t => leftAt m hN c t | ⟨_ + 5, h⟩, _ => absurd h (Nat.not_lt.2 (Nat.le_add_left _ _))
  Φ := fun t => held m hN c t.val
  q := fun _ => fullShare
  owed := fun _ => 0

theorem before0 (c : Dev nD) (t : Fin (cfgM m hN).N) (d) : (dats m hN 0 c).before 0 t d = rowsAt m hN c t :=
  ((dats m hN 0 c).before_in_eq_fetched 0 rfl (fun _ => rfl) (fun _ _ _ => rfl) (fun t => rfl) t d).trans rfl
theorem before1 (c : Dev nD) (t : Fin (cfgM m hN).N) (d) : (dats m hN 0 c).before 1 t d = upAt m hN c t :=
  ((dats m hN 0 c).before_in_eq_fetched 1 rfl (fun _ => rfl) (fun _ _ _ => rfl) (fun t => rfl) t d).trans rfl
theorem before2 (c : Dev nD) (t : Fin (cfgM m hN).N) (d) : (dats m hN 0 c).before 2 t d = gateAt m hN c t :=
  ((dats m hN 0 c).before_in_eq_fetched 2 rfl (fun _ => rfl) (fun _ _ _ => rfl) (fun t => rfl) t d).trans rfl
theorem before3 (c : Dev nD) (t : Fin (cfgM m hN).N) (d) : (dats m hN 0 c).before 3 t d = downAt m hN c t :=
  ((dats m hN 0 c).before_in_eq_fetched 3 rfl (fun _ => rfl) (fun _ _ _ => rfl) (fun t => rfl) t d).trans rfl

/-- The casts in place are those of the point's weights wherever the point does not cast anew. -/
theorem cast_kept (c : Dev nD) (t : Fin (cfgM m hN).N) (b1 b3 : S1024x512.Idx → Elt F .bf16) (b2 : S512x1024.Idx → Elt F .bf16)
    (hC : Cast m hN c t.val b1 b3 b2) (h : refreshes (experts m c) (grid0.coords t) ≠ 1#1) :
    b1 = k0_pay1 (upAt m hN c t) ∧ b3 = k0_pay2 (gateAt m hN c t) ∧ b2 = k0_pay3 (downAt m hN c t) := by
  obtain rfl := one_core c
  have ht : t.val < 288 := t.isLt
  obtain ⟨h0, hsame⟩ := keeps (experts m 0) t h
  have hb := namedBefore_at (experts m 0) t h0 (by omega)
  have ha := named_at (experts m 0) (⟨t.val - 1, by show _ < 288; omega⟩ : Fin grid0.N) (by show t.val - 1 < 288; omega)
  have hn : named (experts m 0) (grid0.coords t) = named (experts m 0) (grid0.coords (⟨t.val - 1, by show _ < 288; omega⟩ : Fin grid0.N)) := hsame.trans (hb.trans ha.symm)
  obtain ⟨e1, e3, e2⟩ := hC ⟨t.val - 1, by show _ < 288; omega⟩ (by show t.val - 1 + 1 = t.val; omega)
  refine ⟨e1.trans (congrArg k0_pay1 ?_), e3.trans (congrArg k0_pay2 ?_), e2.trans (congrArg k0_pay3 ?_)⟩
  · rw [upAt_eq, upAt_eq]; simp only [hn]
  · rw [gateAt_eq, gateAt_eq]; simp only [hn]
  · rw [downAt_eq, downAt_eq]; simp only [hn]

theorem phi_before (c : Dev nD) (t : Fin (cfgM m hN).N) : (dats m hN 0 c).Φ t.castSucc = held m hN c t.val := by
  dsimp only [dats]; rfl
theorem phi_after (c : Dev nD) (t : Fin (cfgM m hN).N) : (dats m hN 0 c).Φ t.succ = held m hN c (t.val + 1) := by
  dsimp only [dats]; rfl

/-- A grid point in the form the pipeline asks it. -/
theorem body_held (c : Dev nD) (t : Fin (cfgM m hN).N)
    (arg3 : Memref sig .tc .vmem S256x1024 .f32) (harg3 : arg3.IsWhole) (arg4 : Memref sig .tc .vmem S1x1024x512 .f32) (harg4 : arg4.IsWhole)
    (arg5 : Memref sig .tc .vmem S1x1024x512 .f32) (harg5 : arg5.IsWhole) (arg6 : Memref sig .tc .vmem S1x512x1024 .f32) (harg6 : arg6.IsWhole)
    (arg7 : Memref sig .tc .vmem S256x1024 .f32) (harg7 : arg7.IsWhole) (R : sProp 𝕄) :
    iprop(held m hN c t.val ∗ R ∗ owns (Ix := Unit) (Name := ℕ) (U := UR sig nD τ) (Lvl := ℕ) (c : Thread nD τ) arg3 fullShare (rowsAt m hN c t)
        ∗ owns (c : Thread nD τ) arg4 fullShare (upAt m hN c t) ∗ owns (c : Thread nD τ) arg5 fullShare (gateAt m hN c t) ∗ owns (c : Thread nD τ) arg6 fullShare (downAt m hN c t)
        ∗ (∃ d, owns (c : Thread nD τ) arg7 fullShare d))
      ⊢ wp frame (wpE (defs₀ (F := F)) Variants.none (c : Thread nD τ) none) Set.univ
          (cc0_expert_mlp (F := F) (grid0.coords t) (Memref.whole main_arg1) (Memref.isWhole_whole _) (Memref.whole main_arg2) (Memref.isWhole_whole _) arg3 harg3 arg4 harg4 arg5 harg5 arg6 harg6 arg7 harg7
            (Memref.whole cc0_scratch0) (Memref.isWhole_whole _) (Memref.whole cc0_scratch1) (Memref.isWhole_whole _) (Memref.whole cc0_scratch2) (Memref.isWhole_whole _))
          (fun _ => iprop(held m hN c (t.val + 1) ∗ R ∗ owns (c : Thread nD τ) arg3 fullShare (rowsAt m hN c t)
            ∗ owns (c : Thread nD τ) arg4 fullShare (upAt m hN c t) ∗ owns (c : Thread nD τ) arg5 fullShare (gateAt m hN c t) ∗ owns (c : Thread nD τ) arg6 fullShare (downAt m hN c t)
            ∗ owns (c : Thread nD τ) arg7 fullShare (leftAt m hN c t))) := by
  unfold held
  iintro ⟨⟨HT, ⟨%b1, %b3, %b2, %hC, HC⟩, HG⟩, HR, H3, H4, H5, H6, H7⟩
  have h := point c (grid0.coords t) arg3 harg3 arg4 harg4 arg5 harg5 arg6 harg6 arg7 harg7 fullShare.right (experts m c) (inUse m c) b1 b3 b2
    (rowsAt m hN c t) (upAt m hN c t) (gateAt m hN c t) (downAt m hN c t) (cast_kept m hN c t b1 b3 b2 hC)
  iapply (wp_wand _ _ _) $$ [HT HC H3 H4 H5 H6 H7]
  · iapply h
    isplitl [HT]; · iexact HT
    isplitl [HC]; · iexact HC
    isplitl [H3]; · iexact H3
    isplitl [H4]; · iexact H4
    isplitl [H5]; · iexact H5
    isplitl [H6] <;> iassumption
  iintro %a ⟨HT, HC, H3, H4, H5, H6, H7⟩
  isplitl [HT HC HG]
  · isplitl [HT]; · iexact HT
    isplitl [HC]
    · iexists k0_pay1 (upAt m hN c t), k0_pay2 (gateAt m hN c t), k0_pay3 (downAt m hN c t)
      isplitr
      · ipureintro
        intro t' ht'
        obtain rfl : t' = t := Fin.ext (by omega)
        exact ⟨rfl, rfl, rfl⟩
      iexact HC
    iexact HG
  isplitl [HR]; · iexact HR
  isplitl [H3]; · iexact H3
  isplitl [H4]; · iexact H4
  isplitl [H5]; · iexact H5
  isplitl [H6]; · iexact H6
  iexact H7

/-- Every point writes its block of the result. -/
theorem writes4 (t : Fin (cfgM m hN).N) : (cfgM m hN).idle 4 (grid0.coords t) = false := by
  show (!(k0_cond2 (grid0.coords t) _ == 1#1) && !(k0_cond3 (grid0.coords t) _ == 1#1)) = false
  rcases cond_cases (grid0.coords t) (usedCount (inUse m 0)) with ⟨h2, h3⟩ | ⟨h2, h3⟩
  · rw [Bool.and_eq_false_iff]; left
    exact (by rw [show (k0_cond2 (grid0.coords t) (usedCount (inUse m 0)) == 1#1) = true from beq_iff_eq.mpr h2]; rfl : (!(k0_cond2 (grid0.coords t) (usedCount (inUse m 0)) == 1#1)) = false)
  · rw [Bool.and_eq_false_iff]; right
    exact (by rw [show (k0_cond3 (grid0.coords t) (usedCount (inUse m 0)) == 1#1) = true from beq_iff_eq.mpr h3]; rfl : (!(k0_cond3 (grid0.coords t) (usedCount (inUse m 0)) == 1#1)) = false)

theorem found0 (c : Dev nD) (t : Fin (cfgM m hN).N) (d) :
    (owns (Ix := Unit) (Name := ℕ) (U := UR sig nD τ) (Lvl := ℕ) (c : Thread nD τ) (((cfgM m hN).win 0).stage ((cfgM m hN).slots t 0)) fullShare ((dats m hN 0 c).before 0 t d) : sProp 𝕄)
      = owns (c : Thread nD τ) (((cfgM m hN).win 0).stage ((cfgM m hN).slots t 0)) fullShare (rowsAt m hN c t) := by rw [before0]
theorem found1 (c : Dev nD) (t : Fin (cfgM m hN).N) (d) :
    (owns (Ix := Unit) (Name := ℕ) (U := UR sig nD τ) (Lvl := ℕ) (c : Thread nD τ) (((cfgM m hN).win 1).stage ((cfgM m hN).slots t 1)) fullShare ((dats m hN 0 c).before 1 t d) : sProp 𝕄)
      = owns (c : Thread nD τ) (((cfgM m hN).win 1).stage ((cfgM m hN).slots t 1)) fullShare (upAt m hN c t) := by rw [before1]
theorem found2 (c : Dev nD) (t : Fin (cfgM m hN).N) (d) :
    (owns (Ix := Unit) (Name := ℕ) (U := UR sig nD τ) (Lvl := ℕ) (c : Thread nD τ) (((cfgM m hN).win 2).stage ((cfgM m hN).slots t 2)) fullShare ((dats m hN 0 c).before 2 t d) : sProp 𝕄)
      = owns (c : Thread nD τ) (((cfgM m hN).win 2).stage ((cfgM m hN).slots t 2)) fullShare (gateAt m hN c t) := by rw [before2]
theorem found3 (c : Dev nD) (t : Fin (cfgM m hN).N) (d) :
    (owns (Ix := Unit) (Name := ℕ) (U := UR sig nD τ) (Lvl := ℕ) (c : Thread nD τ) (((cfgM m hN).win 3).stage ((cfgM m hN).slots t 3)) fullShare ((dats m hN 0 c).before 3 t d) : sProp 𝕄)
      = owns (c : Thread nD τ) (((cfgM m hN).win 3).stage ((cfgM m hN).slots t 3)) fullShare (downAt m hN c t) := by rw [before3]

theorem wrote (c : Dev nD) (t : Fin (cfgM m hN).N) :
    (owns (Ix := Unit) (Name := ℕ) (U := UR sig nD τ) (Lvl := ℕ) (c : Thread nD τ) (((cfgM m hN).win 4).stage ((cfgM m hN).slots t 4)) fullShare (leftAt m hN c t) : sProp 𝕄)
      ⊢ (dats m hN 0 c).leaves 4 t := by
  have e : (cfgM m hN).idle 4 ((cfgM m hN).grid.coords t) = false := writes4 m hN t
  unfold Dat.leaves
  rw [e]
  exact .rfl

theorem body0 (c : Dev nD) : BodyObligationLoose (dats m hN 0 c) (defs₀ (F := F)) Variants.none () Set.univ := by
  intro t
  refine triple_restated (body_held m hN c t (((cfgM m hN).win 0).stage ((cfgM m hN).slots t 0)) (hstage0_0 (((cfgM m hN).slots t 0).cast nbuf0_0))
    (((cfgM m hN).win 1).stage ((cfgM m hN).slots t 1)) (hstage0_1 (((cfgM m hN).slots t 1).cast nbuf0_1)) (((cfgM m hN).win 2).stage ((cfgM m hN).slots t 2)) (hstage0_2 (((cfgM m hN).slots t 2).cast nbuf0_2))
    (((cfgM m hN).win 3).stage ((cfgM m hN).slots t 3)) (hstage0_3 (((cfgM m hN).slots t 3).cast nbuf0_3)) (((cfgM m hN).win 4).stage ((cfgM m hN).slots t 4)) (hstage0_4 (((cfgM m hN).slots t 4).cast nbuf0_4))
    ((dats m hN 0 c).owesAt () t.castSucc)) ?_ ?_ ?_
  · rfl
  · rw [bigSep_W0]
    iintro ⟨HH, HO, ⟨%d0, H0⟩, ⟨%d1, H1⟩, ⟨%d2, H2⟩, ⟨%d3, H3⟩, ⟨%d4, H4⟩⟩
    isplitl [HH]; · iapply (Entails.of_eq (phi_before m hN c t)) $$ HH
    isplitl [HO]; · iexact HO
    isplitl [H0]
    · ihave HY := (Entails.of_eq (found0 m hN c t d0)) $$ [H0]
      · iexact H0
      iexact HY
    isplitl [H1]
    · ihave HY := (Entails.of_eq (found1 m hN c t d1)) $$ [H1]
      · iexact H1
      iexact HY
    isplitl [H2]
    · ihave HY := (Entails.of_eq (found2 m hN c t d2)) $$ [H2]
      · iexact H2
      iexact HY
    isplitl [H3]
    · ihave HY := (Entails.of_eq (found3 m hN c t d3)) $$ [H3]
      · iexact H3
      iexact HY
    iexists _; iexact H4
  · intro a
    rw [bigSep_W0]
    iintro ⟨HH, HO, H0, H1, H2, H3, H4⟩
    isplitl [HH]; · iapply (Entails.of_eq (phi_after m hN c t).symm) $$ HH
    isplitl [HO]; · iexact HO
    isplitl [H0]; · iexact H0
    isplitl [H1]; · iexact H1
    isplitl [H2]; · iexact H2
    isplitl [H3]; · iexact H3
    ihave HY := (wrote m hN c t) $$ [H4]
    · iexact H4
    iexact HY

/-! ### The launch -/

theorem tables_eq (c : Dev nD) : (Pipeline.ΦT pre0 (adm m hN 0).1 c : sProp 𝕄) = tables c fullShare.right (experts m c) (inUse m c) := by
  obtain rfl := one_core c
  unfold Pipeline.ΦT Pipeline.prefHeld
  rw [show (Finset.univ : Finset (Fin 2)) = insert (0 : Fin 2) {(1 : Fin 2)} from by decide, bigSep_insert (by decide), bigSep_singleton]
  rfl

theorem casts_intro (c : Dev nD) (f1 f3 : S1024x512.Idx → Elt F .bf16) (f2 : S512x1024.Idx → Elt F .bf16) :
    iprop(((c : Thread nD τ).loc cc0_scratch0 ↦{fullShare} f1) ∗ ((c : Thread nD τ).loc cc0_scratch1 ↦{fullShare} f3) ∗ ((c : Thread nD τ).loc cc0_scratch2 ↦{fullShare} f2))
      ⊢ (iprop(∃ b1 b3 b2, casts c b1 b3 b2) : sProp 𝕄) := by
  unfold casts owns
  iintro ⟨H1, H3, H2⟩
  iexists _, _, _
  isplitl [H1]
  · iexists f1
    isplitr
    · ipureintro; rfl
    rw [(Memref.isWhole_whole cc0_scratch0).set_eq_univ]; iexact H1
  isplitl [H3]
  · iexists f3
    isplitr
    · ipureintro; rfl
    rw [(Memref.isWhole_whole cc0_scratch1).set_eq_univ]; iexact H3
  iexists f2
  isplitr
  · ipureintro; rfl
  rw [(Memref.isWhole_whole cc0_scratch2).set_eq_univ]; iexact H2

theorem casts_elim (c : Dev nD) (b1 b3 : S1024x512.Idx → Elt F .bf16) (b2 : S512x1024.Idx → Elt F .bf16) :
    (casts c b1 b3 b2 : sProp 𝕄) ⊢ iprop((∃ f, (c : Thread nD τ).loc cc0_scratch0 ↦{fullShare} f) ∗ (∃ f, (c : Thread nD τ).loc cc0_scratch1 ↦{fullShare} f) ∗ (∃ f, (c : Thread nD τ).loc cc0_scratch2 ↦{fullShare} f)) := by
  unfold casts owns
  rw [(Memref.isWhole_whole cc0_scratch0).set_eq_univ, (Memref.isWhole_whole cc0_scratch1).set_eq_univ, (Memref.isWhole_whole cc0_scratch2).set_eq_univ]
  iintro ⟨⟨%f1, -, H1⟩, ⟨%f3, -, H3⟩, ⟨%f2, -, H2⟩⟩
  isplitl [H1]; · iexists f1; iexact H1
  isplitl [H3]; · iexists f3; iexact H3
  iexists f2; iexact H2

theorem begins (c : Dev nD) : iprop(ΦA spec0 c ∗ ΦT pre0 (adm m hN 0).1 c) ⊢ held m hN c 0 := by
  unfold Pipeline.ΦA held
  rw [tables_eq, scopedRest0_eq]
  iintro ⟨⟨⟨⟨%f1, H1⟩, ⟨%f3, H3⟩, ⟨%f2, H2⟩⟩, HG⟩, HT⟩
  isplitl [HT]; · iexact HT
  isplitl [H1 H3 H2]
  · ihave HC := (casts_intro c f1 f3 f2) $$ [H1 H3 H2]
    · isplitl [H1]; · iexact H1
      isplitl [H3] <;> iassumption
    icases HC with ⟨%b1, %b3, %b2, HC⟩
    iexists b1, b3, b2
    isplitr
    · ipureintro
      intro t ht
      exact absurd ht (Nat.succ_ne_zero _)
    iexact HC
  iexact HG

theorem ends (c : Dev nD) : held m hN c 288 ⊢ ΦA spec0 c := by
  unfold Pipeline.ΦA held
  rw [scopedRest0_eq]
  iintro ⟨-, ⟨%b1, %b3, %b2, -, HC⟩, HG⟩
  isplitl [HC]
  · iapply (casts_elim c b1 b3 b2) $$ HC
  iexact HG

theorem hmain0 : Pipeline.HMainP (Ix := Unit) (Name := ℕ) (U := UR sig nD τ) (Lvl := ℕ) pcfgs 0 defs₀ Variants.none m (main (F := F)) (fun c b => m ((c : Thread nD τ).loc b)) :=
  Pipeline.hmainP_region pcfgs 0 defs₀ Variants.none m main (fun c => (main_chain c).trans rfl)

theorem share_full (c : Dev nD) (w) : (dats m hN 0 c).share w = fullShare := by
  unfold Dat.share; split <;> rfl

/-! ### The result -/

theorem index4 (t : Fin (cfgM m hN).N) : ((cfgM m hN).win 4).index t (0 : Fin 2) = t.val := by
  show (BitVec.ofNat 32 (grid0.coords t 0).val).toNat = t.val
  have ht : t.val < 288 := t.isLt
  rw [coords0, BitVec.toNat_ofNat]; omega

/-- Every point writes its block back. -/
theorem flushed (t : Fin (cfgM m hN).N) : ((cfgM m hN).win 4).flush t = true := by
  unfold Window.flush
  rw [Bool.and_eq_true, Bool.or_eq_true, decide_eq_true_eq, decide_eq_true_eq]
  refine ⟨rfl, ?_⟩
  by_cases h : t.val + 1 = 288
  · exact .inl h
  · have ht : t.val < 288 := t.isLt
    refine .inr ⟨(show t.val + 1 < 288 by omega), fun he => ?_⟩
    have h0 := congrFun he (0 : Fin 2)
    rw [index4, index4] at h0
    exact Nat.succ_ne_self _ h0

theorem covered : ((cfgM m hN).win 4).Covers := by
  refine ⟨fun a => ?_, fun β => ?_⟩
  · match a with
    | ⟨0, _⟩ => exact (by decide : 0 < 256)
    | ⟨1, _⟩ => exact (by decide : 0 < 1024)
  · have h0 : (β (0 : Fin 2)).val < 288 := lt_of_lt_of_eq (β (0 : Fin 2)).isLt (by unfold Window.nblk; exact (by decide : (73728 + 256 - 1) / 256 = 288))
    have h1 : (β (1 : Fin 2)).val < 1 := lt_of_lt_of_eq (β (1 : Fin 2)).isLt (by unfold Window.nblk; exact (by decide : (1024 + 1024 - 1) / 1024 = 1))
    refine ⟨⟨(β (0 : Fin 2)).val, h0⟩, flushed m hN _, fun a => ?_⟩
    match a with
    | ⟨0, _⟩ => exact ⟨index4 m hN _, .inl rfl⟩
    | ⟨1, _⟩ => exact ⟨(Nat.lt_one_iff.mp h1).symm, .inl rfl⟩

/-- Row `r` of the result lies in block `r / 256`. -/
def final (c : Dev nD) : S73728x1024.Idx → Elt F .f32 := fun r =>
  leftAt m hN c ⟨(r 0).val / 256, by have : (r 0).val < 73728 := (r 0).isLt; show _ < 288; omega⟩
    (fun | ⟨0, _⟩ => ⟨(r 0).val % 256, Nat.mod_lt _ (by decide)⟩ | ⟨1, _⟩ => r 1)

theorem result_eq (c : Dev nD) : (dats m hN 0 c).arrAt 4 (cfgM m hN).N = final m hN c := by
  refine (dats m hN 0 c).arrAt_eq_of_covers 4 _ (covered m hN) fun t hf y => ?_
  have ht : t.val < 288 := t.isLt
  have hy : (y (0 : Fin 2)).val < 256 := (y (0 : Fin 2)).isLt
  have e0 : ((((cfgM m hN).win 4).blk t).view.emb y (0 : Fin 2)).val = t.val * 256 + (y (0 : Fin 2)).val := by
    show ((BitVec.ofNat 32 (grid0.coords t 0).val).toNat) * 256 + 1 * (y (0 : Fin 2)).val = _
    rw [coords0, BitVec.toNat_ofNat]; omega
  have e1 : ((((cfgM m hN).win 4).blk t).view.emb y (1 : Fin 2)).val = (y (1 : Fin 2)).val := by
    show 0 * 1024 + 1 * (y (1 : Fin 2)).val = _; omega
  show leftAt m hN c t (((cfgM m hN).win 4).xinj ((cfgM m hN).grid.coords t) y) = final m hN c _
  revert e0 e1
  generalize (((cfgM m hN).win 4).blk t).view.emb y = r
  change S73728x1024.Idx at r
  intro e0 e1
  unfold final
  have hb : (⟨(r 0).val / 256, by have : (r 0).val < 73728 := (r 0).isLt; show _ < 288; omega⟩ : Fin (cfgM m hN).N) = t := Fin.ext (show (r 0).val / 256 = t.val by rw [show (r 0).val = _ from e0]; omega)
  rw [hb]
  refine congrArg (leftAt m hN c t) (funext fun a => Fin.ext ?_)
  match a with
  | ⟨0, _⟩ => show (y (0 : Fin 2)).val = (r 0).val % 256; rw [show (r 0).val = _ from e0]; omega
  | ⟨1, _⟩ => exact e1.symm

/-! ### The run -/

/-- The run: it ends, the arguments as they were, the result block by block the experts' rows, every semaphore at zero. -/
theorem run_main (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_v0) = final m hN c)
      ∧ r.2.sem = fun _ => 0) := by
  refine (θ_run (defs (F := F)) _ _).mono (fun r h => ?_)
    (Pipeline.θ_run_frameP_track (Q' := fun r => Pipeline.FramePost (pin pcfgs (adm m hN)) (dats m hN) 0 (fun c b => m ((c : Thread nD τ).loc b)) r
        ∧ r.2.sem = fun _ => 0) pcfgs (adm m hN) (dats m hN) 0 launch0 defs₀ Variants.none m ρ main
      (body0 m hN) (share_full m hN) (fun _ _ => rfl) (fun c b => m ((c : Thread nD τ).loc b)) (hmain0 m) (fun _ _ => rfl)
      (fun c _ => by obtain rfl := one_core c; rfl) (begins m hN) (ends m hN))
  obtain ⟨h, hs⟩ := h
  refine ⟨fun c => ⟨?_, ?_, ?_, ?_, ?_, ?_, ?_⟩, hs⟩
  · exact h.in_eq c 0 rfl
  · exact (h c).2 main_arg1 (show main_arg1 ∈ restRefs sig spec0 from by decide)
  · exact (h c).2 main_arg2 (show main_arg2 ∈ restRefs sig spec0 from by decide)
  · exact h.in_eq c 1 rfl
  · exact h.in_eq c 2 rfl
  · exact h.in_eq c 3 rfl
  · exact ((h c).1 4).trans (result_eq m hN c)

end Cert.Experts

end
-- ==== Proof.ExpertsMath.lean ====
/-
  One expert's MLP in scalars, the word of the expert each block of rows names, and a gather of whole experts.
-/
module

public import proofs.«01_k».proof.Proof.LayerMath
public import proofs.«01_k».proof.Proof.Table
public import proofs.«01_k».proof.Proof.Gen.Reference4Ideal.Run

@[expose] public section

noncomputable section

namespace Cert.Experts

open Cert.Layer
open Idealize.ShloMosaic

/-- One hidden unit of an expert: `silu(x · w1) · (x · w3)`. -/
def hidE (x w1 w3 : Fin 1024 → EReal) : EReal := dotE x w1 * logi (dotE x w1) * dotE x w3

/-- One element of an expert's result on a row `x`. -/
def mlpE (x : Fin 1024 → EReal) (w1 w3 : Fin 1024 → Fin 512 → EReal) (w2 : Fin 512 → EReal) : EReal :=
  ∑ f, hidE x (fun k => w1 k f) (fun k => w3 k f) * w2 f

/-- On a row of zeros an expert gives zero, whatever its weights. -/
theorem mlpE_zero (x : Fin 1024 → EReal) (hx : ∀ k, x k = 0) (w1 w3 : Fin 1024 → Fin 512 → EReal) (w2 : Fin 512 → EReal) : mlpE x w1 w3 w2 = 0 := by
  have hd : ∀ w : Fin 1024 → EReal, dotE x w = 0 := fun w => by
    unfold dotE
    exact Finset.sum_eq_zero fun k _ => by rw [hx k, zero_mul]
  unfold mlpE hidE
  exact Finset.sum_eq_zero fun f _ => by rw [hd, zero_mul, zero_mul, zero_mul]

/-- The row `r` of block `b`. -/
def rowOf (b : Fin 288) (r : Fin 256) : Fin 73728 := ⟨b.val * 256 + r.val, by omega⟩

/-- What the experts make of the rows: row `r` of block `b` through the expert the block names. -/
def expertsE (X : (⟨2, ![73728, 1024]⟩ : Shape).Idx → EReal) (be : (⟨1, ![288]⟩ : Shape).Idx → BitVec 32)
    (W1 W3 : (⟨3, ![32, 1024, 512]⟩ : Shape).Idx → EReal) (W2 : (⟨3, ![32, 512, 1024]⟩ : Shape).Idx → EReal) (hN : ∀ k, (be k).toNat < 32)
    (b : Fin 288) (r : Fin 256) (j : Fin 1024) : EReal :=
  mlpE (fun k => X (ix2 (rowOf b r) k)) (fun k f => W1 (ix3 ⟨(be (ix1 b)).toNat, hN _⟩ k f)) (fun k f => W3 (ix3 ⟨(be (ix1 b)).toNat, hN _⟩ k f))
    (fun f => W2 (ix3 ⟨(be (ix1 b)).toNat, hN _⟩ f j))

open Cert.Reference4Ideal Cert.Reference4Ideal.Gen

/-- Block `b` of the gathered first or second weights is those of the expert its word names. -/
theorem gather_up (x : S32x1024x512.Idx → EReal) (idx : IVec S288x1 32) (b : Fin 288) (k : Fin 1024) (f : Fin 512) (e : Fin 32)
    (h : idx (ix2 b (0 : Fin 1)) = BitVec.ofNat 32 e.val) :
    Host.gather gather_S32x1024x512_S288x1_S288x1024x512_12_0_n_n_0_1_11024512 x idx (ix3 b k f) = x (ix3 e k f) := by
  have he : e.val < 32 := e.isLt
  have clamp : ∀ q : S288x1.Idx, q = ix2 b (0 : Fin 1) → min (idx q).toInt.toNat 31 = e.val := by
    intro q hq
    rw [hq, h, StableHlo.Predicate.toInt_ofNat_small _ (by omega)]
    omega
  unfold Host.gather
  refine congrArg x (funext fun a => Fin.ext ?_)
  match a with
  | ⟨0, _⟩ =>
    refine clamp (GatherDims.siIdx gather_S32x1024x512_S288x1_S288x1024x512_12_0_n_n_0_1_11024512 (ix3 b k f) ⟨0, Nat.one_pos⟩) (funext fun a => ?_)
    match a with
    | ⟨0, _⟩ => rfl
    | ⟨1, _⟩ => rfl
  | ⟨1, _⟩ => exact Nat.zero_add _
  | ⟨2, _⟩ => exact Nat.zero_add _

/-- And of the third. -/
theorem gather_down (x : S32x512x1024.Idx → EReal) (idx : IVec S288x1 32) (b : Fin 288) (k : Fin 512) (f : Fin 1024) (e : Fin 32)
    (h : idx (ix2 b (0 : Fin 1)) = BitVec.ofNat 32 e.val) :
    Host.gather gather_S32x512x1024_S288x1_S288x512x1024_12_0_n_n_0_1_15121024 x idx (ix3 b k f) = x (ix3 e k f) := by
  have he : e.val < 32 := e.isLt
  have clamp : ∀ q : S288x1.Idx, q = ix2 b (0 : Fin 1) → min (idx q).toInt.toNat 31 = e.val := by
    intro q hq
    rw [hq, h, StableHlo.Predicate.toInt_ofNat_small _ (by omega)]
    omega
  unfold Host.gather
  refine congrArg x (funext fun a => Fin.ext ?_)
  match a with
  | ⟨0, _⟩ =>
    refine clamp (GatherDims.siIdx gather_S32x512x1024_S288x1_S288x512x1024_12_0_n_n_0_1_15121024 (ix3 b k f) ⟨0, Nat.one_pos⟩) (funext fun a => ?_)
    match a with
    | ⟨0, _⟩ => rfl
    | ⟨1, _⟩ => rfl
  | ⟨1, _⟩ => exact Nat.zero_add _
  | ⟨2, _⟩ => exact Nat.zero_add _

end Cert.Experts

end
-- ==== Proof.ExpertsValue.lean ====
/-
  What the experts' kernel leaves, over ideal floats: every row of a block in use through the expert its block names,
  and zeros in the blocks past them, which is what an expert makes of rows of zeros.
-/
module

public import proofs.«01_k».proof.Proof.Experts
public import proofs.«01_k».proof.Proof.ExpertsMath

@[expose] public section

set_option maxRecDepth 16384

noncomputable section

namespace Cert.Experts

open Cert.Layer
open Cert.Kernel4Ideal Cert.Kernel4Ideal.Gen
open Idealize.ShloMosaic Idealize.ShloMosaic.TcCoe

/-- The kernel's MLP of one block, by elements. -/
theorem block_at (x : S256x1024.Idx → EReal) (w1 w3 : S1x1024x512.Idx → EReal) (w2 : S1x512x1024.Idx → EReal) (s : Fin 256) (j : Fin 1024) :
    k0_pay4 (F := Ideal) x (k0_pay1 (F := Ideal) w1) (k0_pay2 (F := Ideal) w3) (k0_pay3 (F := Ideal) w2) (ix2 s j)
      = mlpE (fun k => x (ix2 s k)) (fun k f => w1 (ix3 0 k f)) (fun k f => w3 (ix3 0 k f)) (fun f => w2 (ix3 0 f j)) := by
  unfold k0_pay4 k0_pay1 k0_pay2 k0_pay3 mlpE hidE dotE logi
  pointwise
  simp only [sub_eq_add_neg, zero_add]

theorem zero_at (s : Fin 256) (j : Fin 1024) : k0_pay5 (F := Ideal) (ix2 s j) = 0 := by
  unfold k0_pay5
  pointwise

/-- The arrays a run begins with are of the kind the precondition says: rows past the blocks in use are zeros. -/
def Spare (X : S73728x1024.Idx → EReal) (nu : S1.Idx → BitVec 32) : Prop :=
  ∀ (b : Fin 288) (s : Fin 256) (k : Fin 1024), IntOp.cmpi .slt (BitVec.ofNat 32 b.val) (nu (ix1 0)) ≠ 1#1 → X (ix2 (rowOf b s) k) = 0

variable (m : (ℓ : Loc nD τ sig) → Buf (Elt Ideal) ℓ) (hN : Named (experts m 0))

theorem cond_at (i : grid0.Coords) (n : BitVec 32) : k0_cond2 i n = 1#1 ↔ IntOp.cmpi .slt (BitVec.ofNat 32 (i 0).val) n = 1#1 := by
  unfold k0_cond2
  dsimp only
  show Scalar.cmpi .ne (Scalar.extui (IntOp.cmpi .slt (BitVec.ofNat 32 (i 0).val) n)) 0#32 = 1#1 ↔ _
  generalize IntOp.cmpi .slt (BitVec.ofNat 32 (i 0).val) n = x
  revert x
  decide

/-- The final array by elements: the experts' rows. -/
theorem final_at (hN' : ∀ k, (experts m 0 k).toNat < 32) (hS : Spare (rows m 0) (inUse m 0)) (b : Fin 288) (s : Fin 256) (j : Fin 1024) :
    final m hN 0 (ix2 (rowOf b s) j) = expertsE (rows m 0) (experts m 0) (up m 0) (gate m 0) (down m 0) hN' b s j := by
  have hb : b.val < (cfgM m hN).N := b.isLt
  have hs : s.val < 256 := s.isLt
  have e1 : (b.val * 256 + s.val) / 256 = b.val := by omega
  have e2 : (b.val * 256 + s.val) % 256 = s.val := by omega
  have hf : final m hN 0 (ix2 (rowOf b s) j) = leftAt m hN 0 ⟨b.val, hb⟩ (ix2 s j) := by
    unfold final
    refine congr (congrArg (leftAt m hN 0) (Fin.ext e1)) (funext fun a => Fin.ext ?_)
    match a with
    | ⟨0, _⟩ => exact e2
    | ⟨1, _⟩ => rfl
  have hn : (named (experts m 0) (grid0.coords ⟨b.val, hb⟩)) = experts m 0 (ix1 b) := (named_at _ _ hb).trans (congrArg _ (by funext a; match a with | ⟨0, _⟩ => rfl))
  have he : (named (experts m 0) (grid0.coords ⟨b.val, hb⟩)).toNat = (experts m 0 (ix1 b)).toNat := by rw [hn]
  have hc : (grid0.coords ⟨b.val, hb⟩ 0).val = b.val := coords0 _
  have hu : usedCount (inUse m 0) = inUse m 0 (ix1 0) := by
    unfold usedCount
    exact congrArg (inUse m 0) (by funext a; match a with | ⟨0, _⟩ => rfl)
  rw [hf]
  unfold leftAt result expertsE
  have hx : ∀ k, rowsAt m hN 0 ⟨b.val, hb⟩ (ix2 s k) = rows m 0 (ix2 (rowOf b s) k) := fun k => by
    rw [rowsAt_eq]
    exact congrArg (rows m 0) (by funext a; match a with | ⟨0, _⟩ => rfl | ⟨1, _⟩ => rfl)
  split
  · rw [block_at]
    congr 1
    · funext k; exact hx k
    · funext k f
      rw [upAt_eq]
      exact congrArg (up m 0) (by funext a; match a with | ⟨0, _⟩ => exact Fin.ext he | ⟨1, _⟩ => rfl | ⟨2, _⟩ => rfl)
    · funext k f
      rw [gateAt_eq]
      exact congrArg (gate m 0) (by funext a; match a with | ⟨0, _⟩ => exact Fin.ext he | ⟨1, _⟩ => rfl | ⟨2, _⟩ => rfl)
    · funext f
      rw [downAt_eq]
      exact congrArg (down m 0) (by funext a; match a with | ⟨0, _⟩ => exact Fin.ext he | ⟨1, _⟩ => rfl | ⟨2, _⟩ => rfl)
  · rename_i h
    rw [cond_at, hc, hu] at h
    rw [zero_at, mlpE_zero _ (fun k => hS b s k h)]

end Cert.Experts

end
-- ==== Proof.ExpertsRef.lean ====
/-
  What the reference of the experts computes: every row through the expert its block names.
-/
module

public import proofs.«01_k».proof.Proof.ExpertsMath

@[expose] public section

set_option maxRecDepth 16384

noncomputable section

namespace Cert.Experts.Ref

open Cert.Layer Cert.Experts
open Cert.Reference4Ideal Cert.Reference4Ideal.Gen
open Idealize.ShloMosaic Idealize.ShloMosaic.TcCoe

/-- The column of words the gathers read. -/
def words (be : S288.Idx → BitVec 32) : IVec S288x1 32 :=
  broadcastInDim S288x1 ![0] bcast_S288_S288x1_0 (select (cmpi .slt be (broadcastInDim S288 ![] bcast_S_S288 (constantI S_ 32 0#32)))
      (addi be (broadcastInDim S288 ![] bcast_S_S288 (constantI S_ 32 32#32))) be)

/-- Block `b`'s word is the expert it names, as that is never negative. -/
theorem word_at (be : S288.Idx → BitVec 32) (hN : ∀ k, (be k).toNat < 32) (b : Fin 288) :
    broadcastInDim S288x1 ![0] bcast_S288_S288x1_0 (select (cmpi .slt be (broadcastInDim S288 ![] bcast_S_S288 (constantI S_ 32 0#32)))
      (addi be (broadcastInDim S288 ![] bcast_S_S288 (constantI S_ 32 32#32))) be) (ix2 b (0 : Fin 1)) = BitVec.ofNat 32 (be (ix1 b)).toNat := by
  have hx : ∀ q, q = ix1 b → Scalar.select (IntOp.cmpi .slt (be q) 0#32) (IntOp.addi (be q) 32#32) (be q) = BitVec.ofNat 32 (be (ix1 b)).toNat := by
    intro q hq
    have := hN (ix1 b)
    rw [Cert.Dispatch.wrap_id _ _ (by rw [hq]; omega), hq, BitVec.ofNat_toNat, BitVec.setWidth_eq]
  exact hx _ (by funext a; match a with | ⟨0, _⟩ => rfl)

/-- A product of the blocks of rows with one block of weights each. -/
abbrev prod (X : S73728x1024.Idx → EReal) (G : S288x1024x512.Idx → EReal) : FVec Ideal S288x256x512 .f32 :=
  Host.dotGeneral (F := Ideal) (φ₁ := .f32) (φ₂ := .f32) dot_S288x256x1024_S288x1024x512_S288x256x512_2_1_1_2_0_0 none (shapeCast _ X shapeCasts_S73728x1024_S288x256x1024) G

/-- The experts' MLP on every block, each with weights of its own. -/
abbrev mlps (X : S73728x1024.Idx → EReal) (G1 G3 : S288x1024x512.Idx → EReal) (G2 : S288x512x1024.Idx → EReal) : FVec Ideal S73728x1024 .f32 :=
  shapeCast _ (Host.dotGeneral (F := Ideal) (φ₁ := .f32) (φ₂ := .f32) dot_S288x256x512_S288x512x1024_S288x256x1024_2_1_1_2_0_0 none
    (mulf (mulf (prod X G1) (Host.divf (broadcastInDim S288x256x512 ![] bcast_S_S288x256x512 (constant S_ .f32 0x3F800000#32))
      (addf (broadcastInDim S288x256x512 ![] bcast_S_S288x256x512 (constant S_ .f32 0x3F800000#32)) (Host.exp (Host.negf (prod X G1)))))) (prod X G3)) G2) shapeCasts_S288x256x1024_S73728x1024

/-- By elements: each row through its block's weights. -/
theorem mlps_at (X : S73728x1024.Idx → EReal) (G1 G3 : S288x1024x512.Idx → EReal) (G2 : S288x512x1024.Idx → EReal) (b : Fin 288) (s : Fin 256) (j : Fin 1024) :
    mlps X G1 G3 G2 (ix2 (rowOf b s) j) = mlpE (fun k => X (ix2 (rowOf b s) k)) (fun k f => G1 (ix3 b k f)) (fun k f => G3 (ix3 b k f)) (fun f => G2 (ix3 b f j)) := by
  unfold mlps prod mlpE hidE dotE logi rowOf
  pointwise

/-- With the weights gathered by the blocks' words it is the experts' rows. -/
theorem value_at (X : S73728x1024.Idx → EReal) (be : S288.Idx → BitVec 32) (W1 W3 : S32x1024x512.Idx → EReal) (W2 : S32x512x1024.Idx → EReal)
    (hn : ∀ k, (be k).toNat < 32) (b : Fin 288) (s : Fin 256) (j : Fin 1024) :
    mlps X (Host.gather gather_S32x1024x512_S288x1_S288x1024x512_12_0_n_n_0_1_11024512 W1 (words be)) (Host.gather gather_S32x1024x512_S288x1_S288x1024x512_12_0_n_n_0_1_11024512 W3 (words be))
      (Host.gather gather_S32x512x1024_S288x1_S288x512x1024_12_0_n_n_0_1_15121024 W2 (words be)) (ix2 (rowOf b s) j) = expertsE X be W1 W3 W2 hn b s j := by
  have hb : words be (ix2 b (0 : Fin 1)) = BitVec.ofNat 32 (⟨(be (ix1 b)).toNat, hn _⟩ : Fin 32).val := word_at be hn b
  rw [mlps_at]
  unfold expertsE
  congr 1
  · funext k f; exact gather_up W1 _ b k f _ hb
  · funext k f; exact gather_up W3 _ b k f _ hb
  · funext f; exact gather_down W2 _ b f j _ hb

variable (m : (ℓ : Loc nD τ sig) → Buf (Elt Ideal) ℓ) (ρ : Dev nD → PrngReg)

/-- The reference's run: the result is the experts' rows, the arguments are unchanged. -/
theorem run (hN : ∀ c : Dev nD, ∀ k, ((m (c.tc.loc main_arg1) : S288.Idx → BitVec 32) k).toNat < 32) :
    θ_run (defs (F := Ideal)) (onTc (τ := τ) (main (F := Ideal))) ⟨m, fun _ => 0, ρ⟩ fun r => ∀ c : Dev nD,
      (∀ (b : Fin 288) (s : Fin 256) (j : Fin 1024), (r.2.mem ((c.tc : Thread nD τ).loc main_v27) : S73728x1024.Idx → EReal) (ix2 (rowOf b s) j)
        = expertsE (m (c.tc.loc main_arg0)) (m (c.tc.loc main_arg1)) (m (c.tc.loc main_arg3)) (m (c.tc.loc main_arg4)) (m (c.tc.loc main_arg5)) (hN c) b s j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (Value.run (F := Ideal) m ρ).mono fun r h c => ?_
  obtain ⟨h0, ha⟩ := h c
  refine ⟨fun b s j => (congrFun h0 _).trans ?_, ha⟩
  exact value_at (m (c.tc.loc main_arg0)) (m (c.tc.loc main_arg1)) (m (c.tc.loc main_arg3)) (m (c.tc.loc main_arg4)) (m (c.tc.loc main_arg5)) (hN c) b s j

end Cert.Experts.Ref

end
-- ==== Proof.ExpertsPre.lean ====
/-
  The precondition says of the experts' tables and rows what the kernel's run needs of them.
-/
module

public import proofs.«01_k».proof.Proof.ExpertsValue
public import proofs.«01_k».proof.Proof.Gen.Pre_experts_named

@[expose] public section

noncomputable section

namespace Cert.Experts

open Cert.Pre_experts_named Cert.Pre_experts_named.Gen
open Idealize.ShloMosaic

variable {F : FTy → Type} [FloatOps F]

/-- One of two bits is one. -/
theorem either (x y : BitVec 1) (h : IntOp.ori x y = 1#1) : x = 1#1 ∨ y = 1#1 := by
  revert x y; decide

/-- What the precondition says at row `s`, column `k` of block `b`: the block's expert is one of 0 .. 31, and the block
    is in use or the entry compares equal to zero. -/
theorem split_at (X : S73728x1024.Idx → Elt F .f32) (be : S288.Idx → BitVec 32) (nu : S1.Idx → BitVec 32)
    (W1 W3 : S32x1024x512.Idx → Elt F .f32) (W2 : S32x512x1024.Idx → Elt F .f32)
    (h : Cert.Pre_experts_named.fn (F := F) X be nu W1 W3 W2 = fun _ => 1#1) (b : Fin 288) (s : Fin 256) (k : Fin 1024) :
    (be (ix1 b)).toNat < 32 ∧ (IntOp.cmpi .slt (BitVec.ofNat 32 b.val) (nu (ix1 0)) = 1#1
      ∨ FloatOps.cmpf .oeq (X (ix2 (rowOf b s) k)) (FloatOps.ofBits .f32 0x00000000#32) = 1#1) := by
  dsimp only [Cert.Pre_experts_named.fn] at h
  have h := congrFun h (ix3 b s k)
  obtain ⟨hn, hs⟩ := Cert.Dispatch.both _ _ h
  obtain ⟨h0, h1⟩ := Cert.Dispatch.both _ _ hn
  have hb : ∀ q : S288.Idx, q = ix1 b → IntOp.cmpi .sge (be q) 0#32 = 1#1 → IntOp.cmpi .slt (be q) 32#32 = 1#1 → (be (ix1 b)).toNat < 32 :=
    fun q hq e0 e1 => by rw [← hq]; exact Cert.Dispatch.between (be q) 32#32 (by decide) e0 e1
  refine ⟨hb _ (by funext a; match a with | ⟨0, _⟩ => rfl) h0 h1, ?_⟩
  rcases either _ _ hs with hu | hz
  · left
    have hn : ∀ (w : BitVec 32) (q : S1.Idx), w = BitVec.ofNat 32 b.val → q = ix1 0 → IntOp.cmpi .slt w (nu q) = 1#1 →
        IntOp.cmpi .slt (BitVec.ofNat 32 b.val) (nu (ix1 0)) = 1#1 := fun w q hw hq e => by rw [← hw, ← hq]; exact e
    exact hn _ _ rfl (by funext a; match a with | ⟨0, _⟩ => rfl) hu
  · right
    have hx : shapeCast S288x256x1024 X shapeCasts_S73728x1024_S288x256x1024 (ix3 b s k) = X (ix2 (rowOf b s) k) := by
      pointwise
      rfl
    exact hx ▸ hz

/-- Every block's expert is one of 0 .. 31. -/
theorem named_of (X : S73728x1024.Idx → Elt F .f32) (be : S288.Idx → BitVec 32) (nu : S1.Idx → BitVec 32)
    (W1 W3 : S32x1024x512.Idx → Elt F .f32) (W2 : S32x512x1024.Idx → Elt F .f32)
    (h : Cert.Pre_experts_named.fn (F := F) X be nu W1 W3 W2 = fun _ => 1#1) : Named be := fun k => by
  have hk : k = ix1 (k 0) := by funext a; match a with | ⟨0, _⟩ => rfl
  rw [hk]
  exact (split_at X be nu W1 W3 W2 h (k 0) 0 0).1

/-- Over the extended reals, the rows of a block past the used ones are zero. -/
theorem spare_of (X : S73728x1024.Idx → EReal) (be : S288.Idx → BitVec 32) (nu : S1.Idx → BitVec 32)
    (W1 W3 : S32x1024x512.Idx → EReal) (W2 : S32x512x1024.Idx → EReal)
    (h : Cert.Pre_experts_named.fn (F := Ideal) X be nu W1 W3 W2 = fun _ => 1#1) : Spare X nu := fun b s k hb => by
  rcases (split_at (F := Ideal) X be nu W1 W3 W2 h b s k).2 with hu | hz
  · exact absurd hu hb
  · simpa [Ideal.cmpf_def, Ideal.cmp, StableHlo.Predicate.ofBool_eq_one_iff] using hz

end Cert.Experts

end
-- ==== Proof.CombineRows.lean ====
/-
  The combine kernel's rows: the words a grid point reads from its tables, the experts' rows they name, the rows of the
  two buffers in vector memory they are fetched into, and what one transfer leaves there. Pure facts; no program is
  run here.
-/
module

public import proofs.«01_k».proof.Proof.Gen.Kernel5Ideal.Skeleton
public import proofs.«01_k».proof.Proof.Gen.Kernel5Ideal.Launch
public import Idealize.ShloMosaic.Lib.Batch
public import Idealize.ShloMosaic.Lib.Ring
public import Idealize.ShloMosaic.Lib.Tactic

@[expose] public section

noncomputable section

namespace Cert.Combine

open Cert.Kernel5Ideal Cert.Kernel5Ideal.Gen
open Idealize.ShloMosaic Idealize.ShloMosaic.TcCoe
open Idealize.SL Idealize.SL.Sem

variable {F : FTy → Type} [FloatOps F]

/-! ### Words -/

/-- Word `j` of a grid point's block of the routing table. -/
def ix (j : ℕ) : S1x1x1024.Idx := fun a => match a with
  | ⟨0, _⟩ => (⟨0, by decide⟩ : Fin 1)
  | ⟨1, _⟩ => (⟨0, by decide⟩ : Fin 1)
  | ⟨2, _⟩ => (⟨j % 1024, Nat.mod_lt _ (by decide)⟩ : Fin 1024)
  | ⟨_ + 3, h⟩ => absurd h (by intro h; exact absurd h (by simp))

/-- Word `j` of the table of the experts' first rows. -/
def ixp (j : ℕ) : S32.Idx := fun a => match a with
  | ⟨0, _⟩ => (⟨j % 32, Nat.mod_lt _ (by decide)⟩ : Fin 32)
  | ⟨_ + 1, h⟩ => absurd h (by intro h; exact absurd h (by simp))

/-- The row the first, and the row the second, of token `t`'s two experts has for it: the expert's first row plus the
    token's rank with that expert. `X` is the block of the routing table (four words a token: two experts, two
    ranks), `P` the table of the experts' first rows. -/
def d0 (P : S32.Idx → BitVec 32) (X : S1x1x1024.Idx → BitVec 32) (t : ℕ) : BitVec 32 :=
  P (ixp (X (ix (4 * t))).toNat) + X (ix (4 * t + 2))
def d1 (P : S32.Idx → BitVec 32) (X : S1x1x1024.Idx → BitVec 32) (t : ℕ) : BitVec 32 :=
  P (ixp (X (ix (4 * t + 1))).toNat) + X (ix (4 * t + 3))

/-- What a grid point needs of its tables: the experts named are 0 .. 31, and every row named is one of
    the experts' rows. -/
structure InRange (P : S32.Idx → BitVec 32) (X : S1x1x1024.Idx → BitVec 32) : Prop where
  e0 : ∀ t < 256, (X (ix (4 * t))).toNat < 32
  e1 : ∀ t < 256, (X (ix (4 * t + 1))).toNat < 32
  r0 : ∀ t < 256, (d0 P X t).toNat < 73728
  r1 : ∀ t < 256, (d1 P X t).toNat < 73728

/-! ### Offsets -/

theorem trips1 : k0_t1_loop.trips = 256 := by decide
theorem trips2 : k0_t2_loop.trips = 256 := by decide

theorem off1_eq (t : Fin k0_t1_loop.trips) : k0_off1 t = ![0, 0, 4 * t.val] := by
  revert t; decide +kernel
theorem off3_eq (t : Fin k0_t1_loop.trips) : k0_off3 t = ![0, 0, 4 * t.val + 2] := by
  revert t; decide +kernel
theorem off4_eq (t : Fin k0_t1_loop.trips) : k0_off4 t = ![0, 0, 4 * t.val + 1] := by
  revert t; decide +kernel
theorem off6_eq (t : Fin k0_t1_loop.trips) : k0_off6 t = ![0, 0, 4 * t.val + 3] := by
  revert t; decide +kernel
theorem off11_eq (t : Fin k0_t2_loop.trips) : k0_off11 t = ![0, 0, 4 * t.val] := by
  revert t; decide +kernel
theorem off13_eq (t : Fin k0_t2_loop.trips) : k0_off13 t = ![0, 0, 4 * t.val + 2] := by
  revert t; decide +kernel
theorem off14_eq (t : Fin k0_t2_loop.trips) : k0_off14 t = ![0, 0, 4 * t.val + 1] := by
  revert t; decide +kernel
theorem off16_eq (t : Fin k0_t2_loop.trips) : k0_off16 t = ![0, 0, 4 * t.val + 3] := by
  revert t; decide +kernel

theorem iv1 : ∀ t : Fin k0_t1_loop.trips, (Scf.iv k0_t1_loop.lb k0_t1_loop.st t.val).toNat = t.val := by decide +kernel
theorem iv2 : ∀ t : Fin k0_t2_loop.trips, (Scf.iv k0_t2_loop.lb k0_t2_loop.st t.val).toNat = t.val := by decide +kernel

theorem off7_eq (t : Fin k0_t1_loop.trips) : k0_off7 t = ![0, t.val, 0] := congrArg (fun n : ℕ => (![0, n, 0] : Fin 3 → ℕ)) (iv1 t)
theorem off9_eq (t : Fin k0_t1_loop.trips) : k0_off9 t = ![1, t.val, 0] := congrArg (fun n : ℕ => (![1, n, 0] : Fin 3 → ℕ)) (iv1 t)

/-- A word of scalar memory read through a buffer's view: the block's word at the offset. -/
theorem read_word {κ : Kind} (m : Memref sig κ .smem S1x1x1024 .i32) (blk : m.view.ty.Contents (Elt F)) (X : S1x1x1024.Idx → BitVec 32)
    (hX : m.view.read (Elt F) blk = X) (off : Fin 3 → ℕ) (inb : ∀ a, off a + S1x1x1.size a ≤ S1x1x1024.size a) (j : ℕ) (hj : j < 1024)
    (h : off = ![0, 0, j]) (x : (Rect.unit (s := S1x1x1024) off S1x1x1.size inb).shape.Idx) :
    (m.access (Rect.unit (s := S1x1x1024) off S1x1x1.size inb)).read (Elt F) blk x = X (ix j) := by
  subst h; subst hX
  have hx : (Rect.unit (s := S1x1x1024) ![0, 0, j] S1x1x1.size inb).emb x = ix j := by
    funext b; fin_cases b
    · have h0 : (x 0).val < 1 := (x 0).isLt
      exact Fin.ext (show 0 + 1 * (x 0).val = 0 by omega)
    · have h0 : (x 1).val < 1 := (x 1).isLt
      exact Fin.ext (show 0 + 1 * (x 1).val = 0 by omega)
    · have h0 : (x 2).val < 1 := (x 2).isLt
      exact Fin.ext (show j + 1 * (x 2).val = j % 1024 by rw [Nat.mod_eq_of_lt hj]; omega)
  rw [← hx]; rfl

/-- A word of the table of first rows. -/
theorem read_first (P : S32.Idx → BitVec 32) (off : Fin 1 → ℕ) (inb : ∀ a, off a + S1.size a ≤ S32.size a) (j : ℕ) (hj : j < 32)
    (h : off = ![j]) (x : (Rect.unit (s := S32) off S1.size inb).shape.Idx) :
    ((Memref.whole main_arg2 : Memref sig .tc .smem S32 .i32).access (Rect.unit (s := S32) off S1.size inb)).read (Elt F) P x = P (ixp j) := by
  subst h
  have hx : (Rect.unit (s := S32) ![j] S1.size inb).emb x = ixp j := by
    funext b; fin_cases b
    have h0 : (x 0).val < 1 := (x 0).isLt
    exact Fin.ext (show j + 1 * (x 0).val = j % 32 by rw [Nat.mod_eq_of_lt hj]; omega)
  rw [← hx]; rfl

theorem chk_e (v : BitVec 32) (h : v.toNat < 32) : ∀ a, (![v.toNat] : Fin 1 → ℕ) a + S1.size a ≤ S32.size a := by
  intro a; fin_cases a; show v.toNat + 1 ≤ 32; omega
theorem chk_r (n : ℕ) (h : n < 73728) : ∀ a, (![n, 0] : Fin 2 → ℕ) a + S1x1024.size a ≤ S73728x1024.size a := by
  intro a; fin_cases a
  · show n + 1 ≤ 73728; omega
  · show 0 + 1024 ≤ 1024; omega

/-! ### Rows -/

/-- Row `r` of the experts' rows. -/
def rowS (r : ℕ) : Finset S73728x1024.Idx := Finset.univ.filter fun y => (y 0).val = r
/-- Row `t` of buffer `k`. -/
def rowD (k t : ℕ) : Finset S2x256x1024.Idx := Finset.univ.filter fun y => (y 0).val = k ∧ (y 1).val = t

theorem mem_rowS (r : ℕ) (y : S73728x1024.Idx) : y ∈ rowS r ↔ (y 0).val = r := by simp [rowS]
theorem mem_rowD (k t : ℕ) (y : S2x256x1024.Idx) : y ∈ rowD k t ↔ (y 0).val = k ∧ (y 1).val = t := by simp [rowD]

theorem unit_rowS (off : Fin 2 → ℕ) (inb : ∀ a, off a + S1x1024.size a ≤ S73728x1024.size a)
    (r : ℕ) (h : off = ![r, 0]) (y : S73728x1024.Idx) :
    y ∈ (Rect.unit (s := S73728x1024) off S1x1024.size inb).set ↔ (y 0).val = r := by
  subst h
  rw [Rect.mem_set_unit]
  have h1 : (y 1).val < 1024 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 1024; omega

theorem unit_rowD (off : Fin 3 → ℕ) (inb : ∀ a, off a + S1x1x1024.size a ≤ S2x256x1024.size a)
    (k t : ℕ) (h : off = ![k, t, 0]) (y : S2x256x1024.Idx) :
    y ∈ (Rect.unit (s := S2x256x1024) off S1x1x1024.size inb).set ↔ (y 0).val = k ∧ (y 1).val = t := by
  subst h
  rw [Rect.mem_set_unit]
  have h1 : (y 2).val < 1024 := (y 2).isLt
  constructor
  · intro H
    have a0 : k ≤ (y 0).val ∧ (y 0).val < k + 1 := H 0
    have a1 : t ≤ (y 1).val ∧ (y 1).val < t + 1 := H 1
    omega
  · intro H a; fin_cases a
    · show k ≤ (y 0).val ∧ (y 0).val < k + 1; omega
    · show t ≤ (y 1).val ∧ (y 1).val < t + 1; omega
    · show 0 ≤ (y 2).val ∧ (y 2).val < 0 + 1024; omega

/-- One of the experts' rows, and one row of a buffer, as the kernel slices them. -/
abbrev srcRow (off : Fin 2 → ℕ) (inb : ∀ a, off a + S1x1024.size a ≤ S73728x1024.size a) : Memref sig .tc .hbm S1x1024 .f32 :=
  (Memref.whole main_arg0 : Memref sig .tc .hbm S73728x1024 .f32).slice (Rect.unit (s := S73728x1024) off S1x1024.size inb) (fun _ => rfl)
abbrev dstRow (off : Fin 3 → ℕ) (inb : ∀ a, off a + S1x1x1024.size a ≤ S2x256x1024.size a) : Memref sig .tc .vmem S1x1024 .f32 :=
  ((Memref.whole cc0_scratch0 : Memref sig .tc .vmem S2x256x1024 .f32).slice (Rect.unit (s := S2x256x1024) off S1x1x1024.size inb) (fun _ => rfl)).squeeze S1x1024 squeezes_S1x1x1024_S1x1024

theorem srcRow_set (off : Fin 2 → ℕ) (inb) (r : ℕ) (h : off = ![r, 0]) : (srcRow off inb).view.set = rowS r := by
  refine (View.set_slice_whole _ _).trans ?_
  ext y
  exact (unit_rowS off inb r h y).trans (mem_rowS r y).symm
theorem dstRow_set (off : Fin 3 → ℕ) (inb) (k t : ℕ) (h : off = ![k, t, 0]) : (dstRow off inb).view.set = rowD k t := by
  refine (View.set_reshape _ _).trans ((View.set_slice_whole _ _).trans ?_)
  ext y
  exact (unit_rowD off inb k t h y).trans (mem_rowD k t y).symm

/-- A transfer of row `a` of the source to row `t` of buffer `k` leaves, in that row, the source's row. -/
theorem write_row (off : Fin 3 → ℕ) (off' : Fin 2 → ℕ) (inb inb') (k t a : ℕ) (h : off = ![k, t, 0]) (h' : off' = ![a, 0])
    (fd : S2x256x1024.Idx → Elt F .f32) (fs : S73728x1024.Idx → Elt F .f32) (g : S2x256x1024.Idx → Elt F .f32)
    (hg : ∀ y ∈ rowD k t, ∀ z : S73728x1024.Idx, (z 0).val = a → (z 1).val = (y 2).val → g y = fs z)
    (y : S2x256x1024.Idx) (hy : y ∈ rowD k t) :
    (dstRow off inb).view.write (Elt F) fd ((srcRow off' inb').view.read (Elt F) fs) Finset.univ y = g y := by
  subst h; subst h'
  have hy0 := (mem_rowD k t y).mp hy
  let x : S1x1024.Idx := fun a => match a with
    | ⟨0, _⟩ => (⟨0, by decide⟩ : Fin 1)
    | ⟨1, _⟩ => (⟨(y 2).val, (y 2).isLt⟩ : Fin 1024)
    | ⟨_ + 2, h⟩ => absurd h (by intro h; exact absurd h (by simp))
  let E : S1x1x1024.Idx := fun a => match a with
    | ⟨0, _⟩ => (⟨0, by decide⟩ : Fin 1)
    | ⟨1, _⟩ => (⟨0, by decide⟩ : Fin 1)
    | ⟨2, _⟩ => (⟨(y 2).val, (y 2).isLt⟩ : Fin 1024)
    | ⟨_ + 3, h⟩ => absurd h (by intro h; exact absurd h (by simp))
  have hE : Shape.reshapeEquiv (squeezes_S1x1x1024_S1x1024 : S1x1x1024.Squeezes S1x1024).numel_eq x = E := by
    refine Shape.reshapeEquiv_eq_of_rowMajor _ ?_
    refine (Shape.rowMajor_val_three (d := ![1, 1, 1024]) E).trans (Eq.trans ?_ (Shape.rowMajor_val_two (d := ![1, 1024]) x).symm)
    show (0 * 1 + 0) * 1024 + (y 2).val = 0 * 1024 + (y 2).val
    omega
  have hx : (dstRow ![k, t, 0] inb).view.emb x = y := by
    show (Rect.unit (s := S2x256x1024) ![k, t, 0] S1x1x1024.size inb).emb (Shape.reshapeEquiv _ x) = y
    rw [hE]
    funext b; fin_cases b
    · exact Fin.ext (show k + 1 * 0 = (y 0).val by omega)
    · exact Fin.ext (show t + 1 * 0 = (y 1).val by omega)
    · exact Fin.ext (show 0 + 1 * (y 2).val = (y 2).val by omega)
  have hw := View.write_emb_of_mem (v := (dstRow ![k, t, 0] inb).view) (Val := Elt F) fd
    ((srcRow ![a, 0] inb').view.read (Elt F) fs) (Finset.mem_univ x)
  rw [hx] at hw
  refine hw.trans ?_
  symm
  refine hg y hy _ ?_ ?_
  · show a + 1 * 0 = a; omega
  · show 0 + 1 * (y 2).val = (y 2).val; omega

/-- The amount one row's transfer credits. -/
def N : ℕ := (Memref.whole cc0_scratch0 : Memref sig .tc .vmem S2x256x1024 .f32).view.ref.dmaCredit S1x1024 .f32

theorem N_pos : 0 < N := sig.dmaCredit_pos _ _ _ S1x1024 .f32 (by decide)

theorem dstRow_credit (off : Fin 3 → ℕ) (inb) : (dstRow off inb).view.dmaCredit = N := rfl

end Cert.Combine

end
-- ==== Proof.CombineTrip.lean ====
/-
  The combine kernel's two loops, trip by trip: a trip of the first has a token's two rows fetched, one into each of the
  two buffers, a trip of the second waits for two of the 512 transfers.
-/
module

public import proofs.«01_k».proof.Proof.CombineRows
public import Idealize.ShloMosaic.Lib.Pipeline.FrameValue
public import Idealize.ShloMosaic.Lib.Pipeline.FrameBody
public import Idealize.SL.BI.BigOpNat

@[expose] public section

noncomputable section

namespace Cert.Combine

open Cert.Kernel5Ideal Cert.Kernel5Ideal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

/-- The resources: the pipeline's algebra with the counters a batch of transfers on one semaphore is shared by. -/
local notation "𝕄" => MT nD τ sig Unit (Elt F) ℕ (Pipeline.UD sig nD τ) ℕ

variable (c : Dev nD)

/-! ### What a point holds -/

/-- Row `t` of buffer `k` at contents `f`; row `r` of the experts' rows at a share. -/
abbrev heldD (f : S2x256x1024.Idx → Elt F .f32) (k t : ℕ) : sProp 𝕄 :=
  (Memref.whole cc0_scratch0 : Memref sig .tc .vmem S2x256x1024 .f32).view.loc (c : Thread nD τ) ↦[rowD k t]{fullShare} f
abbrev heldS (q : PosShare TreeShare) (f : S73728x1024.Idx → Elt F .f32) (r : ℕ) : sProp 𝕄 :=
  (Memref.whole main_arg0 : Memref sig .tc .hbm S73728x1024 .f32).view.loc (c : Thread nD τ) ↦[rowS r]{q} f

/-- What the transfer into buffer `k` of trip `t` delivers: the buffer's row at its new contents, the share of the
    experts' row it read. -/
abbrev out (k : ℕ) (q : ℕ → PosShare TreeShare) (g : S2x256x1024.Idx → Elt F .f32) (fh : S73728x1024.Idx → Elt F .f32) (D : ℕ → BitVec 32) (t : ℕ) : sProp 𝕄 :=
  iprop(heldD c g k t ∗ heldS c (q t) fh (D t).toNat)

abbrev deliv (q0 q1 : ℕ → PosShare TreeShare) (g : S2x256x1024.Idx → Elt F .f32) (fh : S73728x1024.Idx → Elt F .f32) (D0 D1 : ℕ → BitVec 32) : Fin (2 * 256) → sProp 𝕄 :=
  Ring.interleaved 256 (out c 0 q0 g fh D0) (out c 1 q1 g fh D1)

abbrev batch (q0 q1 : ℕ → PosShare TreeShare) (g : S2x256x1024.Idx → Elt F .f32) (fh : S73728x1024.Idx → Elt F .f32) (D0 D1 : ℕ → BitVec 32) (j u : ℕ) : sProp 𝕄 :=
  Transfers.Batch (countersEmb) (c : Thread nD τ) (.dma cc0_scratch1.sem) () N (deliv c q0 q1 g fh D0 D1) j u

/-- The rows a trip of the first loop fetches and where to, before it. -/
abbrev pack (q0 q1 : ℕ → PosShare TreeShare) (f : S2x256x1024.Idx → Elt F .f32) (fh : S73728x1024.Idx → Elt F .f32) (D0 D1 : ℕ → BitVec 32) (t : ℕ) : sProp 𝕄 :=
  iprop(out c 0 q0 f fh D0 t ∗ out c 1 q1 f fh D1 t)

/-- The two tables, as the loops read them. -/
abbrev tabs (qp qx : PosShare TreeShare) (P : S32.Idx → BitVec 32) (arg3 : Memref sig .tc .smem S1x1x1024 .i32)
    (blk : arg3.view.ty.Contents (Elt F)) : sProp 𝕄 :=
  iprop(((Memref.whole main_arg2 : Memref sig .tc .smem S32 .i32).view.loc (c : Thread nD τ) ↦{qp} P)
    ∗ (arg3.view.loc (c : Thread nD τ) ↦{qx} blk))

variable (i : grid0.Coords) (arg3 : Memref sig .tc .smem S1x1x1024 .i32) (harg3 : arg3.IsWhole) (qp qx : PosShare TreeShare)
variable (q0 q1 : ℕ → PosShare TreeShare)
variable (P : S32.Idx → BitVec 32) (X : S1x1x1024.Idx → BitVec 32) (blk : arg3.view.ty.Contents (Elt F))
variable (f g : S2x256x1024.Idx → Elt F .f32) (fh : S73728x1024.Idx → Elt F .f32)

/-- The contents the two buffers are to have: row `t` of buffer 0 the first of token `t`'s experts' rows, row `t` of
    buffer 1 the second's. -/
def Lands : Prop := ∀ t < 256, ∀ k r, ((k = 0 ∧ r = (d0 P X t).toNat) ∨ (k = 1 ∧ r = (d1 P X t).toNat)) →
  ∀ y ∈ rowD k t, ∀ z : S73728x1024.Idx, (z 0).val = r → (z 1).val = (y 2).val → g y = fh z

/-- Before trip `k` of the first loop. -/
def issueAt (k : ℕ) (_ : Unit) : sProp 𝕄 :=
  iprop(tabs c qp qx P arg3 blk ∗ batch c q0 q1 g fh (d0 P X) (d1 P X) (2 * k) 0
    ∗ bigSep (Finset.Ico k 256) (pack c q0 q1 f fh (d0 P X) (d1 P X)))

omit [FloatOps F] in
/-- A source row as the transfer's source view spells it. -/
theorem heldS_view (q : PosShare TreeShare) (off : Fin 2 → ℕ) (inb) (r : ℕ) (h : off = ![r, 0]) :
    heldS c q fh r ⊢ ((srcRow off inb).view.loc (c : Thread nD τ) ↦[(srcRow off inb).view.set]{q} fh : sProp 𝕄) := by
  rw [srcRow_set off inb r h]

/-- A row's transfer done: the buffer's row at its new contents, the source's row back. -/
theorem landed (q : PosShare TreeShare) (off : Fin 3 → ℕ) (off' : Fin 2 → ℕ) (inb inb') (k t a : ℕ) (h : off = ![k, t, 0]) (h' : off' = ![a, 0])
    (hg : ∀ y ∈ rowD k t, ∀ z : S73728x1024.Idx, (z 0).val = a → (z 1).val = (y 2).val → g y = fh z) :
    iprop(((dstRow off inb).view.loc (c : Thread nD τ) ↦[rowD k t]{fullShare}
        ((dstRow off inb).view.write (Elt F) f ((srcRow off' inb').view.read (Elt F) fh) Finset.univ))
      ∗ ((srcRow off' inb').view.loc (c : Thread nD τ) ↦[(srcRow off' inb').view.set]{q} fh)) ⊢ iprop(heldD c g k t ∗ heldS c q fh a) := by
  rw [srcRow_set off' inb' a h', pointsTo_congr (fun y hy => write_row off off' inb inb' k t a h h' f fh g hg y hy)]

/-- A row asked for: the source's row at a share and the buffer's row whole go into the batch, whose next delivery is
    the two of them back, the buffer's at `g`. -/
theorem wp_send (q : PosShare TreeShare) (off : Fin 3 → ℕ) (off' : Fin 2 → ℕ) (inb inb') (k t a : ℕ) (h : off = ![k, t, 0]) (h' : off' = ![a, 0])
    (hg : ∀ y ∈ rowD k t, ∀ z : S73728x1024.Idx, (z 0).val = a → (z 1).val = (y 2).val → g y = fh z)
    (D : Fin (2 * 256) → sProp 𝕄) (j : ℕ) (hj : j < 2 * 256) (hD : D ⟨j, hj⟩ = iprop(heldD c g k t ∗ heldS c q fh a))
    (hsrc) (hdst) (hsem) (K : PUnit → Prog (TpuEff nD τ sig (Elt F) Λ₀ .tc) PUnit) (Q : PUnit → sProp 𝕄) :
    iprop(heldS c q fh a ∗ heldD c f k t ∗ Transfers.Batch (countersEmb) (c : Thread nD τ) (.dma cc0_scratch1.sem) () N D j 0)
      ⊢ iprop((Transfers.Batch (countersEmb) (c : Thread nD τ) (.dma cc0_scratch1.sem) () N D (j + 1) 0
            -∗ wp frame (wpE (defs₀ (F := F)) Variants.none (c : Thread nD τ) none) Set.univ (K ⟨⟩) Q)
          -∗ wp frame (wpE (defs₀ (F := F)) Variants.none (c : Thread nD τ) none) Set.univ
            (.op (.enqueueDma (srcRow off' inb') (.here (dstRow off inb)) (.dma cc0_scratch1.sem) hsrc hdst hsem) K) Q) := by
  have hL := (landed c f g fh q off off' inb inb' k t a h h' hg).trans (Entails.of_eq hD.symm)
  have := Transfers.wp_dmaBatch (countersEmb (U := Pipeline.UD sig nD τ)) (defs := defs₀ (F := F)) (Q := Q) Variants.none (c : Thread nD τ) none
    (src := srcRow off' inb') (dst := dstRow off inb) (via := .same) (sm := .dma cc0_scratch1.sem) (hsrc := hsrc) (hdst := hdst) (hsem := hsem) (k := K)
    (q := q) (fs := fh) (fd := f) (Sd := rowD k t) (D := D) (u := 0) () N (dstRow_credit off inb) (Finset.subset_of_eq (dstRow_set _ _ _ _ h)) hj (Nat.zero_le _) hL
  iintro ⟨HS, HD, HB⟩
  ihave HS := (heldS_view c fh q off' inb' _ h') $$ HS
  iapply this
  isplitl [HS]; · iexact HS
  isplitl [HD]; · iexact HD
  iexact HB

variable (arg5 : Memref sig .tc .vmem S1x256x1024 .f32) (harg5 : arg5.IsWhole) (arg6 : Memref sig .tc .vmem S1x1x1024 .f32) (harg6 : arg6.IsWhole)
  (arg7 : Memref sig .tc .vmem S1x256x128 .f32) (harg7 : arg7.IsWhole) (arg8 : Memref sig .tc .vmem S1x1024 .f32) (harg8 : arg8.IsWhole)
  (arg9 : Memref sig .tc .vmem S1x256x1024 .f32) (harg9 : arg9.IsWhole)

theorem issue_step (hX : arg3.view.read (Elt F) blk = X) (hr : InRange P X) (hl : Lands P X g fh)
    (k : Fin k0_t1_loop.trips) (acc : Unit) :
    issueAt c arg3 qp qx q0 q1 P X blk f g fh k.val acc
      ⊢ wp frame (wpE (defs₀ (F := F)) Variants.none (c : Thread nD τ) none) Set.univ
          (k0_t1_body (F := F) i (Memref.whole main_arg2) (Memref.isWhole_whole _) arg3 harg3 (Memref.whole main_arg0) (Memref.isWhole_whole _)
            arg5 harg5 arg6 harg6 arg7 harg7 arg8 harg8 arg9 harg9 (Memref.whole cc0_scratch0) (Memref.isWhole_whole _) cc0_scratch1 k acc)
          (issueAt c arg3 qp qx q0 q1 P X blk f g fh (k.val + 1)) := by
  have hk : k.val < 256 := trips1 ▸ k.isLt
  unfold issueAt
  rw [BI.bigSep_Ico_succ_bot hk]
  dsimp only [tabs, pack, out]
  unfold k0_t1_body
  rw [k0_part1_eq_skeleton]; unfold k0_part1_skel
  simp only [smemLoad, Prog.lift, Prog.bind_op, Prog.bind_ret, Prog.pure_eq_ret, smemLoadElt_bind]
  iintro ⟨⟨HP, HX⟩, HB, ⟨⟨HD0, HS0⟩, ⟨HD1, HS1⟩⟩, Hrest⟩
  named_smem HX (X (ix (4 * k.val))) ((read_word arg3 blk X hX _ _ _ (by omega) (off1_eq k) _).symm)
  have hc1 : k0_chk1 (X (ix (4 * k.val))) := chk_e _ (hr.e0 _ hk)
  iapply (wp_assume _ _ _ _ hc1)
  named_smem HP (P (ixp (X (ix (4 * k.val))).toNat)) ((read_first (F := F) P _ _ _ (hr.e0 _ hk) rfl _).symm)
  named_smem HX (X (ix (4 * k.val + 2))) ((read_word arg3 blk X hX _ _ _ (by omega) (off3_eq k) _).symm)
  have hc3 : k0_chk3 (P (ixp (X (ix (4 * k.val))).toNat)) (X (ix (4 * k.val + 2))) := chk_r _ (hr.r0 _ hk)
  iapply (wp_assume _ _ _ _ hc3)
  named_smem HX (X (ix (4 * k.val + 1))) ((read_word arg3 blk X hX _ _ _ (by omega) (off4_eq k) _).symm)
  have hc2 : k0_chk2 (X (ix (4 * k.val + 1))) := chk_e _ (hr.e1 _ hk)
  iapply (wp_assume _ _ _ _ hc2)
  named_smem HP (P (ixp (X (ix (4 * k.val + 1))).toNat)) ((read_first (F := F) P _ _ _ (hr.e1 _ hk) rfl _).symm)
  named_smem HX (X (ix (4 * k.val + 3))) ((read_word arg3 blk X hX _ _ _ (by omega) (off6_eq k) _).symm)
  have hc4 : k0_chk4 (P (ixp (X (ix (4 * k.val + 1))).toNat)) (X (ix (4 * k.val + 3))) := chk_r _ (hr.r1 _ hk)
  iapply (wp_assume _ _ _ _ hc4)
  iapply (wp_send c f g fh (q0 k.val) _ _ (k0_off7_inb k) _ 0 k.val (d0 P X k.val).toNat (off7_eq k) rfl (hl _ hk _ _ (.inl ⟨rfl, rfl⟩))
    (deliv c q0 q1 g fh (d0 P X) (d1 P X)) (2 * k.val) (by omega) (Ring.interleaved_even 256 _ _ k.val (by omega))) $$ [HD0 HS0 HB]
  · isplitl [HS0]; · iexact HS0
    isplitl [HD0]; · iexact HD0
    iexact HB
  iintro HB
  iapply (wp_send c f g fh (q1 k.val) _ _ (k0_off9_inb k) _ 1 k.val (d1 P X k.val).toNat (off9_eq k) rfl (hl _ hk _ _ (.inr ⟨rfl, rfl⟩))
    (deliv c q0 q1 g fh (d0 P X) (d1 P X)) (2 * k.val + 1) (by omega) (Ring.interleaved_odd 256 _ _ k.val (by omega))) $$ [HD1 HS1 HB]
  · isplitl [HS1]; · iexact HS1
    isplitl [HD1]; · iexact HD1
    iexact HB
  iintro HB
  rw [wp_ret]
  imodintro
  isplitl [HP HX]
  · isplitl [HP] <;> iassumption
  isplitl [HB]; · iexact HB
  iexact Hrest

/-! ### The second loop -/

/-- The semaphore after `u` waits: the batch with `u` transfers waited for, or — all waited for — the semaphore at
    zero and every delivery. -/
def waited (D : Fin (2 * 256) → sProp 𝕄) (u : ℕ) : sProp 𝕄 :=
  if u < 2 * 256 then Transfers.Batch (countersEmb) (c : Thread nD τ) (.dma cc0_scratch1.sem) () N D (2 * 256) (u * N)
  else iprop(bigSep Finset.univ D ∗ semVal ((c : Thread nD τ), SemLoc.dma cc0_scratch1.sem) 0)

/-- What the core owes while it waits. -/
abbrev owing : sProp 𝕄 := iprop(∃ W, owes (c : Thread nD τ) 0 W)

/-- One wait. -/
theorem wp_await (D : Fin (2 * 256) → sProp 𝕄) [∀ t, BI.Storable (upEmb : UEmb _ 𝕄) (D t)] (off : Fin 3 → ℕ) (off' : Fin 2 → ℕ) (inb inb') (u : ℕ) (hu : u < 2 * 256)
    (hsrc) (hdst) (K : PUnit → Prog (TpuEff nD τ sig (Elt F) Λ₀ .tc) PUnit) (Q : PUnit → sProp 𝕄) :
    iprop(waited c D u ∗ owing c)
      ⊢ iprop((iprop(waited c D (u + 1) ∗ owing c)
            -∗ wp frame (wpE (defs₀ (F := F)) Variants.none (c : Thread nD τ) none) Set.univ (K ⟨⟩) Q)
          -∗ wp frame (wpE (defs₀ (F := F)) Variants.none (c : Thread nD τ) none) Set.univ
            (.op (.waitDma2 cc0_scratch1.sem (srcRow off' inb') (dstRow off inb) hsrc hdst) K) Q) := by
  unfold waited owing
  rw [if_pos hu]
  by_cases h : u + 1 < 2 * 256
  · rw [if_pos h]
    have hlt : u * N + N < N * (2 * 256) := by
      have := Nat.mul_lt_mul_of_pos_right h N_pos
      rw [Nat.mul_comm N]; rwa [Nat.succ_mul] at this
    iintro ⟨HB, ⟨%W, HO⟩⟩ HK
    have hw := fun W => Transfers.wp_waitBatch (countersEmb (U := Pipeline.UD sig nD τ)) (defs := defs₀ (F := F)) (Q := Q) Variants.none (c : Thread nD τ) none
      (sem := cc0_scratch1.sem) (srcw := srcRow off' inb') (dstw := dstRow off inb) (hsrc := hsrc) (hdst := hdst) (k := K) () (dstRow_credit off inb)
      (D := D) hlt (W := W)
    iapply (hw W) $$ [HB HO]
    · isplitl [HB] <;> iassumption
    iintro ⟨HB, HO⟩
    iapply HK
    rw [show (u + 1) * N = u * N + N from Nat.succ_mul u N]
    isplitl [HB]; · iexact HB
    iexists _; iexact HO
  · rw [if_neg h]
    have heq : u * N + N = N * (2 * 256) := by
      have : u + 1 = 2 * 256 := by omega
      rw [Nat.mul_comm N, ← this, Nat.succ_mul]
    iintro ⟨HB, ⟨%W, HO⟩⟩ HK
    have hw := fun W => Transfers.wp_waitBatchLast (countersEmb (U := Pipeline.UD sig nD τ)) (defs := defs₀ (F := F)) (Q := Q) Variants.none (c : Thread nD τ) none
      (sem := cc0_scratch1.sem) (srcw := srcRow off' inb') (dstw := dstRow off inb) (hsrc := hsrc) (hdst := hdst) (k := K) () (dstRow_credit off inb)
      (D := D) N_pos heq (W := W)
    iapply (hw W) $$ [HB HO]
    · isplitl [HB] <;> iassumption
    iintro ⟨HD, HC, HO⟩
    iapply HK
    isplitl [HD HC]
    · isplitl [HD] <;> iassumption
    iexists _; iexact HO

/-- Before trip `k` of the second loop. -/
def drainAt (k : ℕ) (_ : Unit) : sProp 𝕄 :=
  iprop(tabs c qp qx P arg3 blk ∗ waited c (deliv c q0 q1 g fh (d0 P X) (d1 P X)) (2 * k) ∗ owing c)

theorem drain_step (hX : arg3.view.read (Elt F) blk = X) (hr : InRange P X)
    (k : Fin k0_t2_loop.trips) (acc : Unit) :
    drainAt c arg3 qp qx q0 q1 P X blk g fh k.val acc
      ⊢ wp frame (wpE (defs₀ (F := F)) Variants.none (c : Thread nD τ) none) Set.univ
          (k0_t2_body (F := F) i (Memref.whole main_arg2) (Memref.isWhole_whole _) arg3 harg3 (Memref.whole main_arg0) (Memref.isWhole_whole _)
            arg5 harg5 arg6 harg6 arg7 harg7 arg8 harg8 arg9 harg9 (Memref.whole cc0_scratch0) (Memref.isWhole_whole _) cc0_scratch1 k acc)
          (drainAt c arg3 qp qx q0 q1 P X blk g fh (k.val + 1)) := by
  have hk : k.val < 256 := trips2 ▸ k.isLt
  unfold drainAt
  unfold k0_t2_body
  rw [k0_part2_eq_skeleton]; unfold k0_part2_skel
  simp only [smemLoad, Prog.lift, Prog.bind_op, Prog.bind_ret, Prog.pure_eq_ret, smemLoadElt_bind]
  iintro ⟨⟨HP, HX⟩, HB, HO⟩
  named_smem HX (X (ix (4 * k.val))) ((read_word arg3 blk X hX _ _ _ (by omega) (off11_eq k) _).symm)
  have hc1 : k0_chk5 (X (ix (4 * k.val))) := chk_e _ (hr.e0 _ hk)
  iapply (wp_assume _ _ _ _ hc1)
  named_smem HP (P (ixp (X (ix (4 * k.val))).toNat)) ((read_first (F := F) P _ _ _ (hr.e0 _ hk) rfl _).symm)
  named_smem HX (X (ix (4 * k.val + 2))) ((read_word arg3 blk X hX _ _ _ (by omega) (off13_eq k) _).symm)
  have hc3 : k0_chk7 (P (ixp (X (ix (4 * k.val))).toNat)) (X (ix (4 * k.val + 2))) := chk_r _ (hr.r0 _ hk)
  iapply (wp_assume _ _ _ _ hc3)
  named_smem HX (X (ix (4 * k.val + 1))) ((read_word arg3 blk X hX _ _ _ (by omega) (off14_eq k) _).symm)
  have hc2 : k0_chk6 (X (ix (4 * k.val + 1))) := chk_e _ (hr.e1 _ hk)
  iapply (wp_assume _ _ _ _ hc2)
  named_smem HP (P (ixp (X (ix (4 * k.val + 1))).toNat)) ((read_first (F := F) P _ _ _ (hr.e1 _ hk) rfl _).symm)
  named_smem HX (X (ix (4 * k.val + 3))) ((read_word arg3 blk X hX _ _ _ (by omega) (off16_eq k) _).symm)
  have hc4 : k0_chk8 (P (ixp (X (ix (4 * k.val + 1))).toNat)) (X (ix (4 * k.val + 3))) := chk_r _ (hr.r1 _ hk)
  iapply (wp_assume _ _ _ _ hc4)
  iapply (wp_await c (deliv c q0 q1 g fh (d0 P X) (d1 P X)) _ _ (k0_off17_inb k) _ (2 * k.val) (by omega)) $$ [HB HO]
  · isplitl [HB] <;> iassumption
  iintro ⟨HB, HO⟩
  iapply (wp_await c (deliv c q0 q1 g fh (d0 P X) (d1 P X)) _ _ (k0_off19_inb k) _ (2 * k.val + 1) (by omega)) $$ [HB HO]
  · isplitl [HB] <;> iassumption
  iintro ⟨HB, HO⟩
  rw [wp_ret]
  imodintro
  isplitl [HP HX]
  · isplitl [HP] <;> iassumption
  isplitl [HB]; · iexact HB
  iexact HO

end Cert.Combine

end
-- ==== Proof.CombinePoint.lean ====
/-
  The combine kernel at one grid point: its 512 rows fetched into the two buffers, weighed, added to the residual
  stream and normalised.
-/
module

public import proofs.«01_k».proof.Proof.CombineTrip
public import Idealize.ShloMosaic.Lib.ShareLeaves
public import Idealize.ShloMosaic.Lib.Pipeline.ReadBack
public import Idealize.ShloMosaic.Lib.VecWindow

@[expose] public section

noncomputable section

namespace Cert.Combine

open Cert.Kernel5Ideal Cert.Kernel5Ideal.Gen
open Idealize.ShloMosaic Idealize.ShloMosaic.TcCoe Idealize.ShloMosaic.Tactic Idealize.ShloMosaic.Pipeline
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

/-- The resources: the pipeline's algebra with the counters a batch of transfers on one semaphore is shared by. -/
local notation "𝕄" => MT nD τ sig Unit (Elt F) ℕ (Pipeline.UD sig nD τ) ℕ

variable (c : Dev nD)

/-- Both buffers whole, and all the experts' rows. -/
abbrev wholeD (f : S2x256x1024.Idx → Elt F .f32) : sProp 𝕄 :=
  (Memref.whole cc0_scratch0 : Memref sig .tc .vmem S2x256x1024 .f32).view.loc (c : Thread nD τ) ↦{fullShare} f
abbrev wholeS (f : S73728x1024.Idx → Elt F .f32) : sProp 𝕄 :=
  (Memref.whole main_arg0 : Memref sig .tc .hbm S73728x1024 .f32).view.loc (c : Thread nD τ) ↦{fullShare} f

/-! ### What the buffers are to hold -/

/-- Element `j` of row `n` of the experts' rows. -/
def at73728 (n : ℕ) (j : Fin 1024) : S73728x1024.Idx := fun a => match a with
  | ⟨0, _⟩ => (⟨n % 73728, Nat.mod_lt _ (by decide)⟩ : Fin 73728)
  | ⟨1, _⟩ => j
  | ⟨_ + 2, h⟩ => absurd h (by intro h; exact absurd h (by simp))

/-- The experts' rows the tables name, fetched: buffer 0 the first of each token's two, buffer 1 the second. -/
def fetched (P : S32.Idx → BitVec 32) (X : S1x1x1024.Idx → BitVec 32) (fh : S73728x1024.Idx → Elt F .f32) : S2x256x1024.Idx → Elt F .f32 :=
  fun y => fh (at73728 (if (y 0).val = 0 then d0 P X (y 1).val else d1 P X (y 1).val).toNat (y 2))

omit [FloatOps F] in
theorem fetched_lands (P : S32.Idx → BitVec 32) (X : S1x1x1024.Idx → BitVec 32) (fh : S73728x1024.Idx → Elt F .f32) (hr : InRange P X) :
    Lands P X (fetched P X fh) fh := by
  intro t ht k r h y hy z hz0 hz1
  obtain ⟨hy0, hy1⟩ := (mem_rowD k t y).mp hy
  unfold fetched
  rw [hy0, hy1]
  refine congrArg fh (funext fun a => Fin.ext ?_)
  rcases h with ⟨rfl, rfl⟩ | ⟨rfl, rfl⟩
  · match a with
    | ⟨0, _⟩ =>
      show (if (0 : ℕ) = 0 then d0 P X t else d1 P X t).toNat % 73728 = (z 0).val
      rw [if_pos rfl, hz0]; exact Nat.mod_eq_of_lt (hr.r0 t ht)
    | ⟨1, _⟩ => exact hz1.symm
  · match a with
    | ⟨0, _⟩ =>
      show (if (1 : ℕ) = 0 then d0 P X t else d1 P X t).toNat % 73728 = (z 0).val
      rw [if_neg (by decide), hz0]; exact Nat.mod_eq_of_lt (hr.r1 t ht)
    | ⟨1, _⟩ => exact hz1.symm

/-- One of the two buffers. -/
def buf (k : Fin 2) (g : S2x256x1024.Idx → Elt F .f32) : Vec F S1x256x1024 .f32 :=
  fun y => g (fun | ⟨0, _⟩ => k | ⟨1, _⟩ => y 1 | ⟨2, _⟩ => y 2)

omit [FloatOps F] in
theorem read_buf0 (g : S2x256x1024.Idx → Elt F .f32) (inb) :
    (Memref.whole cc0_scratch0 : Memref sig .tc .vmem S2x256x1024 .f32).view.readAt (Elt F) (Rect.unit (s := S2x256x1024) ![0, 0, 0] S1x256x1024.size inb).toLoadRect g = buf 0 g := by
  funext y
  refine congrArg g (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

omit [FloatOps F] in
theorem read_buf1 (g : S2x256x1024.Idx → Elt F .f32) (inb) :
    (Memref.whole cc0_scratch0 : Memref sig .tc .vmem S2x256x1024 .f32).view.readAt (Elt F) (Rect.unit (s := S2x256x1024) ![1, 0, 0] S1x256x1024.size inb).toLoadRect g = buf 1 g := by
  funext y
  refine congrArg g (funext fun a => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega

/-- What a grid point leaves: of the routing weights, the two buffers, the residual stream, the gate and the norm's weights. -/
def result (g : S2x256x1024.Idx → Elt F .f32) (x1 : Vec F S1x256x1024 .f32) (gt : Vec F S1x1x1024 .f32) (rt : Vec F S1x256x128 .f32)
    (gf : Vec F S1x1024 .f32) : Vec F S1x256x1024 .f32 :=
  k0_pay1 (k0_pay2 rt (buf 0 g) (buf 1 g) x1 gt) (k0_pay3 rt (buf 0 g) (buf 1 g) x1 gt) gf

/-! ### The rows taken apart -/

theorem rowD_disjoint {k t k' t' : ℕ} (h : k ≠ k' ∨ t ≠ t') : Disjoint (rowD k t) (rowD k' t') := by
  rw [Finset.disjoint_left]; intro y hy hy'; rw [mem_rowD] at hy hy'
  rcases h with h | h
  · exact h (hy.1.symm.trans hy'.1)
  · exact h (hy.2.symm.trans hy'.2)

/-- The elements of buffer `k`. -/
abbrev famD (k : ℕ) : Finset S2x256x1024.Idx := (Finset.range 256).biUnion fun t => rowD k t

theorem mem_famD (k : ℕ) (y : S2x256x1024.Idx) : y ∈ famD k ↔ (y 0).val = k := by
  have h1 : (y 1).val < 256 := (y 1).isLt
  constructor
  · intro h; obtain ⟨t, _, h⟩ := Finset.mem_biUnion.mp h; exact ((mem_rowD k t y).mp h).1
  · intro h; exact Finset.mem_biUnion.mpr ⟨(y 1).val, Finset.mem_range.mpr h1, (mem_rowD _ _ y).mpr ⟨h, rfl⟩⟩

theorem famD_compl : Finset.univ \ famD 0 = famD 1 := by
  ext y
  have h0 : (y 0).val < 2 := (y 0).isLt
  rw [Finset.mem_sdiff, mem_famD, mem_famD]
  constructor
  · intro h; have := h.2; omega
  · intro h; exact ⟨Finset.mem_univ _, by omega⟩

omit [FloatOps F] in
theorem famD_rows (k : ℕ) (f : S2x256x1024.Idx → Elt F .f32) :
    ((Memref.whole cc0_scratch0 : Memref sig .tc .vmem S2x256x1024 .f32).view.loc (c : Thread nD τ) ↦[famD k]{fullShare} f : sProp 𝕄)
      = bigSep (Finset.range 256) fun t => heldD c f k t :=
  pointsTo_biUnion _ _ fun t _ t' _ hne => rowD_disjoint (.inr hne)

omit [FloatOps F] in
/-- The two buffers are the rows of the first and the rows of the second. -/
theorem dest_split (f : S2x256x1024.Idx → Elt F .f32) :
    (wholeD c f : sProp 𝕄) ⊣⊢ iprop((bigSep (Finset.range 256) fun t => heldD c f 0 t) ∗ (bigSep (Finset.range 256) fun t => heldD c f 1 t)) := by
  rw [← famD_rows c 0, ← famD_rows c 1, ← famD_compl]
  exact pointsTo_split_subset (Finset.subset_univ (famD 0))

/-- The share trip `t`'s first, and its second, transfer reads the experts' rows at. -/
def share0 (t : ℕ) : PosShare TreeShare := ShareLeaves.leaf 8 fullShare.left ⟨t % 256, Nat.mod_lt _ (by decide)⟩
def share1 (t : ℕ) : PosShare TreeShare := ShareLeaves.leaf 8 fullShare.right ⟨t % 256, Nat.mod_lt _ (by decide)⟩

/-- The experts' rows other than row `r`, at a share. -/
abbrev restS (q : PosShare TreeShare) (f : S73728x1024.Idx → Elt F .f32) (r : ℕ) : sProp 𝕄 :=
  (Memref.whole main_arg0 : Memref sig .tc .hbm S73728x1024 .f32).view.loc (c : Thread nD τ) ↦[Finset.univ \ rowS r]{q} f

omit [FloatOps F] in
/-- One half of the experts' rows is 256 shares of them, and each of these the row one transfer reads and the others. -/
theorem half_split (q : PosShare TreeShare) (fh : S73728x1024.Idx → Elt F .f32) (D : ℕ → BitVec 32) (s : ℕ → PosShare TreeShare)
    (hs : ∀ t (h : t < 256), s t = ShareLeaves.leaf 8 q ⟨t, h⟩) :
    ((Memref.whole main_arg0 : Memref sig .tc .hbm S73728x1024 .f32).view.loc (c : Thread nD τ) ↦{q} fh : sProp 𝕄)
      = iprop((bigSep (Finset.range 256) fun t => heldS c (s t) fh (D t).toNat) ∗ (bigSep (Finset.range 256) fun t => restS c (s t) fh (D t).toNat)) := by
  refine (ShareLeaves.pointsTo_leaves _ _ 8 q).trans ?_
  refine (Ring.bigSep_fin_eq_range 256 _ (fun t => iprop(heldS c (s t) fh (D t).toNat ∗ restS c (s t) fh (D t).toNat)) fun t h => ?_).trans (BI.bigSep_sep _ _ _)
  have e := pointsTo_split_subset (ℓ := (Memref.whole main_arg0 : Memref sig .tc .hbm S73728x1024 .f32).view.loc (c : Thread nD τ)) (f := fh) (q := s t)
    (Ix := Unit) (Name := ℕ) (U := Pipeline.UD sig nD τ) (Lvl := ℕ) (Finset.subset_univ (rowS (D t).toNat))
  rw [← hs t h]
  exact (BI.Entails.antisymm e.1 e.2).symm

omit [FloatOps F] in
/-- The experts' rows are what the 512 transfers read and what they leave alone. -/
theorem source_split (D0 D1 : ℕ → BitVec 32) (fh : S73728x1024.Idx → Elt F .f32) :
    (wholeS c fh : sProp 𝕄) ⊣⊢ iprop(((bigSep (Finset.range 256) fun t => heldS c (share0 t) fh (D0 t).toNat) ∗ (bigSep (Finset.range 256) fun t => restS c (share0 t) fh (D0 t).toNat))
      ∗ ((bigSep (Finset.range 256) fun t => heldS c (share1 t) fh (D1 t).toNat) ∗ (bigSep (Finset.range 256) fun t => restS c (share1 t) fh (D1 t).toNat))) := by
  rw [← half_split c fullShare.left fh D0 share0 (fun t h => by unfold share0; congr 1; exact Fin.ext (Nat.mod_eq_of_lt h)),
    ← half_split c fullShare.right fh D1 share1 (fun t h => by unfold share1; congr 1; exact Fin.ext (Nat.mod_eq_of_lt h))]
  exact pointsTo_share (PosShare.mem_left_op_right fullShare)

/-! ### A grid point -/

variable (i : grid0.Coords) (arg3 : Memref sig .tc .smem S1x1x1024 .i32) (harg3 : arg3.IsWhole) (qp qx : PosShare TreeShare)
variable (P : S32.Idx → BitVec 32) (X : S1x1x1024.Idx → BitVec 32) (blk : arg3.view.ty.Contents (Elt F))
variable (f : S2x256x1024.Idx → Elt F .f32) (fh : S73728x1024.Idx → Elt F .f32)

/-- A point's state around its loops: the tables, what the core owes, the semaphore at zero, the buffers, the experts' rows. -/
abbrev pointAt (f : S2x256x1024.Idx → Elt F .f32) : sProp 𝕄 :=
  iprop(tabs c qp qx P arg3 blk ∗ owing c ∗ semVal ((c : Thread nD τ), SemLoc.dma cc0_scratch1.sem) 0 ∗ wholeD c f ∗ wholeS c fh)

variable (arg5 : Memref sig .tc .vmem S1x256x1024 .f32) (harg5 : arg5.IsWhole) (arg6 : Memref sig .tc .vmem S1x1x1024 .f32) (harg6 : arg6.IsWhole)
  (arg7 : Memref sig .tc .vmem S1x256x128 .f32) (harg7 : arg7.IsWhole) (arg8 : Memref sig .tc .vmem S1x1024 .f32) (harg8 : arg8.IsWhole)
  (arg9 : Memref sig .tc .vmem S1x256x1024 .f32) (harg9 : arg9.IsWhole)

/-- The two loops: they fetch the rows the tables name, whatever follows. -/
theorem loops (hX : arg3.view.read (Elt F) blk = X) (hr : InRange P X) {α : Type} (K : Prog (TpuEff nD τ sig (Elt F) Λ₀ .tc) α) (Q : α → sProp 𝕄) :
    iprop(pointAt c arg3 qp qx P blk fh f
        ∗ (pointAt c arg3 qp qx P blk fh (fetched P X fh) -∗ wp frame (wpE (defs₀ (F := F)) Variants.none (c : Thread nD τ) none) Set.univ K Q))
      ⊢ wp frame (wpE (defs₀ (F := F)) Variants.none (c : Thread nD τ) none) Set.univ
          (do
            Scf.Loop.for k0_t1_loop k0_t1_ok ⟨⟩ (k0_t1_body (F := F) i (Memref.whole main_arg2) (Memref.isWhole_whole _) arg3 harg3 (Memref.whole main_arg0) (Memref.isWhole_whole _)
              arg5 harg5 arg6 harg6 arg7 harg7 arg8 harg8 arg9 harg9 (Memref.whole cc0_scratch0) (Memref.isWhole_whole _) cc0_scratch1)
            Scf.Loop.for k0_t2_loop k0_t2_ok ⟨⟩ (k0_t2_body (F := F) i (Memref.whole main_arg2) (Memref.isWhole_whole _) arg3 harg3 (Memref.whole main_arg0) (Memref.isWhole_whole _)
              arg5 harg5 arg6 harg6 arg7 harg7 arg8 harg8 arg9 harg9 (Memref.whole cc0_scratch0) (Memref.isWhole_whole _) cc0_scratch1)
            K) Q := by
  have hl := fetched_lands P X fh hr
  generalize fetched P X fh = g at hl
  unfold pointAt
  iintro ⟨⟨HT, HO, HC, HD, HS⟩, HK⟩
  ihave HS := (source_split c (d0 P X) (d1 P X) fh).1 $$ HS
  ihave HD := (dest_split c f).1 $$ HD
  icases HS with ⟨⟨HS0, HR0⟩, ⟨HS1, HR1⟩⟩
  icases HD with ⟨HD0, HD1⟩
  imod (Transfers.batch_alloc' (Lvl := ℕ) (countersEmb (U := Pipeline.UD sig nD τ)) (c : Thread nD τ) () N
    (deliv c share0 share1 g fh (d0 P X) (d1 P X)) (sm := .dma cc0_scratch1.sem) (E := Set.univ)) $$ HC with HB
  ihave Hp := (show iprop(((bigSep (Finset.range 256) fun t => heldD c f 0 t) ∗ (bigSep (Finset.range 256) fun t => heldS c (share0 t) fh (d0 P X t).toNat))
      ∗ ((bigSep (Finset.range 256) fun t => heldD c f 1 t) ∗ (bigSep (Finset.range 256) fun t => heldS c (share1 t) fh (d1 P X t).toNat)))
      ⊢ (bigSep (Finset.Ico 0 256) (pack c share0 share1 f fh (d0 P X) (d1 P X)) : sProp 𝕄) from by
        rw [← Finset.range_eq_Ico]; unfold pack out
        exact Entails.of_eq ((congrArg₂ BI.sep (BI.bigSep_sep _ _ _).symm (BI.bigSep_sep _ _ _).symm).trans (BI.bigSep_sep _ _ _).symm)) $$ [HD0 HS0 HD1 HS1]
  · isplitl [HD0 HS0]
    · isplitl [HD0] <;> iassumption
    · isplitl [HD1] <;> iassumption
  iapply (Scf.wp_for_bind frame (wpE (defs₀ (F := F)) Variants.none (c : Thread nD τ) none) Set.univ k0_t1_loop.lb k0_t1_loop.ub k0_t1_loop.st k0_t1_ok _ _
    (issueAt c arg3 qp qx share0 share1 P X blk f g fh) (issue_step c i arg3 harg3 qp qx share0 share1 P X blk f g fh arg5 harg5 arg6 harg6 arg7 harg7 arg8 harg8 arg9 harg9 hX hr hl)) $$ [HT HB Hp]
  · unfold issueAt
    isplitl [HT]; · iexact HT
    isplitl [HB]; · iexact HB
    iexact Hp
  iintro %acc HI
  unfold issueAt
  icases HI with ⟨HT, HB, -⟩
  iapply (Scf.wp_for_bind frame (wpE (defs₀ (F := F)) Variants.none (c : Thread nD τ) none) Set.univ k0_t2_loop.lb k0_t2_loop.ub k0_t2_loop.st k0_t2_ok _ _
    (drainAt c arg3 qp qx share0 share1 P X blk g fh) (drain_step c i arg3 harg3 qp qx share0 share1 P X blk g fh arg5 harg5 arg6 harg6 arg7 harg7 arg8 harg8 arg9 harg9 hX hr)) $$ [HT HB HO]
  · unfold drainAt waited
    rw [if_pos (by decide), show Scf.trips k0_t1_loop.lb k0_t1_loop.ub k0_t1_loop.st = 256 from trips1, Nat.mul_zero, Nat.zero_mul]
    isplitl [HT]; · iexact HT
    isplitl [HB]; · iexact HB
    iexact HO
  iintro %acc' HI
  rw [show Scf.trips k0_t2_loop.lb k0_t2_loop.ub k0_t2_loop.st = 256 from trips2]
  unfold drainAt waited
  rw [if_neg (by decide)]
  icases HI with ⟨HT, ⟨HDel, HC⟩, HO⟩
  ihave Hp := (show (bigSep Finset.univ (deliv c share0 share1 g fh (d0 P X) (d1 P X)) : sProp 𝕄)
      ⊢ iprop(((bigSep (Finset.range 256) fun t => heldD c g 0 t) ∗ (bigSep (Finset.range 256) fun t => heldS c (share0 t) fh (d0 P X t).toNat))
      ∗ ((bigSep (Finset.range 256) fun t => heldD c g 1 t) ∗ (bigSep (Finset.range 256) fun t => heldS c (share1 t) fh (d1 P X t).toNat))) from by
        refine (Entails.of_eq (Ring.bigSep_interleaved 256 _ _)).trans (Entails.of_eq ?_)
        exact (congrArg₂ BI.sep (BI.bigSep_sep _ _ _) (BI.bigSep_sep _ _ _))) $$ HDel
  icases Hp with ⟨⟨HD0, HS0⟩, ⟨HD1, HS1⟩⟩
  iapply HK
  isplitl [HT]; · iexact HT
  isplitl [HO]; · iexact HO
  isplitl [HC]; · iexact HC
  isplitl [HD0 HD1]
  · iapply (dest_split c g).2
    isplitl [HD0] <;> iassumption
  · iapply (source_split c (d0 P X) (d1 P X) fh).2
    isplitl [HS0 HR0]
    · isplitl [HS0] <;> iassumption
    · isplitl [HS1] <;> iassumption

/-- One grid point of the kernel: it leaves `result` of the rows the tables name. -/
theorem point (hX : arg3.view.read (Elt F) blk = X) (hr : InRange P X) (x1 : Vec F S1x256x1024 .f32) (gt : Vec F S1x1x1024 .f32) (rt : Vec F S1x256x128 .f32)
    (gf : Vec F S1x1024 .f32) :
    iprop(pointAt c arg3 qp qx P blk fh f ∗ owns (Ix := Unit) (Name := ℕ) (U := Pipeline.UD sig nD τ) (Lvl := ℕ) (c : Thread nD τ) arg5 fullShare x1
        ∗ owns (c : Thread nD τ) arg6 fullShare gt ∗ owns (c : Thread nD τ) arg7 fullShare rt ∗ owns (c : Thread nD τ) arg8 fullShare gf ∗ (∃ d, owns (c : Thread nD τ) arg9 fullShare d))
      ⊢ wp frame (wpE (defs₀ (F := F)) Variants.none (c : Thread nD τ) none) Set.univ
          (cc0_moe_combine_final_norm (F := F) i (Memref.whole main_arg2) (Memref.isWhole_whole _) arg3 harg3 (Memref.whole main_arg0) (Memref.isWhole_whole _)
            arg5 harg5 arg6 harg6 arg7 harg7 arg8 harg8 arg9 harg9 (Memref.whole cc0_scratch0) (Memref.isWhole_whole _) cc0_scratch1)
          (fun _ => iprop(pointAt c arg3 qp qx P blk fh (fetched P X fh) ∗ owns (c : Thread nD τ) arg5 fullShare x1
            ∗ owns (c : Thread nD τ) arg6 fullShare gt ∗ owns (c : Thread nD τ) arg7 fullShare rt ∗ owns (c : Thread nD τ) arg8 fullShare gf
            ∗ owns (c : Thread nD τ) arg9 fullShare (result (fetched P X fh) x1 gt rt gf))) := by
  simp only [cc0_moe_combine_final_norm_eq_skeleton]; unfold cc0_moe_combine_final_norm_skel
  rw [k0_part3_eq_skeleton]; unfold k0_part3_skel
  simp only [bind_assoc]
  iintro ⟨HP, H5, H6, H7, H8, H9⟩
  iapply (loops c i arg3 harg3 qp qx P X blk f fh arg5 harg5 arg6 harg6 arg7 harg7 arg8 harg8 arg9 harg9 hX hr _ _)
  isplitl [HP]; · iexact HP
  generalize fetched P X fh = g
  unfold pointAt owns
  iintro ⟨HT, HO, HC, HD, HS⟩
  icases H5 with ⟨%f5, %hf5, H5⟩
  icases H6 with ⟨%f6, %hf6, H6⟩
  icases H7 with ⟨%f7, %hf7, H7⟩
  icases H8 with ⟨%f8, %hf8, H8⟩
  icases H9 with ⟨%d9, %f9, -, H9⟩
  obtain rfl := harg5.eq_unread hf5; obtain rfl := harg6.eq_unread hf6; obtain rfl := harg7.eq_unread hf7; obtain rfl := harg8.eq_unread hf8
  sl_exec
  sl_step
  isplitl [HT HO HC HD HS]
  · isplitl [HT]; · iexact HT
    isplitl [HO]; · iexact HO
    isplitl [HC]; · iexact HC
    isplitl [HD] <;> iassumption
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  iexists _; isplitr; swap; · iexact H9
  ipureintro
  refine (View.read_writes_full _ _ _ _ _).trans ?_
  unfold result
  rw [View.readAt_full, View.readAt_full, View.readAt_full, View.readAt_full, hf5, hf6, hf7, hf8, read_buf0, read_buf1]

end Cert.Combine

end
-- ==== Proof.Combine.lean ====
/-
  The combine kernel: the launch, its 128 blocks of tokens, and what the memory holds at the end.
-/
module

public import proofs.«01_k».proof.Proof.CombinePoint
public import Idealize.ShloMosaic.Lib.Claim
public import Idealize.ShloMosaic.Lib.Pipeline.ValueKit.Geometry

@[expose] public section

noncomputable section

namespace Cert.Combine

open Cert.Kernel5Ideal Cert.Kernel5Ideal.Gen
open Idealize.ShloMosaic Idealize.ShloMosaic.TcCoe Idealize.ShloMosaic.Tactic Idealize.ShloMosaic.Pipeline
open Idealize.SL Idealize.SL.RA
open Idealize.SL.BI (sProp bigSep bigSep_insert bigSep_empty bigSep_singleton)
open scoped Idealize.SL.BI
open Idealize.SL.BI.BIBase Idealize.SL.BI.Laws Idealize.SL.ProofMode Idealize.SL.Sem

variable {F : FTy → Type} [FloatOps F]

/-- The resources: the pipeline's algebra with the counters a batch of transfers on one semaphore is shared by. -/
local notation "𝕄" => MT nD τ sig Unit (Elt F) ℕ (Pipeline.UD sig nD τ) ℕ

/-! ### The tables as a whole -/

/-- Entry `j` of token `n`'s row of the table of experts and ranks. -/
def ixi (n j : ℕ) : S32768x4.Idx := fun a => match a with
  | ⟨0, _⟩ => (⟨n % 32768, Nat.mod_lt _ (by decide)⟩ : Fin 32768)
  | ⟨1, _⟩ => (⟨j % 4, Nat.mod_lt _ (by decide)⟩ : Fin 4)
  | ⟨_ + 2, h⟩ => absurd h (by intro h; exact absurd h (by simp))

/-- The row at which token `n`'s first, and its second, expert has it. -/
def D0 (P : S32.Idx → BitVec 32) (I : S32768x4.Idx → BitVec 32) (n : ℕ) : BitVec 32 := P (ixp (I (ixi n 0)).toNat) + I (ixi n 2)
def D1 (P : S32.Idx → BitVec 32) (I : S32768x4.Idx → BitVec 32) (n : ℕ) : BitVec 32 := P (ixp (I (ixi n 1)).toNat) + I (ixi n 3)

/-- Tables that can be combined by: the experts are 0 .. 31 and the rows are rows of the experts' array. -/
structure Names (P : S32.Idx → BitVec 32) (I : S32768x4.Idx → BitVec 32) : Prop where
  e0 : ∀ n < 32768, (I (ixi n 0)).toNat < 32
  e1 : ∀ n < 32768, (I (ixi n 1)).toNat < 32
  r0 : ∀ n < 32768, (D0 P I n).toNat < 73728
  r1 : ∀ n < 32768, (D1 P I n).toNat < 73728

/-- `X` is block `t` of the table `I`: 256 tokens' rows. -/
def IsBlock (I : S32768x4.Idx → BitVec 32) (X : S1x1x1024.Idx → BitVec 32) (t : ℕ) : Prop :=
  ∀ k < 256, ∀ j < 4, X (ix (4 * k + j)) = I (ixi (256 * t + k) j)

theorem IsBlock.d0_eq {P I X t} (h : IsBlock I X t) {k : ℕ} (hk : k < 256) : d0 P X k = D0 P I (256 * t + k) := by
  unfold d0 D0
  rw [show X (ix (4 * k)) = I (ixi (256 * t + k) 0) from h k hk 0 (by omega), h k hk 2 (by omega)]
theorem IsBlock.d1_eq {P I X t} (h : IsBlock I X t) {k : ℕ} (hk : k < 256) : d1 P X k = D1 P I (256 * t + k) := by
  unfold d1 D1
  rw [h k hk 1 (by omega), h k hk 3 (by omega)]

theorem IsBlock.inRange {P I X t} (h : IsBlock I X t) (hN : Names P I) (ht : t < 128) : InRange P X where
  e0 k hk := by rw [show X (ix (4 * k)) = I (ixi (256 * t + k) 0) from h k hk 0 (by omega)]; exact hN.e0 _ (by omega)
  e1 k hk := by rw [h k hk 1 (by omega)]; exact hN.e1 _ (by omega)
  r0 k hk := by rw [h.d0_eq hk]; exact hN.r0 _ (by omega)
  r1 k hk := by rw [h.d1_eq hk]; exact hN.r1 _ (by omega)

/-! ### Up to the kernel's call -/

variable (m : (ℓ : Loc nD τ sig) → Buf (Elt F) ℓ)

theorem hostOps0_fresh : (hostOps0 : List (HloOp τ sig (Elt F))).Forall fun op => op.fresh = ∅ := by
  simp only [List.Forall]; repeat' constructor

/-- A core's buffers when the kernel's call is reached. -/
abbrev entry0 (c : Dev nD) (b : Ref sig .tc) : Buf (Elt F) ((c : Thread nD τ).loc b) := StableHlo.after hostOps0 (fun b => m (c, b)) b

theorem hmain0 : Pipeline.HMainP (Ix := Unit) (Name := ℕ) (U := Pipeline.UD sig nD τ) (Lvl := ℕ) pcfgs 0 defs₀ Variants.none m (main (F := F)) (entry0 m) :=
  Pipeline.hmainP_prefix pcfgs 0 defs₀ Variants.none m main hostOps0 hostOps0_sub hostOps0_fresh main_chain

/-- The arguments as launched: the experts' rows, the table of experts and ranks, the experts' first rows, the residual
    stream, the gate, the routing weights, the norm's weights. -/
abbrev rows (c : Dev nD) : S73728x1024.Idx → Elt F .f32 := m ((c : Thread nD τ).loc main_arg0)
abbrev table (c : Dev nD) : S32768x4.Idx → BitVec 32 := m ((c : Thread nD τ).loc main_arg1)
abbrev firsts (c : Dev nD) : S32.Idx → BitVec 32 := m ((c : Thread nD τ).loc main_arg2)
abbrev stream (c : Dev nD) : S4x8192x1024.Idx → Elt F .f32 := m ((c : Thread nD τ).loc main_arg3)
abbrev gate (c : Dev nD) : S4x1x1024.Idx → Elt F .f32 := m ((c : Thread nD τ).loc main_arg4)
abbrev weigh (c : Dev nD) : S4x8192x128.Idx → Elt F .f32 := m ((c : Thread nD τ).loc main_arg5)
abbrev norm (c : Dev nD) : S1024.Idx → Elt F .f32 := m ((c : Thread nD τ).loc main_arg6)

theorem entry_arg0 (c : Dev nD) : entry0 m c main_arg0 = rows m c := by unfold entry0; entry_read; rfl
theorem entry_arg1 (c : Dev nD) : entry0 m c main_arg1 = table m c := by unfold entry0; entry_read; rfl
theorem entry_arg2 (c : Dev nD) : entry0 m c main_arg2 = firsts m c := by unfold entry0; entry_read; rfl
theorem entry_arg3 (c : Dev nD) : entry0 m c main_arg3 = stream m c := by unfold entry0; entry_read; rfl
theorem entry_arg4 (c : Dev nD) : entry0 m c main_arg4 = gate m c := by unfold entry0; entry_read; rfl
theorem entry_arg5 (c : Dev nD) : entry0 m c main_arg5 = weigh m c := by unfold entry0; entry_read; rfl
theorem entry_arg6 (c : Dev nD) : entry0 m c main_arg6 = norm m c := by unfold entry0; entry_read; rfl
theorem entry_v0 (c : Dev nD) : entry0 m c main_v0 = shapeCast S128x1x1024 (table m c) shapeCasts_S32768x4_S128x1x1024 := by
  unfold entry0; entry_read; rfl
theorem entry_v1 (c : Dev nD) : entry0 m c main_v1 = shapeCast S1x1024 (norm m c) shapeCasts_S1024_S1x1024 := by
  unfold entry0; entry_read; rfl

/-- The prefetched table's contents, as the call takes them. -/
abbrev adm : (p : Fin 1) → (pcfgs (F := F) p).Adm := fun _ => ⟨fun j => entry0 m 0 (pre0.ref j), trivial⟩
abbrev cfgM : Pipeline.Cfg sig Λ₀ := cfg0 (adm m 0)

theorem entry_pre (c : Dev nD) (j : Fin 1) : entry0 m c (pre0.ref j) = (adm m 0).1 j := by
  obtain rfl : c = 0 := Subsingleton.elim _ _; rfl

/-- The grid's coordinates: the batch entry, and the block of 256 tokens in it. -/
theorem coords0 (t : Fin grid0.N) : (grid0.coords t 0).val = t.val / 32 := by
  have ht : t.val < 128 := t.isLt
  rw [Pipeline.Grid.coords_val t 0 (S := 32) (B := 4) (by decide) (by decide)]; omega
theorem coords1 (t : Fin grid0.N) : (grid0.coords t 1).val = t.val % 32 := by
  rw [Pipeline.Grid.coords_val t 1 (S := 1) (B := 32) (by decide) (by decide)]; omega

/-- The blocks point `t` works on. -/
def block (c : Dev nD) (t : Fin (cfgM m).N) : S1x1x1024.Idx → BitVec 32 := (((cfgM m).win 0).blk t).view.read (Elt F) (entry0 m c main_v0)
def streamAt (c : Dev nD) (t : Fin (cfgM m).N) : Vec F S1x256x1024 .f32 := (((cfgM m).win 1).blk t).view.read (Elt F) (entry0 m c main_arg3)
def gateAt (c : Dev nD) (t : Fin (cfgM m).N) : Vec F S1x1x1024 .f32 := (((cfgM m).win 2).blk t).view.read (Elt F) (entry0 m c main_arg4)
def weighAt (c : Dev nD) (t : Fin (cfgM m).N) : Vec F S1x256x128 .f32 := (((cfgM m).win 3).blk t).view.read (Elt F) (entry0 m c main_arg5)
def normAt (c : Dev nD) (t : Fin (cfgM m).N) : Vec F S1x1024 .f32 := (((cfgM m).win 4).blk t).view.read (Elt F) (entry0 m c main_v1)
/-- What it leaves. -/
def leftAt (c : Dev nD) (t : Fin (cfgM m).N) : Vec F S1x256x1024 .f32 :=
  result (fetched (firsts m c) (block m c t) (rows m c)) (streamAt m c t) (gateAt m c t) (weighAt m c t) (normAt m c t)

theorem row_lt (t : Fin (cfgM m).N) (s : Fin 256) : t.val % 32 * 256 + s.val < 8192 := by omega
theorem entry_lt (t : Fin (cfgM m).N) : t.val / 32 < 4 := by have : t.val < 128 := t.isLt; omega

theorem isBlock (c : Dev nD) (t : Fin (cfgM m).N) : IsBlock (table m c) (block m c t) t.val := by
  intro k hk j hj
  have ht : t.val < 128 := t.isLt
  unfold block
  rw [entry_v0]
  show shapeCast S128x1x1024 (table m c) shapeCasts_S32768x4_S128x1x1024 _ = _
  refine congrArg (table m c) (Shape.reshapeEquiv_eq_of_rowMajor _ ?_)
  have hj4 : (4 * k + j) % 1024 = 4 * k + j := Nat.mod_eq_of_lt (by omega)
  have he : ∀ a, ((((cfgM m).win 0).blk t).view.emb (ix (4 * k + j)) a).val = ![t.val, 0, 4 * k + j] a := by
    intro a
    fin_cases a
    · show (BitVec.ofNat 32 (grid0.coords t 0).val * 32#32 + BitVec.ofNat 32 (grid0.coords t 1).val).toNat * 1 + 1 * 0 = t.val
      rw [coords0, coords1, BitVec.toNat_add, BitVec.toNat_mul, BitVec.toNat_ofNat, BitVec.toNat_ofNat, BitVec.toNat_ofNat]; omega
    · rfl
    · show 0 * 1024 + 1 * ((4 * k + j) % 1024) = 4 * k + j
      omega
  revert he
  generalize (((cfgM m).win 0).blk t).view.emb (ix (4 * k + j)) = E
  change S128x1x1024.Idx at E
  intro he
  refine (Shape.rowMajor_val_two (d := ![32768, 4]) (ixi (256 * t.val + k) j)).trans (Eq.trans ?_ (Shape.rowMajor_val_three (d := ![128, 1, 1024]) E).symm)
  rw [show (E 0).val = t.val from he (0 : Fin 3), show (E 1).val = 0 from he (1 : Fin 3), show (E 2).val = 4 * k + j from he (2 : Fin 3)]
  show (256 * t.val + k) % 32768 * 4 + j % 4 = (t.val * 1 + 0) * 1024 + (4 * k + j)
  omega

/-- The residual stream's block: the point's 256 tokens. -/
theorem streamAt_eq (c : Dev nD) (t : Fin (cfgM m).N) :
    streamAt m c t = fun y => stream m c (fun | ⟨0, _⟩ => ⟨t.val / 32, entry_lt m t⟩ | ⟨1, _⟩ => ⟨t.val % 32 * 256 + (y 1).val, row_lt m t (y 1)⟩ | ⟨2, _⟩ => y 2) := by
  funext y
  have ht : t.val < 128 := t.isLt
  have h0 : (y 0).val < 1 := (y 0).isLt
  unfold streamAt
  rw [entry_arg3]
  refine congrArg (stream m c) (funext fun a => Fin.ext ?_)
  match a with
  | ⟨0, _⟩ =>
    show (BitVec.ofNat 32 (grid0.coords t 0).val).toNat * 1 + 1 * (y 0).val = t.val / 32
    rw [coords0, BitVec.toNat_ofNat]; omega
  | ⟨1, _⟩ =>
    show (BitVec.ofNat 32 (grid0.coords t 1).val).toNat * 256 + 1 * (y 1).val = t.val % 32 * 256 + (y 1).val
    rw [coords1, BitVec.toNat_ofNat]; omega
  | ⟨2, _⟩ => show 0 * 1024 + 1 * (y 2).val = (y 2).val; omega

/-- The gate of the point's batch entry. -/
theorem gateAt_eq (c : Dev nD) (t : Fin (cfgM m).N) :
    gateAt m c t = fun y => gate m c (fun | ⟨0, _⟩ => ⟨t.val / 32, entry_lt m t⟩ | ⟨1, _⟩ => y 1 | ⟨2, _⟩ => y 2) := by
  funext y
  have ht : t.val < 128 := t.isLt
  have h0 : (y 0).val < 1 := (y 0).isLt
  unfold gateAt
  rw [entry_arg4]
  refine congrArg (gate m c) (funext fun a => Fin.ext ?_)
  match a with
  | ⟨0, _⟩ =>
    show (BitVec.ofNat 32 (grid0.coords t 0).val).toNat * 1 + 1 * (y 0).val = t.val / 32
    rw [coords0, BitVec.toNat_ofNat]; omega
  | ⟨1, _⟩ => show 0 * 1 + 1 * (y 1).val = (y 1).val; omega
  | ⟨2, _⟩ => show 0 * 1024 + 1 * (y 2).val = (y 2).val; omega

/-- The routing weights' block. -/
theorem weighAt_eq (c : Dev nD) (t : Fin (cfgM m).N) :
    weighAt m c t = fun y => weigh m c (fun | ⟨0, _⟩ => ⟨t.val / 32, entry_lt m t⟩ | ⟨1, _⟩ => ⟨t.val % 32 * 256 + (y 1).val, row_lt m t (y 1)⟩ | ⟨2, _⟩ => y 2) := by
  funext y
  have ht : t.val < 128 := t.isLt
  have h0 : (y 0).val < 1 := (y 0).isLt
  unfold weighAt
  rw [entry_arg5]
  refine congrArg (weigh m c) (funext fun a => Fin.ext ?_)
  match a with
  | ⟨0, _⟩ =>
    show (BitVec.ofNat 32 (grid0.coords t 0).val).toNat * 1 + 1 * (y 0).val = t.val / 32
    rw [coords0, BitVec.toNat_ofNat]; omega
  | ⟨1, _⟩ =>
    show (BitVec.ofNat 32 (grid0.coords t 1).val).toNat * 256 + 1 * (y 1).val = t.val % 32 * 256 + (y 1).val
    rw [coords1, BitVec.toNat_ofNat]; omega
  | ⟨2, _⟩ => show 0 * 128 + 1 * (y 2).val = (y 2).val; omega

/-- The norm's weights are the same at every point. -/
theorem normAt_eq (c : Dev nD) (t : Fin (cfgM m).N) : normAt m c t = shapeCast S1x1024 (norm m c) shapeCasts_S1024_S1x1024 := by
  funext y
  unfold normAt
  rw [entry_v1]
  refine congrArg (shapeCast S1x1024 (norm m c) shapeCasts_S1024_S1x1024) (funext fun a => Fin.ext ?_)
  match a with
  | ⟨0, _⟩ => show 0 * 1 + 1 * (y 0).val = (y 0).val; omega
  | ⟨1, _⟩ => show 0 * 1024 + 1 * (y 1).val = (y 1).val; omega

/-! ### The grid -/

/-- What is held between points: the experts' rows, the buffers, the kernel's semaphore at zero, the generator's state, the table. -/
def held (c : Dev nD) : sProp 𝕄 :=
  iprop(wholeS c (rows m c) ∗ (∃ f, wholeD c f) ∗ semVal ((c : Thread nD τ), SemLoc.dma cc0_scratch1.sem) 0 ∗ (∃ r, prngReg c r)
    ∗ ((Memref.whole main_arg2 : Memref sig .tc .smem S32 .i32).view.loc (c : Thread nD τ) ↦{fullShare.right} firsts m c))

def dats (_ : Fin 1) (c : Dev nD) : Dat τ (Elt F) Unit ℕ (Pipeline.UD sig nD τ) ℕ (cfgM m) c where
  A := fun w => entry0 m c (arrRef spec0 w)
  after := fun | 0, t => block m c t | 1, t => streamAt m c t | 2, t => gateAt m c t | 3, t => weighAt m c t | 4, t => normAt m c t | 5, t => leftAt m c t | ⟨_ + 6, h⟩, _ => absurd h (Nat.not_lt.2 (Nat.le_add_left _ _))
  Φ := fun t => held m c
  q := fun _ => fullShare
  owed := fun _ => 0

theorem before0 (c : Dev nD) (t : Fin (cfgM m).N) (d) : (dats m 0 c).before 0 t d = block m c t :=
  ((dats m 0 c).before_in_eq_fetched 0 rfl (fun _ => rfl) (fun _ _ _ => rfl) (fun t => rfl) t d).trans rfl
theorem before1 (c : Dev nD) (t : Fin (cfgM m).N) (d) : (dats m 0 c).before 1 t d = streamAt m c t :=
  ((dats m 0 c).before_in_eq_fetched 1 rfl (fun _ => rfl) (fun _ _ _ => rfl) (fun t => rfl) t d).trans rfl
theorem before2 (c : Dev nD) (t : Fin (cfgM m).N) (d) : (dats m 0 c).before 2 t d = gateAt m c t :=
  ((dats m 0 c).before_in_eq_fetched 2 rfl (fun _ => rfl) (fun _ _ _ => rfl) (fun t => rfl) t d).trans rfl
theorem before3 (c : Dev nD) (t : Fin (cfgM m).N) (d) : (dats m 0 c).before 3 t d = weighAt m c t :=
  ((dats m 0 c).before_in_eq_fetched 3 rfl (fun _ => rfl) (fun _ _ _ => rfl) (fun t => rfl) t d).trans rfl
theorem before4 (c : Dev nD) (t : Fin (cfgM m).N) (d) : (dats m 0 c).before 4 t d = normAt m c t :=
  ((dats m 0 c).before_in_eq_fetched 4 rfl (fun _ => rfl) (fun _ _ _ => rfl) (fun t => rfl) t d).trans rfl

theorem phi_before (c : Dev nD) (t : Fin (cfgM m).N) : (dats m 0 c).Φ t.castSucc = held m c := by dsimp only [dats]
theorem phi_after (c : Dev nD) (t : Fin (cfgM m).N) : (dats m 0 c).Φ t.succ = held m c := by dsimp only [dats]

/-- A grid point in the form the pipeline asks it. -/
theorem body_held (hN : ∀ c, Names (firsts m c) (table m c)) (c : Dev nD) (t : Fin (cfgM m).N)
    (arg3 : Memref sig .tc .smem S1x1x1024 .i32) (harg3 : arg3.IsWhole)
    (arg5 : Memref sig .tc .vmem S1x256x1024 .f32) (harg5 : arg5.IsWhole) (arg6 : Memref sig .tc .vmem S1x1x1024 .f32) (harg6 : arg6.IsWhole)
    (arg7 : Memref sig .tc .vmem S1x256x128 .f32) (harg7 : arg7.IsWhole) (arg8 : Memref sig .tc .vmem S1x1024 .f32) (harg8 : arg8.IsWhole)
    (arg9 : Memref sig .tc .vmem S1x256x1024 .f32) (harg9 : arg9.IsWhole) :
    iprop(held m c ∗ owing c ∗ owns (Ix := Unit) (Name := ℕ) (U := Pipeline.UD sig nD τ) (Lvl := ℕ) (c : Thread nD τ) arg3 fullShare (block m c t)
        ∗ owns (c : Thread nD τ) arg5 fullShare (streamAt m c t) ∗ owns (c : Thread nD τ) arg6 fullShare (gateAt m c t)
        ∗ owns (c : Thread nD τ) arg7 fullShare (weighAt m c t) ∗ owns (c : Thread nD τ) arg8 fullShare (normAt m c t) ∗ (∃ d, owns (c : Thread nD τ) arg9 fullShare d))
      ⊢ wp frame (wpE (defs₀ (F := F)) Variants.none (c : Thread nD τ) none) Set.univ
          (cc0_moe_combine_final_norm (F := F) (grid0.coords t) (Memref.whole main_arg2) (Memref.isWhole_whole _) arg3 harg3 (Memref.whole main_arg0) (Memref.isWhole_whole _)
            arg5 harg5 arg6 harg6 arg7 harg7 arg8 harg8 arg9 harg9 (Memref.whole cc0_scratch0) (Memref.isWhole_whole _) cc0_scratch1)
          (fun _ => iprop(held m c ∗ owing c ∗ owns (c : Thread nD τ) arg3 fullShare (block m c t)
        ∗ owns (c : Thread nD τ) arg5 fullShare (streamAt m c t) ∗ owns (c : Thread nD τ) arg6 fullShare (gateAt m c t)
        ∗ owns (c : Thread nD τ) arg7 fullShare (weighAt m c t) ∗ owns (c : Thread nD τ) arg8 fullShare (normAt m c t) ∗ owns (c : Thread nD τ) arg9 fullShare (leftAt m c t))) := by
  have ht : t.val < 128 := t.isLt
  have hB := isBlock m c t
  iintro ⟨HH, HO, H3, HW⟩
  unfold held
  icases HH with ⟨HS, ⟨%f, HD⟩, HC, HG, HP⟩
  ihave H3 := (show owns (Ix := Unit) (Name := ℕ) (U := Pipeline.UD sig nD τ) (Lvl := ℕ) (c : Thread nD τ) arg3 fullShare (block m c t)
      ⊢ (iprop(∃ blk, ⌜arg3.view.read (Elt F) blk = block m c t⌝ ∗ (arg3.view.loc (c : Thread nD τ) ↦{fullShare} blk)) : sProp 𝕄) from by
    unfold owns; rw [harg3.set_eq_univ]) $$ H3
  icases H3 with ⟨%blk, %hblk, HX⟩
  have h := point c (grid0.coords t) arg3 harg3 fullShare.right fullShare (firsts m c) (block m c t) blk f (rows m c) arg5 harg5 arg6 harg6 arg7 harg7 arg8 harg8 arg9 harg9
    hblk (hB.inRange (hN c) ht) (streamAt m c t) (gateAt m c t) (weighAt m c t) (normAt m c t)
  iapply (wp_wand _ _ _) $$ [HP HX HO HC HD HS HW]
  · iapply h
    unfold pointAt tabs
    isplitr [HW]
    · isplitl [HP HX]
      · isplitl [HP] <;> iassumption
      isplitl [HO]; · iexact HO
      isplitl [HC]; · iexact HC
      isplitl [HD] <;> iassumption
    iexact HW
  iintro %a HQ
  unfold pointAt tabs
  icases HQ with ⟨⟨⟨HP, HX⟩, HO, HC, HD, HS⟩, HW⟩
  isplitl [HS HD HC HG HP]
  · isplitl [HS]; · iexact HS
    isplitl [HD]; · iexists _; iexact HD
    isplitl [HC]; · iexact HC
    isplitl [HG] <;> iassumption
  isplitl [HO]; · iexact HO
  isplitl [HX]
  · iapply (show (iprop(∃ blk, ⌜arg3.view.read (Elt F) blk = block m c t⌝ ∗ (arg3.view.loc (c : Thread nD τ) ↦{fullShare} blk)) : sProp 𝕄)
      ⊢ owns (Ix := Unit) (Name := ℕ) (U := Pipeline.UD sig nD τ) (Lvl := ℕ) (c : Thread nD τ) arg3 fullShare (block m c t) from by
      unfold owns; rw [harg3.set_eq_univ])
    iexists blk
    isplitr
    · ipureintro; exact hblk
    iexact HX
  iexact HW

theorem found0 (c : Dev nD) (t : Fin (cfgM m).N) (d) :
    (owns (Ix := Unit) (Name := ℕ) (U := Pipeline.UD sig nD τ) (Lvl := ℕ) (c : Thread nD τ) (((cfgM m).win 0).stage ((cfgM m).slots t 0)) fullShare ((dats m 0 c).before 0 t d) : sProp 𝕄)
      = owns (c : Thread nD τ) (((cfgM m).win 0).stage ((cfgM m).slots t 0)) fullShare (block m c t) := by rw [before0]
theorem found1 (c : Dev nD) (t : Fin (cfgM m).N) (d) :
    (owns (Ix := Unit) (Name := ℕ) (U := Pipeline.UD sig nD τ) (Lvl := ℕ) (c : Thread nD τ) (((cfgM m).win 1).stage ((cfgM m).slots t 1)) fullShare ((dats m 0 c).before 1 t d) : sProp 𝕄)
      = owns (c : Thread nD τ) (((cfgM m).win 1).stage ((cfgM m).slots t 1)) fullShare (streamAt m c t) := by rw [before1]
theorem found2 (c : Dev nD) (t : Fin (cfgM m).N) (d) :
    (owns (Ix := Unit) (Name := ℕ) (U := Pipeline.UD sig nD τ) (Lvl := ℕ) (c : Thread nD τ) (((cfgM m).win 2).stage ((cfgM m).slots t 2)) fullShare ((dats m 0 c).before 2 t d) : sProp 𝕄)
      = owns (c : Thread nD τ) (((cfgM m).win 2).stage ((cfgM m).slots t 2)) fullShare (gateAt m c t) := by rw [before2]
theorem found3 (c : Dev nD) (t : Fin (cfgM m).N) (d) :
    (owns (Ix := Unit) (Name := ℕ) (U := Pipeline.UD sig nD τ) (Lvl := ℕ) (c : Thread nD τ) (((cfgM m).win 3).stage ((cfgM m).slots t 3)) fullShare ((dats m 0 c).before 3 t d) : sProp 𝕄)
      = owns (c : Thread nD τ) (((cfgM m).win 3).stage ((cfgM m).slots t 3)) fullShare (weighAt m c t) := by rw [before3]
theorem found4 (c : Dev nD) (t : Fin (cfgM m).N) (d) :
    (owns (Ix := Unit) (Name := ℕ) (U := Pipeline.UD sig nD τ) (Lvl := ℕ) (c : Thread nD τ) (((cfgM m).win 4).stage ((cfgM m).slots t 4)) fullShare ((dats m 0 c).before 4 t d) : sProp 𝕄)
      = owns (c : Thread nD τ) (((cfgM m).win 4).stage ((cfgM m).slots t 4)) fullShare (normAt m c t) := by rw [before4]

theorem body0 (hN : ∀ c, Names (firsts m c) (table m c)) (c : Dev nD) : BodyObligationLoose (dats m 0 c) (defs₀ (F := F)) Variants.none () Set.univ := by
  intro t
  refine triple_restated (body_held m hN c t (((cfgM m).win 0).stage ((cfgM m).slots t 0)) (hstage0_0 (((cfgM m).slots t 0).cast nbuf0_0))
    (((cfgM m).win 1).stage ((cfgM m).slots t 1)) (hstage0_1 (((cfgM m).slots t 1).cast nbuf0_1)) (((cfgM m).win 2).stage ((cfgM m).slots t 2)) (hstage0_2 (((cfgM m).slots t 2).cast nbuf0_2))
    (((cfgM m).win 3).stage ((cfgM m).slots t 3)) (hstage0_3 (((cfgM m).slots t 3).cast nbuf0_3)) (((cfgM m).win 4).stage ((cfgM m).slots t 4)) (hstage0_4 (((cfgM m).slots t 4).cast nbuf0_4))
    (((cfgM m).win 5).stage ((cfgM m).slots t 5)) (hstage0_5 (((cfgM m).slots t 5).cast nbuf0_5))) ?_ ?_ ?_
  · rfl
  · rw [bigSep_W0]
    unfold Dat.owesAt Pipeline.owesWithin
    iintro ⟨HH, ⟨%W, -, HO⟩, ⟨%d0, H0⟩, ⟨%d1, H1⟩, ⟨%d2, H2⟩, ⟨%d3, H3⟩, ⟨%d4, H4⟩, ⟨%d5, H5⟩⟩
    isplitl [HH]; · iapply (Entails.of_eq (phi_before m c t)) $$ HH
    isplitl [HO]; · iexists W; iexact HO
    isplitl [H0]
    · ihave HY := (Entails.of_eq (found0 m c t d0)) $$ [H0]
      · iexact H0
      iexact HY
    isplitl [H1]
    · ihave HY := (Entails.of_eq (found1 m c t d1)) $$ [H1]
      · iexact H1
      iexact HY
    isplitl [H2]
    · ihave HY := (Entails.of_eq (found2 m c t d2)) $$ [H2]
      · iexact H2
      iexact HY
    isplitl [H3]
    · ihave HY := (Entails.of_eq (found3 m c t d3)) $$ [H3]
      · iexact H3
      iexact HY
    isplitl [H4]
    · ihave HY := (Entails.of_eq (found4 m c t d4)) $$ [H4]
      · iexact H4
      iexact HY
    iexists _; iexact H5
  · intro a
    rw [bigSep_W0]
    unfold Dat.owesAt Pipeline.owesWithin
    iintro ⟨HH, ⟨%W, HO⟩, H0, H1, H2, H3, H4, H5⟩
    isplitl [HH]; · iapply (Entails.of_eq (phi_after m c t).symm) $$ HH
    isplitl [HO]
    · iexists W
      isplitr
      · ipureintro; exact fun _ _ => Or.inl trivial
      iexact HO
    isplitl [H0]; · iexact H0
    isplitl [H1]; · iexact H1
    isplitl [H2]; · iexact H2
    isplitl [H3]; · iexact H3
    isplitl [H4]; · iexact H4
    iexact H5

/-! ### The launch -/

/-- The kernel's own semaphore. -/
abbrev own : Unit → SemLoc sig := fun _ => .dma cc0_scratch1.sem
theorem ownFacts : Pipeline.OwnSemFacts spec0 own := by decide

theorem table_eq (c : Dev nD) : (Pipeline.ΦT pre0 (adm m 0).1 c : sProp 𝕄)
    = ((Memref.whole main_arg2 : Memref sig .tc .smem S32 .i32).view.loc (c : Thread nD τ) ↦{fullShare.right} firsts m c) := by
  obtain rfl : c = 0 := Subsingleton.elim _ _
  unfold Pipeline.ΦT Pipeline.prefHeld
  rw [show (Finset.univ : Finset (Fin 1)) = {(0 : Fin 1)} from by decide, bigSep_singleton]
  rw [← entry_arg2 m 0]
  rfl

theorem begins (c : Dev nD) :
    iprop(ΦDRG own spec0 {main_arg0} ∅ (entry0 m) (entry0 m) c ∗ ΦT pre0 (adm m 0).1 c) ⊢ held m c := by
  rw [ΦDRG_eq, table_eq, scopedRest0_eq]
  unfold held Pipeline.routed Pipeline.ownSems0
  rw [bigSep_singleton, show (Finset.univ : Finset Unit) = {()} from rfl, bigSep_singleton, entry_arg0]
  iintro ⟨⟨⟨%f, HD⟩, HG, HC, HS, -⟩, HT⟩
  isplitl [HS]; · iexact HS
  isplitl [HD]; · iexists f; iexact HD
  isplitl [HC]; · iexact HC
  isplitl [HG] <;> iassumption

theorem ends (c : Dev nD) : held m c ⊢ ΦDRG own spec0 {main_arg0} ∅ (entry0 m) (entry0 m) c := by
  rw [ΦDRG_eq, scopedRest0_eq]
  unfold held Pipeline.routed Pipeline.ownSems0
  rw [bigSep_singleton, bigSep_empty, show (Finset.univ : Finset Unit) = {()} from rfl, bigSep_singleton, entry_arg0]
  iintro ⟨HS, ⟨%f, HD⟩, HC, HG, -⟩
  isplitl [HD]; · iexists f; iexact HD
  isplitl [HG]; · iexact HG
  isplitl [HC]; · iexact HC
  isplitl [HS]; · iexact HS
  iempintro

theorem hbm_rest : ({main_arg0} : Finset (Ref sig .tc)) ⊆ restRefsP sig pre0 spec0 := by decide
theorem share_full (c : Dev nD) (w) : (dats m 0 c).share w = fullShare := by
  unfold Dat.share; split <;> rfl

/-! ### The result -/

theorem index50 (t : Fin (cfgM m).N) : ((cfgM m).win 5).index t (0 : Fin 3) = t.val / 32 := by
  show (BitVec.ofNat 32 (grid0.coords t 0).val).toNat = t.val / 32
  have ht : t.val < 128 := t.isLt
  rw [coords0, BitVec.toNat_ofNat]; omega
theorem index51 (t : Fin (cfgM m).N) : ((cfgM m).win 5).index t (1 : Fin 3) = t.val % 32 := by
  show (BitVec.ofNat 32 (grid0.coords t 1).val).toNat = t.val % 32
  rw [coords1, BitVec.toNat_ofNat]; omega

/-- Every point writes its block back. -/
theorem flushed (t : Fin (cfgM m).N) : ((cfgM m).win 5).flush t = true := by
  unfold Window.flush
  rw [Bool.and_eq_true, Bool.or_eq_true, decide_eq_true_eq, decide_eq_true_eq]
  refine ⟨rfl, ?_⟩
  by_cases h : t.val + 1 = 128
  · exact .inl h
  · have ht : t.val < 128 := t.isLt
    refine .inr ⟨(show t.val + 1 < 128 by omega), fun he => ?_⟩
    have h0 := congrFun he (1 : Fin 3)
    rw [index51, index51] at h0
    have h0 : (t.val + 1) % 32 = t.val % 32 := h0
    omega

theorem covered : ((cfgM m).win 5).Covers := by
  refine ⟨fun a => ?_, fun β => ?_⟩
  · match a with
    | ⟨0, _⟩ => exact (by decide : 0 < 1)
    | ⟨1, _⟩ => exact (by decide : 0 < 256)
    | ⟨2, _⟩ => exact (by decide : 0 < 1024)
  · have h0 : (β (0 : Fin 3)).val < 4 := lt_of_lt_of_eq (β (0 : Fin 3)).isLt (by unfold Window.nblk; exact (by decide : (4 + 1 - 1) / 1 = 4))
    have h1 : (β (1 : Fin 3)).val < 32 := lt_of_lt_of_eq (β (1 : Fin 3)).isLt (by unfold Window.nblk; exact (by decide : (8192 + 256 - 1) / 256 = 32))
    have h2 : (β (2 : Fin 3)).val < 1 := lt_of_lt_of_eq (β (2 : Fin 3)).isLt (by unfold Window.nblk; exact (by decide : (1024 + 1024 - 1) / 1024 = 1))
    refine ⟨⟨(β (0 : Fin 3)).val * 32 + (β (1 : Fin 3)).val, (by omega : _ < 128)⟩, flushed m _, fun a => ?_⟩
    match a with
    | ⟨0, _⟩ => exact ⟨(index50 m _).trans (by show ((β (0 : Fin 3)).val * 32 + (β (1 : Fin 3)).val) / 32 = (β (0 : Fin 3)).val; omega), .inl rfl⟩
    | ⟨1, _⟩ => exact ⟨(index51 m _).trans (by show ((β (0 : Fin 3)).val * 32 + (β (1 : Fin 3)).val) % 32 = (β (1 : Fin 3)).val; omega), .inl rfl⟩
    | ⟨2, _⟩ => exact ⟨(Nat.lt_one_iff.mp h2).symm, .inl rfl⟩

/-- The point whose block the token of entry `r` lies in, and the token's row there. -/
def pointOf (r : S4x8192x1024.Idx) : Fin (cfgM m).N :=
  ⟨(r 0).val * 32 + (r 1).val / 256, by
    have h0 : (r 0).val < 4 := (r 0).isLt
    have h1 : (r 1).val < 8192 := (r 1).isLt
    show _ < 128; omega⟩
def rowIn (r : S4x8192x1024.Idx) : S1x256x1024.Idx :=
  fun | ⟨0, _⟩ => (0 : Fin 1) | ⟨1, _⟩ => (⟨(r 1).val % 256, Nat.mod_lt _ (by decide)⟩ : Fin 256) | ⟨2, _⟩ => (r 2 : Fin 1024)

/-- The result: every token's row as its block's point leaves it. -/
def final (c : Dev nD) : S4x8192x1024.Idx → Elt F .f32 := fun r => leftAt m c (pointOf m r) (rowIn r)

theorem result_eq (c : Dev nD) : (dats m 0 c).arrAt 5 (cfgM m).N = final m c := by
  refine (dats m 0 c).arrAt_eq_of_covers 5 _ (covered m) fun t hf y => ?_
  have ht : t.val < 128 := t.isLt
  have hy0 : (y (0 : Fin 3)).val < 1 := (y (0 : Fin 3)).isLt
  have hy : (y (1 : Fin 3)).val < 256 := (y (1 : Fin 3)).isLt
  have e0 : ((((cfgM m).win 5).blk t).view.emb y (0 : Fin 3)).val = t.val / 32 := by
    show ((BitVec.ofNat 32 (grid0.coords t 0).val).toNat) * 1 + 1 * (y (0 : Fin 3)).val = _
    rw [coords0, BitVec.toNat_ofNat]; omega
  have e1 : ((((cfgM m).win 5).blk t).view.emb y (1 : Fin 3)).val = t.val % 32 * 256 + (y (1 : Fin 3)).val := by
    show ((BitVec.ofNat 32 (grid0.coords t 1).val).toNat) * 256 + 1 * (y (1 : Fin 3)).val = _
    rw [coords1, BitVec.toNat_ofNat]; omega
  have e2 : ((((cfgM m).win 5).blk t).view.emb y (2 : Fin 3)).val = (y (2 : Fin 3)).val := by
    show 0 * 1024 + 1 * (y (2 : Fin 3)).val = _; omega
  show leftAt m c t (((cfgM m).win 5).xinj ((cfgM m).grid.coords t) y) = final m c _
  revert e0 e1 e2
  generalize (((cfgM m).win 5).blk t).view.emb y = r
  change S4x8192x1024.Idx at r
  intro e0 e1 e2
  unfold final
  have hb : pointOf m r = t := Fin.ext (show (r (0 : Fin 3)).val * 32 + (r (1 : Fin 3)).val / 256 = t.val by rw [e0, e1]; omega)
  rw [hb]
  refine congrArg (leftAt m c t) (funext fun a => Fin.ext ?_)
  match a with
  | ⟨0, _⟩ => show (y (0 : Fin 3)).val = 0; omega
  | ⟨1, _⟩ => show (y (1 : Fin 3)).val = (r (1 : Fin 3)).val % 256; rw [e1]; omega
  | ⟨2, _⟩ => exact e2.symm

/-! ### The run -/

/-- The run: it ends, the arguments as they were, the result block by block as the points leave it, every semaphore at zero. -/
theorem run_main (ρ : Dev nD → PrngReg) (hN : ∀ c, Names (firsts m c) (table m c)) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_v2) = final m c)
      ∧ r.2.sem = fun _ => 0) := by
  refine (θ_run (defs (F := F)) _ _).mono (fun r h => ?_)
    (Pipeline.θ_run_frameP_dmaRG (Q' := fun r => Pipeline.FramePostRG (pin pcfgs (adm m)) (dats m) 0 ∅ (entry0 m) (entry0 m) r
        ∧ r.2.sem = fun _ => 0) pcfgs (adm m) (dats m) 0 launch0 own defs₀ Variants.none ownFacts {main_arg0} ∅
      hbm_rest (Finset.empty_subset _) m ρ main (body0 m hN) (share_full m) (fun _ _ => rfl) (entry0 m) (hmain0 m) (fun _ _ => rfl)
      (entry_pre m) (entry0 m) (begins m) (ends m))
  obtain ⟨h, hs⟩ := h
  refine ⟨fun c => ⟨?_, ?_, ?_, ?_, ?_, ?_, ?_, ?_⟩, hs⟩
  · exact ((h.toR c).2 main_arg0 (show main_arg0 ∈ restRefs sig spec0 \ ∅ from by decide)).trans (entry_arg0 m c)
  · exact ((h.toR c).2 main_arg1 (show main_arg1 ∈ restRefs sig spec0 \ ∅ from by decide)).trans (entry_arg1 m c)
  · exact ((h.toR c).2 main_arg2 (show main_arg2 ∈ restRefs sig spec0 \ ∅ from by decide)).trans (entry_arg2 m c)
  · exact (((h.toR c).1 1).trans ((dats m 0 c).arrAt_in 1 rfl _)).trans (entry_arg3 m c)
  · exact (((h.toR c).1 2).trans ((dats m 0 c).arrAt_in 2 rfl _)).trans (entry_arg4 m c)
  · exact (((h.toR c).1 3).trans ((dats m 0 c).arrAt_in 3 rfl _)).trans (entry_arg5 m c)
  · exact ((h.toR c).2 main_arg6 (show main_arg6 ∈ restRefs sig spec0 \ ∅ from by decide)).trans (entry_arg6 m c)
  · exact ((h.toR c).1 5).trans (result_eq m c)

end Cert.Combine

end
-- ==== Proof.CombineMath.lean ====
/-
  One token's combination in scalars, and an accumulating scatter of whole rows at one element.
-/
module

public import Idealize.ShloMosaic.Lib.Pointwise
public import Idealize.ShloMosaic.Lib.Routing.OpsPair
public import proofs.«01_k».proof.Proof.Table

@[expose] public section

noncomputable section

namespace Cert.Combine

open Idealize.ShloMosaic hiding ix1 ix2 ix3
open Idealize.ShloMosaic.ValueIdx Idealize.ShloMosaic.Routing

/-- One element of a token's row with its two experts' rows added: `x` the residual stream, `gt` the gate, `y0` and `y1`
    the experts' rows, `w0` and `w1` the token's weights for them. -/
def moeE (w0 w1 : EReal) (y0 y1 x gt : Fin 1024 → EReal) (k : Fin 1024) : EReal := x k + gt k * (w0 * y0 k + w1 * y1 k)

/-- One element of a row `x` divided by its root mean square and scaled by `g`. -/
def rmsE (x g : Fin 1024 → EReal) (k : Fin 1024) : EReal :=
  x k * Ideal.rsqrt (Ideal.div (∑ l, x l * x l) (Ideal.ofBits FTy.f32 1149239296#32) + Ideal.ofBits FTy.f32 897988541#32) * g k

/-- The experts' row a word names. -/
def rowE (Y : (⟨2, ![73728, 1024]⟩ : Shape).Idx → EReal) (d : BitVec 32) (k : Fin 1024) : EReal :=
  Y (Idealize.ShloMosaic.ix2 ⟨d.toNat % 73728, Nat.mod_lt _ (by decide)⟩ k)

/-- Token `s` of batch entry `b`, as one of the 32768. -/
abbrev tokenOf (b : Fin 4) (s : Fin 8192) : Fin 32768 := ⟨b.val * 8192 + s.val, by omega⟩

/-- One element of the layer's output, from the experts' rows `Y`, the table of experts and ranks `I`, the experts' first
    rows `P`, the residual stream `X`, the gate `Gt`, the routing weights `Rt` and the norm's weights `G`: the two rows the
    token's experts have for it, weighed and added to the stream, and the sum normed. -/
def outE (Y : (⟨2, ![73728, 1024]⟩ : Shape).Idx → EReal) (I : (⟨2, ![32768, 4]⟩ : Shape).Idx → BitVec 32) (P : (⟨1, ![32]⟩ : Shape).Idx → BitVec 32)
    (X : (⟨3, ![4, 8192, 1024]⟩ : Shape).Idx → EReal) (Gt : (⟨3, ![4, 1, 1024]⟩ : Shape).Idx → EReal) (Rt : (⟨3, ![4, 8192, 128]⟩ : Shape).Idx → EReal)
    (G : (⟨1, ![1024]⟩ : Shape).Idx → EReal) (b : Fin 4) (s : Fin 8192) (j : Fin 1024) : EReal :=
  rmsE (moeE (Rt (Idealize.ShloMosaic.ix3 b s 2)) (Rt (Idealize.ShloMosaic.ix3 b s 3))
      (rowE Y (Cert.Dispatch.destOf P I (tokenOf b s) 0)) (rowE Y (Cert.Dispatch.destOf P I (tokenOf b s) 1))
      (fun k => X (Idealize.ShloMosaic.ix3 b s k)) (fun k => Gt (Idealize.ShloMosaic.ix3 b 0 k)))
    (fun k => G (Idealize.ShloMosaic.ix1 k)) j

/-- Update `(i, c)` of a scatter of `N` rows into `M` rows, one index each, lands at `(x, y)` exactly when row `i`'s index,
    read signed, is `x`, and `c` is `y`. -/
theorem row_lands {M N C : ℕ} (d : ScatterDims ⟨2, ![M, C]⟩ ⟨2, ![N, 1]⟩ ⟨2, ![N, C]⟩) (huw : d.updateWindowDims = [1]) (hiw : d.insertedWindowDims = [0])
    (hsd : d.scatterDimsToOperandDims = [0]) (hivd : d.indexVectorDim = 1) (idx : IVec ⟨2, ![N, 1]⟩ 32) (i : Fin N) (c : Fin C) (x : Fin M) (y : Fin C) :
    d.resultIdx? (ix2 i c) idx = some (ix2 x y) ↔ (idx (ix2 i (0 : Fin 1))).toInt = (x.val : Int) ∧ c = y := by
  obtain ⟨uw, iw, sd, iv, wf⟩ := d
  dsimp only at huw hiw hsd hivd
  subst huw hiw hsd hivd
  rw [resultIdx?_ix2]
  have hs0 : ScatterDims.start ⟨[1], [0], [0], 1, wf⟩ (ix2 i c) idx 0 = (idx (ix2 i (0 : Fin 1))).toInt := by
    unfold ScatterDims.start
    rw [dif_pos (List.mem_singleton.2 rfl)]
    congr 2
    funext b
    refine Fin.ext ?_
    match b with
    | ⟨0, _⟩ => rfl
    | ⟨1, _⟩ => rfl
  have hs1 : ScatterDims.start ⟨[1], [0], [0], 1, wf⟩ (ix2 i c) idx 1 = 0 := by
    unfold ScatterDims.start
    exact dif_neg (by simp)
  have hw0 : ScatterDims.window ⟨[1], [0], [0], 1, wf⟩ (ix2 i c) 0 = 0 := rfl
  have hw1 : ScatterDims.window ⟨[1], [0], [0], 1, wf⟩ (ix2 i c) 1 = c.val := rfl
  rw [hs0, hs1, hw0, hw1]
  constructor
  · rintro ⟨h0, h1⟩
    exact ⟨by simpa using h0, Fin.ext (by omega)⟩
  · rintro ⟨h0, rfl⟩
    exact ⟨by simpa using h0, by omega⟩

/-- Where the rows `i0` and `i1`, and no others, have index `x`, an accumulating scatter adds those two at row `x`. -/
theorem scatter_two {M N C : ℕ} (d : ScatterDims ⟨2, ![M, C]⟩ ⟨2, ![N, 1]⟩ ⟨2, ![N, C]⟩) (huw : d.updateWindowDims = [1]) (hiw : d.insertedWindowDims = [0])
    (hsd : d.scatterDimsToOperandDims = [0]) (hivd : d.indexVectorDim = 1) (z : (⟨2, ![M, C]⟩ : Shape).Idx → EReal) (idx : IVec ⟨2, ![N, 1]⟩ 32)
    (u : (⟨2, ![N, C]⟩ : Shape).Idx → EReal) (x : Fin M) (y : Fin C) (i0 i1 : Fin N) (hne : i0 ≠ i1)
    (h : ∀ i, (idx (ix2 i (0 : Fin 1))).toInt = (x.val : Int) ↔ i = i0 ∨ i = i1) :
    Host.scatterAdd (F := Ideal) (φ := .f32) d z idx u (ix2 x y) = z (ix2 x y) + (u (ix2 i0 y) + u (ix2 i1 y)) := by
  show Ideal.hostScatterAdd d z idx u (ix2 x y) = _
  unfold Ideal.hostScatterAdd
  congr 1
  have hf : (Finset.univ.filter fun j => d.resultIdx? j idx = some (ix2 x y)) = {ix2 i0 y, ix2 i1 y} := by
    ext j
    obtain ⟨i, c, rfl⟩ : ∃ (i : Fin N) (c : Fin C), j = ix2 i c := ⟨j 0, j 1, ValueIdx.eq_ix2 j⟩
    rw [Finset.mem_filter, row_lands d huw hiw hsd hivd, h, Finset.mem_insert, Finset.mem_singleton]
    constructor
    · rintro ⟨-, hi | hi, rfl⟩
      · left; rw [hi]
      · right; rw [hi]
    · rintro (hj | hj)
      · exact ⟨Finset.mem_univ _, .inl (congrFun hj 0), congrFun hj 1⟩
      · exact ⟨Finset.mem_univ _, .inr (congrFun hj 0), congrFun hj 1⟩
  rw [hf, Finset.sum_pair]
  exact fun hj => hne (congrFun hj 0)

end Cert.Combine

end
-- ==== Proof.CombineValue.lean ====
/-
  What the combine kernel leaves, over ideal floats: every token's two rows weighed, added to its stream, and normed.
-/
module

public import proofs.«01_k».proof.Proof.Combine
public import proofs.«01_k».proof.Proof.CombineMath

@[expose] public section

set_option maxRecDepth 16384

noncomputable section

namespace Cert.Combine

open Cert.Kernel5Ideal Cert.Kernel5Ideal.Gen
open Idealize.ShloMosaic Idealize.ShloMosaic.TcCoe

/-- A point's sums, by elements. -/
theorem pay2_at (rt : S1x256x128.Idx → EReal) (y0 y1 x : S1x256x1024.Idx → EReal) (gt : S1x1x1024.Idx → EReal) (s : Fin 256) (k : Fin 1024) :
    k0_pay2 (F := Ideal) rt y0 y1 x gt (ix2 s k)
      = moeE (rt (ix3 0 s 2)) (rt (ix3 0 s 3)) (fun k => y0 (ix3 0 s k)) (fun k => y1 (ix3 0 s k)) (fun k => x (ix3 0 s k)) (fun k => gt (ix3 0 0 k)) k := by
  unfold k0_pay2 moeE
  pointwise

/-- A point's result, by elements. -/
theorem pay1_at (rt : S1x256x128.Idx → EReal) (y0 y1 x : S1x256x1024.Idx → EReal) (gt : S1x1x1024.Idx → EReal) (gf : S1x1024.Idx → EReal) (s : Fin 256) (j : Fin 1024) :
    k0_pay1 (F := Ideal) (k0_pay2 (F := Ideal) rt y0 y1 x gt) (k0_pay3 (F := Ideal) rt y0 y1 x gt) gf (ix3 0 s j)
      = rmsE (fun k => k0_pay2 (F := Ideal) rt y0 y1 x gt (ix2 s k)) (fun k => gf (ix2 0 k)) j := by
  unfold k0_pay1 k0_pay3
  generalize k0_pay2 (F := Ideal) rt y0 y1 x gt = v
  unfold rmsE
  pointwise

variable (m : (ℓ : Loc nD τ sig) → Buf (Elt Ideal) ℓ)

/-- The final array by elements. -/
theorem final_at (b : Fin 4) (s : Fin 8192) (j : Fin 1024) :
    final m 0 (ix3 b s j) = outE (rows m 0) (table m 0) (firsts m 0) (stream m 0) (gate m 0) (weigh m 0) (norm m 0) b s j := by
  obtain ⟨t, ht⟩ : ∃ t : Fin (cfgM m).N, t.val = b.val * 32 + s.val / 256 := ⟨pointOf m (ix3 b s j), rfl⟩
  have hb := b.isLt
  have hs := s.isLt
  have e0 : t.val / 32 = b.val := by omega
  have e1 : t.val % 32 * 256 + s.val % 256 = s.val := by omega
  have e2 : 256 * t.val + s.val % 256 = b.val * 8192 + s.val := by omega
  have hq : s.val % 256 < 256 := Nat.mod_lt _ (by decide)
  have hf : final m 0 (ix3 b s j) = leftAt m 0 t (ix3 0 ⟨s.val % 256, hq⟩ j) := by
    unfold final
    refine congr (congrArg (leftAt m 0) (Fin.ext ht.symm)) (funext fun a => ?_)
    match a with
    | ⟨0, _⟩ => rfl
    | ⟨1, _⟩ => rfl
    | ⟨2, _⟩ => rfl
  have hB := isBlock m 0 t
  have h0 : d0 (firsts m 0) (block m 0 t) (s.val % 256) = Cert.Dispatch.destOf (firsts m 0) (table m 0) (tokenOf b s) 0 := by
    rw [hB.d0_eq hq, e2]; rfl
  have h1 : d1 (firsts m 0) (block m 0 t) (s.val % 256) = Cert.Dispatch.destOf (firsts m 0) (table m 0) (tokenOf b s) 1 := by
    rw [hB.d1_eq hq, e2]; rfl
  rw [hf]
  unfold leftAt result outE
  rw [pay1_at]
  congr 1
  · funext k
    rw [pay2_at]
    have w : ∀ l : Fin 128, weighAt m 0 t (ix3 0 ⟨s.val % 256, hq⟩ l) = weigh m 0 (ix3 b s l) := fun l => by
      rw [weighAt_eq]
      exact congrArg (weigh m 0) (by funext a; match a with | ⟨0, _⟩ => exact Fin.ext e0 | ⟨1, _⟩ => exact Fin.ext e1 | ⟨2, _⟩ => rfl)
    rw [w 2, w 3]
    congr 1
    · funext l
      unfold rowE
      rw [← h0]
      unfold buf fetched
      refine congrArg (rows m 0) (by funext a; match a with | ⟨0, _⟩ => rfl | ⟨1, _⟩ => rfl)
    · funext l
      unfold rowE
      rw [← h1]
      unfold buf fetched
      refine congrArg (rows m 0) (by funext a; match a with | ⟨0, _⟩ => rfl | ⟨1, _⟩ => rfl)
    · funext l
      rw [streamAt_eq]
      exact congrArg (stream m 0) (by funext a; match a with | ⟨0, _⟩ => exact Fin.ext e0 | ⟨1, _⟩ => exact Fin.ext e1 | ⟨2, _⟩ => rfl)
    · funext l
      rw [gateAt_eq]
      exact congrArg (gate m 0) (by funext a; match a with | ⟨0, _⟩ => exact Fin.ext e0 | ⟨1, _⟩ => rfl | ⟨2, _⟩ => rfl)
  · funext k
    rw [normAt_eq]
    pointwise

end Cert.Combine

end
-- ==== Proof.CombineRef.lean ====
/-
  What the reference of the combination computes: the rows gathered, weighed, added up by token, added to the residual
  stream, and normed.
-/
module

public import proofs.«01_k».proof.Proof.CombineMath
public import proofs.«01_k».proof.Proof.Gen.Reference5Ideal.Run

@[expose] public section

set_option maxRecDepth 16384

noncomputable section

namespace Cert.Combine.Ref

open Cert.Combine Cert.Dispatch
open Cert.Reference5Ideal Cert.Reference5Ideal.Gen
open Idealize.ShloMosaic Idealize.ShloMosaic.TcCoe

/-- The row of every assignment. -/
abbrev dests (P : S32.Idx → BitVec 32) (I : S32768x4.Idx → BitVec 32) : IVec S65536 32 :=
  shapeCast _ (addi (Host.gather gather_S32_S32768x2x1_S32768x2_n_0_n_n_0_2_1 P (broadcastInDim S32768x2x1 ![0, 1] bcast_S32768x2_S32768x2x1_0_1
    (select (cmpi .slt (extractStridedSlice S32768x2 ![0, 0] I slices_S32768x4_S32768x2_0_0) (broadcastInDim S32768x2 ![] bcast_S_S32768x2 (constantI S_ 32 0#32)))
      (addi (extractStridedSlice S32768x2 ![0, 0] I slices_S32768x4_S32768x2_0_0) (broadcastInDim S32768x2 ![] bcast_S_S32768x2 (constantI S_ 32 32#32)))
      (extractStridedSlice S32768x2 ![0, 0] I slices_S32768x4_S32768x2_0_0)))) (extractStridedSlice S32768x2 ![0, 2] I slices_S32768x4_S32768x2_0_2)) shapeCasts_S32768x2_S65536

/-- The token of every assignment. -/
abbrev tokens : IVec S65536 32 :=
  shapeCast _ (broadcastInDim S32768x2 ![0] bcast_S32768_S32768x2_0 (iotaInDim S32768 32 0)) shapeCasts_S32768x2_S65536

/-- A column of words, the negative ones of them wrapped around at `k`. -/
abbrev column (d : IVec S65536 32) (k : BitVec 32) : IVec S65536x1 32 :=
  broadcastInDim S65536x1 ![0] bcast_S65536_S65536x1_0 (select (cmpi .slt d (broadcastInDim S65536 ![] bcast_S_S65536 (constantI S_ 32 0#32)))
    (addi d (broadcastInDim S65536 ![] bcast_S_S65536 (constantI S_ 32 k))) d)

/-- The weight of every assignment. -/
abbrev weights (Rt : S4x8192x128.Idx → EReal) : FVec Ideal S65536 .f32 :=
  shapeCast _ (extractStridedSlice S4x8192x2 ![0, 0, 2] Rt slices_S4x8192x128_S4x8192x2_0_0_2) shapeCasts_S4x8192x2_S65536

/-- The weighed rows added up by token. -/
abbrev summed (w : FVec Ideal S65536 .f32) (g : FVec Ideal S65536x1024 .f32) (t : IVec S65536 32) : FVec Ideal S32768x1024 .f32 :=
  Host.scatterAdd scatter_S32768x1024_S65536x1_S65536x1024_1_0_0_1 (broadcastInDim S32768x1024 ![] bcast_S_S32768x1024 (constant S_ .f32 0x00000000#32))
    (column t 32768#32) (mulf (broadcastInDim S65536x1024 ![0, 1] bcast_S65536x1_S65536x1024_0_1 (broadcastInDim S65536x1 ![0] bcast_S65536_S65536x1_0 w)) g)

/-- The sums added to the stream. -/
abbrev added (X : S4x8192x1024.Idx → EReal) (Gt : S4x1x1024.Idx → EReal) (S : FVec Ideal S32768x1024 .f32) : FVec Ideal S4x8192x1024 .f32 :=
  addf (F := Ideal) (φ := .f32) X (mulf (broadcastInDim S4x8192x1024 ![0, 1, 2] bcast_S4x1x1024_S4x8192x1024_0_1_2 Gt) (shapeCast _ S shapeCasts_S32768x1024_S4x8192x1024))

/-- A row normed. -/
abbrev normed (V : FVec Ideal S4x8192x1024 .f32) (G : S1024.Idx → EReal) : FVec Ideal S4x8192x1024 .f32 :=
  mulf (mulf V (broadcastInDim S4x8192x1024 ![0, 1, 2] bcast_S4x8192x1_S4x8192x1024_0_1_2 (Host.rsqrt (addf (Host.divf (broadcastInDim S4x8192x1 ![0, 1] bcast_S4x8192_S4x8192x1_0_1
    (Host.reduceAdd (mulf V V) (constant S_ .f32 0x00000000#32) reducesTo_S4x8192x1024_S4x8192_d2 h_S_)) (broadcastInDim S4x8192x1 ![] bcast_S_S4x8192x1 (constant S_ .f32 0x44800000#32)))
    (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 G))

/-- A column's entry is the word, where that is not negative. -/
theorem column_at (d : IVec S65536 32) (k : BitVec 32) (p : Fin 65536) (h : (d (ix1 p)).toNat < 2 ^ 31) :
    column d k (ix2 p (0 : Fin 1)) = d (ix1 p) := by
  have hx : ∀ q, q = ix1 p → Scalar.select (IntOp.cmpi .slt (d q) 0#32) (IntOp.addi (d q) k) (d q) = d (ix1 p) := by
    intro q hq
    rw [wrap_id _ _ (by rw [hq]; exact h), hq]
  exact hx _ (by funext a; match a with | ⟨0, _⟩ => rfl)

theorem dests_at (P : S32.Idx → BitVec 32) (I : S32768x4.Idx → BitVec 32) (n : Fin 32768) (j : Fin 2) (hE : (I (Cert.Dispatch.ixi n j)).toNat < 32) :
    dests P I (ix1 (slotOf n j)) = destOf P I n j := by
  refine (Routing.cast21 _ _ n j (slotOf n j) rfl).trans ?_
  exact row_at gather_S32_S32768x2x1_S32768x2_n_0_n_n_0_2_1_wf P I slices_S32768x4_S32768x2_0_0 slices_S32768x4_S32768x2_0_2
      bcast_S32768x2_S32768x2x1_0_1 bcast_S_S32768x2 n j hE

theorem tokens_at (n : Fin 32768) (j : Fin 2) : tokens (ix1 (slotOf n j)) = BitVec.ofNat 32 n.val := by
  refine (Routing.cast21 _ _ n j (slotOf n j) rfl).trans ?_
  rfl

theorem weights_at (Rt : S4x8192x128.Idx → EReal) (b : Fin 4) (s : Fin 8192) (j : Fin 2) :
    weights Rt (ix1 (slotOf (tokenOf b s) j)) = Rt (ix3 b s ⟨2 + j.val, by omega⟩) := by
  have hc := shapeCast_apply (extractStridedSlice S4x8192x2 ![0, 0, 2] Rt slices_S4x8192x128_S4x8192x2_0_0_2) shapeCasts_S4x8192x2_S65536
    (ix1 (slotOf (tokenOf b s) j) : S65536.Idx) (ix3 b s j : S4x8192x2.Idx) ?_
  · refine hc.trans ?_
    unfold extractStridedSlice
    refine congrArg Rt (funext fun a => Fin.ext ?_)
    match a with
    | ⟨0, _⟩ => exact Nat.zero_add _
    | ⟨1, _⟩ => exact Nat.zero_add _
    | ⟨2, _⟩ => rfl
  · refine (Shape.rowMajor_val_three (d := ![4, 8192, 2]) _).trans (Eq.trans ?_ (Shape.rowMajor_val_one (d := ![65536]) _).symm)
    show (b.val * 8192 + s.val) * 2 + j.val = (b.val * 8192 + s.val) * 2 + j.val
    rfl

/-- The row gathered for an assignment is the one it names. -/
theorem gathered_at (Y : S73728x1024.Idx → EReal) (d : IVec S65536 32) (p : Fin 65536) (k : Fin 1024) (w : BitVec 32) (hw : d (ix1 p) = w) (h : w.toNat < 73728) :
    Host.gather gather_S73728x1024_S65536x1_S65536x1024_1_0_n_n_0_1_11024 Y (column d 73728#32) (ix2 p k) = rowE Y w k := by
  have hc : column d 73728#32 (ix2 p (0 : Fin 1)) = BitVec.ofNat 32 (⟨w.toNat, h⟩ : Fin 73728).val := by
    rw [column_at d _ p (by rw [hw]; omega), hw, BitVec.ofNat_toNat, BitVec.setWidth_eq]
  refine (Routing.gather_row _ rfl rfl rfl rfl rfl _ _ p k ⟨w.toNat, h⟩ hc (by decide)).trans ?_
  unfold rowE
  refine congrArg Y (funext fun a => Fin.ext ?_)
  match a with
  | ⟨0, _⟩ => exact (Nat.mod_eq_of_lt h).symm
  | ⟨1, _⟩ => rfl

/-- A token's sum: its two assignments' weighed rows. -/
theorem summed_at (w : FVec Ideal S65536 .f32) (g : FVec Ideal S65536x1024 .f32) (n : Fin 32768) (k : Fin 1024) :
    summed w g tokens (ix2 n k)
      = w (ix1 (slotOf n 0)) * g (ix2 (slotOf n 0) k) + w (ix1 (slotOf n 1)) * g (ix2 (slotOf n 1) k) := by
  have ht : ∀ p : Fin 65536, (column tokens 32768#32 (ix2 p (0 : Fin 1))).toInt = (p.val / 2 : ℕ) := by
    intro p
    obtain ⟨n, j, rfl⟩ : ∃ (n : Fin 32768) (j : Fin 2), p = slotOf n j :=
      ⟨⟨p.val / 2, by omega⟩, ⟨p.val % 2, by omega⟩, Fin.ext (by show p.val = p.val / 2 * 2 + p.val % 2; omega)⟩
    have h1 : (tokens (ix1 (slotOf n j))).toNat = n.val := by rw [tokens_at, BitVec.toNat_ofNat]; omega
    rw [column_at _ _ _ (by rw [h1]; omega), StableHlo.Predicate.toInt_eq_toNat_of_lt (by rw [h1]; omega), h1]
    congr 1
    show n.val = (n.val * 2 + j.val) / 2
    omega
  have hu : ∀ p : Fin 65536, mulf (broadcastInDim S65536x1024 ![0, 1] bcast_S65536x1_S65536x1024_0_1 (broadcastInDim S65536x1 ![0] bcast_S65536_S65536x1_0 w)) g (ix2 p k)
      = w (ix1 p) * g (ix2 p k) := fun p => by pointwise
  refine (scatter_two scatter_S32768x1024_S65536x1_S65536x1024_1_0_0_1 rfl rfl rfl rfl _ _ _ n k (slotOf n 0) (slotOf n 1) ?_ ?_).trans ?_
  · intro he
    have := congrArg Fin.val he
    change n.val * 2 + 0 = n.val * 2 + 1 at this
    omega
  · intro p
    refine (iff_of_eq (congrArg (· = ((n.val : ℕ) : Int)) (ht p))).trans ?_
    rw [Fin.ext_iff, Fin.ext_iff]
    show ((p.val / 2 : ℕ) : Int) = ((n.val : ℕ) : Int) ↔ p.val = n.val * 2 + 0 ∨ p.val = n.val * 2 + 1
    omega
  · refine Eq.trans (congrArg₂ (· + ·) ?_ (congrArg₂ (· + ·) (hu _) (hu _))) (zero_add _)
    pointwise

theorem normed_at (V : FVec Ideal S4x8192x1024 .f32) (G : S1024.Idx → EReal) (b : Fin 4) (s : Fin 8192) (j : Fin 1024) :
    normed V G (ix3 b s j) = rmsE (fun k => V (ix3 b s k)) (fun k => G (ix1 k)) j := by
  unfold normed
  pointwise
  rfl

theorem added_at (X : S4x8192x1024.Idx → EReal) (Gt : S4x1x1024.Idx → EReal) (S : FVec Ideal S32768x1024 .f32) (b : Fin 4) (s : Fin 8192) (k : Fin 1024) :
    added X Gt S (ix3 b s k) = X (ix3 b s k) + Gt (ix3 b 0 k) * S (ix2 (tokenOf b s) k) := by
  unfold added
  pointwise

/-- The reference's value, by elements. -/
theorem value_at (Y : S73728x1024.Idx → EReal) (I : S32768x4.Idx → BitVec 32) (P : S32.Idx → BitVec 32) (X : S4x8192x1024.Idx → EReal)
    (Gt : S4x1x1024.Idx → EReal) (Rt : S4x8192x128.Idx → EReal) (G : S1024.Idx → EReal)
    (hE : ∀ (n : Fin 32768) (j : Fin 2), (I (Cert.Dispatch.ixi n j)).toNat < 32) (hD : ∀ (n : Fin 32768) (j : Fin 2), (destOf P I n j).toNat < 73728)
    (b : Fin 4) (s : Fin 8192) (j : Fin 1024) :
    normed (added X Gt (summed (weights Rt) (Host.gather gather_S73728x1024_S65536x1_S65536x1024_1_0_n_n_0_1_11024 Y (column (dests P I) 73728#32)) tokens)) G (ix3 b s j)
      = outE Y I P X Gt Rt G b s j := by
  rw [normed_at]
  unfold outE
  congr 1
  funext k
  rw [added_at, summed_at, weights_at, weights_at, gathered_at Y _ _ k _ (dests_at P I (tokenOf b s) 0 (hE _ 0)) (hD _ 0),
    gathered_at Y _ _ k _ (dests_at P I (tokenOf b s) 1 (hE _ 1)) (hD _ 1)]
  rfl

variable (m : (ℓ : Loc nD τ sig) → Buf (Elt Ideal) ℓ) (ρ : Dev nD → PrngReg)

/-- The reference's run: the result is the combination, the arguments are unchanged. -/
theorem run (hE : ∀ (c : Dev nD) (n : Fin 32768) (j : Fin 2), ((m (c.tc.loc main_arg1) : S32768x4.Idx → BitVec 32) (Cert.Dispatch.ixi n j)).toNat < 32)
    (hD : ∀ (c : Dev nD) (n : Fin 32768) (j : Fin 2), (destOf (m (c.tc.loc main_arg2)) (m (c.tc.loc main_arg1)) n j).toNat < 73728) :
    θ_run (defs (F := Ideal)) (onTc (τ := τ) (main (F := Ideal))) ⟨m, fun _ => 0, ρ⟩ fun r => ∀ c : Dev nD,
      (∀ (b : Fin 4) (s : Fin 8192) (j : Fin 1024), (r.2.mem ((c.tc : Thread nD τ).loc main_v50) : S4x8192x1024.Idx → EReal) (ix3 b s j)
        = outE (m (c.tc.loc main_arg0)) (m (c.tc.loc main_arg1)) (m (c.tc.loc main_arg2)) (m (c.tc.loc main_arg3)) (m (c.tc.loc main_arg4))
            (m (c.tc.loc main_arg5)) (m (c.tc.loc main_arg6)) b s j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (Value.run (F := Ideal) m ρ).mono fun r h c => ?_
  obtain ⟨h0, ha⟩ := h c
  refine ⟨fun b s j => (congrFun h0 _).trans ?_, ha⟩
  exact value_at (m (c.tc.loc main_arg0)) (m (c.tc.loc main_arg1)) (m (c.tc.loc main_arg2)) (m (c.tc.loc main_arg3)) (m (c.tc.loc main_arg4))
    (m (c.tc.loc main_arg5)) (m (c.tc.loc main_arg6)) (hE c) (hD c) b s j

end Cert.Combine.Ref

end
-- ==== Proof.CombinePre.lean ====
/-
  The combination's precondition: every expert named is one of 0 .. 31 and every row named one of the experts' rows.
-/
module

public import proofs.«01_k».proof.Proof.Gen.Pre_rows_named
public import proofs.«01_k».proof.Proof.Combine
public import proofs.«01_k».proof.Proof.Table

@[expose] public section

noncomputable section

namespace Cert.Combine

open Cert.Pre_rows_named Cert.Pre_rows_named.Gen Cert.Dispatch
open Idealize.ShloMosaic Idealize.ShloMosaic.ValueIdx

variable {F : FTy → Type} [FloatOps F]

/-- What the precondition says of assignment `j` of token `n`. -/
theorem slot_at (Y : S73728x1024.Idx → Elt F .f32) (I : S32768x4.Idx → BitVec 32) (P : S32.Idx → BitVec 32) (X : S4x8192x1024.Idx → Elt F .f32)
    (Gt : S4x1x1024.Idx → Elt F .f32) (Rt : S4x8192x128.Idx → Elt F .f32) (G : S1024.Idx → Elt F .f32)
    (h : Cert.Pre_rows_named.fn (F := F) Y I P X Gt Rt G = fun _ => 1#1) (n : Fin 32768) (j : Fin 2) :
    (I (Cert.Dispatch.ixi n j)).toNat < 32 ∧ (destOf P I n j).toNat < 73728 := by
  dsimp only [Cert.Pre_rows_named.fn, Cert.Pre_rows_named.fn_part1] at h
  have h := congrFun h (ix2 n j)
  obtain ⟨h, hd1⟩ := both _ _ h
  obtain ⟨h, hd0⟩ := both _ _ h
  obtain ⟨he0, he1⟩ := both _ _ h
  have hE : (extractStridedSlice S32768x2 ![0, 0] I slices_S32768x4_S32768x2_0_0 (ix2 n j)).toNat < 32 := between _ 32#32 (by decide) he0 he1
  rw [left_half] at hE
  refine ⟨hE, ?_⟩
  have hD := between _ 73728#32 (by decide) hd0 hd1
  have hr := row_at Gen.gather_S32_S32768x2x1_S32768x2_n_0_n_n_0_2_1_wf P I Gen.slices_S32768x4_S32768x2_0_0
    Gen.slices_S32768x4_S32768x2_0_2 Gen.bcast_S32768x2_S32768x2x1_0_1 Gen.bcast_S_S32768x2 n j hE
  exact (congrArg BitVec.toNat hr) ▸ hD

/-- Tables of which the precondition holds can be combined by. -/
theorem names_of (Y : S73728x1024.Idx → Elt F .f32) (I : S32768x4.Idx → BitVec 32) (P : S32.Idx → BitVec 32) (X : S4x8192x1024.Idx → Elt F .f32)
    (Gt : S4x1x1024.Idx → Elt F .f32) (Rt : S4x8192x128.Idx → Elt F .f32) (G : S1024.Idx → Elt F .f32)
    (h : Cert.Pre_rows_named.fn (F := F) Y I P X Gt Rt G = fun _ => 1#1) : Names P I where
  e0 n hn := (slot_at Y I P X Gt Rt G h ⟨n, hn⟩ 0).1
  e1 n hn := (slot_at Y I P X Gt Rt G h ⟨n, hn⟩ 1).1
  r0 n hn := (slot_at Y I P X Gt Rt G h ⟨n, hn⟩ 0).2
  r1 n hn := (slot_at Y I P X Gt Rt G h ⟨n, hn⟩ 1).2

end Cert.Combine

end
-- ==== Proof.SampleRows.lean ====
/-
  The rows of the sample's combine kernel: the words its grid point reads from its tables, the experts' rows they name,
  the rows of the two buffers in vector memory they are fetched into, and what one transfer leaves there. Pure facts; no
  program is run here.
-/
module

public import proofs.«01_k».proof.Proof.Gen.Kernel6Ideal.Skeleton
public import proofs.«01_k».proof.Proof.Gen.Kernel6Ideal.Launch
public import Idealize.ShloMosaic.Lib.Batch
public import Idealize.ShloMosaic.Lib.Ring
public import Idealize.ShloMosaic.Lib.Tactic

@[expose] public section

noncomputable section

namespace Cert.SampleCombine

open Cert.Kernel6Ideal Cert.Kernel6Ideal.Gen
open Idealize.ShloMosaic Idealize.ShloMosaic.TcCoe
open Idealize.SL Idealize.SL.Sem

variable {F : FTy → Type} [FloatOps F]

/-! ### Words -/

/-- Word `j` of a grid point's block of the routing table. -/
def ix (j : ℕ) : S1x1x512.Idx := fun a => match a with
  | ⟨0, _⟩ => (⟨0, by decide⟩ : Fin 1)
  | ⟨1, _⟩ => (⟨0, by decide⟩ : Fin 1)
  | ⟨2, _⟩ => (⟨j % 512, Nat.mod_lt _ (by decide)⟩ : Fin 512)
  | ⟨_ + 3, h⟩ => absurd h (by intro h; exact absurd h (by simp))

/-- Word `j` of the table of the experts' first rows. -/
def ixp (j : ℕ) : S32.Idx := fun a => match a with
  | ⟨0, _⟩ => (⟨j % 32, Nat.mod_lt _ (by decide)⟩ : Fin 32)
  | ⟨_ + 1, h⟩ => absurd h (by intro h; exact absurd h (by simp))

/-- The row the first, and the row the second, of token `t`'s two experts has for it: the expert's first row plus the
    token's rank with that expert. `X` is the block of the routing table (four words a token: two experts, two
    ranks), `P` the table of the experts' first rows. -/
def d0 (P : S32.Idx → BitVec 32) (X : S1x1x512.Idx → BitVec 32) (t : ℕ) : BitVec 32 :=
  P (ixp (X (ix (4 * t))).toNat) + X (ix (4 * t + 2))
def d1 (P : S32.Idx → BitVec 32) (X : S1x1x512.Idx → BitVec 32) (t : ℕ) : BitVec 32 :=
  P (ixp (X (ix (4 * t + 1))).toNat) + X (ix (4 * t + 3))

/-- What a grid point needs of its tables: the experts named are 0 .. 31, and every row named is one of
    the experts' rows. -/
structure InRange (P : S32.Idx → BitVec 32) (X : S1x1x512.Idx → BitVec 32) : Prop where
  e0 : ∀ t < 128, (X (ix (4 * t))).toNat < 32
  e1 : ∀ t < 128, (X (ix (4 * t + 1))).toNat < 32
  r0 : ∀ t < 128, (d0 P X t).toNat < 8448
  r1 : ∀ t < 128, (d1 P X t).toNat < 8448

/-! ### Offsets -/

theorem trips1 : k0_t1_loop.trips = 128 := by decide
theorem trips2 : k0_t2_loop.trips = 128 := by decide

theorem off1_eq (t : Fin k0_t1_loop.trips) : k0_off1 t = ![0, 0, 4 * t.val] := by
  revert t; decide +kernel
theorem off3_eq (t : Fin k0_t1_loop.trips) : k0_off3 t = ![0, 0, 4 * t.val + 2] := by
  revert t; decide +kernel
theorem off4_eq (t : Fin k0_t1_loop.trips) : k0_off4 t = ![0, 0, 4 * t.val + 1] := by
  revert t; decide +kernel
theorem off6_eq (t : Fin k0_t1_loop.trips) : k0_off6 t = ![0, 0, 4 * t.val + 3] := by
  revert t; decide +kernel
theorem off11_eq (t : Fin k0_t2_loop.trips) : k0_off11 t = ![0, 0, 4 * t.val] := by
  revert t; decide +kernel
theorem off13_eq (t : Fin k0_t2_loop.trips) : k0_off13 t = ![0, 0, 4 * t.val + 2] := by
  revert t; decide +kernel
theorem off14_eq (t : Fin k0_t2_loop.trips) : k0_off14 t = ![0, 0, 4 * t.val + 1] := by
  revert t; decide +kernel
theorem off16_eq (t : Fin k0_t2_loop.trips) : k0_off16 t = ![0, 0, 4 * t.val + 3] := by
  revert t; decide +kernel

theorem iv1 : ∀ t : Fin k0_t1_loop.trips, (Scf.iv k0_t1_loop.lb k0_t1_loop.st t.val).toNat = t.val := by decide +kernel
theorem iv2 : ∀ t : Fin k0_t2_loop.trips, (Scf.iv k0_t2_loop.lb k0_t2_loop.st t.val).toNat = t.val := by decide +kernel

theorem off7_eq (t : Fin k0_t1_loop.trips) : k0_off7 t = ![0, t.val, 0] := congrArg (fun n : ℕ => (![0, n, 0] : Fin 3 → ℕ)) (iv1 t)
theorem off9_eq (t : Fin k0_t1_loop.trips) : k0_off9 t = ![1, t.val, 0] := congrArg (fun n : ℕ => (![1, n, 0] : Fin 3 → ℕ)) (iv1 t)

/-- A word of scalar memory read through a buffer's view: the block's word at the offset. -/
theorem read_word {κ : Kind} (m : Memref sig κ .smem S1x1x512 .i32) (blk : m.view.ty.Contents (Elt F)) (X : S1x1x512.Idx → BitVec 32)
    (hX : m.view.read (Elt F) blk = X) (off : Fin 3 → ℕ) (inb : ∀ a, off a + S1x1x1.size a ≤ S1x1x512.size a) (j : ℕ) (hj : j < 512)
    (h : off = ![0, 0, j]) (x : (Rect.unit (s := S1x1x512) off S1x1x1.size inb).shape.Idx) :
    (m.access (Rect.unit (s := S1x1x512) off S1x1x1.size inb)).read (Elt F) blk x = X (ix j) := by
  subst h; subst hX
  have hx : (Rect.unit (s := S1x1x512) ![0, 0, j] S1x1x1.size inb).emb x = ix j := by
    funext b; fin_cases b
    · have h0 : (x 0).val < 1 := (x 0).isLt
      exact Fin.ext (show 0 + 1 * (x 0).val = 0 by omega)
    · have h0 : (x 1).val < 1 := (x 1).isLt
      exact Fin.ext (show 0 + 1 * (x 1).val = 0 by omega)
    · have h0 : (x 2).val < 1 := (x 2).isLt
      exact Fin.ext (show j + 1 * (x 2).val = j % 512 by rw [Nat.mod_eq_of_lt hj]; omega)
  rw [← hx]; rfl

/-- A word of the table of first rows. -/
theorem read_first (P : S32.Idx → BitVec 32) (off : Fin 1 → ℕ) (inb : ∀ a, off a + S1.size a ≤ S32.size a) (j : ℕ) (hj : j < 32)
    (h : off = ![j]) (x : (Rect.unit (s := S32) off S1.size inb).shape.Idx) :
    ((Memref.whole main_arg2 : Memref sig .tc .smem S32 .i32).access (Rect.unit (s := S32) off S1.size inb)).read (Elt F) P x = P (ixp j) := by
  subst h
  have hx : (Rect.unit (s := S32) ![j] S1.size inb).emb x = ixp j := by
    funext b; fin_cases b
    have h0 : (x 0).val < 1 := (x 0).isLt
    exact Fin.ext (show j + 1 * (x 0).val = j % 32 by rw [Nat.mod_eq_of_lt hj]; omega)
  rw [← hx]; rfl

theorem chk_e (v : BitVec 32) (h : v.toNat < 32) : ∀ a, (![v.toNat] : Fin 1 → ℕ) a + S1.size a ≤ S32.size a := by
  intro a; fin_cases a; show v.toNat + 1 ≤ 32; omega
theorem chk_r (n : ℕ) (h : n < 8448) : ∀ a, (![n, 0] : Fin 2 → ℕ) a + S1x1024.size a ≤ S8448x1024.size a := by
  intro a; fin_cases a
  · show n + 1 ≤ 8448; omega
  · show 0 + 1024 ≤ 1024; omega

/-! ### Rows -/

/-- Row `r` of the experts' rows. -/
def rowS (r : ℕ) : Finset S8448x1024.Idx := Finset.univ.filter fun y => (y 0).val = r
/-- Row `t` of buffer `k`. -/
def rowD (k t : ℕ) : Finset S2x128x1024.Idx := Finset.univ.filter fun y => (y 0).val = k ∧ (y 1).val = t

theorem mem_rowS (r : ℕ) (y : S8448x1024.Idx) : y ∈ rowS r ↔ (y 0).val = r := by simp [rowS]
theorem mem_rowD (k t : ℕ) (y : S2x128x1024.Idx) : y ∈ rowD k t ↔ (y 0).val = k ∧ (y 1).val = t := by simp [rowD]

theorem unit_rowS (off : Fin 2 → ℕ) (inb : ∀ a, off a + S1x1024.size a ≤ S8448x1024.size a)
    (r : ℕ) (h : off = ![r, 0]) (y : S8448x1024.Idx) :
    y ∈ (Rect.unit (s := S8448x1024) off S1x1024.size inb).set ↔ (y 0).val = r := by
  subst h
  rw [Rect.mem_set_unit]
  have h1 : (y 1).val < 1024 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 1024; omega

theorem unit_rowD (off : Fin 3 → ℕ) (inb : ∀ a, off a + S1x1x1024.size a ≤ S2x128x1024.size a)
    (k t : ℕ) (h : off = ![k, t, 0]) (y : S2x128x1024.Idx) :
    y ∈ (Rect.unit (s := S2x128x1024) off S1x1x1024.size inb).set ↔ (y 0).val = k ∧ (y 1).val = t := by
  subst h
  rw [Rect.mem_set_unit]
  have h1 : (y 2).val < 1024 := (y 2).isLt
  constructor
  · intro H
    have a0 : k ≤ (y 0).val ∧ (y 0).val < k + 1 := H 0
    have a1 : t ≤ (y 1).val ∧ (y 1).val < t + 1 := H 1
    omega
  · intro H a; fin_cases a
    · show k ≤ (y 0).val ∧ (y 0).val < k + 1; omega
    · show t ≤ (y 1).val ∧ (y 1).val < t + 1; omega
    · show 0 ≤ (y 2).val ∧ (y 2).val < 0 + 1024; omega

/-- One of the experts' rows, and one row of a buffer, as the kernel slices them. -/
abbrev srcRow (off : Fin 2 → ℕ) (inb : ∀ a, off a + S1x1024.size a ≤ S8448x1024.size a) : Memref sig .tc .hbm S1x1024 .f32 :=
  (Memref.whole main_arg0 : Memref sig .tc .hbm S8448x1024 .f32).slice (Rect.unit (s := S8448x1024) off S1x1024.size inb) (fun _ => rfl)
abbrev dstRow (off : Fin 3 → ℕ) (inb : ∀ a, off a + S1x1x1024.size a ≤ S2x128x1024.size a) : Memref sig .tc .vmem S1x1024 .f32 :=
  ((Memref.whole cc0_scratch0 : Memref sig .tc .vmem S2x128x1024 .f32).slice (Rect.unit (s := S2x128x1024) off S1x1x1024.size inb) (fun _ => rfl)).squeeze S1x1024 squeezes_S1x1x1024_S1x1024

theorem srcRow_set (off : Fin 2 → ℕ) (inb) (r : ℕ) (h : off = ![r, 0]) : (srcRow off inb).view.set = rowS r := by
  refine (View.set_slice_whole _ _).trans ?_
  ext y
  exact (unit_rowS off inb r h y).trans (mem_rowS r y).symm
theorem dstRow_set (off : Fin 3 → ℕ) (inb) (k t : ℕ) (h : off = ![k, t, 0]) : (dstRow off inb).view.set = rowD k t := by
  refine (View.set_reshape _ _).trans ((View.set_slice_whole _ _).trans ?_)
  ext y
  exact (unit_rowD off inb k t h y).trans (mem_rowD k t y).symm

/-- A transfer of row `a` of the source to row `t` of buffer `k` leaves, in that row, the source's row. -/
theorem write_row (off : Fin 3 → ℕ) (off' : Fin 2 → ℕ) (inb inb') (k t a : ℕ) (h : off = ![k, t, 0]) (h' : off' = ![a, 0])
    (fd : S2x128x1024.Idx → Elt F .f32) (fs : S8448x1024.Idx → Elt F .f32) (g : S2x128x1024.Idx → Elt F .f32)
    (hg : ∀ y ∈ rowD k t, ∀ z : S8448x1024.Idx, (z 0).val = a → (z 1).val = (y 2).val → g y = fs z)
    (y : S2x128x1024.Idx) (hy : y ∈ rowD k t) :
    (dstRow off inb).view.write (Elt F) fd ((srcRow off' inb').view.read (Elt F) fs) Finset.univ y = g y := by
  subst h; subst h'
  have hy0 := (mem_rowD k t y).mp hy
  let x : S1x1024.Idx := fun a => match a with
    | ⟨0, _⟩ => (⟨0, by decide⟩ : Fin 1)
    | ⟨1, _⟩ => (⟨(y 2).val, (y 2).isLt⟩ : Fin 1024)
    | ⟨_ + 2, h⟩ => absurd h (by intro h; exact absurd h (by simp))
  let E : S1x1x1024.Idx := fun a => match a with
    | ⟨0, _⟩ => (⟨0, by decide⟩ : Fin 1)
    | ⟨1, _⟩ => (⟨0, by decide⟩ : Fin 1)
    | ⟨2, _⟩ => (⟨(y 2).val, (y 2).isLt⟩ : Fin 1024)
    | ⟨_ + 3, h⟩ => absurd h (by intro h; exact absurd h (by simp))
  have hE : Shape.reshapeEquiv (squeezes_S1x1x1024_S1x1024 : S1x1x1024.Squeezes S1x1024).numel_eq x = E := by
    refine Shape.reshapeEquiv_eq_of_rowMajor _ ?_
    refine (Shape.rowMajor_val_three (d := ![1, 1, 1024]) E).trans (Eq.trans ?_ (Shape.rowMajor_val_two (d := ![1, 1024]) x).symm)
    show (0 * 1 + 0) * 1024 + (y 2).val = 0 * 1024 + (y 2).val
    omega
  have hx : (dstRow ![k, t, 0] inb).view.emb x = y := by
    show (Rect.unit (s := S2x128x1024) ![k, t, 0] S1x1x1024.size inb).emb (Shape.reshapeEquiv _ x) = y
    rw [hE]
    funext b; fin_cases b
    · exact Fin.ext (show k + 1 * 0 = (y 0).val by omega)
    · exact Fin.ext (show t + 1 * 0 = (y 1).val by omega)
    · exact Fin.ext (show 0 + 1 * (y 2).val = (y 2).val by omega)
  have hw := View.write_emb_of_mem (v := (dstRow ![k, t, 0] inb).view) (Val := Elt F) fd
    ((srcRow ![a, 0] inb').view.read (Elt F) fs) (Finset.mem_univ x)
  rw [hx] at hw
  refine hw.trans ?_
  symm
  refine hg y hy _ ?_ ?_
  · show a + 1 * 0 = a; omega
  · show 0 + 1 * (y 2).val = (y 2).val; omega

/-- The amount one row's transfer credits. -/
def N : ℕ := (Memref.whole cc0_scratch0 : Memref sig .tc .vmem S2x128x1024 .f32).view.ref.dmaCredit S1x1024 .f32

theorem N_pos : 0 < N := sig.dmaCredit_pos _ _ _ S1x1024 .f32 (by decide)

theorem dstRow_credit (off : Fin 3 → ℕ) (inb) : (dstRow off inb).view.dmaCredit = N := rfl

end Cert.SampleCombine

end
-- ==== Proof.SampleTrip.lean ====
/-
  The two loops of the sample's combine kernel, trip by trip: a trip of the first has a token's two rows fetched, one
  into each of the two buffers, a trip of the second waits for two of the 256 transfers.
-/
module

public import proofs.«01_k».proof.Proof.SampleRows
public import Idealize.ShloMosaic.Lib.Pipeline.FrameValue
public import Idealize.ShloMosaic.Lib.Pipeline.FrameBody
public import Idealize.SL.BI.BigOpNat

@[expose] public section

noncomputable section

namespace Cert.SampleCombine

open Cert.Kernel6Ideal Cert.Kernel6Ideal.Gen
open Idealize.ShloMosaic Idealize.ShloMosaic.TcCoe Idealize.ShloMosaic.Tactic
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

/-- The resources: the pipeline's algebra with the counters a batch of transfers on one semaphore is shared by. -/
local notation "𝕄" => MT nD τ sig Unit (Elt F) ℕ (Pipeline.UD sig nD τ) ℕ

variable (c : Dev nD)

/-! ### What a point holds -/

/-- Row `t` of buffer `k` at contents `f`; row `r` of the experts' rows at a share. -/
abbrev heldD (f : S2x128x1024.Idx → Elt F .f32) (k t : ℕ) : sProp 𝕄 :=
  (Memref.whole cc0_scratch0 : Memref sig .tc .vmem S2x128x1024 .f32).view.loc (c : Thread nD τ) ↦[rowD k t]{fullShare} f
abbrev heldS (q : PosShare TreeShare) (f : S8448x1024.Idx → Elt F .f32) (r : ℕ) : sProp 𝕄 :=
  (Memref.whole main_arg0 : Memref sig .tc .hbm S8448x1024 .f32).view.loc (c : Thread nD τ) ↦[rowS r]{q} f

/-- What the transfer into buffer `k` of trip `t` delivers: the buffer's row at its new contents, the share of the
    experts' row it read. -/
abbrev out (k : ℕ) (q : ℕ → PosShare TreeShare) (g : S2x128x1024.Idx → Elt F .f32) (fh : S8448x1024.Idx → Elt F .f32) (D : ℕ → BitVec 32) (t : ℕ) : sProp 𝕄 :=
  iprop(heldD c g k t ∗ heldS c (q t) fh (D t).toNat)

abbrev deliv (q0 q1 : ℕ → PosShare TreeShare) (g : S2x128x1024.Idx → Elt F .f32) (fh : S8448x1024.Idx → Elt F .f32) (D0 D1 : ℕ → BitVec 32) : Fin (2 * 128) → sProp 𝕄 :=
  Ring.interleaved 128 (out c 0 q0 g fh D0) (out c 1 q1 g fh D1)

abbrev batch (q0 q1 : ℕ → PosShare TreeShare) (g : S2x128x1024.Idx → Elt F .f32) (fh : S8448x1024.Idx → Elt F .f32) (D0 D1 : ℕ → BitVec 32) (j u : ℕ) : sProp 𝕄 :=
  Transfers.Batch (countersEmb) (c : Thread nD τ) (.dma cc0_scratch1.sem) () N (deliv c q0 q1 g fh D0 D1) j u

/-- The rows a trip of the first loop fetches and where to, before it. -/
abbrev pack (q0 q1 : ℕ → PosShare TreeShare) (f : S2x128x1024.Idx → Elt F .f32) (fh : S8448x1024.Idx → Elt F .f32) (D0 D1 : ℕ → BitVec 32) (t : ℕ) : sProp 𝕄 :=
  iprop(out c 0 q0 f fh D0 t ∗ out c 1 q1 f fh D1 t)

/-- The two tables, as the loops read them. -/
abbrev tabs (qp qx : PosShare TreeShare) (P : S32.Idx → BitVec 32) (arg3 : Memref sig .tc .smem S1x1x512 .i32)
    (blk : arg3.view.ty.Contents (Elt F)) : sProp 𝕄 :=
  iprop(((Memref.whole main_arg2 : Memref sig .tc .smem S32 .i32).view.loc (c : Thread nD τ) ↦{qp} P)
    ∗ (arg3.view.loc (c : Thread nD τ) ↦{qx} blk))

variable (i : grid0.Coords) (arg3 : Memref sig .tc .smem S1x1x512 .i32) (harg3 : arg3.IsWhole) (qp qx : PosShare TreeShare)
variable (q0 q1 : ℕ → PosShare TreeShare)
variable (P : S32.Idx → BitVec 32) (X : S1x1x512.Idx → BitVec 32) (blk : arg3.view.ty.Contents (Elt F))
variable (f g : S2x128x1024.Idx → Elt F .f32) (fh : S8448x1024.Idx → Elt F .f32)

/-- The contents the two buffers are to have: row `t` of buffer 0 the first of token `t`'s experts' rows, row `t` of
    buffer 1 the second's. -/
def Lands : Prop := ∀ t < 128, ∀ k r, ((k = 0 ∧ r = (d0 P X t).toNat) ∨ (k = 1 ∧ r = (d1 P X t).toNat)) →
  ∀ y ∈ rowD k t, ∀ z : S8448x1024.Idx, (z 0).val = r → (z 1).val = (y 2).val → g y = fh z

/-- Before trip `k` of the first loop. -/
def issueAt (k : ℕ) (_ : Unit) : sProp 𝕄 :=
  iprop(tabs c qp qx P arg3 blk ∗ batch c q0 q1 g fh (d0 P X) (d1 P X) (2 * k) 0
    ∗ bigSep (Finset.Ico k 128) (pack c q0 q1 f fh (d0 P X) (d1 P X)))

omit [FloatOps F] in
/-- A source row as the transfer's source view spells it. -/
theorem heldS_view (q : PosShare TreeShare) (off : Fin 2 → ℕ) (inb) (r : ℕ) (h : off = ![r, 0]) :
    heldS c q fh r ⊢ ((srcRow off inb).view.loc (c : Thread nD τ) ↦[(srcRow off inb).view.set]{q} fh : sProp 𝕄) := by
  rw [srcRow_set off inb r h]

/-- A row's transfer done: the buffer's row at its new contents, the source's row back. -/
theorem landed (q : PosShare TreeShare) (off : Fin 3 → ℕ) (off' : Fin 2 → ℕ) (inb inb') (k t a : ℕ) (h : off = ![k, t, 0]) (h' : off' = ![a, 0])
    (hg : ∀ y ∈ rowD k t, ∀ z : S8448x1024.Idx, (z 0).val = a → (z 1).val = (y 2).val → g y = fh z) :
    iprop(((dstRow off inb).view.loc (c : Thread nD τ) ↦[rowD k t]{fullShare}
        ((dstRow off inb).view.write (Elt F) f ((srcRow off' inb').view.read (Elt F) fh) Finset.univ))
      ∗ ((srcRow off' inb').view.loc (c : Thread nD τ) ↦[(srcRow off' inb').view.set]{q} fh)) ⊢ iprop(heldD c g k t ∗ heldS c q fh a) := by
  rw [srcRow_set off' inb' a h', pointsTo_congr (fun y hy => write_row off off' inb inb' k t a h h' f fh g hg y hy)]

/-- A row asked for: the source's row at a share and the buffer's row whole go into the batch, whose next delivery is
    the two of them back, the buffer's at `g`. -/
theorem wp_send (q : PosShare TreeShare) (off : Fin 3 → ℕ) (off' : Fin 2 → ℕ) (inb inb') (k t a : ℕ) (h : off = ![k, t, 0]) (h' : off' = ![a, 0])
    (hg : ∀ y ∈ rowD k t, ∀ z : S8448x1024.Idx, (z 0).val = a → (z 1).val = (y 2).val → g y = fh z)
    (D : Fin (2 * 128) → sProp 𝕄) (j : ℕ) (hj : j < 2 * 128) (hD : D ⟨j, hj⟩ = iprop(heldD c g k t ∗ heldS c q fh a))
    (hsrc) (hdst) (hsem) (K : PUnit → Prog (TpuEff nD τ sig (Elt F) Λ₀ .tc) PUnit) (Q : PUnit → sProp 𝕄) :
    iprop(heldS c q fh a ∗ heldD c f k t ∗ Transfers.Batch (countersEmb) (c : Thread nD τ) (.dma cc0_scratch1.sem) () N D j 0)
      ⊢ iprop((Transfers.Batch (countersEmb) (c : Thread nD τ) (.dma cc0_scratch1.sem) () N D (j + 1) 0
            -∗ wp frame (wpE (defs₀ (F := F)) Variants.none (c : Thread nD τ) none) Set.univ (K ⟨⟩) Q)
          -∗ wp frame (wpE (defs₀ (F := F)) Variants.none (c : Thread nD τ) none) Set.univ
            (.op (.enqueueDma (srcRow off' inb') (.here (dstRow off inb)) (.dma cc0_scratch1.sem) hsrc hdst hsem) K) Q) := by
  have hL := (landed c f g fh q off off' inb inb' k t a h h' hg).trans (Entails.of_eq hD.symm)
  have := Transfers.wp_dmaBatch (countersEmb (U := Pipeline.UD sig nD τ)) (defs := defs₀ (F := F)) (Q := Q) Variants.none (c : Thread nD τ) none
    (src := srcRow off' inb') (dst := dstRow off inb) (via := .same) (sm := .dma cc0_scratch1.sem) (hsrc := hsrc) (hdst := hdst) (hsem := hsem) (k := K)
    (q := q) (fs := fh) (fd := f) (Sd := rowD k t) (D := D) (u := 0) () N (dstRow_credit off inb) (Finset.subset_of_eq (dstRow_set _ _ _ _ h)) hj (Nat.zero_le _) hL
  iintro ⟨HS, HD, HB⟩
  ihave HS := (heldS_view c fh q off' inb' _ h') $$ HS
  iapply this
  isplitl [HS]; · iexact HS
  isplitl [HD]; · iexact HD
  iexact HB

variable (arg5 : Memref sig .tc .vmem S1x128x1024 .f32) (harg5 : arg5.IsWhole) (arg6 : Memref sig .tc .vmem S1x128x1024 .f32) (harg6 : arg6.IsWhole)
  (arg7 : Memref sig .tc .vmem S1x128x128 .f32) (harg7 : arg7.IsWhole) (arg8 : Memref sig .tc .vmem S1x1024 .f32) (harg8 : arg8.IsWhole)
  (arg9 : Memref sig .tc .vmem S1x128x1024 .f32) (harg9 : arg9.IsWhole)

theorem issue_step (hX : arg3.view.read (Elt F) blk = X) (hr : InRange P X) (hl : Lands P X g fh)
    (k : Fin k0_t1_loop.trips) (acc : Unit) :
    issueAt c arg3 qp qx q0 q1 P X blk f g fh k.val acc
      ⊢ wp frame (wpE (defs₀ (F := F)) Variants.none (c : Thread nD τ) none) Set.univ
          (k0_t1_body (F := F) i (Memref.whole main_arg2) (Memref.isWhole_whole _) arg3 harg3 (Memref.whole main_arg0) (Memref.isWhole_whole _)
            arg5 harg5 arg6 harg6 arg7 harg7 arg8 harg8 arg9 harg9 (Memref.whole cc0_scratch0) (Memref.isWhole_whole _) cc0_scratch1 k acc)
          (issueAt c arg3 qp qx q0 q1 P X blk f g fh (k.val + 1)) := by
  have hk : k.val < 128 := trips1 ▸ k.isLt
  unfold issueAt
  rw [BI.bigSep_Ico_succ_bot hk]
  dsimp only [tabs, pack, out]
  unfold k0_t1_body
  rw [k0_part1_eq_skeleton]; unfold k0_part1_skel
  simp only [smemLoad, Prog.lift, Prog.bind_op, Prog.bind_ret, Prog.pure_eq_ret, smemLoadElt_bind]
  iintro ⟨⟨HP, HX⟩, HB, ⟨⟨HD0, HS0⟩, ⟨HD1, HS1⟩⟩, Hrest⟩
  named_smem HX (X (ix (4 * k.val))) ((read_word arg3 blk X hX _ _ _ (by omega) (off1_eq k) _).symm)
  have hc1 : k0_chk1 (X (ix (4 * k.val))) := chk_e _ (hr.e0 _ hk)
  iapply (wp_assume _ _ _ _ hc1)
  named_smem HP (P (ixp (X (ix (4 * k.val))).toNat)) ((read_first (F := F) P _ _ _ (hr.e0 _ hk) rfl _).symm)
  named_smem HX (X (ix (4 * k.val + 2))) ((read_word arg3 blk X hX _ _ _ (by omega) (off3_eq k) _).symm)
  have hc3 : k0_chk3 (P (ixp (X (ix (4 * k.val))).toNat)) (X (ix (4 * k.val + 2))) := chk_r _ (hr.r0 _ hk)
  iapply (wp_assume _ _ _ _ hc3)
  named_smem HX (X (ix (4 * k.val + 1))) ((read_word arg3 blk X hX _ _ _ (by omega) (off4_eq k) _).symm)
  have hc2 : k0_chk2 (X (ix (4 * k.val + 1))) := chk_e _ (hr.e1 _ hk)
  iapply (wp_assume _ _ _ _ hc2)
  named_smem HP (P (ixp (X (ix (4 * k.val + 1))).toNat)) ((read_first (F := F) P _ _ _ (hr.e1 _ hk) rfl _).symm)
  named_smem HX (X (ix (4 * k.val + 3))) ((read_word arg3 blk X hX _ _ _ (by omega) (off6_eq k) _).symm)
  have hc4 : k0_chk4 (P (ixp (X (ix (4 * k.val + 1))).toNat)) (X (ix (4 * k.val + 3))) := chk_r _ (hr.r1 _ hk)
  iapply (wp_assume _ _ _ _ hc4)
  iapply (wp_send c f g fh (q0 k.val) _ _ (k0_off7_inb k) _ 0 k.val (d0 P X k.val).toNat (off7_eq k) rfl (hl _ hk _ _ (.inl ⟨rfl, rfl⟩))
    (deliv c q0 q1 g fh (d0 P X) (d1 P X)) (2 * k.val) (by omega) (Ring.interleaved_even 128 _ _ k.val (by omega))) $$ [HD0 HS0 HB]
  · isplitl [HS0]; · iexact HS0
    isplitl [HD0]; · iexact HD0
    iexact HB
  iintro HB
  iapply (wp_send c f g fh (q1 k.val) _ _ (k0_off9_inb k) _ 1 k.val (d1 P X k.val).toNat (off9_eq k) rfl (hl _ hk _ _ (.inr ⟨rfl, rfl⟩))
    (deliv c q0 q1 g fh (d0 P X) (d1 P X)) (2 * k.val + 1) (by omega) (Ring.interleaved_odd 128 _ _ k.val (by omega))) $$ [HD1 HS1 HB]
  · isplitl [HS1]; · iexact HS1
    isplitl [HD1]; · iexact HD1
    iexact HB
  iintro HB
  rw [wp_ret]
  imodintro
  isplitl [HP HX]
  · isplitl [HP] <;> iassumption
  isplitl [HB]; · iexact HB
  iexact Hrest

/-! ### The second loop -/

/-- The semaphore after `u` waits: the batch with `u` transfers waited for, or — all waited for — the semaphore at
    zero and every delivery. -/
def waited (D : Fin (2 * 128) → sProp 𝕄) (u : ℕ) : sProp 𝕄 :=
  if u < 2 * 128 then Transfers.Batch (countersEmb) (c : Thread nD τ) (.dma cc0_scratch1.sem) () N D (2 * 128) (u * N)
  else iprop(bigSep Finset.univ D ∗ semVal ((c : Thread nD τ), SemLoc.dma cc0_scratch1.sem) 0)

/-- What the core owes while it waits. -/
abbrev owing : sProp 𝕄 := iprop(∃ W, owes (c : Thread nD τ) 0 W)

/-- One wait. -/
theorem wp_await (D : Fin (2 * 128) → sProp 𝕄) [∀ t, BI.Storable (upEmb : UEmb _ 𝕄) (D t)] (off : Fin 3 → ℕ) (off' : Fin 2 → ℕ) (inb inb') (u : ℕ) (hu : u < 2 * 128)
    (hsrc) (hdst) (K : PUnit → Prog (TpuEff nD τ sig (Elt F) Λ₀ .tc) PUnit) (Q : PUnit → sProp 𝕄) :
    iprop(waited c D u ∗ owing c)
      ⊢ iprop((iprop(waited c D (u + 1) ∗ owing c)
            -∗ wp frame (wpE (defs₀ (F := F)) Variants.none (c : Thread nD τ) none) Set.univ (K ⟨⟩) Q)
          -∗ wp frame (wpE (defs₀ (F := F)) Variants.none (c : Thread nD τ) none) Set.univ
            (.op (.waitDma2 cc0_scratch1.sem (srcRow off' inb') (dstRow off inb) hsrc hdst) K) Q) := by
  unfold waited owing
  rw [if_pos hu]
  by_cases h : u + 1 < 2 * 128
  · rw [if_pos h]
    have hlt : u * N + N < N * (2 * 128) := by
      have := Nat.mul_lt_mul_of_pos_right h N_pos
      rw [Nat.mul_comm N]; rwa [Nat.succ_mul] at this
    iintro ⟨HB, ⟨%W, HO⟩⟩ HK
    have hw := fun W => Transfers.wp_waitBatch (countersEmb (U := Pipeline.UD sig nD τ)) (defs := defs₀ (F := F)) (Q := Q) Variants.none (c : Thread nD τ) none
      (sem := cc0_scratch1.sem) (srcw := srcRow off' inb') (dstw := dstRow off inb) (hsrc := hsrc) (hdst := hdst) (k := K) () (dstRow_credit off inb)
      (D := D) hlt (W := W)
    iapply (hw W) $$ [HB HO]
    · isplitl [HB] <;> iassumption
    iintro ⟨HB, HO⟩
    iapply HK
    rw [show (u + 1) * N = u * N + N from Nat.succ_mul u N]
    isplitl [HB]; · iexact HB
    iexists _; iexact HO
  · rw [if_neg h]
    have heq : u * N + N = N * (2 * 128) := by
      have : u + 1 = 2 * 128 := by omega
      rw [Nat.mul_comm N, ← this, Nat.succ_mul]
    iintro ⟨HB, ⟨%W, HO⟩⟩ HK
    have hw := fun W => Transfers.wp_waitBatchLast (countersEmb (U := Pipeline.UD sig nD τ)) (defs := defs₀ (F := F)) (Q := Q) Variants.none (c : Thread nD τ) none
      (sem := cc0_scratch1.sem) (srcw := srcRow off' inb') (dstw := dstRow off inb) (hsrc := hsrc) (hdst := hdst) (k := K) () (dstRow_credit off inb)
      (D := D) N_pos heq (W := W)
    iapply (hw W) $$ [HB HO]
    · isplitl [HB] <;> iassumption
    iintro ⟨HD, HC, HO⟩
    iapply HK
    isplitl [HD HC]
    · isplitl [HD] <;> iassumption
    iexists _; iexact HO

/-- Before trip `k` of the second loop. -/
def drainAt (k : ℕ) (_ : Unit) : sProp 𝕄 :=
  iprop(tabs c qp qx P arg3 blk ∗ waited c (deliv c q0 q1 g fh (d0 P X) (d1 P X)) (2 * k) ∗ owing c)

theorem drain_step (hX : arg3.view.read (Elt F) blk = X) (hr : InRange P X)
    (k : Fin k0_t2_loop.trips) (acc : Unit) :
    drainAt c arg3 qp qx q0 q1 P X blk g fh k.val acc
      ⊢ wp frame (wpE (defs₀ (F := F)) Variants.none (c : Thread nD τ) none) Set.univ
          (k0_t2_body (F := F) i (Memref.whole main_arg2) (Memref.isWhole_whole _) arg3 harg3 (Memref.whole main_arg0) (Memref.isWhole_whole _)
            arg5 harg5 arg6 harg6 arg7 harg7 arg8 harg8 arg9 harg9 (Memref.whole cc0_scratch0) (Memref.isWhole_whole _) cc0_scratch1 k acc)
          (drainAt c arg3 qp qx q0 q1 P X blk g fh (k.val + 1)) := by
  have hk : k.val < 128 := trips2 ▸ k.isLt
  unfold drainAt
  unfold k0_t2_body
  rw [k0_part2_eq_skeleton]; unfold k0_part2_skel
  simp only [smemLoad, Prog.lift, Prog.bind_op, Prog.bind_ret, Prog.pure_eq_ret, smemLoadElt_bind]
  iintro ⟨⟨HP, HX⟩, HB, HO⟩
  named_smem HX (X (ix (4 * k.val))) ((read_word arg3 blk X hX _ _ _ (by omega) (off11_eq k) _).symm)
  have hc1 : k0_chk5 (X (ix (4 * k.val))) := chk_e _ (hr.e0 _ hk)
  iapply (wp_assume _ _ _ _ hc1)
  named_smem HP (P (ixp (X (ix (4 * k.val))).toNat)) ((read_first (F := F) P _ _ _ (hr.e0 _ hk) rfl _).symm)
  named_smem HX (X (ix (4 * k.val + 2))) ((read_word arg3 blk X hX _ _ _ (by omega) (off13_eq k) _).symm)
  have hc3 : k0_chk7 (P (ixp (X (ix (4 * k.val))).toNat)) (X (ix (4 * k.val + 2))) := chk_r _ (hr.r0 _ hk)
  iapply (wp_assume _ _ _ _ hc3)
  named_smem HX (X (ix (4 * k.val + 1))) ((read_word arg3 blk X hX _ _ _ (by omega) (off14_eq k) _).symm)
  have hc2 : k0_chk6 (X (ix (4 * k.val + 1))) := chk_e _ (hr.e1 _ hk)
  iapply (wp_assume _ _ _ _ hc2)
  named_smem HP (P (ixp (X (ix (4 * k.val + 1))).toNat)) ((read_first (F := F) P _ _ _ (hr.e1 _ hk) rfl _).symm)
  named_smem HX (X (ix (4 * k.val + 3))) ((read_word arg3 blk X hX _ _ _ (by omega) (off16_eq k) _).symm)
  have hc4 : k0_chk8 (P (ixp (X (ix (4 * k.val + 1))).toNat)) (X (ix (4 * k.val + 3))) := chk_r _ (hr.r1 _ hk)
  iapply (wp_assume _ _ _ _ hc4)
  iapply (wp_await c (deliv c q0 q1 g fh (d0 P X) (d1 P X)) _ _ (k0_off17_inb k) _ (2 * k.val) (by omega)) $$ [HB HO]
  · isplitl [HB] <;> iassumption
  iintro ⟨HB, HO⟩
  iapply (wp_await c (deliv c q0 q1 g fh (d0 P X) (d1 P X)) _ _ (k0_off19_inb k) _ (2 * k.val + 1) (by omega)) $$ [HB HO]
  · isplitl [HB] <;> iassumption
  iintro ⟨HB, HO⟩
  rw [wp_ret]
  imodintro
  isplitl [HP HX]
  · isplitl [HP] <;> iassumption
  isplitl [HB]; · iexact HB
  iexact HO

end Cert.SampleCombine

end
-- ==== Proof.SamplePoint.lean ====
/-
  The sample's combine kernel at its grid point: its 256 rows fetched into the two buffers, weighed, added to the residual
  stream and normalised.
-/
module

public import proofs.«01_k».proof.Proof.SampleTrip
public import Idealize.ShloMosaic.Lib.ShareLeaves
public import Idealize.ShloMosaic.Lib.Pipeline.ReadBack
public import Idealize.ShloMosaic.Lib.VecWindow

@[expose] public section

noncomputable section

namespace Cert.SampleCombine

open Cert.Kernel6Ideal Cert.Kernel6Ideal.Gen
open Idealize.ShloMosaic Idealize.ShloMosaic.TcCoe Idealize.ShloMosaic.Tactic Idealize.ShloMosaic.Pipeline
open Idealize.SL Idealize.SL.RA
open Idealize.SL.BI (sProp bigSep bigSep_insert bigSep_empty)
open scoped Idealize.SL.BI
open Idealize.SL.BI.BIBase Idealize.SL.BI.Laws Idealize.SL.ProofMode Idealize.SL.Sem

variable {F : FTy → Type} [FloatOps F]

/-- The resources: the pipeline's algebra with the counters a batch of transfers on one semaphore is shared by. -/
local notation "𝕄" => MT nD τ sig Unit (Elt F) ℕ (Pipeline.UD sig nD τ) ℕ

variable (c : Dev nD)

/-- Both buffers whole, and all the experts' rows. -/
abbrev wholeD (f : S2x128x1024.Idx → Elt F .f32) : sProp 𝕄 :=
  (Memref.whole cc0_scratch0 : Memref sig .tc .vmem S2x128x1024 .f32).view.loc (c : Thread nD τ) ↦{fullShare} f
abbrev wholeS (f : S8448x1024.Idx → Elt F .f32) : sProp 𝕄 :=
  (Memref.whole main_arg0 : Memref sig .tc .hbm S8448x1024 .f32).view.loc (c : Thread nD τ) ↦{fullShare} f

/-! ### What the buffers are to hold -/

/-- Element `j` of row `n` of the experts' rows. -/
def at8448 (n : ℕ) (j : Fin 1024) : S8448x1024.Idx := fun a => match a with
  | ⟨0, _⟩ => (⟨n % 8448, Nat.mod_lt _ (by decide)⟩ : Fin 8448)
  | ⟨1, _⟩ => j
  | ⟨_ + 2, h⟩ => absurd h (by intro h; exact absurd h (by simp))

/-- The experts' rows the tables name, fetched: buffer 0 the first of each token's two, buffer 1 the second. -/
def fetched (P : S32.Idx → BitVec 32) (X : S1x1x512.Idx → BitVec 32) (fh : S8448x1024.Idx → Elt F .f32) : S2x128x1024.Idx → Elt F .f32 :=
  fun y => fh (at8448 (if (y 0).val = 0 then d0 P X (y 1).val else d1 P X (y 1).val).toNat (y 2))

omit [FloatOps F] in
theorem fetched_lands (P : S32.Idx → BitVec 32) (X : S1x1x512.Idx → BitVec 32) (fh : S8448x1024.Idx → Elt F .f32) (hr : InRange P X) :
    Lands P X (fetched P X fh) fh := by
  intro t ht k r h y hy z hz0 hz1
  obtain ⟨hy0, hy1⟩ := (mem_rowD k t y).mp hy
  unfold fetched
  rw [hy0, hy1]
  refine congrArg fh (funext fun a => Fin.ext ?_)
  rcases h with ⟨rfl, rfl⟩ | ⟨rfl, rfl⟩
  · match a with
    | ⟨0, _⟩ =>
      show (if (0 : ℕ) = 0 then d0 P X t else d1 P X t).toNat % 8448 = (z 0).val
      rw [if_pos rfl, hz0]; exact Nat.mod_eq_of_lt (hr.r0 t ht)
    | ⟨1, _⟩ => exact hz1.symm
  · match a with
    | ⟨0, _⟩ =>
      show (if (1 : ℕ) = 0 then d0 P X t else d1 P X t).toNat % 8448 = (z 0).val
      rw [if_neg (by decide), hz0]; exact Nat.mod_eq_of_lt (hr.r1 t ht)
    | ⟨1, _⟩ => exact hz1.symm

/-- One of the two buffers. -/
def buf (k : Fin 2) (g : S2x128x1024.Idx → Elt F .f32) : Vec F S1x128x1024 .f32 :=
  fun y => g (fun | ⟨0, _⟩ => k | ⟨1, _⟩ => y 1 | ⟨2, _⟩ => y 2)

omit [FloatOps F] in
theorem read_buf0 (g : S2x128x1024.Idx → Elt F .f32) (inb) :
    (Memref.whole cc0_scratch0 : Memref sig .tc .vmem S2x128x1024 .f32).view.readAt (Elt F) (Rect.unit (s := S2x128x1024) ![0, 0, 0] S1x128x1024.size inb).toLoadRect g = buf 0 g := by
  funext y
  refine congrArg g (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

omit [FloatOps F] in
theorem read_buf1 (g : S2x128x1024.Idx → Elt F .f32) (inb) :
    (Memref.whole cc0_scratch0 : Memref sig .tc .vmem S2x128x1024 .f32).view.readAt (Elt F) (Rect.unit (s := S2x128x1024) ![1, 0, 0] S1x128x1024.size inb).toLoadRect g = buf 1 g := by
  funext y
  refine congrArg g (funext fun a => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega

/-- What a grid point leaves: of the routing weights, the two buffers, the residual stream, the gate and the norm's weights. -/
def result (g : S2x128x1024.Idx → Elt F .f32) (x1 : Vec F S1x128x1024 .f32) (gt : Vec F S1x128x1024 .f32) (rt : Vec F S1x128x128 .f32)
    (gf : Vec F S1x1024 .f32) : Vec F S1x128x1024 .f32 :=
  k0_pay1 (k0_pay2 rt (buf 0 g) (buf 1 g) x1 gt) (k0_pay3 rt (buf 0 g) (buf 1 g) x1 gt) gf

/-! ### The rows taken apart -/

theorem rowD_disjoint {k t k' t' : ℕ} (h : k ≠ k' ∨ t ≠ t') : Disjoint (rowD k t) (rowD k' t') := by
  rw [Finset.disjoint_left]; intro y hy hy'; rw [mem_rowD] at hy hy'
  rcases h with h | h
  · exact h (hy.1.symm.trans hy'.1)
  · exact h (hy.2.symm.trans hy'.2)

/-- The elements of buffer `k`. -/
abbrev famD (k : ℕ) : Finset S2x128x1024.Idx := (Finset.range 128).biUnion fun t => rowD k t

theorem mem_famD (k : ℕ) (y : S2x128x1024.Idx) : y ∈ famD k ↔ (y 0).val = k := by
  have h1 : (y 1).val < 128 := (y 1).isLt
  constructor
  · intro h; obtain ⟨t, _, h⟩ := Finset.mem_biUnion.mp h; exact ((mem_rowD k t y).mp h).1
  · intro h; exact Finset.mem_biUnion.mpr ⟨(y 1).val, Finset.mem_range.mpr h1, (mem_rowD _ _ y).mpr ⟨h, rfl⟩⟩

theorem famD_compl : Finset.univ \ famD 0 = famD 1 := by
  ext y
  have h0 : (y 0).val < 2 := (y 0).isLt
  rw [Finset.mem_sdiff, mem_famD, mem_famD]
  constructor
  · intro h; have := h.2; omega
  · intro h; exact ⟨Finset.mem_univ _, by omega⟩

omit [FloatOps F] in
theorem famD_rows (k : ℕ) (f : S2x128x1024.Idx → Elt F .f32) :
    ((Memref.whole cc0_scratch0 : Memref sig .tc .vmem S2x128x1024 .f32).view.loc (c : Thread nD τ) ↦[famD k]{fullShare} f : sProp 𝕄)
      = bigSep (Finset.range 128) fun t => heldD c f k t :=
  pointsTo_biUnion _ _ fun t _ t' _ hne => rowD_disjoint (.inr hne)

omit [FloatOps F] in
/-- The two buffers are the rows of the first and the rows of the second. -/
theorem dest_split (f : S2x128x1024.Idx → Elt F .f32) :
    (wholeD c f : sProp 𝕄) ⊣⊢ iprop((bigSep (Finset.range 128) fun t => heldD c f 0 t) ∗ (bigSep (Finset.range 128) fun t => heldD c f 1 t)) := by
  rw [← famD_rows c 0, ← famD_rows c 1, ← famD_compl]
  exact pointsTo_split_subset (Finset.subset_univ (famD 0))

/-- The share trip `t`'s first, and its second, transfer reads the experts' rows at. -/
def share0 (t : ℕ) : PosShare TreeShare := ShareLeaves.leaf 7 fullShare.left ⟨t % 128, Nat.mod_lt _ (by decide)⟩
def share1 (t : ℕ) : PosShare TreeShare := ShareLeaves.leaf 7 fullShare.right ⟨t % 128, Nat.mod_lt _ (by decide)⟩

/-- The experts' rows other than row `r`, at a share. -/
abbrev restS (q : PosShare TreeShare) (f : S8448x1024.Idx → Elt F .f32) (r : ℕ) : sProp 𝕄 :=
  (Memref.whole main_arg0 : Memref sig .tc .hbm S8448x1024 .f32).view.loc (c : Thread nD τ) ↦[Finset.univ \ rowS r]{q} f

omit [FloatOps F] in
/-- One half of the experts' rows is 128 shares of them, and each of these the row one transfer reads and the others. -/
theorem half_split (q : PosShare TreeShare) (fh : S8448x1024.Idx → Elt F .f32) (D : ℕ → BitVec 32) (s : ℕ → PosShare TreeShare)
    (hs : ∀ t (h : t < 128), s t = ShareLeaves.leaf 7 q ⟨t, h⟩) :
    ((Memref.whole main_arg0 : Memref sig .tc .hbm S8448x1024 .f32).view.loc (c : Thread nD τ) ↦{q} fh : sProp 𝕄)
      = iprop((bigSep (Finset.range 128) fun t => heldS c (s t) fh (D t).toNat) ∗ (bigSep (Finset.range 128) fun t => restS c (s t) fh (D t).toNat)) := by
  refine (ShareLeaves.pointsTo_leaves _ _ 7 q).trans ?_
  refine (Ring.bigSep_fin_eq_range 128 _ (fun t => iprop(heldS c (s t) fh (D t).toNat ∗ restS c (s t) fh (D t).toNat)) fun t h => ?_).trans (BI.bigSep_sep _ _ _)
  have e := pointsTo_split_subset (ℓ := (Memref.whole main_arg0 : Memref sig .tc .hbm S8448x1024 .f32).view.loc (c : Thread nD τ)) (f := fh) (q := s t)
    (Ix := Unit) (Name := ℕ) (U := Pipeline.UD sig nD τ) (Lvl := ℕ) (Finset.subset_univ (rowS (D t).toNat))
  rw [← hs t h]
  exact (BI.Entails.antisymm e.1 e.2).symm

omit [FloatOps F] in
/-- The experts' rows are what the 256 transfers read and what they leave alone. -/
theorem source_split (D0 D1 : ℕ → BitVec 32) (fh : S8448x1024.Idx → Elt F .f32) :
    (wholeS c fh : sProp 𝕄) ⊣⊢ iprop(((bigSep (Finset.range 128) fun t => heldS c (share0 t) fh (D0 t).toNat) ∗ (bigSep (Finset.range 128) fun t => restS c (share0 t) fh (D0 t).toNat))
      ∗ ((bigSep (Finset.range 128) fun t => heldS c (share1 t) fh (D1 t).toNat) ∗ (bigSep (Finset.range 128) fun t => restS c (share1 t) fh (D1 t).toNat))) := by
  rw [← half_split c fullShare.left fh D0 share0 (fun t h => by unfold share0; congr 1; exact Fin.ext (Nat.mod_eq_of_lt h)),
    ← half_split c fullShare.right fh D1 share1 (fun t h => by unfold share1; congr 1; exact Fin.ext (Nat.mod_eq_of_lt h))]
  exact pointsTo_share (PosShare.mem_left_op_right fullShare)

/-! ### A grid point -/

variable (i : grid0.Coords) (arg3 : Memref sig .tc .smem S1x1x512 .i32) (harg3 : arg3.IsWhole) (qp qx : PosShare TreeShare)
variable (P : S32.Idx → BitVec 32) (X : S1x1x512.Idx → BitVec 32) (blk : arg3.view.ty.Contents (Elt F))
variable (f : S2x128x1024.Idx → Elt F .f32) (fh : S8448x1024.Idx → Elt F .f32)

/-- A point's state around its loops: the tables, what the core owes, the semaphore at zero, the buffers, the experts' rows. -/
abbrev pointAt (f : S2x128x1024.Idx → Elt F .f32) : sProp 𝕄 :=
  iprop(tabs c qp qx P arg3 blk ∗ owing c ∗ semVal ((c : Thread nD τ), SemLoc.dma cc0_scratch1.sem) 0 ∗ wholeD c f ∗ wholeS c fh)

variable (arg5 : Memref sig .tc .vmem S1x128x1024 .f32) (harg5 : arg5.IsWhole) (arg6 : Memref sig .tc .vmem S1x128x1024 .f32) (harg6 : arg6.IsWhole)
  (arg7 : Memref sig .tc .vmem S1x128x128 .f32) (harg7 : arg7.IsWhole) (arg8 : Memref sig .tc .vmem S1x1024 .f32) (harg8 : arg8.IsWhole)
  (arg9 : Memref sig .tc .vmem S1x128x1024 .f32) (harg9 : arg9.IsWhole)

/-- The two loops: they fetch the rows the tables name, whatever follows. -/
theorem loops (hX : arg3.view.read (Elt F) blk = X) (hr : InRange P X) {α : Type} (K : Prog (TpuEff nD τ sig (Elt F) Λ₀ .tc) α) (Q : α → sProp 𝕄) :
    iprop(pointAt c arg3 qp qx P blk fh f
        ∗ (pointAt c arg3 qp qx P blk fh (fetched P X fh) -∗ wp frame (wpE (defs₀ (F := F)) Variants.none (c : Thread nD τ) none) Set.univ K Q))
      ⊢ wp frame (wpE (defs₀ (F := F)) Variants.none (c : Thread nD τ) none) Set.univ
          (do
            Scf.Loop.for k0_t1_loop k0_t1_ok ⟨⟩ (k0_t1_body (F := F) i (Memref.whole main_arg2) (Memref.isWhole_whole _) arg3 harg3 (Memref.whole main_arg0) (Memref.isWhole_whole _)
              arg5 harg5 arg6 harg6 arg7 harg7 arg8 harg8 arg9 harg9 (Memref.whole cc0_scratch0) (Memref.isWhole_whole _) cc0_scratch1)
            Scf.Loop.for k0_t2_loop k0_t2_ok ⟨⟩ (k0_t2_body (F := F) i (Memref.whole main_arg2) (Memref.isWhole_whole _) arg3 harg3 (Memref.whole main_arg0) (Memref.isWhole_whole _)
              arg5 harg5 arg6 harg6 arg7 harg7 arg8 harg8 arg9 harg9 (Memref.whole cc0_scratch0) (Memref.isWhole_whole _) cc0_scratch1)
            K) Q := by
  have hl := fetched_lands P X fh hr
  generalize fetched P X fh = g at hl
  unfold pointAt
  iintro ⟨⟨HT, HO, HC, HD, HS⟩, HK⟩
  ihave HS := (source_split c (d0 P X) (d1 P X) fh).1 $$ HS
  ihave HD := (dest_split c f).1 $$ HD
  icases HS with ⟨⟨HS0, HR0⟩, ⟨HS1, HR1⟩⟩
  icases HD with ⟨HD0, HD1⟩
  imod (Transfers.batch_alloc' (Lvl := ℕ) (countersEmb (U := Pipeline.UD sig nD τ)) (c : Thread nD τ) () N
    (deliv c share0 share1 g fh (d0 P X) (d1 P X)) (sm := .dma cc0_scratch1.sem) (E := Set.univ)) $$ HC with HB
  ihave Hp := (show iprop(((bigSep (Finset.range 128) fun t => heldD c f 0 t) ∗ (bigSep (Finset.range 128) fun t => heldS c (share0 t) fh (d0 P X t).toNat))
      ∗ ((bigSep (Finset.range 128) fun t => heldD c f 1 t) ∗ (bigSep (Finset.range 128) fun t => heldS c (share1 t) fh (d1 P X t).toNat)))
      ⊢ (bigSep (Finset.Ico 0 128) (pack c share0 share1 f fh (d0 P X) (d1 P X)) : sProp 𝕄) from by
        rw [← Finset.range_eq_Ico]; unfold pack out
        exact Entails.of_eq ((congrArg₂ BI.sep (BI.bigSep_sep _ _ _).symm (BI.bigSep_sep _ _ _).symm).trans (BI.bigSep_sep _ _ _).symm)) $$ [HD0 HS0 HD1 HS1]
  · isplitl [HD0 HS0]
    · isplitl [HD0] <;> iassumption
    · isplitl [HD1] <;> iassumption
  iapply (Scf.wp_for_bind frame (wpE (defs₀ (F := F)) Variants.none (c : Thread nD τ) none) Set.univ k0_t1_loop.lb k0_t1_loop.ub k0_t1_loop.st k0_t1_ok _ _
    (issueAt c arg3 qp qx share0 share1 P X blk f g fh) (issue_step c i arg3 harg3 qp qx share0 share1 P X blk f g fh arg5 harg5 arg6 harg6 arg7 harg7 arg8 harg8 arg9 harg9 hX hr hl)) $$ [HT HB Hp]
  · unfold issueAt
    isplitl [HT]; · iexact HT
    isplitl [HB]; · iexact HB
    iexact Hp
  iintro %acc HI
  unfold issueAt
  icases HI with ⟨HT, HB, -⟩
  iapply (Scf.wp_for_bind frame (wpE (defs₀ (F := F)) Variants.none (c : Thread nD τ) none) Set.univ k0_t2_loop.lb k0_t2_loop.ub k0_t2_loop.st k0_t2_ok _ _
    (drainAt c arg3 qp qx share0 share1 P X blk g fh) (drain_step c i arg3 harg3 qp qx share0 share1 P X blk g fh arg5 harg5 arg6 harg6 arg7 harg7 arg8 harg8 arg9 harg9 hX hr)) $$ [HT HB HO]
  · unfold drainAt waited
    rw [if_pos (by decide), show Scf.trips k0_t1_loop.lb k0_t1_loop.ub k0_t1_loop.st = 128 from trips1, Nat.mul_zero, Nat.zero_mul]
    isplitl [HT]; · iexact HT
    isplitl [HB]; · iexact HB
    iexact HO
  iintro %acc' HI
  rw [show Scf.trips k0_t2_loop.lb k0_t2_loop.ub k0_t2_loop.st = 128 from trips2]
  unfold drainAt waited
  rw [if_neg (by decide)]
  icases HI with ⟨HT, ⟨HDel, HC⟩, HO⟩
  ihave Hp := (show (bigSep Finset.univ (deliv c share0 share1 g fh (d0 P X) (d1 P X)) : sProp 𝕄)
      ⊢ iprop(((bigSep (Finset.range 128) fun t => heldD c g 0 t) ∗ (bigSep (Finset.range 128) fun t => heldS c (share0 t) fh (d0 P X t).toNat))
      ∗ ((bigSep (Finset.range 128) fun t => heldD c g 1 t) ∗ (bigSep (Finset.range 128) fun t => heldS c (share1 t) fh (d1 P X t).toNat))) from by
        refine (Entails.of_eq (Ring.bigSep_interleaved 128 _ _)).trans (Entails.of_eq ?_)
        exact (congrArg₂ BI.sep (BI.bigSep_sep _ _ _) (BI.bigSep_sep _ _ _))) $$ HDel
  icases Hp with ⟨⟨HD0, HS0⟩, ⟨HD1, HS1⟩⟩
  iapply HK
  isplitl [HT]; · iexact HT
  isplitl [HO]; · iexact HO
  isplitl [HC]; · iexact HC
  isplitl [HD0 HD1]
  · iapply (dest_split c g).2
    isplitl [HD0] <;> iassumption
  · iapply (source_split c (d0 P X) (d1 P X) fh).2
    isplitl [HS0 HR0]
    · isplitl [HS0] <;> iassumption
    · isplitl [HS1] <;> iassumption

/-- One grid point of the kernel: it leaves `result` of the rows the tables name. -/
theorem point (hX : arg3.view.read (Elt F) blk = X) (hr : InRange P X) (x1 : Vec F S1x128x1024 .f32) (gt : Vec F S1x128x1024 .f32) (rt : Vec F S1x128x128 .f32)
    (gf : Vec F S1x1024 .f32) :
    iprop(pointAt c arg3 qp qx P blk fh f ∗ owns (Ix := Unit) (Name := ℕ) (U := Pipeline.UD sig nD τ) (Lvl := ℕ) (c : Thread nD τ) arg5 fullShare x1
        ∗ owns (c : Thread nD τ) arg6 fullShare gt ∗ owns (c : Thread nD τ) arg7 fullShare rt ∗ owns (c : Thread nD τ) arg8 fullShare gf ∗ (∃ d, owns (c : Thread nD τ) arg9 fullShare d))
      ⊢ wp frame (wpE (defs₀ (F := F)) Variants.none (c : Thread nD τ) none) Set.univ
          (cc0_moe_combine_final_norm (F := F) i (Memref.whole main_arg2) (Memref.isWhole_whole _) arg3 harg3 (Memref.whole main_arg0) (Memref.isWhole_whole _)
            arg5 harg5 arg6 harg6 arg7 harg7 arg8 harg8 arg9 harg9 (Memref.whole cc0_scratch0) (Memref.isWhole_whole _) cc0_scratch1)
          (fun _ => iprop(pointAt c arg3 qp qx P blk fh (fetched P X fh) ∗ owns (c : Thread nD τ) arg5 fullShare x1
            ∗ owns (c : Thread nD τ) arg6 fullShare gt ∗ owns (c : Thread nD τ) arg7 fullShare rt ∗ owns (c : Thread nD τ) arg8 fullShare gf
            ∗ owns (c : Thread nD τ) arg9 fullShare (result (fetched P X fh) x1 gt rt gf))) := by
  simp only [cc0_moe_combine_final_norm_eq_skeleton]; unfold cc0_moe_combine_final_norm_skel
  rw [k0_part3_eq_skeleton]; unfold k0_part3_skel
  simp only [bind_assoc]
  iintro ⟨HP, H5, H6, H7, H8, H9⟩
  iapply (loops c i arg3 harg3 qp qx P X blk f fh arg5 harg5 arg6 harg6 arg7 harg7 arg8 harg8 arg9 harg9 hX hr _ _)
  isplitl [HP]; · iexact HP
  generalize fetched P X fh = g
  unfold pointAt owns
  iintro ⟨HT, HO, HC, HD, HS⟩
  icases H5 with ⟨%f5, %hf5, H5⟩
  icases H6 with ⟨%f6, %hf6, H6⟩
  icases H7 with ⟨%f7, %hf7, H7⟩
  icases H8 with ⟨%f8, %hf8, H8⟩
  icases H9 with ⟨%d9, %f9, -, H9⟩
  obtain rfl := harg5.eq_unread hf5; obtain rfl := harg6.eq_unread hf6; obtain rfl := harg7.eq_unread hf7; obtain rfl := harg8.eq_unread hf8
  sl_exec
  sl_step
  isplitl [HT HO HC HD HS]
  · isplitl [HT]; · iexact HT
    isplitl [HO]; · iexact HO
    isplitl [HC]; · iexact HC
    isplitl [HD] <;> iassumption
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  iexists _; isplitr; swap; · iexact H9
  ipureintro
  refine (View.read_writes_full _ _ _ _ _).trans ?_
  unfold result
  rw [View.readAt_full, View.readAt_full, View.readAt_full, View.readAt_full, hf5, hf6, hf7, hf8, read_buf0, read_buf1]

end Cert.SampleCombine

end
-- ==== Proof.Sample.lean ====
/-
  The sample's combine kernel: the launch, its one block of tokens, and what the memory holds at the end.
-/
module

public import proofs.«01_k».proof.Proof.SamplePoint
public import Idealize.ShloMosaic.Lib.Claim
public import Idealize.ShloMosaic.Lib.Pipeline.ValueKit.Geometry

@[expose] public section

noncomputable section

namespace Cert.SampleCombine

open Cert.Kernel6Ideal Cert.Kernel6Ideal.Gen
open Idealize.ShloMosaic Idealize.ShloMosaic.TcCoe Idealize.ShloMosaic.Tactic Idealize.ShloMosaic.Pipeline
open Idealize.SL Idealize.SL.RA
open Idealize.SL.BI (sProp bigSep bigSep_insert bigSep_empty bigSep_singleton)
open scoped Idealize.SL.BI
open Idealize.SL.BI.BIBase Idealize.SL.BI.Laws Idealize.SL.ProofMode Idealize.SL.Sem

variable {F : FTy → Type} [FloatOps F]

/-- The resources: the pipeline's algebra with the counters a batch of transfers on one semaphore is shared by. -/
local notation "𝕄" => MT nD τ sig Unit (Elt F) ℕ (Pipeline.UD sig nD τ) ℕ

/-! ### The tables as a whole -/

/-- Entry `j` of token `n`'s row of the table of experts and ranks. -/
def ixi (n j : ℕ) : S128x4.Idx := fun a => match a with
  | ⟨0, _⟩ => (⟨n % 128, Nat.mod_lt _ (by decide)⟩ : Fin 128)
  | ⟨1, _⟩ => (⟨j % 4, Nat.mod_lt _ (by decide)⟩ : Fin 4)
  | ⟨_ + 2, h⟩ => absurd h (by intro h; exact absurd h (by simp))

/-- The row at which token `n`'s first, and its second, expert has it. -/
def D0 (P : S32.Idx → BitVec 32) (I : S128x4.Idx → BitVec 32) (n : ℕ) : BitVec 32 := P (ixp (I (ixi n 0)).toNat) + I (ixi n 2)
def D1 (P : S32.Idx → BitVec 32) (I : S128x4.Idx → BitVec 32) (n : ℕ) : BitVec 32 := P (ixp (I (ixi n 1)).toNat) + I (ixi n 3)

/-- Tables that can be combined by: the experts are 0 .. 31 and the rows are rows of the experts' array. -/
structure Names (P : S32.Idx → BitVec 32) (I : S128x4.Idx → BitVec 32) : Prop where
  e0 : ∀ n < 128, (I (ixi n 0)).toNat < 32
  e1 : ∀ n < 128, (I (ixi n 1)).toNat < 32
  r0 : ∀ n < 128, (D0 P I n).toNat < 8448
  r1 : ∀ n < 128, (D1 P I n).toNat < 8448

/-- `X` is block `t` of the table `I`: 128 tokens' rows. -/
def IsBlock (I : S128x4.Idx → BitVec 32) (X : S1x1x512.Idx → BitVec 32) (t : ℕ) : Prop :=
  ∀ k < 128, ∀ j < 4, X (ix (4 * k + j)) = I (ixi (128 * t + k) j)

theorem IsBlock.d0_eq {P I X t} (h : IsBlock I X t) {k : ℕ} (hk : k < 128) : d0 P X k = D0 P I (128 * t + k) := by
  unfold d0 D0
  rw [show X (ix (4 * k)) = I (ixi (128 * t + k) 0) from h k hk 0 (by omega), h k hk 2 (by omega)]
theorem IsBlock.d1_eq {P I X t} (h : IsBlock I X t) {k : ℕ} (hk : k < 128) : d1 P X k = D1 P I (128 * t + k) := by
  unfold d1 D1
  rw [h k hk 1 (by omega), h k hk 3 (by omega)]

theorem IsBlock.inRange {P I X t} (h : IsBlock I X t) (hN : Names P I) (ht : t < 1) : InRange P X where
  e0 k hk := by rw [show X (ix (4 * k)) = I (ixi (128 * t + k) 0) from h k hk 0 (by omega)]; exact hN.e0 _ (by omega)
  e1 k hk := by rw [h k hk 1 (by omega)]; exact hN.e1 _ (by omega)
  r0 k hk := by rw [h.d0_eq hk]; exact hN.r0 _ (by omega)
  r1 k hk := by rw [h.d1_eq hk]; exact hN.r1 _ (by omega)

/-! ### Up to the kernel's call -/

variable (m : (ℓ : Loc nD τ sig) → Buf (Elt F) ℓ)

theorem hostOps0_fresh : (hostOps0 : List (HloOp τ sig (Elt F))).Forall fun op => op.fresh = ∅ := by
  simp only [List.Forall]; repeat' constructor

/-- A core's buffers when the kernel's call is reached. -/
abbrev entry0 (c : Dev nD) (b : Ref sig .tc) : Buf (Elt F) ((c : Thread nD τ).loc b) := StableHlo.after hostOps0 (fun b => m (c, b)) b

theorem hmain0 : Pipeline.HMainP (Ix := Unit) (Name := ℕ) (U := Pipeline.UD sig nD τ) (Lvl := ℕ) pcfgs 0 defs₀ Variants.none m (main (F := F)) (entry0 m) :=
  Pipeline.hmainP_prefix pcfgs 0 defs₀ Variants.none m main hostOps0 hostOps0_sub hostOps0_fresh main_chain

/-- The arguments as launched: the experts' rows, the table of experts and ranks, the experts' first rows, the residual
    stream, the gate, the routing weights, the norm's weights. -/
abbrev rows (c : Dev nD) : S8448x1024.Idx → Elt F .f32 := m ((c : Thread nD τ).loc main_arg0)
abbrev table (c : Dev nD) : S128x4.Idx → BitVec 32 := m ((c : Thread nD τ).loc main_arg1)
abbrev firsts (c : Dev nD) : S32.Idx → BitVec 32 := m ((c : Thread nD τ).loc main_arg2)
abbrev stream (c : Dev nD) : S1x128x1024.Idx → Elt F .f32 := m ((c : Thread nD τ).loc main_arg3)
abbrev gate (c : Dev nD) : S1x128x1024.Idx → Elt F .f32 := m ((c : Thread nD τ).loc main_arg4)
abbrev weigh (c : Dev nD) : S1x128x128.Idx → Elt F .f32 := m ((c : Thread nD τ).loc main_arg5)
abbrev norm (c : Dev nD) : S1024.Idx → Elt F .f32 := m ((c : Thread nD τ).loc main_arg6)

theorem entry_arg0 (c : Dev nD) : entry0 m c main_arg0 = rows m c := by unfold entry0; entry_read; rfl
theorem entry_arg1 (c : Dev nD) : entry0 m c main_arg1 = table m c := by unfold entry0; entry_read; rfl
theorem entry_arg2 (c : Dev nD) : entry0 m c main_arg2 = firsts m c := by unfold entry0; entry_read; rfl
theorem entry_arg3 (c : Dev nD) : entry0 m c main_arg3 = stream m c := by unfold entry0; entry_read; rfl
theorem entry_arg4 (c : Dev nD) : entry0 m c main_arg4 = gate m c := by unfold entry0; entry_read; rfl
theorem entry_arg5 (c : Dev nD) : entry0 m c main_arg5 = weigh m c := by unfold entry0; entry_read; rfl
theorem entry_arg6 (c : Dev nD) : entry0 m c main_arg6 = norm m c := by unfold entry0; entry_read; rfl
theorem entry_v0 (c : Dev nD) : entry0 m c main_v0 = shapeCast S1x1x512 (table m c) shapeCasts_S128x4_S1x1x512 := by
  unfold entry0; entry_read; rfl
theorem entry_v1 (c : Dev nD) : entry0 m c main_v1 = shapeCast S1x1024 (norm m c) shapeCasts_S1024_S1x1024 := by
  unfold entry0; entry_read; rfl

/-- The prefetched table's contents, as the call takes them. -/
abbrev adm : (p : Fin 1) → (pcfgs (F := F) p).Adm := fun _ => ⟨fun j => entry0 m 0 (pre0.ref j), trivial⟩
abbrev cfgM : Pipeline.Cfg sig Λ₀ := cfg0 (adm m 0)

theorem entry_pre (c : Dev nD) (j : Fin 1) : entry0 m c (pre0.ref j) = (adm m 0).1 j := by
  obtain rfl : c = 0 := Subsingleton.elim _ _; rfl

/-- The grid's coordinates: of one batch entry, and the one block of 128 tokens in it. -/
theorem coords0 (t : Fin grid0.N) : (grid0.coords t 0).val = t.val / 1 := by
  have ht : t.val < 1 := t.isLt
  rw [Pipeline.Grid.coords_val t 0 (S := 1) (B := 1) (by decide) (by decide)]; omega
theorem coords1 (t : Fin grid0.N) : (grid0.coords t 1).val = t.val % 1 := by
  rw [Pipeline.Grid.coords_val t 1 (S := 1) (B := 1) (by decide) (by decide)]; omega

/-- The blocks point `t` works on. -/
def block (c : Dev nD) (t : Fin (cfgM m).N) : S1x1x512.Idx → BitVec 32 := (((cfgM m).win 0).blk t).view.read (Elt F) (entry0 m c main_v0)
def streamAt (c : Dev nD) (t : Fin (cfgM m).N) : Vec F S1x128x1024 .f32 := (((cfgM m).win 1).blk t).view.read (Elt F) (entry0 m c main_arg3)
def gateAt (c : Dev nD) (t : Fin (cfgM m).N) : Vec F S1x128x1024 .f32 := (((cfgM m).win 2).blk t).view.read (Elt F) (entry0 m c main_arg4)
def weighAt (c : Dev nD) (t : Fin (cfgM m).N) : Vec F S1x128x128 .f32 := (((cfgM m).win 3).blk t).view.read (Elt F) (entry0 m c main_arg5)
def normAt (c : Dev nD) (t : Fin (cfgM m).N) : Vec F S1x1024 .f32 := (((cfgM m).win 4).blk t).view.read (Elt F) (entry0 m c main_v1)
/-- What it leaves. -/
def leftAt (c : Dev nD) (t : Fin (cfgM m).N) : Vec F S1x128x1024 .f32 :=
  result (fetched (firsts m c) (block m c t) (rows m c)) (streamAt m c t) (gateAt m c t) (weighAt m c t) (normAt m c t)

theorem row_lt (t : Fin (cfgM m).N) (s : Fin 128) : t.val % 1 * 128 + s.val < 128 := by omega
theorem entry_lt (t : Fin (cfgM m).N) : t.val / 1 < 1 := by have : t.val < 1 := t.isLt; omega

theorem isBlock (c : Dev nD) (t : Fin (cfgM m).N) : IsBlock (table m c) (block m c t) t.val := by
  intro k hk j hj
  have ht : t.val < 1 := t.isLt
  unfold block
  rw [entry_v0]
  show shapeCast S1x1x512 (table m c) shapeCasts_S128x4_S1x1x512 _ = _
  refine congrArg (table m c) (Shape.reshapeEquiv_eq_of_rowMajor _ ?_)
  have hj4 : (4 * k + j) % 512 = 4 * k + j := Nat.mod_eq_of_lt (by omega)
  have he : ∀ a, ((((cfgM m).win 0).blk t).view.emb (ix (4 * k + j)) a).val = ![t.val, 0, 4 * k + j] a := by
    intro a
    fin_cases a
    · show (BitVec.ofNat 32 (grid0.coords t 0).val * 1#32 + BitVec.ofNat 32 (grid0.coords t 1).val).toNat * 1 + 1 * 0 = t.val
      rw [coords0, coords1, BitVec.toNat_add, BitVec.toNat_mul, BitVec.toNat_ofNat, BitVec.toNat_ofNat, BitVec.toNat_ofNat]; omega
    · rfl
    · show 0 * 512 + 1 * ((4 * k + j) % 512) = 4 * k + j
      omega
  revert he
  generalize (((cfgM m).win 0).blk t).view.emb (ix (4 * k + j)) = E
  change S1x1x512.Idx at E
  intro he
  refine (Shape.rowMajor_val_two (d := ![128, 4]) (ixi (128 * t.val + k) j)).trans (Eq.trans ?_ (Shape.rowMajor_val_three (d := ![1, 1, 512]) E).symm)
  rw [show (E 0).val = t.val from he (0 : Fin 3), show (E 1).val = 0 from he (1 : Fin 3), show (E 2).val = 4 * k + j from he (2 : Fin 3)]
  show (128 * t.val + k) % 128 * 4 + j % 4 = (t.val * 1 + 0) * 512 + (4 * k + j)
  omega

/-- The residual stream's block: the point's 128 tokens. -/
theorem streamAt_eq (c : Dev nD) (t : Fin (cfgM m).N) :
    streamAt m c t = fun y => stream m c (fun | ⟨0, _⟩ => ⟨t.val / 1, entry_lt m t⟩ | ⟨1, _⟩ => ⟨t.val % 1 * 128 + (y 1).val, row_lt m t (y 1)⟩ | ⟨2, _⟩ => y 2) := by
  funext y
  have ht : t.val < 1 := t.isLt
  have h0 : (y 0).val < 1 := (y 0).isLt
  unfold streamAt
  rw [entry_arg3]
  refine congrArg (stream m c) (funext fun a => Fin.ext ?_)
  match a with
  | ⟨0, _⟩ =>
    show (BitVec.ofNat 32 (grid0.coords t 0).val).toNat * 1 + 1 * (y 0).val = t.val / 1
    rw [coords0, BitVec.toNat_ofNat]; omega
  | ⟨1, _⟩ =>
    show (BitVec.ofNat 32 (grid0.coords t 1).val).toNat * 128 + 1 * (y 1).val = t.val % 1 * 128 + (y 1).val
    rw [coords1, BitVec.toNat_ofNat]; omega
  | ⟨2, _⟩ => show 0 * 1024 + 1 * (y 2).val = (y 2).val; omega

/-- The gate's block: a row a token. -/
theorem gateAt_eq (c : Dev nD) (t : Fin (cfgM m).N) :
    gateAt m c t = fun y => gate m c (fun | ⟨0, _⟩ => ⟨t.val / 1, entry_lt m t⟩ | ⟨1, _⟩ => ⟨t.val % 1 * 128 + (y 1).val, row_lt m t (y 1)⟩ | ⟨2, _⟩ => y 2) := by
  funext y
  have ht : t.val < 1 := t.isLt
  have h0 : (y 0).val < 1 := (y 0).isLt
  unfold gateAt
  rw [entry_arg4]
  refine congrArg (gate m c) (funext fun a => Fin.ext ?_)
  match a with
  | ⟨0, _⟩ =>
    show (BitVec.ofNat 32 (grid0.coords t 0).val).toNat * 1 + 1 * (y 0).val = t.val / 1
    rw [coords0, BitVec.toNat_ofNat]; omega
  | ⟨1, _⟩ =>
    show (BitVec.ofNat 32 (grid0.coords t 1).val).toNat * 128 + 1 * (y 1).val = t.val % 1 * 128 + (y 1).val
    rw [coords1, BitVec.toNat_ofNat]; omega
  | ⟨2, _⟩ => show 0 * 1024 + 1 * (y 2).val = (y 2).val; omega

/-- The routing weights' block. -/
theorem weighAt_eq (c : Dev nD) (t : Fin (cfgM m).N) :
    weighAt m c t = fun y => weigh m c (fun | ⟨0, _⟩ => ⟨t.val / 1, entry_lt m t⟩ | ⟨1, _⟩ => ⟨t.val % 1 * 128 + (y 1).val, row_lt m t (y 1)⟩ | ⟨2, _⟩ => y 2) := by
  funext y
  have ht : t.val < 1 := t.isLt
  have h0 : (y 0).val < 1 := (y 0).isLt
  unfold weighAt
  rw [entry_arg5]
  refine congrArg (weigh m c) (funext fun a => Fin.ext ?_)
  match a with
  | ⟨0, _⟩ =>
    show (BitVec.ofNat 32 (grid0.coords t 0).val).toNat * 1 + 1 * (y 0).val = t.val / 1
    rw [coords0, BitVec.toNat_ofNat]; omega
  | ⟨1, _⟩ =>
    show (BitVec.ofNat 32 (grid0.coords t 1).val).toNat * 128 + 1 * (y 1).val = t.val % 1 * 128 + (y 1).val
    rw [coords1, BitVec.toNat_ofNat]; omega
  | ⟨2, _⟩ => show 0 * 128 + 1 * (y 2).val = (y 2).val; omega

/-- The norm's weights are the same at every point. -/
theorem normAt_eq (c : Dev nD) (t : Fin (cfgM m).N) : normAt m c t = shapeCast S1x1024 (norm m c) shapeCasts_S1024_S1x1024 := by
  funext y
  unfold normAt
  rw [entry_v1]
  refine congrArg (shapeCast S1x1024 (norm m c) shapeCasts_S1024_S1x1024) (funext fun a => Fin.ext ?_)
  match a with
  | ⟨0, _⟩ => show 0 * 1 + 1 * (y 0).val = (y 0).val; omega
  | ⟨1, _⟩ => show 0 * 1024 + 1 * (y 1).val = (y 1).val; omega

/-! ### The grid -/

/-- What is held between points: the experts' rows, the buffers, the kernel's semaphore at zero, the generator's state, the table. -/
def held (c : Dev nD) : sProp 𝕄 :=
  iprop(wholeS c (rows m c) ∗ (∃ f, wholeD c f) ∗ semVal ((c : Thread nD τ), SemLoc.dma cc0_scratch1.sem) 0 ∗ (∃ r, prngReg c r)
    ∗ ((Memref.whole main_arg2 : Memref sig .tc .smem S32 .i32).view.loc (c : Thread nD τ) ↦{fullShare.right} firsts m c))

def dats (_ : Fin 1) (c : Dev nD) : Dat τ (Elt F) Unit ℕ (Pipeline.UD sig nD τ) ℕ (cfgM m) c where
  A := fun w => entry0 m c (arrRef spec0 w)
  after := fun | 0, t => block m c t | 1, t => streamAt m c t | 2, t => gateAt m c t | 3, t => weighAt m c t | 4, t => normAt m c t | 5, t => leftAt m c t | ⟨_ + 6, h⟩, _ => absurd h (Nat.not_lt.2 (Nat.le_add_left _ _))
  Φ := fun t => held m c
  q := fun _ => fullShare
  owed := fun _ => 0

theorem before0 (c : Dev nD) (t : Fin (cfgM m).N) (d) : (dats m 0 c).before 0 t d = block m c t :=
  ((dats m 0 c).before_in_eq_fetched 0 rfl (fun _ => rfl) (fun _ _ _ => rfl) (fun t => rfl) t d).trans rfl
theorem before1 (c : Dev nD) (t : Fin (cfgM m).N) (d) : (dats m 0 c).before 1 t d = streamAt m c t :=
  ((dats m 0 c).before_in_eq_fetched 1 rfl (fun _ => rfl) (fun _ _ _ => rfl) (fun t => rfl) t d).trans rfl
theorem before2 (c : Dev nD) (t : Fin (cfgM m).N) (d) : (dats m 0 c).before 2 t d = gateAt m c t :=
  ((dats m 0 c).before_in_eq_fetched 2 rfl (fun _ => rfl) (fun _ _ _ => rfl) (fun t => rfl) t d).trans rfl
theorem before3 (c : Dev nD) (t : Fin (cfgM m).N) (d) : (dats m 0 c).before 3 t d = weighAt m c t :=
  ((dats m 0 c).before_in_eq_fetched 3 rfl (fun _ => rfl) (fun _ _ _ => rfl) (fun t => rfl) t d).trans rfl
theorem before4 (c : Dev nD) (t : Fin (cfgM m).N) (d) : (dats m 0 c).before 4 t d = normAt m c t :=
  ((dats m 0 c).before_in_eq_fetched 4 rfl (fun _ => rfl) (fun _ _ _ => rfl) (fun t => rfl) t d).trans rfl

theorem phi_before (c : Dev nD) (t : Fin (cfgM m).N) : (dats m 0 c).Φ t.castSucc = held m c := by dsimp only [dats]
theorem phi_after (c : Dev nD) (t : Fin (cfgM m).N) : (dats m 0 c).Φ t.succ = held m c := by dsimp only [dats]

/-- A grid point in the form the pipeline asks it. -/
theorem body_held (hN : ∀ c, Names (firsts m c) (table m c)) (c : Dev nD) (t : Fin (cfgM m).N)
    (arg3 : Memref sig .tc .smem S1x1x512 .i32) (harg3 : arg3.IsWhole)
    (arg5 : Memref sig .tc .vmem S1x128x1024 .f32) (harg5 : arg5.IsWhole) (arg6 : Memref sig .tc .vmem S1x128x1024 .f32) (harg6 : arg6.IsWhole)
    (arg7 : Memref sig .tc .vmem S1x128x128 .f32) (harg7 : arg7.IsWhole) (arg8 : Memref sig .tc .vmem S1x1024 .f32) (harg8 : arg8.IsWhole)
    (arg9 : Memref sig .tc .vmem S1x128x1024 .f32) (harg9 : arg9.IsWhole) :
    iprop(held m c ∗ owing c ∗ owns (Ix := Unit) (Name := ℕ) (U := Pipeline.UD sig nD τ) (Lvl := ℕ) (c : Thread nD τ) arg3 fullShare (block m c t)
        ∗ owns (c : Thread nD τ) arg5 fullShare (streamAt m c t) ∗ owns (c : Thread nD τ) arg6 fullShare (gateAt m c t)
        ∗ owns (c : Thread nD τ) arg7 fullShare (weighAt m c t) ∗ owns (c : Thread nD τ) arg8 fullShare (normAt m c t) ∗ (∃ d, owns (c : Thread nD τ) arg9 fullShare d))
      ⊢ wp frame (wpE (defs₀ (F := F)) Variants.none (c : Thread nD τ) none) Set.univ
          (cc0_moe_combine_final_norm (F := F) (grid0.coords t) (Memref.whole main_arg2) (Memref.isWhole_whole _) arg3 harg3 (Memref.whole main_arg0) (Memref.isWhole_whole _)
            arg5 harg5 arg6 harg6 arg7 harg7 arg8 harg8 arg9 harg9 (Memref.whole cc0_scratch0) (Memref.isWhole_whole _) cc0_scratch1)
          (fun _ => iprop(held m c ∗ owing c ∗ owns (c : Thread nD τ) arg3 fullShare (block m c t)
        ∗ owns (c : Thread nD τ) arg5 fullShare (streamAt m c t) ∗ owns (c : Thread nD τ) arg6 fullShare (gateAt m c t)
        ∗ owns (c : Thread nD τ) arg7 fullShare (weighAt m c t) ∗ owns (c : Thread nD τ) arg8 fullShare (normAt m c t) ∗ owns (c : Thread nD τ) arg9 fullShare (leftAt m c t))) := by
  have ht : t.val < 1 := t.isLt
  have hB := isBlock m c t
  iintro ⟨HH, HO, H3, HW⟩
  unfold held
  icases HH with ⟨HS, ⟨%f, HD⟩, HC, HG, HP⟩
  ihave H3 := (show owns (Ix := Unit) (Name := ℕ) (U := Pipeline.UD sig nD τ) (Lvl := ℕ) (c : Thread nD τ) arg3 fullShare (block m c t)
      ⊢ (iprop(∃ blk, ⌜arg3.view.read (Elt F) blk = block m c t⌝ ∗ (arg3.view.loc (c : Thread nD τ) ↦{fullShare} blk)) : sProp 𝕄) from by
    unfold owns; rw [harg3.set_eq_univ]) $$ H3
  icases H3 with ⟨%blk, %hblk, HX⟩
  have h := point c (grid0.coords t) arg3 harg3 fullShare.right fullShare (firsts m c) (block m c t) blk f (rows m c) arg5 harg5 arg6 harg6 arg7 harg7 arg8 harg8 arg9 harg9
    hblk (hB.inRange (hN c) ht) (streamAt m c t) (gateAt m c t) (weighAt m c t) (normAt m c t)
  iapply (wp_wand _ _ _) $$ [HP HX HO HC HD HS HW]
  · iapply h
    unfold pointAt tabs
    isplitr [HW]
    · isplitl [HP HX]
      · isplitl [HP] <;> iassumption
      isplitl [HO]; · iexact HO
      isplitl [HC]; · iexact HC
      isplitl [HD] <;> iassumption
    iexact HW
  iintro %a HQ
  unfold pointAt tabs
  icases HQ with ⟨⟨⟨HP, HX⟩, HO, HC, HD, HS⟩, HW⟩
  isplitl [HS HD HC HG HP]
  · isplitl [HS]; · iexact HS
    isplitl [HD]; · iexists _; iexact HD
    isplitl [HC]; · iexact HC
    isplitl [HG] <;> iassumption
  isplitl [HO]; · iexact HO
  isplitl [HX]
  · iapply (show (iprop(∃ blk, ⌜arg3.view.read (Elt F) blk = block m c t⌝ ∗ (arg3.view.loc (c : Thread nD τ) ↦{fullShare} blk)) : sProp 𝕄)
      ⊢ owns (Ix := Unit) (Name := ℕ) (U := Pipeline.UD sig nD τ) (Lvl := ℕ) (c : Thread nD τ) arg3 fullShare (block m c t) from by
      unfold owns; rw [harg3.set_eq_univ])
    iexists blk
    isplitr
    · ipureintro; exact hblk
    iexact HX
  iexact HW

theorem found0 (c : Dev nD) (t : Fin (cfgM m).N) (d) :
    (owns (Ix := Unit) (Name := ℕ) (U := Pipeline.UD sig nD τ) (Lvl := ℕ) (c : Thread nD τ) (((cfgM m).win 0).stage ((cfgM m).slots t 0)) fullShare ((dats m 0 c).before 0 t d) : sProp 𝕄)
      = owns (c : Thread nD τ) (((cfgM m).win 0).stage ((cfgM m).slots t 0)) fullShare (block m c t) := by rw [before0]
theorem found1 (c : Dev nD) (t : Fin (cfgM m).N) (d) :
    (owns (Ix := Unit) (Name := ℕ) (U := Pipeline.UD sig nD τ) (Lvl := ℕ) (c : Thread nD τ) (((cfgM m).win 1).stage ((cfgM m).slots t 1)) fullShare ((dats m 0 c).before 1 t d) : sProp 𝕄)
      = owns (c : Thread nD τ) (((cfgM m).win 1).stage ((cfgM m).slots t 1)) fullShare (streamAt m c t) := by rw [before1]
theorem found2 (c : Dev nD) (t : Fin (cfgM m).N) (d) :
    (owns (Ix := Unit) (Name := ℕ) (U := Pipeline.UD sig nD τ) (Lvl := ℕ) (c : Thread nD τ) (((cfgM m).win 2).stage ((cfgM m).slots t 2)) fullShare ((dats m 0 c).before 2 t d) : sProp 𝕄)
      = owns (c : Thread nD τ) (((cfgM m).win 2).stage ((cfgM m).slots t 2)) fullShare (gateAt m c t) := by rw [before2]
theorem found3 (c : Dev nD) (t : Fin (cfgM m).N) (d) :
    (owns (Ix := Unit) (Name := ℕ) (U := Pipeline.UD sig nD τ) (Lvl := ℕ) (c : Thread nD τ) (((cfgM m).win 3).stage ((cfgM m).slots t 3)) fullShare ((dats m 0 c).before 3 t d) : sProp 𝕄)
      = owns (c : Thread nD τ) (((cfgM m).win 3).stage ((cfgM m).slots t 3)) fullShare (weighAt m c t) := by rw [before3]
theorem found4 (c : Dev nD) (t : Fin (cfgM m).N) (d) :
    (owns (Ix := Unit) (Name := ℕ) (U := Pipeline.UD sig nD τ) (Lvl := ℕ) (c : Thread nD τ) (((cfgM m).win 4).stage ((cfgM m).slots t 4)) fullShare ((dats m 0 c).before 4 t d) : sProp 𝕄)
      = owns (c : Thread nD τ) (((cfgM m).win 4).stage ((cfgM m).slots t 4)) fullShare (normAt m c t) := by rw [before4]

theorem body0 (hN : ∀ c, Names (firsts m c) (table m c)) (c : Dev nD) : BodyObligationLoose (dats m 0 c) (defs₀ (F := F)) Variants.none () Set.univ := by
  intro t
  refine triple_restated (body_held m hN c t (((cfgM m).win 0).stage ((cfgM m).slots t 0)) (hstage0_0 (((cfgM m).slots t 0).cast nbuf0_0))
    (((cfgM m).win 1).stage ((cfgM m).slots t 1)) (hstage0_1 (((cfgM m).slots t 1).cast nbuf0_1)) (((cfgM m).win 2).stage ((cfgM m).slots t 2)) (hstage0_2 (((cfgM m).slots t 2).cast nbuf0_2))
    (((cfgM m).win 3).stage ((cfgM m).slots t 3)) (hstage0_3 (((cfgM m).slots t 3).cast nbuf0_3)) (((cfgM m).win 4).stage ((cfgM m).slots t 4)) (hstage0_4 (((cfgM m).slots t 4).cast nbuf0_4))
    (((cfgM m).win 5).stage ((cfgM m).slots t 5)) (hstage0_5 (((cfgM m).slots t 5).cast nbuf0_5))) ?_ ?_ ?_
  · rfl
  · rw [bigSep_W0]
    unfold Dat.owesAt Pipeline.owesWithin
    iintro ⟨HH, ⟨%W, -, HO⟩, ⟨%d0, H0⟩, ⟨%d1, H1⟩, ⟨%d2, H2⟩, ⟨%d3, H3⟩, ⟨%d4, H4⟩, ⟨%d5, H5⟩⟩
    isplitl [HH]; · iapply (Entails.of_eq (phi_before m c t)) $$ HH
    isplitl [HO]; · iexists W; iexact HO
    isplitl [H0]
    · ihave HY := (Entails.of_eq (found0 m c t d0)) $$ [H0]
      · iexact H0
      iexact HY
    isplitl [H1]
    · ihave HY := (Entails.of_eq (found1 m c t d1)) $$ [H1]
      · iexact H1
      iexact HY
    isplitl [H2]
    · ihave HY := (Entails.of_eq (found2 m c t d2)) $$ [H2]
      · iexact H2
      iexact HY
    isplitl [H3]
    · ihave HY := (Entails.of_eq (found3 m c t d3)) $$ [H3]
      · iexact H3
      iexact HY
    isplitl [H4]
    · ihave HY := (Entails.of_eq (found4 m c t d4)) $$ [H4]
      · iexact H4
      iexact HY
    iexists _; iexact H5
  · intro a
    rw [bigSep_W0]
    unfold Dat.owesAt Pipeline.owesWithin
    iintro ⟨HH, ⟨%W, HO⟩, H0, H1, H2, H3, H4, H5⟩
    isplitl [HH]; · iapply (Entails.of_eq (phi_after m c t).symm) $$ HH
    isplitl [HO]
    · iexists W
      isplitr
      · ipureintro; exact fun _ _ => Or.inl trivial
      iexact HO
    isplitl [H0]; · iexact H0
    isplitl [H1]; · iexact H1
    isplitl [H2]; · iexact H2
    isplitl [H3]; · iexact H3
    isplitl [H4]; · iexact H4
    iexact H5

/-! ### The launch -/

/-- The kernel's own semaphore. -/
abbrev own : Unit → SemLoc sig := fun _ => .dma cc0_scratch1.sem
theorem ownFacts : Pipeline.OwnSemFacts spec0 own := by decide

theorem table_eq (c : Dev nD) : (Pipeline.ΦT pre0 (adm m 0).1 c : sProp 𝕄)
    = ((Memref.whole main_arg2 : Memref sig .tc .smem S32 .i32).view.loc (c : Thread nD τ) ↦{fullShare.right} firsts m c) := by
  obtain rfl : c = 0 := Subsingleton.elim _ _
  unfold Pipeline.ΦT Pipeline.prefHeld
  rw [show (Finset.univ : Finset (Fin 1)) = {(0 : Fin 1)} from by decide, bigSep_singleton]
  rw [← entry_arg2 m 0]
  rfl

theorem begins (c : Dev nD) :
    iprop(ΦDRG own spec0 {main_arg0} ∅ (entry0 m) (entry0 m) c ∗ ΦT pre0 (adm m 0).1 c) ⊢ held m c := by
  rw [ΦDRG_eq, table_eq, scopedRest0_eq]
  unfold held Pipeline.routed Pipeline.ownSems0
  rw [bigSep_singleton, show (Finset.univ : Finset Unit) = {()} from rfl, bigSep_singleton, entry_arg0]
  iintro ⟨⟨⟨%f, HD⟩, HG, HC, HS, -⟩, HT⟩
  isplitl [HS]; · iexact HS
  isplitl [HD]; · iexists f; iexact HD
  isplitl [HC]; · iexact HC
  isplitl [HG] <;> iassumption

theorem ends (c : Dev nD) : held m c ⊢ ΦDRG own spec0 {main_arg0} ∅ (entry0 m) (entry0 m) c := by
  rw [ΦDRG_eq, scopedRest0_eq]
  unfold held Pipeline.routed Pipeline.ownSems0
  rw [bigSep_singleton, bigSep_empty, show (Finset.univ : Finset Unit) = {()} from rfl, bigSep_singleton, entry_arg0]
  iintro ⟨HS, ⟨%f, HD⟩, HC, HG, -⟩
  isplitl [HD]; · iexists f; iexact HD
  isplitl [HG]; · iexact HG
  isplitl [HC]; · iexact HC
  isplitl [HS]; · iexact HS
  iempintro

theorem hbm_rest : ({main_arg0} : Finset (Ref sig .tc)) ⊆ restRefsP sig pre0 spec0 := by decide
theorem share_full (c : Dev nD) (w) : (dats m 0 c).share w = fullShare := by
  unfold Dat.share; split <;> rfl

/-! ### The result -/

theorem index50 (t : Fin (cfgM m).N) : ((cfgM m).win 5).index t (0 : Fin 3) = t.val / 1 := by
  show (BitVec.ofNat 32 (grid0.coords t 0).val).toNat = t.val / 1
  have ht : t.val < 1 := t.isLt
  rw [coords0, BitVec.toNat_ofNat]; omega
theorem index51 (t : Fin (cfgM m).N) : ((cfgM m).win 5).index t (1 : Fin 3) = t.val % 1 := by
  show (BitVec.ofNat 32 (grid0.coords t 1).val).toNat = t.val % 1
  rw [coords1, BitVec.toNat_ofNat]; omega

/-- Every point writes its block back. -/
theorem flushed (t : Fin (cfgM m).N) : ((cfgM m).win 5).flush t = true := by
  unfold Window.flush
  rw [Bool.and_eq_true, Bool.or_eq_true, decide_eq_true_eq, decide_eq_true_eq]
  refine ⟨rfl, ?_⟩
  by_cases h : t.val + 1 = 1
  · exact .inl h
  · have ht : t.val < 1 := t.isLt
    refine .inr ⟨(show t.val + 1 < 1 by omega), fun he => ?_⟩
    have h0 := congrFun he (1 : Fin 3)
    rw [index51, index51] at h0
    have h0 : (t.val + 1) % 1 = t.val % 1 := h0
    omega

theorem covered : ((cfgM m).win 5).Covers := by
  refine ⟨fun a => ?_, fun β => ?_⟩
  · match a with
    | ⟨0, _⟩ => exact (by decide : 0 < 1)
    | ⟨1, _⟩ => exact (by decide : 0 < 128)
    | ⟨2, _⟩ => exact (by decide : 0 < 1024)
  · have h0 : (β (0 : Fin 3)).val < 1 := lt_of_lt_of_eq (β (0 : Fin 3)).isLt (by unfold Window.nblk; exact (by decide : (1 + 1 - 1) / 1 = 1))
    have h1 : (β (1 : Fin 3)).val < 1 := lt_of_lt_of_eq (β (1 : Fin 3)).isLt (by unfold Window.nblk; exact (by decide : (128 + 128 - 1) / 128 = 1))
    have h2 : (β (2 : Fin 3)).val < 1 := lt_of_lt_of_eq (β (2 : Fin 3)).isLt (by unfold Window.nblk; exact (by decide : (1024 + 1024 - 1) / 1024 = 1))
    refine ⟨⟨(β (0 : Fin 3)).val * 1 + (β (1 : Fin 3)).val, (by omega : _ < 1)⟩, flushed m _, fun a => ?_⟩
    match a with
    | ⟨0, _⟩ => exact ⟨(index50 m _).trans (by show ((β (0 : Fin 3)).val * 1 + (β (1 : Fin 3)).val) / 1 = (β (0 : Fin 3)).val; omega), .inl rfl⟩
    | ⟨1, _⟩ => exact ⟨(index51 m _).trans (by show ((β (0 : Fin 3)).val * 1 + (β (1 : Fin 3)).val) % 1 = (β (1 : Fin 3)).val; omega), .inl rfl⟩
    | ⟨2, _⟩ => exact ⟨(Nat.lt_one_iff.mp h2).symm, .inl rfl⟩

/-- The point whose block the token of entry `r` lies in, and the token's row there. -/
def pointOf (r : S1x128x1024.Idx) : Fin (cfgM m).N :=
  ⟨(r 0).val * 1 + (r 1).val / 128, by
    have h0 : (r 0).val < 1 := (r 0).isLt
    have h1 : (r 1).val < 128 := (r 1).isLt
    show _ < 1; omega⟩
def rowIn (r : S1x128x1024.Idx) : S1x128x1024.Idx :=
  fun | ⟨0, _⟩ => (0 : Fin 1) | ⟨1, _⟩ => (⟨(r 1).val % 128, Nat.mod_lt _ (by decide)⟩ : Fin 128) | ⟨2, _⟩ => (r 2 : Fin 1024)

/-- The result: every token's row as its block's point leaves it. -/
def final (c : Dev nD) : S1x128x1024.Idx → Elt F .f32 := fun r => leftAt m c (pointOf m r) (rowIn r)

theorem result_eq (c : Dev nD) : (dats m 0 c).arrAt 5 (cfgM m).N = final m c := by
  refine (dats m 0 c).arrAt_eq_of_covers 5 _ (covered m) fun t hf y => ?_
  have ht : t.val < 1 := t.isLt
  have hy0 : (y (0 : Fin 3)).val < 1 := (y (0 : Fin 3)).isLt
  have hy : (y (1 : Fin 3)).val < 128 := (y (1 : Fin 3)).isLt
  have e0 : ((((cfgM m).win 5).blk t).view.emb y (0 : Fin 3)).val = t.val / 1 := by
    show ((BitVec.ofNat 32 (grid0.coords t 0).val).toNat) * 1 + 1 * (y (0 : Fin 3)).val = _
    rw [coords0, BitVec.toNat_ofNat]; omega
  have e1 : ((((cfgM m).win 5).blk t).view.emb y (1 : Fin 3)).val = t.val % 1 * 128 + (y (1 : Fin 3)).val := by
    show ((BitVec.ofNat 32 (grid0.coords t 1).val).toNat) * 128 + 1 * (y (1 : Fin 3)).val = _
    rw [coords1, BitVec.toNat_ofNat]; omega
  have e2 : ((((cfgM m).win 5).blk t).view.emb y (2 : Fin 3)).val = (y (2 : Fin 3)).val := by
    show 0 * 1024 + 1 * (y (2 : Fin 3)).val = _; omega
  show leftAt m c t (((cfgM m).win 5).xinj ((cfgM m).grid.coords t) y) = final m c _
  revert e0 e1 e2
  generalize (((cfgM m).win 5).blk t).view.emb y = r
  change S1x128x1024.Idx at r
  intro e0 e1 e2
  unfold final
  have hb : pointOf m r = t := Fin.ext (show (r (0 : Fin 3)).val * 1 + (r (1 : Fin 3)).val / 128 = t.val by rw [e0, e1]; omega)
  rw [hb]
  refine congrArg (leftAt m c t) (funext fun a => Fin.ext ?_)
  match a with
  | ⟨0, _⟩ => show (y (0 : Fin 3)).val = 0; omega
  | ⟨1, _⟩ => show (y (1 : Fin 3)).val = (r (1 : Fin 3)).val % 128; rw [e1]; omega
  | ⟨2, _⟩ => exact e2.symm

/-! ### The run -/

/-- The run: it ends, the arguments as they were, the result block by block as the points leave it, every semaphore at zero. -/
theorem run_main (ρ : Dev nD → PrngReg) (hN : ∀ c, Names (firsts m c) (table m c)) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_v2) = final m c)
      ∧ r.2.sem = fun _ => 0) := by
  refine (θ_run (defs (F := F)) _ _).mono (fun r h => ?_)
    (Pipeline.θ_run_frameP_dmaRG (Q' := fun r => Pipeline.FramePostRG (pin pcfgs (adm m)) (dats m) 0 ∅ (entry0 m) (entry0 m) r
        ∧ r.2.sem = fun _ => 0) pcfgs (adm m) (dats m) 0 launch0 own defs₀ Variants.none ownFacts {main_arg0} ∅
      hbm_rest (Finset.empty_subset _) m ρ main (body0 m hN) (share_full m) (fun _ _ => rfl) (entry0 m) (hmain0 m) (fun _ _ => rfl)
      (entry_pre m) (entry0 m) (begins m) (ends m))
  obtain ⟨h, hs⟩ := h
  refine ⟨fun c => ⟨?_, ?_, ?_, ?_, ?_, ?_, ?_, ?_⟩, hs⟩
  · exact ((h.toR c).2 main_arg0 (show main_arg0 ∈ restRefs sig spec0 \ ∅ from by decide)).trans (entry_arg0 m c)
  · exact ((h.toR c).2 main_arg1 (show main_arg1 ∈ restRefs sig spec0 \ ∅ from by decide)).trans (entry_arg1 m c)
  · exact ((h.toR c).2 main_arg2 (show main_arg2 ∈ restRefs sig spec0 \ ∅ from by decide)).trans (entry_arg2 m c)
  · exact (((h.toR c).1 1).trans ((dats m 0 c).arrAt_in 1 rfl _)).trans (entry_arg3 m c)
  · exact (((h.toR c).1 2).trans ((dats m 0 c).arrAt_in 2 rfl _)).trans (entry_arg4 m c)
  · exact (((h.toR c).1 3).trans ((dats m 0 c).arrAt_in 3 rfl _)).trans (entry_arg5 m c)
  · exact ((h.toR c).2 main_arg6 (show main_arg6 ∈ restRefs sig spec0 \ ∅ from by decide)).trans (entry_arg6 m c)
  · exact ((h.toR c).1 5).trans (result_eq m c)

end Cert.SampleCombine

end
-- ==== Proof.SampleTable.lean ====
/-
  The host operations by which the sample's combination and its precondition read a routing table of 128 tokens, at one
  element. Pure facts.
-/
module

public import proofs.«01_k».proof.Proof.Table

@[expose] public section

noncomputable section

namespace Cert.SampleCombine.Tab

open Idealize.ShloMosaic Idealize.ShloMosaic.ValueIdx Idealize.ShloMosaic.Routing
open Cert.Dispatch (ixp wrap_id)

/-- Entry `j` of token `n`'s row of the table of experts and ranks. -/
def ixi (n j : ℕ) : (⟨2, ![128, 4]⟩ : Shape).Idx := fun a => match a with
  | ⟨0, _⟩ => (⟨n % 128, Nat.mod_lt _ (by decide)⟩ : Fin 128)
  | ⟨1, _⟩ => (⟨j % 4, Nat.mod_lt _ (by decide)⟩ : Fin 4)
  | ⟨_ + 2, h⟩ => absurd h (by intro h; exact absurd h (by simp))

/-- The look-up of the experts' first rows at a table of expert numbers wrapped around at 32: where the number is one
    of 0 .. 31, that expert's first row. -/
theorem first_row (wf) (P : (⟨1, ![32]⟩ : Shape).Idx → BitVec 32) (hb : (⟨2, ![128, 2]⟩ : Shape).BroadcastsInDim ⟨3, ![128, 2, 1]⟩ ![0, 1])
    (E : (⟨2, ![128, 2]⟩ : Shape).Idx → BitVec 32) (y : (⟨2, ![128, 2]⟩ : Shape).Idx) (hE : (E y).toNat < 32) :
    Host.gather (takeDims 32 128 2 wf) P (broadcastInDim ⟨3, ![128, 2, 1]⟩ ![0, 1] hb E) y = P (ixp (E y).toNat) := by
  rw [gather_take_apply (by decide)]
  refine congrArg P (funext fun a => Fin.ext ?_)
  have e : broadcastInDim ⟨3, ![128, 2, 1]⟩ ![0, 1] hb E (takeIdx y) = E y := by
    unfold broadcastInDim
    refine congrArg E (funext fun a => Fin.ext ?_)
    match a with
    | ⟨0, _⟩ => rfl
    | ⟨1, _⟩ => rfl
  match a with
  | ⟨0, _⟩ =>
    show min (broadcastInDim _ _ hb E (takeIdx y)).toInt.toNat (32 - 1) = (E y).toNat % 32
    rw [e, StableHlo.Predicate.toInt_eq_toNat_of_lt (by omega)]
    omega

/-- Assignment `j` of token `n`, as one of the 256. -/
abbrev slotOf (n : Fin 128) (j : Fin 2) : Fin 256 := ⟨n.val * 2 + j.val, by omega⟩

/-- The row of assignment `j` of token `n`. -/
abbrev destOf (P : (⟨1, ![32]⟩ : Shape).Idx → BitVec 32) (I : (⟨2, ![128, 4]⟩ : Shape).Idx → BitVec 32) (n j : ℕ) : BitVec 32 :=
  P (ixp (I (ixi n j)).toNat) + I (ixi n (j + 2))

/-- The first two columns, and the last two, of the routing table. -/
theorem left_half {α : Type} (I : (⟨2, ![128, 4]⟩ : Shape).Idx → α) (h) (n : Fin 128) (j : Fin 2) :
    extractStridedSlice ⟨2, ![128, 2]⟩ ![0, 0] I h (ix2 n j) = I (ixi n j) := by
  unfold extractStridedSlice
  refine congrArg I (funext fun a => Fin.ext ?_)
  match a with
  | ⟨0, _⟩ => show 0 + n.val = n.val % 128; omega
  | ⟨1, _⟩ => show 0 + j.val = j.val % 4; omega
theorem right_half {α : Type} (I : (⟨2, ![128, 4]⟩ : Shape).Idx → α) (h) (n : Fin 128) (j : Fin 2) :
    extractStridedSlice ⟨2, ![128, 2]⟩ ![0, 2] I h (ix2 n j) = I (ixi n (j + 2)) := by
  unfold extractStridedSlice
  refine congrArg I (funext fun a => Fin.ext ?_)
  match a with
  | ⟨0, _⟩ => show 0 + n.val = n.val % 128; omega
  | ⟨1, _⟩ => show 2 + j.val = (j.val + 2) % 4; omega

/-- The row of every assignment, as the reference and the precondition compute it. -/
theorem row_at (wf) (P : (⟨1, ![32]⟩ : Shape).Idx → BitVec 32) (I : (⟨2, ![128, 4]⟩ : Shape).Idx → BitVec 32) (h0) (h2)
    (hb : (⟨2, ![128, 2]⟩ : Shape).BroadcastsInDim ⟨3, ![128, 2, 1]⟩ ![0, 1])
    (hz : (⟨0, ![]⟩ : Shape).BroadcastsInDim ⟨2, ![128, 2]⟩ ![]) (n : Fin 128) (j : Fin 2) (hE : (I (ixi n j)).toNat < 32) :
    addi (Host.gather (takeDims 32 128 2 wf) P (broadcastInDim ⟨3, ![128, 2, 1]⟩ ![0, 1] hb
        (select (cmpi .slt (extractStridedSlice ⟨2, ![128, 2]⟩ ![0, 0] I h0) (broadcastInDim ⟨2, ![128, 2]⟩ ![] hz (constantI ⟨0, ![]⟩ 32 0#32)))
          (addi (extractStridedSlice ⟨2, ![128, 2]⟩ ![0, 0] I h0) (broadcastInDim ⟨2, ![128, 2]⟩ ![] hz (constantI ⟨0, ![]⟩ 32 32#32)))
          (extractStridedSlice ⟨2, ![128, 2]⟩ ![0, 0] I h0))))
      (extractStridedSlice ⟨2, ![128, 2]⟩ ![0, 2] I h2) (ix2 n j) = destOf P I n j := by
  have hx : select (cmpi .slt (extractStridedSlice ⟨2, ![128, 2]⟩ ![0, 0] I h0) (broadcastInDim ⟨2, ![128, 2]⟩ ![] hz (constantI ⟨0, ![]⟩ 32 0#32)))
      (addi (extractStridedSlice ⟨2, ![128, 2]⟩ ![0, 0] I h0) (broadcastInDim ⟨2, ![128, 2]⟩ ![] hz (constantI ⟨0, ![]⟩ 32 32#32)))
      (extractStridedSlice ⟨2, ![128, 2]⟩ ![0, 0] I h0) (ix2 n j) = I (ixi n j) := by
    rw [← left_half I h0 n j]
    refine wrap_id _ _ ?_
    rw [left_half I h0 n j]; omega
  revert hx
  generalize select _ _ (extractStridedSlice ⟨2, ![128, 2]⟩ ![0, 0] I h0) = X
  intro hx
  have hg := first_row wf P hb X (ix2 n j) (by rw [hx]; exact hE)
  rw [hx] at hg
  show _ + _ = _
  rw [hg, right_half]

end Cert.SampleCombine.Tab

end
-- ==== Proof.SampleMath.lean ====
/-
  One token of the sample's combination in scalars.
-/
module

public import proofs.«01_k».proof.Proof.CombineMath
public import proofs.«01_k».proof.Proof.SampleTable

@[expose] public section

noncomputable section

namespace Cert.SampleCombine

open Idealize.ShloMosaic hiding ix1 ix2 ix3
open Idealize.ShloMosaic.ValueIdx
open Cert.Combine (moeE rmsE)

/-- The experts' row a word names. -/
def rowE (Y : (⟨2, ![8448, 1024]⟩ : Shape).Idx → EReal) (d : BitVec 32) (k : Fin 1024) : EReal :=
  Y (Idealize.ShloMosaic.ix2 ⟨d.toNat % 8448, Nat.mod_lt _ (by decide)⟩ k)

/-- Token `s` of the one batch entry `b`, as one of the 128. -/
abbrev tokenOf (b : Fin 1) (s : Fin 128) : Fin 128 := ⟨b.val * 128 + s.val, by omega⟩

/-- One element of the layer's output, from the experts' rows `Y`, the table of experts and ranks `I`, the experts' first
    rows `P`, the residual stream `X`, the gate `Gt`, the routing weights `Rt` and the norm's weights `G`: the two rows the
    token's experts have for it, weighed and added to the stream, and the sum normed. -/
def outE (Y : (⟨2, ![8448, 1024]⟩ : Shape).Idx → EReal) (I : (⟨2, ![128, 4]⟩ : Shape).Idx → BitVec 32) (P : (⟨1, ![32]⟩ : Shape).Idx → BitVec 32)
    (X : (⟨3, ![1, 128, 1024]⟩ : Shape).Idx → EReal) (Gt : (⟨3, ![1, 128, 1024]⟩ : Shape).Idx → EReal) (Rt : (⟨3, ![1, 128, 128]⟩ : Shape).Idx → EReal)
    (G : (⟨1, ![1024]⟩ : Shape).Idx → EReal) (b : Fin 1) (s : Fin 128) (j : Fin 1024) : EReal :=
  rmsE (moeE (Rt (Idealize.ShloMosaic.ix3 b s 2)) (Rt (Idealize.ShloMosaic.ix3 b s 3))
      (rowE Y (Cert.SampleCombine.Tab.destOf P I (tokenOf b s) 0)) (rowE Y (Cert.SampleCombine.Tab.destOf P I (tokenOf b s) 1))
      (fun k => X (Idealize.ShloMosaic.ix3 b s k)) (fun k => Gt (Idealize.ShloMosaic.ix3 b s k)))
    (fun k => G (Idealize.ShloMosaic.ix1 k)) j

end Cert.SampleCombine

end
-- ==== Proof.SampleValue.lean ====
/-
  What the sample's combine kernel leaves, over ideal floats: every token's two rows weighed, added to its stream, and normed.
-/
module

public import proofs.«01_k».proof.Proof.Sample
public import proofs.«01_k».proof.Proof.SampleMath

@[expose] public section

set_option maxRecDepth 16384

noncomputable section

namespace Cert.SampleCombine

open Cert.Kernel6Ideal Cert.Kernel6Ideal.Gen
open Idealize.ShloMosaic Idealize.ShloMosaic.TcCoe
open Cert.Combine (moeE rmsE)

/-- A point's sums, by elements. -/
theorem pay2_at (rt : S1x128x128.Idx → EReal) (y0 y1 x : S1x128x1024.Idx → EReal) (gt : S1x128x1024.Idx → EReal) (s : Fin 128) (k : Fin 1024) :
    k0_pay2 (F := Ideal) rt y0 y1 x gt (ix2 s k)
      = moeE (rt (ix3 0 s 2)) (rt (ix3 0 s 3)) (fun k => y0 (ix3 0 s k)) (fun k => y1 (ix3 0 s k)) (fun k => x (ix3 0 s k)) (fun k => gt (ix3 0 s k)) k := by
  unfold k0_pay2 moeE
  pointwise

/-- A point's result, by elements. -/
theorem pay1_at (rt : S1x128x128.Idx → EReal) (y0 y1 x : S1x128x1024.Idx → EReal) (gt : S1x128x1024.Idx → EReal) (gf : S1x1024.Idx → EReal) (s : Fin 128) (j : Fin 1024) :
    k0_pay1 (F := Ideal) (k0_pay2 (F := Ideal) rt y0 y1 x gt) (k0_pay3 (F := Ideal) rt y0 y1 x gt) gf (ix3 0 s j)
      = rmsE (fun k => k0_pay2 (F := Ideal) rt y0 y1 x gt (ix2 s k)) (fun k => gf (ix2 0 k)) j := by
  unfold k0_pay1 k0_pay3
  generalize k0_pay2 (F := Ideal) rt y0 y1 x gt = v
  unfold rmsE
  pointwise

variable (m : (ℓ : Loc nD τ sig) → Buf (Elt Ideal) ℓ)

/-- The final array by elements. -/
theorem final_at (b : Fin 1) (s : Fin 128) (j : Fin 1024) :
    final m 0 (ix3 b s j) = outE (rows m 0) (table m 0) (firsts m 0) (stream m 0) (gate m 0) (weigh m 0) (norm m 0) b s j := by
  obtain ⟨t, ht⟩ : ∃ t : Fin (cfgM m).N, t.val = b.val * 1 + s.val / 128 := ⟨pointOf m (ix3 b s j), rfl⟩
  have hb := b.isLt
  have hs := s.isLt
  have e0 : t.val / 1 = b.val := by omega
  have e1 : t.val % 1 * 128 + s.val % 128 = s.val := by omega
  have e2 : 128 * t.val + s.val % 128 = b.val * 128 + s.val := by omega
  have hq : s.val % 128 < 128 := Nat.mod_lt _ (by decide)
  have hf : final m 0 (ix3 b s j) = leftAt m 0 t (ix3 0 ⟨s.val % 128, hq⟩ j) := by
    unfold final
    refine congr (congrArg (leftAt m 0) (Fin.ext ht.symm)) (funext fun a => ?_)
    match a with
    | ⟨0, _⟩ => rfl
    | ⟨1, _⟩ => rfl
    | ⟨2, _⟩ => rfl
  have hB := isBlock m 0 t
  have h0 : d0 (firsts m 0) (block m 0 t) (s.val % 128) = Cert.SampleCombine.Tab.destOf (firsts m 0) (table m 0) (tokenOf b s) 0 := by
    rw [hB.d0_eq hq, e2]; rfl
  have h1 : d1 (firsts m 0) (block m 0 t) (s.val % 128) = Cert.SampleCombine.Tab.destOf (firsts m 0) (table m 0) (tokenOf b s) 1 := by
    rw [hB.d1_eq hq, e2]; rfl
  rw [hf]
  unfold leftAt result outE
  rw [pay1_at]
  congr 1
  · funext k
    rw [pay2_at]
    have w : ∀ l : Fin 128, weighAt m 0 t (ix3 0 ⟨s.val % 128, hq⟩ l) = weigh m 0 (ix3 b s l) := fun l => by
      rw [weighAt_eq]
      exact congrArg (weigh m 0) (by funext a; match a with | ⟨0, _⟩ => exact Fin.ext e0 | ⟨1, _⟩ => exact Fin.ext e1 | ⟨2, _⟩ => rfl)
    rw [w 2, w 3]
    congr 1
    · funext l
      unfold rowE
      rw [← h0]
      unfold buf fetched
      refine congrArg (rows m 0) (by funext a; match a with | ⟨0, _⟩ => rfl | ⟨1, _⟩ => rfl)
    · funext l
      unfold rowE
      rw [← h1]
      unfold buf fetched
      refine congrArg (rows m 0) (by funext a; match a with | ⟨0, _⟩ => rfl | ⟨1, _⟩ => rfl)
    · funext l
      rw [streamAt_eq]
      exact congrArg (stream m 0) (by funext a; match a with | ⟨0, _⟩ => exact Fin.ext e0 | ⟨1, _⟩ => exact Fin.ext e1 | ⟨2, _⟩ => rfl)
    · funext l
      rw [gateAt_eq]
      exact congrArg (gate m 0) (by funext a; match a with | ⟨0, _⟩ => exact Fin.ext e0 | ⟨1, _⟩ => exact Fin.ext e1 | ⟨2, _⟩ => rfl)
  · funext k
    rw [normAt_eq]
    pointwise

end Cert.SampleCombine

end
-- ==== Proof.SampleRef.lean ====
/-
  What the reference of the sample's combination computes: the rows gathered, weighed, added up by token, added to the residual
  stream, and normed.
-/
module

public import proofs.«01_k».proof.Proof.SampleMath
public import proofs.«01_k».proof.Proof.Gen.Reference6Ideal.Run

@[expose] public section

set_option maxRecDepth 16384

noncomputable section

namespace Cert.SampleCombine.Ref

open Cert.SampleCombine Cert.SampleCombine.Tab
open Cert.Combine (moeE rmsE scatter_two)
open Cert.Dispatch (wrap_id)
open Cert.Reference6Ideal Cert.Reference6Ideal.Gen
open Idealize.ShloMosaic Idealize.ShloMosaic.TcCoe

/-- The row of every assignment. -/
abbrev dests (P : S32.Idx → BitVec 32) (I : S128x4.Idx → BitVec 32) : IVec S256 32 :=
  shapeCast _ (addi (Host.gather gather_S32_S128x2x1_S128x2_n_0_n_n_0_2_1 P (broadcastInDim S128x2x1 ![0, 1] bcast_S128x2_S128x2x1_0_1
    (select (cmpi .slt (extractStridedSlice S128x2 ![0, 0] I slices_S128x4_S128x2_0_0) (broadcastInDim S128x2 ![] bcast_S_S128x2 (constantI S_ 32 0#32)))
      (addi (extractStridedSlice S128x2 ![0, 0] I slices_S128x4_S128x2_0_0) (broadcastInDim S128x2 ![] bcast_S_S128x2 (constantI S_ 32 32#32)))
      (extractStridedSlice S128x2 ![0, 0] I slices_S128x4_S128x2_0_0)))) (extractStridedSlice S128x2 ![0, 2] I slices_S128x4_S128x2_0_2)) shapeCasts_S128x2_S256

/-- The token of every assignment. -/
abbrev tokens : IVec S256 32 :=
  shapeCast _ (broadcastInDim S128x2 ![0] bcast_S128_S128x2_0 (iotaInDim S128 32 0)) shapeCasts_S128x2_S256

/-- A column of words, the negative ones of them wrapped around at `k`. -/
abbrev column (d : IVec S256 32) (k : BitVec 32) : IVec S256x1 32 :=
  broadcastInDim S256x1 ![0] bcast_S256_S256x1_0 (select (cmpi .slt d (broadcastInDim S256 ![] bcast_S_S256 (constantI S_ 32 0#32)))
    (addi d (broadcastInDim S256 ![] bcast_S_S256 (constantI S_ 32 k))) d)

/-- The weight of every assignment. -/
abbrev weights (Rt : S1x128x128.Idx → EReal) : FVec Ideal S256 .f32 :=
  shapeCast _ (extractStridedSlice S1x128x2 ![0, 0, 2] Rt slices_S1x128x128_S1x128x2_0_0_2) shapeCasts_S1x128x2_S256

/-- The weighed rows added up by token. -/
abbrev summed (w : FVec Ideal S256 .f32) (g : FVec Ideal S256x1024 .f32) (t : IVec S256 32) : FVec Ideal S128x1024 .f32 :=
  Host.scatterAdd scatter_S128x1024_S256x1_S256x1024_1_0_0_1 (broadcastInDim S128x1024 ![] bcast_S_S128x1024 (constant S_ .f32 0x00000000#32))
    (column t 128#32) (mulf (broadcastInDim S256x1024 ![0, 1] bcast_S256x1_S256x1024_0_1 (broadcastInDim S256x1 ![0] bcast_S256_S256x1_0 w)) g)

/-- The sums added to the stream. -/
abbrev added (X : S1x128x1024.Idx → EReal) (Gt : S1x128x1024.Idx → EReal) (S : FVec Ideal S128x1024 .f32) : FVec Ideal S1x128x1024 .f32 :=
  addf (F := Ideal) (φ := .f32) X (mulf Gt (shapeCast _ S shapeCasts_S128x1024_S1x128x1024))

/-- A row normed. -/
abbrev normed (V : FVec Ideal S1x128x1024 .f32) (G : S1024.Idx → EReal) : FVec Ideal S1x128x1024 .f32 :=
  mulf (mulf V (broadcastInDim S1x128x1024 ![0, 1, 2] bcast_S1x128x1_S1x128x1024_0_1_2 (Host.rsqrt (addf (Host.divf (broadcastInDim S1x128x1 ![0, 1] bcast_S1x128_S1x128x1_0_1
    (Host.reduceAdd (mulf V V) (constant S_ .f32 0x00000000#32) reducesTo_S1x128x1024_S1x128_d2 h_S_)) (broadcastInDim S1x128x1 ![] bcast_S_S1x128x1 (constant S_ .f32 0x44800000#32)))
    (broadcastInDim S1x128x1 ![] bcast_S_S1x128x1 (constant S_ .f32 0x358637BD#32))))))
    (broadcastInDim S1x128x1024 ![0, 1, 2] bcast_S1x1x1024_S1x128x1024_0_1_2 (broadcastInDim S1x1x1024 ![2] bcast_S1024_S1x1x1024_2 G))

/-- A column's entry is the word, where that is not negative. -/
theorem column_at (d : IVec S256 32) (k : BitVec 32) (p : Fin 256) (h : (d (ix1 p)).toNat < 2 ^ 31) :
    column d k (ix2 p (0 : Fin 1)) = d (ix1 p) := by
  have hx : ∀ q, q = ix1 p → Scalar.select (IntOp.cmpi .slt (d q) 0#32) (IntOp.addi (d q) k) (d q) = d (ix1 p) := by
    intro q hq
    rw [wrap_id _ _ (by rw [hq]; exact h), hq]
  exact hx _ (by funext a; match a with | ⟨0, _⟩ => rfl)

theorem dests_at (P : S32.Idx → BitVec 32) (I : S128x4.Idx → BitVec 32) (n : Fin 128) (j : Fin 2) (hE : (I (Cert.SampleCombine.Tab.ixi n j)).toNat < 32) :
    dests P I (ix1 (slotOf n j)) = destOf P I n j := by
  refine (Routing.cast21 _ _ n j (slotOf n j) rfl).trans ?_
  exact row_at gather_S32_S128x2x1_S128x2_n_0_n_n_0_2_1_wf P I slices_S128x4_S128x2_0_0 slices_S128x4_S128x2_0_2
      bcast_S128x2_S128x2x1_0_1 bcast_S_S128x2 n j hE

theorem tokens_at (n : Fin 128) (j : Fin 2) : tokens (ix1 (slotOf n j)) = BitVec.ofNat 32 n.val := by
  refine (Routing.cast21 _ _ n j (slotOf n j) rfl).trans ?_
  rfl

theorem weights_at (Rt : S1x128x128.Idx → EReal) (b : Fin 1) (s : Fin 128) (j : Fin 2) :
    weights Rt (ix1 (slotOf (tokenOf b s) j)) = Rt (ix3 b s ⟨2 + j.val, by omega⟩) := by
  have hc := shapeCast_apply (extractStridedSlice S1x128x2 ![0, 0, 2] Rt slices_S1x128x128_S1x128x2_0_0_2) shapeCasts_S1x128x2_S256
    (ix1 (slotOf (tokenOf b s) j) : S256.Idx) (ix3 b s j : S1x128x2.Idx) ?_
  · refine hc.trans ?_
    unfold extractStridedSlice
    refine congrArg Rt (funext fun a => Fin.ext ?_)
    match a with
    | ⟨0, _⟩ => exact Nat.zero_add _
    | ⟨1, _⟩ => exact Nat.zero_add _
    | ⟨2, _⟩ => rfl
  · refine (Shape.rowMajor_val_three (d := ![1, 128, 2]) _).trans (Eq.trans ?_ (Shape.rowMajor_val_one (d := ![256]) _).symm)
    show (b.val * 128 + s.val) * 2 + j.val = (b.val * 128 + s.val) * 2 + j.val
    rfl

/-- The row gathered for an assignment is the one it names. -/
theorem gathered_at (Y : S8448x1024.Idx → EReal) (d : IVec S256 32) (p : Fin 256) (k : Fin 1024) (w : BitVec 32) (hw : d (ix1 p) = w) (h : w.toNat < 8448) :
    Host.gather gather_S8448x1024_S256x1_S256x1024_1_0_n_n_0_1_11024 Y (column d 8448#32) (ix2 p k) = rowE Y w k := by
  have hc : column d 8448#32 (ix2 p (0 : Fin 1)) = BitVec.ofNat 32 (⟨w.toNat, h⟩ : Fin 8448).val := by
    rw [column_at d _ p (by rw [hw]; omega), hw, BitVec.ofNat_toNat, BitVec.setWidth_eq]
  refine (Routing.gather_row _ rfl rfl rfl rfl rfl _ _ p k ⟨w.toNat, h⟩ hc (by decide)).trans ?_
  unfold rowE
  refine congrArg Y (funext fun a => Fin.ext ?_)
  match a with
  | ⟨0, _⟩ => exact (Nat.mod_eq_of_lt h).symm
  | ⟨1, _⟩ => rfl

/-- A token's sum: its two assignments' weighed rows. -/
theorem summed_at (w : FVec Ideal S256 .f32) (g : FVec Ideal S256x1024 .f32) (n : Fin 128) (k : Fin 1024) :
    summed w g tokens (ix2 n k)
      = w (ix1 (slotOf n 0)) * g (ix2 (slotOf n 0) k) + w (ix1 (slotOf n 1)) * g (ix2 (slotOf n 1) k) := by
  have ht : ∀ p : Fin 256, (column tokens 128#32 (ix2 p (0 : Fin 1))).toInt = (p.val / 2 : ℕ) := by
    intro p
    obtain ⟨n, j, rfl⟩ : ∃ (n : Fin 128) (j : Fin 2), p = slotOf n j :=
      ⟨⟨p.val / 2, by omega⟩, ⟨p.val % 2, by omega⟩, Fin.ext (by show p.val = p.val / 2 * 2 + p.val % 2; omega)⟩
    have h1 : (tokens (ix1 (slotOf n j))).toNat = n.val := by rw [tokens_at, BitVec.toNat_ofNat]; omega
    rw [column_at _ _ _ (by rw [h1]; omega), StableHlo.Predicate.toInt_eq_toNat_of_lt (by rw [h1]; omega), h1]
    congr 1
    show n.val = (n.val * 2 + j.val) / 2
    omega
  have hu : ∀ p : Fin 256, mulf (broadcastInDim S256x1024 ![0, 1] bcast_S256x1_S256x1024_0_1 (broadcastInDim S256x1 ![0] bcast_S256_S256x1_0 w)) g (ix2 p k)
      = w (ix1 p) * g (ix2 p k) := fun p => by pointwise
  refine (scatter_two scatter_S128x1024_S256x1_S256x1024_1_0_0_1 rfl rfl rfl rfl _ _ _ n k (slotOf n 0) (slotOf n 1) ?_ ?_).trans ?_
  · intro he
    have := congrArg Fin.val he
    change n.val * 2 + 0 = n.val * 2 + 1 at this
    omega
  · intro p
    refine (iff_of_eq (congrArg (· = ((n.val : ℕ) : Int)) (ht p))).trans ?_
    rw [Fin.ext_iff, Fin.ext_iff]
    show ((p.val / 2 : ℕ) : Int) = ((n.val : ℕ) : Int) ↔ p.val = n.val * 2 + 0 ∨ p.val = n.val * 2 + 1
    omega
  · refine Eq.trans (congrArg₂ (· + ·) ?_ (congrArg₂ (· + ·) (hu _) (hu _))) (zero_add _)
    pointwise

theorem normed_at (V : FVec Ideal S1x128x1024 .f32) (G : S1024.Idx → EReal) (b : Fin 1) (s : Fin 128) (j : Fin 1024) :
    normed V G (ix3 b s j) = rmsE (fun k => V (ix3 b s k)) (fun k => G (ix1 k)) j := by
  obtain rfl : b = 0 := Subsingleton.elim _ _
  unfold normed
  pointwise
  rfl

theorem added_at (X : S1x128x1024.Idx → EReal) (Gt : S1x128x1024.Idx → EReal) (S : FVec Ideal S128x1024 .f32) (b : Fin 1) (s : Fin 128) (k : Fin 1024) :
    added X Gt S (ix3 b s k) = X (ix3 b s k) + Gt (ix3 b s k) * S (ix2 (tokenOf b s) k) := by
  have hs : tokenOf b s = s := Fin.ext (show b.val * 128 + s.val = s.val by omega)
  rw [hs]
  unfold added
  pointwise

/-- The reference's value, by elements. -/
theorem value_at (Y : S8448x1024.Idx → EReal) (I : S128x4.Idx → BitVec 32) (P : S32.Idx → BitVec 32) (X : S1x128x1024.Idx → EReal)
    (Gt : S1x128x1024.Idx → EReal) (Rt : S1x128x128.Idx → EReal) (G : S1024.Idx → EReal)
    (hE : ∀ (n : Fin 128) (j : Fin 2), (I (Cert.SampleCombine.Tab.ixi n j)).toNat < 32) (hD : ∀ (n : Fin 128) (j : Fin 2), (destOf P I n j).toNat < 8448)
    (b : Fin 1) (s : Fin 128) (j : Fin 1024) :
    normed (added X Gt (summed (weights Rt) (Host.gather gather_S8448x1024_S256x1_S256x1024_1_0_n_n_0_1_11024 Y (column (dests P I) 8448#32)) tokens)) G (ix3 b s j)
      = outE Y I P X Gt Rt G b s j := by
  rw [normed_at]
  unfold outE
  congr 1
  funext k
  rw [added_at, summed_at, weights_at, weights_at, gathered_at Y _ _ k _ (dests_at P I (tokenOf b s) 0 (hE _ 0)) (hD _ 0),
    gathered_at Y _ _ k _ (dests_at P I (tokenOf b s) 1 (hE _ 1)) (hD _ 1)]
  rfl

variable (m : (ℓ : Loc nD τ sig) → Buf (Elt Ideal) ℓ) (ρ : Dev nD → PrngReg)

/-- The reference's run: the result is the combination, the arguments are unchanged. -/
theorem run (hE : ∀ (c : Dev nD) (n : Fin 128) (j : Fin 2), ((m (c.tc.loc main_arg1) : S128x4.Idx → BitVec 32) (Cert.SampleCombine.Tab.ixi n j)).toNat < 32)
    (hD : ∀ (c : Dev nD) (n : Fin 128) (j : Fin 2), (destOf (m (c.tc.loc main_arg2)) (m (c.tc.loc main_arg1)) n j).toNat < 8448) :
    θ_run (defs (F := Ideal)) (onTc (τ := τ) (main (F := Ideal))) ⟨m, fun _ => 0, ρ⟩ fun r => ∀ c : Dev nD,
      (∀ (b : Fin 1) (s : Fin 128) (j : Fin 1024), (r.2.mem ((c.tc : Thread nD τ).loc main_v49) : S1x128x1024.Idx → EReal) (ix3 b s j)
        = outE (m (c.tc.loc main_arg0)) (m (c.tc.loc main_arg1)) (m (c.tc.loc main_arg2)) (m (c.tc.loc main_arg3)) (m (c.tc.loc main_arg4))
            (m (c.tc.loc main_arg5)) (m (c.tc.loc main_arg6)) b s j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (Value.run (F := Ideal) m ρ).mono fun r h c => ?_
  obtain ⟨h0, ha⟩ := h c
  refine ⟨fun b s j => (congrFun h0 _).trans ?_, ha⟩
  exact value_at (m (c.tc.loc main_arg0)) (m (c.tc.loc main_arg1)) (m (c.tc.loc main_arg2)) (m (c.tc.loc main_arg3)) (m (c.tc.loc main_arg4))
    (m (c.tc.loc main_arg5)) (m (c.tc.loc main_arg6)) (hE c) (hD c) b s j

end Cert.SampleCombine.Ref

end
-- ==== Proof.SamplePre.lean ====
/-
  The precondition of the sample's combination: every expert named is one of 0 .. 31 and every row named one of the
  experts' rows.
-/
module

public import proofs.«01_k».proof.Proof.Gen.Pre_sample_rows_named
public import proofs.«01_k».proof.Proof.Sample
public import proofs.«01_k».proof.Proof.SampleTable

@[expose] public section

noncomputable section

namespace Cert.SampleCombine

open Cert.Pre_sample_rows_named Cert.Pre_sample_rows_named.Gen Cert.SampleCombine.Tab
open Cert.Dispatch (between both)
open Idealize.ShloMosaic Idealize.ShloMosaic.ValueIdx

variable {F : FTy → Type} [FloatOps F]

/-- What the precondition says of assignment `j` of token `n`. -/
theorem slot_at (Y : S8448x1024.Idx → Elt F .f32) (I : S128x4.Idx → BitVec 32) (P : S32.Idx → BitVec 32) (X : S1x128x1024.Idx → Elt F .f32)
    (Gt : S1x128x1024.Idx → Elt F .f32) (Rt : S1x128x128.Idx → Elt F .f32) (G : S1024.Idx → Elt F .f32)
    (h : Cert.Pre_sample_rows_named.fn (F := F) Y I P X Gt Rt G = fun _ => 1#1) (n : Fin 128) (j : Fin 2) :
    (I (Cert.SampleCombine.Tab.ixi n j)).toNat < 32 ∧ (destOf P I n j).toNat < 8448 := by
  dsimp only [Cert.Pre_sample_rows_named.fn, Cert.Pre_sample_rows_named.fn_part1] at h
  have h := congrFun h (ix2 n j)
  obtain ⟨h, hd1⟩ := both _ _ h
  obtain ⟨h, hd0⟩ := both _ _ h
  obtain ⟨he0, he1⟩ := both _ _ h
  have hE : (extractStridedSlice S128x2 ![0, 0] I slices_S128x4_S128x2_0_0 (ix2 n j)).toNat < 32 := between _ 32#32 (by decide) he0 he1
  rw [left_half] at hE
  refine ⟨hE, ?_⟩
  have hD := between _ 8448#32 (by decide) hd0 hd1
  have hr := row_at Gen.gather_S32_S128x2x1_S128x2_n_0_n_n_0_2_1_wf P I Gen.slices_S128x4_S128x2_0_0
    Gen.slices_S128x4_S128x2_0_2 Gen.bcast_S128x2_S128x2x1_0_1 Gen.bcast_S_S128x2 n j hE
  exact (congrArg BitVec.toNat hr) ▸ hD

/-- Tables of which the precondition holds can be combined by. -/
theorem names_of (Y : S8448x1024.Idx → Elt F .f32) (I : S128x4.Idx → BitVec 32) (P : S32.Idx → BitVec 32) (X : S1x128x1024.Idx → Elt F .f32)
    (Gt : S1x128x1024.Idx → Elt F .f32) (Rt : S1x128x128.Idx → Elt F .f32) (G : S1024.Idx → Elt F .f32)
    (h : Cert.Pre_sample_rows_named.fn (F := F) Y I P X Gt Rt G = fun _ => 1#1) : Names P I where
  e0 n hn := (slot_at Y I P X Gt Rt G h ⟨n, hn⟩ 0).1
  e1 n hn := (slot_at Y I P X Gt Rt G h ⟨n, hn⟩ 1).1
  r0 n hn := (slot_at Y I P X Gt Rt G h ⟨n, hn⟩ 0).2
  r1 n hn := (slot_at Y I P X Gt Rt G h ⟨n, hn⟩ 1).2

end Cert.SampleCombine

end
-- ==== Proof.MixRunB.lean ====
/-
  The whole run of the output projection's body at any grid point but the first: the counts are not set to zero there, and
  the scratch holds what the point before left.
-/
module

public import proofs.«01_k».proof.Proof.Gen.Kernel7Ideal.Frame.RunA

@[expose] public section

-- membership in a rectangle of production extents (`View.cover_of_tiled`): the elaborator's structural look
-- recurses once per coordinate of the long axes
set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The pieces the body's stores leave in the four results' buffers and in the scratch at a point that is not the first, with
    the proof that from the inputs' blocks, the results' buffers at anything and the scratch at `xs0` the body runs to its end,
    the inputs' blocks as they were and each other buffer with its pieces written. -/
noncomputable def kernelRun0_B (c : Dev nD) (i : grid0.Coords) (arg2 : Memref sig .tc .vmem S1x512x512 .bf16) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x512x512 .bf16) (harg8 : arg8.IsWhole) (arg9 : Memref sig .tc .vmem S1x512x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1x1024 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S128x512 .bf16) (harg15 : arg15.IsWhole) (arg16 : Memref sig .tc .vmem S1024x128 .bf16) (harg16 : arg16.IsWhole) (arg17 : Memref sig .tc .vmem S1024x128 .bf16) (harg17 : arg17.IsWhole) (arg18 : Memref sig .tc .vmem S1x128 .f32) (harg18 : arg18.IsWhole) (arg19 : Memref sig .tc .vmem S512x512 .bf16) (harg19 : arg19.IsWhole) (arg20 : Memref sig .tc .vmem S1x512x1024 .f32) (harg20 : arg20.IsWhole) (arg21 : Memref sig .tc .vmem S1x512x1024 .f32) (harg21 : arg21.IsWhole) (arg22 : Memref sig .tc .vmem S1x512x128 .f32) (harg22 : arg22.IsWhole) (arg23 : Memref sig .tc .vmem S1x128 .f32) (harg23 : arg23.IsWhole) (arg24 : Memref sig .tc .vmem S1x128 .f32) (harg24 : arg24.IsWhole) (hc0 : ¬cond0_0 i)
    (x0 : Vec F S1x512x512 .bf16) (x1 : Vec F S1x512x512 .bf16) (x2 : Vec F S1x512x512 .bf16) (x3 : Vec F S1x512x128 .f32) (x4 : Vec F S1x512x128 .f32) (x5 : Vec F S1x512x128 .f32) (x6 : Vec F S1x512x512 .bf16) (x7 : Vec F S1x512x1024 .f32) (x8 : Vec F S1x1x1024 .f32) (x9 : Vec F S1x1x1024 .f32) (x10 : Vec F S1x1x1024 .f32) (x11 : Vec F S1024x1024 .bf16) (x12 : Vec F S1x1024 .f32) (x13 : Vec F S128x512 .bf16) (x14 : Vec F S1024x128 .bf16) (x15 : Vec F S1024x128 .bf16) (x16 : Vec F S1x128 .f32) (x17 : Vec F S512x512 .bf16) (xs0 : Vec F S1x128 .f32) :
    Σ' (L18 : List (View.Piece (Elt F) S1x512x1024 .f32)), Σ' (L19 : List (View.Piece (Elt F) S1x512x1024 .f32)), Σ' (L20 : List (View.Piece (Elt F) S1x512x128 .f32)), Σ' (L21 : List (View.Piece (Elt F) S1x128 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f LS0)) -∗ K ⟨⟩))
          ⊢ wp frame (wpE (defs₀ (F := F)) Variants.none c none) E (cc0_mix_outproj_route i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, fun E K => ?run⟩
  case run =>
    simp only [cc0_mix_outproj_route_eq_skeleton]; unfold cc0_mix_outproj_route_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg24.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]; · iexists _; iexact H18
    isplitl [H19]; · iexists _; iexact H19
    isplitl [H20]; · iexists _; iexact H20
    isplitl [H21]; · iexists _; iexact H21
    iexists _; iexact HS0

end Cert.Kernel7Ideal.Gen

end
-- ==== Proof.MixFrame.lean ====
/-
  The whole run of the output projection's launch, at any point: what its buffers hold after each of the two cases of the
  body's one conditional (the first point, where the counts are set to zero, and every other), what they hold point by
  point, and the run and the frame of the program from that.
-/
module

public import proofs.«01_k».proof.Proof.MixRunB
public import Idealize.ShloMosaic.Lib.Claim

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases, at a grid point -/

/-- The body's run at the first point. -/
def runA (c : Dev nD) (t : Fin cfg0.N) (h0 : t.val % 64 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)

/-- The body's run at any other point, the counts found in the scratch. -/
def runB (c : Dev nD) (t : Fin cfg0.N) (h0 : ¬t.val % 64 = 0) (xs0 : Vec F S1x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) xs0

/-- At the first point the stores of window 18 cover it. -/
theorem coverA_18 (c : Dev nD) (t : Fin cfg0.N) (h0 : t.val % 64 = 0) (y : S1x512x1024.Idx) :
    ∃ pc ∈ (runA m c t h0).1, y ∈ pc.1.set :=
  View.cover_of_tiledL (runA m c t h0).1 S1x512x1024.size (by sl_kernel_rfl) y

/-- At the first point the stores of window 19 cover it. -/
theorem coverA_19 (c : Dev nD) (t : Fin cfg0.N) (h0 : t.val % 64 = 0) (y : S1x512x1024.Idx) :
    ∃ pc ∈ (runA m c t h0).2.1, y ∈ pc.1.set :=
  View.cover_of_tiledL (runA m c t h0).2.1 S1x512x1024.size (by sl_kernel_rfl) y

/-- At the first point the stores of window 20 cover it. -/
theorem coverA_20 (c : Dev nD) (t : Fin cfg0.N) (h0 : t.val % 64 = 0) (y : S1x512x128.Idx) :
    ∃ pc ∈ (runA m c t h0).2.2.1, y ∈ pc.1.set :=
  View.cover_of_tiledL (runA m c t h0).2.2.1 S1x512x128.size (by sl_kernel_rfl) y

/-- At the first point the stores of window 21 cover it. -/
theorem coverA_21 (c : Dev nD) (t : Fin cfg0.N) (h0 : t.val % 64 = 0) (y : S1x128.Idx) :
    ∃ pc ∈ (runA m c t h0).2.2.2.1, y ∈ pc.1.set :=
  View.cover_of_tiledL (runA m c t h0).2.2.2.1 S1x128.size (by sl_kernel_rfl) y

/-- At the first point the stores into the scratch cover it. -/
theorem coverA_0 (c : Dev nD) (t : Fin cfg0.N) (h0 : t.val % 64 = 0) (y : S1x128.Idx) :
    ∃ pc ∈ (runA m c t h0).2.2.2.2.1, y ∈ pc.1.set :=
  View.cover_of_tiledL (runA m c t h0).2.2.2.2.1 S1x128.size (by sl_kernel_rfl) y

/-- What the first point leaves in the results' buffers and in the scratch. -/
def outA (c : Dev nD) (t : Fin cfg0.N) (h0 : t.val % 64 = 0) : Vec F S1x512x1024 .f32 × Vec F S1x512x1024 .f32 × Vec F S1x512x128 .f32 × Vec F S1x128 .f32 × Vec F S1x128 .f32 :=
  (VO0_18.read (Elt F) (VO0_18.writes (Elt F) VO0_18.junk (runA m c t h0).1),
   VO0_19.read (Elt F) (VO0_19.writes (Elt F) VO0_19.junk (runA m c t h0).2.1),
   VO0_20.read (Elt F) (VO0_20.writes (Elt F) VO0_20.junk (runA m c t h0).2.2.1),
   VO0_21.read (Elt F) (VO0_21.writes (Elt F) VO0_21.junk (runA m c t h0).2.2.2.1),
   VS0_0.read (Elt F) (VS0_0.writes (Elt F) VS0_0.junk (runA m c t h0).2.2.2.2.1))

/-- At any other point the stores of window 18 cover it. -/
theorem coverB_18 (c : Dev nD) (t : Fin cfg0.N) (h0 : ¬t.val % 64 = 0) (xs0 : Vec F S1x128 .f32) (y : S1x512x1024.Idx) :
    ∃ pc ∈ (runB m c t h0 xs0).1, y ∈ pc.1.set :=
  View.cover_of_tiledL (runB m c t h0 xs0).1 S1x512x1024.size (by sl_kernel_rfl) y

/-- At any other point the stores of window 19 cover it. -/
theorem coverB_19 (c : Dev nD) (t : Fin cfg0.N) (h0 : ¬t.val % 64 = 0) (xs0 : Vec F S1x128 .f32) (y : S1x512x1024.Idx) :
    ∃ pc ∈ (runB m c t h0 xs0).2.1, y ∈ pc.1.set :=
  View.cover_of_tiledL (runB m c t h0 xs0).2.1 S1x512x1024.size (by sl_kernel_rfl) y

/-- At any other point the stores of window 20 cover it. -/
theorem coverB_20 (c : Dev nD) (t : Fin cfg0.N) (h0 : ¬t.val % 64 = 0) (xs0 : Vec F S1x128 .f32) (y : S1x512x128.Idx) :
    ∃ pc ∈ (runB m c t h0 xs0).2.2.1, y ∈ pc.1.set :=
  View.cover_of_tiledL (runB m c t h0 xs0).2.2.1 S1x512x128.size (by sl_kernel_rfl) y

/-- At any other point the stores of window 21 cover it. -/
theorem coverB_21 (c : Dev nD) (t : Fin cfg0.N) (h0 : ¬t.val % 64 = 0) (xs0 : Vec F S1x128 .f32) (y : S1x128.Idx) :
    ∃ pc ∈ (runB m c t h0 xs0).2.2.2.1, y ∈ pc.1.set :=
  View.cover_of_tiledL (runB m c t h0 xs0).2.2.2.1 S1x128.size (by sl_kernel_rfl) y

/-- At any other point the stores into the scratch cover it. -/
theorem coverB_0 (c : Dev nD) (t : Fin cfg0.N) (h0 : ¬t.val % 64 = 0) (xs0 : Vec F S1x128 .f32) (y : S1x128.Idx) :
    ∃ pc ∈ (runB m c t h0 xs0).2.2.2.2.1, y ∈ pc.1.set :=
  View.cover_of_tiledL (runB m c t h0 xs0).2.2.2.2.1 S1x128.size (by sl_kernel_rfl) y

/-- What any other point leaves in the results' buffers and in the scratch. -/
def outB (c : Dev nD) (t : Fin cfg0.N) (h0 : ¬t.val % 64 = 0) (xs0 : Vec F S1x128 .f32) : Vec F S1x512x1024 .f32 × Vec F S1x512x1024 .f32 × Vec F S1x512x128 .f32 × Vec F S1x128 .f32 × Vec F S1x128 .f32 :=
  (VO0_18.read (Elt F) (VO0_18.writes (Elt F) VO0_18.junk (runB m c t h0 xs0).1),
   VO0_19.read (Elt F) (VO0_19.writes (Elt F) VO0_19.junk (runB m c t h0 xs0).2.1),
   VO0_20.read (Elt F) (VO0_20.writes (Elt F) VO0_20.junk (runB m c t h0 xs0).2.2.1),
   VO0_21.read (Elt F) (VO0_21.writes (Elt F) VO0_21.junk (runB m c t h0 xs0).2.2.2.1),
   VS0_0.read (Elt F) (VS0_0.writes (Elt F) VS0_0.junk (runB m c t h0 xs0).2.2.2.2.1))

/-- What the results' buffers and the scratch hold after each point. -/
def outsAt0 (c : Dev nD) : (n : ℕ) → n < cfg0.N → Vec F S1x512x1024 .f32 × Vec F S1x512x1024 .f32 × Vec F S1x512x128 .f32 × Vec F S1x128 .f32 × Vec F S1x128 .f32
  | 0, hn => outA m c ⟨0, hn⟩ (Nat.zero_mod _)
  | n + 1, hn =>
    if h0 : (n + 1) % 64 = 0 then outA m c ⟨n + 1, hn⟩ h0
    else outB m c ⟨n + 1, hn⟩ h0 (outsAt0 c n (Nat.lt_of_succ_lt hn)).2.2.2.2

/-- The same at the first point. -/
theorem outsAt0_A (c : Dev nD) (t : Fin cfg0.N) (h0 : t.val % 64 = 0) : outsAt0 m c t.val t.isLt = outA m c t h0 := by
  obtain ⟨n, hn⟩ := t
  cases n with
  | zero => exact rfl
  | succ n => exact (dif_pos h0).trans rfl

/-- The same at any other, over what the point before left. -/
theorem outsAt0_B (c : Dev nD) (t : Fin cfg0.N) (h0 : ¬t.val % 64 = 0) :
    outsAt0 m c t.val t.isLt = outB m c t h0 (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t.val t.isLt).1
    | ⟨19, _⟩ => (outsAt0 m c t.val t.isLt).2.1
    | ⟨20, _⟩ => (outsAt0 m c t.val t.isLt).2.2.1
    | ⟨21, _⟩ => (outsAt0 m c t.val t.isLt).2.2.2.1
    | ⟨_ + 22, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t.val t.isLt).1 := by dsimp only [dats]
theorem after0_19 (c : Dev nD) (t : Fin cfg0.N) : (dats m 0 c).after 19 t = (outsAt0 m c t.val t.isLt).2.1 := by dsimp only [dats]
theorem after0_20 (c : Dev nD) (t : Fin cfg0.N) : (dats m 0 c).after 20 t = (outsAt0 m c t.val t.isLt).2.2.1 := by dsimp only [dats]
theorem after0_21 (c : Dev nD) (t : Fin cfg0.N) : (dats m 0 c).after 21 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 16000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold outA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runA m c t h0).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [H20]; · iexists _; iexact H20
      isplitl [H21]; · iexists _; iexact H21
      isplitl [HS0]; · iexact HS0
      iintro ⟨H0, H1, H2, H3, H4, H5, H6, H7, H8, H9, H10, H11, H12, H13, H14, H15, H16, H17, ⟨%e18, H18⟩, ⟨%e19, H19⟩, ⟨%e20, H20⟩, ⟨%e21, H21⟩, ⟨%es0, HS0⟩⟩
      isplitl [HS0 Hg]
      · isplitl [HS0]
        · unfold owns; iexists _; isplitr
          swap; · iexact HS0
          ipureintro; exact View.read_writes_of_cover _ _ _ _ _ (coverA_0 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]
      · unfold owns; iexists _; isplitr
        swap; · iexact H18
        ipureintro; exact View.read_writes_of_cover _ _ _ _ _ (coverA_18 m c t h0)
      isplitl [H19]
      · unfold owns; iexists _; isplitr
        swap; · iexact H19
        ipureintro; exact View.read_writes_of_cover _ _ _ _ _ (coverA_19 m c t h0)
      isplitl [H20]
      · unfold owns; iexists _; isplitr
        swap; · iexact H20
        ipureintro; exact View.read_writes_of_cover _ _ _ _ _ (coverA_20 m c t h0)
      unfold owns; iexists _; isplitr
      swap; · iexact H21
      ipureintro; exact View.read_writes_of_cover _ _ _ _ _ (coverA_21 m c t h0)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold outB; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runB m c t h0 _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexists _; iexact H18
      isplitl [H19]; · iexists _; iexact H19
      isplitl [H20]; · iexists _; iexact H20
      isplitl [H21]; · iexists _; iexact H21
      isplitl [HS0]; · iexact HS0
      iintro ⟨H0, H1, H2, H3, H4, H5, H6, H7, H8, H9, H10, H11, H12, H13, H14, H15, H16, H17, ⟨%e18, H18⟩, ⟨%e19, H19⟩, ⟨%e20, H20⟩, ⟨%e21, H21⟩, ⟨%es0, HS0⟩⟩
      isplitl [HS0 Hg]
      · isplitl [HS0]
        · unfold owns; iexists _; isplitr
          swap; · iexact HS0
          ipureintro; exact View.read_writes_of_cover _ _ _ _ _ (coverB_0 m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]
      · unfold owns; iexists _; isplitr
        swap; · iexact H18
        ipureintro; exact View.read_writes_of_cover _ _ _ _ _ (coverB_18 m c t h0 _)
      isplitl [H19]
      · unfold owns; iexists _; isplitr
        swap; · iexact H19
        ipureintro; exact View.read_writes_of_cover _ _ _ _ _ (coverB_19 m c t h0 _)
      isplitl [H20]
      · unfold owns; iexists _; isplitr
        swap; · iexact H20
        ipureintro; exact View.read_writes_of_cover _ _ _ _ _ (coverB_20 m c t h0 _)
      unfold owns; iexists _; isplitr
      swap; · iexact H21
      ipureintro; exact View.read_writes_of_cover _ _ _ _ _ (coverB_21 m c t h0 _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_Kernel7Ideal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel7Ideal.Gen

end
-- ==== Proof.MixMath.lean ====
/-
  The mixing of the attention's three branches, the output projection and the second norm, in scalars: each is written
  once here and met by the kernel and by the reference.
-/
module

public import proofs.«01_k».proof.Proof.LayerMath

@[expose] public section

noncomputable section

namespace Cert.Mix

open Idealize.ShloMosaic

/-- The softmax weight of the logarithm `z` among the three logarithms `a`, `b`, `d`. -/
def wE (z a b d : EReal) : EReal :=
  Ideal.div (Ideal.exp (z - max (max a b) d))
    (Ideal.exp (a - max (max a b) d) + Ideal.exp (b - max (max a b) d) + Ideal.exp (d - max (max a b) d))

/-- Three branches' outputs under the softmax weights of their logarithms. -/
def mixE (a b d o1 o2 o3 : EReal) : EReal := wE a a b d * o1 + wE b a b d * o2 + wE d a b d * o3

/-- Two rows of 512 in one row of 1024. -/
def catE (p q : Fin 512 → EReal) (k : Fin 1024) : EReal :=
  if h : k.val < 512 then p ⟨k.val, h⟩ else q ⟨k.val - 512, by have := k.isLt; omega⟩

/-- A product of two rows side by side by a column is the sum of the products of each by its half of the column. -/
theorem dotE_cat (p q : Fin 512 → EReal) (w : Fin 1024 → EReal) :
    Layer.dotE (catE p q) w
      = (∑ k : Fin 512, p k * w ⟨k.val, by have := k.isLt; omega⟩) + ∑ k : Fin 512, q k * w ⟨512 + k.val, by have := k.isLt; omega⟩ := by
  unfold Layer.dotE
  refine (Fin.sum_univ_add (a := 512) (b := 512) (fun k : Fin (512 + 512) => catE p q k * w k)).trans ?_
  refine congrArg₂ (· + ·) (Finset.sum_congr rfl fun k _ => ?_) (Finset.sum_congr rfl fun k _ => ?_)
  · have h : catE p q (Fin.castAdd 512 k) = p k := dif_pos k.isLt
    rw [h]; rfl
  · have h : catE p q (Fin.natAdd 512 k) = q k :=
      (dif_neg (show ¬ 512 + k.val < 512 by omega)).trans (congrArg q (Fin.ext (show 512 + k.val - 512 = k.val by omega)))
    rw [h]; rfl

/-- The lane that holds a head's logarithm, for a feature of the head: each head has sixteen lanes. -/
abbrev lane (j : Fin 512) : Fin 128 := ⟨j.val / 64 * 16, by have := j.isLt; omega⟩

/-- Where the column picks one lane, the sum over the lanes is that lane's term. -/
theorem sum_pick (f : Fin 128 → EReal) (j : Fin 512) :
    (∑ l : Fin 128, f l * (if l.val / 16 = j.val / 64 ∧ l.val % 16 = 0 then 1 else 0)) = f (lane j) := by
  rw [Finset.sum_eq_single (lane j)]
  · rw [if_pos ⟨by show j.val / 64 * 16 / 16 = j.val / 64; omega, by show j.val / 64 * 16 % 16 = 0; omega⟩, mul_one]
  · intro l _ hl
    rw [if_neg, mul_zero]
    rintro ⟨h1, h2⟩
    exact hl (Fin.ext (show l.val = j.val / 64 * 16 by omega))
  · intro h; exact absurd (Finset.mem_univ _) h

section Arrays

variable (O1 O2 O3 : (⟨3, ![4, 8192, 512]⟩ : Shape).Idx → EReal) (L1 L2 L3 : (⟨3, ![4, 8192, 128]⟩ : Shape).Idx → EReal)
  (Cv : (⟨3, ![4, 8192, 512]⟩ : Shape).Idx → EReal) (X : (⟨3, ![4, 8192, 1024]⟩ : Shape).Idx → EReal)
  (Gt Sh Sc : (⟨3, ![4, 1, 1024]⟩ : Shape).Idx → EReal) (W : (⟨2, ![1024, 1024]⟩ : Shape).Idx → EReal)
  (G : (⟨1, ![1024]⟩ : Shape).Idx → EReal)

/-- Feature `j` of the attention's mixed output at batch `i`, position `r`. -/
def attE (i : Fin 4) (r : Fin 8192) (j : Fin 512) : EReal :=
  mixE (L1 (ix3 i r (lane j))) (L2 (ix3 i r (lane j))) (L3 (ix3 i r (lane j))) (O1 (ix3 i r j)) (O2 (ix3 i r j)) (O3 (ix3 i r j))

/-- The residual stream after the output projection, one element. -/
def x1E (i : Fin 4) (r : Fin 8192) (f : Fin 1024) : EReal :=
  X (ix3 i r f) + Gt (ix3 i 0 f) * Layer.dotE (catE (attE O1 O2 O3 L1 L2 L3 i r) (fun k => Cv (ix3 i r k))) (fun k => W (ix2 k f))

/-- The residual stream after the output projection. -/
def x1P : (⟨3, ![4, 8192, 1024]⟩ : Shape).Idx → EReal := fun y => x1E O1 O2 O3 L1 L2 L3 Cv X Gt W (y 0) (y 1) (y 2)

/-- Its norm, modulated. -/
def h2P : (⟨3, ![4, 8192, 1024]⟩ : Shape).Idx → EReal := fun y =>
  Layer.normE (x1E O1 O2 O3 L1 L2 L3 Cv X Gt W (y 0) (y 1)) (fun k => G (ix1 k)) (fun k => Sc (ix3 (y 0) 0 k)) (fun k => Sh (ix3 (y 0) 0 k)) (y 2)

end Arrays

end Cert.Mix
-- ==== Proof.MixTile.lean ====
/-
  One tile of the output projection as the kernel computes it, by elements: the three softmax weights, the copy of each
  head's weight to the head's features, the two products, and the norm of the sum.
-/
module

public import proofs.«01_k».proof.Proof.MixMath
public import proofs.«01_k».proof.Proof.Gen.Kernel7Ideal.Skeleton

@[expose] public section

set_option maxRecDepth 16384

noncomputable section

namespace Cert.Mix

open Cert.Kernel7Ideal Cert.Kernel7Ideal.Gen
open Idealize.ShloMosaic Idealize.ShloMosaic.TcCoe

/-- The matrix that copies a head's weight from its lane to the head's features. -/
def IsExpand (E : Vec Ideal S128x512 .bf16) : Prop :=
  ∀ (l : Fin 128) (j : Fin 512), E (ix2 l j) = if l.val / 16 = j.val / 64 ∧ l.val % 16 = 0 then (1 : EReal) else 0

variable (v5 v7 v9 : Vec Ideal S1x512x128 .f32)

/-- The first branch's weight. -/
theorem w1_apply (a : Fin 512) (l : Fin 128) :
    Ideal.div (k0_pay7 v5 v7 v9 (ix2 a l)) (k0_pay10 v5 v7 v9 (ix2 a l))
      = wE (v5 (ix3 0 a l)) (v5 (ix3 0 a l)) (v7 (ix3 0 a l)) (v9 (ix3 0 a l)) := by
  pointwise [k0_pay10, k0_pay9, k0_pay8, k0_pay7, k0_pay6, k0_pay5, k0_pay4, k0_pay3]
  rfl

/-- The second branch's weight. -/
theorem w2_apply (a : Fin 512) (l : Fin 128) :
    Ideal.div (k0_pay8 v5 v7 v9 (ix2 a l)) (k0_pay10 v5 v7 v9 (ix2 a l))
      = wE (v7 (ix3 0 a l)) (v5 (ix3 0 a l)) (v7 (ix3 0 a l)) (v9 (ix3 0 a l)) := by
  pointwise [k0_pay10, k0_pay9, k0_pay8, k0_pay7, k0_pay6, k0_pay5, k0_pay4, k0_pay3]
  rfl

/-- The third branch's weight. -/
theorem w3_apply (a : Fin 512) (l : Fin 128) :
    Ideal.div (k0_pay9 v5 v7 v9 (ix2 a l)) (k0_pay10 v5 v7 v9 (ix2 a l))
      = wE (v9 (ix3 0 a l)) (v5 (ix3 0 a l)) (v7 (ix3 0 a l)) (v9 (ix3 0 a l)) := by
  pointwise [k0_pay10, k0_pay9, k0_pay8, k0_pay7, k0_pay6, k0_pay5, k0_pay4, k0_pay3]
  rfl

/-- The first branch's part of the mix. -/
theorem pay11_apply (E : Vec Ideal S128x512 .bf16) (hE : IsExpand E) (o : Vec Ideal S1x512x512 .bf16) (a j : Fin 512) :
    k0_pay11 v5 v7 v9 E o (ix2 a j)
      = wE (v5 (ix3 0 a (lane j))) (v5 (ix3 0 a (lane j))) (v7 (ix3 0 a (lane j))) (v9 (ix3 0 a (lane j))) * o (ix3 0 a j) := by
  have hs := sum_pick (fun l => Ideal.div (k0_pay7 v5 v7 v9 (ix2 a l)) (k0_pay10 v5 v7 v9 (ix2 a l))) j
  rw [← w1_apply v5 v7 v9, ← hs]
  unfold k0_pay11
  generalize k0_pay7 v5 v7 v9 = p
  generalize k0_pay10 v5 v7 v9 = q
  pointwise
  simp only [hE _ _]

/-- The second branch's weight at a feature. -/
theorem pay12_apply (E : Vec Ideal S128x512 .bf16) (hE : IsExpand E) (a j : Fin 512) :
    k0_pay12 v5 v7 v9 E (ix2 a j)
      = wE (v7 (ix3 0 a (lane j))) (v5 (ix3 0 a (lane j))) (v7 (ix3 0 a (lane j))) (v9 (ix3 0 a (lane j))) := by
  have hs := sum_pick (fun l => Ideal.div (k0_pay8 v5 v7 v9 (ix2 a l)) (k0_pay10 v5 v7 v9 (ix2 a l))) j
  rw [← w2_apply v5 v7 v9, ← hs]
  unfold k0_pay12
  generalize k0_pay8 v5 v7 v9 = p
  generalize k0_pay10 v5 v7 v9 = q
  pointwise
  simp only [hE _ _]

/-- One element of the tile from the three parts of the mix. -/
theorem pay13_apply (p q : FVec Ideal S512x128 .f32) (y z : FVec Ideal S512x512 .f32) (E : Vec Ideal S128x512 .bf16)
    (o2 o3 cv : Vec Ideal S1x512x512 .bf16) (wa wb : Vec Ideal S512x1024 .bf16) (x : Vec Ideal S1x512x1024 .f32) (gt : Vec Ideal S1x1x1024 .f32)
    (a : Fin 512) (f : Fin 1024) :
    k0_pay13 p q y z o2 E o3 wa cv wb x gt (ix2 a f)
      = x (ix3 0 a f) + gt (ix3 0 0 f) * ((∑ j : Fin 512, (y (ix2 a j) + z (ix2 a j) * o2 (ix3 0 a j)
            + (∑ l : Fin 128, Ideal.div (p (ix2 a l)) (q (ix2 a l)) * E (ix2 l j)) * o3 (ix3 0 a j)) * wa (ix2 j f))
          + ∑ j : Fin 512, cv (ix3 0 a j) * wb (ix2 j f)) := by
  pointwise [k0_pay13]

/-- One element of the residual stream's tile. -/
theorem x1_tile (E : Vec Ideal S128x512 .bf16) (hE : IsExpand E)
    (o1 o2 o3 cv : Vec Ideal S1x512x512 .bf16) (wa wb : Vec Ideal S512x1024 .bf16) (x : Vec Ideal S1x512x1024 .f32) (gt : Vec Ideal S1x1x1024 .f32)
    (a : Fin 512) (f : Fin 1024) :
    k0_pay13 (k0_pay9 v5 v7 v9) (k0_pay10 v5 v7 v9) (k0_pay11 v5 v7 v9 E o1) (k0_pay12 v5 v7 v9 E) o2 E o3 wa cv wb x gt (ix2 a f)
      = x (ix3 0 a f) + gt (ix3 0 0 f) * ((∑ j : Fin 512,
            mixE (v5 (ix3 0 a (lane j))) (v7 (ix3 0 a (lane j))) (v9 (ix3 0 a (lane j))) (o1 (ix3 0 a j)) (o2 (ix3 0 a j)) (o3 (ix3 0 a j)) * wa (ix2 j f))
          + ∑ j : Fin 512, cv (ix3 0 a j) * wb (ix2 j f)) := by
  rw [pay13_apply]
  refine congrArg₂ (· + ·) rfl (congrArg₂ (· * ·) rfl (congrArg₂ (· + ·) (Finset.sum_congr rfl fun j _ => ?_) rfl))
  have h3 : (∑ l : Fin 128, Ideal.div (k0_pay9 v5 v7 v9 (ix2 a l)) (k0_pay10 v5 v7 v9 (ix2 a l)) * E (ix2 l j))
      = wE (v9 (ix3 0 a (lane j))) (v5 (ix3 0 a (lane j))) (v7 (ix3 0 a (lane j))) (v9 (ix3 0 a (lane j))) := by
    rw [← w3_apply v5 v7 v9, ← sum_pick (fun l => Ideal.div (k0_pay9 v5 v7 v9 (ix2 a l)) (k0_pay10 v5 v7 v9 (ix2 a l))) j]
    exact Finset.sum_congr rfl fun l _ => by rw [hE l j]
  rw [h3, pay11_apply v5 v7 v9 E hE, pay12_apply v5 v7 v9 E hE]
  rfl

/-- The stored tile of the residual stream. -/
theorem pay14_apply (h : FVec Ideal S512x1024 .f32) (a : Fin 512) (f : Fin 1024) : k0_pay14 h (ix3 0 a f) = h (ix2 a f) := by
  pointwise [k0_pay14]

/-- The stored tile of the norm. -/
theorem pay16_apply (h : FVec Ideal S512x1024 .f32) (g : Vec Ideal S1x1024 .f32) (sc sh : Vec Ideal S1x1x1024 .f32) (a : Fin 512) (f : Fin 1024) :
    k0_pay16 h g sc sh (ix3 0 a f)
      = Layer.normE (fun k => h (ix2 a k)) (fun k => g (ix2 0 k)) (fun k => sc (ix3 0 0 k)) (fun k => sh (ix3 0 0 k)) f := by
  pointwise [k0_pay16, k0_pay15]
  rfl

end Cert.Mix
-- ==== Proof.Mix.lean ====
/-
  What the launch of the output projection leaves, by elements: the residual stream after it, and the norm of that.
-/
module

public import proofs.«01_k».proof.Proof.MixFrame
public import proofs.«01_k».proof.Proof.MixTile
public import Idealize.ShloMosaic.Lib.Pipeline.ValueKit
public import Idealize.ShloMosaic.Lib.StableHlo.ReadAt

@[expose] public section

set_option maxRecDepth 16384

noncomputable section

namespace Cert.Mix

open Cert.Kernel7Ideal Cert.Kernel7Ideal.Gen
open Idealize.ShloMosaic Idealize.ShloMosaic.TcCoe Idealize.ShloMosaic.Pipeline

/-! ## Which block a window is on -/

theorem idx_0 : ∀ t : Fin cfg0.N, win0_0.index t = ![t.val / 16, t.val % 16, 0] := (by decide +kernel : ∀ t : Fin grid0.N, _)
theorem idx_1 : ∀ t : Fin cfg0.N, win0_1.index t = ![t.val / 16, t.val % 16, 0] := (by decide +kernel : ∀ t : Fin grid0.N, _)
theorem idx_2 : ∀ t : Fin cfg0.N, win0_2.index t = ![t.val / 16, t.val % 16, 0] := (by decide +kernel : ∀ t : Fin grid0.N, _)
theorem idx_3 : ∀ t : Fin cfg0.N, win0_3.index t = ![t.val / 16, t.val % 16, 0] := (by decide +kernel : ∀ t : Fin grid0.N, _)
theorem idx_4 : ∀ t : Fin cfg0.N, win0_4.index t = ![t.val / 16, t.val % 16, 0] := (by decide +kernel : ∀ t : Fin grid0.N, _)
theorem idx_5 : ∀ t : Fin cfg0.N, win0_5.index t = ![t.val / 16, t.val % 16, 0] := (by decide +kernel : ∀ t : Fin grid0.N, _)
theorem idx_6 : ∀ t : Fin cfg0.N, win0_6.index t = ![t.val / 16, t.val % 16, 0] := (by decide +kernel : ∀ t : Fin grid0.N, _)
theorem idx_7 : ∀ t : Fin cfg0.N, win0_7.index t = ![t.val / 16, t.val % 16, 0] := (by decide +kernel : ∀ t : Fin grid0.N, _)
theorem idx_8 : ∀ t : Fin cfg0.N, win0_8.index t = ![t.val / 16, 0, 0] := (by decide +kernel : ∀ t : Fin grid0.N, _)
theorem idx_9 : ∀ t : Fin cfg0.N, win0_9.index t = ![t.val / 16, 0, 0] := (by decide +kernel : ∀ t : Fin grid0.N, _)
theorem idx_10 : ∀ t : Fin cfg0.N, win0_10.index t = ![t.val / 16, 0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0] := (by decide +kernel : ∀ t : Fin grid0.N, _)
theorem idx_18 : ∀ t : Fin cfg0.N, win0_18.index t = ![t.val / 16, t.val % 16, 0] := (by decide +kernel : ∀ t : Fin grid0.N, _)
theorem idx_19 : ∀ t : Fin cfg0.N, win0_19.index t = ![t.val / 16, t.val % 16, 0] := (by decide +kernel : ∀ t : Fin grid0.N, _)

/-- The batch of a grid point. -/
abbrev bat (t : Fin cfg0.N) : Fin 4 := ⟨t.val / 16, by have := t.isLt; change _ < 64 at this; omega⟩

/-- The position of a row of a grid point's tile. -/
abbrev pos (t : Fin cfg0.N) (a : Fin 512) : Fin 8192 := ⟨t.val % 16 * 512 + a.val, by have := a.isLt; omega⟩

variable (m : (ℓ : Loc nD τ sig) → Buf (Elt Ideal) ℓ) (ρ : Dev nD → PrngReg) (c : Dev nD)

/-! ## What the host leaves for the launch -/

/-- The weights of the output projection. -/
theorem w_host (k f : Fin 1024) : V m c main_v0 (ix2 k f : S1024x1024.Idx) = m (c.tc.loc main_arg11) (ix2 k f : S1024x1024.Idx) := by
  unfold V
  after_reads_at

/-- The norm's gain. -/
theorem g_host (k : Fin 1024) : V m c main_v18 (ix2 0 k : S1x1024.Idx) = m (c.tc.loc main_arg12) (ix1 k : S1024.Idx) := by
  unfold V
  after_reads_at

/-- The two comparisons of lane and head as one bit. -/
theorem mask_bit : ∀ (a b : Fin 8) (d : Fin 16),
    IntOp.andi (IntOp.cmpi .eq (BitVec.ofNat 32 a.val) (BitVec.ofNat 32 b.val)) (IntOp.cmpi .eq (BitVec.ofNat 32 d.val) 0#32)
      = if a.val = b.val ∧ d.val = 0 then 1#1 else 0#1 := by
  decide +kernel

/-- The copying matrix. -/
theorem e_host : IsExpand (V m c main_v19) := by
  intro l j
  unfold V
  after_reads_at
  refine (congrArg (fun b => Scalar.select b (1 : EReal) 0)
    (mask_bit ⟨l.val / 16, by have := l.isLt; omega⟩ ⟨j.val / 64, by have := j.isLt; omega⟩ ⟨l.val % 16, by omega⟩)).trans ?_
  show Scalar.select (if l.val / 16 = j.val / 64 ∧ l.val % 16 = 0 then 1#1 else 0#1) (1 : EReal) 0 = _
  split <;> rfl

/-! ## The blocks -/

theorem o1_read (t : Fin cfg0.N) (a j : Fin 512) :
    iblk m c 0 t (ix3 0 a j : S1x512x512.Idx) = m (c.tc.loc main_arg0) (ix3 (bat t) (pos t a) j : S4x8192x512.Idx) := by
  rw [← V_main_arg0 m c]
  blk_ext! [iblk, idx_0 t]

theorem o2_read (t : Fin cfg0.N) (a j : Fin 512) :
    iblk m c 1 t (ix3 0 a j : S1x512x512.Idx) = m (c.tc.loc main_arg1) (ix3 (bat t) (pos t a) j : S4x8192x512.Idx) := by
  rw [← V_main_arg1 m c]
  blk_ext! [iblk, idx_1 t]

theorem o3_read (t : Fin cfg0.N) (a j : Fin 512) :
    iblk m c 2 t (ix3 0 a j : S1x512x512.Idx) = m (c.tc.loc main_arg2) (ix3 (bat t) (pos t a) j : S4x8192x512.Idx) := by
  rw [← V_main_arg2 m c]
  blk_ext! [iblk, idx_2 t]

theorem l1_read (t : Fin cfg0.N) (a : Fin 512) (j : Fin 128) :
    iblk m c 3 t (ix3 0 a j : S1x512x128.Idx) = m (c.tc.loc main_arg3) (ix3 (bat t) (pos t a) j : S4x8192x128.Idx) := by
  rw [← V_main_arg3 m c]
  blk_ext! [iblk, idx_3 t]

theorem l2_read (t : Fin cfg0.N) (a : Fin 512) (j : Fin 128) :
    iblk m c 4 t (ix3 0 a j : S1x512x128.Idx) = m (c.tc.loc main_arg4) (ix3 (bat t) (pos t a) j : S4x8192x128.Idx) := by
  rw [← V_main_arg4 m c]
  blk_ext! [iblk, idx_4 t]

theorem l3_read (t : Fin cfg0.N) (a : Fin 512) (j : Fin 128) :
    iblk m c 5 t (ix3 0 a j : S1x512x128.Idx) = m (c.tc.loc main_arg5) (ix3 (bat t) (pos t a) j : S4x8192x128.Idx) := by
  rw [← V_main_arg5 m c]
  blk_ext! [iblk, idx_5 t]

theorem cv_read (t : Fin cfg0.N) (a j : Fin 512) :
    iblk m c 6 t (ix3 0 a j : S1x512x512.Idx) = m (c.tc.loc main_arg6) (ix3 (bat t) (pos t a) j : S4x8192x512.Idx) := by
  rw [← V_main_arg6 m c]
  blk_ext! [iblk, idx_6 t]

theorem x_read (t : Fin cfg0.N) (a : Fin 512) (j : Fin 1024) :
    iblk m c 7 t (ix3 0 a j : S1x512x1024.Idx) = m (c.tc.loc main_arg7) (ix3 (bat t) (pos t a) j : S4x8192x1024.Idx) := by
  rw [← V_main_arg7 m c]
  blk_ext! [iblk, idx_7 t]

theorem gt_read (t : Fin cfg0.N) (j : Fin 1024) :
    iblk m c 8 t (ix3 0 0 j : S1x1x1024.Idx) = m (c.tc.loc main_arg8) (ix3 (bat t) 0 j : S4x1x1024.Idx) := by
  rw [← V_main_arg8 m c]
  blk_ext! [iblk, idx_8 t]

theorem sh_read (t : Fin cfg0.N) (j : Fin 1024) :
    iblk m c 9 t (ix3 0 0 j : S1x1x1024.Idx) = m (c.tc.loc main_arg9) (ix3 (bat t) 0 j : S4x1x1024.Idx) := by
  rw [← V_main_arg9 m c]
  blk_ext! [iblk, idx_9 t]

theorem sc_read (t : Fin cfg0.N) (j : Fin 1024) :
    iblk m c 10 t (ix3 0 0 j : S1x1x1024.Idx) = m (c.tc.loc main_arg10) (ix3 (bat t) 0 j : S4x1x1024.Idx) := by
  rw [← V_main_arg10 m c]
  blk_ext! [iblk, idx_10 t]

theorem w_read (t : Fin cfg0.N) (k f : Fin 1024) :
    iblk m c 11 t (ix2 k f : S1024x1024.Idx) = m (c.tc.loc main_arg11) (ix2 k f : S1024x1024.Idx) := by
  rw [← w_host m c]
  blk_ext! [iblk, idx_11 t]

theorem g_read (t : Fin cfg0.N) (k : Fin 1024) :
    iblk m c 12 t (ix2 0 k : S1x1024.Idx) = m (c.tc.loc main_arg12) (ix1 k : S1024.Idx) := by
  rw [← g_host m c]
  blk_ext! [iblk, idx_12 t]

theorem e_block (t : Fin cfg0.N) (l : Fin 128) (j : Fin 512) :
    iblk m c 13 t (ix2 l j : S128x512.Idx) = V m c main_v19 (ix2 l j : S128x512.Idx) := by
  blk_ext! [iblk, idx_13 t]

theorem e_read (t : Fin cfg0.N) : IsExpand (iblk m c 13 t) := fun l j => (e_block m c t l j).trans (e_host m c l j)

/-! ## The two arrays -/

/-- One element of a tile's residual stream, over any halves of the weights that read as the array's. -/
theorem x1_at (t : Fin cfg0.N) (wa wb : Vec Ideal S512x1024 .bf16)
    (ha : ∀ (k : Fin 512) (f : Fin 1024), wa (ix2 k f) = m (c.tc.loc main_arg11) (ix2 (⟨k.val, by have := k.isLt; omega⟩ : Fin 1024) f : S1024x1024.Idx))
    (hb : ∀ (k : Fin 512) (f : Fin 1024), wb (ix2 k f) = m (c.tc.loc main_arg11) (ix2 (⟨512 + k.val, by have := k.isLt; omega⟩ : Fin 1024) f : S1024x1024.Idx))
    (a : Fin 512) (f : Fin 1024) :
    k0_pay13 (k0_pay9 (iblk m c 3 t) (iblk m c 4 t) (iblk m c 5 t)) (k0_pay10 (iblk m c 3 t) (iblk m c 4 t) (iblk m c 5 t))
        (k0_pay11 (iblk m c 3 t) (iblk m c 4 t) (iblk m c 5 t) (iblk m c 13 t) (iblk m c 0 t))
        (k0_pay12 (iblk m c 3 t) (iblk m c 4 t) (iblk m c 5 t) (iblk m c 13 t))
        (iblk m c 1 t) (iblk m c 13 t) (iblk m c 2 t) wa (iblk m c 6 t) wb (iblk m c 7 t) (iblk m c 8 t) (ix2 a f)
      = x1E (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg11)) (bat t) (pos t a) f := by
  rw [x1_tile _ _ _ _ (e_read m c t), x1E, dotE_cat]
  simp only [o1_read, o2_read, o3_read, l1_read, l2_read, l3_read, cv_read, x_read, gt_read, ha, hb]
  rfl

/-- The upper half of the weights. -/
theorem wa_read (t : Fin cfg0.N) (k : Fin 512) (f : Fin 1024) :
    View.ld (iblk m c 11 t) (Rect.unit (s := S1024x1024) ![0, 0] ![512, 1024] inb_S1024x1024_S512x1024_0_0) (ix2 k f : S512x1024.Idx) = m (c.tc.loc main_arg11) (ix2 (⟨k.val, by have := k.isLt; omega⟩ : Fin 1024) f : S1024x1024.Idx) := by
  pointwise
  exact w_read m c t _ _

/-- The lower half. -/
theorem wb_read (t : Fin cfg0.N) (k : Fin 512) (f : Fin 1024) :
    View.ld (iblk m c 11 t) (Rect.unit (s := S1024x1024) ![512, 0] ![512, 1024] inb_S1024x1024_S512x1024_512_0) (ix2 k f : S512x1024.Idx) = m (c.tc.loc main_arg11) (ix2 (⟨512 + k.val, by have := k.isLt; omega⟩ : Fin 1024) f : S1024x1024.Idx) := by
  pointwise
  exact w_read m c t _ _

set_option maxHeartbeats 4000000 in
/-- The launch leaves the residual stream. -/
theorem x1_arr : (dats m 0 c).arrAt 18 cfg0.N = x1P (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg11)) := by
  refine (dats m 0 c).arrAt_eq_of_covers 18 _ (by decide +kernel) fun t hf y => ?_
  blk_simp
  rw [after0_18]
  have he : ∀ (y0 : Fin 1) (y1 : Fin 512) (y2 : Fin 1024), ((View.whole main_v21_0).slice (win0_18.rect t)).emb (ix3 y0 y1 y2 : S1x512x1024.Idx)
      = (ix3 (bat t) (pos t y1) y2 : S4x8192x1024.Idx) := by
    intro y0 y1 y2
    blk_ext [idx_18 t]
  by_cases h0 : t.val % 64 = 0
  · rw [outsAt0_A m c t h0]
    unfold outA runA
    dsimp only
    frame_out
    idx_vars y
    rw [he]
    obtain rfl : y0 = 0 := Subsingleton.elim _ _
    rw [pay14_apply]
    exact x1_at m c t _ _ (wa_read m c t) (wb_read m c t) y1 y2
  · rw [outsAt0_B m c t h0]
    unfold outB runB
    dsimp only
    frame_out
    idx_vars y
    rw [he]
    obtain rfl : y0 = 0 := Subsingleton.elim _ _
    rw [pay14_apply]
    exact x1_at m c t _ _ (wa_read m c t) (wb_read m c t) y1 y2

set_option maxHeartbeats 4000000 in
/-- The launch leaves its norm. -/
theorem h2_arr : (dats m 0 c).arrAt 19 cfg0.N = h2P (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) := by
  refine (dats m 0 c).arrAt_eq_of_covers 19 _ (by decide +kernel) fun t hf y => ?_
  blk_simp
  rw [after0_19]
  have he : ∀ (y0 : Fin 1) (y1 : Fin 512) (y2 : Fin 1024), ((View.whole main_v21_1).slice (win0_19.rect t)).emb (ix3 y0 y1 y2 : S1x512x1024.Idx)
      = (ix3 (bat t) (pos t y1) y2 : S4x8192x1024.Idx) := by
    intro y0 y1 y2
    blk_ext [idx_19 t]
  by_cases h0 : t.val % 64 = 0
  · rw [outsAt0_A m c t h0]
    unfold outA runA
    dsimp only
    frame_out
    idx_vars y
    rw [he]
    obtain rfl : y0 = 0 := Subsingleton.elim _ _
    rw [pay16_apply]
    exact congrFun (Layer.normE_congr (fun k => x1_at m c t _ _ (wa_read m c t) (wb_read m c t) y1 k) (fun k => g_read m c t k) (fun k => sc_read m c t k) (fun k => sh_read m c t k)) y2
  · rw [outsAt0_B m c t h0]
    unfold outB runB
    dsimp only
    frame_out
    idx_vars y
    rw [he]
    obtain rfl : y0 = 0 := Subsingleton.elim _ _
    rw [pay16_apply]
    exact congrFun (Layer.normE_congr (fun k => x1_at m c t _ _ (wa_read m c t) (wb_read m c t) y1 k) (fun k => g_read m c t k) (fun k => sc_read m c t k) (fun k => sh_read m c t k)) y2

/-- The kernel's run: its two results, its arguments unchanged, and no semaphore counting. -/
theorem run : θ_run (defs (F := Ideal)) (onTc (τ := τ) (main (F := Ideal))) ⟨m, fun _ => 0, ρ⟩ fun r => ∀ c : Dev nD,
      r.2.mem ((c.tc : Thread nD τ).loc main_v21_0) = x1P (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg11))
      ∧ r.2.mem ((c.tc : Thread nD τ).loc main_v21_1) = h2P (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨((h.1 c).1 18).trans (x1_arr m c), ((h.1 c).1 19).trans (h2_arr m c), h.2 c⟩)
    (θ_run_and (run_main (F := Ideal) m ρ) (unchanged (F := Ideal) m ρ))

end Cert.Mix
-- ==== Proof.MixRef.lean ====
/-
  The output projection as the reference computes it, by elements: the same scalars as the kernel's.
-/
module

public import proofs.«01_k».proof.Proof.MixMath
public import proofs.«01_k».proof.Proof.Gen.Reference7Ideal.Run

@[expose] public section

set_option maxRecDepth 16384

noncomputable section

namespace Cert.Mix.Ref

open Cert.Reference7Ideal Cert.Reference7Ideal.Gen Cert.Reference7Ideal.Value
open Idealize.ShloMosaic Idealize.ShloMosaic.TcCoe

variable (m : (ℓ : Loc nD τ sig) → Buf (Elt Ideal) ℓ) (ρ : Dev nD → PrngReg)

set_option maxHeartbeats 2000000 in
/-- The reference's residual stream after the output projection. -/
theorem x1_eq (c : Dev nD) : res_main_v47 m c = x1P (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg11)) := by
  funext i
  idx_vars i
  unfold res_main_v47
  pointwise
  have hx : ∀ (x : Fin 512) (h : x.val / 64 * 64 + x.val % 64 < 512), (⟨x.val / 64 * 64 + x.val % 64, h⟩ : Fin 512) = x := fun x _ => Fin.ext (by show x.val / 64 * 64 + x.val % 64 = x.val; omega)
  simp only [hx]
  rw [show x1P (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg11)) (ix3 i0 i1 i2) = x1E (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg11)) i0 i1 i2 from rfl]
  rw [x1E, dotE_cat]
  refine congrArg₂ (· + ·) rfl (congrArg₂ (· * ·) rfl (congrArg₂ (· + ·) (Finset.sum_congr rfl fun x _ => ?_) rfl))
  simp only [attE, mixE, wE]

/-- The norm and modulation the reference applies to an array. -/
def normed (X1 : FVec Ideal S4x8192x1024 .f32) (SH SC : FVec Ideal S4x1x1024 .f32) (G : FVec Ideal S1024 .f32) : FVec Ideal S4x8192x1024 .f32 :=
  addf (mulf (mulf (mulf X1 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X1 X1) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 G))) (broadcastInDim S4x8192x1024 ![0, 1, 2] bcast_S4x1x1024_S4x8192x1024_0_1_2 (addf (broadcastInDim S4x1x1024 ![] bcast_S_S4x1x1024 (constant S_ .f32 0x3F800000#32)) SC))) (broadcastInDim S4x8192x1024 ![0, 1, 2] bcast_S4x1x1024_S4x8192x1024_0_1_2 SH)

theorem normed_apply (X1 : FVec Ideal S4x8192x1024 .f32) (SH SC : FVec Ideal S4x1x1024 .f32) (G : FVec Ideal S1024 .f32) (i : Fin 4) (r : Fin 8192) (f : Fin 1024) :
    normed X1 SH SC G (ix3 i r f)
      = Layer.normE (fun k => X1 (ix3 i r k)) (fun k => G (ix1 k)) (fun k => SC (ix3 i 0 k)) (fun k => SH (ix3 i 0 k)) f := by
  unfold normed
  pointwise
  rfl

/-- The reference's second result is the first, normed and modulated. -/
theorem res_normed (c : Dev nD) : res_main_v66 m c = normed (res_main_v47 m c) (m (c.tc.loc main_arg9)) (m (c.tc.loc main_arg10)) (m (c.tc.loc main_arg12)) := by
  unfold res_main_v66 normed res_main_v47
  rfl

/-- The reference's normed residual stream. -/
theorem h2_eq (c : Dev nD) : res_main_v66 m c = h2P (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) := by
  rw [res_normed, x1_eq]
  funext i
  idx_vars i
  rw [normed_apply]
  rfl

/-- The reference's run: its two results, and its arguments unchanged. -/
theorem run : θ_run (defs (F := Ideal)) (onTc (τ := τ) (main (F := Ideal))) ⟨m, fun _ => 0, ρ⟩ fun r => ∀ c : Dev nD,
      r.2.mem ((c.tc : Thread nD τ).loc main_v47) = x1P (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg11))
      ∧ r.2.mem ((c.tc : Thread nD τ).loc main_v66) = h2P (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (Value.run (F := Ideal) m ρ).mono fun r h c => ?_
  obtain ⟨h0, h1, ha⟩ := h c
  exact ⟨h0.trans (x1_eq m c), h1.trans (h2_eq m c), ha⟩

end Cert.Mix.Ref
-- ==== Proof.MixBits.lean ====
/-
  The output projection's kernel at its own floats: its run is the one proved for any floats (Proof/MixFrame.lean), the two
  prints having the same body.
-/
module

public import proofs.«01_k».proof.Defs
public import proofs.«01_k».proof.Proof.Gen.Kernel7
public import proofs.«01_k».proof.Proof.MixFrame

@[expose] public section

noncomputable section

open Idealize.ShloMosaic Idealize.ShloMosaic.TcCoe Idealize.SL.Sem

namespace Cert.Proof

set_option maxHeartbeats 8000000 in
/-- The output projection's kernel prints the same body at both readings of its floats. -/
theorem bodies7_eq {F : FTy → Type} [FloatOps F] : Cert.Kernel7Ideal.defs₀ (F := F) = Cert.Kernel7.defs₀ (F := F) := by
  unfold Cert.Kernel7.defs₀ Cert.Kernel7Ideal.defs₀
  refine congrArg Defs.onTc (funext fun l => ?_)
  match l with
  | 0 => rfl

set_option maxHeartbeats 8000000 in
/-- The two prints call the same bodies in the same pipeline. -/
theorem defs7_eq {F : FTy → Type} [FloatOps F] : Cert.Kernel7Ideal.defs (F := F) = Cert.Kernel7.defs (F := F) :=
  congrArg (Pipeline.defs (Cert.Kernel7.pcfgs (F := F))) bodies7_eq

set_option maxHeartbeats 8000000 in
/-- The output projection's kernel at its own floats, from the run proved for any floats: its arguments end unchanged and no
    semaphore counts. -/
theorem kernel7_run (m : (ℓ : Loc Cert.Kernel7Ideal.nD Cert.Kernel7Ideal.τ Cert.Kernel7Ideal.sig) → Buf (Elt Bits) ℓ)
    (ρ : Dev Cert.Kernel7.nD → PrngReg) :
    θ_run (Cert.Kernel7.defs (F := Bits)) (onTc (τ := Cert.Kernel7.τ) (Cert.Kernel7.main (F := Bits))) ⟨m, fun _ => 0, ρ⟩ (fun r =>
      (∀ c : Dev Cert.Kernel7.nD,
        r.2.mem ((c.tc : Thread Cert.Kernel7.nD Cert.Kernel7.τ).loc Cert.Kernel7.main_arg0) = m ((c.tc : Thread Cert.Kernel7.nD Cert.Kernel7.τ).loc Cert.Kernel7.main_arg0)
        ∧ r.2.mem ((c.tc : Thread Cert.Kernel7.nD Cert.Kernel7.τ).loc Cert.Kernel7.main_arg1) = m ((c.tc : Thread Cert.Kernel7.nD Cert.Kernel7.τ).loc Cert.Kernel7.main_arg1)
        ∧ r.2.mem ((c.tc : Thread Cert.Kernel7.nD Cert.Kernel7.τ).loc Cert.Kernel7.main_arg2) = m ((c.tc : Thread Cert.Kernel7.nD Cert.Kernel7.τ).loc Cert.Kernel7.main_arg2)
        ∧ r.2.mem ((c.tc : Thread Cert.Kernel7.nD Cert.Kernel7.τ).loc Cert.Kernel7.main_arg3) = m ((c.tc : Thread Cert.Kernel7.nD Cert.Kernel7.τ).loc Cert.Kernel7.main_arg3)
        ∧ r.2.mem ((c.tc : Thread Cert.Kernel7.nD Cert.Kernel7.τ).loc Cert.Kernel7.main_arg4) = m ((c.tc : Thread Cert.Kernel7.nD Cert.Kernel7.τ).loc Cert.Kernel7.main_arg4)
        ∧ r.2.mem ((c.tc : Thread Cert.Kernel7.nD Cert.Kernel7.τ).loc Cert.Kernel7.main_arg5) = m ((c.tc : Thread Cert.Kernel7.nD Cert.Kernel7.τ).loc Cert.Kernel7.main_arg5)
        ∧ r.2.mem ((c.tc : Thread Cert.Kernel7.nD Cert.Kernel7.τ).loc Cert.Kernel7.main_arg6) = m ((c.tc : Thread Cert.Kernel7.nD Cert.Kernel7.τ).loc Cert.Kernel7.main_arg6)
        ∧ r.2.mem ((c.tc : Thread Cert.Kernel7.nD Cert.Kernel7.τ).loc Cert.Kernel7.main_arg7) = m ((c.tc : Thread Cert.Kernel7.nD Cert.Kernel7.τ).loc Cert.Kernel7.main_arg7)
        ∧ r.2.mem ((c.tc : Thread Cert.Kernel7.nD Cert.Kernel7.τ).loc Cert.Kernel7.main_arg8) = m ((c.tc : Thread Cert.Kernel7.nD Cert.Kernel7.τ).loc Cert.Kernel7.main_arg8)
        ∧ r.2.mem ((c.tc : Thread Cert.Kernel7.nD Cert.Kernel7.τ).loc Cert.Kernel7.main_arg9) = m ((c.tc : Thread Cert.Kernel7.nD Cert.Kernel7.τ).loc Cert.Kernel7.main_arg9)
        ∧ r.2.mem ((c.tc : Thread Cert.Kernel7.nD Cert.Kernel7.τ).loc Cert.Kernel7.main_arg10) = m ((c.tc : Thread Cert.Kernel7.nD Cert.Kernel7.τ).loc Cert.Kernel7.main_arg10)
        ∧ r.2.mem ((c.tc : Thread Cert.Kernel7.nD Cert.Kernel7.τ).loc Cert.Kernel7.main_arg11) = m ((c.tc : Thread Cert.Kernel7.nD Cert.Kernel7.τ).loc Cert.Kernel7.main_arg11)
        ∧ r.2.mem ((c.tc : Thread Cert.Kernel7.nD Cert.Kernel7.τ).loc Cert.Kernel7.main_arg12) = m ((c.tc : Thread Cert.Kernel7.nD Cert.Kernel7.τ).loc Cert.Kernel7.main_arg12)
        ∧ r.2.mem ((c.tc : Thread Cert.Kernel7.nD Cert.Kernel7.τ).loc Cert.Kernel7.main_arg13) = m ((c.tc : Thread Cert.Kernel7.nD Cert.Kernel7.τ).loc Cert.Kernel7.main_arg13)
        ∧ r.2.mem ((c.tc : Thread Cert.Kernel7.nD Cert.Kernel7.τ).loc Cert.Kernel7.main_arg14) = m ((c.tc : Thread Cert.Kernel7.nD Cert.Kernel7.τ).loc Cert.Kernel7.main_arg14))
      ∧ r.2.sem = fun _ => 0) := by
  rw [← defs7_eq]
  exact Cert.Kernel7Ideal.Gen.frame (F := Bits) m ρ

end Cert.Proof
-- ==== Proof.lean ====
/-
  The claims, put together: the dispatch kernel's run (Proof/Run.lean) at both readings of its floats, the reference's
  value (Proof/Ref.lean) likewise, and the precondition (Proof/Pre.lean).
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.ReferenceIdeal.Run
public import proofs.«01_k».proof.Proof.Gen.Pre_slots_distinct
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4.Skeleton
public import proofs.«01_k».proof.Proof.Gen.Kernel4.Launch
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Pre_experts_named
public import proofs.«01_k».proof.Proof.Gen.Kernel5
public import proofs.«01_k».proof.Proof.Gen.Kernel6
public import proofs.«01_k».proof.Proof.Gen.Kernel5Ideal
public import proofs.«01_k».proof.Proof.Gen.Kernel6Ideal
public import proofs.«01_k».proof.Proof.Gen.Kernel5.Skeleton
public import proofs.«01_k».proof.Proof.Gen.Kernel6.Skeleton
public import proofs.«01_k».proof.Proof.Gen.Kernel5.Launch
public import proofs.«01_k».proof.Proof.Gen.Kernel6.Launch
public import proofs.«01_k».proof.Proof.Gen.Kernel5Ideal.Skeleton
public import proofs.«01_k».proof.Proof.Gen.Kernel6Ideal.Skeleton
public import proofs.«01_k».proof.Proof.Gen.Kernel5Ideal.Launch
public import proofs.«01_k».proof.Proof.Gen.Kernel6Ideal.Launch
public import proofs.«01_k».proof.Proof.Gen.Reference5Ideal
public import proofs.«01_k».proof.Proof.Gen.Reference6Ideal
public import proofs.«01_k».proof.Proof.Gen.Reference5Ideal.Run
public import proofs.«01_k».proof.Proof.Gen.Reference6Ideal.Run
public import proofs.«01_k».proof.Proof.Gen.Pre_rows_named
public import proofs.«01_k».proof.Proof.Gen.Pre_sample_rows_named
public import proofs.«01_k».proof.Proof.Gen.Kernel7
public import proofs.«01_k».proof.Proof.Gen.Kernel7Ideal
public import proofs.«01_k».proof.Proof.Gen.Kernel7.Skeleton
public import proofs.«01_k».proof.Proof.Gen.Kernel7Ideal.Skeleton
public import proofs.«01_k».proof.Proof.Gen.Kernel7.Launch
public import proofs.«01_k».proof.Proof.Gen.Kernel7Ideal.Launch
public import proofs.«01_k».proof.Proof.Gen.Reference7Ideal
public import proofs.«01_k».proof.Proof.Gen.Reference7Ideal.Run
public import proofs.«01_k».proof.Proof.Run
public import proofs.«01_k».proof.Proof.Pre
public import proofs.«01_k».proof.Proof.Ref
public import proofs.«01_k».proof.Proof.PromptRun
public import proofs.«01_k».proof.Proof.Prompt
public import proofs.«01_k».proof.Proof.PromptRef
public import proofs.«01_k».proof.Proof.StepRun
public import proofs.«01_k».proof.Proof.Step
public import proofs.«01_k».proof.Proof.StepRef
public import proofs.«01_k».proof.Proof.ExpertsValue
public import proofs.«01_k».proof.Proof.ExpertsRef
public import proofs.«01_k».proof.Proof.ExpertsPre
public import proofs.«01_k».proof.Proof.CombineValue
public import proofs.«01_k».proof.Proof.CombineRef
public import proofs.«01_k».proof.Proof.CombinePre
public import proofs.«01_k».proof.Proof.SampleValue
public import proofs.«01_k».proof.Proof.SampleRef
public import proofs.«01_k».proof.Proof.SamplePre
public import proofs.«01_k».proof.Proof.Mix
public import proofs.«01_k».proof.Proof.MixRef
public import proofs.«01_k».proof.Proof.MixBits

@[expose] public section

noncomputable section

namespace Cert.Proof

open Idealize.ShloMosaic Idealize.ShloMosaic.TcCoe Idealize.SL.Sem Cert.Dispatch

/-- The two prints of the kernel have the same bodies. -/
theorem bodies_eq {F : FTy → Type} [FloatOps F] : Cert.KernelIdeal.defs₀ (F := F) = Cert.Kernel.defs₀ (F := F) := by
  unfold Cert.Kernel.defs₀ Cert.KernelIdeal.defs₀
  refine congrArg Defs.onTc (funext fun l => ?_)
  match l with
  | 0 => rfl
theorem defs_eq {F : FTy → Type} [FloatOps F] : Cert.KernelIdeal.defs (F := F) = Cert.Kernel.defs (F := F) :=
  congrArg (Pipeline.defs (Cert.Kernel.pcfgs (F := F))) bodies_eq

/-- The dispatch kernel as printed is, at its own floats, the kernel whose run was proved for any floats. -/
theorem kernel_run (m : (ℓ : Loc Cert.KernelIdeal.nD Cert.KernelIdeal.τ Cert.KernelIdeal.sig) → Buf (Elt Bits) ℓ)
    (ρ : Dev Cert.Kernel.nD → PrngReg) (hR : ∀ c, Routes (firsts m c) (routing m c)) :
    θ_run (Cert.Kernel.defs (F := Bits)) (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_v0) = filled (firsts m c) (routing m c) (acts m c) zeros 128)
      ∧ r.2.sem = fun _ => 0) := by
  rw [← defs_eq]
  exact run_main (F := Bits) m ρ hR

/-- The reference's run at its own floats, from its run for any floats. -/
theorem reference_run (m : (ℓ : Loc Cert.ReferenceIdeal.nD Cert.ReferenceIdeal.τ Cert.ReferenceIdeal.sig) → Buf (Elt Bits) ℓ)
    (ρ : Dev Cert.Reference.nD → PrngReg) :
    θ_run (Cert.Reference.defs (F := Bits)) (onTc (τ := Cert.Reference.τ) (Cert.Reference.main (F := Bits))) ⟨m, fun _ => 0, ρ⟩ (fun r =>
      ∀ c : Dev Cert.Reference.nD,
        r.2.mem ((c.tc : Thread Cert.Reference.nD Cert.Reference.τ).loc Cert.Reference.main_v30) = Cert.ReferenceIdeal.Value.res_main_v30 m c
        ∧ r.2.mem ((c.tc : Thread Cert.Reference.nD Cert.Reference.τ).loc Cert.Reference.main_arg0) = m ((c.tc : Thread Cert.Reference.nD Cert.Reference.τ).loc Cert.Reference.main_arg0)
        ∧ r.2.mem ((c.tc : Thread Cert.Reference.nD Cert.Reference.τ).loc Cert.Reference.main_arg1) = m ((c.tc : Thread Cert.Reference.nD Cert.Reference.τ).loc Cert.Reference.main_arg1)
        ∧ r.2.mem ((c.tc : Thread Cert.Reference.nD Cert.Reference.τ).loc Cert.Reference.main_arg2) = m ((c.tc : Thread Cert.Reference.nD Cert.Reference.τ).loc Cert.Reference.main_arg2)) :=
  Cert.ReferenceIdeal.Value.run (F := Bits) m ρ

theorem frame_kernel : Cert.quiescent_Kernel := fun m ρ hp =>
  (θ_run (Cert.Kernel.defs (F := Bits)) _ _).mono (fun _ h => ⟨fun c => ⟨(h.1 c).1, (h.1 c).2.1, (h.1 c).2.2.1⟩, h.2⟩)
    (kernel_run m ρ fun c => routes_of _ _ _ (hp c))

theorem frame_kernelIdeal : Cert.quiescent_KernelIdeal := fun m ρ hp =>
  (θ_run (Cert.KernelIdeal.defs (F := Ideal)) _ _).mono (fun _ h => ⟨fun c => ⟨(h.1 c).1, (h.1 c).2.1, (h.1 c).2.2.1⟩, h.2⟩)
    (run_main (F := Ideal) m ρ fun c => routes_of _ _ _ (hp c))

theorem frame_referenceIdeal : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run (Cert.Reference.defs (F := Bits)) _ _).mono (fun r h => ⟨fun c => (h c).2, sem_eq_zero_of_no_sems (by decide) r.2⟩)
    (reference_run m ρ)

/-- Over the extended reals the kernel's result is the reference's. -/
theorem value_ideal : Cert.algebraic_KernelIdeal_ReferenceIdeal := fun m ρ m' ρ' hp hm => by
  have hR : ∀ c, Routes (firsts m c) (routing m c) := fun c => routes_of _ _ _ (hp c)
  refine ⟨fun c => filled (firsts m c) (routing m c) (acts m c) zeros 128, ?_, ?_⟩
  · exact (θ_run (Cert.KernelIdeal.defs (F := Ideal)) _ _).mono
      (fun _ h c => ⟨(h.1 c).2.2.2, (h.1 c).1, (h.1 c).2.1, (h.1 c).2.2.1⟩) (run_main (F := Ideal) m ρ hR)
  · exact (θ_run (Cert.ReferenceIdeal.defs (F := Ideal)) _ _).mono
      (fun _ h c => ⟨(h c).1.trans (ref_value m' c _ _ _ (hm c).1 (hm c).2.1 (hm c).2.2 (hR c)), (h c).2⟩)
      (Cert.ReferenceIdeal.Value.run (F := Ideal) m' ρ')

/-- And bit for bit at the programs' own floats. -/
theorem value_bits : Cert.bitexact_Kernel_Reference := fun m ρ m' ρ' hp hm => by
  have hR : ∀ c, Routes (firsts m c) (routing m c) := fun c => routes_of _ _ _ (hp c)
  refine ⟨fun c => filled (firsts (F := Bits) m c) (routing m c) (acts m c) zeros 128, ?_, ?_⟩
  · exact (θ_run (Cert.Kernel.defs (F := Bits)) _ _).mono
      (fun _ h c => ⟨(h.1 c).2.2.2, (h.1 c).1, (h.1 c).2.1, (h.1 c).2.2.1⟩) (kernel_run m ρ hR)
  · exact (θ_run (Cert.Reference.defs (F := Bits)) _ _).mono
      (fun _ h c => ⟨(h c).1.trans (ref_value (F := Bits) m' c _ _ _ (hm c).1 (hm c).2.1 (hm c).2.2 (hR c)), (h c).2⟩)
      (reference_run m' ρ')

/-! ## The first half of the layer -/

theorem frame_reference2Ideal : Cert.quiescent_Reference2Ideal := fun m ρ _ =>
  (θ_run (Cert.Reference2Ideal.defs (F := Ideal)) _ _).mono
    (fun r h => ⟨fun c => (h c).2.2.2.2.2.2.2, sem_eq_zero_of_no_sems (by decide) r.2⟩) (Cert.Layer.Ref.run m ρ)

open Cert.Kernel2Ideal.Gen in
/-- On the extended reals the kernel's and the reference's projections, kept rows and convolution state are the same arrays. -/
theorem value2_ideal : Cert.algebraic_Kernel2Ideal_Reference2Ideal := fun m ρ m' ρ' _ hm => by
  refine ⟨fun c => Cert.Layer.qP (m (c.tc.loc Cert.Kernel2Ideal.main_arg0)) (m (c.tc.loc Cert.Kernel2Ideal.main_arg1)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)),
    fun c => Cert.Layer.kP (m (c.tc.loc Cert.Kernel2Ideal.main_arg0)) (m (c.tc.loc Cert.Kernel2Ideal.main_arg1)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)),
    fun c => Cert.Layer.vP (m (c.tc.loc Cert.Kernel2Ideal.main_arg0)) (m (c.tc.loc Cert.Kernel2Ideal.main_arg1)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)),
    fun c => Cert.Layer.gluP (m (c.tc.loc Cert.Kernel2Ideal.main_arg0)) (m (c.tc.loc Cert.Kernel2Ideal.main_arg1)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)),
    fun c => Cert.Layer.kKeepP (m (c.tc.loc Cert.Kernel2Ideal.main_arg0)) (m (c.tc.loc Cert.Kernel2Ideal.main_arg1)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)),
    fun c => Cert.Layer.vKeepP (m (c.tc.loc Cert.Kernel2Ideal.main_arg0)) (m (c.tc.loc Cert.Kernel2Ideal.main_arg1)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)),
    fun c => Cert.Layer.convP (m (c.tc.loc Cert.Kernel2Ideal.main_arg0)) (m (c.tc.loc Cert.Kernel2Ideal.main_arg1)) (m (c.tc.loc Cert.Kernel2Ideal.main_arg3)) (m (c.tc.loc Cert.Kernel2Ideal.main_arg4)) (m (c.tc.loc Cert.Kernel2Ideal.main_arg5)) (m (c.tc.loc Cert.Kernel2Ideal.main_arg6)), ?_, ?_⟩
  · exact (θ_run (Cert.Kernel2Ideal.defs (F := Ideal)) _ _).mono (fun _ h c =>
      ⟨(h.1 c _ (mem_uc Cert.Kernel2Ideal.main_v11 (by decide))).trans (Cert.Layer.q_final m ρ c),
       (h.1 c _ (mem_uc Cert.Kernel2Ideal.main_v12 (by decide))).trans (Cert.Layer.k_final m ρ c),
       (h.1 c _ (mem_uc Cert.Kernel2Ideal.main_v13 (by decide))).trans (Cert.Layer.v_final m ρ c),
       (h.1 c _ (mem_uc Cert.Kernel2Ideal.main_v10_3 (by decide))).trans (Cert.Layer.glu_final m ρ c),
       (h.1 c _ (mem_uc Cert.Kernel2Ideal.main_v10_4 (by decide))).trans (Cert.Layer.kKeep_final m ρ c),
       (h.1 c _ (mem_uc Cert.Kernel2Ideal.main_v10_5 (by decide))).trans (Cert.Layer.vKeep_final m ρ c),
       (h.1 c _ (mem_uc Cert.Kernel2Ideal.main_v14 (by decide))).trans (Cert.Layer.conv_final m ρ c),
       (h.1 c _ (mem_uc Cert.Kernel2Ideal.main_arg0 (by decide))).trans (W7_main_arg0 m ρ c),
       (h.1 c _ (mem_uc Cert.Kernel2Ideal.main_arg1 (by decide))).trans (W7_main_arg1 m ρ c),
       (h.1 c _ (mem_uc Cert.Kernel2Ideal.main_arg2 (by decide))).trans (W7_main_arg2 m ρ c),
       (h.1 c _ (mem_uc Cert.Kernel2Ideal.main_arg3 (by decide))).trans (W7_main_arg3 m ρ c),
       (h.1 c _ (mem_uc Cert.Kernel2Ideal.main_arg4 (by decide))).trans (W7_main_arg4 m ρ c),
       (h.1 c _ (mem_uc Cert.Kernel2Ideal.main_arg5 (by decide))).trans (W7_main_arg5 m ρ c),
       (h.1 c _ (mem_uc Cert.Kernel2Ideal.main_arg6 (by decide))).trans (W7_main_arg6 m ρ c)⟩)
      (Cert.Layer.run_main (F := Ideal) m ρ)
  · refine (θ_run (Cert.Reference2Ideal.defs (F := Ideal)) _ _).mono (fun _ h c => ?_) (Cert.Layer.Ref.run m' ρ')
    obtain ⟨e0, e1, _, e3, e4, e5, e6⟩ := hm c
    obtain ⟨h0, h1, h2, h3, h4, h5, h6, ha⟩ := h c
    rw [e0, e1, e3, e4, e5, e6] at h0 h1 h2 h3 h4 h5 h6
    exact ⟨h0, h1, h2, h3, h4, h5, h6, ha⟩

/-- The decoding step's reference ends with its arguments unchanged and no semaphore counting. -/
theorem frame_reference3Ideal : Cert.quiescent_Reference3Ideal := fun m ρ _ =>
  (θ_run (Cert.Reference3Ideal.defs (F := Ideal)) _ _).mono
    (fun r h => ⟨fun c => (h c).2.2.2, sem_eq_zero_of_no_sems (by decide) r.2⟩) (Cert.Sample.Ref.run m ρ)

open Cert.Kernel3Ideal.Gen in
/-- On the extended reals the kernel's and the reference's windows of keys and values and convolution state are the same arrays after the step. -/
theorem value3_ideal : Cert.algebraic_Kernel3Ideal_Reference3Ideal := fun m ρ m' ρ' _ hm => by
  refine ⟨fun c => Cert.Layer.newRowS (m (c.tc.loc Cert.Kernel3Ideal.main_arg0)) (m (c.tc.loc Cert.Kernel3Ideal.main_arg5)) (m (c.tc.loc Cert.Kernel3Ideal.main_arg7)) (m (c.tc.loc Cert.Kernel3Ideal.main_arg8)) (m (c.tc.loc Cert.Kernel3Ideal.main_arg9)) (m (c.tc.loc Cert.Kernel3Ideal.main_arg10)) (m (c.tc.loc Cert.Kernel3Ideal.main_arg1)) 512 (by omega),
    fun c => Cert.Layer.newRowS (m (c.tc.loc Cert.Kernel3Ideal.main_arg0)) (m (c.tc.loc Cert.Kernel3Ideal.main_arg5)) (m (c.tc.loc Cert.Kernel3Ideal.main_arg7)) (m (c.tc.loc Cert.Kernel3Ideal.main_arg8)) (m (c.tc.loc Cert.Kernel3Ideal.main_arg9)) (m (c.tc.loc Cert.Kernel3Ideal.main_arg10)) (m (c.tc.loc Cert.Kernel3Ideal.main_arg2)) 1024 (by omega),
    fun c => Cert.Layer.newConvS (m (c.tc.loc Cert.Kernel3Ideal.main_arg0)) (m (c.tc.loc Cert.Kernel3Ideal.main_arg5)) (m (c.tc.loc Cert.Kernel3Ideal.main_arg7)) (m (c.tc.loc Cert.Kernel3Ideal.main_arg8)) (m (c.tc.loc Cert.Kernel3Ideal.main_arg9)) (m (c.tc.loc Cert.Kernel3Ideal.main_arg10)) (m (c.tc.loc Cert.Kernel3Ideal.main_arg3)), ?_, ?_⟩
  · exact (θ_run (Cert.Kernel3Ideal.defs (F := Ideal)) _ _).mono (fun _ h c =>
      ⟨(h.1 c _ (mem_uc Cert.Kernel3Ideal.main_v46 (by decide))).trans (Cert.Sample.nk_final m ρ c),
       (h.1 c _ (mem_uc Cert.Kernel3Ideal.main_v47 (by decide))).trans (Cert.Sample.nv_final m ρ c),
       (h.1 c _ (mem_uc Cert.Kernel3Ideal.main_v45 (by decide))).trans (Cert.Sample.ns_final m ρ c),
       (h.1 c _ (mem_uc Cert.Kernel3Ideal.main_arg0 (by decide))).trans (W13_main_arg0 m ρ c),
       (h.1 c _ (mem_uc Cert.Kernel3Ideal.main_arg1 (by decide))).trans (W13_main_arg1 m ρ c),
       (h.1 c _ (mem_uc Cert.Kernel3Ideal.main_arg2 (by decide))).trans (W13_main_arg2 m ρ c),
       (h.1 c _ (mem_uc Cert.Kernel3Ideal.main_arg3 (by decide))).trans (W13_main_arg3 m ρ c),
       (h.1 c _ (mem_uc Cert.Kernel3Ideal.main_arg4 (by decide))).trans (W13_main_arg4 m ρ c),
       (h.1 c _ (mem_uc Cert.Kernel3Ideal.main_arg5 (by decide))).trans (W13_main_arg5 m ρ c),
       (h.1 c _ (mem_uc Cert.Kernel3Ideal.main_arg6 (by decide))).trans (W13_main_arg6 m ρ c),
       (h.1 c _ (mem_uc Cert.Kernel3Ideal.main_arg7 (by decide))).trans (W13_main_arg7 m ρ c),
       (h.1 c _ (mem_uc Cert.Kernel3Ideal.main_arg8 (by decide))).trans (W13_main_arg8 m ρ c),
       (h.1 c _ (mem_uc Cert.Kernel3Ideal.main_arg9 (by decide))).trans (W13_main_arg9 m ρ c),
       (h.1 c _ (mem_uc Cert.Kernel3Ideal.main_arg10 (by decide))).trans (W13_main_arg10 m ρ c),
       (h.1 c _ (mem_uc Cert.Kernel3Ideal.main_arg11 (by decide))).trans (W13_main_arg11 m ρ c),
       (h.1 c _ (mem_uc Cert.Kernel3Ideal.main_arg12 (by decide))).trans (W13_main_arg12 m ρ c),
       (h.1 c _ (mem_uc Cert.Kernel3Ideal.main_arg13 (by decide))).trans (W13_main_arg13 m ρ c),
       (h.1 c _ (mem_uc Cert.Kernel3Ideal.main_arg14 (by decide))).trans (W13_main_arg14 m ρ c)⟩)
      (Cert.Sample.run_main (F := Ideal) m ρ)
  · refine (θ_run (Cert.Reference3Ideal.defs (F := Ideal)) _ _).mono (fun _ h c => ?_) (Cert.Sample.Ref.run m' ρ')
    obtain ⟨e0, e1, e2, e3, _, e5, _, e7, e8, e9, e10, _⟩ := hm c
    obtain ⟨h0, h1, h2, ha⟩ := h c
    rw [e0, e5, e7, e8, e9, e10] at h0 h1 h2
    rw [e1] at h0
    rw [e2] at h1
    rw [e3] at h2
    exact ⟨h0, h1, h2, ha⟩

/-- The two prints of the experts' kernel have the same bodies. -/
theorem bodies4_eq {F : FTy → Type} [FloatOps F] : Cert.Kernel4Ideal.defs₀ (F := F) = Cert.Kernel4.defs₀ (F := F) := by
  unfold Cert.Kernel4.defs₀ Cert.Kernel4Ideal.defs₀
  refine congrArg Defs.onTc (funext fun l => ?_)
  match l with
  | 0 => rfl
theorem defs4_eq {F : FTy → Type} [FloatOps F] : Cert.Kernel4Ideal.defs (F := F) = Cert.Kernel4.defs (F := F) :=
  congrArg (Pipeline.defs (Cert.Kernel4.pcfgs (F := F))) bodies4_eq

/-- The experts' kernel at its own floats, from the run proved for any floats. -/
theorem kernel4_run (m : (ℓ : Loc Cert.Kernel4Ideal.nD Cert.Kernel4Ideal.τ Cert.Kernel4Ideal.sig) → Buf (Elt Bits) ℓ)
    (ρ : Dev Cert.Kernel4.nD → PrngReg) (hN : Cert.Experts.Named (Cert.Experts.experts m 0)) :
    θ_run (Cert.Kernel4.defs (F := Bits)) (onTc (τ := Cert.Kernel4.τ) (Cert.Kernel4.main (F := Bits))) ⟨m, fun _ => 0, ρ⟩ (fun r =>
      (∀ c : Dev Cert.Kernel4.nD,
        r.2.mem ((c.tc : Thread Cert.Kernel4.nD Cert.Kernel4.τ).loc Cert.Kernel4.main_arg0) = m ((c.tc : Thread Cert.Kernel4.nD Cert.Kernel4.τ).loc Cert.Kernel4.main_arg0)
        ∧ r.2.mem ((c.tc : Thread Cert.Kernel4.nD Cert.Kernel4.τ).loc Cert.Kernel4.main_arg1) = m ((c.tc : Thread Cert.Kernel4.nD Cert.Kernel4.τ).loc Cert.Kernel4.main_arg1)
        ∧ r.2.mem ((c.tc : Thread Cert.Kernel4.nD Cert.Kernel4.τ).loc Cert.Kernel4.main_arg2) = m ((c.tc : Thread Cert.Kernel4.nD Cert.Kernel4.τ).loc Cert.Kernel4.main_arg2)
        ∧ r.2.mem ((c.tc : Thread Cert.Kernel4.nD Cert.Kernel4.τ).loc Cert.Kernel4.main_arg3) = m ((c.tc : Thread Cert.Kernel4.nD Cert.Kernel4.τ).loc Cert.Kernel4.main_arg3)
        ∧ r.2.mem ((c.tc : Thread Cert.Kernel4.nD Cert.Kernel4.τ).loc Cert.Kernel4.main_arg4) = m ((c.tc : Thread Cert.Kernel4.nD Cert.Kernel4.τ).loc Cert.Kernel4.main_arg4)
        ∧ r.2.mem ((c.tc : Thread Cert.Kernel4.nD Cert.Kernel4.τ).loc Cert.Kernel4.main_arg5) = m ((c.tc : Thread Cert.Kernel4.nD Cert.Kernel4.τ).loc Cert.Kernel4.main_arg5)
        ∧ r.2.mem ((c.tc : Thread Cert.Kernel4.nD Cert.Kernel4.τ).loc Cert.Kernel4.main_v0) = Cert.Experts.final m hN c)
      ∧ r.2.sem = fun _ => 0) := by
  rw [← defs4_eq]
  exact Cert.Experts.run_main (F := Bits) m hN ρ

theorem frame_kernel4 : Cert.quiescent_Kernel4 := fun m ρ hp =>
  (θ_run (Cert.Kernel4.defs (F := Bits)) _ _).mono
    (fun _ h => ⟨fun c => ⟨(h.1 c).1, (h.1 c).2.1, (h.1 c).2.2.1, (h.1 c).2.2.2.1, (h.1 c).2.2.2.2.1, (h.1 c).2.2.2.2.2.1⟩, h.2⟩)
    (kernel4_run m ρ (Cert.Experts.named_of (F := Bits) _ _ _ _ _ _ (hp 0)))

theorem frame_kernel4Ideal : Cert.quiescent_Kernel4Ideal := fun m ρ hp =>
  (θ_run (Cert.Kernel4Ideal.defs (F := Ideal)) _ _).mono
    (fun _ h => ⟨fun c => ⟨(h.1 c).1, (h.1 c).2.1, (h.1 c).2.2.1, (h.1 c).2.2.2.1, (h.1 c).2.2.2.2.1, (h.1 c).2.2.2.2.2.1⟩, h.2⟩)
    (Cert.Experts.run_main (F := Ideal) m (Cert.Experts.named_of (F := Ideal) _ _ _ _ _ _ (hp 0)) ρ)

theorem frame_reference4Ideal : Cert.quiescent_Reference4Ideal := fun m ρ _ =>
  (θ_run (Cert.Reference4Ideal.defs (F := Ideal)) _ _).mono
    (fun r h => ⟨fun c => (h c).2, sem_eq_zero_of_no_sems (by decide) r.2⟩) (Cert.Reference4Ideal.Value.run (F := Ideal) m ρ)

/-- Two arrays of the experts' rows are equal when they agree at every block, row of the block and column. -/
theorem rows_ext (A B : Cert.Kernel4Ideal.S73728x1024.Idx → EReal)
    (h : ∀ (b : Fin 288) (s : Fin 256) (j : Fin 1024), A (ix2 (Cert.Experts.rowOf b s) j) = B (ix2 (Cert.Experts.rowOf b s) j)) : A = B := by
  funext i
  have hb : (i 0).val < 73728 := (i 0).isLt
  have hi : i = ix2 (Cert.Experts.rowOf ⟨(i 0).val / 256, by omega⟩ ⟨(i 0).val % 256, by omega⟩) (i 1) := by
    funext a
    match a with
    | ⟨0, _⟩ => exact Fin.ext (by show (i 0).val = (i 0).val / 256 * 256 + (i 0).val % 256; omega)
    | ⟨1, _⟩ => rfl
  rw [hi]
  exact h _ _ _

/-- The experts' rows depend on the arrays alone. -/
theorem experts_congr {X X' : Cert.Kernel4Ideal.S73728x1024.Idx → EReal} {be be' : Cert.Kernel4Ideal.S288.Idx → BitVec 32}
    {W1 W1' W3 W3' : Cert.Kernel4Ideal.S32x1024x512.Idx → EReal} {W2 W2' : Cert.Kernel4Ideal.S32x512x1024.Idx → EReal}
    (e0 : X = X') (e1 : be = be') (e2 : W1 = W1') (e3 : W3 = W3') (e4 : W2 = W2')
    (h : ∀ k, (be k).toNat < 32) (h' : ∀ k, (be' k).toNat < 32) (b : Fin 288) (s : Fin 256) (j : Fin 1024) :
    Cert.Experts.expertsE X be W1 W3 W2 h b s j = Cert.Experts.expertsE X' be' W1' W3' W2' h' b s j := by
  subst e0 e1 e2 e3 e4; rfl

/-- Over the extended reals the experts' kernel and its reference end with the same rows. -/
theorem value4_ideal : Cert.algebraic_Kernel4Ideal_Reference4Ideal := fun m ρ m' ρ' hp hm => by
  have hN : Cert.Experts.Named (Cert.Experts.experts m 0) := Cert.Experts.named_of (F := Ideal) _ _ _ _ _ _ (hp 0)
  have hS : Cert.Experts.Spare (Cert.Experts.rows m 0) (Cert.Experts.inUse m 0) := Cert.Experts.spare_of _ _ _ _ _ _ (hp 0)
  refine ⟨fun c => Cert.Experts.final m hN c, ?_, ?_⟩
  · exact (θ_run (Cert.Kernel4Ideal.defs (F := Ideal)) _ _).mono
      (fun _ h c => ⟨(h.1 c).2.2.2.2.2.2, (h.1 c).1, (h.1 c).2.1, (h.1 c).2.2.1, (h.1 c).2.2.2.1, (h.1 c).2.2.2.2.1, (h.1 c).2.2.2.2.2.1⟩)
      (Cert.Experts.run_main (F := Ideal) m hN ρ)
  · refine (θ_run (Cert.Reference4Ideal.defs (F := Ideal)) _ _).mono (fun _ h c => ?_)
      (Cert.Experts.Ref.run m' ρ' (fun c => by
        have hc : c = 0 := Cert.Experts.one_core c
        rw [hc, (hm 0).2.1]; exact hN))
    obtain ⟨hv, ha⟩ := h c
    refine ⟨rows_ext _ _ fun b s j => ?_, ha⟩
    rw [hv b s j]
    have hc : c = 0 := Cert.Experts.one_core c
    subst hc
    obtain ⟨e0, e1, e2, e3, e4, e5⟩ := hm 0
    exact (experts_congr e0 e1 e3 e4 e5 _ hN b s j).trans (Cert.Experts.final_at m hN hN hS b s j).symm

/-! ## The combination -/

/-- The two prints of the combine kernel have the same bodies. -/
theorem bodies5_eq {F : FTy → Type} [FloatOps F] : Cert.Kernel5Ideal.defs₀ (F := F) = Cert.Kernel5.defs₀ (F := F) := by
  unfold Cert.Kernel5.defs₀ Cert.Kernel5Ideal.defs₀
  refine congrArg Defs.onTc (funext fun l => ?_)
  match l with
  | 0 => rfl
theorem defs5_eq {F : FTy → Type} [FloatOps F] : Cert.Kernel5Ideal.defs (F := F) = Cert.Kernel5.defs (F := F) :=
  congrArg (Pipeline.defs (Cert.Kernel5.pcfgs (F := F))) bodies5_eq

/-- The combine kernel at its own floats, from the run proved for any floats. -/
theorem kernel5_run (m : (ℓ : Loc Cert.Kernel5Ideal.nD Cert.Kernel5Ideal.τ Cert.Kernel5Ideal.sig) → Buf (Elt Bits) ℓ)
    (ρ : Dev Cert.Kernel5.nD → PrngReg) (hN : ∀ c, Cert.Combine.Names (Cert.Combine.firsts m c) (Cert.Combine.table m c)) :
    θ_run (Cert.Kernel5.defs (F := Bits)) (onTc (τ := Cert.Kernel5.τ) (Cert.Kernel5.main (F := Bits))) ⟨m, fun _ => 0, ρ⟩ (fun r =>
      (∀ c : Dev Cert.Kernel5.nD,
        r.2.mem ((c.tc : Thread Cert.Kernel5.nD Cert.Kernel5.τ).loc Cert.Kernel5.main_arg0) = m ((c.tc : Thread Cert.Kernel5.nD Cert.Kernel5.τ).loc Cert.Kernel5.main_arg0)
        ∧ r.2.mem ((c.tc : Thread Cert.Kernel5.nD Cert.Kernel5.τ).loc Cert.Kernel5.main_arg1) = m ((c.tc : Thread Cert.Kernel5.nD Cert.Kernel5.τ).loc Cert.Kernel5.main_arg1)
        ∧ r.2.mem ((c.tc : Thread Cert.Kernel5.nD Cert.Kernel5.τ).loc Cert.Kernel5.main_arg2) = m ((c.tc : Thread Cert.Kernel5.nD Cert.Kernel5.τ).loc Cert.Kernel5.main_arg2)
        ∧ r.2.mem ((c.tc : Thread Cert.Kernel5.nD Cert.Kernel5.τ).loc Cert.Kernel5.main_arg3) = m ((c.tc : Thread Cert.Kernel5.nD Cert.Kernel5.τ).loc Cert.Kernel5.main_arg3)
        ∧ r.2.mem ((c.tc : Thread Cert.Kernel5.nD Cert.Kernel5.τ).loc Cert.Kernel5.main_arg4) = m ((c.tc : Thread Cert.Kernel5.nD Cert.Kernel5.τ).loc Cert.Kernel5.main_arg4)
        ∧ r.2.mem ((c.tc : Thread Cert.Kernel5.nD Cert.Kernel5.τ).loc Cert.Kernel5.main_arg5) = m ((c.tc : Thread Cert.Kernel5.nD Cert.Kernel5.τ).loc Cert.Kernel5.main_arg5)
        ∧ r.2.mem ((c.tc : Thread Cert.Kernel5.nD Cert.Kernel5.τ).loc Cert.Kernel5.main_arg6) = m ((c.tc : Thread Cert.Kernel5.nD Cert.Kernel5.τ).loc Cert.Kernel5.main_arg6)
        ∧ r.2.mem ((c.tc : Thread Cert.Kernel5.nD Cert.Kernel5.τ).loc Cert.Kernel5.main_v2) = Cert.Combine.final m c)
      ∧ r.2.sem = fun _ => 0) := by
  rw [← defs5_eq]
  exact Cert.Combine.run_main (F := Bits) m ρ hN

theorem frame_kernel5 : Cert.quiescent_Kernel5 := fun m ρ hp =>
  (θ_run (Cert.Kernel5.defs (F := Bits)) _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (kernel5_run m ρ fun c => Cert.Combine.names_of (F := Bits) _ _ _ _ _ _ _ (hp c))

theorem frame_kernel5Ideal : Cert.quiescent_Kernel5Ideal := fun m ρ hp =>
  (θ_run (Cert.Kernel5Ideal.defs (F := Ideal)) _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Cert.Combine.run_main (F := Ideal) m ρ fun c => Cert.Combine.names_of (F := Ideal) _ _ _ _ _ _ _ (hp c))

theorem frame_reference5Ideal : Cert.quiescent_Reference5Ideal := fun m ρ _ =>
  (θ_run (Cert.Reference5Ideal.defs (F := Ideal)) _ _).mono
    (fun r h => ⟨fun c => (h c).2, sem_eq_zero_of_no_sems (by decide) r.2⟩) (Cert.Reference5Ideal.Value.run (F := Ideal) m ρ)

/-- The combination depends on the arrays alone. -/
theorem combine_congr {Y Y' : Cert.Kernel5Ideal.S73728x1024.Idx → EReal} {I I' : Cert.Kernel5Ideal.S32768x4.Idx → BitVec 32}
    {P P' : Cert.Kernel5Ideal.S32.Idx → BitVec 32} {X X' : Cert.Kernel5Ideal.S4x8192x1024.Idx → EReal} {Gt Gt' : Cert.Kernel5Ideal.S4x1x1024.Idx → EReal}
    {Rt Rt' : Cert.Kernel5Ideal.S4x8192x128.Idx → EReal} {G G' : Cert.Kernel5Ideal.S1024.Idx → EReal}
    (e0 : Y = Y') (e1 : I = I') (e2 : P = P') (e3 : X = X') (e4 : Gt = Gt') (e5 : Rt = Rt') (e6 : G = G') (b : Fin 4) (s : Fin 8192) (j : Fin 1024) :
    Cert.Combine.outE Y I P X Gt Rt G b s j = Cert.Combine.outE Y' I' P' X' Gt' Rt' G' b s j := by
  subst e0 e1 e2 e3 e4 e5 e6; rfl

/-- Over the extended reals the combine kernel and its reference end with the same output of the layer. -/
theorem value5_ideal : Cert.algebraic_Kernel5Ideal_Reference5Ideal := fun m ρ m' ρ' hp hm => by
  have hN : ∀ c, Cert.Combine.Names (Cert.Combine.firsts m c) (Cert.Combine.table m c) := fun c =>
    Cert.Combine.names_of (F := Ideal) _ _ _ _ _ _ _ (hp c)
  have hs := fun c => Cert.Combine.slot_at (F := Ideal) _ _ _ _ _ _ _ (hp c)
  refine ⟨fun c => Cert.Combine.final m c, ?_, ?_⟩
  · exact (θ_run (Cert.Kernel5Ideal.defs (F := Ideal)) _ _).mono
      (fun _ h c => ⟨(h.1 c).2.2.2.2.2.2.2, (h.1 c).1, (h.1 c).2.1, (h.1 c).2.2.1, (h.1 c).2.2.2.1, (h.1 c).2.2.2.2.1, (h.1 c).2.2.2.2.2.1, (h.1 c).2.2.2.2.2.2.1⟩)
      (Cert.Combine.run_main (F := Ideal) m ρ hN)
  · refine (θ_run (Cert.Reference5Ideal.defs (F := Ideal)) _ _).mono (fun _ h c => ?_)
      (Cert.Combine.Ref.run m' ρ' (fun c n j => by rw [(hm c).2.1]; exact (hs c n j).1)
        (fun c n j => by rw [(hm c).2.1, (hm c).2.2.1]; exact (hs c n j).2))
    obtain ⟨hv, ha⟩ := h c
    obtain ⟨e0, e1, e2, e3, e4, e5, e6⟩ := hm c
    refine ⟨?_, ha⟩
    funext i
    obtain ⟨b, s, j, rfl⟩ : ∃ (b : Fin 4) (s : Fin 8192) (j : Fin 1024), i = ix3 b s j := ⟨i 0, i 1, i 2, by
      funext a; match a with | ⟨0, _⟩ => rfl | ⟨1, _⟩ => rfl | ⟨2, _⟩ => rfl⟩
    have hc : c = 0 := Subsingleton.elim (α := Fin 1) _ _
    subst hc
    exact (hv b s j).trans ((combine_congr e0 e1 e2 e3 e4 e5 e6 b s j).trans (Cert.Combine.final_at m b s j).symm)

/-! ## The sample's combination -/

/-- The two prints of the sample's combine kernel have the same bodies. -/
theorem bodies6_eq {F : FTy → Type} [FloatOps F] : Cert.Kernel6Ideal.defs₀ (F := F) = Cert.Kernel6.defs₀ (F := F) := by
  unfold Cert.Kernel6.defs₀ Cert.Kernel6Ideal.defs₀
  refine congrArg Defs.onTc (funext fun l => ?_)
  match l with
  | 0 => rfl
theorem defs6_eq {F : FTy → Type} [FloatOps F] : Cert.Kernel6Ideal.defs (F := F) = Cert.Kernel6.defs (F := F) :=
  congrArg (Pipeline.defs (Cert.Kernel6.pcfgs (F := F))) bodies6_eq

/-- The sample's combine kernel at its own floats, from the run proved for any floats. -/
theorem kernel6_run (m : (ℓ : Loc Cert.Kernel6Ideal.nD Cert.Kernel6Ideal.τ Cert.Kernel6Ideal.sig) → Buf (Elt Bits) ℓ)
    (ρ : Dev Cert.Kernel6.nD → PrngReg) (hN : ∀ c, Cert.SampleCombine.Names (Cert.SampleCombine.firsts m c) (Cert.SampleCombine.table m c)) :
    θ_run (Cert.Kernel6.defs (F := Bits)) (onTc (τ := Cert.Kernel6.τ) (Cert.Kernel6.main (F := Bits))) ⟨m, fun _ => 0, ρ⟩ (fun r =>
      (∀ c : Dev Cert.Kernel6.nD,
        r.2.mem ((c.tc : Thread Cert.Kernel6.nD Cert.Kernel6.τ).loc Cert.Kernel6.main_arg0) = m ((c.tc : Thread Cert.Kernel6.nD Cert.Kernel6.τ).loc Cert.Kernel6.main_arg0)
        ∧ r.2.mem ((c.tc : Thread Cert.Kernel6.nD Cert.Kernel6.τ).loc Cert.Kernel6.main_arg1) = m ((c.tc : Thread Cert.Kernel6.nD Cert.Kernel6.τ).loc Cert.Kernel6.main_arg1)
        ∧ r.2.mem ((c.tc : Thread Cert.Kernel6.nD Cert.Kernel6.τ).loc Cert.Kernel6.main_arg2) = m ((c.tc : Thread Cert.Kernel6.nD Cert.Kernel6.τ).loc Cert.Kernel6.main_arg2)
        ∧ r.2.mem ((c.tc : Thread Cert.Kernel6.nD Cert.Kernel6.τ).loc Cert.Kernel6.main_arg3) = m ((c.tc : Thread Cert.Kernel6.nD Cert.Kernel6.τ).loc Cert.Kernel6.main_arg3)
        ∧ r.2.mem ((c.tc : Thread Cert.Kernel6.nD Cert.Kernel6.τ).loc Cert.Kernel6.main_arg4) = m ((c.tc : Thread Cert.Kernel6.nD Cert.Kernel6.τ).loc Cert.Kernel6.main_arg4)
        ∧ r.2.mem ((c.tc : Thread Cert.Kernel6.nD Cert.Kernel6.τ).loc Cert.Kernel6.main_arg5) = m ((c.tc : Thread Cert.Kernel6.nD Cert.Kernel6.τ).loc Cert.Kernel6.main_arg5)
        ∧ r.2.mem ((c.tc : Thread Cert.Kernel6.nD Cert.Kernel6.τ).loc Cert.Kernel6.main_arg6) = m ((c.tc : Thread Cert.Kernel6.nD Cert.Kernel6.τ).loc Cert.Kernel6.main_arg6)
        ∧ r.2.mem ((c.tc : Thread Cert.Kernel6.nD Cert.Kernel6.τ).loc Cert.Kernel6.main_v2) = Cert.SampleCombine.final m c)
      ∧ r.2.sem = fun _ => 0) := by
  rw [← defs6_eq]
  exact Cert.SampleCombine.run_main (F := Bits) m ρ hN

theorem frame_kernel6 : Cert.quiescent_Kernel6 := fun m ρ hp =>
  (θ_run (Cert.Kernel6.defs (F := Bits)) _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (kernel6_run m ρ fun c => Cert.SampleCombine.names_of (F := Bits) _ _ _ _ _ _ _ (hp c))

theorem frame_kernel6Ideal : Cert.quiescent_Kernel6Ideal := fun m ρ hp =>
  (θ_run (Cert.Kernel6Ideal.defs (F := Ideal)) _ _).mono
    (fun _ h => ⟨fun c => ⟨(h.1 c).1, (h.1 c).2.1, (h.1 c).2.2.1, (h.1 c).2.2.2.1, (h.1 c).2.2.2.2.1, (h.1 c).2.2.2.2.2.1, (h.1 c).2.2.2.2.2.2.1⟩, h.2⟩)
    (Cert.SampleCombine.run_main (F := Ideal) m ρ fun c => Cert.SampleCombine.names_of (F := Ideal) _ _ _ _ _ _ _ (hp c))

theorem frame_reference6Ideal : Cert.quiescent_Reference6Ideal := fun m ρ _ =>
  (θ_run (Cert.Reference6Ideal.defs (F := Ideal)) _ _).mono
    (fun r h => ⟨fun c => (h c).2, sem_eq_zero_of_no_sems (by decide) r.2⟩) (Cert.Reference6Ideal.Value.run (F := Ideal) m ρ)

/-- The combination depends on the arrays alone. -/
theorem sample_congr {Y Y' : Cert.Kernel6Ideal.S8448x1024.Idx → EReal} {I I' : Cert.Kernel6Ideal.S128x4.Idx → BitVec 32}
    {P P' : Cert.Kernel6Ideal.S32.Idx → BitVec 32} {X X' : Cert.Kernel6Ideal.S1x128x1024.Idx → EReal} {Gt Gt' : Cert.Kernel6Ideal.S1x128x1024.Idx → EReal}
    {Rt Rt' : Cert.Kernel6Ideal.S1x128x128.Idx → EReal} {G G' : Cert.Kernel6Ideal.S1024.Idx → EReal}
    (e0 : Y = Y') (e1 : I = I') (e2 : P = P') (e3 : X = X') (e4 : Gt = Gt') (e5 : Rt = Rt') (e6 : G = G') (b : Fin 1) (s : Fin 128) (j : Fin 1024) :
    Cert.SampleCombine.outE Y I P X Gt Rt G b s j = Cert.SampleCombine.outE Y' I' P' X' Gt' Rt' G' b s j := by
  subst e0 e1 e2 e3 e4 e5 e6; rfl

/-- Over the extended reals the sample's combine kernel and its reference end with the same output of the layer. -/
theorem value6_ideal : Cert.algebraic_Kernel6Ideal_Reference6Ideal := fun m ρ m' ρ' hp hm => by
  have hN : ∀ c, Cert.SampleCombine.Names (Cert.SampleCombine.firsts m c) (Cert.SampleCombine.table m c) := fun c =>
    Cert.SampleCombine.names_of (F := Ideal) _ _ _ _ _ _ _ (hp c)
  have hs := fun c => Cert.SampleCombine.slot_at (F := Ideal) _ _ _ _ _ _ _ (hp c)
  refine ⟨fun c => Cert.SampleCombine.final m c, ?_, ?_⟩
  · exact (θ_run (Cert.Kernel6Ideal.defs (F := Ideal)) _ _).mono
      (fun _ h c => ⟨(h.1 c).2.2.2.2.2.2.2, (h.1 c).1, (h.1 c).2.1, (h.1 c).2.2.1, (h.1 c).2.2.2.1, (h.1 c).2.2.2.2.1, (h.1 c).2.2.2.2.2.1, (h.1 c).2.2.2.2.2.2.1⟩)
      (Cert.SampleCombine.run_main (F := Ideal) m ρ hN)
  · refine (θ_run (Cert.Reference6Ideal.defs (F := Ideal)) _ _).mono (fun _ h c => ?_)
      (Cert.SampleCombine.Ref.run m' ρ' (fun c n j => by rw [(hm c).2.1]; exact (hs c n j).1)
        (fun c n j => by rw [(hm c).2.1, (hm c).2.2.1]; exact (hs c n j).2))
    obtain ⟨hv, ha⟩ := h c
    obtain ⟨e0, e1, e2, e3, e4, e5, e6⟩ := hm c
    refine ⟨?_, ha⟩
    funext i
    obtain ⟨b, s, j, rfl⟩ : ∃ (b : Fin 1) (s : Fin 128) (j : Fin 1024), i = ix3 b s j := ⟨i 0, i 1, i 2, by
      funext a; match a with | ⟨0, _⟩ => rfl | ⟨1, _⟩ => rfl | ⟨2, _⟩ => rfl⟩
    have hc : c = 0 := Subsingleton.elim (α := Fin 1) _ _
    subst hc
    exact (hv b s j).trans ((sample_congr e0 e1 e2 e3 e4 e5 e6 b s j).trans (Cert.SampleCombine.final_at m b s j).symm)

/-- The output projection's kernel at its own floats ends, its arguments unchanged. -/
theorem frame_kernel7 : Cert.quiescent_Kernel7 := fun m ρ _ => kernel7_run m ρ

/-- Its reference likewise. -/
theorem frame_reference7Ideal : Cert.quiescent_Reference7Ideal := fun m ρ _ =>
  (θ_run (Cert.Reference7Ideal.defs (F := Ideal)) _ _).mono
    (fun r h => ⟨fun c => (h c).2.2, sem_eq_zero_of_no_sems (by decide) r.2⟩) (Cert.Mix.Ref.run m ρ)

/-- Over the extended reals the output projection's kernel and its reference end with the same residual stream and the same norm
    of it. -/
theorem value7_ideal : Cert.algebraic_Kernel7Ideal_Reference7Ideal := fun m ρ m' ρ' _ hm => by
  refine ⟨fun c => Cert.Mix.x1P (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) (m (c.tc.loc Cert.Kernel7Ideal.main_arg7)) (m (c.tc.loc Cert.Kernel7Ideal.main_arg8)) (m (c.tc.loc Cert.Kernel7Ideal.main_arg11)),
    fun c => Cert.Mix.h2P (m (c.tc.loc Cert.Kernel7Ideal.main_arg0)) (m (c.tc.loc Cert.Kernel7Ideal.main_arg1)) (m (c.tc.loc Cert.Kernel7Ideal.main_arg2)) (m (c.tc.loc Cert.Kernel7Ideal.main_arg3)) (m (c.tc.loc Cert.Kernel7Ideal.main_arg4)) (m (c.tc.loc Cert.Kernel7Ideal.main_arg5)) (m (c.tc.loc Cert.Kernel7Ideal.main_arg6)) (m (c.tc.loc Cert.Kernel7Ideal.main_arg7)) (m (c.tc.loc Cert.Kernel7Ideal.main_arg8)) (m (c.tc.loc Cert.Kernel7Ideal.main_arg9)) (m (c.tc.loc Cert.Kernel7Ideal.main_arg10)) (m (c.tc.loc Cert.Kernel7Ideal.main_arg11)) (m (c.tc.loc Cert.Kernel7Ideal.main_arg12)), Cert.Mix.run m ρ, ?_⟩
  refine (θ_run (Cert.Reference7Ideal.defs (F := Ideal)) _ _).mono (fun _ h c => ?_) (Cert.Mix.Ref.run m' ρ')
  obtain ⟨e0, e1, e2, e3, e4, e5, e6, e7, e8, e9, e10, e11, e12, e13, e14⟩ := hm c
  obtain ⟨h0, h1, ha⟩ := h c
  rw [e0, e1, e2, e3, e4, e5, e6, e7, e8, e11] at h0
  rw [e0, e1, e2, e3, e4, e5, e6, e7, e8, e9, e10, e11, e12] at h1
  exact ⟨h0, h1, ha⟩

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_slots_distinct.Gen.facts, Cert.Pre_experts_named.Gen.facts, Cert.Pre_rows_named.Gen.facts, Cert.Pre_sample_rows_named.Gen.facts,
    frame_kernel, frame_kernelIdeal, frame_referenceIdeal, fun m ρ _ => frame_referenceIdeal m ρ trivial, frame_reference,
    fun m ρ _ => Cert.Kernel2.Gen.frame m ρ, fun m ρ _ => Cert.Kernel2Ideal.Gen.frame m ρ, frame_reference2Ideal,
    fun m ρ _ => Cert.Kernel3.Gen.frame m ρ, fun m ρ _ => Cert.Kernel3Ideal.Gen.frame m ρ, frame_reference3Ideal,
    frame_kernel4, frame_kernel4Ideal, frame_reference4Ideal, fun m ρ _ => frame_reference4Ideal m ρ trivial,
    frame_kernel5, frame_kernel5Ideal, frame_reference5Ideal, fun m ρ _ => frame_reference5Ideal m ρ trivial,
    frame_kernel6, frame_kernel6Ideal, frame_reference6Ideal, fun m ρ _ => frame_reference6Ideal m ρ trivial,
    frame_kernel7, fun m ρ _ => Cert.Kernel7Ideal.Gen.frame m ρ, frame_reference7Ideal,
    trivial, value_ideal, value_bits, trivial, value2_ideal, trivial, value3_ideal, trivial, value4_ideal, trivial, value5_ideal, trivial, value6_ideal, trivial, value7_ideal⟩

end Cert.Proof
